-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_ProjThree (m : (ℓ : Loc Cert.ProjThree.nD Cert.ProjThree.τ Cert.ProjThree.sig) → Buf (Elt Bits) ℓ) : Prop :=
  True

def Pre_ProjThreeIdeal (m : (ℓ : Loc Cert.ProjThreeIdeal.nD Cert.ProjThreeIdeal.τ Cert.ProjThreeIdeal.sig) → Buf (Elt Ideal) ℓ) : Prop :=
  True

def Pre_ProjThreeReferenceIdeal (m : (ℓ : Loc Cert.ProjThreeReferenceIdeal.nD Cert.ProjThreeReferenceIdeal.τ Cert.ProjThreeReferenceIdeal.sig) → Buf (Elt Ideal) ℓ) : Prop :=
  True

def Pre_ProjTwo (m : (ℓ : Loc Cert.ProjTwo.nD Cert.ProjTwo.τ Cert.ProjTwo.sig) → Buf (Elt Bits) ℓ) : Prop :=
  True

def Pre_ProjTwoIdeal (m : (ℓ : Loc Cert.ProjTwoIdeal.nD Cert.ProjTwoIdeal.τ Cert.ProjTwoIdeal.sig) → Buf (Elt Ideal) ℓ) : Prop :=
  True

def Pre_ProjTwoReferenceIdeal (m : (ℓ : Loc Cert.ProjTwoReferenceIdeal.nD Cert.ProjTwoReferenceIdeal.τ Cert.ProjTwoReferenceIdeal.sig) → Buf (Elt Ideal) ℓ) : Prop :=
  True

def Pre_ProjOne (m : (ℓ : Loc Cert.ProjOne.nD Cert.ProjOne.τ Cert.ProjOne.sig) → Buf (Elt Bits) ℓ) : Prop :=
  True

def Pre_ProjOneIdeal (m : (ℓ : Loc Cert.ProjOneIdeal.nD Cert.ProjOneIdeal.τ Cert.ProjOneIdeal.sig) → Buf (Elt Ideal) ℓ) : Prop :=
  True

def Pre_ProjOneReferenceIdeal (m : (ℓ : Loc Cert.ProjOneReferenceIdeal.nD Cert.ProjOneReferenceIdeal.τ Cert.ProjOneReferenceIdeal.sig) → Buf (Elt Ideal) ℓ) : Prop :=
  True

def Pre_ProjPair (m : (ℓ : Loc Cert.ProjPair.nD Cert.ProjPair.τ Cert.ProjPair.sig) → Buf (Elt Bits) ℓ) : Prop :=
  True

def Pre_ProjPairIdeal (m : (ℓ : Loc Cert.ProjPairIdeal.nD Cert.ProjPairIdeal.τ Cert.ProjPairIdeal.sig) → Buf (Elt Ideal) ℓ) : Prop :=
  True

def Pre_ProjPairReferenceIdeal (m : (ℓ : Loc Cert.ProjPairReferenceIdeal.nD Cert.ProjPairReferenceIdeal.τ Cert.ProjPairReferenceIdeal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_ProjThree [hProjThree : Cert.ProjThree.Facts] : Prop :=
  ∀ (m : (ℓ : Loc Cert.ProjThree.nD Cert.ProjThree.τ Cert.ProjThree.sig) → Buf (Elt Bits) ℓ) (g : Dev Cert.ProjThree.nD → PrngReg), Pre_ProjThree m →
    θ_run (Cert.ProjThree.defs (F := Bits)) (onTc (τ := Cert.ProjThree.τ) (Cert.ProjThree.main (F := Bits))) ⟨m, fun _ => 0, g⟩ (fun r => (∀ c : Dev Cert.ProjThree.nD,
      r.2.mem ((c.tc : Thread Cert.ProjThree.nD Cert.ProjThree.τ).loc Cert.ProjThree.main_arg0) = m ((c.tc : Thread Cert.ProjThree.nD Cert.ProjThree.τ).loc Cert.ProjThree.main_arg0)
      ∧ r.2.mem ((c.tc : Thread Cert.ProjThree.nD Cert.ProjThree.τ).loc Cert.ProjThree.main_arg1) = m ((c.tc : Thread Cert.ProjThree.nD Cert.ProjThree.τ).loc Cert.ProjThree.main_arg1))
      ∧ r.2.sem = fun _ => 0)

def quiescent_ProjThreeIdeal [hProjThreeIdeal : Cert.ProjThreeIdeal.Facts] : Prop :=
  ∀ (m : (ℓ : Loc Cert.ProjThreeIdeal.nD Cert.ProjThreeIdeal.τ Cert.ProjThreeIdeal.sig) → Buf (Elt Ideal) ℓ) (g : Dev Cert.ProjThreeIdeal.nD → PrngReg), Pre_ProjThreeIdeal m →
    θ_run (Cert.ProjThreeIdeal.defs (F := Ideal)) (onTc (τ := Cert.ProjThreeIdeal.τ) (Cert.ProjThreeIdeal.main (F := Ideal))) ⟨m, fun _ => 0, g⟩ (fun r => (∀ c : Dev Cert.ProjThreeIdeal.nD,
      r.2.mem ((c.tc : Thread Cert.ProjThreeIdeal.nD Cert.ProjThreeIdeal.τ).loc Cert.ProjThreeIdeal.main_arg0) = m ((c.tc : Thread Cert.ProjThreeIdeal.nD Cert.ProjThreeIdeal.τ).loc Cert.ProjThreeIdeal.main_arg0)
      ∧ r.2.mem ((c.tc : Thread Cert.ProjThreeIdeal.nD Cert.ProjThreeIdeal.τ).loc Cert.ProjThreeIdeal.main_arg1) = m ((c.tc : Thread Cert.ProjThreeIdeal.nD Cert.ProjThreeIdeal.τ).loc Cert.ProjThreeIdeal.main_arg1))
      ∧ r.2.sem = fun _ => 0)

def quiescent_ProjThreeReferenceIdeal [hProjThreeReferenceIdeal : Cert.ProjThreeReferenceIdeal.Facts] : Prop :=
  ∀ (m : (ℓ : Loc Cert.ProjThreeReferenceIdeal.nD Cert.ProjThreeReferenceIdeal.τ Cert.ProjThreeReferenceIdeal.sig) → Buf (Elt Ideal) ℓ) (g : Dev Cert.ProjThreeReferenceIdeal.nD → PrngReg), Pre_ProjThreeReferenceIdeal m →
    θ_run (Cert.ProjThreeReferenceIdeal.defs (F := Ideal)) (onTc (τ := Cert.ProjThreeReferenceIdeal.τ) (Cert.ProjThreeReferenceIdeal.main (F := Ideal))) ⟨m, fun _ => 0, g⟩ (fun r => (∀ c : Dev Cert.ProjThreeReferenceIdeal.nD,
      r.2.mem ((c.tc : Thread Cert.ProjThreeReferenceIdeal.nD Cert.ProjThreeReferenceIdeal.τ).loc Cert.ProjThreeReferenceIdeal.main_arg0) = m ((c.tc : Thread Cert.ProjThreeReferenceIdeal.nD Cert.ProjThreeReferenceIdeal.τ).loc Cert.ProjThreeReferenceIdeal.main_arg0)
      ∧ r.2.mem ((c.tc : Thread Cert.ProjThreeReferenceIdeal.nD Cert.ProjThreeReferenceIdeal.τ).loc Cert.ProjThreeReferenceIdeal.main_arg1) = m ((c.tc : Thread Cert.ProjThreeReferenceIdeal.nD Cert.ProjThreeReferenceIdeal.τ).loc Cert.ProjThreeReferenceIdeal.main_arg1))
      ∧ r.2.sem = fun _ => 0)

def quiescent_ProjTwo [hProjTwo : Cert.ProjTwo.Facts] : Prop :=
  ∀ (m : (ℓ : Loc Cert.ProjTwo.nD Cert.ProjTwo.τ Cert.ProjTwo.sig) → Buf (Elt Bits) ℓ) (g : Dev Cert.ProjTwo.nD → PrngReg), Pre_ProjTwo m →
    θ_run (Cert.ProjTwo.defs (F := Bits)) (onTc (τ := Cert.ProjTwo.τ) (Cert.ProjTwo.main (F := Bits))) ⟨m, fun _ => 0, g⟩ (fun r => (∀ c : Dev Cert.ProjTwo.nD,
      r.2.mem ((c.tc : Thread Cert.ProjTwo.nD Cert.ProjTwo.τ).loc Cert.ProjTwo.main_arg0) = m ((c.tc : Thread Cert.ProjTwo.nD Cert.ProjTwo.τ).loc Cert.ProjTwo.main_arg0)
      ∧ r.2.mem ((c.tc : Thread Cert.ProjTwo.nD Cert.ProjTwo.τ).loc Cert.ProjTwo.main_arg1) = m ((c.tc : Thread Cert.ProjTwo.nD Cert.ProjTwo.τ).loc Cert.ProjTwo.main_arg1))
      ∧ r.2.sem = fun _ => 0)

def quiescent_ProjTwoIdeal [hProjTwoIdeal : Cert.ProjTwoIdeal.Facts] : Prop :=
  ∀ (m : (ℓ : Loc Cert.ProjTwoIdeal.nD Cert.ProjTwoIdeal.τ Cert.ProjTwoIdeal.sig) → Buf (Elt Ideal) ℓ) (g : Dev Cert.ProjTwoIdeal.nD → PrngReg), Pre_ProjTwoIdeal m →
    θ_run (Cert.ProjTwoIdeal.defs (F := Ideal)) (onTc (τ := Cert.ProjTwoIdeal.τ) (Cert.ProjTwoIdeal.main (F := Ideal))) ⟨m, fun _ => 0, g⟩ (fun r => (∀ c : Dev Cert.ProjTwoIdeal.nD,
      r.2.mem ((c.tc : Thread Cert.ProjTwoIdeal.nD Cert.ProjTwoIdeal.τ).loc Cert.ProjTwoIdeal.main_arg0) = m ((c.tc : Thread Cert.ProjTwoIdeal.nD Cert.ProjTwoIdeal.τ).loc Cert.ProjTwoIdeal.main_arg0)
      ∧ r.2.mem ((c.tc : Thread Cert.ProjTwoIdeal.nD Cert.ProjTwoIdeal.τ).loc Cert.ProjTwoIdeal.main_arg1) = m ((c.tc : Thread Cert.ProjTwoIdeal.nD Cert.ProjTwoIdeal.τ).loc Cert.ProjTwoIdeal.main_arg1))
      ∧ r.2.sem = fun _ => 0)

def quiescent_ProjTwoReferenceIdeal [hProjTwoReferenceIdeal : Cert.ProjTwoReferenceIdeal.Facts] : Prop :=
  ∀ (m : (ℓ : Loc Cert.ProjTwoReferenceIdeal.nD Cert.ProjTwoReferenceIdeal.τ Cert.ProjTwoReferenceIdeal.sig) → Buf (Elt Ideal) ℓ) (g : Dev Cert.ProjTwoReferenceIdeal.nD → PrngReg), Pre_ProjTwoReferenceIdeal m →
    θ_run (Cert.ProjTwoReferenceIdeal.defs (F := Ideal)) (onTc (τ := Cert.ProjTwoReferenceIdeal.τ) (Cert.ProjTwoReferenceIdeal.main (F := Ideal))) ⟨m, fun _ => 0, g⟩ (fun r => (∀ c : Dev Cert.ProjTwoReferenceIdeal.nD,
      r.2.mem ((c.tc : Thread Cert.ProjTwoReferenceIdeal.nD Cert.ProjTwoReferenceIdeal.τ).loc Cert.ProjTwoReferenceIdeal.main_arg0) = m ((c.tc : Thread Cert.ProjTwoReferenceIdeal.nD Cert.ProjTwoReferenceIdeal.τ).loc Cert.ProjTwoReferenceIdeal.main_arg0)
      ∧ r.2.mem ((c.tc : Thread Cert.ProjTwoReferenceIdeal.nD Cert.ProjTwoReferenceIdeal.τ).loc Cert.ProjTwoReferenceIdeal.main_arg1) = m ((c.tc : Thread Cert.ProjTwoReferenceIdeal.nD Cert.ProjTwoReferenceIdeal.τ).loc Cert.ProjTwoReferenceIdeal.main_arg1))
      ∧ r.2.sem = fun _ => 0)

def quiescent_ProjOne [hProjOne : Cert.ProjOne.Facts] : Prop :=
  ∀ (m : (ℓ : Loc Cert.ProjOne.nD Cert.ProjOne.τ Cert.ProjOne.sig) → Buf (Elt Bits) ℓ) (g : Dev Cert.ProjOne.nD → PrngReg), Pre_ProjOne m →
    θ_run (Cert.ProjOne.defs (F := Bits)) (onTc (τ := Cert.ProjOne.τ) (Cert.ProjOne.main (F := Bits))) ⟨m, fun _ => 0, g⟩ (fun r => (∀ c : Dev Cert.ProjOne.nD,
      r.2.mem ((c.tc : Thread Cert.ProjOne.nD Cert.ProjOne.τ).loc Cert.ProjOne.main_arg0) = m ((c.tc : Thread Cert.ProjOne.nD Cert.ProjOne.τ).loc Cert.ProjOne.main_arg0)
      ∧ r.2.mem ((c.tc : Thread Cert.ProjOne.nD Cert.ProjOne.τ).loc Cert.ProjOne.main_arg1) = m ((c.tc : Thread Cert.ProjOne.nD Cert.ProjOne.τ).loc Cert.ProjOne.main_arg1))
      ∧ r.2.sem = fun _ => 0)

def quiescent_ProjOneIdeal [hProjOneIdeal : Cert.ProjOneIdeal.Facts] : Prop :=
  ∀ (m : (ℓ : Loc Cert.ProjOneIdeal.nD Cert.ProjOneIdeal.τ Cert.ProjOneIdeal.sig) → Buf (Elt Ideal) ℓ) (g : Dev Cert.ProjOneIdeal.nD → PrngReg), Pre_ProjOneIdeal m →
    θ_run (Cert.ProjOneIdeal.defs (F := Ideal)) (onTc (τ := Cert.ProjOneIdeal.τ) (Cert.ProjOneIdeal.main (F := Ideal))) ⟨m, fun _ => 0, g⟩ (fun r => (∀ c : Dev Cert.ProjOneIdeal.nD,
      r.2.mem ((c.tc : Thread Cert.ProjOneIdeal.nD Cert.ProjOneIdeal.τ).loc Cert.ProjOneIdeal.main_arg0) = m ((c.tc : Thread Cert.ProjOneIdeal.nD Cert.ProjOneIdeal.τ).loc Cert.ProjOneIdeal.main_arg0)
      ∧ r.2.mem ((c.tc : Thread Cert.ProjOneIdeal.nD Cert.ProjOneIdeal.τ).loc Cert.ProjOneIdeal.main_arg1) = m ((c.tc : Thread Cert.ProjOneIdeal.nD Cert.ProjOneIdeal.τ).loc Cert.ProjOneIdeal.main_arg1))
      ∧ r.2.sem = fun _ => 0)

def quiescent_ProjOneReferenceIdeal [hProjOneReferenceIdeal : Cert.ProjOneReferenceIdeal.Facts] : Prop :=
  ∀ (m : (ℓ : Loc Cert.ProjOneReferenceIdeal.nD Cert.ProjOneReferenceIdeal.τ Cert.ProjOneReferenceIdeal.sig) → Buf (Elt Ideal) ℓ) (g : Dev Cert.ProjOneReferenceIdeal.nD → PrngReg), Pre_ProjOneReferenceIdeal m →
    θ_run (Cert.ProjOneReferenceIdeal.defs (F := Ideal)) (onTc (τ := Cert.ProjOneReferenceIdeal.τ) (Cert.ProjOneReferenceIdeal.main (F := Ideal))) ⟨m, fun _ => 0, g⟩ (fun r => (∀ c : Dev Cert.ProjOneReferenceIdeal.nD,
      r.2.mem ((c.tc : Thread Cert.ProjOneReferenceIdeal.nD Cert.ProjOneReferenceIdeal.τ).loc Cert.ProjOneReferenceIdeal.main_arg0) = m ((c.tc : Thread Cert.ProjOneReferenceIdeal.nD Cert.ProjOneReferenceIdeal.τ).loc Cert.ProjOneReferenceIdeal.main_arg0)
      ∧ r.2.mem ((c.tc : Thread Cert.ProjOneReferenceIdeal.nD Cert.ProjOneReferenceIdeal.τ).loc Cert.ProjOneReferenceIdeal.main_arg1) = m ((c.tc : Thread Cert.ProjOneReferenceIdeal.nD Cert.ProjOneReferenceIdeal.τ).loc Cert.ProjOneReferenceIdeal.main_arg1))
      ∧ r.2.sem = fun _ => 0)

def quiescent_ProjPair [hProjPair : Cert.ProjPair.Facts] : Prop :=
  ∀ (m : (ℓ : Loc Cert.ProjPair.nD Cert.ProjPair.τ Cert.ProjPair.sig) → Buf (Elt Bits) ℓ) (g : Dev Cert.ProjPair.nD → PrngReg), Pre_ProjPair m →
    θ_run (Cert.ProjPair.defs (F := Bits)) (onTc (τ := Cert.ProjPair.τ) (Cert.ProjPair.main (F := Bits))) ⟨m, fun _ => 0, g⟩ (fun r => (∀ c : Dev Cert.ProjPair.nD,
      r.2.mem ((c.tc : Thread Cert.ProjPair.nD Cert.ProjPair.τ).loc Cert.ProjPair.main_arg0) = m ((c.tc : Thread Cert.ProjPair.nD Cert.ProjPair.τ).loc Cert.ProjPair.main_arg0)
      ∧ r.2.mem ((c.tc : Thread Cert.ProjPair.nD Cert.ProjPair.τ).loc Cert.ProjPair.main_arg1) = m ((c.tc : Thread Cert.ProjPair.nD Cert.ProjPair.τ).loc Cert.ProjPair.main_arg1)
      ∧ r.2.mem ((c.tc : Thread Cert.ProjPair.nD Cert.ProjPair.τ).loc Cert.ProjPair.main_arg2) = m ((c.tc : Thread Cert.ProjPair.nD Cert.ProjPair.τ).loc Cert.ProjPair.main_arg2))
      ∧ r.2.sem = fun _ => 0)

def quiescent_ProjPairIdeal [hProjPairIdeal : Cert.ProjPairIdeal.Facts] : Prop :=
  ∀ (m : (ℓ : Loc Cert.ProjPairIdeal.nD Cert.ProjPairIdeal.τ Cert.ProjPairIdeal.sig) → Buf (Elt Ideal) ℓ) (g : Dev Cert.ProjPairIdeal.nD → PrngReg), Pre_ProjPairIdeal m →
    θ_run (Cert.ProjPairIdeal.defs (F := Ideal)) (onTc (τ := Cert.ProjPairIdeal.τ) (Cert.ProjPairIdeal.main (F := Ideal))) ⟨m, fun _ => 0, g⟩ (fun r => (∀ c : Dev Cert.ProjPairIdeal.nD,
      r.2.mem ((c.tc : Thread Cert.ProjPairIdeal.nD Cert.ProjPairIdeal.τ).loc Cert.ProjPairIdeal.main_arg0) = m ((c.tc : Thread Cert.ProjPairIdeal.nD Cert.ProjPairIdeal.τ).loc Cert.ProjPairIdeal.main_arg0)
      ∧ r.2.mem ((c.tc : Thread Cert.ProjPairIdeal.nD Cert.ProjPairIdeal.τ).loc Cert.ProjPairIdeal.main_arg1) = m ((c.tc : Thread Cert.ProjPairIdeal.nD Cert.ProjPairIdeal.τ).loc Cert.ProjPairIdeal.main_arg1)
      ∧ r.2.mem ((c.tc : Thread Cert.ProjPairIdeal.nD Cert.ProjPairIdeal.τ).loc Cert.ProjPairIdeal.main_arg2) = m ((c.tc : Thread Cert.ProjPairIdeal.nD Cert.ProjPairIdeal.τ).loc Cert.ProjPairIdeal.main_arg2))
      ∧ r.2.sem = fun _ => 0)

def quiescent_ProjPairReferenceIdeal [hProjPairReferenceIdeal : Cert.ProjPairReferenceIdeal.Facts] : Prop :=
  ∀ (m : (ℓ : Loc Cert.ProjPairReferenceIdeal.nD Cert.ProjPairReferenceIdeal.τ Cert.ProjPairReferenceIdeal.sig) → Buf (Elt Ideal) ℓ) (g : Dev Cert.ProjPairReferenceIdeal.nD → PrngReg), Pre_ProjPairReferenceIdeal m →
    θ_run (Cert.ProjPairReferenceIdeal.defs (F := Ideal)) (onTc (τ := Cert.ProjPairReferenceIdeal.τ) (Cert.ProjPairReferenceIdeal.main (F := Ideal))) ⟨m, fun _ => 0, g⟩ (fun r => (∀ c : Dev Cert.ProjPairReferenceIdeal.nD,
      r.2.mem ((c.tc : Thread Cert.ProjPairReferenceIdeal.nD Cert.ProjPairReferenceIdeal.τ).loc Cert.ProjPairReferenceIdeal.main_arg0) = m ((c.tc : Thread Cert.ProjPairReferenceIdeal.nD Cert.ProjPairReferenceIdeal.τ).loc Cert.ProjPairReferenceIdeal.main_arg0)
      ∧ r.2.mem ((c.tc : Thread Cert.ProjPairReferenceIdeal.nD Cert.ProjPairReferenceIdeal.τ).loc Cert.ProjPairReferenceIdeal.main_arg1) = m ((c.tc : Thread Cert.ProjPairReferenceIdeal.nD Cert.ProjPairReferenceIdeal.τ).loc Cert.ProjPairReferenceIdeal.main_arg1)
      ∧ r.2.mem ((c.tc : Thread Cert.ProjPairReferenceIdeal.nD Cert.ProjPairReferenceIdeal.τ).loc Cert.ProjPairReferenceIdeal.main_arg2) = m ((c.tc : Thread Cert.ProjPairReferenceIdeal.nD Cert.ProjPairReferenceIdeal.τ).loc Cert.ProjPairReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v5) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_ProjThree_ProjThreeIdeal : Prop :=
  True

def algebraic_ProjThreeIdeal_ProjThreeReferenceIdeal [hProjThreeIdeal : Cert.ProjThreeIdeal.Facts] [hProjThreeReferenceIdeal : Cert.ProjThreeReferenceIdeal.Facts] : Prop :=
  ∀ (m : (ℓ : Loc Cert.ProjThreeIdeal.nD Cert.ProjThreeIdeal.τ Cert.ProjThreeIdeal.sig) → Buf (Elt Ideal) ℓ) (g : Dev Cert.ProjThreeIdeal.nD → PrngReg)
    (m' : (ℓ : Loc Cert.ProjThreeReferenceIdeal.nD Cert.ProjThreeReferenceIdeal.τ Cert.ProjThreeReferenceIdeal.sig) → Buf (Elt Ideal) ℓ) (g' : Dev Cert.ProjThreeReferenceIdeal.nD → PrngReg), Pre_ProjThreeIdeal m →
    (∀ c : Dev Cert.ProjThreeIdeal.nD,
      m' ((c.tc : Thread Cert.ProjThreeReferenceIdeal.nD Cert.ProjThreeReferenceIdeal.τ).loc Cert.ProjThreeReferenceIdeal.main_arg0) = m ((c.tc : Thread Cert.ProjThreeIdeal.nD Cert.ProjThreeIdeal.τ).loc Cert.ProjThreeIdeal.main_arg0)
      ∧ m' ((c.tc : Thread Cert.ProjThreeReferenceIdeal.nD Cert.ProjThreeReferenceIdeal.τ).loc Cert.ProjThreeReferenceIdeal.main_arg1) = m ((c.tc : Thread Cert.ProjThreeIdeal.nD Cert.ProjThreeIdeal.τ).loc Cert.ProjThreeIdeal.main_arg1)) →
    ∃ (v0 : (c : Dev Cert.ProjThreeIdeal.nD) → Buf (Elt Ideal) ((c.tc : Thread Cert.ProjThreeIdeal.nD Cert.ProjThreeIdeal.τ).loc Cert.ProjThreeIdeal.main_v1)),
      θ_run (Cert.ProjThreeIdeal.defs (F := Ideal)) (onTc (τ := Cert.ProjThreeIdeal.τ) (Cert.ProjThreeIdeal.main (F := Ideal))) ⟨m, fun _ => 0, g⟩ (fun r => ∀ c : Dev Cert.ProjThreeIdeal.nD,
          r.2.mem ((c.tc : Thread Cert.ProjThreeIdeal.nD Cert.ProjThreeIdeal.τ).loc Cert.ProjThreeIdeal.main_v1) = v0 c
          ∧ r.2.mem ((c.tc : Thread Cert.ProjThreeIdeal.nD Cert.ProjThreeIdeal.τ).loc Cert.ProjThreeIdeal.main_arg0) = m ((c.tc : Thread Cert.ProjThreeIdeal.nD Cert.ProjThreeIdeal.τ).loc Cert.ProjThreeIdeal.main_arg0)
          ∧ r.2.mem ((c.tc : Thread Cert.ProjThreeIdeal.nD Cert.ProjThreeIdeal.τ).loc Cert.ProjThreeIdeal.main_arg1) = m ((c.tc : Thread Cert.ProjThreeIdeal.nD Cert.ProjThreeIdeal.τ).loc Cert.ProjThreeIdeal.main_arg1))
      ∧ θ_run (Cert.ProjThreeReferenceIdeal.defs (F := Ideal)) (onTc (τ := Cert.ProjThreeReferenceIdeal.τ) (Cert.ProjThreeReferenceIdeal.main (F := Ideal))) ⟨m', fun _ => 0, g'⟩ (fun r => ∀ c : Dev Cert.ProjThreeReferenceIdeal.nD,
          r.2.mem ((c.tc : Thread Cert.ProjThreeReferenceIdeal.nD Cert.ProjThreeReferenceIdeal.τ).loc Cert.ProjThreeReferenceIdeal.main_v1) = v0 c
          ∧ r.2.mem ((c.tc : Thread Cert.ProjThreeReferenceIdeal.nD Cert.ProjThreeReferenceIdeal.τ).loc Cert.ProjThreeReferenceIdeal.main_arg0) = m' ((c.tc : Thread Cert.ProjThreeReferenceIdeal.nD Cert.ProjThreeReferenceIdeal.τ).loc Cert.ProjThreeReferenceIdeal.main_arg0)
          ∧ r.2.mem ((c.tc : Thread Cert.ProjThreeReferenceIdeal.nD Cert.ProjThreeReferenceIdeal.τ).loc Cert.ProjThreeReferenceIdeal.main_arg1) = m' ((c.tc : Thread Cert.ProjThreeReferenceIdeal.nD Cert.ProjThreeReferenceIdeal.τ).loc Cert.ProjThreeReferenceIdeal.main_arg1))

def preserves_ProjTwo_ProjTwoIdeal : Prop :=
  True

def algebraic_ProjTwoIdeal_ProjTwoReferenceIdeal [hProjTwoIdeal : Cert.ProjTwoIdeal.Facts] [hProjTwoReferenceIdeal : Cert.ProjTwoReferenceIdeal.Facts] : Prop :=
  ∀ (m : (ℓ : Loc Cert.ProjTwoIdeal.nD Cert.ProjTwoIdeal.τ Cert.ProjTwoIdeal.sig) → Buf (Elt Ideal) ℓ) (g : Dev Cert.ProjTwoIdeal.nD → PrngReg)
    (m' : (ℓ : Loc Cert.ProjTwoReferenceIdeal.nD Cert.ProjTwoReferenceIdeal.τ Cert.ProjTwoReferenceIdeal.sig) → Buf (Elt Ideal) ℓ) (g' : Dev Cert.ProjTwoReferenceIdeal.nD → PrngReg), Pre_ProjTwoIdeal m →
    (∀ c : Dev Cert.ProjTwoIdeal.nD,
      m' ((c.tc : Thread Cert.ProjTwoReferenceIdeal.nD Cert.ProjTwoReferenceIdeal.τ).loc Cert.ProjTwoReferenceIdeal.main_arg0) = m ((c.tc : Thread Cert.ProjTwoIdeal.nD Cert.ProjTwoIdeal.τ).loc Cert.ProjTwoIdeal.main_arg0)
      ∧ m' ((c.tc : Thread Cert.ProjTwoReferenceIdeal.nD Cert.ProjTwoReferenceIdeal.τ).loc Cert.ProjTwoReferenceIdeal.main_arg1) = m ((c.tc : Thread Cert.ProjTwoIdeal.nD Cert.ProjTwoIdeal.τ).loc Cert.ProjTwoIdeal.main_arg1)) →
    ∃ (v0 : (c : Dev Cert.ProjTwoIdeal.nD) → Buf (Elt Ideal) ((c.tc : Thread Cert.ProjTwoIdeal.nD Cert.ProjTwoIdeal.τ).loc Cert.ProjTwoIdeal.main_v1)),
      θ_run (Cert.ProjTwoIdeal.defs (F := Ideal)) (onTc (τ := Cert.ProjTwoIdeal.τ) (Cert.ProjTwoIdeal.main (F := Ideal))) ⟨m, fun _ => 0, g⟩ (fun r => ∀ c : Dev Cert.ProjTwoIdeal.nD,
          r.2.mem ((c.tc : Thread Cert.ProjTwoIdeal.nD Cert.ProjTwoIdeal.τ).loc Cert.ProjTwoIdeal.main_v1) = v0 c
          ∧ r.2.mem ((c.tc : Thread Cert.ProjTwoIdeal.nD Cert.ProjTwoIdeal.τ).loc Cert.ProjTwoIdeal.main_arg0) = m ((c.tc : Thread Cert.ProjTwoIdeal.nD Cert.ProjTwoIdeal.τ).loc Cert.ProjTwoIdeal.main_arg0)
          ∧ r.2.mem ((c.tc : Thread Cert.ProjTwoIdeal.nD Cert.ProjTwoIdeal.τ).loc Cert.ProjTwoIdeal.main_arg1) = m ((c.tc : Thread Cert.ProjTwoIdeal.nD Cert.ProjTwoIdeal.τ).loc Cert.ProjTwoIdeal.main_arg1))
      ∧ θ_run (Cert.ProjTwoReferenceIdeal.defs (F := Ideal)) (onTc (τ := Cert.ProjTwoReferenceIdeal.τ) (Cert.ProjTwoReferenceIdeal.main (F := Ideal))) ⟨m', fun _ => 0, g'⟩ (fun r => ∀ c : Dev Cert.ProjTwoReferenceIdeal.nD,
          r.2.mem ((c.tc : Thread Cert.ProjTwoReferenceIdeal.nD Cert.ProjTwoReferenceIdeal.τ).loc Cert.ProjTwoReferenceIdeal.main_v1) = v0 c
          ∧ r.2.mem ((c.tc : Thread Cert.ProjTwoReferenceIdeal.nD Cert.ProjTwoReferenceIdeal.τ).loc Cert.ProjTwoReferenceIdeal.main_arg0) = m' ((c.tc : Thread Cert.ProjTwoReferenceIdeal.nD Cert.ProjTwoReferenceIdeal.τ).loc Cert.ProjTwoReferenceIdeal.main_arg0)
          ∧ r.2.mem ((c.tc : Thread Cert.ProjTwoReferenceIdeal.nD Cert.ProjTwoReferenceIdeal.τ).loc Cert.ProjTwoReferenceIdeal.main_arg1) = m' ((c.tc : Thread Cert.ProjTwoReferenceIdeal.nD Cert.ProjTwoReferenceIdeal.τ).loc Cert.ProjTwoReferenceIdeal.main_arg1))

def preserves_ProjOne_ProjOneIdeal : Prop :=
  True

def algebraic_ProjOneIdeal_ProjOneReferenceIdeal [hProjOneIdeal : Cert.ProjOneIdeal.Facts] [hProjOneReferenceIdeal : Cert.ProjOneReferenceIdeal.Facts] : Prop :=
  ∀ (m : (ℓ : Loc Cert.ProjOneIdeal.nD Cert.ProjOneIdeal.τ Cert.ProjOneIdeal.sig) → Buf (Elt Ideal) ℓ) (g : Dev Cert.ProjOneIdeal.nD → PrngReg)
    (m' : (ℓ : Loc Cert.ProjOneReferenceIdeal.nD Cert.ProjOneReferenceIdeal.τ Cert.ProjOneReferenceIdeal.sig) → Buf (Elt Ideal) ℓ) (g' : Dev Cert.ProjOneReferenceIdeal.nD → PrngReg), Pre_ProjOneIdeal m →
    (∀ c : Dev Cert.ProjOneIdeal.nD,
      m' ((c.tc : Thread Cert.ProjOneReferenceIdeal.nD Cert.ProjOneReferenceIdeal.τ).loc Cert.ProjOneReferenceIdeal.main_arg0) = m ((c.tc : Thread Cert.ProjOneIdeal.nD Cert.ProjOneIdeal.τ).loc Cert.ProjOneIdeal.main_arg0)
      ∧ m' ((c.tc : Thread Cert.ProjOneReferenceIdeal.nD Cert.ProjOneReferenceIdeal.τ).loc Cert.ProjOneReferenceIdeal.main_arg1) = m ((c.tc : Thread Cert.ProjOneIdeal.nD Cert.ProjOneIdeal.τ).loc Cert.ProjOneIdeal.main_arg1)) →
    ∃ (v0 : (c : Dev Cert.ProjOneIdeal.nD) → Buf (Elt Ideal) ((c.tc : Thread Cert.ProjOneIdeal.nD Cert.ProjOneIdeal.τ).loc Cert.ProjOneIdeal.main_v1)),
      θ_run (Cert.ProjOneIdeal.defs (F := Ideal)) (onTc (τ := Cert.ProjOneIdeal.τ) (Cert.ProjOneIdeal.main (F := Ideal))) ⟨m, fun _ => 0, g⟩ (fun r => ∀ c : Dev Cert.ProjOneIdeal.nD,
          r.2.mem ((c.tc : Thread Cert.ProjOneIdeal.nD Cert.ProjOneIdeal.τ).loc Cert.ProjOneIdeal.main_v1) = v0 c
          ∧ r.2.mem ((c.tc : Thread Cert.ProjOneIdeal.nD Cert.ProjOneIdeal.τ).loc Cert.ProjOneIdeal.main_arg0) = m ((c.tc : Thread Cert.ProjOneIdeal.nD Cert.ProjOneIdeal.τ).loc Cert.ProjOneIdeal.main_arg0)
          ∧ r.2.mem ((c.tc : Thread Cert.ProjOneIdeal.nD Cert.ProjOneIdeal.τ).loc Cert.ProjOneIdeal.main_arg1) = m ((c.tc : Thread Cert.ProjOneIdeal.nD Cert.ProjOneIdeal.τ).loc Cert.ProjOneIdeal.main_arg1))
      ∧ θ_run (Cert.ProjOneReferenceIdeal.defs (F := Ideal)) (onTc (τ := Cert.ProjOneReferenceIdeal.τ) (Cert.ProjOneReferenceIdeal.main (F := Ideal))) ⟨m', fun _ => 0, g'⟩ (fun r => ∀ c : Dev Cert.ProjOneReferenceIdeal.nD,
          r.2.mem ((c.tc : Thread Cert.ProjOneReferenceIdeal.nD Cert.ProjOneReferenceIdeal.τ).loc Cert.ProjOneReferenceIdeal.main_v1) = v0 c
          ∧ r.2.mem ((c.tc : Thread Cert.ProjOneReferenceIdeal.nD Cert.ProjOneReferenceIdeal.τ).loc Cert.ProjOneReferenceIdeal.main_arg0) = m' ((c.tc : Thread Cert.ProjOneReferenceIdeal.nD Cert.ProjOneReferenceIdeal.τ).loc Cert.ProjOneReferenceIdeal.main_arg0)
          ∧ r.2.mem ((c.tc : Thread Cert.ProjOneReferenceIdeal.nD Cert.ProjOneReferenceIdeal.τ).loc Cert.ProjOneReferenceIdeal.main_arg1) = m' ((c.tc : Thread Cert.ProjOneReferenceIdeal.nD Cert.ProjOneReferenceIdeal.τ).loc Cert.ProjOneReferenceIdeal.main_arg1))

def preserves_ProjPair_ProjPairIdeal : Prop :=
  True

def algebraic_ProjPairIdeal_ProjPairReferenceIdeal [hProjPairIdeal : Cert.ProjPairIdeal.Facts] [hProjPairReferenceIdeal : Cert.ProjPairReferenceIdeal.Facts] : Prop :=
  ∀ (m : (ℓ : Loc Cert.ProjPairIdeal.nD Cert.ProjPairIdeal.τ Cert.ProjPairIdeal.sig) → Buf (Elt Ideal) ℓ) (g : Dev Cert.ProjPairIdeal.nD → PrngReg)
    (m' : (ℓ : Loc Cert.ProjPairReferenceIdeal.nD Cert.ProjPairReferenceIdeal.τ Cert.ProjPairReferenceIdeal.sig) → Buf (Elt Ideal) ℓ) (g' : Dev Cert.ProjPairReferenceIdeal.nD → PrngReg), Pre_ProjPairIdeal m →
    (∀ c : Dev Cert.ProjPairIdeal.nD,
      m' ((c.tc : Thread Cert.ProjPairReferenceIdeal.nD Cert.ProjPairReferenceIdeal.τ).loc Cert.ProjPairReferenceIdeal.main_arg0) = m ((c.tc : Thread Cert.ProjPairIdeal.nD Cert.ProjPairIdeal.τ).loc Cert.ProjPairIdeal.main_arg0)
      ∧ m' ((c.tc : Thread Cert.ProjPairReferenceIdeal.nD Cert.ProjPairReferenceIdeal.τ).loc Cert.ProjPairReferenceIdeal.main_arg1) = m ((c.tc : Thread Cert.ProjPairIdeal.nD Cert.ProjPairIdeal.τ).loc Cert.ProjPairIdeal.main_arg1)
      ∧ m' ((c.tc : Thread Cert.ProjPairReferenceIdeal.nD Cert.ProjPairReferenceIdeal.τ).loc Cert.ProjPairReferenceIdeal.main_arg2) = m ((c.tc : Thread Cert.ProjPairIdeal.nD Cert.ProjPairIdeal.τ).loc Cert.ProjPairIdeal.main_arg2)) →
    ∃ (v0 : (c : Dev Cert.ProjPairIdeal.nD) → Buf (Elt Ideal) ((c.tc : Thread Cert.ProjPairIdeal.nD Cert.ProjPairIdeal.τ).loc Cert.ProjPairIdeal.main_v4)),
      θ_run (Cert.ProjPairIdeal.defs (F := Ideal)) (onTc (τ := Cert.ProjPairIdeal.τ) (Cert.ProjPairIdeal.main (F := Ideal))) ⟨m, fun _ => 0, g⟩ (fun r => ∀ c : Dev Cert.ProjPairIdeal.nD,
          r.2.mem ((c.tc : Thread Cert.ProjPairIdeal.nD Cert.ProjPairIdeal.τ).loc Cert.ProjPairIdeal.main_v4) = v0 c
          ∧ r.2.mem ((c.tc : Thread Cert.ProjPairIdeal.nD Cert.ProjPairIdeal.τ).loc Cert.ProjPairIdeal.main_arg0) = m ((c.tc : Thread Cert.ProjPairIdeal.nD Cert.ProjPairIdeal.τ).loc Cert.ProjPairIdeal.main_arg0)
          ∧ r.2.mem ((c.tc : Thread Cert.ProjPairIdeal.nD Cert.ProjPairIdeal.τ).loc Cert.ProjPairIdeal.main_arg1) = m ((c.tc : Thread Cert.ProjPairIdeal.nD Cert.ProjPairIdeal.τ).loc Cert.ProjPairIdeal.main_arg1)
          ∧ r.2.mem ((c.tc : Thread Cert.ProjPairIdeal.nD Cert.ProjPairIdeal.τ).loc Cert.ProjPairIdeal.main_arg2) = m ((c.tc : Thread Cert.ProjPairIdeal.nD Cert.ProjPairIdeal.τ).loc Cert.ProjPairIdeal.main_arg2))
      ∧ θ_run (Cert.ProjPairReferenceIdeal.defs (F := Ideal)) (onTc (τ := Cert.ProjPairReferenceIdeal.τ) (Cert.ProjPairReferenceIdeal.main (F := Ideal))) ⟨m', fun _ => 0, g'⟩ (fun r => ∀ c : Dev Cert.ProjPairReferenceIdeal.nD,
          r.2.mem ((c.tc : Thread Cert.ProjPairReferenceIdeal.nD Cert.ProjPairReferenceIdeal.τ).loc Cert.ProjPairReferenceIdeal.main_v3) = v0 c
          ∧ r.2.mem ((c.tc : Thread Cert.ProjPairReferenceIdeal.nD Cert.ProjPairReferenceIdeal.τ).loc Cert.ProjPairReferenceIdeal.main_arg0) = m' ((c.tc : Thread Cert.ProjPairReferenceIdeal.nD Cert.ProjPairReferenceIdeal.τ).loc Cert.ProjPairReferenceIdeal.main_arg0)
          ∧ r.2.mem ((c.tc : Thread Cert.ProjPairReferenceIdeal.nD Cert.ProjPairReferenceIdeal.τ).loc Cert.ProjPairReferenceIdeal.main_arg1) = m' ((c.tc : Thread Cert.ProjPairReferenceIdeal.nD Cert.ProjPairReferenceIdeal.τ).loc Cert.ProjPairReferenceIdeal.main_arg1)
          ∧ r.2.mem ((c.tc : Thread Cert.ProjPairReferenceIdeal.nD Cert.ProjPairReferenceIdeal.τ).loc Cert.ProjPairReferenceIdeal.main_arg2) = m' ((c.tc : Thread Cert.ProjPairReferenceIdeal.nD Cert.ProjPairReferenceIdeal.τ).loc Cert.ProjPairReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProjThree : Cert.ProjThree.Facts) (hProjThreeIdeal : Cert.ProjThreeIdeal.Facts) (hProjThreeReferenceIdeal : Cert.ProjThreeReferenceIdeal.Facts) (hProjTwo : Cert.ProjTwo.Facts) (hProjTwoIdeal : Cert.ProjTwoIdeal.Facts) (hProjTwoReferenceIdeal : Cert.ProjTwoReferenceIdeal.Facts) (hProjOne : Cert.ProjOne.Facts) (hProjOneIdeal : Cert.ProjOneIdeal.Facts) (hProjOneReferenceIdeal : Cert.ProjOneReferenceIdeal.Facts) (hProjPair : Cert.ProjPair.Facts) (hProjPairIdeal : Cert.ProjPairIdeal.Facts) (hProjPairReferenceIdeal : Cert.ProjPairReferenceIdeal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Ffn (hFfn := hFfn)
    ∧ quiescent_FfnIdeal (hFfnIdeal := hFfnIdeal)
    ∧ quiescent_FfnReferenceIdeal (hFfnReferenceIdeal := hFfnReferenceIdeal)
    ∧ quiescent_ProjThree (hProjThree := hProjThree)
    ∧ quiescent_ProjThreeIdeal (hProjThreeIdeal := hProjThreeIdeal)
    ∧ quiescent_ProjThreeReferenceIdeal (hProjThreeReferenceIdeal := hProjThreeReferenceIdeal)
    ∧ quiescent_ProjTwo (hProjTwo := hProjTwo)
    ∧ quiescent_ProjTwoIdeal (hProjTwoIdeal := hProjTwoIdeal)
    ∧ quiescent_ProjTwoReferenceIdeal (hProjTwoReferenceIdeal := hProjTwoReferenceIdeal)
    ∧ quiescent_ProjOne (hProjOne := hProjOne)
    ∧ quiescent_ProjOneIdeal (hProjOneIdeal := hProjOneIdeal)
    ∧ quiescent_ProjOneReferenceIdeal (hProjOneReferenceIdeal := hProjOneReferenceIdeal)
    ∧ quiescent_ProjPair (hProjPair := hProjPair)
    ∧ quiescent_ProjPairIdeal (hProjPairIdeal := hProjPairIdeal)
    ∧ quiescent_ProjPairReferenceIdeal (hProjPairReferenceIdeal := hProjPairReferenceIdeal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Ffn_FfnIdeal
    ∧ algebraic_FfnIdeal_FfnReferenceIdeal (hFfnIdeal := hFfnIdeal) (hFfnReferenceIdeal := hFfnReferenceIdeal)
    ∧ preserves_ProjThree_ProjThreeIdeal
    ∧ algebraic_ProjThreeIdeal_ProjThreeReferenceIdeal (hProjThreeIdeal := hProjThreeIdeal) (hProjThreeReferenceIdeal := hProjThreeReferenceIdeal)
    ∧ preserves_ProjTwo_ProjTwoIdeal
    ∧ algebraic_ProjTwoIdeal_ProjTwoReferenceIdeal (hProjTwoIdeal := hProjTwoIdeal) (hProjTwoReferenceIdeal := hProjTwoReferenceIdeal)
    ∧ preserves_ProjOne_ProjOneIdeal
    ∧ algebraic_ProjOneIdeal_ProjOneReferenceIdeal (hProjOneIdeal := hProjOneIdeal) (hProjOneReferenceIdeal := hProjOneReferenceIdeal)
    ∧ preserves_ProjPair_ProjPairIdeal
    ∧ algebraic_ProjPairIdeal_ProjPairReferenceIdeal (hProjPairIdeal := hProjPairIdeal) (hProjPairReferenceIdeal := hProjPairReferenceIdeal)
-- ==== Pre_tables_in_range.lean ====
abbrev S8704x2048 : Shape := ⟨2, ![8704, 2048]⟩
abbrev S336 : Shape := ⟨1, ![336]⟩
abbrev S1 : Shape := ⟨1, ![1]⟩
abbrev S86016 : Shape := ⟨1, ![86016]⟩
abbrev S128x2048x512 : Shape := ⟨3, ![128, 2048, 512]⟩
abbrev S128x512x2048 : Shape := ⟨3, ![128, 512, 2048]⟩
abbrev S_ : Shape := ⟨0, ![]⟩
abbrev S336x256 : Shape := ⟨2, ![336, 256]⟩
abbrev S336x1 : Shape := ⟨2, ![336, 1]⟩
abbrev S1x1 : Shape := ⟨2, ![1, 1]⟩

class Facts : Prop where
  bcast_S_S86016 : S_.BroadcastsInDim S86016 (![] : Fin 0 → Fin S86016.rank)
  bcast_S_S336 : S_.BroadcastsInDim S336 (![] : Fin 0 → Fin S336.rank)
  bcast_S_S1 : S_.BroadcastsInDim S1 (![] : Fin 0 → Fin S1.rank)
  shapeCasts_S86016_S336x256 : S86016.ShapeCasts S336x256
  bcast_S336_S336x1_0 : S336.BroadcastsInDim S336x1 (![0] : Fin 1 → Fin S336x1.rank)
  bcast_S336x1_S336x256_0_1 : S336x1.BroadcastsInDim S336x256 (![0, 1] : Fin 2 → Fin S336x256.rank)
  bcast_S1_S1x1_1 : S1.BroadcastsInDim S1x1 (![1] : Fin 1 → Fin S1x1.rank)
  bcast_S1x1_S336x256_0_1 : S1x1.BroadcastsInDim S336x256 (![0, 1] : Fin 2 → Fin S336x256.rank)

variable [Facts]

def fn_part1 {F : FTy → Type} [FloatOps F] (main_v14 : IVec S1 1) (main_v15 : IVec S336x256 1) (main_v17 : IVec S336x256 1) : IVec S336x256 1 :=
  let main_v18 : IVec S336x256 1 := andi main_v15 main_v17
  let main_v19 : IVec S1x1 1 := broadcastInDim S1x1 ![1] bcast_S1_S1x1_1 main_v14
  let main_v20 : IVec S336x256 1 := broadcastInDim S336x256 ![0, 1] bcast_S1x1_S336x256_0_1 main_v19
  let main_v21 : IVec S336x256 1 := andi main_v18 main_v20
  main_v21

def fn {F : FTy → Type} [FloatOps F] (main_arg0 : FVec F S8704x2048 .f32) (main_arg1 : IVec S336 32) (main_arg2 : IVec S1 32) (main_arg3 : IVec S86016 32) (main_arg4 : FVec F S128x2048x512 .f32) (main_arg5 : FVec F S128x2048x512 .f32) (main_arg6 : FVec F S128x512x2048 .f32) : IVec S336x256 1 :=
  let main_c : IVec S_ 32 := constantI S_ 32 0#32
  let main_v0 : IVec S86016 32 := broadcastInDim S86016 ![] bcast_S_S86016 main_c
  let main_v1 : IVec S86016 1 := cmpi .sge main_arg3 main_v0
  let main_c_0 : IVec S_ 32 := constantI S_ 32 8704#32
  let main_v2 : IVec S86016 32 := broadcastInDim S86016 ![] bcast_S_S86016 main_c_0
  let main_v3 : IVec S86016 1 := cmpi .slt main_arg3 main_v2
  let main_v4 : IVec S86016 1 := andi main_v1 main_v3
  let main_c_1 : IVec S_ 32 := constantI S_ 32 0#32
  let main_v5 : IVec S336 32 := broadcastInDim S336 ![] bcast_S_S336 main_c_1
  let main_v6 : IVec S336 1 := cmpi .sge main_arg1 main_v5
  let main_c_2 : IVec S_ 32 := constantI S_ 32 128#32
  let main_v7 : IVec S336 32 := broadcastInDim S336 ![] bcast_S_S336 main_c_2
  let main_v8 : IVec S336 1 := cmpi .slt main_arg1 main_v7
  let main_v9 : IVec S336 1 := andi main_v6 main_v8
  let main_c_3 : IVec S_ 32 := constantI S_ 32 1#32
  let main_v10 : IVec S1 32 := broadcastInDim S1 ![] bcast_S_S1 main_c_3
  let main_v11 : IVec S1 1 := cmpi .sge main_arg2 main_v10
  let main_c_4 : IVec S_ 32 := constantI S_ 32 336#32
  let main_v12 : IVec S1 32 := broadcastInDim S1 ![] bcast_S_S1 main_c_4
  let main_v13 : IVec S1 1 := cmpi .sle main_arg2 main_v12
  let main_v14 : IVec S1 1 := andi main_v11 main_v13
  let main_v15 : IVec S336x256 1 := shapeCast S336x256 main_v4 shapeCasts_S86016_S336x256
  let main_v16 : IVec S336x1 1 := broadcastInDim S336x1 ![0] bcast_S336_S336x1_0 main_v9
  let main_v17 : IVec S336x256 1 := broadcastInDim S336x256 ![0, 1] bcast_S336x1_S336x256_0_1 main_v16
  fn_part1 (F := F) main_v14 main_v15 main_v17
-- ==== Kernel.lean ====
abbrev S8704x2048 : Shape := ⟨2, ![8704, 2048]⟩
abbrev S336 : Shape := ⟨1, ![336]⟩
abbrev S1 : Shape := ⟨1, ![1]⟩
abbrev S86016 : Shape := ⟨1, ![86016]⟩
abbrev S128x2048x512 : Shape := ⟨3, ![128, 2048, 512]⟩
abbrev S128x512x2048 : Shape := ⟨3, ![128, 512, 2048]⟩
abbrev S_ : Shape := ⟨0, ![]⟩
abbrev S336x1 : Shape := ⟨2, ![336, 1]⟩
abbrev S86016x2048 : Shape := ⟨2, ![86016, 2048]⟩
abbrev S1x2048x512 : Shape := ⟨3, ![1, 2048, 512]⟩
abbrev S1x512x2048 : Shape := ⟨3, ![1, 512, 2048]⟩
abbrev S256x2048 : Shape := ⟨2, ![256, 2048]⟩
abbrev S2 : Shape := ⟨1, ![2]⟩
abbrev S2048x512 : Shape := ⟨2, ![2048, 512]⟩
abbrev S512x2048 : Shape := ⟨2, ![512, 2048]⟩
abbrev S1x2048 : Shape := ⟨2, ![1, 2048]⟩
abbrev S256x512 : Shape := ⟨2, ![256, 512]⟩

abbrev nBuf : Space → Nat
  | .hbm => 20
  | .vmem => 13
  | .smem => 3
  | _ => 0

abbrev bufTy : (tb : Table) → Fin (tcTables nBuf tb) → BufTy
  | .hbm, ⟨0, _⟩ => ⟨S8704x2048, .f32⟩
  | .hbm, ⟨1, _⟩ => ⟨S336, .i32⟩
  | .hbm, ⟨2, _⟩ => ⟨S128x2048x512, .f32⟩
  | .hbm, ⟨3, _⟩ => ⟨S128x2048x512, .f32⟩
  | .hbm, ⟨4, _⟩ => ⟨S128x512x2048, .f32⟩
  | .hbm, ⟨5, _⟩ => ⟨S336, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S336, .i32⟩
  | .hbm, ⟨10, _⟩ => ⟨S336, .i32⟩
  | .hbm, ⟨11, _⟩ => ⟨S_, .i32⟩
  | .hbm, ⟨12, _⟩ => ⟨S336, .i32⟩
  | .hbm, ⟨13, _⟩ => ⟨S336, .i1⟩
  | .hbm, ⟨14, _⟩ => ⟨S_, .i32⟩
  | .hbm, ⟨15, _⟩ => ⟨S336, .i32⟩
  | .hbm, ⟨16, _⟩ => ⟨S336, .i32⟩
  | .hbm, ⟨17, _⟩ => ⟨S336, .i32⟩
  | .hbm, ⟨18, _⟩ => ⟨S336x1, .i32⟩
  | .hbm, ⟨19, _⟩ => ⟨S86016x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S336, .i32⟩
  | .local _ .smem, ⟨1, _⟩ => ⟨S1, .i32⟩
  | .local _ .smem, ⟨2, _⟩ => ⟨S86016, .i32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v11 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![336], ![false]⟩

abbrev pre0 : Pipeline.Prefetch sig := ⟨3, ![main_v11.idx, main_arg2.idx, main_arg3.idx], fun | 0 => main_v11.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (v39 : BitVec 32) : Fin 2 → Nat :=
  let c0_i32_22 : BitVec 32 := 0#32
  ![v39.toNat, 0]

def k0_chk1 (i : grid0.Coords) (v39 : BitVec 32) : Prop :=
  (∀ (k0_h1 : k0_cond1 i = 1#1), ∀ a, (k0_off2 v39) a + S1x2048.size a ≤ S8704x2048.size a)
theorem k0_off2_inb : ∀ (i : grid0.Coords) (v39 : BitVec 32) (k0_hw1 : k0_chk1 i v39), ∀ (k0_h1 : k0_cond1 i = 1#1), ∀ a, (k0_off2 v39) a + S1x2048.size a ≤ S8704x2048.size a := fun i v39 k0_hw1 k0_h1 => k0_hw1 k0_h1

def k0_off3 (v44 : BitVec 32) : Fin 2 → Nat :=
  let c0_i32_26 : BitVec 32 := 0#32
  ![v44.toNat, 0]

def k0_chk2 (i : grid0.Coords) (v44 : BitVec 32) : Prop :=
  (∀ (k0_h1 : k0_cond1 i = 1#1), ∀ a, (k0_off3 v44) a + S1x2048.size a ≤ S8704x2048.size a)
theorem k0_off3_inb : ∀ (i : grid0.Coords) (v44 : BitVec 32) (k0_hw2 : k0_chk2 i v44), ∀ (k0_h1 : k0_cond1 i = 1#1), ∀ a, (k0_off3 v44) a + S1x2048.size a ≤ S8704x2048.size a := fun i v44 k0_hw2 k0_h1 => k0_hw2 k0_h1

def k0_off4 (v49 : BitVec 32) : Fin 2 → Nat :=
  let c0_i32_30 : BitVec 32 := 0#32
  ![v49.toNat, 0]

def k0_chk3 (i : grid0.Coords) (v49 : BitVec 32) : Prop :=
  (∀ (k0_h1 : k0_cond1 i = 1#1), ∀ a, (k0_off4 v49) a + S1x2048.size a ≤ S8704x2048.size a)
theorem k0_off4_inb : ∀ (i : grid0.Coords) (v49 : BitVec 32) (k0_hw3 : k0_chk3 i v49), ∀ (k0_h1 : k0_cond1 i = 1#1), ∀ a, (k0_off4 v49) a + S1x2048.size a ≤ S8704x2048.size a := fun i v49 k0_hw3 k0_h1 => k0_hw3 k0_h1

def k0_off5 (v54 : BitVec 32) : Fin 2 → Nat :=
  let c0_i32_33 : BitVec 32 := 0#32
  ![v54.toNat, 0]

def k0_chk4 (i : grid0.Coords) (v54 : BitVec 32) : Prop :=
  (∀ (k0_h1 : k0_cond1 i = 1#1), ∀ a, (k0_off5 v54) a + S1x2048.size a ≤ S8704x2048.size a)
theorem k0_off5_inb : ∀ (i : grid0.Coords) (v54 : BitVec 32) (k0_hw4 : k0_chk4 i v54), ∀ (k0_h1 : k0_cond1 i = 1#1), ∀ a, (k0_off5 v54) a + S1x2048.size a ≤ S8704x2048.size a := fun i v54 k0_hw4 k0_h1 => k0_hw4 k0_h1

def k0_off6 (v59 : BitVec 32) : Fin 2 → Nat :=
  let c0_i32_36 : BitVec 32 := 0#32
  ![v59.toNat, 0]

def k0_chk5 (i : grid0.Coords) (v59 : BitVec 32) : Prop :=
  (∀ (k0_h1 : k0_cond1 i = 1#1), ∀ a, (k0_off6 v59) a + S1x2048.size a ≤ S8704x2048.size a)
theorem k0_off6_inb : ∀ (i : grid0.Coords) (v59 : BitVec 32) (k0_hw5 : k0_chk5 i v59), ∀ (k0_h1 : k0_cond1 i = 1#1), ∀ a, (k0_off6 v59) a + S1x2048.size a ≤ S8704x2048.size a := fun i v59 k0_hw5 k0_h1 => k0_hw5 k0_h1

def k0_off7 (v64 : BitVec 32) : Fin 2 → Nat :=
  let c0_i32_39 : BitVec 32 := 0#32
  ![v64.toNat, 0]

def k0_chk6 (i : grid0.Coords) (v64 : BitVec 32) : Prop :=
  (∀ (k0_h1 : k0_cond1 i = 1#1), ∀ a, (k0_off7 v64) a + S1x2048.size a ≤ S8704x2048.size a)
theorem k0_off7_inb : ∀ (i : grid0.Coords) (v64 : BitVec 32) (k0_hw6 : k0_chk6 i v64), ∀ (k0_h1 : k0_cond1 i = 1#1), ∀ a, (k0_off7 v64) a + S1x2048.size a ≤ S8704x2048.size a := fun i v64 k0_hw6 k0_h1 => k0_hw6 k0_h1

def k0_off8 (v69 : BitVec 32) : Fin 2 → Nat :=
  let c0_i32_42 : BitVec 32 := 0#32
  ![v69.toNat, 0]

def k0_chk7 (i : grid0.Coords) (v69 : BitVec 32) : Prop :=
  (∀ (k0_h1 : k0_cond1 i = 1#1), ∀ a, (k0_off8 v69) a + S1x2048.size a ≤ S8704x2048.size a)
theorem k0_off8_inb : ∀ (i : grid0.Coords) (v69 : BitVec 32) (k0_hw7 : k0_chk7 i v69), ∀ (k0_h1 : k0_cond1 i = 1#1), ∀ a, (k0_off8 v69) a + S1x2048.size a ≤ S8704x2048.size a := fun i v69 k0_hw7 k0_h1 => k0_hw7 k0_h1

def k0_off9 (v74 : BitVec 32) : Fin 2 → Nat :=
  let c0_i32_45 : BitVec 32 := 0#32
  ![v74.toNat, 0]

def k0_chk8 (i : grid0.Coords) (v74 : BitVec 32) : Prop :=
  (∀ (k0_h1 : k0_cond1 i = 1#1), ∀ a, (k0_off9 v74) a + S1x2048.size a ≤ S8704x2048.size a)
theorem k0_off9_inb : ∀ (i : grid0.Coords) (v74 : BitVec 32) (k0_hw8 : k0_chk8 i v74), ∀ (k0_h1 : k0_cond1 i = 1#1), ∀ a, (k0_off9 v74) a + S1x2048.size a ≤ S8704x2048.size a := fun i v74 k0_hw8 k0_h1 => k0_hw8 k0_h1

def k0_off10 (v79 : BitVec 32) : Fin 2 → Nat :=
  let c0_i32_48 : BitVec 32 := 0#32
  ![v79.toNat, 0]

def k0_chk9 (i : grid0.Coords) (v79 : BitVec 32) : Prop :=
  (∀ (k0_h1 : k0_cond1 i = 1#1), ∀ a, (k0_off10 v79) a + S1x2048.size a ≤ S8704x2048.size a)
theorem k0_off10_inb : ∀ (i : grid0.Coords) (v79 : BitVec 32) (k0_hw9 : k0_chk9 i v79), ∀ (k0_h1 : k0_cond1 i = 1#1), ∀ a, (k0_off10 v79) a + S1x2048.size a ≤ S8704x2048.size a := fun i v79 k0_hw9 k0_h1 => k0_hw9 k0_h1

def k0_off11 (v84 : BitVec 32) : Fin 2 → Nat :=
  let c0_i32_51 : BitVec 32 := 0#32
  ![v84.toNat, 0]

def k0_chk10 (i : grid0.Coords) (v84 : BitVec 32) : Prop :=
  (∀ (k0_h1 : k0_cond1 i = 1#1), ∀ a, (k0_off11 v84) a + S1x2048.size a ≤ S8704x2048.size a)
theorem k0_off11_inb : ∀ (i : grid0.Coords) (v84 : BitVec 32) (k0_hw10 : k0_chk10 i v84), ∀ (k0_h1 : k0_cond1 i = 1#1), ∀ a, (k0_off11 v84) a + S1x2048.size a ≤ S8704x2048.size a := fun i v84 k0_hw10 k0_h1 => k0_hw10 k0_h1

def k0_off12 (v89 : BitVec 32) : Fin 2 → Nat :=
  let c0_i32_54 : BitVec 32 := 0#32
  ![v89.toNat, 0]

def k0_chk11 (i : grid0.Coords) (v89 : BitVec 32) : Prop :=
  (∀ (k0_h1 : k0_cond1 i = 1#1), ∀ a, (k0_off12 v89) a + S1x2048.size a ≤ S8704x2048.size a)
theorem k0_off12_inb : ∀ (i : grid0.Coords) (v89 : BitVec 32) (k0_hw11 : k0_chk11 i v89), ∀ (k0_h1 : k0_cond1 i = 1#1), ∀ a, (k0_off12 v89) a + S1x2048.size a ≤ S8704x2048.size a := fun i v89 k0_hw11 k0_h1 => k0_hw11 k0_h1

def k0_off13 (v94 : BitVec 32) : Fin 2 → Nat :=
  let c0_i32_57 : BitVec 32 := 0#32
  ![v94.toNat, 0]

def k0_chk12 (i : grid0.Coords) (v94 : BitVec 32) : Prop :=
  (∀ (k0_h1 : k0_cond1 i = 1#1), ∀ a, (k0_off13 v94) a + S1x2048.size a ≤ S8704x2048.size a)
theorem k0_off13_inb : ∀ (i : grid0.Coords) (v94 : BitVec 32) (k0_hw12 : k0_chk12 i v94), ∀ (k0_h1 : k0_cond1 i = 1#1), ∀ a, (k0_off13 v94) a + S1x2048.size a ≤ S8704x2048.size a := fun i v94 k0_hw12 k0_h1 => k0_hw12 k0_h1

def k0_off14 (v99 : BitVec 32) : Fin 2 → Nat :=
  let c0_i32_60 : BitVec 32 := 0#32
  ![v99.toNat, 0]

def k0_chk13 (i : grid0.Coords) (v99 : BitVec 32) : Prop :=
  (∀ (k0_h1 : k0_cond1 i = 1#1), ∀ a, (k0_off14 v99) a + S1x2048.size a ≤ S8704x2048.size a)
theorem k0_off14_inb : ∀ (i : grid0.Coords) (v99 : BitVec 32) (k0_hw13 : k0_chk13 i v99), ∀ (k0_h1 : k0_cond1 i = 1#1), ∀ a, (k0_off14 v99) a + S1x2048.size a ≤ S8704x2048.size a := fun i v99 k0_hw13 k0_h1 => k0_hw13 k0_h1

def k0_off15 (v104 : BitVec 32) : Fin 2 → Nat :=
  let c0_i32_63 : BitVec 32 := 0#32
  ![v104.toNat, 0]

def k0_chk14 (i : grid0.Coords) (v104 : BitVec 32) : Prop :=
  (∀ (k0_h1 : k0_cond1 i = 1#1), ∀ a, (k0_off15 v104) a + S1x2048.size a ≤ S8704x2048.size a)
theorem k0_off15_inb : ∀ (i : grid0.Coords) (v104 : BitVec 32) (k0_hw14 : k0_chk14 i v104), ∀ (k0_h1 : k0_cond1 i = 1#1), ∀ a, (k0_off15 v104) a + S1x2048.size a ≤ S8704x2048.size a := fun i v104 k0_hw14 k0_h1 => k0_hw14 k0_h1

def k0_off16 (v109 : BitVec 32) : Fin 2 → Nat :=
  let c0_i32_66 : BitVec 32 := 0#32
  ![v109.toNat, 0]

def k0_chk15 (i : grid0.Coords) (v109 : BitVec 32) : Prop :=
  (∀ (k0_h1 : k0_cond1 i = 1#1), ∀ a, (k0_off16 v109) a + S1x2048.size a ≤ S8704x2048.size a)
theorem k0_off16_inb : ∀ (i : grid0.Coords) (v109 : BitVec 32) (k0_hw15 : k0_chk15 i v109), ∀ (k0_h1 : k0_cond1 i = 1#1), ∀ a, (k0_off16 v109) a + S1x2048.size a ≤ S8704x2048.size a := fun i v109 k0_hw15 k0_h1 => k0_hw15 k0_h1

def k0_off17 (v114 : BitVec 32) : Fin 2 → Nat :=
  let c0_i32_69 : BitVec 32 := 0#32
  ![v114.toNat, 0]

def k0_chk16 (i : grid0.Coords) (v114 : BitVec 32) : Prop :=
  (∀ (k0_h1 : k0_cond1 i = 1#1), ∀ a, (k0_off17 v114) a + S1x2048.size a ≤ S8704x2048.size a)
theorem k0_off17_inb : ∀ (i : grid0.Coords) (v114 : BitVec 32) (k0_hw16 : k0_chk16 i v114), ∀ (k0_h1 : k0_cond1 i = 1#1), ∀ a, (k0_off17 v114) a + S1x2048.size a ≤ S8704x2048.size a := fun i v114 k0_hw16 k0_h1 => k0_hw16 k0_h1

def k0_off18 (v119 : BitVec 32) : Fin 2 → Nat :=
  let c0_i32_72 : BitVec 32 := 0#32
  ![v119.toNat, 0]

def k0_chk17 (i : grid0.Coords) (v119 : BitVec 32) : Prop :=
  (∀ (k0_h1 : k0_cond1 i = 1#1), ∀ a, (k0_off18 v119) a + S1x2048.size a ≤ S8704x2048.size a)
theorem k0_off18_inb : ∀ (i : grid0.Coords) (v119 : BitVec 32) (k0_hw17 : k0_chk17 i v119), ∀ (k0_h1 : k0_cond1 i = 1#1), ∀ a, (k0_off18 v119) a + S1x2048.size a ≤ S8704x2048.size a := fun i v119 k0_hw17 k0_h1 => k0_hw17 k0_h1

def k0_off19 (v124 : BitVec 32) : Fin 2 → Nat :=
  let c0_i32_75 : BitVec 32 := 0#32
  ![v124.toNat, 0]

def k0_chk18 (i : grid0.Coords) (v124 : BitVec 32) : Prop :=
  (∀ (k0_h1 : k0_cond1 i = 1#1), ∀ a, (k0_off19 v124) a + S1x2048.size a ≤ S8704x2048.size a)
theorem k0_off19_inb : ∀ (i : grid0.Coords) (v124 : BitVec 32) (k0_hw18 : k0_chk18 i v124), ∀ (k0_h1 : k0_cond1 i = 1#1), ∀ a, (k0_off19 v124) a + S1x2048.size a ≤ S8704x2048.size a := fun i v124 k0_hw18 k0_h1 => k0_hw18 k0_h1

def k0_off20 (v129 : BitVec 32) : Fin 2 → Nat :=
  let c0_i32_78 : BitVec 32 := 0#32
  ![v129.toNat, 0]

def k0_chk19 (i : grid0.Coords) (v129 : BitVec 32) : Prop :=
  (∀ (k0_h1 : k0_cond1 i = 1#1), ∀ a, (k0_off20 v129) a + S1x2048.size a ≤ S8704x2048.size a)
theorem k0_off20_inb : ∀ (i : grid0.Coords) (v129 : BitVec 32) (k0_hw19 : k0_chk19 i v129), ∀ (k0_h1 : k0_cond1 i = 1#1), ∀ a, (k0_off20 v129) a + S1x2048.size a ≤ S8704x2048.size a := fun i v129 k0_hw19 k0_h1 => k0_hw19 k0_h1

def k0_off21 (v134 : BitVec 32) : Fin 2 → Nat :=
  let c0_i32_81 : BitVec 32 := 0#32
  ![v134.toNat, 0]

def k0_chk20 (i : grid0.Coords) (v134 : BitVec 32) : Prop :=
  (∀ (k0_h1 : k0_cond1 i = 1#1), ∀ a, (k0_off21 v134) a + S1x2048.size a ≤ S8704x2048.size a)
theorem k0_off21_inb : ∀ (i : grid0.Coords) (v134 : BitVec 32) (k0_hw20 : k0_chk20 i v134), ∀ (k0_h1 : k0_cond1 i = 1#1), ∀ a, (k0_off21 v134) a + S1x2048.size a ≤ S8704x2048.size a := fun i v134 k0_hw20 k0_h1 => k0_hw20 k0_h1

def k0_off22 (v139 : BitVec 32) : Fin 2 → Nat :=
  let c0_i32_84 : BitVec 32 := 0#32
  ![v139.toNat, 0]

def k0_chk21 (i : grid0.Coords) (v139 : BitVec 32) : Prop :=
  (∀ (k0_h1 : k0_cond1 i = 1#1), ∀ a, (k0_off22 v139) a + S1x2048.size a ≤ S8704x2048.size a)
theorem k0_off22_inb : ∀ (i : grid0.Coords) (v139 : BitVec 32) (k0_hw21 : k0_chk21 i v139), ∀ (k0_h1 : k0_cond1 i = 1#1), ∀ a, (k0_off22 v139) a + S1x2048.size a ≤ S8704x2048.size a := fun i v139 k0_hw21 k0_h1 => k0_hw21 k0_h1

def k0_off23 (v144 : BitVec 32) : Fin 2 → Nat :=
  let c0_i32_87 : BitVec 32 := 0#32
  ![v144.toNat, 0]

def k0_chk22 (i : grid0.Coords) (v144 : BitVec 32) : Prop :=
  (∀ (k0_h1 : k0_cond1 i = 1#1), ∀ a, (k0_off23 v144) a + S1x2048.size a ≤ S8704x2048.size a)
theorem k0_off23_inb : ∀ (i : grid0.Coords) (v144 : BitVec 32) (k0_hw22 : k0_chk22 i v144), ∀ (k0_h1 : k0_cond1 i = 1#1), ∀ a, (k0_off23 v144) a + S1x2048.size a ≤ S8704x2048.size a := fun i v144 k0_hw22 k0_h1 => k0_hw22 k0_h1

def k0_off24 (v149 : BitVec 32) : Fin 2 → Nat :=
  let c0_i32_90 : BitVec 32 := 0#32
  ![v149.toNat, 0]

def k0_chk23 (i : grid0.Coords) (v149 : BitVec 32) : Prop :=
  (∀ (k0_h1 : k0_cond1 i = 1#1), ∀ a, (k0_off24 v149) a + S1x2048.size a ≤ S8704x2048.size a)
theorem k0_off24_inb : ∀ (i : grid0.Coords) (v149 : BitVec 32) (k0_hw23 : k0_chk23 i v149), ∀ (k0_h1 : k0_cond1 i = 1#1), ∀ a, (k0_off24 v149) a + S1x2048.size a ≤ S8704x2048.size a := fun i v149 k0_hw23 k0_h1 => k0_hw23 k0_h1

def k0_off25 (v154 : BitVec 32) : Fin 2 → Nat :=
  let c0_i32_93 : BitVec 32 := 0#32
  ![v154.toNat, 0]

def k0_chk24 (i : grid0.Coords) (v154 : BitVec 32) : Prop :=
  (∀ (k0_h1 : k0_cond1 i = 1#1), ∀ a, (k0_off25 v154) a + S1x2048.size a ≤ S8704x2048.size a)
theorem k0_off25_inb : ∀ (i : grid0.Coords) (v154 : BitVec 32) (k0_hw24 : k0_chk24 i v154), ∀ (k0_h1 : k0_cond1 i = 1#1), ∀ a, (k0_off25 v154) a + S1x2048.size a ≤ S8704x2048.size a := fun i v154 k0_hw24 k0_h1 => k0_hw24 k0_h1

def k0_off26 (v159 : BitVec 32) : Fin 2 → Nat :=
  let c0_i32_96 : BitVec 32 := 0#32
  ![v159.toNat, 0]

def k0_chk25 (i : grid0.Coords) (v159 : BitVec 32) : Prop :=
  (∀ (k0_h1 : k0_cond1 i = 1#1), ∀ a, (k0_off26 v159) a + S1x2048.size a ≤ S8704x2048.size a)
theorem k0_off26_inb : ∀ (i : grid0.Coords) (v159 : BitVec 32) (k0_hw25 : k0_chk25 i v159), ∀ (k0_h1 : k0_cond1 i = 1#1), ∀ a, (k0_off26 v159) a + S1x2048.size a ≤ S8704x2048.size a := fun i v159 k0_hw25 k0_h1 => k0_hw25 k0_h1

def k0_off27 (v164 : BitVec 32) : Fin 2 → Nat :=
  let c0_i32_99 : BitVec 32 := 0#32
  ![v164.toNat, 0]

def k0_chk26 (i : grid0.Coords) (v164 : BitVec 32) : Prop :=
  (∀ (k0_h1 : k0_cond1 i = 1#1), ∀ a, (k0_off27 v164) a + S1x2048.size a ≤ S8704x2048.size a)
theorem k0_off27_inb : ∀ (i : grid0.Coords) (v164 : BitVec 32) (k0_hw26 : k0_chk26 i v164), ∀ (k0_h1 : k0_cond1 i = 1#1), ∀ a, (k0_off27 v164) a + S1x2048.size a ≤ S8704x2048.size a := fun i v164 k0_hw26 k0_h1 => k0_hw26 k0_h1

def k0_off28 (v169 : BitVec 32) : Fin 2 → Nat :=
  let c0_i32_102 : BitVec 32 := 0#32
  ![v169.toNat, 0]

def k0_chk27 (i : grid0.Coords) (v169 : BitVec 32) : Prop :=
  (∀ (k0_h1 : k0_cond1 i = 1#1), ∀ a, (k0_off28 v169) a + S1x2048.size a ≤ S8704x2048.size a)
theorem k0_off28_inb : ∀ (i : grid0.Coords) (v169 : BitVec 32) (k0_hw27 : k0_chk27 i v169), ∀ (k0_h1 : k0_cond1 i = 1#1), ∀ a, (k0_off28 v169) a + S1x2048.size a ≤ S8704x2048.size a := fun i v169 k0_hw27 k0_h1 => k0_hw27 k0_h1

def k0_off29 (v174 : BitVec 32) : Fin 2 → Nat :=
  let c0_i32_105 : BitVec 32 := 0#32
  ![v174.toNat, 0]

def k0_chk28 (i : grid0.Coords) (v174 : BitVec 32) : Prop :=
  (∀ (k0_h1 : k0_cond1 i = 1#1), ∀ a, (k0_off29 v174) a + S1x2048.size a ≤ S8704x2048.size a)
theorem k0_off29_inb : ∀ (i : grid0.Coords) (v174 : BitVec 32) (k0_hw28 : k0_chk28 i v174), ∀ (k0_h1 : k0_cond1 i = 1#1), ∀ a, (k0_off29 v174) a + S1x2048.size a ≤ S8704x2048.size a := fun i v174 k0_hw28 k0_h1 => k0_hw28 k0_h1

def k0_off30 (v179 : BitVec 32) : Fin 2 → Nat :=
  let c0_i32_108 : BitVec 32 := 0#32
  ![v179.toNat, 0]

def k0_chk29 (i : grid0.Coords) (v179 : BitVec 32) : Prop :=
  (∀ (k0_h1 : k0_cond1 i = 1#1), ∀ a, (k0_off30 v179) a + S1x2048.size a ≤ S8704x2048.size a)
theorem k0_off30_inb : ∀ (i : grid0.Coords) (v179 : BitVec 32) (k0_hw29 : k0_chk29 i v179), ∀ (k0_h1 : k0_cond1 i = 1#1), ∀ a, (k0_off30 v179) a + S1x2048.size a ≤ S8704x2048.size a := fun i v179 k0_hw29 k0_h1 => k0_hw29 k0_h1

def k0_off31 (v184 : BitVec 32) : Fin 2 → Nat :=
  let c0_i32_111 : BitVec 32 := 0#32
  ![v184.toNat, 0]

def k0_chk30 (i : grid0.Coords) (v184 : BitVec 32) : Prop :=
  (∀ (k0_h1 : k0_cond1 i = 1#1), ∀ a, (k0_off31 v184) a + S1x2048.size a ≤ S8704x2048.size a)
theorem k0_off31_inb : ∀ (i : grid0.Coords) (v184 : BitVec 32) (k0_hw30 : k0_chk30 i v184), ∀ (k0_h1 : k0_cond1 i = 1#1), ∀ a, (k0_off31 v184) a + S1x2048.size a ≤ S8704x2048.size a := fun i v184 k0_hw30 k0_h1 => k0_hw30 k0_h1

def k0_off32 (v189 : BitVec 32) : Fin 2 → Nat :=
  let c0_i32_114 : BitVec 32 := 0#32
  ![v189.toNat, 0]

def k0_chk31 (i : grid0.Coords) (v189 : BitVec 32) : Prop :=
  (∀ (k0_h1 : k0_cond1 i = 1#1), ∀ a, (k0_off32 v189) a + S1x2048.size a ≤ S8704x2048.size a)
theorem k0_off32_inb : ∀ (i : grid0.Coords) (v189 : BitVec 32) (k0_hw31 : k0_chk31 i v189), ∀ (k0_h1 : k0_cond1 i = 1#1), ∀ a, (k0_off32 v189) a + S1x2048.size a ≤ S8704x2048.size a := fun i v189 k0_hw31 k0_h1 => k0_hw31 k0_h1

def k0_off33 (v194 : BitVec 32) : Fin 2 → Nat :=
  let c0_i32_117 : BitVec 32 := 0#32
  ![v194.toNat, 0]

def k0_chk32 (i : grid0.Coords) (v194 : BitVec 32) : Prop :=
  (∀ (k0_h1 : k0_cond1 i = 1#1), ∀ a, (k0_off33 v194) a + S1x2048.size a ≤ S8704x2048.size a)
theorem k0_off33_inb : ∀ (i : grid0.Coords) (v194 : BitVec 32) (k0_hw32 : k0_chk32 i v194), ∀ (k0_h1 : k0_cond1 i = 1#1), ∀ a, (k0_off33 v194) a + S1x2048.size a ≤ S8704x2048.size a := fun i v194 k0_hw32 k0_h1 => k0_hw32 k0_h1

def k0_off34 (v199 : BitVec 32) : Fin 2 → Nat :=
  let c0_i32_120 : BitVec 32 := 0#32
  ![v199.toNat, 0]

def k0_chk33 (i : grid0.Coords) (v199 : BitVec 32) : Prop :=
  (∀ (k0_h1 : k0_cond1 i = 1#1), ∀ a, (k0_off34 v199) a + S1x2048.size a ≤ S8704x2048.size a)
theorem k0_off34_inb : ∀ (i : grid0.Coords) (v199 : BitVec 32) (k0_hw33 : k0_chk33 i v199), ∀ (k0_h1 : k0_cond1 i = 1#1), ∀ a, (k0_off34 v199) a + S1x2048.size a ≤ S8704x2048.size a := fun i v199 k0_hw33 k0_h1 => k0_hw33 k0_h1

def k0_off35 (v204 : BitVec 32) : Fin 2 → Nat :=
  let c0_i32_123 : BitVec 32 := 0#32
  ![v204.toNat, 0]

def k0_chk34 (i : grid0.Coords) (v204 : BitVec 32) : Prop :=
  (∀ (k0_h1 : k0_cond1 i = 1#1), ∀ a, (k0_off35 v204) a + S1x2048.size a ≤ S8704x2048.size a)
theorem k0_off35_inb : ∀ (i : grid0.Coords) (v204 : BitVec 32) (k0_hw34 : k0_chk34 i v204), ∀ (k0_h1 : k0_cond1 i = 1#1), ∀ a, (k0_off35 v204) a + S1x2048.size a ≤ S8704x2048.size a := fun i v204 k0_hw34 k0_h1 => k0_hw34 k0_h1

def k0_off36 (v209 : BitVec 32) : Fin 2 → Nat :=
  let c0_i32_126 : BitVec 32 := 0#32
  ![v209.toNat, 0]

def k0_chk35 (i : grid0.Coords) (v209 : BitVec 32) : Prop :=
  (∀ (k0_h1 : k0_cond1 i = 1#1), ∀ a, (k0_off36 v209) a + S1x2048.size a ≤ S8704x2048.size a)
theorem k0_off36_inb : ∀ (i : grid0.Coords) (v209 : BitVec 32) (k0_hw35 : k0_chk35 i v209), ∀ (k0_h1 : k0_cond1 i = 1#1), ∀ a, (k0_off36 v209) a + S1x2048.size a ≤ S8704x2048.size a := fun i v209 k0_hw35 k0_h1 => k0_hw35 k0_h1

def k0_off37 (v214 : BitVec 32) : Fin 2 → Nat :=
  let c0_i32_129 : BitVec 32 := 0#32
  ![v214.toNat, 0]

def k0_chk36 (i : grid0.Coords) (v214 : BitVec 32) : Prop :=
  (∀ (k0_h1 : k0_cond1 i = 1#1), ∀ a, (k0_off37 v214) a + S1x2048.size a ≤ S8704x2048.size a)
theorem k0_off37_inb : ∀ (i : grid0.Coords) (v214 : BitVec 32) (k0_hw36 : k0_chk36 i v214), ∀ (k0_h1 : k0_cond1 i = 1#1), ∀ a, (k0_off37 v214) a + S1x2048.size a ≤ S8704x2048.size a := fun i v214 k0_hw36 k0_h1 => k0_hw36 k0_h1

def k0_off38 (v219 : BitVec 32) : Fin 2 → Nat :=
  let c0_i32_132 : BitVec 32 := 0#32
  ![v219.toNat, 0]

def k0_chk37 (i : grid0.Coords) (v219 : BitVec 32) : Prop :=
  (∀ (k0_h1 : k0_cond1 i = 1#1), ∀ a, (k0_off38 v219) a + S1x2048.size a ≤ S8704x2048.size a)
theorem k0_off38_inb : ∀ (i : grid0.Coords) (v219 : BitVec 32) (k0_hw37 : k0_chk37 i v219), ∀ (k0_h1 : k0_cond1 i = 1#1), ∀ a, (k0_off38 v219) a + S1x2048.size a ≤ S8704x2048.size a := fun i v219 k0_hw37 k0_h1 => k0_hw37 k0_h1

def k0_off39 (v224 : BitVec 32) : Fin 2 → Nat :=
  let c0_i32_135 : BitVec 32 := 0#32
  ![v224.toNat, 0]

def k0_chk38 (i : grid0.Coords) (v224 : BitVec 32) : Prop :=
  (∀ (k0_h1 : k0_cond1 i = 1#1), ∀ a, (k0_off39 v224) a + S1x2048.size a ≤ S8704x2048.size a)
theorem k0_off39_inb : ∀ (i : grid0.Coords) (v224 : BitVec 32) (k0_hw38 : k0_chk38 i v224), ∀ (k0_h1 : k0_cond1 i = 1#1), ∀ a, (k0_off39 v224) a + S1x2048.size a ≤ S8704x2048.size a := fun i v224 k0_hw38 k0_h1 => k0_hw38 k0_h1

def k0_off40 (v229 : BitVec 32) : Fin 2 → Nat :=
  let c0_i32_138 : BitVec 32 := 0#32
  ![v229.toNat, 0]

def k0_chk39 (i : grid0.Coords) (v229 : BitVec 32) : Prop :=
  (∀ (k0_h1 : k0_cond1 i = 1#1), ∀ a, (k0_off40 v229) a + S1x2048.size a ≤ S8704x2048.size a)
theorem k0_off40_inb : ∀ (i : grid0.Coords) (v229 : BitVec 32) (k0_hw39 : k0_chk39 i v229), ∀ (k0_h1 : k0_cond1 i = 1#1), ∀ a, (k0_off40 v229) a + S1x2048.size a ≤ S8704x2048.size a := fun i v229 k0_hw39 k0_h1 => k0_hw39 k0_h1

def k0_off41 (v234 : BitVec 32) : Fin 2 → Nat :=
  let c0_i32_141 : BitVec 32 := 0#32
  ![v234.toNat, 0]

def k0_chk40 (i : grid0.Coords) (v234 : BitVec 32) : Prop :=
  (∀ (k0_h1 : k0_cond1 i = 1#1), ∀ a, (k0_off41 v234) a + S1x2048.size a ≤ S8704x2048.size a)
theorem k0_off41_inb : ∀ (i : grid0.Coords) (v234 : BitVec 32) (k0_hw40 : k0_chk40 i v234), ∀ (k0_h1 : k0_cond1 i = 1#1), ∀ a, (k0_off41 v234) a + S1x2048.size a ≤ S8704x2048.size a := fun i v234 k0_hw40 k0_h1 => k0_hw40 k0_h1

def k0_off42 (v239 : BitVec 32) : Fin 2 → Nat :=
  let c0_i32_144 : BitVec 32 := 0#32
  ![v239.toNat, 0]

def k0_chk41 (i : grid0.Coords) (v239 : BitVec 32) : Prop :=
  (∀ (k0_h1 : k0_cond1 i = 1#1), ∀ a, (k0_off42 v239) a + S1x2048.size a ≤ S8704x2048.size a)
theorem k0_off42_inb : ∀ (i : grid0.Coords) (v239 : BitVec 32) (k0_hw41 : k0_chk41 i v239), ∀ (k0_h1 : k0_cond1 i = 1#1), ∀ a, (k0_off42 v239) a + S1x2048.size a ≤ S8704x2048.size a := fun i v239 k0_hw41 k0_h1 => k0_hw41 k0_h1

def k0_off43 (v244 : BitVec 32) : Fin 2 → Nat :=
  let c0_i32_147 : BitVec 32 := 0#32
  ![v244.toNat, 0]

def k0_chk42 (i : grid0.Coords) (v244 : BitVec 32) : Prop :=
  (∀ (k0_h1 : k0_cond1 i = 1#1), ∀ a, (k0_off43 v244) a + S1x2048.size a ≤ S8704x2048.size a)
theorem k0_off43_inb : ∀ (i : grid0.Coords) (v244 : BitVec 32) (k0_hw42 : k0_chk42 i v244), ∀ (k0_h1 : k0_cond1 i = 1#1), ∀ a, (k0_off43 v244) a + S1x2048.size a ≤ S8704x2048.size a := fun i v244 k0_hw42 k0_h1 => k0_hw42 k0_h1

def k0_off44 (v249 : BitVec 32) : Fin 2 → Nat :=
  let c0_i32_150 : BitVec 32 := 0#32
  ![v249.toNat, 0]

def k0_chk43 (i : grid0.Coords) (v249 : BitVec 32) : Prop :=
  (∀ (k0_h1 : k0_cond1 i = 1#1), ∀ a, (k0_off44 v249) a + S1x2048.size a ≤ S8704x2048.size a)
theorem k0_off44_inb : ∀ (i : grid0.Coords) (v249 : BitVec 32) (k0_hw43 : k0_chk43 i v249), ∀ (k0_h1 : k0_cond1 i = 1#1), ∀ a, (k0_off44 v249) a + S1x2048.size a ≤ S8704x2048.size a := fun i v249 k0_hw43 k0_h1 => k0_hw43 k0_h1

def k0_off45 (v254 : BitVec 32) : Fin 2 → Nat :=
  let c0_i32_153 : BitVec 32 := 0#32
  ![v254.toNat, 0]

def k0_chk44 (i : grid0.Coords) (v254 : BitVec 32) : Prop :=
  (∀ (k0_h1 : k0_cond1 i = 1#1), ∀ a, (k0_off45 v254) a + S1x2048.size a ≤ S8704x2048.size a)
theorem k0_off45_inb : ∀ (i : grid0.Coords) (v254 : BitVec 32) (k0_hw44 : k0_chk44 i v254), ∀ (k0_h1 : k0_cond1 i = 1#1), ∀ a, (k0_off45 v254) a + S1x2048.size a ≤ S8704x2048.size a := fun i v254 k0_hw44 k0_h1 => k0_hw44 k0_h1

def k0_off46 (v259 : BitVec 32) : Fin 2 → Nat :=
  let c0_i32_156 : BitVec 32 := 0#32
  ![v259.toNat, 0]

def k0_chk45 (i : grid0.Coords) (v259 : BitVec 32) : Prop :=
  (∀ (k0_h1 : k0_cond1 i = 1#1), ∀ a, (k0_off46 v259) a + S1x2048.size a ≤ S8704x2048.size a)
theorem k0_off46_inb : ∀ (i : grid0.Coords) (v259 : BitVec 32) (k0_hw45 : k0_chk45 i v259), ∀ (k0_h1 : k0_cond1 i = 1#1), ∀ a, (k0_off46 v259) a + S1x2048.size a ≤ S8704x2048.size a := fun i v259 k0_hw45 k0_h1 => k0_hw45 k0_h1

def k0_off47 (v264 : BitVec 32) : Fin 2 → Nat :=
  let c0_i32_159 : BitVec 32 := 0#32
  ![v264.toNat, 0]

def k0_chk46 (i : grid0.Coords) (v264 : BitVec 32) : Prop :=
  (∀ (k0_h1 : k0_cond1 i = 1#1), ∀ a, (k0_off47 v264) a + S1x2048.size a ≤ S8704x2048.size a)
theorem k0_off47_inb : ∀ (i : grid0.Coords) (v264 : BitVec 32) (k0_hw46 : k0_chk46 i v264), ∀ (k0_h1 : k0_cond1 i = 1#1), ∀ a, (k0_off47 v264) a + S1x2048.size a ≤ S8704x2048.size a := fun i v264 k0_hw46 k0_h1 => k0_hw46 k0_h1

def k0_off48 (v269 : BitVec 32) : Fin 2 → Nat :=
  let c0_i32_162 : BitVec 32 := 0#32
  ![v269.toNat, 0]

def k0_chk47 (i : grid0.Coords) (v269 : BitVec 32) : Prop :=
  (∀ (k0_h1 : k0_cond1 i = 1#1), ∀ a, (k0_off48 v269) a + S1x2048.size a ≤ S8704x2048.size a)
theorem k0_off48_inb : ∀ (i : grid0.Coords) (v269 : BitVec 32) (k0_hw47 : k0_chk47 i v269), ∀ (k0_h1 : k0_cond1 i = 1#1), ∀ a, (k0_off48 v269) a + S1x2048.size a ≤ S8704x2048.size a := fun i v269 k0_hw47 k0_h1 => k0_hw47 k0_h1

def k0_off49 (v274 : BitVec 32) : Fin 2 → Nat :=
  let c0_i32_165 : BitVec 32 := 0#32
  ![v274.toNat, 0]

def k0_chk48 (i : grid0.Coords) (v274 : BitVec 32) : Prop :=
  (∀ (k0_h1 : k0_cond1 i = 1#1), ∀ a, (k0_off49 v274) a + S1x2048.size a ≤ S8704x2048.size a)
theorem k0_off49_inb : ∀ (i : grid0.Coords) (v274 : BitVec 32) (k0_hw48 : k0_chk48 i v274), ∀ (k0_h1 : k0_cond1 i = 1#1), ∀ a, (k0_off49 v274) a + S1x2048.size a ≤ S8704x2048.size a := fun i v274 k0_hw48 k0_h1 => k0_hw48 k0_h1

def k0_off50 (v279 : BitVec 32) : Fin 2 → Nat :=
  let c0_i32_168 : BitVec 32 := 0#32
  ![v279.toNat, 0]

def k0_chk49 (i : grid0.Coords) (v279 : BitVec 32) : Prop :=
  (∀ (k0_h1 : k0_cond1 i = 1#1), ∀ a, (k0_off50 v279) a + S1x2048.size a ≤ S8704x2048.size a)
theorem k0_off50_inb : ∀ (i : grid0.Coords) (v279 : BitVec 32) (k0_hw49 : k0_chk49 i v279), ∀ (k0_h1 : k0_cond1 i = 1#1), ∀ a, (k0_off50 v279) a + S1x2048.size a ≤ S8704x2048.size a := fun i v279 k0_hw49 k0_h1 => k0_hw49 k0_h1

def k0_off51 (v284 : BitVec 32) : Fin 2 → Nat :=
  let c0_i32_171 : BitVec 32 := 0#32
  ![v284.toNat, 0]

def k0_chk50 (i : grid0.Coords) (v284 : BitVec 32) : Prop :=
  (∀ (k0_h1 : k0_cond1 i = 1#1), ∀ a, (k0_off51 v284) a + S1x2048.size a ≤ S8704x2048.size a)
theorem k0_off51_inb : ∀ (i : grid0.Coords) (v284 : BitVec 32) (k0_hw50 : k0_chk50 i v284), ∀ (k0_h1 : k0_cond1 i = 1#1), ∀ a, (k0_off51 v284) a + S1x2048.size a ≤ S8704x2048.size a := fun i v284 k0_hw50 k0_h1 => k0_hw50 k0_h1

def k0_off52 (v289 : BitVec 32) : Fin 2 → Nat :=
  let c0_i32_174 : BitVec 32 := 0#32
  ![v289.toNat, 0]

def k0_chk51 (i : grid0.Coords) (v289 : BitVec 32) : Prop :=
  (∀ (k0_h1 : k0_cond1 i = 1#1), ∀ a, (k0_off52 v289) a + S1x2048.size a ≤ S8704x2048.size a)
theorem k0_off52_inb : ∀ (i : grid0.Coords) (v289 : BitVec 32) (k0_hw51 : k0_chk51 i v289), ∀ (k0_h1 : k0_cond1 i = 1#1), ∀ a, (k0_off52 v289) a + S1x2048.size a ≤ S8704x2048.size a := fun i v289 k0_hw51 k0_h1 => k0_hw51 k0_h1

def k0_off53 (v294 : BitVec 32) : Fin 2 → Nat :=
  let c0_i32_177 : BitVec 32 := 0#32
  ![v294.toNat, 0]

def k0_chk52 (i : grid0.Coords) (v294 : BitVec 32) : Prop :=
  (∀ (k0_h1 : k0_cond1 i = 1#1), ∀ a, (k0_off53 v294) a + S1x2048.size a ≤ S8704x2048.size a)
theorem k0_off53_inb : ∀ (i : grid0.Coords) (v294 : BitVec 32) (k0_hw52 : k0_chk52 i v294), ∀ (k0_h1 : k0_cond1 i = 1#1), ∀ a, (k0_off53 v294) a + S1x2048.size a ≤ S8704x2048.size a := fun i v294 k0_hw52 k0_h1 => k0_hw52 k0_h1

def k0_off54 (v299 : BitVec 32) : Fin 2 → Nat :=
  let c0_i32_180 : BitVec 32 := 0#32
  ![v299.toNat, 0]

def k0_chk53 (i : grid0.Coords) (v299 : BitVec 32) : Prop :=
  (∀ (k0_h1 : k0_cond1 i = 1#1), ∀ a, (k0_off54 v299) a + S1x2048.size a ≤ S8704x2048.size a)
theorem k0_off54_inb : ∀ (i : grid0.Coords) (v299 : BitVec 32) (k0_hw53 : k0_chk53 i v299), ∀ (k0_h1 : k0_cond1 i = 1#1), ∀ a, (k0_off54 v299) a + S1x2048.size a ≤ S8704x2048.size a := fun i v299 k0_hw53 k0_h1 => k0_hw53 k0_h1

def k0_off55 (v304 : BitVec 32) : Fin 2 → Nat :=
  let c0_i32_183 : BitVec 32 := 0#32
  ![v304.toNat, 0]

def k0_chk54 (i : grid0.Coords) (v304 : BitVec 32) : Prop :=
  (∀ (k0_h1 : k0_cond1 i = 1#1), ∀ a, (k0_off55 v304) a + S1x2048.size a ≤ S8704x2048.size a)
theorem k0_off55_inb : ∀ (i : grid0.Coords) (v304 : BitVec 32) (k0_hw54 : k0_chk54 i v304), ∀ (k0_h1 : k0_cond1 i = 1#1), ∀ a, (k0_off55 v304) a + S1x2048.size a ≤ S8704x2048.size a := fun i v304 k0_hw54 k0_h1 => k0_hw54 k0_h1

def k0_off56 (v309 : BitVec 32) : Fin 2 → Nat :=
  let c0_i32_186 : BitVec 32 := 0#32
  ![v309.toNat, 0]

def k0_chk55 (i : grid0.Coords) (v309 : BitVec 32) : Prop :=
  (∀ (k0_h1 : k0_cond1 i = 1#1), ∀ a, (k0_off56 v309) a + S1x2048.size a ≤ S8704x2048.size a)
theorem k0_off56_inb : ∀ (i : grid0.Coords) (v309 : BitVec 32) (k0_hw55 : k0_chk55 i v309), ∀ (k0_h1 : k0_cond1 i = 1#1), ∀ a, (k0_off56 v309) a + S1x2048.size a ≤ S8704x2048.size a := fun i v309 k0_hw55 k0_h1 => k0_hw55 k0_h1

def k0_off57 (v314 : BitVec 32) : Fin 2 → Nat :=
  let c0_i32_189 : BitVec 32 := 0#32
  ![v314.toNat, 0]

def k0_chk56 (i : grid0.Coords) (v314 : BitVec 32) : Prop :=
  (∀ (k0_h1 : k0_cond1 i = 1#1), ∀ a, (k0_off57 v314) a + S1x2048.size a ≤ S8704x2048.size a)
theorem k0_off57_inb : ∀ (i : grid0.Coords) (v314 : BitVec 32) (k0_hw56 : k0_chk56 i v314), ∀ (k0_h1 : k0_cond1 i = 1#1), ∀ a, (k0_off57 v314) a + S1x2048.size a ≤ S8704x2048.size a := fun i v314 k0_hw56 k0_h1 => k0_hw56 k0_h1

def k0_off58 (v319 : BitVec 32) : Fin 2 → Nat :=
  let c0_i32_192 : BitVec 32 := 0#32
  ![v319.toNat, 0]

def k0_chk57 (i : grid0.Coords) (v319 : BitVec 32) : Prop :=
  (∀ (k0_h1 : k0_cond1 i = 1#1), ∀ a, (k0_off58 v319) a + S1x2048.size a ≤ S8704x2048.size a)
theorem k0_off58_inb : ∀ (i : grid0.Coords) (v319 : BitVec 32) (k0_hw57 : k0_chk57 i v319), ∀ (k0_h1 : k0_cond1 i = 1#1), ∀ a, (k0_off58 v319) a + S1x2048.size a ≤ S8704x2048.size a := fun i v319 k0_hw57 k0_h1 => k0_hw57 k0_h1

def k0_off59 (v324 : BitVec 32) : Fin 2 → Nat :=
  let c0_i32_195 : BitVec 32 := 0#32
  ![v324.toNat, 0]

def k0_chk58 (i : grid0.Coords) (v324 : BitVec 32) : Prop :=
  (∀ (k0_h1 : k0_cond1 i = 1#1), ∀ a, (k0_off59 v324) a + S1x2048.size a ≤ S8704x2048.size a)
theorem k0_off59_inb : ∀ (i : grid0.Coords) (v324 : BitVec 32) (k0_hw58 : k0_chk58 i v324), ∀ (k0_h1 : k0_cond1 i = 1#1), ∀ a, (k0_off59 v324) a + S1x2048.size a ≤ S8704x2048.size a := fun i v324 k0_hw58 k0_h1 => k0_hw58 k0_h1

def k0_off60 (v329 : BitVec 32) : Fin 2 → Nat :=
  let c0_i32_198 : BitVec 32 := 0#32
  ![v329.toNat, 0]

def k0_chk59 (i : grid0.Coords) (v329 : BitVec 32) : Prop :=
  (∀ (k0_h1 : k0_cond1 i = 1#1), ∀ a, (k0_off60 v329) a + S1x2048.size a ≤ S8704x2048.size a)
theorem k0_off60_inb : ∀ (i : grid0.Coords) (v329 : BitVec 32) (k0_hw59 : k0_chk59 i v329), ∀ (k0_h1 : k0_cond1 i = 1#1), ∀ a, (k0_off60 v329) a + S1x2048.size a ≤ S8704x2048.size a := fun i v329 k0_hw59 k0_h1 => k0_hw59 k0_h1

def k0_off61 (v334 : BitVec 32) : Fin 2 → Nat :=
  let c0_i32_201 : BitVec 32 := 0#32
  ![v334.toNat, 0]

def k0_chk60 (i : grid0.Coords) (v334 : BitVec 32) : Prop :=
  (∀ (k0_h1 : k0_cond1 i = 1#1), ∀ a, (k0_off61 v334) a + S1x2048.size a ≤ S8704x2048.size a)
theorem k0_off61_inb : ∀ (i : grid0.Coords) (v334 : BitVec 32) (k0_hw60 : k0_chk60 i v334), ∀ (k0_h1 : k0_cond1 i = 1#1), ∀ a, (k0_off61 v334) a + S1x2048.size a ≤ S8704x2048.size a := fun i v334 k0_hw60 k0_h1 => k0_hw60 k0_h1

def k0_off62 (v339 : BitVec 32) : Fin 2 → Nat :=
  let c0_i32_204 : BitVec 32 := 0#32
  ![v339.toNat, 0]

def k0_chk61 (i : grid0.Coords) (v339 : BitVec 32) : Prop :=
  (∀ (k0_h1 : k0_cond1 i = 1#1), ∀ a, (k0_off62 v339) a + S1x2048.size a ≤ S8704x2048.size a)
theorem k0_off62_inb : ∀ (i : grid0.Coords) (v339 : BitVec 32) (k0_hw61 : k0_chk61 i v339), ∀ (k0_h1 : k0_cond1 i = 1#1), ∀ a, (k0_off62 v339) a + S1x2048.size a ≤ S8704x2048.size a := fun i v339 k0_hw61 k0_h1 => k0_hw61 k0_h1

def k0_off63 (v344 : BitVec 32) : Fin 2 → Nat :=
  let c0_i32_207 : BitVec 32 := 0#32
  ![v344.toNat, 0]

def k0_chk62 (i : grid0.Coords) (v344 : BitVec 32) : Prop :=
  (∀ (k0_h1 : k0_cond1 i = 1#1), ∀ a, (k0_off63 v344) a + S1x2048.size a ≤ S8704x2048.size a)
theorem k0_off63_inb : ∀ (i : grid0.Coords) (v344 : BitVec 32) (k0_hw62 : k0_chk62 i v344), ∀ (k0_h1 : k0_cond1 i = 1#1), ∀ a, (k0_off63 v344) a + S1x2048.size a ≤ S8704x2048.size a := fun i v344 k0_hw62 k0_h1 => k0_hw62 k0_h1

def k0_off64 (v349 : BitVec 32) : Fin 2 → Nat :=
  let c0_i32_210 : BitVec 32 := 0#32
  ![v349.toNat, 0]

def k0_chk63 (i : grid0.Coords) (v349 : BitVec 32) : Prop :=
  (∀ (k0_h1 : k0_cond1 i = 1#1), ∀ a, (k0_off64 v349) a + S1x2048.size a ≤ S8704x2048.size a)
theorem k0_off64_inb : ∀ (i : grid0.Coords) (v349 : BitVec 32) (k0_hw63 : k0_chk63 i v349), ∀ (k0_h1 : k0_cond1 i = 1#1), ∀ a, (k0_off64 v349) a + S1x2048.size a ≤ S8704x2048.size a := fun i v349 k0_hw63 k0_h1 => k0_hw63 k0_h1

def k0_off65 (v354 : BitVec 32) : Fin 2 → Nat :=
  let c0_i32_213 : BitVec 32 := 0#32
  ![v354.toNat, 0]

def k0_chk64 (i : grid0.Coords) (v354 : BitVec 32) : Prop :=
  (∀ (k0_h1 : k0_cond1 i = 1#1), ∀ a, (k0_off65 v354) a + S1x2048.size a ≤ S8704x2048.size a)
theorem k0_off65_inb : ∀ (i : grid0.Coords) (v354 : BitVec 32) (k0_hw64 : k0_chk64 i v354), ∀ (k0_h1 : k0_cond1 i = 1#1), ∀ a, (k0_off65 v354) a + S1x2048.size a ≤ S8704x2048.size a := fun i v354 k0_hw64 k0_h1 => k0_hw64 k0_h1

def k0_off66 (v359 : BitVec 32) : Fin 2 → Nat :=
  let c0_i32_216 : BitVec 32 := 0#32
  ![v359.toNat, 0]

def k0_chk65 (i : grid0.Coords) (v359 : BitVec 32) : Prop :=
  (∀ (k0_h1 : k0_cond1 i = 1#1), ∀ a, (k0_off66 v359) a + S1x2048.size a ≤ S8704x2048.size a)
theorem k0_off66_inb : ∀ (i : grid0.Coords) (v359 : BitVec 32) (k0_hw65 : k0_chk65 i v359), ∀ (k0_h1 : k0_cond1 i = 1#1), ∀ a, (k0_off66 v359) a + S1x2048.size a ≤ S8704x2048.size a := fun i v359 k0_hw65 k0_h1 => k0_hw65 k0_h1

def k0_off67 (v364 : BitVec 32) : Fin 2 → Nat :=
  let c0_i32_219 : BitVec 32 := 0#32
  ![v364.toNat, 0]

def k0_chk66 (i : grid0.Coords) (v364 : BitVec 32) : Prop :=
  (∀ (k0_h1 : k0_cond1 i = 1#1), ∀ a, (k0_off67 v364) a + S1x2048.size a ≤ S8704x2048.size a)
theorem k0_off67_inb : ∀ (i : grid0.Coords) (v364 : BitVec 32) (k0_hw66 : k0_chk66 i v364), ∀ (k0_h1 : k0_cond1 i = 1#1), ∀ a, (k0_off67 v364) a + S1x2048.size a ≤ S8704x2048.size a := fun i v364 k0_hw66 k0_h1 => k0_hw66 k0_h1

def k0_off68 (v369 : BitVec 32) : Fin 2 → Nat :=
  let c0_i32_222 : BitVec 32 := 0#32
  ![v369.toNat, 0]

def k0_chk67 (i : grid0.Coords) (v369 : BitVec 32) : Prop :=
  (∀ (k0_h1 : k0_cond1 i = 1#1), ∀ a, (k0_off68 v369) a + S1x2048.size a ≤ S8704x2048.size a)
theorem k0_off68_inb : ∀ (i : grid0.Coords) (v369 : BitVec 32) (k0_hw67 : k0_chk67 i v369), ∀ (k0_h1 : k0_cond1 i = 1#1), ∀ a, (k0_off68 v369) a + S1x2048.size a ≤ S8704x2048.size a := fun i v369 k0_hw67 k0_h1 => k0_hw67 k0_h1

def k0_off69 (v374 : BitVec 32) : Fin 2 → Nat :=
  let c0_i32_225 : BitVec 32 := 0#32
  ![v374.toNat, 0]

def k0_chk68 (i : grid0.Coords) (v374 : BitVec 32) : Prop :=
  (∀ (k0_h1 : k0_cond1 i = 1#1), ∀ a, (k0_off69 v374) a + S1x2048.size a ≤ S8704x2048.size a)
theorem k0_off69_inb : ∀ (i : grid0.Coords) (v374 : BitVec 32) (k0_hw68 : k0_chk68 i v374), ∀ (k0_h1 : k0_cond1 i = 1#1), ∀ a, (k0_off69 v374) a + S1x2048.size a ≤ S8704x2048.size a := fun i v374 k0_hw68 k0_h1 => k0_hw68 k0_h1

def k0_off70 (v379 : BitVec 32) : Fin 2 → Nat :=
  let c0_i32_228 : BitVec 32 := 0#32
  ![v379.toNat, 0]

def k0_chk69 (i : grid0.Coords) (v379 : BitVec 32) : Prop :=
  (∀ (k0_h1 : k0_cond1 i = 1#1), ∀ a, (k0_off70 v379) a + S1x2048.size a ≤ S8704x2048.size a)
theorem k0_off70_inb : ∀ (i : grid0.Coords) (v379 : BitVec 32) (k0_hw69 : k0_chk69 i v379), ∀ (k0_h1 : k0_cond1 i = 1#1), ∀ a, (k0_off70 v379) a + S1x2048.size a ≤ S8704x2048.size a := fun i v379 k0_hw69 k0_h1 => k0_hw69 k0_h1

def k0_off71 (v384 : BitVec 32) : Fin 2 → Nat :=
  let c0_i32_231 : BitVec 32 := 0#32
  ![v384.toNat, 0]

def k0_chk70 (i : grid0.Coords) (v384 : BitVec 32) : Prop :=
  (∀ (k0_h1 : k0_cond1 i = 1#1), ∀ a, (k0_off71 v384) a + S1x2048.size a ≤ S8704x2048.size a)
theorem k0_off71_inb : ∀ (i : grid0.Coords) (v384 : BitVec 32) (k0_hw70 : k0_chk70 i v384), ∀ (k0_h1 : k0_cond1 i = 1#1), ∀ a, (k0_off71 v384) a + S1x2048.size a ≤ S8704x2048.size a := fun i v384 k0_hw70 k0_h1 => k0_hw70 k0_h1

def k0_off72 (v389 : BitVec 32) : Fin 2 → Nat :=
  let c0_i32_234 : BitVec 32 := 0#32
  ![v389.toNat, 0]

def k0_chk71 (i : grid0.Coords) (v389 : BitVec 32) : Prop :=
  (∀ (k0_h1 : k0_cond1 i = 1#1), ∀ a, (k0_off72 v389) a + S1x2048.size a ≤ S8704x2048.size a)
theorem k0_off72_inb : ∀ (i : grid0.Coords) (v389 : BitVec 32) (k0_hw71 : k0_chk71 i v389), ∀ (k0_h1 : k0_cond1 i = 1#1), ∀ a, (k0_off72 v389) a + S1x2048.size a ≤ S8704x2048.size a := fun i v389 k0_hw71 k0_h1 => k0_hw71 k0_h1

def k0_off73 (v394 : BitVec 32) : Fin 2 → Nat :=
  let c0_i32_237 : BitVec 32 := 0#32
  ![v394.toNat, 0]

def k0_chk72 (i : grid0.Coords) (v394 : BitVec 32) : Prop :=
  (∀ (k0_h1 : k0_cond1 i = 1#1), ∀ a, (k0_off73 v394) a + S1x2048.size a ≤ S8704x2048.size a)
theorem k0_off73_inb : ∀ (i : grid0.Coords) (v394 : BitVec 32) (k0_hw72 : k0_chk72 i v394), ∀ (k0_h1 : k0_cond1 i = 1#1), ∀ a, (k0_off73 v394) a + S1x2048.size a ≤ S8704x2048.size a := fun i v394 k0_hw72 k0_h1 => k0_hw72 k0_h1

def k0_off74 (v399 : BitVec 32) : Fin 2 → Nat :=
  let c0_i32_240 : BitVec 32 := 0#32
  ![v399.toNat, 0]

def k0_chk73 (i : grid0.Coords) (v399 : BitVec 32) : Prop :=
  (∀ (k0_h1 : k0_cond1 i = 1#1), ∀ a, (k0_off74 v399) a + S1x2048.size a ≤ S8704x2048.size a)
theorem k0_off74_inb : ∀ (i : grid0.Coords) (v399 : BitVec 32) (k0_hw73 : k0_chk73 i v399), ∀ (k0_h1 : k0_cond1 i = 1#1), ∀ a, (k0_off74 v399) a + S1x2048.size a ≤ S8704x2048.size a := fun i v399 k0_hw73 k0_h1 => k0_hw73 k0_h1

def k0_off75 (v404 : BitVec 32) : Fin 2 → Nat :=
  let c0_i32_243 : BitVec 32 := 0#32
  ![v404.toNat, 0]

def k0_chk74 (i : grid0.Coords) (v404 : BitVec 32) : Prop :=
  (∀ (k0_h1 : k0_cond1 i = 1#1), ∀ a, (k0_off75 v404) a + S1x2048.size a ≤ S8704x2048.size a)
theorem k0_off75_inb : ∀ (i : grid0.Coords) (v404 : BitVec 32) (k0_hw74 : k0_chk74 i v404), ∀ (k0_h1 : k0_cond1 i = 1#1), ∀ a, (k0_off75 v404) a + S1x2048.size a ≤ S8704x2048.size a := fun i v404 k0_hw74 k0_h1 => k0_hw74 k0_h1

def k0_off76 (v409 : BitVec 32) : Fin 2 → Nat :=
  let c0_i32_246 : BitVec 32 := 0#32
  ![v409.toNat, 0]

def k0_chk75 (i : grid0.Coords) (v409 : BitVec 32) : Prop :=
  (∀ (k0_h1 : k0_cond1 i = 1#1), ∀ a, (k0_off76 v409) a + S1x2048.size a ≤ S8704x2048.size a)
theorem k0_off76_inb : ∀ (i : grid0.Coords) (v409 : BitVec 32) (k0_hw75 : k0_chk75 i v409), ∀ (k0_h1 : k0_cond1 i = 1#1), ∀ a, (k0_off76 v409) a + S1x2048.size a ≤ S8704x2048.size a := fun i v409 k0_hw75 k0_h1 => k0_hw75 k0_h1

def k0_off77 (v414 : BitVec 32) : Fin 2 → Nat :=
  let c0_i32_249 : BitVec 32 := 0#32
  ![v414.toNat, 0]

def k0_chk76 (i : grid0.Coords) (v414 : BitVec 32) : Prop :=
  (∀ (k0_h1 : k0_cond1 i = 1#1), ∀ a, (k0_off77 v414) a + S1x2048.size a ≤ S8704x2048.size a)
theorem k0_off77_inb : ∀ (i : grid0.Coords) (v414 : BitVec 32) (k0_hw76 : k0_chk76 i v414), ∀ (k0_h1 : k0_cond1 i = 1#1), ∀ a, (k0_off77 v414) a + S1x2048.size a ≤ S8704x2048.size a := fun i v414 k0_hw76 k0_h1 => k0_hw76 k0_h1

def k0_off78 (v419 : BitVec 32) : Fin 2 → Nat :=
  let c0_i32_252 : BitVec 32 := 0#32
  ![v419.toNat, 0]

def k0_chk77 (i : grid0.Coords) (v419 : BitVec 32) : Prop :=
  (∀ (k0_h1 : k0_cond1 i = 1#1), ∀ a, (k0_off78 v419) a + S1x2048.size a ≤ S8704x2048.size a)
theorem k0_off78_inb : ∀ (i : grid0.Coords) (v419 : BitVec 32) (k0_hw77 : k0_chk77 i v419), ∀ (k0_h1 : k0_cond1 i = 1#1), ∀ a, (k0_off78 v419) a + S1x2048.size a ≤ S8704x2048.size a := fun i v419 k0_hw77 k0_h1 => k0_hw77 k0_h1

def k0_off79 (v424 : BitVec 32) : Fin 2 → Nat :=
  let c0_i32_255 : BitVec 32 := 0#32
  ![v424.toNat, 0]

def k0_chk78 (i : grid0.Coords) (v424 : BitVec 32) : Prop :=
  (∀ (k0_h1 : k0_cond1 i = 1#1), ∀ a, (k0_off79 v424) a + S1x2048.size a ≤ S8704x2048.size a)
theorem k0_off79_inb : ∀ (i : grid0.Coords) (v424 : BitVec 32) (k0_hw78 : k0_chk78 i v424), ∀ (k0_h1 : k0_cond1 i = 1#1), ∀ a, (k0_off79 v424) a + S1x2048.size a ≤ S8704x2048.size a := fun i v424 k0_hw78 k0_h1 => k0_hw78 k0_h1

def k0_off80 (v429 : BitVec 32) : Fin 2 → Nat :=
  let c0_i32_258 : BitVec 32 := 0#32
  ![v429.toNat, 0]

def k0_chk79 (i : grid0.Coords) (v429 : BitVec 32) : Prop :=
  (∀ (k0_h1 : k0_cond1 i = 1#1), ∀ a, (k0_off80 v429) a + S1x2048.size a ≤ S8704x2048.size a)
theorem k0_off80_inb : ∀ (i : grid0.Coords) (v429 : BitVec 32) (k0_hw79 : k0_chk79 i v429), ∀ (k0_h1 : k0_cond1 i = 1#1), ∀ a, (k0_off80 v429) a + S1x2048.size a ≤ S8704x2048.size a := fun i v429 k0_hw79 k0_h1 => k0_hw79 k0_h1

def k0_off81 (v434 : BitVec 32) : Fin 2 → Nat :=
  let c0_i32_261 : BitVec 32 := 0#32
  ![v434.toNat, 0]

def k0_chk80 (i : grid0.Coords) (v434 : BitVec 32) : Prop :=
  (∀ (k0_h1 : k0_cond1 i = 1#1), ∀ a, (k0_off81 v434) a + S1x2048.size a ≤ S8704x2048.size a)
theorem k0_off81_inb : ∀ (i : grid0.Coords) (v434 : BitVec 32) (k0_hw80 : k0_chk80 i v434), ∀ (k0_h1 : k0_cond1 i = 1#1), ∀ a, (k0_off81 v434) a + S1x2048.size a ≤ S8704x2048.size a := fun i v434 k0_hw80 k0_h1 => k0_hw80 k0_h1

def k0_off82 (v439 : BitVec 32) : Fin 2 → Nat :=
  let c0_i32_264 : BitVec 32 := 0#32
  ![v439.toNat, 0]

def k0_chk81 (i : grid0.Coords) (v439 : BitVec 32) : Prop :=
  (∀ (k0_h1 : k0_cond1 i = 1#1), ∀ a, (k0_off82 v439) a + S1x2048.size a ≤ S8704x2048.size a)
theorem k0_off82_inb : ∀ (i : grid0.Coords) (v439 : BitVec 32) (k0_hw81 : k0_chk81 i v439), ∀ (k0_h1 : k0_cond1 i = 1#1), ∀ a, (k0_off82 v439) a + S1x2048.size a ≤ S8704x2048.size a := fun i v439 k0_hw81 k0_h1 => k0_hw81 k0_h1

def k0_off83 (v444 : BitVec 32) : Fin 2 → Nat :=
  let c0_i32_267 : BitVec 32 := 0#32
  ![v444.toNat, 0]

def k0_chk82 (i : grid0.Coords) (v444 : BitVec 32) : Prop :=
  (∀ (k0_h1 : k0_cond1 i = 1#1), ∀ a, (k0_off83 v444) a + S1x2048.size a ≤ S8704x2048.size a)
theorem k0_off83_inb : ∀ (i : grid0.Coords) (v444 : BitVec 32) (k0_hw82 : k0_chk82 i v444), ∀ (k0_h1 : k0_cond1 i = 1#1), ∀ a, (k0_off83 v444) a + S1x2048.size a ≤ S8704x2048.size a := fun i v444 k0_hw82 k0_h1 => k0_hw82 k0_h1

def k0_off84 (v449 : BitVec 32) : Fin 2 → Nat :=
  let c0_i32_270 : BitVec 32 := 0#32
  ![v449.toNat, 0]

def k0_chk83 (i : grid0.Coords) (v449 : BitVec 32) : Prop :=
  (∀ (k0_h1 : k0_cond1 i = 1#1), ∀ a, (k0_off84 v449) a + S1x2048.size a ≤ S8704x2048.size a)
theorem k0_off84_inb : ∀ (i : grid0.Coords) (v449 : BitVec 32) (k0_hw83 : k0_chk83 i v449), ∀ (k0_h1 : k0_cond1 i = 1#1), ∀ a, (k0_off84 v449) a + S1x2048.size a ≤ S8704x2048.size a := fun i v449 k0_hw83 k0_h1 => k0_hw83 k0_h1

def k0_off85 (v454 : BitVec 32) : Fin 2 → Nat :=
  let c0_i32_273 : BitVec 32 := 0#32
  ![v454.toNat, 0]

def k0_chk84 (i : grid0.Coords) (v454 : BitVec 32) : Prop :=
  (∀ (k0_h1 : k0_cond1 i = 1#1), ∀ a, (k0_off85 v454) a + S1x2048.size a ≤ S8704x2048.size a)
theorem k0_off85_inb : ∀ (i : grid0.Coords) (v454 : BitVec 32) (k0_hw84 : k0_chk84 i v454), ∀ (k0_h1 : k0_cond1 i = 1#1), ∀ a, (k0_off85 v454) a + S1x2048.size a ≤ S8704x2048.size a := fun i v454 k0_hw84 k0_h1 => k0_hw84 k0_h1

def k0_off86 (v459 : BitVec 32) : Fin 2 → Nat :=
  let c0_i32_276 : BitVec 32 := 0#32
  ![v459.toNat, 0]

def k0_chk85 (i : grid0.Coords) (v459 : BitVec 32) : Prop :=
  (∀ (k0_h1 : k0_cond1 i = 1#1), ∀ a, (k0_off86 v459) a + S1x2048.size a ≤ S8704x2048.size a)
theorem k0_off86_inb : ∀ (i : grid0.Coords) (v459 : BitVec 32) (k0_hw85 : k0_chk85 i v459), ∀ (k0_h1 : k0_cond1 i = 1#1), ∀ a, (k0_off86 v459) a + S1x2048.size a ≤ S8704x2048.size a := fun i v459 k0_hw85 k0_h1 => k0_hw85 k0_h1

def k0_off87 (v464 : BitVec 32) : Fin 2 → Nat :=
  let c0_i32_279 : BitVec 32 := 0#32
  ![v464.toNat, 0]

def k0_chk86 (i : grid0.Coords) (v464 : BitVec 32) : Prop :=
  (∀ (k0_h1 : k0_cond1 i = 1#1), ∀ a, (k0_off87 v464) a + S1x2048.size a ≤ S8704x2048.size a)
theorem k0_off87_inb : ∀ (i : grid0.Coords) (v464 : BitVec 32) (k0_hw86 : k0_chk86 i v464), ∀ (k0_h1 : k0_cond1 i = 1#1), ∀ a, (k0_off87 v464) a + S1x2048.size a ≤ S8704x2048.size a := fun i v464 k0_hw86 k0_h1 => k0_hw86 k0_h1

def k0_off88 (v469 : BitVec 32) : Fin 2 → Nat :=
  let c0_i32_282 : BitVec 32 := 0#32
  ![v469.toNat, 0]

def k0_chk87 (i : grid0.Coords) (v469 : BitVec 32) : Prop :=
  (∀ (k0_h1 : k0_cond1 i = 1#1), ∀ a, (k0_off88 v469) a + S1x2048.size a ≤ S8704x2048.size a)
theorem k0_off88_inb : ∀ (i : grid0.Coords) (v469 : BitVec 32) (k0_hw87 : k0_chk87 i v469), ∀ (k0_h1 : k0_cond1 i = 1#1), ∀ a, (k0_off88 v469) a + S1x2048.size a ≤ S8704x2048.size a := fun i v469 k0_hw87 k0_h1 => k0_hw87 k0_h1

def k0_off89 (v474 : BitVec 32) : Fin 2 → Nat :=
  let c0_i32_285 : BitVec 32 := 0#32
  ![v474.toNat, 0]

def k0_chk88 (i : grid0.Coords) (v474 : BitVec 32) : Prop :=
  (∀ (k0_h1 : k0_cond1 i = 1#1), ∀ a, (k0_off89 v474) a + S1x2048.size a ≤ S8704x2048.size a)
theorem k0_off89_inb : ∀ (i : grid0.Coords) (v474 : BitVec 32) (k0_hw88 : k0_chk88 i v474), ∀ (k0_h1 : k0_cond1 i = 1#1), ∀ a, (k0_off89 v474) a + S1x2048.size a ≤ S8704x2048.size a := fun i v474 k0_hw88 k0_h1 => k0_hw88 k0_h1

def k0_off90 (v479 : BitVec 32) : Fin 2 → Nat :=
  let c0_i32_288 : BitVec 32 := 0#32
  ![v479.toNat, 0]

def k0_chk89 (i : grid0.Coords) (v479 : BitVec 32) : Prop :=
  (∀ (k0_h1 : k0_cond1 i = 1#1), ∀ a, (k0_off90 v479) a + S1x2048.size a ≤ S8704x2048.size a)
theorem k0_off90_inb : ∀ (i : grid0.Coords) (v479 : BitVec 32) (k0_hw89 : k0_chk89 i v479), ∀ (k0_h1 : k0_cond1 i = 1#1), ∀ a, (k0_off90 v479) a + S1x2048.size a ≤ S8704x2048.size a := fun i v479 k0_hw89 k0_h1 => k0_hw89 k0_h1

def k0_off91 (v484 : BitVec 32) : Fin 2 → Nat :=
  let c0_i32_291 : BitVec 32 := 0#32
  ![v484.toNat, 0]

def k0_chk90 (i : grid0.Coords) (v484 : BitVec 32) : Prop :=
  (∀ (k0_h1 : k0_cond1 i = 1#1), ∀ a, (k0_off91 v484) a + S1x2048.size a ≤ S8704x2048.size a)
theorem k0_off91_inb : ∀ (i : grid0.Coords) (v484 : BitVec 32) (k0_hw90 : k0_chk90 i v484), ∀ (k0_h1 : k0_cond1 i = 1#1), ∀ a, (k0_off91 v484) a + S1x2048.size a ≤ S8704x2048.size a := fun i v484 k0_hw90 k0_h1 => k0_hw90 k0_h1

def k0_off92 (v489 : BitVec 32) : Fin 2 → Nat :=
  let c0_i32_294 : BitVec 32 := 0#32
  ![v489.toNat, 0]

def k0_chk91 (i : grid0.Coords) (v489 : BitVec 32) : Prop :=
  (∀ (k0_h1 : k0_cond1 i = 1#1), ∀ a, (k0_off92 v489) a + S1x2048.size a ≤ S8704x2048.size a)
theorem k0_off92_inb : ∀ (i : grid0.Coords) (v489 : BitVec 32) (k0_hw91 : k0_chk91 i v489), ∀ (k0_h1 : k0_cond1 i = 1#1), ∀ a, (k0_off92 v489) a + S1x2048.size a ≤ S8704x2048.size a := fun i v489 k0_hw91 k0_h1 => k0_hw91 k0_h1

def k0_off93 (v494 : BitVec 32) : Fin 2 → Nat :=
  let c0_i32_297 : BitVec 32 := 0#32
  ![v494.toNat, 0]

def k0_chk92 (i : grid0.Coords) (v494 : BitVec 32) : Prop :=
  (∀ (k0_h1 : k0_cond1 i = 1#1), ∀ a, (k0_off93 v494) a + S1x2048.size a ≤ S8704x2048.size a)
theorem k0_off93_inb : ∀ (i : grid0.Coords) (v494 : BitVec 32) (k0_hw92 : k0_chk92 i v494), ∀ (k0_h1 : k0_cond1 i = 1#1), ∀ a, (k0_off93 v494) a + S1x2048.size a ≤ S8704x2048.size a := fun i v494 k0_hw92 k0_h1 => k0_hw92 k0_h1

def k0_off94 (v499 : BitVec 32) : Fin 2 → Nat :=
  let c0_i32_300 : BitVec 32 := 0#32
  ![v499.toNat, 0]

def k0_chk93 (i : grid0.Coords) (v499 : BitVec 32) : Prop :=
  (∀ (k0_h1 : k0_cond1 i = 1#1), ∀ a, (k0_off94 v499) a + S1x2048.size a ≤ S8704x2048.size a)
theorem k0_off94_inb : ∀ (i : grid0.Coords) (v499 : BitVec 32) (k0_hw93 : k0_chk93 i v499), ∀ (k0_h1 : k0_cond1 i = 1#1), ∀ a, (k0_off94 v499) a + S1x2048.size a ≤ S8704x2048.size a := fun i v499 k0_hw93 k0_h1 => k0_hw93 k0_h1

def k0_off95 (v504 : BitVec 32) : Fin 2 → Nat :=
  let c0_i32_303 : BitVec 32 := 0#32
  ![v504.toNat, 0]

def k0_chk94 (i : grid0.Coords) (v504 : BitVec 32) : Prop :=
  (∀ (k0_h1 : k0_cond1 i = 1#1), ∀ a, (k0_off95 v504) a + S1x2048.size a ≤ S8704x2048.size a)
theorem k0_off95_inb : ∀ (i : grid0.Coords) (v504 : BitVec 32) (k0_hw94 : k0_chk94 i v504), ∀ (k0_h1 : k0_cond1 i = 1#1), ∀ a, (k0_off95 v504) a + S1x2048.size a ≤ S8704x2048.size a := fun i v504 k0_hw94 k0_h1 => k0_hw94 k0_h1

def k0_off96 (v509 : BitVec 32) : Fin 2 → Nat :=
  let c0_i32_306 : BitVec 32 := 0#32
  ![v509.toNat, 0]

def k0_chk95 (i : grid0.Coords) (v509 : BitVec 32) : Prop :=
  (∀ (k0_h1 : k0_cond1 i = 1#1), ∀ a, (k0_off96 v509) a + S1x2048.size a ≤ S8704x2048.size a)
theorem k0_off96_inb : ∀ (i : grid0.Coords) (v509 : BitVec 32) (k0_hw95 : k0_chk95 i v509), ∀ (k0_h1 : k0_cond1 i = 1#1), ∀ a, (k0_off96 v509) a + S1x2048.size a ≤ S8704x2048.size a := fun i v509 k0_hw95 k0_h1 => k0_hw95 k0_h1

def k0_off97 (v514 : BitVec 32) : Fin 2 → Nat :=
  let c0_i32_309 : BitVec 32 := 0#32
  ![v514.toNat, 0]

def k0_chk96 (i : grid0.Coords) (v514 : BitVec 32) : Prop :=
  (∀ (k0_h1 : k0_cond1 i = 1#1), ∀ a, (k0_off97 v514) a + S1x2048.size a ≤ S8704x2048.size a)
theorem k0_off97_inb : ∀ (i : grid0.Coords) (v514 : BitVec 32) (k0_hw96 : k0_chk96 i v514), ∀ (k0_h1 : k0_cond1 i = 1#1), ∀ a, (k0_off97 v514) a + S1x2048.size a ≤ S8704x2048.size a := fun i v514 k0_hw96 k0_h1 => k0_hw96 k0_h1

def k0_off98 (v519 : BitVec 32) : Fin 2 → Nat :=
  let c0_i32_312 : BitVec 32 := 0#32
  ![v519.toNat, 0]

def k0_chk97 (i : grid0.Coords) (v519 : BitVec 32) : Prop :=
  (∀ (k0_h1 : k0_cond1 i = 1#1), ∀ a, (k0_off98 v519) a + S1x2048.size a ≤ S8704x2048.size a)
theorem k0_off98_inb : ∀ (i : grid0.Coords) (v519 : BitVec 32) (k0_hw97 : k0_chk97 i v519), ∀ (k0_h1 : k0_cond1 i = 1#1), ∀ a, (k0_off98 v519) a + S1x2048.size a ≤ S8704x2048.size a := fun i v519 k0_hw97 k0_h1 => k0_hw97 k0_h1

def k0_off99 (v524 : BitVec 32) : Fin 2 → Nat :=
  let c0_i32_315 : BitVec 32 := 0#32
  ![v524.toNat, 0]

def k0_chk98 (i : grid0.Coords) (v524 : BitVec 32) : Prop :=
  (∀ (k0_h1 : k0_cond1 i = 1#1), ∀ a, (k0_off99 v524) a + S1x2048.size a ≤ S8704x2048.size a)
theorem k0_off99_inb : ∀ (i : grid0.Coords) (v524 : BitVec 32) (k0_hw98 : k0_chk98 i v524), ∀ (k0_h1 : k0_cond1 i = 1#1), ∀ a, (k0_off99 v524) a + S1x2048.size a ≤ S8704x2048.size a := fun i v524 k0_hw98 k0_h1 => k0_hw98 k0_h1

def k0_off100 (v529 : BitVec 32) : Fin 2 → Nat :=
  let c0_i32_318 : BitVec 32 := 0#32
  ![v529.toNat, 0]

def k0_chk99 (i : grid0.Coords) (v529 : BitVec 32) : Prop :=
  (∀ (k0_h1 : k0_cond1 i = 1#1), ∀ a, (k0_off100 v529) a + S1x2048.size a ≤ S8704x2048.size a)
theorem k0_off100_inb : ∀ (i : grid0.Coords) (v529 : BitVec 32) (k0_hw99 : k0_chk99 i v529), ∀ (k0_h1 : k0_cond1 i = 1#1), ∀ a, (k0_off100 v529) a + S1x2048.size a ≤ S8704x2048.size a := fun i v529 k0_hw99 k0_h1 => k0_hw99 k0_h1

def k0_off101 (v534 : BitVec 32) : Fin 2 → Nat :=
  let c0_i32_321 : BitVec 32 := 0#32
  ![v534.toNat, 0]

def k0_chk100 (i : grid0.Coords) (v534 : BitVec 32) : Prop :=
  (∀ (k0_h1 : k0_cond1 i = 1#1), ∀ a, (k0_off101 v534) a + S1x2048.size a ≤ S8704x2048.size a)
theorem k0_off101_inb : ∀ (i : grid0.Coords) (v534 : BitVec 32) (k0_hw100 : k0_chk100 i v534), ∀ (k0_h1 : k0_cond1 i = 1#1), ∀ a, (k0_off101 v534) a + S1x2048.size a ≤ S8704x2048.size a := fun i v534 k0_hw100 k0_h1 => k0_hw100 k0_h1

def k0_off102 (v539 : BitVec 32) : Fin 2 → Nat :=
  let c0_i32_324 : BitVec 32 := 0#32
  ![v539.toNat, 0]

def k0_chk101 (i : grid0.Coords) (v539 : BitVec 32) : Prop :=
  (∀ (k0_h1 : k0_cond1 i = 1#1), ∀ a, (k0_off102 v539) a + S1x2048.size a ≤ S8704x2048.size a)
theorem k0_off102_inb : ∀ (i : grid0.Coords) (v539 : BitVec 32) (k0_hw101 : k0_chk101 i v539), ∀ (k0_h1 : k0_cond1 i = 1#1), ∀ a, (k0_off102 v539) a + S1x2048.size a ≤ S8704x2048.size a := fun i v539 k0_hw101 k0_h1 => k0_hw101 k0_h1

def k0_off103 (v544 : BitVec 32) : Fin 2 → Nat :=
  let c0_i32_327 : BitVec 32 := 0#32
  ![v544.toNat, 0]

def k0_chk102 (i : grid0.Coords) (v544 : BitVec 32) : Prop :=
  (∀ (k0_h1 : k0_cond1 i = 1#1), ∀ a, (k0_off103 v544) a + S1x2048.size a ≤ S8704x2048.size a)
theorem k0_off103_inb : ∀ (i : grid0.Coords) (v544 : BitVec 32) (k0_hw102 : k0_chk102 i v544), ∀ (k0_h1 : k0_cond1 i = 1#1), ∀ a, (k0_off103 v544) a + S1x2048.size a ≤ S8704x2048.size a := fun i v544 k0_hw102 k0_h1 => k0_hw102 k0_h1

def k0_off104 (v549 : BitVec 32) : Fin 2 → Nat :=
  let c0_i32_330 : BitVec 32 := 0#32
  ![v549.toNat, 0]

def k0_chk103 (i : grid0.Coords) (v549 : BitVec 32) : Prop :=
  (∀ (k0_h1 : k0_cond1 i = 1#1), ∀ a, (k0_off104 v549) a + S1x2048.size a ≤ S8704x2048.size a)
theorem k0_off104_inb : ∀ (i : grid0.Coords) (v549 : BitVec 32) (k0_hw103 : k0_chk103 i v549), ∀ (k0_h1 : k0_cond1 i = 1#1), ∀ a, (k0_off104 v549) a + S1x2048.size a ≤ S8704x2048.size a := fun i v549 k0_hw103 k0_h1 => k0_hw103 k0_h1

def k0_off105 (v554 : BitVec 32) : Fin 2 → Nat :=
  let c0_i32_333 : BitVec 32 := 0#32
  ![v554.toNat, 0]

def k0_chk104 (i : grid0.Coords) (v554 : BitVec 32) : Prop :=
  (∀ (k0_h1 : k0_cond1 i = 1#1), ∀ a, (k0_off105 v554) a + S1x2048.size a ≤ S8704x2048.size a)
theorem k0_off105_inb : ∀ (i : grid0.Coords) (v554 : BitVec 32) (k0_hw104 : k0_chk104 i v554), ∀ (k0_h1 : k0_cond1 i = 1#1), ∀ a, (k0_off105 v554) a + S1x2048.size a ≤ S8704x2048.size a := fun i v554 k0_hw104 k0_h1 => k0_hw104 k0_h1

def k0_off106 (v559 : BitVec 32) : Fin 2 → Nat :=
  let c0_i32_336 : BitVec 32 := 0#32
  ![v559.toNat, 0]

def k0_chk105 (i : grid0.Coords) (v559 : BitVec 32) : Prop :=
  (∀ (k0_h1 : k0_cond1 i = 1#1), ∀ a, (k0_off106 v559) a + S1x2048.size a ≤ S8704x2048.size a)
theorem k0_off106_inb : ∀ (i : grid0.Coords) (v559 : BitVec 32) (k0_hw105 : k0_chk105 i v559), ∀ (k0_h1 : k0_cond1 i = 1#1), ∀ a, (k0_off106 v559) a + S1x2048.size a ≤ S8704x2048.size a := fun i v559 k0_hw105 k0_h1 => k0_hw105 k0_h1

def k0_off107 (v564 : BitVec 32) : Fin 2 → Nat :=
  let c0_i32_339 : BitVec 32 := 0#32
  ![v564.toNat, 0]

def k0_chk106 (i : grid0.Coords) (v564 : BitVec 32) : Prop :=
  (∀ (k0_h1 : k0_cond1 i = 1#1), ∀ a, (k0_off107 v564) a + S1x2048.size a ≤ S8704x2048.size a)
theorem k0_off107_inb : ∀ (i : grid0.Coords) (v564 : BitVec 32) (k0_hw106 : k0_chk106 i v564), ∀ (k0_h1 : k0_cond1 i = 1#1), ∀ a, (k0_off107 v564) a + S1x2048.size a ≤ S8704x2048.size a := fun i v564 k0_hw106 k0_h1 => k0_hw106 k0_h1

def k0_off108 (v569 : BitVec 32) : Fin 2 → Nat :=
  let c0_i32_342 : BitVec 32 := 0#32
  ![v569.toNat, 0]

def k0_chk107 (i : grid0.Coords) (v569 : BitVec 32) : Prop :=
  (∀ (k0_h1 : k0_cond1 i = 1#1), ∀ a, (k0_off108 v569) a + S1x2048.size a ≤ S8704x2048.size a)
theorem k0_off108_inb : ∀ (i : grid0.Coords) (v569 : BitVec 32) (k0_hw107 : k0_chk107 i v569), ∀ (k0_h1 : k0_cond1 i = 1#1), ∀ a, (k0_off108 v569) a + S1x2048.size a ≤ S8704x2048.size a := fun i v569 k0_hw107 k0_h1 => k0_hw107 k0_h1

def k0_off109 (v574 : BitVec 32) : Fin 2 → Nat :=
  let c0_i32_345 : BitVec 32 := 0#32
  ![v574.toNat, 0]

def k0_chk108 (i : grid0.Coords) (v574 : BitVec 32) : Prop :=
  (∀ (k0_h1 : k0_cond1 i = 1#1), ∀ a, (k0_off109 v574) a + S1x2048.size a ≤ S8704x2048.size a)
theorem k0_off109_inb : ∀ (i : grid0.Coords) (v574 : BitVec 32) (k0_hw108 : k0_chk108 i v574), ∀ (k0_h1 : k0_cond1 i = 1#1), ∀ a, (k0_off109 v574) a + S1x2048.size a ≤ S8704x2048.size a := fun i v574 k0_hw108 k0_h1 => k0_hw108 k0_h1

def k0_off110 (v579 : BitVec 32) : Fin 2 → Nat :=
  let c0_i32_348 : BitVec 32 := 0#32
  ![v579.toNat, 0]

def k0_chk109 (i : grid0.Coords) (v579 : BitVec 32) : Prop :=
  (∀ (k0_h1 : k0_cond1 i = 1#1), ∀ a, (k0_off110 v579) a + S1x2048.size a ≤ S8704x2048.size a)
theorem k0_off110_inb : ∀ (i : grid0.Coords) (v579 : BitVec 32) (k0_hw109 : k0_chk109 i v579), ∀ (k0_h1 : k0_cond1 i = 1#1), ∀ a, (k0_off110 v579) a + S1x2048.size a ≤ S8704x2048.size a := fun i v579 k0_hw109 k0_h1 => k0_hw109 k0_h1

def k0_off111 (v584 : BitVec 32) : Fin 2 → Nat :=
  let c0_i32_351 : BitVec 32 := 0#32
  ![v584.toNat, 0]

def k0_chk110 (i : grid0.Coords) (v584 : BitVec 32) : Prop :=
  (∀ (k0_h1 : k0_cond1 i = 1#1), ∀ a, (k0_off111 v584) a + S1x2048.size a ≤ S8704x2048.size a)
theorem k0_off111_inb : ∀ (i : grid0.Coords) (v584 : BitVec 32) (k0_hw110 : k0_chk110 i v584), ∀ (k0_h1 : k0_cond1 i = 1#1), ∀ a, (k0_off111 v584) a + S1x2048.size a ≤ S8704x2048.size a := fun i v584 k0_hw110 k0_h1 => k0_hw110 k0_h1

def k0_off112 (v589 : BitVec 32) : Fin 2 → Nat :=
  let c0_i32_354 : BitVec 32 := 0#32
  ![v589.toNat, 0]

def k0_chk111 (i : grid0.Coords) (v589 : BitVec 32) : Prop :=
  (∀ (k0_h1 : k0_cond1 i = 1#1), ∀ a, (k0_off112 v589) a + S1x2048.size a ≤ S8704x2048.size a)
theorem k0_off112_inb : ∀ (i : grid0.Coords) (v589 : BitVec 32) (k0_hw111 : k0_chk111 i v589), ∀ (k0_h1 : k0_cond1 i = 1#1), ∀ a, (k0_off112 v589) a + S1x2048.size a ≤ S8704x2048.size a := fun i v589 k0_hw111 k0_h1 => k0_hw111 k0_h1

def k0_off113 (v594 : BitVec 32) : Fin 2 → Nat :=
  let c0_i32_357 : BitVec 32 := 0#32
  ![v594.toNat, 0]

def k0_chk112 (i : grid0.Coords) (v594 : BitVec 32) : Prop :=
  (∀ (k0_h1 : k0_cond1 i = 1#1), ∀ a, (k0_off113 v594) a + S1x2048.size a ≤ S8704x2048.size a)
theorem k0_off113_inb : ∀ (i : grid0.Coords) (v594 : BitVec 32) (k0_hw112 : k0_chk112 i v594), ∀ (k0_h1 : k0_cond1 i = 1#1), ∀ a, (k0_off113 v594) a + S1x2048.size a ≤ S8704x2048.size a := fun i v594 k0_hw112 k0_h1 => k0_hw112 k0_h1

def k0_off114 (v599 : BitVec 32) : Fin 2 → Nat :=
  let c0_i32_360 : BitVec 32 := 0#32
  ![v599.toNat, 0]

def k0_chk113 (i : grid0.Coords) (v599 : BitVec 32) : Prop :=
  (∀ (k0_h1 : k0_cond1 i = 1#1), ∀ a, (k0_off114 v599) a + S1x2048.size a ≤ S8704x2048.size a)
theorem k0_off114_inb : ∀ (i : grid0.Coords) (v599 : BitVec 32) (k0_hw113 : k0_chk113 i v599), ∀ (k0_h1 : k0_cond1 i = 1#1), ∀ a, (k0_off114 v599) a + S1x2048.size a ≤ S8704x2048.size a := fun i v599 k0_hw113 k0_h1 => k0_hw113 k0_h1

def k0_off115 (v604 : BitVec 32) : Fin 2 → Nat :=
  let c0_i32_363 : BitVec 32 := 0#32
  ![v604.toNat, 0]

def k0_chk114 (i : grid0.Coords) (v604 : BitVec 32) : Prop :=
  (∀ (k0_h1 : k0_cond1 i = 1#1), ∀ a, (k0_off115 v604) a + S1x2048.size a ≤ S8704x2048.size a)
theorem k0_off115_inb : ∀ (i : grid0.Coords) (v604 : BitVec 32) (k0_hw114 : k0_chk114 i v604), ∀ (k0_h1 : k0_cond1 i = 1#1), ∀ a, (k0_off115 v604) a + S1x2048.size a ≤ S8704x2048.size a := fun i v604 k0_hw114 k0_h1 => k0_hw114 k0_h1

def k0_off116 (v609 : BitVec 32) : Fin 2 → Nat :=
  let c0_i32_366 : BitVec 32 := 0#32
  ![v609.toNat, 0]

def k0_chk115 (i : grid0.Coords) (v609 : BitVec 32) : Prop :=
  (∀ (k0_h1 : k0_cond1 i = 1#1), ∀ a, (k0_off116 v609) a + S1x2048.size a ≤ S8704x2048.size a)
theorem k0_off116_inb : ∀ (i : grid0.Coords) (v609 : BitVec 32) (k0_hw115 : k0_chk115 i v609), ∀ (k0_h1 : k0_cond1 i = 1#1), ∀ a, (k0_off116 v609) a + S1x2048.size a ≤ S8704x2048.size a := fun i v609 k0_hw115 k0_h1 => k0_hw115 k0_h1

def k0_off117 (v614 : BitVec 32) : Fin 2 → Nat :=
  let c0_i32_369 : BitVec 32 := 0#32
  ![v614.toNat, 0]

def k0_chk116 (i : grid0.Coords) (v614 : BitVec 32) : Prop :=
  (∀ (k0_h1 : k0_cond1 i = 1#1), ∀ a, (k0_off117 v614) a + S1x2048.size a ≤ S8704x2048.size a)
theorem k0_off117_inb : ∀ (i : grid0.Coords) (v614 : BitVec 32) (k0_hw116 : k0_chk116 i v614), ∀ (k0_h1 : k0_cond1 i = 1#1), ∀ a, (k0_off117 v614) a + S1x2048.size a ≤ S8704x2048.size a := fun i v614 k0_hw116 k0_h1 => k0_hw116 k0_h1

def k0_off118 (v619 : BitVec 32) : Fin 2 → Nat :=
  let c0_i32_372 : BitVec 32 := 0#32
  ![v619.toNat, 0]

def k0_chk117 (i : grid0.Coords) (v619 : BitVec 32) : Prop :=
  (∀ (k0_h1 : k0_cond1 i = 1#1), ∀ a, (k0_off118 v619) a + S1x2048.size a ≤ S8704x2048.size a)
theorem k0_off118_inb : ∀ (i : grid0.Coords) (v619 : BitVec 32) (k0_hw117 : k0_chk117 i v619), ∀ (k0_h1 : k0_cond1 i = 1#1), ∀ a, (k0_off118 v619) a + S1x2048.size a ≤ S8704x2048.size a := fun i v619 k0_hw117 k0_h1 => k0_hw117 k0_h1

def k0_off119 (v624 : BitVec 32) : Fin 2 → Nat :=
  let c0_i32_375 : BitVec 32 := 0#32
  ![v624.toNat, 0]

def k0_chk118 (i : grid0.Coords) (v624 : BitVec 32) : Prop :=
  (∀ (k0_h1 : k0_cond1 i = 1#1), ∀ a, (k0_off119 v624) a + S1x2048.size a ≤ S8704x2048.size a)
theorem k0_off119_inb : ∀ (i : grid0.Coords) (v624 : BitVec 32) (k0_hw118 : k0_chk118 i v624), ∀ (k0_h1 : k0_cond1 i = 1#1), ∀ a, (k0_off119 v624) a + S1x2048.size a ≤ S8704x2048.size a := fun i v624 k0_hw118 k0_h1 => k0_hw118 k0_h1

def k0_off120 (v629 : BitVec 32) : Fin 2 → Nat :=
  let c0_i32_378 : BitVec 32 := 0#32
  ![v629.toNat, 0]

def k0_chk119 (i : grid0.Coords) (v629 : BitVec 32) : Prop :=
  (∀ (k0_h1 : k0_cond1 i = 1#1), ∀ a, (k0_off120 v629) a + S1x2048.size a ≤ S8704x2048.size a)
theorem k0_off120_inb : ∀ (i : grid0.Coords) (v629 : BitVec 32) (k0_hw119 : k0_chk119 i v629), ∀ (k0_h1 : k0_cond1 i = 1#1), ∀ a, (k0_off120 v629) a + S1x2048.size a ≤ S8704x2048.size a := fun i v629 k0_hw119 k0_h1 => k0_hw119 k0_h1

def k0_off121 (v634 : BitVec 32) : Fin 2 → Nat :=
  let c0_i32_381 : BitVec 32 := 0#32
  ![v634.toNat, 0]

def k0_chk120 (i : grid0.Coords) (v634 : BitVec 32) : Prop :=
  (∀ (k0_h1 : k0_cond1 i = 1#1), ∀ a, (k0_off121 v634) a + S1x2048.size a ≤ S8704x2048.size a)
theorem k0_off121_inb : ∀ (i : grid0.Coords) (v634 : BitVec 32) (k0_hw120 : k0_chk120 i v634), ∀ (k0_h1 : k0_cond1 i = 1#1), ∀ a, (k0_off121 v634) a + S1x2048.size a ≤ S8704x2048.size a := fun i v634 k0_hw120 k0_h1 => k0_hw120 k0_h1

def k0_off122 (v639 : BitVec 32) : Fin 2 → Nat :=
  let c0_i32_384 : BitVec 32 := 0#32
  ![v639.toNat, 0]

def k0_chk121 (i : grid0.Coords) (v639 : BitVec 32) : Prop :=
  (∀ (k0_h1 : k0_cond1 i = 1#1), ∀ a, (k0_off122 v639) a + S1x2048.size a ≤ S8704x2048.size a)
theorem k0_off122_inb : ∀ (i : grid0.Coords) (v639 : BitVec 32) (k0_hw121 : k0_chk121 i v639), ∀ (k0_h1 : k0_cond1 i = 1#1), ∀ a, (k0_off122 v639) a + S1x2048.size a ≤ S8704x2048.size a := fun i v639 k0_hw121 k0_h1 => k0_hw121 k0_h1

def k0_off123 (v644 : BitVec 32) : Fin 2 → Nat :=
  let c0_i32_387 : BitVec 32 := 0#32
  ![v644.toNat, 0]

def k0_chk122 (i : grid0.Coords) (v644 : BitVec 32) : Prop :=
  (∀ (k0_h1 : k0_cond1 i = 1#1), ∀ a, (k0_off123 v644) a + S1x2048.size a ≤ S8704x2048.size a)
theorem k0_off123_inb : ∀ (i : grid0.Coords) (v644 : BitVec 32) (k0_hw122 : k0_chk122 i v644), ∀ (k0_h1 : k0_cond1 i = 1#1), ∀ a, (k0_off123 v644) a + S1x2048.size a ≤ S8704x2048.size a := fun i v644 k0_hw122 k0_h1 => k0_hw122 k0_h1

def k0_off124 (v649 : BitVec 32) : Fin 2 → Nat :=
  let c0_i32_390 : BitVec 32 := 0#32
  ![v649.toNat, 0]

def k0_chk123 (i : grid0.Coords) (v649 : BitVec 32) : Prop :=
  (∀ (k0_h1 : k0_cond1 i = 1#1), ∀ a, (k0_off124 v649) a + S1x2048.size a ≤ S8704x2048.size a)
theorem k0_off124_inb : ∀ (i : grid0.Coords) (v649 : BitVec 32) (k0_hw123 : k0_chk123 i v649), ∀ (k0_h1 : k0_cond1 i = 1#1), ∀ a, (k0_off124 v649) a + S1x2048.size a ≤ S8704x2048.size a := fun i v649 k0_hw123 k0_h1 => k0_hw123 k0_h1

def k0_off125 (v654 : BitVec 32) : Fin 2 → Nat :=
  let c0_i32_393 : BitVec 32 := 0#32
  ![v654.toNat, 0]

def k0_chk124 (i : grid0.Coords) (v654 : BitVec 32) : Prop :=
  (∀ (k0_h1 : k0_cond1 i = 1#1), ∀ a, (k0_off125 v654) a + S1x2048.size a ≤ S8704x2048.size a)
theorem k0_off125_inb : ∀ (i : grid0.Coords) (v654 : BitVec 32) (k0_hw124 : k0_chk124 i v654), ∀ (k0_h1 : k0_cond1 i = 1#1), ∀ a, (k0_off125 v654) a + S1x2048.size a ≤ S8704x2048.size a := fun i v654 k0_hw124 k0_h1 => k0_hw124 k0_h1

def k0_off126 (v659 : BitVec 32) : Fin 2 → Nat :=
  let c0_i32_396 : BitVec 32 := 0#32
  ![v659.toNat, 0]

def k0_chk125 (i : grid0.Coords) (v659 : BitVec 32) : Prop :=
  (∀ (k0_h1 : k0_cond1 i = 1#1), ∀ a, (k0_off126 v659) a + S1x2048.size a ≤ S8704x2048.size a)
theorem k0_off126_inb : ∀ (i : grid0.Coords) (v659 : BitVec 32) (k0_hw125 : k0_chk125 i v659), ∀ (k0_h1 : k0_cond1 i = 1#1), ∀ a, (k0_off126 v659) a + S1x2048.size a ≤ S8704x2048.size a := fun i v659 k0_hw125 k0_h1 => k0_hw125 k0_h1

def k0_off127 (v664 : BitVec 32) : Fin 2 → Nat :=
  let c0_i32_399 : BitVec 32 := 0#32
  ![v664.toNat, 0]

def k0_chk126 (i : grid0.Coords) (v664 : BitVec 32) : Prop :=
  (∀ (k0_h1 : k0_cond1 i = 1#1), ∀ a, (k0_off127 v664) a + S1x2048.size a ≤ S8704x2048.size a)
theorem k0_off127_inb : ∀ (i : grid0.Coords) (v664 : BitVec 32) (k0_hw126 : k0_chk126 i v664), ∀ (k0_h1 : k0_cond1 i = 1#1), ∀ a, (k0_off127 v664) a + S1x2048.size a ≤ S8704x2048.size a := fun i v664 k0_hw126 k0_h1 => k0_hw126 k0_h1

def k0_off128 (v669 : BitVec 32) : Fin 2 → Nat :=
  let c0_i32_402 : BitVec 32 := 0#32
  ![v669.toNat, 0]

def k0_chk127 (i : grid0.Coords) (v669 : BitVec 32) : Prop :=
  (∀ (k0_h1 : k0_cond1 i = 1#1), ∀ a, (k0_off128 v669) a + S1x2048.size a ≤ S8704x2048.size a)
theorem k0_off128_inb : ∀ (i : grid0.Coords) (v669 : BitVec 32) (k0_hw127 : k0_chk127 i v669), ∀ (k0_h1 : k0_cond1 i = 1#1), ∀ a, (k0_off128 v669) a + S1x2048.size a ≤ S8704x2048.size a := fun i v669 k0_hw127 k0_h1 => k0_hw127 k0_h1

def k0_off129 (v674 : BitVec 32) : Fin 2 → Nat :=
  let c0_i32_405 : BitVec 32 := 0#32
  ![v674.toNat, 0]

def k0_chk128 (i : grid0.Coords) (v674 : BitVec 32) : Prop :=
  (∀ (k0_h1 : k0_cond1 i = 1#1), ∀ a, (k0_off129 v674) a + S1x2048.size a ≤ S8704x2048.size a)
theorem k0_off129_inb : ∀ (i : grid0.Coords) (v674 : BitVec 32) (k0_hw128 : k0_chk128 i v674), ∀ (k0_h1 : k0_cond1 i = 1#1), ∀ a, (k0_off129 v674) a + S1x2048.size a ≤ S8704x2048.size a := fun i v674 k0_hw128 k0_h1 => k0_hw128 k0_h1

def k0_off130 (v679 : BitVec 32) : Fin 2 → Nat :=
  let c0_i32_408 : BitVec 32 := 0#32
  ![v679.toNat, 0]

def k0_chk129 (i : grid0.Coords) (v679 : BitVec 32) : Prop :=
  (∀ (k0_h1 : k0_cond1 i = 1#1), ∀ a, (k0_off130 v679) a + S1x2048.size a ≤ S8704x2048.size a)
theorem k0_off130_inb : ∀ (i : grid0.Coords) (v679 : BitVec 32) (k0_hw129 : k0_chk129 i v679), ∀ (k0_h1 : k0_cond1 i = 1#1), ∀ a, (k0_off130 v679) a + S1x2048.size a ≤ S8704x2048.size a := fun i v679 k0_hw129 k0_h1 => k0_hw129 k0_h1

def k0_off131 (v684 : BitVec 32) : Fin 2 → Nat :=
  let c0_i32_411 : BitVec 32 := 0#32
  ![v684.toNat, 0]

def k0_chk130 (i : grid0.Coords) (v684 : BitVec 32) : Prop :=
  (∀ (k0_h1 : k0_cond1 i = 1#1), ∀ a, (k0_off131 v684) a + S1x2048.size a ≤ S8704x2048.size a)
theorem k0_off131_inb : ∀ (i : grid0.Coords) (v684 : BitVec 32) (k0_hw130 : k0_chk130 i v684), ∀ (k0_h1 : k0_cond1 i = 1#1), ∀ a, (k0_off131 v684) a + S1x2048.size a ≤ S8704x2048.size a := fun i v684 k0_hw130 k0_h1 => k0_hw130 k0_h1

def k0_off132 (v689 : BitVec 32) : Fin 2 → Nat :=
  let c0_i32_414 : BitVec 32 := 0#32
  ![v689.toNat, 0]

def k0_chk131 (i : grid0.Coords) (v689 : BitVec 32) : Prop :=
  (∀ (k0_h1 : k0_cond1 i = 1#1), ∀ a, (k0_off132 v689) a + S1x2048.size a ≤ S8704x2048.size a)
theorem k0_off132_inb : ∀ (i : grid0.Coords) (v689 : BitVec 32) (k0_hw131 : k0_chk131 i v689), ∀ (k0_h1 : k0_cond1 i = 1#1), ∀ a, (k0_off132 v689) a + S1x2048.size a ≤ S8704x2048.size a := fun i v689 k0_hw131 k0_h1 => k0_hw131 k0_h1

def k0_off133 (v694 : BitVec 32) : Fin 2 → Nat :=
  let c0_i32_417 : BitVec 32 := 0#32
  ![v694.toNat, 0]

def k0_chk132 (i : grid0.Coords) (v694 : BitVec 32) : Prop :=
  (∀ (k0_h1 : k0_cond1 i = 1#1), ∀ a, (k0_off133 v694) a + S1x2048.size a ≤ S8704x2048.size a)
theorem k0_off133_inb : ∀ (i : grid0.Coords) (v694 : BitVec 32) (k0_hw132 : k0_chk132 i v694), ∀ (k0_h1 : k0_cond1 i = 1#1), ∀ a, (k0_off133 v694) a + S1x2048.size a ≤ S8704x2048.size a := fun i v694 k0_hw132 k0_h1 => k0_hw132 k0_h1

def k0_off134 (v699 : BitVec 32) : Fin 2 → Nat :=
  let c0_i32_420 : BitVec 32 := 0#32
  ![v699.toNat, 0]

def k0_chk133 (i : grid0.Coords) (v699 : BitVec 32) : Prop :=
  (∀ (k0_h1 : k0_cond1 i = 1#1), ∀ a, (k0_off134 v699) a + S1x2048.size a ≤ S8704x2048.size a)
theorem k0_off134_inb : ∀ (i : grid0.Coords) (v699 : BitVec 32) (k0_hw133 : k0_chk133 i v699), ∀ (k0_h1 : k0_cond1 i = 1#1), ∀ a, (k0_off134 v699) a + S1x2048.size a ≤ S8704x2048.size a := fun i v699 k0_hw133 k0_h1 => k0_hw133 k0_h1

def k0_off135 (v704 : BitVec 32) : Fin 2 → Nat :=
  let c0_i32_423 : BitVec 32 := 0#32
  ![v704.toNat, 0]

def k0_chk134 (i : grid0.Coords) (v704 : BitVec 32) : Prop :=
  (∀ (k0_h1 : k0_cond1 i = 1#1), ∀ a, (k0_off135 v704) a + S1x2048.size a ≤ S8704x2048.size a)
theorem k0_off135_inb : ∀ (i : grid0.Coords) (v704 : BitVec 32) (k0_hw134 : k0_chk134 i v704), ∀ (k0_h1 : k0_cond1 i = 1#1), ∀ a, (k0_off135 v704) a + S1x2048.size a ≤ S8704x2048.size a := fun i v704 k0_hw134 k0_h1 => k0_hw134 k0_h1

def k0_off136 (v709 : BitVec 32) : Fin 2 → Nat :=
  let c0_i32_426 : BitVec 32 := 0#32
  ![v709.toNat, 0]

def k0_chk135 (i : grid0.Coords) (v709 : BitVec 32) : Prop :=
  (∀ (k0_h1 : k0_cond1 i = 1#1), ∀ a, (k0_off136 v709) a + S1x2048.size a ≤ S8704x2048.size a)
theorem k0_off136_inb : ∀ (i : grid0.Coords) (v709 : BitVec 32) (k0_hw135 : k0_chk135 i v709), ∀ (k0_h1 : k0_cond1 i = 1#1), ∀ a, (k0_off136 v709) a + S1x2048.size a ≤ S8704x2048.size a := fun i v709 k0_hw135 k0_h1 => k0_hw135 k0_h1

def k0_off137 (v714 : BitVec 32) : Fin 2 → Nat :=
  let c0_i32_429 : BitVec 32 := 0#32
  ![v714.toNat, 0]

def k0_chk136 (i : grid0.Coords) (v714 : BitVec 32) : Prop :=
  (∀ (k0_h1 : k0_cond1 i = 1#1), ∀ a, (k0_off137 v714) a + S1x2048.size a ≤ S8704x2048.size a)
theorem k0_off137_inb : ∀ (i : grid0.Coords) (v714 : BitVec 32) (k0_hw136 : k0_chk136 i v714), ∀ (k0_h1 : k0_cond1 i = 1#1), ∀ a, (k0_off137 v714) a + S1x2048.size a ≤ S8704x2048.size a := fun i v714 k0_hw136 k0_h1 => k0_hw136 k0_h1

def k0_off138 (v719 : BitVec 32) : Fin 2 → Nat :=
  let c0_i32_432 : BitVec 32 := 0#32
  ![v719.toNat, 0]

def k0_chk137 (i : grid0.Coords) (v719 : BitVec 32) : Prop :=
  (∀ (k0_h1 : k0_cond1 i = 1#1), ∀ a, (k0_off138 v719) a + S1x2048.size a ≤ S8704x2048.size a)
theorem k0_off138_inb : ∀ (i : grid0.Coords) (v719 : BitVec 32) (k0_hw137 : k0_chk137 i v719), ∀ (k0_h1 : k0_cond1 i = 1#1), ∀ a, (k0_off138 v719) a + S1x2048.size a ≤ S8704x2048.size a := fun i v719 k0_hw137 k0_h1 => k0_hw137 k0_h1

def k0_off139 (v724 : BitVec 32) : Fin 2 → Nat :=
  let c0_i32_435 : BitVec 32 := 0#32
  ![v724.toNat, 0]

def k0_chk138 (i : grid0.Coords) (v724 : BitVec 32) : Prop :=
  (∀ (k0_h1 : k0_cond1 i = 1#1), ∀ a, (k0_off139 v724) a + S1x2048.size a ≤ S8704x2048.size a)
theorem k0_off139_inb : ∀ (i : grid0.Coords) (v724 : BitVec 32) (k0_hw138 : k0_chk138 i v724), ∀ (k0_h1 : k0_cond1 i = 1#1), ∀ a, (k0_off139 v724) a + S1x2048.size a ≤ S8704x2048.size a := fun i v724 k0_hw138 k0_h1 => k0_hw138 k0_h1

def k0_off140 (v729 : BitVec 32) : Fin 2 → Nat :=
  let c0_i32_438 : BitVec 32 := 0#32
  ![v729.toNat, 0]

def k0_chk139 (i : grid0.Coords) (v729 : BitVec 32) : Prop :=
  (∀ (k0_h1 : k0_cond1 i = 1#1), ∀ a, (k0_off140 v729) a + S1x2048.size a ≤ S8704x2048.size a)
theorem k0_off140_inb : ∀ (i : grid0.Coords) (v729 : BitVec 32) (k0_hw139 : k0_chk139 i v729), ∀ (k0_h1 : k0_cond1 i = 1#1), ∀ a, (k0_off140 v729) a + S1x2048.size a ≤ S8704x2048.size a := fun i v729 k0_hw139 k0_h1 => k0_hw139 k0_h1

def k0_off141 (v734 : BitVec 32) : Fin 2 → Nat :=
  let c0_i32_441 : BitVec 32 := 0#32
  ![v734.toNat, 0]

def k0_chk140 (i : grid0.Coords) (v734 : BitVec 32) : Prop :=
  (∀ (k0_h1 : k0_cond1 i = 1#1), ∀ a, (k0_off141 v734) a + S1x2048.size a ≤ S8704x2048.size a)
theorem k0_off141_inb : ∀ (i : grid0.Coords) (v734 : BitVec 32) (k0_hw140 : k0_chk140 i v734), ∀ (k0_h1 : k0_cond1 i = 1#1), ∀ a, (k0_off141 v734) a + S1x2048.size a ≤ S8704x2048.size a := fun i v734 k0_hw140 k0_h1 => k0_hw140 k0_h1

def k0_off142 (v739 : BitVec 32) : Fin 2 → Nat :=
  let c0_i32_444 : BitVec 32 := 0#32
  ![v739.toNat, 0]

def k0_chk141 (i : grid0.Coords) (v739 : BitVec 32) : Prop :=
  (∀ (k0_h1 : k0_cond1 i = 1#1), ∀ a, (k0_off142 v739) a + S1x2048.size a ≤ S8704x2048.size a)
theorem k0_off142_inb : ∀ (i : grid0.Coords) (v739 : BitVec 32) (k0_hw141 : k0_chk141 i v739), ∀ (k0_h1 : k0_cond1 i = 1#1), ∀ a, (k0_off142 v739) a + S1x2048.size a ≤ S8704x2048.size a := fun i v739 k0_hw141 k0_h1 => k0_hw141 k0_h1

def k0_off143 (v744 : BitVec 32) : Fin 2 → Nat :=
  let c0_i32_447 : BitVec 32 := 0#32
  ![v744.toNat, 0]

def k0_chk142 (i : grid0.Coords) (v744 : BitVec 32) : Prop :=
  (∀ (k0_h1 : k0_cond1 i = 1#1), ∀ a, (k0_off143 v744) a + S1x2048.size a ≤ S8704x2048.size a)
theorem k0_off143_inb : ∀ (i : grid0.Coords) (v744 : BitVec 32) (k0_hw142 : k0_chk142 i v744), ∀ (k0_h1 : k0_cond1 i = 1#1), ∀ a, (k0_off143 v744) a + S1x2048.size a ≤ S8704x2048.size a := fun i v744 k0_hw142 k0_h1 => k0_hw142 k0_h1

def k0_off144 (v749 : BitVec 32) : Fin 2 → Nat :=
  let c0_i32_450 : BitVec 32 := 0#32
  ![v749.toNat, 0]

def k0_chk143 (i : grid0.Coords) (v749 : BitVec 32) : Prop :=
  (∀ (k0_h1 : k0_cond1 i = 1#1), ∀ a, (k0_off144 v749) a + S1x2048.size a ≤ S8704x2048.size a)
theorem k0_off144_inb : ∀ (i : grid0.Coords) (v749 : BitVec 32) (k0_hw143 : k0_chk143 i v749), ∀ (k0_h1 : k0_cond1 i = 1#1), ∀ a, (k0_off144 v749) a + S1x2048.size a ≤ S8704x2048.size a := fun i v749 k0_hw143 k0_h1 => k0_hw143 k0_h1

def k0_off145 (v754 : BitVec 32) : Fin 2 → Nat :=
  let c0_i32_453 : BitVec 32 := 0#32
  ![v754.toNat, 0]

def k0_chk144 (i : grid0.Coords) (v754 : BitVec 32) : Prop :=
  (∀ (k0_h1 : k0_cond1 i = 1#1), ∀ a, (k0_off145 v754) a + S1x2048.size a ≤ S8704x2048.size a)
theorem k0_off145_inb : ∀ (i : grid0.Coords) (v754 : BitVec 32) (k0_hw144 : k0_chk144 i v754), ∀ (k0_h1 : k0_cond1 i = 1#1), ∀ a, (k0_off145 v754) a + S1x2048.size a ≤ S8704x2048.size a := fun i v754 k0_hw144 k0_h1 => k0_hw144 k0_h1

def k0_off146 (v759 : BitVec 32) : Fin 2 → Nat :=
  let c0_i32_456 : BitVec 32 := 0#32
  ![v759.toNat, 0]

def k0_chk145 (i : grid0.Coords) (v759 : BitVec 32) : Prop :=
  (∀ (k0_h1 : k0_cond1 i = 1#1), ∀ a, (k0_off146 v759) a + S1x2048.size a ≤ S8704x2048.size a)
theorem k0_off146_inb : ∀ (i : grid0.Coords) (v759 : BitVec 32) (k0_hw145 : k0_chk145 i v759), ∀ (k0_h1 : k0_cond1 i = 1#1), ∀ a, (k0_off146 v759) a + S1x2048.size a ≤ S8704x2048.size a := fun i v759 k0_hw145 k0_h1 => k0_hw145 k0_h1

def k0_off147 (v764 : BitVec 32) : Fin 2 → Nat :=
  let c0_i32_459 : BitVec 32 := 0#32
  ![v764.toNat, 0]

def k0_chk146 (i : grid0.Coords) (v764 : BitVec 32) : Prop :=
  (∀ (k0_h1 : k0_cond1 i = 1#1), ∀ a, (k0_off147 v764) a + S1x2048.size a ≤ S8704x2048.size a)
theorem k0_off147_inb : ∀ (i : grid0.Coords) (v764 : BitVec 32) (k0_hw146 : k0_chk146 i v764), ∀ (k0_h1 : k0_cond1 i = 1#1), ∀ a, (k0_off147 v764) a + S1x2048.size a ≤ S8704x2048.size a := fun i v764 k0_hw146 k0_h1 => k0_hw146 k0_h1

def k0_off148 (v769 : BitVec 32) : Fin 2 → Nat :=
  let c0_i32_462 : BitVec 32 := 0#32
  ![v769.toNat, 0]

def k0_chk147 (i : grid0.Coords) (v769 : BitVec 32) : Prop :=
  (∀ (k0_h1 : k0_cond1 i = 1#1), ∀ a, (k0_off148 v769) a + S1x2048.size a ≤ S8704x2048.size a)
theorem k0_off148_inb : ∀ (i : grid0.Coords) (v769 : BitVec 32) (k0_hw147 : k0_chk147 i v769), ∀ (k0_h1 : k0_cond1 i = 1#1), ∀ a, (k0_off148 v769) a + S1x2048.size a ≤ S8704x2048.size a := fun i v769 k0_hw147 k0_h1 => k0_hw147 k0_h1

def k0_off149 (v774 : BitVec 32) : Fin 2 → Nat :=
  let c0_i32_465 : BitVec 32 := 0#32
  ![v774.toNat, 0]

def k0_chk148 (i : grid0.Coords) (v774 : BitVec 32) : Prop :=
  (∀ (k0_h1 : k0_cond1 i = 1#1), ∀ a, (k0_off149 v774) a + S1x2048.size a ≤ S8704x2048.size a)
theorem k0_off149_inb : ∀ (i : grid0.Coords) (v774 : BitVec 32) (k0_hw148 : k0_chk148 i v774), ∀ (k0_h1 : k0_cond1 i = 1#1), ∀ a, (k0_off149 v774) a + S1x2048.size a ≤ S8704x2048.size a := fun i v774 k0_hw148 k0_h1 => k0_hw148 k0_h1

def k0_off150 (v779 : BitVec 32) : Fin 2 → Nat :=
  let c0_i32_468 : BitVec 32 := 0#32
  ![v779.toNat, 0]

def k0_chk149 (i : grid0.Coords) (v779 : BitVec 32) : Prop :=
  (∀ (k0_h1 : k0_cond1 i = 1#1), ∀ a, (k0_off150 v779) a + S1x2048.size a ≤ S8704x2048.size a)
theorem k0_off150_inb : ∀ (i : grid0.Coords) (v779 : BitVec 32) (k0_hw149 : k0_chk149 i v779), ∀ (k0_h1 : k0_cond1 i = 1#1), ∀ a, (k0_off150 v779) a + S1x2048.size a ≤ S8704x2048.size a := fun i v779 k0_hw149 k0_h1 => k0_hw149 k0_h1

def k0_off151 (v784 : BitVec 32) : Fin 2 → Nat :=
  let c0_i32_471 : BitVec 32 := 0#32
  ![v784.toNat, 0]

def k0_chk150 (i : grid0.Coords) (v784 : BitVec 32) : Prop :=
  (∀ (k0_h1 : k0_cond1 i = 1#1), ∀ a, (k0_off151 v784) a + S1x2048.size a ≤ S8704x2048.size a)
theorem k0_off151_inb : ∀ (i : grid0.Coords) (v784 : BitVec 32) (k0_hw150 : k0_chk150 i v784), ∀ (k0_h1 : k0_cond1 i = 1#1), ∀ a, (k0_off151 v784) a + S1x2048.size a ≤ S8704x2048.size a := fun i v784 k0_hw150 k0_h1 => k0_hw150 k0_h1

def k0_off152 (v789 : BitVec 32) : Fin 2 → Nat :=
  let c0_i32_474 : BitVec 32 := 0#32
  ![v789.toNat, 0]

def k0_chk151 (i : grid0.Coords) (v789 : BitVec 32) : Prop :=
  (∀ (k0_h1 : k0_cond1 i = 1#1), ∀ a, (k0_off152 v789) a + S1x2048.size a ≤ S8704x2048.size a)
theorem k0_off152_inb : ∀ (i : grid0.Coords) (v789 : BitVec 32) (k0_hw151 : k0_chk151 i v789), ∀ (k0_h1 : k0_cond1 i = 1#1), ∀ a, (k0_off152 v789) a + S1x2048.size a ≤ S8704x2048.size a := fun i v789 k0_hw151 k0_h1 => k0_hw151 k0_h1

def k0_off153 (v794 : BitVec 32) : Fin 2 → Nat :=
  let c0_i32_477 : BitVec 32 := 0#32
  ![v794.toNat, 0]

def k0_chk152 (i : grid0.Coords) (v794 : BitVec 32) : Prop :=
  (∀ (k0_h1 : k0_cond1 i = 1#1), ∀ a, (k0_off153 v794) a + S1x2048.size a ≤ S8704x2048.size a)
theorem k0_off153_inb : ∀ (i : grid0.Coords) (v794 : BitVec 32) (k0_hw152 : k0_chk152 i v794), ∀ (k0_h1 : k0_cond1 i = 1#1), ∀ a, (k0_off153 v794) a + S1x2048.size a ≤ S8704x2048.size a := fun i v794 k0_hw152 k0_h1 => k0_hw152 k0_h1

def k0_off154 (v799 : BitVec 32) : Fin 2 → Nat :=
  let c0_i32_480 : BitVec 32 := 0#32
  ![v799.toNat, 0]

def k0_chk153 (i : grid0.Coords) (v799 : BitVec 32) : Prop :=
  (∀ (k0_h1 : k0_cond1 i = 1#1), ∀ a, (k0_off154 v799) a + S1x2048.size a ≤ S8704x2048.size a)
theorem k0_off154_inb : ∀ (i : grid0.Coords) (v799 : BitVec 32) (k0_hw153 : k0_chk153 i v799), ∀ (k0_h1 : k0_cond1 i = 1#1), ∀ a, (k0_off154 v799) a + S1x2048.size a ≤ S8704x2048.size a := fun i v799 k0_hw153 k0_h1 => k0_hw153 k0_h1

def k0_off155 (v804 : BitVec 32) : Fin 2 → Nat :=
  let c0_i32_483 : BitVec 32 := 0#32
  ![v804.toNat, 0]

def k0_chk154 (i : grid0.Coords) (v804 : BitVec 32) : Prop :=
  (∀ (k0_h1 : k0_cond1 i = 1#1), ∀ a, (k0_off155 v804) a + S1x2048.size a ≤ S8704x2048.size a)
theorem k0_off155_inb : ∀ (i : grid0.Coords) (v804 : BitVec 32) (k0_hw154 : k0_chk154 i v804), ∀ (k0_h1 : k0_cond1 i = 1#1), ∀ a, (k0_off155 v804) a + S1x2048.size a ≤ S8704x2048.size a := fun i v804 k0_hw154 k0_h1 => k0_hw154 k0_h1

def k0_off156 (v809 : BitVec 32) : Fin 2 → Nat :=
  let c0_i32_486 : BitVec 32 := 0#32
  ![v809.toNat, 0]

def k0_chk155 (i : grid0.Coords) (v809 : BitVec 32) : Prop :=
  (∀ (k0_h1 : k0_cond1 i = 1#1), ∀ a, (k0_off156 v809) a + S1x2048.size a ≤ S8704x2048.size a)
theorem k0_off156_inb : ∀ (i : grid0.Coords) (v809 : BitVec 32) (k0_hw155 : k0_chk155 i v809), ∀ (k0_h1 : k0_cond1 i = 1#1), ∀ a, (k0_off156 v809) a + S1x2048.size a ≤ S8704x2048.size a := fun i v809 k0_hw155 k0_h1 => k0_hw155 k0_h1

def k0_off157 (v814 : BitVec 32) : Fin 2 → Nat :=
  let c0_i32_489 : BitVec 32 := 0#32
  ![v814.toNat, 0]

def k0_chk156 (i : grid0.Coords) (v814 : BitVec 32) : Prop :=
  (∀ (k0_h1 : k0_cond1 i = 1#1), ∀ a, (k0_off157 v814) a + S1x2048.size a ≤ S8704x2048.size a)
theorem k0_off157_inb : ∀ (i : grid0.Coords) (v814 : BitVec 32) (k0_hw156 : k0_chk156 i v814), ∀ (k0_h1 : k0_cond1 i = 1#1), ∀ a, (k0_off157 v814) a + S1x2048.size a ≤ S8704x2048.size a := fun i v814 k0_hw156 k0_h1 => k0_hw156 k0_h1

def k0_off158 (v819 : BitVec 32) : Fin 2 → Nat :=
  let c0_i32_492 : BitVec 32 := 0#32
  ![v819.toNat, 0]

def k0_chk157 (i : grid0.Coords) (v819 : BitVec 32) : Prop :=
  (∀ (k0_h1 : k0_cond1 i = 1#1), ∀ a, (k0_off158 v819) a + S1x2048.size a ≤ S8704x2048.size a)
theorem k0_off158_inb : ∀ (i : grid0.Coords) (v819 : BitVec 32) (k0_hw157 : k0_chk157 i v819), ∀ (k0_h1 : k0_cond1 i = 1#1), ∀ a, (k0_off158 v819) a + S1x2048.size a ≤ S8704x2048.size a := fun i v819 k0_hw157 k0_h1 => k0_hw157 k0_h1

def k0_off159 (v824 : BitVec 32) : Fin 2 → Nat :=
  let c0_i32_495 : BitVec 32 := 0#32
  ![v824.toNat, 0]

def k0_chk158 (i : grid0.Coords) (v824 : BitVec 32) : Prop :=
  (∀ (k0_h1 : k0_cond1 i = 1#1), ∀ a, (k0_off159 v824) a + S1x2048.size a ≤ S8704x2048.size a)
theorem k0_off159_inb : ∀ (i : grid0.Coords) (v824 : BitVec 32) (k0_hw158 : k0_chk158 i v824), ∀ (k0_h1 : k0_cond1 i = 1#1), ∀ a, (k0_off159 v824) a + S1x2048.size a ≤ S8704x2048.size a := fun i v824 k0_hw158 k0_h1 => k0_hw158 k0_h1

def k0_off160 (v829 : BitVec 32) : Fin 2 → Nat :=
  let c0_i32_498 : BitVec 32 := 0#32
  ![v829.toNat, 0]

def k0_chk159 (i : grid0.Coords) (v829 : BitVec 32) : Prop :=
  (∀ (k0_h1 : k0_cond1 i = 1#1), ∀ a, (k0_off160 v829) a + S1x2048.size a ≤ S8704x2048.size a)
theorem k0_off160_inb : ∀ (i : grid0.Coords) (v829 : BitVec 32) (k0_hw159 : k0_chk159 i v829), ∀ (k0_h1 : k0_cond1 i = 1#1), ∀ a, (k0_off160 v829) a + S1x2048.size a ≤ S8704x2048.size a := fun i v829 k0_hw159 k0_h1 => k0_hw159 k0_h1

def k0_off161 (v834 : BitVec 32) : Fin 2 → Nat :=
  let c0_i32_501 : BitVec 32 := 0#32
  ![v834.toNat, 0]

def k0_chk160 (i : grid0.Coords) (v834 : BitVec 32) : Prop :=
  (∀ (k0_h1 : k0_cond1 i = 1#1), ∀ a, (k0_off161 v834) a + S1x2048.size a ≤ S8704x2048.size a)
theorem k0_off161_inb : ∀ (i : grid0.Coords) (v834 : BitVec 32) (k0_hw160 : k0_chk160 i v834), ∀ (k0_h1 : k0_cond1 i = 1#1), ∀ a, (k0_off161 v834) a + S1x2048.size a ≤ S8704x2048.size a := fun i v834 k0_hw160 k0_h1 => k0_hw160 k0_h1

def k0_off162 (v839 : BitVec 32) : Fin 2 → Nat :=
  let c0_i32_504 : BitVec 32 := 0#32
  ![v839.toNat, 0]

def k0_chk161 (i : grid0.Coords) (v839 : BitVec 32) : Prop :=
  (∀ (k0_h1 : k0_cond1 i = 1#1), ∀ a, (k0_off162 v839) a + S1x2048.size a ≤ S8704x2048.size a)
theorem k0_off162_inb : ∀ (i : grid0.Coords) (v839 : BitVec 32) (k0_hw161 : k0_chk161 i v839), ∀ (k0_h1 : k0_cond1 i = 1#1), ∀ a, (k0_off162 v839) a + S1x2048.size a ≤ S8704x2048.size a := fun i v839 k0_hw161 k0_h1 => k0_hw161 k0_h1

def k0_off163 (v844 : BitVec 32) : Fin 2 → Nat :=
  let c0_i32_507 : BitVec 32 := 0#32
  ![v844.toNat, 0]

def k0_chk162 (i : grid0.Coords) (v844 : BitVec 32) : Prop :=
  (∀ (k0_h1 : k0_cond1 i = 1#1), ∀ a, (k0_off163 v844) a + S1x2048.size a ≤ S8704x2048.size a)
theorem k0_off163_inb : ∀ (i : grid0.Coords) (v844 : BitVec 32) (k0_hw162 : k0_chk162 i v844), ∀ (k0_h1 : k0_cond1 i = 1#1), ∀ a, (k0_off163 v844) a + S1x2048.size a ≤ S8704x2048.size a := fun i v844 k0_hw162 k0_h1 => k0_hw162 k0_h1

def k0_off164 (v849 : BitVec 32) : Fin 2 → Nat :=
  let c0_i32_510 : BitVec 32 := 0#32
  ![v849.toNat, 0]

def k0_chk163 (i : grid0.Coords) (v849 : BitVec 32) : Prop :=
  (∀ (k0_h1 : k0_cond1 i = 1#1), ∀ a, (k0_off164 v849) a + S1x2048.size a ≤ S8704x2048.size a)
theorem k0_off164_inb : ∀ (i : grid0.Coords) (v849 : BitVec 32) (k0_hw163 : k0_chk163 i v849), ∀ (k0_h1 : k0_cond1 i = 1#1), ∀ a, (k0_off164 v849) a + S1x2048.size a ≤ S8704x2048.size a := fun i v849 k0_hw163 k0_h1 => k0_hw163 k0_h1

def k0_off165 (v854 : BitVec 32) : Fin 2 → Nat :=
  let c0_i32_513 : BitVec 32 := 0#32
  ![v854.toNat, 0]

def k0_chk164 (i : grid0.Coords) (v854 : BitVec 32) : Prop :=
  (∀ (k0_h1 : k0_cond1 i = 1#1), ∀ a, (k0_off165 v854) a + S1x2048.size a ≤ S8704x2048.size a)
theorem k0_off165_inb : ∀ (i : grid0.Coords) (v854 : BitVec 32) (k0_hw164 : k0_chk164 i v854), ∀ (k0_h1 : k0_cond1 i = 1#1), ∀ a, (k0_off165 v854) a + S1x2048.size a ≤ S8704x2048.size a := fun i v854 k0_hw164 k0_h1 => k0_hw164 k0_h1

def k0_off166 (v859 : BitVec 32) : Fin 2 → Nat :=
  let c0_i32_516 : BitVec 32 := 0#32
  ![v859.toNat, 0]

def k0_chk165 (i : grid0.Coords) (v859 : BitVec 32) : Prop :=
  (∀ (k0_h1 : k0_cond1 i = 1#1), ∀ a, (k0_off166 v859) a + S1x2048.size a ≤ S8704x2048.size a)
theorem k0_off166_inb : ∀ (i : grid0.Coords) (v859 : BitVec 32) (k0_hw165 : k0_chk165 i v859), ∀ (k0_h1 : k0_cond1 i = 1#1), ∀ a, (k0_off166 v859) a + S1x2048.size a ≤ S8704x2048.size a := fun i v859 k0_hw165 k0_h1 => k0_hw165 k0_h1

def k0_off167 (v864 : BitVec 32) : Fin 2 → Nat :=
  let c0_i32_519 : BitVec 32 := 0#32
  ![v864.toNat, 0]

def k0_chk166 (i : grid0.Coords) (v864 : BitVec 32) : Prop :=
  (∀ (k0_h1 : k0_cond1 i = 1#1), ∀ a, (k0_off167 v864) a + S1x2048.size a ≤ S8704x2048.size a)
theorem k0_off167_inb : ∀ (i : grid0.Coords) (v864 : BitVec 32) (k0_hw166 : k0_chk166 i v864), ∀ (k0_h1 : k0_cond1 i = 1#1), ∀ a, (k0_off167 v864) a + S1x2048.size a ≤ S8704x2048.size a := fun i v864 k0_hw166 k0_h1 => k0_hw166 k0_h1

def k0_off168 (v869 : BitVec 32) : Fin 2 → Nat :=
  let c0_i32_522 : BitVec 32 := 0#32
  ![v869.toNat, 0]

def k0_chk167 (i : grid0.Coords) (v869 : BitVec 32) : Prop :=
  (∀ (k0_h1 : k0_cond1 i = 1#1), ∀ a, (k0_off168 v869) a + S1x2048.size a ≤ S8704x2048.size a)
theorem k0_off168_inb : ∀ (i : grid0.Coords) (v869 : BitVec 32) (k0_hw167 : k0_chk167 i v869), ∀ (k0_h1 : k0_cond1 i = 1#1), ∀ a, (k0_off168 v869) a + S1x2048.size a ≤ S8704x2048.size a := fun i v869 k0_hw167 k0_h1 => k0_hw167 k0_h1

def k0_off169 (v874 : BitVec 32) : Fin 2 → Nat :=
  let c0_i32_525 : BitVec 32 := 0#32
  ![v874.toNat, 0]

def k0_chk168 (i : grid0.Coords) (v874 : BitVec 32) : Prop :=
  (∀ (k0_h1 : k0_cond1 i = 1#1), ∀ a, (k0_off169 v874) a + S1x2048.size a ≤ S8704x2048.size a)
theorem k0_off169_inb : ∀ (i : grid0.Coords) (v874 : BitVec 32) (k0_hw168 : k0_chk168 i v874), ∀ (k0_h1 : k0_cond1 i = 1#1), ∀ a, (k0_off169 v874) a + S1x2048.size a ≤ S8704x2048.size a := fun i v874 k0_hw168 k0_h1 => k0_hw168 k0_h1

def k0_off170 (v879 : BitVec 32) : Fin 2 → Nat :=
  let c0_i32_528 : BitVec 32 := 0#32
  ![v879.toNat, 0]

def k0_chk169 (i : grid0.Coords) (v879 : BitVec 32) : Prop :=
  (∀ (k0_h1 : k0_cond1 i = 1#1), ∀ a, (k0_off170 v879) a + S1x2048.size a ≤ S8704x2048.size a)
theorem k0_off170_inb : ∀ (i : grid0.Coords) (v879 : BitVec 32) (k0_hw169 : k0_chk169 i v879), ∀ (k0_h1 : k0_cond1 i = 1#1), ∀ a, (k0_off170 v879) a + S1x2048.size a ≤ S8704x2048.size a := fun i v879 k0_hw169 k0_h1 => k0_hw169 k0_h1

def k0_off171 (v884 : BitVec 32) : Fin 2 → Nat :=
  let c0_i32_531 : BitVec 32 := 0#32
  ![v884.toNat, 0]

def k0_chk170 (i : grid0.Coords) (v884 : BitVec 32) : Prop :=
  (∀ (k0_h1 : k0_cond1 i = 1#1), ∀ a, (k0_off171 v884) a + S1x2048.size a ≤ S8704x2048.size a)
theorem k0_off171_inb : ∀ (i : grid0.Coords) (v884 : BitVec 32) (k0_hw170 : k0_chk170 i v884), ∀ (k0_h1 : k0_cond1 i = 1#1), ∀ a, (k0_off171 v884) a + S1x2048.size a ≤ S8704x2048.size a := fun i v884 k0_hw170 k0_h1 => k0_hw170 k0_h1

def k0_off172 (v889 : BitVec 32) : Fin 2 → Nat :=
  let c0_i32_534 : BitVec 32 := 0#32
  ![v889.toNat, 0]

def k0_chk171 (i : grid0.Coords) (v889 : BitVec 32) : Prop :=
  (∀ (k0_h1 : k0_cond1 i = 1#1), ∀ a, (k0_off172 v889) a + S1x2048.size a ≤ S8704x2048.size a)
theorem k0_off172_inb : ∀ (i : grid0.Coords) (v889 : BitVec 32) (k0_hw171 : k0_chk171 i v889), ∀ (k0_h1 : k0_cond1 i = 1#1), ∀ a, (k0_off172 v889) a + S1x2048.size a ≤ S8704x2048.size a := fun i v889 k0_hw171 k0_h1 => k0_hw171 k0_h1

def k0_off173 (v894 : BitVec 32) : Fin 2 → Nat :=
  let c0_i32_537 : BitVec 32 := 0#32
  ![v894.toNat, 0]

def k0_chk172 (i : grid0.Coords) (v894 : BitVec 32) : Prop :=
  (∀ (k0_h1 : k0_cond1 i = 1#1), ∀ a, (k0_off173 v894) a + S1x2048.size a ≤ S8704x2048.size a)
theorem k0_off173_inb : ∀ (i : grid0.Coords) (v894 : BitVec 32) (k0_hw172 : k0_chk172 i v894), ∀ (k0_h1 : k0_cond1 i = 1#1), ∀ a, (k0_off173 v894) a + S1x2048.size a ≤ S8704x2048.size a := fun i v894 k0_hw172 k0_h1 => k0_hw172 k0_h1

def k0_off174 (v899 : BitVec 32) : Fin 2 → Nat :=
  let c0_i32_540 : BitVec 32 := 0#32
  ![v899.toNat, 0]

def k0_chk173 (i : grid0.Coords) (v899 : BitVec 32) : Prop :=
  (∀ (k0_h1 : k0_cond1 i = 1#1), ∀ a, (k0_off174 v899) a + S1x2048.size a ≤ S8704x2048.size a)
theorem k0_off174_inb : ∀ (i : grid0.Coords) (v899 : BitVec 32) (k0_hw173 : k0_chk173 i v899), ∀ (k0_h1 : k0_cond1 i = 1#1), ∀ a, (k0_off174 v899) a + S1x2048.size a ≤ S8704x2048.size a := fun i v899 k0_hw173 k0_h1 => k0_hw173 k0_h1

def k0_off175 (v904 : BitVec 32) : Fin 2 → Nat :=
  let c0_i32_543 : BitVec 32 := 0#32
  ![v904.toNat, 0]

def k0_chk174 (i : grid0.Coords) (v904 : BitVec 32) : Prop :=
  (∀ (k0_h1 : k0_cond1 i = 1#1), ∀ a, (k0_off175 v904) a + S1x2048.size a ≤ S8704x2048.size a)
theorem k0_off175_inb : ∀ (i : grid0.Coords) (v904 : BitVec 32) (k0_hw174 : k0_chk174 i v904), ∀ (k0_h1 : k0_cond1 i = 1#1), ∀ a, (k0_off175 v904) a + S1x2048.size a ≤ S8704x2048.size a := fun i v904 k0_hw174 k0_h1 => k0_hw174 k0_h1

def k0_off176 (v909 : BitVec 32) : Fin 2 → Nat :=
  let c0_i32_546 : BitVec 32 := 0#32
  ![v909.toNat, 0]

def k0_chk175 (i : grid0.Coords) (v909 : BitVec 32) : Prop :=
  (∀ (k0_h1 : k0_cond1 i = 1#1), ∀ a, (k0_off176 v909) a + S1x2048.size a ≤ S8704x2048.size a)
theorem k0_off176_inb : ∀ (i : grid0.Coords) (v909 : BitVec 32) (k0_hw175 : k0_chk175 i v909), ∀ (k0_h1 : k0_cond1 i = 1#1), ∀ a, (k0_off176 v909) a + S1x2048.size a ≤ S8704x2048.size a := fun i v909 k0_hw175 k0_h1 => k0_hw175 k0_h1

def k0_off177 (v914 : BitVec 32) : Fin 2 → Nat :=
  let c0_i32_549 : BitVec 32 := 0#32
  ![v914.toNat, 0]

def k0_chk176 (i : grid0.Coords) (v914 : BitVec 32) : Prop :=
  (∀ (k0_h1 : k0_cond1 i = 1#1), ∀ a, (k0_off177 v914) a + S1x2048.size a ≤ S8704x2048.size a)
theorem k0_off177_inb : ∀ (i : grid0.Coords) (v914 : BitVec 32) (k0_hw176 : k0_chk176 i v914), ∀ (k0_h1 : k0_cond1 i = 1#1), ∀ a, (k0_off177 v914) a + S1x2048.size a ≤ S8704x2048.size a := fun i v914 k0_hw176 k0_h1 => k0_hw176 k0_h1

def k0_off178 (v919 : BitVec 32) : Fin 2 → Nat :=
  let c0_i32_552 : BitVec 32 := 0#32
  ![v919.toNat, 0]

def k0_chk177 (i : grid0.Coords) (v919 : BitVec 32) : Prop :=
  (∀ (k0_h1 : k0_cond1 i = 1#1), ∀ a, (k0_off178 v919) a + S1x2048.size a ≤ S8704x2048.size a)
theorem k0_off178_inb : ∀ (i : grid0.Coords) (v919 : BitVec 32) (k0_hw177 : k0_chk177 i v919), ∀ (k0_h1 : k0_cond1 i = 1#1), ∀ a, (k0_off178 v919) a + S1x2048.size a ≤ S8704x2048.size a := fun i v919 k0_hw177 k0_h1 => k0_hw177 k0_h1

def k0_off179 (v924 : BitVec 32) : Fin 2 → Nat :=
  let c0_i32_555 : BitVec 32 := 0#32
  ![v924.toNat, 0]

def k0_chk178 (i : grid0.Coords) (v924 : BitVec 32) : Prop :=
  (∀ (k0_h1 : k0_cond1 i = 1#1), ∀ a, (k0_off179 v924) a + S1x2048.size a ≤ S8704x2048.size a)
theorem k0_off179_inb : ∀ (i : grid0.Coords) (v924 : BitVec 32) (k0_hw178 : k0_chk178 i v924), ∀ (k0_h1 : k0_cond1 i = 1#1), ∀ a, (k0_off179 v924) a + S1x2048.size a ≤ S8704x2048.size a := fun i v924 k0_hw178 k0_h1 => k0_hw178 k0_h1

def k0_off180 (v929 : BitVec 32) : Fin 2 → Nat :=
  let c0_i32_558 : BitVec 32 := 0#32
  ![v929.toNat, 0]

def k0_chk179 (i : grid0.Coords) (v929 : BitVec 32) : Prop :=
  (∀ (k0_h1 : k0_cond1 i = 1#1), ∀ a, (k0_off180 v929) a + S1x2048.size a ≤ S8704x2048.size a)
theorem k0_off180_inb : ∀ (i : grid0.Coords) (v929 : BitVec 32) (k0_hw179 : k0_chk179 i v929), ∀ (k0_h1 : k0_cond1 i = 1#1), ∀ a, (k0_off180 v929) a + S1x2048.size a ≤ S8704x2048.size a := fun i v929 k0_hw179 k0_h1 => k0_hw179 k0_h1

def k0_off181 (v934 : BitVec 32) : Fin 2 → Nat :=
  let c0_i32_561 : BitVec 32 := 0#32
  ![v934.toNat, 0]

def k0_chk180 (i : grid0.Coords) (v934 : BitVec 32) : Prop :=
  (∀ (k0_h1 : k0_cond1 i = 1#1), ∀ a, (k0_off181 v934) a + S1x2048.size a ≤ S8704x2048.size a)
theorem k0_off181_inb : ∀ (i : grid0.Coords) (v934 : BitVec 32) (k0_hw180 : k0_chk180 i v934), ∀ (k0_h1 : k0_cond1 i = 1#1), ∀ a, (k0_off181 v934) a + S1x2048.size a ≤ S8704x2048.size a := fun i v934 k0_hw180 k0_h1 => k0_hw180 k0_h1

def k0_off182 (v939 : BitVec 32) : Fin 2 → Nat :=
  let c0_i32_564 : BitVec 32 := 0#32
  ![v939.toNat, 0]

def k0_chk181 (i : grid0.Coords) (v939 : BitVec 32) : Prop :=
  (∀ (k0_h1 : k0_cond1 i = 1#1), ∀ a, (k0_off182 v939) a + S1x2048.size a ≤ S8704x2048.size a)
theorem k0_off182_inb : ∀ (i : grid0.Coords) (v939 : BitVec 32) (k0_hw181 : k0_chk181 i v939), ∀ (k0_h1 : k0_cond1 i = 1#1), ∀ a, (k0_off182 v939) a + S1x2048.size a ≤ S8704x2048.size a := fun i v939 k0_hw181 k0_h1 => k0_hw181 k0_h1

def k0_off183 (v944 : BitVec 32) : Fin 2 → Nat :=
  let c0_i32_567 : BitVec 32 := 0#32
  ![v944.toNat, 0]

def k0_chk182 (i : grid0.Coords) (v944 : BitVec 32) : Prop :=
  (∀ (k0_h1 : k0_cond1 i = 1#1), ∀ a, (k0_off183 v944) a + S1x2048.size a ≤ S8704x2048.size a)
theorem k0_off183_inb : ∀ (i : grid0.Coords) (v944 : BitVec 32) (k0_hw182 : k0_chk182 i v944), ∀ (k0_h1 : k0_cond1 i = 1#1), ∀ a, (k0_off183 v944) a + S1x2048.size a ≤ S8704x2048.size a := fun i v944 k0_hw182 k0_h1 => k0_hw182 k0_h1

def k0_off184 (v949 : BitVec 32) : Fin 2 → Nat :=
  let c0_i32_570 : BitVec 32 := 0#32
  ![v949.toNat, 0]

def k0_chk183 (i : grid0.Coords) (v949 : BitVec 32) : Prop :=
  (∀ (k0_h1 : k0_cond1 i = 1#1), ∀ a, (k0_off184 v949) a + S1x2048.size a ≤ S8704x2048.size a)
theorem k0_off184_inb : ∀ (i : grid0.Coords) (v949 : BitVec 32) (k0_hw183 : k0_chk183 i v949), ∀ (k0_h1 : k0_cond1 i = 1#1), ∀ a, (k0_off184 v949) a + S1x2048.size a ≤ S8704x2048.size a := fun i v949 k0_hw183 k0_h1 => k0_hw183 k0_h1

def k0_off185 (v954 : BitVec 32) : Fin 2 → Nat :=
  let c0_i32_573 : BitVec 32 := 0#32
  ![v954.toNat, 0]

def k0_chk184 (i : grid0.Coords) (v954 : BitVec 32) : Prop :=
  (∀ (k0_h1 : k0_cond1 i = 1#1), ∀ a, (k0_off185 v954) a + S1x2048.size a ≤ S8704x2048.size a)
theorem k0_off185_inb : ∀ (i : grid0.Coords) (v954 : BitVec 32) (k0_hw184 : k0_chk184 i v954), ∀ (k0_h1 : k0_cond1 i = 1#1), ∀ a, (k0_off185 v954) a + S1x2048.size a ≤ S8704x2048.size a := fun i v954 k0_hw184 k0_h1 => k0_hw184 k0_h1

def k0_off186 (v959 : BitVec 32) : Fin 2 → Nat :=
  let c0_i32_576 : BitVec 32 := 0#32
  ![v959.toNat, 0]

def k0_chk185 (i : grid0.Coords) (v959 : BitVec 32) : Prop :=
  (∀ (k0_h1 : k0_cond1 i = 1#1), ∀ a, (k0_off186 v959) a + S1x2048.size a ≤ S8704x2048.size a)
theorem k0_off186_inb : ∀ (i : grid0.Coords) (v959 : BitVec 32) (k0_hw185 : k0_chk185 i v959), ∀ (k0_h1 : k0_cond1 i = 1#1), ∀ a, (k0_off186 v959) a + S1x2048.size a ≤ S8704x2048.size a := fun i v959 k0_hw185 k0_h1 => k0_hw185 k0_h1

def k0_off187 (v964 : BitVec 32) : Fin 2 → Nat :=
  let c0_i32_579 : BitVec 32 := 0#32
  ![v964.toNat, 0]

def k0_chk186 (i : grid0.Coords) (v964 : BitVec 32) : Prop :=
  (∀ (k0_h1 : k0_cond1 i = 1#1), ∀ a, (k0_off187 v964) a + S1x2048.size a ≤ S8704x2048.size a)
theorem k0_off187_inb : ∀ (i : grid0.Coords) (v964 : BitVec 32) (k0_hw186 : k0_chk186 i v964), ∀ (k0_h1 : k0_cond1 i = 1#1), ∀ a, (k0_off187 v964) a + S1x2048.size a ≤ S8704x2048.size a := fun i v964 k0_hw186 k0_h1 => k0_hw186 k0_h1

def k0_off188 (v969 : BitVec 32) : Fin 2 → Nat :=
  let c0_i32_582 : BitVec 32 := 0#32
  ![v969.toNat, 0]

def k0_chk187 (i : grid0.Coords) (v969 : BitVec 32) : Prop :=
  (∀ (k0_h1 : k0_cond1 i = 1#1), ∀ a, (k0_off188 v969) a + S1x2048.size a ≤ S8704x2048.size a)
theorem k0_off188_inb : ∀ (i : grid0.Coords) (v969 : BitVec 32) (k0_hw187 : k0_chk187 i v969), ∀ (k0_h1 : k0_cond1 i = 1#1), ∀ a, (k0_off188 v969) a + S1x2048.size a ≤ S8704x2048.size a := fun i v969 k0_hw187 k0_h1 => k0_hw187 k0_h1

def k0_off189 (v974 : BitVec 32) : Fin 2 → Nat :=
  let c0_i32_585 : BitVec 32 := 0#32
  ![v974.toNat, 0]

def k0_chk188 (i : grid0.Coords) (v974 : BitVec 32) : Prop :=
  (∀ (k0_h1 : k0_cond1 i = 1#1), ∀ a, (k0_off189 v974) a + S1x2048.size a ≤ S8704x2048.size a)
theorem k0_off189_inb : ∀ (i : grid0.Coords) (v974 : BitVec 32) (k0_hw188 : k0_chk188 i v974), ∀ (k0_h1 : k0_cond1 i = 1#1), ∀ a, (k0_off189 v974) a + S1x2048.size a ≤ S8704x2048.size a := fun i v974 k0_hw188 k0_h1 => k0_hw188 k0_h1

def k0_off190 (v979 : BitVec 32) : Fin 2 → Nat :=
  let c0_i32_588 : BitVec 32 := 0#32
  ![v979.toNat, 0]

def k0_chk189 (i : grid0.Coords) (v979 : BitVec 32) : Prop :=
  (∀ (k0_h1 : k0_cond1 i = 1#1), ∀ a, (k0_off190 v979) a + S1x2048.size a ≤ S8704x2048.size a)
theorem k0_off190_inb : ∀ (i : grid0.Coords) (v979 : BitVec 32) (k0_hw189 : k0_chk189 i v979), ∀ (k0_h1 : k0_cond1 i = 1#1), ∀ a, (k0_off190 v979) a + S1x2048.size a ≤ S8704x2048.size a := fun i v979 k0_hw189 k0_h1 => k0_hw189 k0_h1

def k0_off191 (v984 : BitVec 32) : Fin 2 → Nat :=
  let c0_i32_591 : BitVec 32 := 0#32
  ![v984.toNat, 0]

def k0_chk190 (i : grid0.Coords) (v984 : BitVec 32) : Prop :=
  (∀ (k0_h1 : k0_cond1 i = 1#1), ∀ a, (k0_off191 v984) a + S1x2048.size a ≤ S8704x2048.size a)
theorem k0_off191_inb : ∀ (i : grid0.Coords) (v984 : BitVec 32) (k0_hw190 : k0_chk190 i v984), ∀ (k0_h1 : k0_cond1 i = 1#1), ∀ a, (k0_off191 v984) a + S1x2048.size a ≤ S8704x2048.size a := fun i v984 k0_hw190 k0_h1 => k0_hw190 k0_h1

def k0_off192 (v989 : BitVec 32) : Fin 2 → Nat :=
  let c0_i32_594 : BitVec 32 := 0#32
  ![v989.toNat, 0]

def k0_chk191 (i : grid0.Coords) (v989 : BitVec 32) : Prop :=
  (∀ (k0_h1 : k0_cond1 i = 1#1), ∀ a, (k0_off192 v989) a + S1x2048.size a ≤ S8704x2048.size a)
theorem k0_off192_inb : ∀ (i : grid0.Coords) (v989 : BitVec 32) (k0_hw191 : k0_chk191 i v989), ∀ (k0_h1 : k0_cond1 i = 1#1), ∀ a, (k0_off192 v989) a + S1x2048.size a ≤ S8704x2048.size a := fun i v989 k0_hw191 k0_h1 => k0_hw191 k0_h1

def k0_off193 (v994 : BitVec 32) : Fin 2 → Nat :=
  let c0_i32_597 : BitVec 32 := 0#32
  ![v994.toNat, 0]

def k0_chk192 (i : grid0.Coords) (v994 : BitVec 32) : Prop :=
  (∀ (k0_h1 : k0_cond1 i = 1#1), ∀ a, (k0_off193 v994) a + S1x2048.size a ≤ S8704x2048.size a)
theorem k0_off193_inb : ∀ (i : grid0.Coords) (v994 : BitVec 32) (k0_hw192 : k0_chk192 i v994), ∀ (k0_h1 : k0_cond1 i = 1#1), ∀ a, (k0_off193 v994) a + S1x2048.size a ≤ S8704x2048.size a := fun i v994 k0_hw192 k0_h1 => k0_hw192 k0_h1

def k0_off194 (v999 : BitVec 32) : Fin 2 → Nat :=
  let c0_i32_600 : BitVec 32 := 0#32
  ![v999.toNat, 0]

def k0_chk193 (i : grid0.Coords) (v999 : BitVec 32) : Prop :=
  (∀ (k0_h1 : k0_cond1 i = 1#1), ∀ a, (k0_off194 v999) a + S1x2048.size a ≤ S8704x2048.size a)
theorem k0_off194_inb : ∀ (i : grid0.Coords) (v999 : BitVec 32) (k0_hw193 : k0_chk193 i v999), ∀ (k0_h1 : k0_cond1 i = 1#1), ∀ a, (k0_off194 v999) a + S1x2048.size a ≤ S8704x2048.size a := fun i v999 k0_hw193 k0_h1 => k0_hw193 k0_h1

def k0_off195 (v1004 : BitVec 32) : Fin 2 → Nat :=
  let c0_i32_603 : BitVec 32 := 0#32
  ![v1004.toNat, 0]

def k0_chk194 (i : grid0.Coords) (v1004 : BitVec 32) : Prop :=
  (∀ (k0_h1 : k0_cond1 i = 1#1), ∀ a, (k0_off195 v1004) a + S1x2048.size a ≤ S8704x2048.size a)
theorem k0_off195_inb : ∀ (i : grid0.Coords) (v1004 : BitVec 32) (k0_hw194 : k0_chk194 i v1004), ∀ (k0_h1 : k0_cond1 i = 1#1), ∀ a, (k0_off195 v1004) a + S1x2048.size a ≤ S8704x2048.size a := fun i v1004 k0_hw194 k0_h1 => k0_hw194 k0_h1

def k0_off196 (v1009 : BitVec 32) : Fin 2 → Nat :=
  let c0_i32_606 : BitVec 32 := 0#32
  ![v1009.toNat, 0]

def k0_chk195 (i : grid0.Coords) (v1009 : BitVec 32) : Prop :=
  (∀ (k0_h1 : k0_cond1 i = 1#1), ∀ a, (k0_off196 v1009) a + S1x2048.size a ≤ S8704x2048.size a)
theorem k0_off196_inb : ∀ (i : grid0.Coords) (v1009 : BitVec 32) (k0_hw195 : k0_chk195 i v1009), ∀ (k0_h1 : k0_cond1 i = 1#1), ∀ a, (k0_off196 v1009) a + S1x2048.size a ≤ S8704x2048.size a := fun i v1009 k0_hw195 k0_h1 => k0_hw195 k0_h1

def k0_off197 (v1014 : BitVec 32) : Fin 2 → Nat :=
  let c0_i32_609 : BitVec 32 := 0#32
  ![v1014.toNat, 0]

def k0_chk196 (i : grid0.Coords) (v1014 : BitVec 32) : Prop :=
  (∀ (k0_h1 : k0_cond1 i = 1#1), ∀ a, (k0_off197 v1014) a + S1x2048.size a ≤ S8704x2048.size a)
theorem k0_off197_inb : ∀ (i : grid0.Coords) (v1014 : BitVec 32) (k0_hw196 : k0_chk196 i v1014), ∀ (k0_h1 : k0_cond1 i = 1#1), ∀ a, (k0_off197 v1014) a + S1x2048.size a ≤ S8704x2048.size a := fun i v1014 k0_hw196 k0_h1 => k0_hw196 k0_h1

def k0_off198 (v1019 : BitVec 32) : Fin 2 → Nat :=
  let c0_i32_612 : BitVec 32 := 0#32
  ![v1019.toNat, 0]

def k0_chk197 (i : grid0.Coords) (v1019 : BitVec 32) : Prop :=
  (∀ (k0_h1 : k0_cond1 i = 1#1), ∀ a, (k0_off198 v1019) a + S1x2048.size a ≤ S8704x2048.size a)
theorem k0_off198_inb : ∀ (i : grid0.Coords) (v1019 : BitVec 32) (k0_hw197 : k0_chk197 i v1019), ∀ (k0_h1 : k0_cond1 i = 1#1), ∀ a, (k0_off198 v1019) a + S1x2048.size a ≤ S8704x2048.size a := fun i v1019 k0_hw197 k0_h1 => k0_hw197 k0_h1

def k0_off199 (v1024 : BitVec 32) : Fin 2 → Nat :=
  let c0_i32_615 : BitVec 32 := 0#32
  ![v1024.toNat, 0]

def k0_chk198 (i : grid0.Coords) (v1024 : BitVec 32) : Prop :=
  (∀ (k0_h1 : k0_cond1 i = 1#1), ∀ a, (k0_off199 v1024) a + S1x2048.size a ≤ S8704x2048.size a)
theorem k0_off199_inb : ∀ (i : grid0.Coords) (v1024 : BitVec 32) (k0_hw198 : k0_chk198 i v1024), ∀ (k0_h1 : k0_cond1 i = 1#1), ∀ a, (k0_off199 v1024) a + S1x2048.size a ≤ S8704x2048.size a := fun i v1024 k0_hw198 k0_h1 => k0_hw198 k0_h1

def k0_off200 (v1029 : BitVec 32) : Fin 2 → Nat :=
  let c0_i32_618 : BitVec 32 := 0#32
  ![v1029.toNat, 0]

def k0_chk199 (i : grid0.Coords) (v1029 : BitVec 32) : Prop :=
  (∀ (k0_h1 : k0_cond1 i = 1#1), ∀ a, (k0_off200 v1029) a + S1x2048.size a ≤ S8704x2048.size a)
theorem k0_off200_inb : ∀ (i : grid0.Coords) (v1029 : BitVec 32) (k0_hw199 : k0_chk199 i v1029), ∀ (k0_h1 : k0_cond1 i = 1#1), ∀ a, (k0_off200 v1029) a + S1x2048.size a ≤ S8704x2048.size a := fun i v1029 k0_hw199 k0_h1 => k0_hw199 k0_h1

def k0_off201 (v1034 : BitVec 32) : Fin 2 → Nat :=
  let c0_i32_621 : BitVec 32 := 0#32
  ![v1034.toNat, 0]

def k0_chk200 (i : grid0.Coords) (v1034 : BitVec 32) : Prop :=
  (∀ (k0_h1 : k0_cond1 i = 1#1), ∀ a, (k0_off201 v1034) a + S1x2048.size a ≤ S8704x2048.size a)
theorem k0_off201_inb : ∀ (i : grid0.Coords) (v1034 : BitVec 32) (k0_hw200 : k0_chk200 i v1034), ∀ (k0_h1 : k0_cond1 i = 1#1), ∀ a, (k0_off201 v1034) a + S1x2048.size a ≤ S8704x2048.size a := fun i v1034 k0_hw200 k0_h1 => k0_hw200 k0_h1

def k0_off202 (v1039 : BitVec 32) : Fin 2 → Nat :=
  let c0_i32_624 : BitVec 32 := 0#32
  ![v1039.toNat, 0]

def k0_chk201 (i : grid0.Coords) (v1039 : BitVec 32) : Prop :=
  (∀ (k0_h1 : k0_cond1 i = 1#1), ∀ a, (k0_off202 v1039) a + S1x2048.size a ≤ S8704x2048.size a)
theorem k0_off202_inb : ∀ (i : grid0.Coords) (v1039 : BitVec 32) (k0_hw201 : k0_chk201 i v1039), ∀ (k0_h1 : k0_cond1 i = 1#1), ∀ a, (k0_off202 v1039) a + S1x2048.size a ≤ S8704x2048.size a := fun i v1039 k0_hw201 k0_h1 => k0_hw201 k0_h1

def k0_off203 (v1044 : BitVec 32) : Fin 2 → Nat :=
  let c0_i32_627 : BitVec 32 := 0#32
  ![v1044.toNat, 0]

def k0_chk202 (i : grid0.Coords) (v1044 : BitVec 32) : Prop :=
  (∀ (k0_h1 : k0_cond1 i = 1#1), ∀ a, (k0_off203 v1044) a + S1x2048.size a ≤ S8704x2048.size a)
theorem k0_off203_inb : ∀ (i : grid0.Coords) (v1044 : BitVec 32) (k0_hw202 : k0_chk202 i v1044), ∀ (k0_h1 : k0_cond1 i = 1#1), ∀ a, (k0_off203 v1044) a + S1x2048.size a ≤ S8704x2048.size a := fun i v1044 k0_hw202 k0_h1 => k0_hw202 k0_h1

def k0_off204 (v1049 : BitVec 32) : Fin 2 → Nat :=
  let c0_i32_630 : BitVec 32 := 0#32
  ![v1049.toNat, 0]

def k0_chk203 (i : grid0.Coords) (v1049 : BitVec 32) : Prop :=
  (∀ (k0_h1 : k0_cond1 i = 1#1), ∀ a, (k0_off204 v1049) a + S1x2048.size a ≤ S8704x2048.size a)
theorem k0_off204_inb : ∀ (i : grid0.Coords) (v1049 : BitVec 32) (k0_hw203 : k0_chk203 i v1049), ∀ (k0_h1 : k0_cond1 i = 1#1), ∀ a, (k0_off204 v1049) a + S1x2048.size a ≤ S8704x2048.size a := fun i v1049 k0_hw203 k0_h1 => k0_hw203 k0_h1

def k0_off205 (v1054 : BitVec 32) : Fin 2 → Nat :=
  let c0_i32_633 : BitVec 32 := 0#32
  ![v1054.toNat, 0]

def k0_chk204 (i : grid0.Coords) (v1054 : BitVec 32) : Prop :=
  (∀ (k0_h1 : k0_cond1 i = 1#1), ∀ a, (k0_off205 v1054) a + S1x2048.size a ≤ S8704x2048.size a)
theorem k0_off205_inb : ∀ (i : grid0.Coords) (v1054 : BitVec 32) (k0_hw204 : k0_chk204 i v1054), ∀ (k0_h1 : k0_cond1 i = 1#1), ∀ a, (k0_off205 v1054) a + S1x2048.size a ≤ S8704x2048.size a := fun i v1054 k0_hw204 k0_h1 => k0_hw204 k0_h1

def k0_off206 (v1059 : BitVec 32) : Fin 2 → Nat :=
  let c0_i32_636 : BitVec 32 := 0#32
  ![v1059.toNat, 0]

def k0_chk205 (i : grid0.Coords) (v1059 : BitVec 32) : Prop :=
  (∀ (k0_h1 : k0_cond1 i = 1#1), ∀ a, (k0_off206 v1059) a + S1x2048.size a ≤ S8704x2048.size a)
theorem k0_off206_inb : ∀ (i : grid0.Coords) (v1059 : BitVec 32) (k0_hw205 : k0_chk205 i v1059), ∀ (k0_h1 : k0_cond1 i = 1#1), ∀ a, (k0_off206 v1059) a + S1x2048.size a ≤ S8704x2048.size a := fun i v1059 k0_hw205 k0_h1 => k0_hw205 k0_h1

def k0_off207 (v1064 : BitVec 32) : Fin 2 → Nat :=
  let c0_i32_639 : BitVec 32 := 0#32
  ![v1064.toNat, 0]

def k0_chk206 (i : grid0.Coords) (v1064 : BitVec 32) : Prop :=
  (∀ (k0_h1 : k0_cond1 i = 1#1), ∀ a, (k0_off207 v1064) a + S1x2048.size a ≤ S8704x2048.size a)
theorem k0_off207_inb : ∀ (i : grid0.Coords) (v1064 : BitVec 32) (k0_hw206 : k0_chk206 i v1064), ∀ (k0_h1 : k0_cond1 i = 1#1), ∀ a, (k0_off207 v1064) a + S1x2048.size a ≤ S8704x2048.size a := fun i v1064 k0_hw206 k0_h1 => k0_hw206 k0_h1

def k0_off208 (v1069 : BitVec 32) : Fin 2 → Nat :=
  let c0_i32_642 : BitVec 32 := 0#32
  ![v1069.toNat, 0]

def k0_chk207 (i : grid0.Coords) (v1069 : BitVec 32) : Prop :=
  (∀ (k0_h1 : k0_cond1 i = 1#1), ∀ a, (k0_off208 v1069) a + S1x2048.size a ≤ S8704x2048.size a)
theorem k0_off208_inb : ∀ (i : grid0.Coords) (v1069 : BitVec 32) (k0_hw207 : k0_chk207 i v1069), ∀ (k0_h1 : k0_cond1 i = 1#1), ∀ a, (k0_off208 v1069) a + S1x2048.size a ≤ S8704x2048.size a := fun i v1069 k0_hw207 k0_h1 => k0_hw207 k0_h1

def k0_off209 (v1074 : BitVec 32) : Fin 2 → Nat :=
  let c0_i32_645 : BitVec 32 := 0#32
  ![v1074.toNat, 0]

def k0_chk208 (i : grid0.Coords) (v1074 : BitVec 32) : Prop :=
  (∀ (k0_h1 : k0_cond1 i = 1#1), ∀ a, (k0_off209 v1074) a + S1x2048.size a ≤ S8704x2048.size a)
theorem k0_off209_inb : ∀ (i : grid0.Coords) (v1074 : BitVec 32) (k0_hw208 : k0_chk208 i v1074), ∀ (k0_h1 : k0_cond1 i = 1#1), ∀ a, (k0_off209 v1074) a + S1x2048.size a ≤ S8704x2048.size a := fun i v1074 k0_hw208 k0_h1 => k0_hw208 k0_h1

def k0_off210 (v1079 : BitVec 32) : Fin 2 → Nat :=
  let c0_i32_648 : BitVec 32 := 0#32
  ![v1079.toNat, 0]

def k0_chk209 (i : grid0.Coords) (v1079 : BitVec 32) : Prop :=
  (∀ (k0_h1 : k0_cond1 i = 1#1), ∀ a, (k0_off210 v1079) a + S1x2048.size a ≤ S8704x2048.size a)
theorem k0_off210_inb : ∀ (i : grid0.Coords) (v1079 : BitVec 32) (k0_hw209 : k0_chk209 i v1079), ∀ (k0_h1 : k0_cond1 i = 1#1), ∀ a, (k0_off210 v1079) a + S1x2048.size a ≤ S8704x2048.size a := fun i v1079 k0_hw209 k0_h1 => k0_hw209 k0_h1

def k0_off211 (v1084 : BitVec 32) : Fin 2 → Nat :=
  let c0_i32_651 : BitVec 32 := 0#32
  ![v1084.toNat, 0]

def k0_chk210 (i : grid0.Coords) (v1084 : BitVec 32) : Prop :=
  (∀ (k0_h1 : k0_cond1 i = 1#1), ∀ a, (k0_off211 v1084) a + S1x2048.size a ≤ S8704x2048.size a)
theorem k0_off211_inb : ∀ (i : grid0.Coords) (v1084 : BitVec 32) (k0_hw210 : k0_chk210 i v1084), ∀ (k0_h1 : k0_cond1 i = 1#1), ∀ a, (k0_off211 v1084) a + S1x2048.size a ≤ S8704x2048.size a := fun i v1084 k0_hw210 k0_h1 => k0_hw210 k0_h1

def k0_off212 (v1089 : BitVec 32) : Fin 2 → Nat :=
  let c0_i32_654 : BitVec 32 := 0#32
  ![v1089.toNat, 0]

def k0_chk211 (i : grid0.Coords) (v1089 : BitVec 32) : Prop :=
  (∀ (k0_h1 : k0_cond1 i = 1#1), ∀ a, (k0_off212 v1089) a + S1x2048.size a ≤ S8704x2048.size a)
theorem k0_off212_inb : ∀ (i : grid0.Coords) (v1089 : BitVec 32) (k0_hw211 : k0_chk211 i v1089), ∀ (k0_h1 : k0_cond1 i = 1#1), ∀ a, (k0_off212 v1089) a + S1x2048.size a ≤ S8704x2048.size a := fun i v1089 k0_hw211 k0_h1 => k0_hw211 k0_h1

def k0_off213 (v1094 : BitVec 32) : Fin 2 → Nat :=
  let c0_i32_657 : BitVec 32 := 0#32
  ![v1094.toNat, 0]

def k0_chk212 (i : grid0.Coords) (v1094 : BitVec 32) : Prop :=
  (∀ (k0_h1 : k0_cond1 i = 1#1), ∀ a, (k0_off213 v1094) a + S1x2048.size a ≤ S8704x2048.size a)
theorem k0_off213_inb : ∀ (i : grid0.Coords) (v1094 : BitVec 32) (k0_hw212 : k0_chk212 i v1094), ∀ (k0_h1 : k0_cond1 i = 1#1), ∀ a, (k0_off213 v1094) a + S1x2048.size a ≤ S8704x2048.size a := fun i v1094 k0_hw212 k0_h1 => k0_hw212 k0_h1

def k0_off214 (v1099 : BitVec 32) : Fin 2 → Nat :=
  let c0_i32_660 : BitVec 32 := 0#32
  ![v1099.toNat, 0]

def k0_chk213 (i : grid0.Coords) (v1099 : BitVec 32) : Prop :=
  (∀ (k0_h1 : k0_cond1 i = 1#1), ∀ a, (k0_off214 v1099) a + S1x2048.size a ≤ S8704x2048.size a)
theorem k0_off214_inb : ∀ (i : grid0.Coords) (v1099 : BitVec 32) (k0_hw213 : k0_chk213 i v1099), ∀ (k0_h1 : k0_cond1 i = 1#1), ∀ a, (k0_off214 v1099) a + S1x2048.size a ≤ S8704x2048.size a := fun i v1099 k0_hw213 k0_h1 => k0_hw213 k0_h1

def k0_off215 (v1104 : BitVec 32) : Fin 2 → Nat :=
  let c0_i32_663 : BitVec 32 := 0#32
  ![v1104.toNat, 0]

def k0_chk214 (i : grid0.Coords) (v1104 : BitVec 32) : Prop :=
  (∀ (k0_h1 : k0_cond1 i = 1#1), ∀ a, (k0_off215 v1104) a + S1x2048.size a ≤ S8704x2048.size a)
theorem k0_off215_inb : ∀ (i : grid0.Coords) (v1104 : BitVec 32) (k0_hw214 : k0_chk214 i v1104), ∀ (k0_h1 : k0_cond1 i = 1#1), ∀ a, (k0_off215 v1104) a + S1x2048.size a ≤ S8704x2048.size a := fun i v1104 k0_hw214 k0_h1 => k0_hw214 k0_h1

def k0_off216 (v1109 : BitVec 32) : Fin 2 → Nat :=
  let c0_i32_666 : BitVec 32 := 0#32
  ![v1109.toNat, 0]

def k0_chk215 (i : grid0.Coords) (v1109 : BitVec 32) : Prop :=
  (∀ (k0_h1 : k0_cond1 i = 1#1), ∀ a, (k0_off216 v1109) a + S1x2048.size a ≤ S8704x2048.size a)
theorem k0_off216_inb : ∀ (i : grid0.Coords) (v1109 : BitVec 32) (k0_hw215 : k0_chk215 i v1109), ∀ (k0_h1 : k0_cond1 i = 1#1), ∀ a, (k0_off216 v1109) a + S1x2048.size a ≤ S8704x2048.size a := fun i v1109 k0_hw215 k0_h1 => k0_hw215 k0_h1

def k0_off217 (v1114 : BitVec 32) : Fin 2 → Nat :=
  let c0_i32_669 : BitVec 32 := 0#32
  ![v1114.toNat, 0]

def k0_chk216 (i : grid0.Coords) (v1114 : BitVec 32) : Prop :=
  (∀ (k0_h1 : k0_cond1 i = 1#1), ∀ a, (k0_off217 v1114) a + S1x2048.size a ≤ S8704x2048.size a)
theorem k0_off217_inb : ∀ (i : grid0.Coords) (v1114 : BitVec 32) (k0_hw216 : k0_chk216 i v1114), ∀ (k0_h1 : k0_cond1 i = 1#1), ∀ a, (k0_off217 v1114) a + S1x2048.size a ≤ S8704x2048.size a := fun i v1114 k0_hw216 k0_h1 => k0_hw216 k0_h1

def k0_off218 (v1119 : BitVec 32) : Fin 2 → Nat :=
  let c0_i32_672 : BitVec 32 := 0#32
  ![v1119.toNat, 0]

def k0_chk217 (i : grid0.Coords) (v1119 : BitVec 32) : Prop :=
  (∀ (k0_h1 : k0_cond1 i = 1#1), ∀ a, (k0_off218 v1119) a + S1x2048.size a ≤ S8704x2048.size a)
theorem k0_off218_inb : ∀ (i : grid0.Coords) (v1119 : BitVec 32) (k0_hw217 : k0_chk217 i v1119), ∀ (k0_h1 : k0_cond1 i = 1#1), ∀ a, (k0_off218 v1119) a + S1x2048.size a ≤ S8704x2048.size a := fun i v1119 k0_hw217 k0_h1 => k0_hw217 k0_h1

def k0_off219 (v1124 : BitVec 32) : Fin 2 → Nat :=
  let c0_i32_675 : BitVec 32 := 0#32
  ![v1124.toNat, 0]

def k0_chk218 (i : grid0.Coords) (v1124 : BitVec 32) : Prop :=
  (∀ (k0_h1 : k0_cond1 i = 1#1), ∀ a, (k0_off219 v1124) a + S1x2048.size a ≤ S8704x2048.size a)
theorem k0_off219_inb : ∀ (i : grid0.Coords) (v1124 : BitVec 32) (k0_hw218 : k0_chk218 i v1124), ∀ (k0_h1 : k0_cond1 i = 1#1), ∀ a, (k0_off219 v1124) a + S1x2048.size a ≤ S8704x2048.size a := fun i v1124 k0_hw218 k0_h1 => k0_hw218 k0_h1

def k0_off220 (v1129 : BitVec 32) : Fin 2 → Nat :=
  let c0_i32_678 : BitVec 32 := 0#32
  ![v1129.toNat, 0]

def k0_chk219 (i : grid0.Coords) (v1129 : BitVec 32) : Prop :=
  (∀ (k0_h1 : k0_cond1 i = 1#1), ∀ a, (k0_off220 v1129) a + S1x2048.size a ≤ S8704x2048.size a)
theorem k0_off220_inb : ∀ (i : grid0.Coords) (v1129 : BitVec 32) (k0_hw219 : k0_chk219 i v1129), ∀ (k0_h1 : k0_cond1 i = 1#1), ∀ a, (k0_off220 v1129) a + S1x2048.size a ≤ S8704x2048.size a := fun i v1129 k0_hw219 k0_h1 => k0_hw219 k0_h1

def k0_off221 (v1134 : BitVec 32) : Fin 2 → Nat :=
  let c0_i32_681 : BitVec 32 := 0#32
  ![v1134.toNat, 0]

def k0_chk220 (i : grid0.Coords) (v1134 : BitVec 32) : Prop :=
  (∀ (k0_h1 : k0_cond1 i = 1#1), ∀ a, (k0_off221 v1134) a + S1x2048.size a ≤ S8704x2048.size a)
theorem k0_off221_inb : ∀ (i : grid0.Coords) (v1134 : BitVec 32) (k0_hw220 : k0_chk220 i v1134), ∀ (k0_h1 : k0_cond1 i = 1#1), ∀ a, (k0_off221 v1134) a + S1x2048.size a ≤ S8704x2048.size a := fun i v1134 k0_hw220 k0_h1 => k0_hw220 k0_h1

def k0_off222 (v1139 : BitVec 32) : Fin 2 → Nat :=
  let c0_i32_684 : BitVec 32 := 0#32
  ![v1139.toNat, 0]

def k0_chk221 (i : grid0.Coords) (v1139 : BitVec 32) : Prop :=
  (∀ (k0_h1 : k0_cond1 i = 1#1), ∀ a, (k0_off222 v1139) a + S1x2048.size a ≤ S8704x2048.size a)
theorem k0_off222_inb : ∀ (i : grid0.Coords) (v1139 : BitVec 32) (k0_hw221 : k0_chk221 i v1139), ∀ (k0_h1 : k0_cond1 i = 1#1), ∀ a, (k0_off222 v1139) a + S1x2048.size a ≤ S8704x2048.size a := fun i v1139 k0_hw221 k0_h1 => k0_hw221 k0_h1

def k0_off223 (v1144 : BitVec 32) : Fin 2 → Nat :=
  let c0_i32_687 : BitVec 32 := 0#32
  ![v1144.toNat, 0]

def k0_chk222 (i : grid0.Coords) (v1144 : BitVec 32) : Prop :=
  (∀ (k0_h1 : k0_cond1 i = 1#1), ∀ a, (k0_off223 v1144) a + S1x2048.size a ≤ S8704x2048.size a)
theorem k0_off223_inb : ∀ (i : grid0.Coords) (v1144 : BitVec 32) (k0_hw222 : k0_chk222 i v1144), ∀ (k0_h1 : k0_cond1 i = 1#1), ∀ a, (k0_off223 v1144) a + S1x2048.size a ≤ S8704x2048.size a := fun i v1144 k0_hw222 k0_h1 => k0_hw222 k0_h1

def k0_off224 (v1149 : BitVec 32) : Fin 2 → Nat :=
  let c0_i32_690 : BitVec 32 := 0#32
  ![v1149.toNat, 0]

def k0_chk223 (i : grid0.Coords) (v1149 : BitVec 32) : Prop :=
  (∀ (k0_h1 : k0_cond1 i = 1#1), ∀ a, (k0_off224 v1149) a + S1x2048.size a ≤ S8704x2048.size a)
theorem k0_off224_inb : ∀ (i : grid0.Coords) (v1149 : BitVec 32) (k0_hw223 : k0_chk223 i v1149), ∀ (k0_h1 : k0_cond1 i = 1#1), ∀ a, (k0_off224 v1149) a + S1x2048.size a ≤ S8704x2048.size a := fun i v1149 k0_hw223 k0_h1 => k0_hw223 k0_h1

def k0_off225 (v1154 : BitVec 32) : Fin 2 → Nat :=
  let c0_i32_693 : BitVec 32 := 0#32
  ![v1154.toNat, 0]

def k0_chk224 (i : grid0.Coords) (v1154 : BitVec 32) : Prop :=
  (∀ (k0_h1 : k0_cond1 i = 1#1), ∀ a, (k0_off225 v1154) a + S1x2048.size a ≤ S8704x2048.size a)
theorem k0_off225_inb : ∀ (i : grid0.Coords) (v1154 : BitVec 32) (k0_hw224 : k0_chk224 i v1154), ∀ (k0_h1 : k0_cond1 i = 1#1), ∀ a, (k0_off225 v1154) a + S1x2048.size a ≤ S8704x2048.size a := fun i v1154 k0_hw224 k0_h1 => k0_hw224 k0_h1

def k0_off226 (v1159 : BitVec 32) : Fin 2 → Nat :=
  let c0_i32_696 : BitVec 32 := 0#32
  ![v1159.toNat, 0]

def k0_chk225 (i : grid0.Coords) (v1159 : BitVec 32) : Prop :=
  (∀ (k0_h1 : k0_cond1 i = 1#1), ∀ a, (k0_off226 v1159) a + S1x2048.size a ≤ S8704x2048.size a)
theorem k0_off226_inb : ∀ (i : grid0.Coords) (v1159 : BitVec 32) (k0_hw225 : k0_chk225 i v1159), ∀ (k0_h1 : k0_cond1 i = 1#1), ∀ a, (k0_off226 v1159) a + S1x2048.size a ≤ S8704x2048.size a := fun i v1159 k0_hw225 k0_h1 => k0_hw225 k0_h1

def k0_off227 (v1164 : BitVec 32) : Fin 2 → Nat :=
  let c0_i32_699 : BitVec 32 := 0#32
  ![v1164.toNat, 0]

def k0_chk226 (i : grid0.Coords) (v1164 : BitVec 32) : Prop :=
  (∀ (k0_h1 : k0_cond1 i = 1#1), ∀ a, (k0_off227 v1164) a + S1x2048.size a ≤ S8704x2048.size a)
theorem k0_off227_inb : ∀ (i : grid0.Coords) (v1164 : BitVec 32) (k0_hw226 : k0_chk226 i v1164), ∀ (k0_h1 : k0_cond1 i = 1#1), ∀ a, (k0_off227 v1164) a + S1x2048.size a ≤ S8704x2048.size a := fun i v1164 k0_hw226 k0_h1 => k0_hw226 k0_h1

def k0_off228 (v1169 : BitVec 32) : Fin 2 → Nat :=
  let c0_i32_702 : BitVec 32 := 0#32
  ![v1169.toNat, 0]

def k0_chk227 (i : grid0.Coords) (v1169 : BitVec 32) : Prop :=
  (∀ (k0_h1 : k0_cond1 i = 1#1), ∀ a, (k0_off228 v1169) a + S1x2048.size a ≤ S8704x2048.size a)
theorem k0_off228_inb : ∀ (i : grid0.Coords) (v1169 : BitVec 32) (k0_hw227 : k0_chk227 i v1169), ∀ (k0_h1 : k0_cond1 i = 1#1), ∀ a, (k0_off228 v1169) a + S1x2048.size a ≤ S8704x2048.size a := fun i v1169 k0_hw227 k0_h1 => k0_hw227 k0_h1

def k0_off229 (v1174 : BitVec 32) : Fin 2 → Nat :=
  let c0_i32_705 : BitVec 32 := 0#32
  ![v1174.toNat, 0]

def k0_chk228 (i : grid0.Coords) (v1174 : BitVec 32) : Prop :=
  (∀ (k0_h1 : k0_cond1 i = 1#1), ∀ a, (k0_off229 v1174) a + S1x2048.size a ≤ S8704x2048.size a)
theorem k0_off229_inb : ∀ (i : grid0.Coords) (v1174 : BitVec 32) (k0_hw228 : k0_chk228 i v1174), ∀ (k0_h1 : k0_cond1 i = 1#1), ∀ a, (k0_off229 v1174) a + S1x2048.size a ≤ S8704x2048.size a := fun i v1174 k0_hw228 k0_h1 => k0_hw228 k0_h1

def k0_off230 (v1179 : BitVec 32) : Fin 2 → Nat :=
  let c0_i32_708 : BitVec 32 := 0#32
  ![v1179.toNat, 0]

def k0_chk229 (i : grid0.Coords) (v1179 : BitVec 32) : Prop :=
  (∀ (k0_h1 : k0_cond1 i = 1#1), ∀ a, (k0_off230 v1179) a + S1x2048.size a ≤ S8704x2048.size a)
theorem k0_off230_inb : ∀ (i : grid0.Coords) (v1179 : BitVec 32) (k0_hw229 : k0_chk229 i v1179), ∀ (k0_h1 : k0_cond1 i = 1#1), ∀ a, (k0_off230 v1179) a + S1x2048.size a ≤ S8704x2048.size a := fun i v1179 k0_hw229 k0_h1 => k0_hw229 k0_h1

def k0_off231 (v1184 : BitVec 32) : Fin 2 → Nat :=
  let c0_i32_711 : BitVec 32 := 0#32
  ![v1184.toNat, 0]

def k0_chk230 (i : grid0.Coords) (v1184 : BitVec 32) : Prop :=
  (∀ (k0_h1 : k0_cond1 i = 1#1), ∀ a, (k0_off231 v1184) a + S1x2048.size a ≤ S8704x2048.size a)
theorem k0_off231_inb : ∀ (i : grid0.Coords) (v1184 : BitVec 32) (k0_hw230 : k0_chk230 i v1184), ∀ (k0_h1 : k0_cond1 i = 1#1), ∀ a, (k0_off231 v1184) a + S1x2048.size a ≤ S8704x2048.size a := fun i v1184 k0_hw230 k0_h1 => k0_hw230 k0_h1

def k0_off232 (v1189 : BitVec 32) : Fin 2 → Nat :=
  let c0_i32_714 : BitVec 32 := 0#32
  ![v1189.toNat, 0]

def k0_chk231 (i : grid0.Coords) (v1189 : BitVec 32) : Prop :=
  (∀ (k0_h1 : k0_cond1 i = 1#1), ∀ a, (k0_off232 v1189) a + S1x2048.size a ≤ S8704x2048.size a)
theorem k0_off232_inb : ∀ (i : grid0.Coords) (v1189 : BitVec 32) (k0_hw231 : k0_chk231 i v1189), ∀ (k0_h1 : k0_cond1 i = 1#1), ∀ a, (k0_off232 v1189) a + S1x2048.size a ≤ S8704x2048.size a := fun i v1189 k0_hw231 k0_h1 => k0_hw231 k0_h1

def k0_off233 (v1194 : BitVec 32) : Fin 2 → Nat :=
  let c0_i32_717 : BitVec 32 := 0#32
  ![v1194.toNat, 0]

def k0_chk232 (i : grid0.Coords) (v1194 : BitVec 32) : Prop :=
  (∀ (k0_h1 : k0_cond1 i = 1#1), ∀ a, (k0_off233 v1194) a + S1x2048.size a ≤ S8704x2048.size a)
theorem k0_off233_inb : ∀ (i : grid0.Coords) (v1194 : BitVec 32) (k0_hw232 : k0_chk232 i v1194), ∀ (k0_h1 : k0_cond1 i = 1#1), ∀ a, (k0_off233 v1194) a + S1x2048.size a ≤ S8704x2048.size a := fun i v1194 k0_hw232 k0_h1 => k0_hw232 k0_h1

def k0_off234 (v1199 : BitVec 32) : Fin 2 → Nat :=
  let c0_i32_720 : BitVec 32 := 0#32
  ![v1199.toNat, 0]

def k0_chk233 (i : grid0.Coords) (v1199 : BitVec 32) : Prop :=
  (∀ (k0_h1 : k0_cond1 i = 1#1), ∀ a, (k0_off234 v1199) a + S1x2048.size a ≤ S8704x2048.size a)
theorem k0_off234_inb : ∀ (i : grid0.Coords) (v1199 : BitVec 32) (k0_hw233 : k0_chk233 i v1199), ∀ (k0_h1 : k0_cond1 i = 1#1), ∀ a, (k0_off234 v1199) a + S1x2048.size a ≤ S8704x2048.size a := fun i v1199 k0_hw233 k0_h1 => k0_hw233 k0_h1

def k0_off235 (v1204 : BitVec 32) : Fin 2 → Nat :=
  let c0_i32_723 : BitVec 32 := 0#32
  ![v1204.toNat, 0]

def k0_chk234 (i : grid0.Coords) (v1204 : BitVec 32) : Prop :=
  (∀ (k0_h1 : k0_cond1 i = 1#1), ∀ a, (k0_off235 v1204) a + S1x2048.size a ≤ S8704x2048.size a)
theorem k0_off235_inb : ∀ (i : grid0.Coords) (v1204 : BitVec 32) (k0_hw234 : k0_chk234 i v1204), ∀ (k0_h1 : k0_cond1 i = 1#1), ∀ a, (k0_off235 v1204) a + S1x2048.size a ≤ S8704x2048.size a := fun i v1204 k0_hw234 k0_h1 => k0_hw234 k0_h1

def k0_off236 (v1209 : BitVec 32) : Fin 2 → Nat :=
  let c0_i32_726 : BitVec 32 := 0#32
  ![v1209.toNat, 0]

def k0_chk235 (i : grid0.Coords) (v1209 : BitVec 32) : Prop :=
  (∀ (k0_h1 : k0_cond1 i = 1#1), ∀ a, (k0_off236 v1209) a + S1x2048.size a ≤ S8704x2048.size a)
theorem k0_off236_inb : ∀ (i : grid0.Coords) (v1209 : BitVec 32) (k0_hw235 : k0_chk235 i v1209), ∀ (k0_h1 : k0_cond1 i = 1#1), ∀ a, (k0_off236 v1209) a + S1x2048.size a ≤ S8704x2048.size a := fun i v1209 k0_hw235 k0_h1 => k0_hw235 k0_h1

def k0_off237 (v1214 : BitVec 32) : Fin 2 → Nat :=
  let c0_i32_729 : BitVec 32 := 0#32
  ![v1214.toNat, 0]

def k0_chk236 (i : grid0.Coords) (v1214 : BitVec 32) : Prop :=
  (∀ (k0_h1 : k0_cond1 i = 1#1), ∀ a, (k0_off237 v1214) a + S1x2048.size a ≤ S8704x2048.size a)
theorem k0_off237_inb : ∀ (i : grid0.Coords) (v1214 : BitVec 32) (k0_hw236 : k0_chk236 i v1214), ∀ (k0_h1 : k0_cond1 i = 1#1), ∀ a, (k0_off237 v1214) a + S1x2048.size a ≤ S8704x2048.size a := fun i v1214 k0_hw236 k0_h1 => k0_hw236 k0_h1

def k0_off238 (v1219 : BitVec 32) : Fin 2 → Nat :=
  let c0_i32_732 : BitVec 32 := 0#32
  ![v1219.toNat, 0]

def k0_chk237 (i : grid0.Coords) (v1219 : BitVec 32) : Prop :=
  (∀ (k0_h1 : k0_cond1 i = 1#1), ∀ a, (k0_off238 v1219) a + S1x2048.size a ≤ S8704x2048.size a)
theorem k0_off238_inb : ∀ (i : grid0.Coords) (v1219 : BitVec 32) (k0_hw237 : k0_chk237 i v1219), ∀ (k0_h1 : k0_cond1 i = 1#1), ∀ a, (k0_off238 v1219) a + S1x2048.size a ≤ S8704x2048.size a := fun i v1219 k0_hw237 k0_h1 => k0_hw237 k0_h1

def k0_off239 (v1224 : BitVec 32) : Fin 2 → Nat :=
  let c0_i32_735 : BitVec 32 := 0#32
  ![v1224.toNat, 0]

def k0_chk238 (i : grid0.Coords) (v1224 : BitVec 32) : Prop :=
  (∀ (k0_h1 : k0_cond1 i = 1#1), ∀ a, (k0_off239 v1224) a + S1x2048.size a ≤ S8704x2048.size a)
theorem k0_off239_inb : ∀ (i : grid0.Coords) (v1224 : BitVec 32) (k0_hw238 : k0_chk238 i v1224), ∀ (k0_h1 : k0_cond1 i = 1#1), ∀ a, (k0_off239 v1224) a + S1x2048.size a ≤ S8704x2048.size a := fun i v1224 k0_hw238 k0_h1 => k0_hw238 k0_h1

def k0_off240 (v1229 : BitVec 32) : Fin 2 → Nat :=
  let c0_i32_738 : BitVec 32 := 0#32
  ![v1229.toNat, 0]

def k0_chk239 (i : grid0.Coords) (v1229 : BitVec 32) : Prop :=
  (∀ (k0_h1 : k0_cond1 i = 1#1), ∀ a, (k0_off240 v1229) a + S1x2048.size a ≤ S8704x2048.size a)
theorem k0_off240_inb : ∀ (i : grid0.Coords) (v1229 : BitVec 32) (k0_hw239 : k0_chk239 i v1229), ∀ (k0_h1 : k0_cond1 i = 1#1), ∀ a, (k0_off240 v1229) a + S1x2048.size a ≤ S8704x2048.size a := fun i v1229 k0_hw239 k0_h1 => k0_hw239 k0_h1

def k0_off241 (v1234 : BitVec 32) : Fin 2 → Nat :=
  let c0_i32_741 : BitVec 32 := 0#32
  ![v1234.toNat, 0]

def k0_chk240 (i : grid0.Coords) (v1234 : BitVec 32) : Prop :=
  (∀ (k0_h1 : k0_cond1 i = 1#1), ∀ a, (k0_off241 v1234) a + S1x2048.size a ≤ S8704x2048.size a)
theorem k0_off241_inb : ∀ (i : grid0.Coords) (v1234 : BitVec 32) (k0_hw240 : k0_chk240 i v1234), ∀ (k0_h1 : k0_cond1 i = 1#1), ∀ a, (k0_off241 v1234) a + S1x2048.size a ≤ S8704x2048.size a := fun i v1234 k0_hw240 k0_h1 => k0_hw240 k0_h1

def k0_off242 (v1239 : BitVec 32) : Fin 2 → Nat :=
  let c0_i32_744 : BitVec 32 := 0#32
  ![v1239.toNat, 0]

def k0_chk241 (i : grid0.Coords) (v1239 : BitVec 32) : Prop :=
  (∀ (k0_h1 : k0_cond1 i = 1#1), ∀ a, (k0_off242 v1239) a + S1x2048.size a ≤ S8704x2048.size a)
theorem k0_off242_inb : ∀ (i : grid0.Coords) (v1239 : BitVec 32) (k0_hw241 : k0_chk241 i v1239), ∀ (k0_h1 : k0_cond1 i = 1#1), ∀ a, (k0_off242 v1239) a + S1x2048.size a ≤ S8704x2048.size a := fun i v1239 k0_hw241 k0_h1 => k0_hw241 k0_h1

def k0_off243 (v1244 : BitVec 32) : Fin 2 → Nat :=
  let c0_i32_747 : BitVec 32 := 0#32
  ![v1244.toNat, 0]

def k0_chk242 (i : grid0.Coords) (v1244 : BitVec 32) : Prop :=
  (∀ (k0_h1 : k0_cond1 i = 1#1), ∀ a, (k0_off243 v1244) a + S1x2048.size a ≤ S8704x2048.size a)
theorem k0_off243_inb : ∀ (i : grid0.Coords) (v1244 : BitVec 32) (k0_hw242 : k0_chk242 i v1244), ∀ (k0_h1 : k0_cond1 i = 1#1), ∀ a, (k0_off243 v1244) a + S1x2048.size a ≤ S8704x2048.size a := fun i v1244 k0_hw242 k0_h1 => k0_hw242 k0_h1

def k0_off244 (v1249 : BitVec 32) : Fin 2 → Nat :=
  let c0_i32_750 : BitVec 32 := 0#32
  ![v1249.toNat, 0]

def k0_chk243 (i : grid0.Coords) (v1249 : BitVec 32) : Prop :=
  (∀ (k0_h1 : k0_cond1 i = 1#1), ∀ a, (k0_off244 v1249) a + S1x2048.size a ≤ S8704x2048.size a)
theorem k0_off244_inb : ∀ (i : grid0.Coords) (v1249 : BitVec 32) (k0_hw243 : k0_chk243 i v1249), ∀ (k0_h1 : k0_cond1 i = 1#1), ∀ a, (k0_off244 v1249) a + S1x2048.size a ≤ S8704x2048.size a := fun i v1249 k0_hw243 k0_h1 => k0_hw243 k0_h1

def k0_off245 (v1254 : BitVec 32) : Fin 2 → Nat :=
  let c0_i32_753 : BitVec 32 := 0#32
  ![v1254.toNat, 0]

def k0_chk244 (i : grid0.Coords) (v1254 : BitVec 32) : Prop :=
  (∀ (k0_h1 : k0_cond1 i = 1#1), ∀ a, (k0_off245 v1254) a + S1x2048.size a ≤ S8704x2048.size a)
theorem k0_off245_inb : ∀ (i : grid0.Coords) (v1254 : BitVec 32) (k0_hw244 : k0_chk244 i v1254), ∀ (k0_h1 : k0_cond1 i = 1#1), ∀ a, (k0_off245 v1254) a + S1x2048.size a ≤ S8704x2048.size a := fun i v1254 k0_hw244 k0_h1 => k0_hw244 k0_h1

def k0_off246 (v1259 : BitVec 32) : Fin 2 → Nat :=
  let c0_i32_756 : BitVec 32 := 0#32
  ![v1259.toNat, 0]

def k0_chk245 (i : grid0.Coords) (v1259 : BitVec 32) : Prop :=
  (∀ (k0_h1 : k0_cond1 i = 1#1), ∀ a, (k0_off246 v1259) a + S1x2048.size a ≤ S8704x2048.size a)
theorem k0_off246_inb : ∀ (i : grid0.Coords) (v1259 : BitVec 32) (k0_hw245 : k0_chk245 i v1259), ∀ (k0_h1 : k0_cond1 i = 1#1), ∀ a, (k0_off246 v1259) a + S1x2048.size a ≤ S8704x2048.size a := fun i v1259 k0_hw245 k0_h1 => k0_hw245 k0_h1

def k0_off247 (v1264 : BitVec 32) : Fin 2 → Nat :=
  let c0_i32_759 : BitVec 32 := 0#32
  ![v1264.toNat, 0]

def k0_chk246 (i : grid0.Coords) (v1264 : BitVec 32) : Prop :=
  (∀ (k0_h1 : k0_cond1 i = 1#1), ∀ a, (k0_off247 v1264) a + S1x2048.size a ≤ S8704x2048.size a)
theorem k0_off247_inb : ∀ (i : grid0.Coords) (v1264 : BitVec 32) (k0_hw246 : k0_chk246 i v1264), ∀ (k0_h1 : k0_cond1 i = 1#1), ∀ a, (k0_off247 v1264) a + S1x2048.size a ≤ S8704x2048.size a := fun i v1264 k0_hw246 k0_h1 => k0_hw246 k0_h1

def k0_off248 (v1269 : BitVec 32) : Fin 2 → Nat :=
  let c0_i32_762 : BitVec 32 := 0#32
  ![v1269.toNat, 0]

def k0_chk247 (i : grid0.Coords) (v1269 : BitVec 32) : Prop :=
  (∀ (k0_h1 : k0_cond1 i = 1#1), ∀ a, (k0_off248 v1269) a + S1x2048.size a ≤ S8704x2048.size a)
theorem k0_off248_inb : ∀ (i : grid0.Coords) (v1269 : BitVec 32) (k0_hw247 : k0_chk247 i v1269), ∀ (k0_h1 : k0_cond1 i = 1#1), ∀ a, (k0_off248 v1269) a + S1x2048.size a ≤ S8704x2048.size a := fun i v1269 k0_hw247 k0_h1 => k0_hw247 k0_h1

def k0_off249 (v1274 : BitVec 32) : Fin 2 → Nat :=
  let c0_i32_765 : BitVec 32 := 0#32
  ![v1274.toNat, 0]

def k0_chk248 (i : grid0.Coords) (v1274 : BitVec 32) : Prop :=
  (∀ (k0_h1 : k0_cond1 i = 1#1), ∀ a, (k0_off249 v1274) a + S1x2048.size a ≤ S8704x2048.size a)
theorem k0_off249_inb : ∀ (i : grid0.Coords) (v1274 : BitVec 32) (k0_hw248 : k0_chk248 i v1274), ∀ (k0_h1 : k0_cond1 i = 1#1), ∀ a, (k0_off249 v1274) a + S1x2048.size a ≤ S8704x2048.size a := fun i v1274 k0_hw248 k0_h1 => k0_hw248 k0_h1

def k0_off250 (v1279 : BitVec 32) : Fin 2 → Nat :=
  let c0_i32_768 : BitVec 32 := 0#32
  ![v1279.toNat, 0]

def k0_chk249 (i : grid0.Coords) (v1279 : BitVec 32) : Prop :=
  (∀ (k0_h1 : k0_cond1 i = 1#1), ∀ a, (k0_off250 v1279) a + S1x2048.size a ≤ S8704x2048.size a)
theorem k0_off250_inb : ∀ (i : grid0.Coords) (v1279 : BitVec 32) (k0_hw249 : k0_chk249 i v1279), ∀ (k0_h1 : k0_cond1 i = 1#1), ∀ a, (k0_off250 v1279) a + S1x2048.size a ≤ S8704x2048.size a := fun i v1279 k0_hw249 k0_h1 => k0_hw249 k0_h1

def k0_off251 (v1284 : BitVec 32) : Fin 2 → Nat :=
  let c0_i32_771 : BitVec 32 := 0#32
  ![v1284.toNat, 0]

def k0_chk250 (i : grid0.Coords) (v1284 : BitVec 32) : Prop :=
  (∀ (k0_h1 : k0_cond1 i = 1#1), ∀ a, (k0_off251 v1284) a + S1x2048.size a ≤ S8704x2048.size a)
theorem k0_off251_inb : ∀ (i : grid0.Coords) (v1284 : BitVec 32) (k0_hw250 : k0_chk250 i v1284), ∀ (k0_h1 : k0_cond1 i = 1#1), ∀ a, (k0_off251 v1284) a + S1x2048.size a ≤ S8704x2048.size a := fun i v1284 k0_hw250 k0_h1 => k0_hw250 k0_h1

def k0_off252 (v1289 : BitVec 32) : Fin 2 → Nat :=
  let c0_i32_774 : BitVec 32 := 0#32
  ![v1289.toNat, 0]

def k0_chk251 (i : grid0.Coords) (v1289 : BitVec 32) : Prop :=
  (∀ (k0_h1 : k0_cond1 i = 1#1), ∀ a, (k0_off252 v1289) a + S1x2048.size a ≤ S8704x2048.size a)
theorem k0_off252_inb : ∀ (i : grid0.Coords) (v1289 : BitVec 32) (k0_hw251 : k0_chk251 i v1289), ∀ (k0_h1 : k0_cond1 i = 1#1), ∀ a, (k0_off252 v1289) a + S1x2048.size a ≤ S8704x2048.size a := fun i v1289 k0_hw251 k0_h1 => k0_hw251 k0_h1

def k0_off253 (v1294 : BitVec 32) : Fin 2 → Nat :=
  let c0_i32_777 : BitVec 32 := 0#32
  ![v1294.toNat, 0]

def k0_chk252 (i : grid0.Coords) (v1294 : BitVec 32) : Prop :=
  (∀ (k0_h1 : k0_cond1 i = 1#1), ∀ a, (k0_off253 v1294) a + S1x2048.size a ≤ S8704x2048.size a)
theorem k0_off253_inb : ∀ (i : grid0.Coords) (v1294 : BitVec 32) (k0_hw252 : k0_chk252 i v1294), ∀ (k0_h1 : k0_cond1 i = 1#1), ∀ a, (k0_off253 v1294) a + S1x2048.size a ≤ S8704x2048.size a := fun i v1294 k0_hw252 k0_h1 => k0_hw252 k0_h1

def k0_off254 (v1299 : BitVec 32) : Fin 2 → Nat :=
  let c0_i32_780 : BitVec 32 := 0#32
  ![v1299.toNat, 0]

def k0_chk253 (i : grid0.Coords) (v1299 : BitVec 32) : Prop :=
  (∀ (k0_h1 : k0_cond1 i = 1#1), ∀ a, (k0_off254 v1299) a + S1x2048.size a ≤ S8704x2048.size a)
theorem k0_off254_inb : ∀ (i : grid0.Coords) (v1299 : BitVec 32) (k0_hw253 : k0_chk253 i v1299), ∀ (k0_h1 : k0_cond1 i = 1#1), ∀ a, (k0_off254 v1299) a + S1x2048.size a ≤ S8704x2048.size a := fun i v1299 k0_hw253 k0_h1 => k0_hw253 k0_h1

def k0_off255 (v1304 : BitVec 32) : Fin 2 → Nat :=
  let c0_i32_783 : BitVec 32 := 0#32
  ![v1304.toNat, 0]

def k0_chk254 (i : grid0.Coords) (v1304 : BitVec 32) : Prop :=
  (∀ (k0_h1 : k0_cond1 i = 1#1), ∀ a, (k0_off255 v1304) a + S1x2048.size a ≤ S8704x2048.size a)
theorem k0_off255_inb : ∀ (i : grid0.Coords) (v1304 : BitVec 32) (k0_hw254 : k0_chk254 i v1304), ∀ (k0_h1 : k0_cond1 i = 1#1), ∀ a, (k0_off255 v1304) a + S1x2048.size a ≤ S8704x2048.size a := fun i v1304 k0_hw254 k0_h1 => k0_hw254 k0_h1

def k0_off256 (v1309 : BitVec 32) : Fin 2 → Nat :=
  let c0_i32_786 : BitVec 32 := 0#32
  ![v1309.toNat, 0]

def k0_chk255 (i : grid0.Coords) (v1309 : BitVec 32) : Prop :=
  (∀ (k0_h1 : k0_cond1 i = 1#1), ∀ a, (k0_off256 v1309) a + S1x2048.size a ≤ S8704x2048.size a)
theorem k0_off256_inb : ∀ (i : grid0.Coords) (v1309 : BitVec 32) (k0_hw255 : k0_chk255 i v1309), ∀ (k0_h1 : k0_cond1 i = 1#1), ∀ a, (k0_off256 v1309) a + S1x2048.size a ≤ S8704x2048.size a := fun i v1309 k0_hw255 k0_h1 => k0_hw255 k0_h1

def k0_off257 (v1314 : BitVec 32) : Fin 2 → Nat :=
  let c0_i32_789 : BitVec 32 := 0#32
  ![v1314.toNat, 0]

def k0_chk256 (i : grid0.Coords) (v1314 : BitVec 32) : Prop :=
  (∀ (k0_h1 : k0_cond1 i = 1#1), ∀ a, (k0_off257 v1314) a + S1x2048.size a ≤ S8704x2048.size a)
theorem k0_off257_inb : ∀ (i : grid0.Coords) (v1314 : BitVec 32) (k0_hw256 : k0_chk256 i v1314), ∀ (k0_h1 : k0_cond1 i = 1#1), ∀ a, (k0_off257 v1314) a + S1x2048.size a ≤ S8704x2048.size a := fun i v1314 k0_hw256 k0_h1 => k0_hw256 k0_h1

def k0_off258 (i : grid0.Coords) : Fin 1 → Nat :=
  let arg0 : BitVec 32 := BitVec.ofNat 32 (i 0).val
  let v39 : Index := Scalar.indexCast arg0
  ![v39.toNat]
def k0_off259 (i : grid0.Coords) : Fin 1 → Nat :=
  let arg0 : BitVec 32 := BitVec.ofNat 32 (i 0).val
  let c1_i32_18 : BitVec 32 := 1#32
  let v41 : BitVec 32 := Scalar.subi arg0 c1_i32_18
  let c0_i32_19 : BitVec 32 := 0#32
  let v42 : BitVec 32 := Scalar.maxsi v41 c0_i32_19
  let v43 : Index := Scalar.indexCast v42
  ![v43.toNat]
def k0_off260 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c0_i32_23 : BitVec 32 := 0#32
  let v46 : BitVec 32 := Scalar.addi v45 c0_i32_23
  let v47 : Index := Scalar.indexCast v46
  ![v47.toNat]
def k0_cond4 (i : grid0.Coords) (v0 : BitVec 32) : BitVec 1 :=
  let arg0 : BitVec 32 := BitVec.ofNat 32 (i 0).val
  let v1 : BitVec 1 := Scalar.cmpi .slt arg0 v0
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let v17 : BitVec 1 := Scalar.cmpi .eq v16 c0_i32_6
  let v18 : BitVec 1 := Scalar.andi v1 v17
  let v19 : BitVec 32 := Scalar.extui v18
  let c0_i32_7 : BitVec 32 := 0#32
  let v20 : BitVec 1 := Scalar.cmpi .ne v19 c0_i32_7
  v20

def k0_off261 (v48 : BitVec 32) : Fin 2 → Nat :=
  let c0_i32_27 : BitVec 32 := 0#32
  ![v48.toNat, 0]

def k0_chk258 (i : grid0.Coords) (v0 : BitVec 32) (v48 : BitVec 32) : Prop :=
  (∀ (k0_h4 : k0_cond4 i v0 = 1#1), ∀ a, (k0_off261 v48) a + S1x2048.size a ≤ S8704x2048.size a)
theorem k0_off261_inb : ∀ (i : grid0.Coords) (v0 : BitVec 32) (v48 : BitVec 32) (k0_hw258 : k0_chk258 i v0 v48), ∀ (k0_h4 : k0_cond4 i v0 = 1#1), ∀ a, (k0_off261 v48) a + S1x2048.size a ≤ S8704x2048.size a := fun i v0 v48 k0_hw258 k0_h4 => k0_hw258 k0_h4

def k0_off262 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c1_i32_28 : BitVec 32 := 1#32
  let v53 : BitVec 32 := Scalar.addi v45 c1_i32_28
  let v54 : Index := Scalar.indexCast v53
  ![v54.toNat]
def k0_off263 (v55 : BitVec 32) : Fin 2 → Nat :=
  let c0_i32_32 : BitVec 32 := 0#32
  ![v55.toNat, 0]

def k0_chk259 (i : grid0.Coords) (v0 : BitVec 32) (v55 : BitVec 32) : Prop :=
  (∀ (k0_h4 : k0_cond4 i v0 = 1#1), ∀ a, (k0_off263 v55) a + S1x2048.size a ≤ S8704x2048.size a)
theorem k0_off263_inb : ∀ (i : grid0.Coords) (v0 : BitVec 32) (v55 : BitVec 32) (k0_hw259 : k0_chk259 i v0 v55), ∀ (k0_h4 : k0_cond4 i v0 = 1#1), ∀ a, (k0_off263 v55) a + S1x2048.size a ≤ S8704x2048.size a := fun i v0 v55 k0_hw259 k0_h4 => k0_hw259 k0_h4

def k0_off264 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c2_i32_33 : BitVec 32 := 2#32
  let v60 : BitVec 32 := Scalar.addi v45 c2_i32_33
  let v61 : Index := Scalar.indexCast v60
  ![v61.toNat]
def k0_off265 (v62 : BitVec 32) : Fin 2 → Nat :=
  let c0_i32_37 : BitVec 32 := 0#32
  ![v62.toNat, 0]

def k0_chk260 (i : grid0.Coords) (v0 : BitVec 32) (v62 : BitVec 32) : Prop :=
  (∀ (k0_h4 : k0_cond4 i v0 = 1#1), ∀ a, (k0_off265 v62) a + S1x2048.size a ≤ S8704x2048.size a)
theorem k0_off265_inb : ∀ (i : grid0.Coords) (v0 : BitVec 32) (v62 : BitVec 32) (k0_hw260 : k0_chk260 i v0 v62), ∀ (k0_h4 : k0_cond4 i v0 = 1#1), ∀ a, (k0_off265 v62) a + S1x2048.size a ≤ S8704x2048.size a := fun i v0 v62 k0_hw260 k0_h4 => k0_hw260 k0_h4

def k0_off266 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c3_i32 : BitVec 32 := 3#32
  let v67 : BitVec 32 := Scalar.addi v45 c3_i32
  let v68 : Index := Scalar.indexCast v67
  ![v68.toNat]
def k0_off267 (v69 : BitVec 32) : Fin 2 → Nat :=
  let c0_i32_41 : BitVec 32 := 0#32
  ![v69.toNat, 0]

def k0_chk261 (i : grid0.Coords) (v0 : BitVec 32) (v69 : BitVec 32) : Prop :=
  (∀ (k0_h4 : k0_cond4 i v0 = 1#1), ∀ a, (k0_off267 v69) a + S1x2048.size a ≤ S8704x2048.size a)
theorem k0_off267_inb : ∀ (i : grid0.Coords) (v0 : BitVec 32) (v69 : BitVec 32) (k0_hw261 : k0_chk261 i v0 v69), ∀ (k0_h4 : k0_cond4 i v0 = 1#1), ∀ a, (k0_off267 v69) a + S1x2048.size a ≤ S8704x2048.size a := fun i v0 v69 k0_hw261 k0_h4 => k0_hw261 k0_h4

def k0_off268 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c4_i32 : BitVec 32 := 4#32
  let v74 : BitVec 32 := Scalar.addi v45 c4_i32
  let v75 : Index := Scalar.indexCast v74
  ![v75.toNat]
def k0_off269 (v76 : BitVec 32) : Fin 2 → Nat :=
  let c0_i32_45 : BitVec 32 := 0#32
  ![v76.toNat, 0]

def k0_chk262 (i : grid0.Coords) (v0 : BitVec 32) (v76 : BitVec 32) : Prop :=
  (∀ (k0_h4 : k0_cond4 i v0 = 1#1), ∀ a, (k0_off269 v76) a + S1x2048.size a ≤ S8704x2048.size a)
theorem k0_off269_inb : ∀ (i : grid0.Coords) (v0 : BitVec 32) (v76 : BitVec 32) (k0_hw262 : k0_chk262 i v0 v76), ∀ (k0_h4 : k0_cond4 i v0 = 1#1), ∀ a, (k0_off269 v76) a + S1x2048.size a ≤ S8704x2048.size a := fun i v0 v76 k0_hw262 k0_h4 => k0_hw262 k0_h4

def k0_off270 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c5_i32 : BitVec 32 := 5#32
  let v81 : BitVec 32 := Scalar.addi v45 c5_i32
  let v82 : Index := Scalar.indexCast v81
  ![v82.toNat]
def k0_off271 (v83 : BitVec 32) : Fin 2 → Nat :=
  let c0_i32_49 : BitVec 32 := 0#32
  ![v83.toNat, 0]

def k0_chk263 (i : grid0.Coords) (v0 : BitVec 32) (v83 : BitVec 32) : Prop :=
  (∀ (k0_h4 : k0_cond4 i v0 = 1#1), ∀ a, (k0_off271 v83) a + S1x2048.size a ≤ S8704x2048.size a)
theorem k0_off271_inb : ∀ (i : grid0.Coords) (v0 : BitVec 32) (v83 : BitVec 32) (k0_hw263 : k0_chk263 i v0 v83), ∀ (k0_h4 : k0_cond4 i v0 = 1#1), ∀ a, (k0_off271 v83) a + S1x2048.size a ≤ S8704x2048.size a := fun i v0 v83 k0_hw263 k0_h4 => k0_hw263 k0_h4

def k0_off272 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c6_i32 : BitVec 32 := 6#32
  let v88 : BitVec 32 := Scalar.addi v45 c6_i32
  let v89 : Index := Scalar.indexCast v88
  ![v89.toNat]
def k0_off273 (v90 : BitVec 32) : Fin 2 → Nat :=
  let c0_i32_53 : BitVec 32 := 0#32
  ![v90.toNat, 0]

def k0_chk264 (i : grid0.Coords) (v0 : BitVec 32) (v90 : BitVec 32) : Prop :=
  (∀ (k0_h4 : k0_cond4 i v0 = 1#1), ∀ a, (k0_off273 v90) a + S1x2048.size a ≤ S8704x2048.size a)
theorem k0_off273_inb : ∀ (i : grid0.Coords) (v0 : BitVec 32) (v90 : BitVec 32) (k0_hw264 : k0_chk264 i v0 v90), ∀ (k0_h4 : k0_cond4 i v0 = 1#1), ∀ a, (k0_off273 v90) a + S1x2048.size a ≤ S8704x2048.size a := fun i v0 v90 k0_hw264 k0_h4 => k0_hw264 k0_h4

def k0_off274 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c7_i32 : BitVec 32 := 7#32
  let v95 : BitVec 32 := Scalar.addi v45 c7_i32
  let v96 : Index := Scalar.indexCast v95
  ![v96.toNat]
def k0_off275 (v97 : BitVec 32) : Fin 2 → Nat :=
  let c0_i32_57 : BitVec 32 := 0#32
  ![v97.toNat, 0]

def k0_chk265 (i : grid0.Coords) (v0 : BitVec 32) (v97 : BitVec 32) : Prop :=
  (∀ (k0_h4 : k0_cond4 i v0 = 1#1), ∀ a, (k0_off275 v97) a + S1x2048.size a ≤ S8704x2048.size a)
theorem k0_off275_inb : ∀ (i : grid0.Coords) (v0 : BitVec 32) (v97 : BitVec 32) (k0_hw265 : k0_chk265 i v0 v97), ∀ (k0_h4 : k0_cond4 i v0 = 1#1), ∀ a, (k0_off275 v97) a + S1x2048.size a ≤ S8704x2048.size a := fun i v0 v97 k0_hw265 k0_h4 => k0_hw265 k0_h4

def k0_off276 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c8_i32 : BitVec 32 := 8#32
  let v102 : BitVec 32 := Scalar.addi v45 c8_i32
  let v103 : Index := Scalar.indexCast v102
  ![v103.toNat]
def k0_off277 (v104 : BitVec 32) : Fin 2 → Nat :=
  let c0_i32_61 : BitVec 32 := 0#32
  ![v104.toNat, 0]

def k0_chk266 (i : grid0.Coords) (v0 : BitVec 32) (v104 : BitVec 32) : Prop :=
  (∀ (k0_h4 : k0_cond4 i v0 = 1#1), ∀ a, (k0_off277 v104) a + S1x2048.size a ≤ S8704x2048.size a)
theorem k0_off277_inb : ∀ (i : grid0.Coords) (v0 : BitVec 32) (v104 : BitVec 32) (k0_hw266 : k0_chk266 i v0 v104), ∀ (k0_h4 : k0_cond4 i v0 = 1#1), ∀ a, (k0_off277 v104) a + S1x2048.size a ≤ S8704x2048.size a := fun i v0 v104 k0_hw266 k0_h4 => k0_hw266 k0_h4

def k0_off278 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c9_i32 : BitVec 32 := 9#32
  let v109 : BitVec 32 := Scalar.addi v45 c9_i32
  let v110 : Index := Scalar.indexCast v109
  ![v110.toNat]
def k0_off279 (v111 : BitVec 32) : Fin 2 → Nat :=
  let c0_i32_65 : BitVec 32 := 0#32
  ![v111.toNat, 0]

def k0_chk267 (i : grid0.Coords) (v0 : BitVec 32) (v111 : BitVec 32) : Prop :=
  (∀ (k0_h4 : k0_cond4 i v0 = 1#1), ∀ a, (k0_off279 v111) a + S1x2048.size a ≤ S8704x2048.size a)
theorem k0_off279_inb : ∀ (i : grid0.Coords) (v0 : BitVec 32) (v111 : BitVec 32) (k0_hw267 : k0_chk267 i v0 v111), ∀ (k0_h4 : k0_cond4 i v0 = 1#1), ∀ a, (k0_off279 v111) a + S1x2048.size a ≤ S8704x2048.size a := fun i v0 v111 k0_hw267 k0_h4 => k0_hw267 k0_h4

def k0_off280 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c10_i32 : BitVec 32 := 10#32
  let v116 : BitVec 32 := Scalar.addi v45 c10_i32
  let v117 : Index := Scalar.indexCast v116
  ![v117.toNat]
def k0_off281 (v118 : BitVec 32) : Fin 2 → Nat :=
  let c0_i32_69 : BitVec 32 := 0#32
  ![v118.toNat, 0]

def k0_chk268 (i : grid0.Coords) (v0 : BitVec 32) (v118 : BitVec 32) : Prop :=
  (∀ (k0_h4 : k0_cond4 i v0 = 1#1), ∀ a, (k0_off281 v118) a + S1x2048.size a ≤ S8704x2048.size a)
theorem k0_off281_inb : ∀ (i : grid0.Coords) (v0 : BitVec 32) (v118 : BitVec 32) (k0_hw268 : k0_chk268 i v0 v118), ∀ (k0_h4 : k0_cond4 i v0 = 1#1), ∀ a, (k0_off281 v118) a + S1x2048.size a ≤ S8704x2048.size a := fun i v0 v118 k0_hw268 k0_h4 => k0_hw268 k0_h4

def k0_off282 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c11_i32 : BitVec 32 := 11#32
  let v123 : BitVec 32 := Scalar.addi v45 c11_i32
  let v124 : Index := Scalar.indexCast v123
  ![v124.toNat]
def k0_off283 (v125 : BitVec 32) : Fin 2 → Nat :=
  let c0_i32_73 : BitVec 32 := 0#32
  ![v125.toNat, 0]

def k0_chk269 (i : grid0.Coords) (v0 : BitVec 32) (v125 : BitVec 32) : Prop :=
  (∀ (k0_h4 : k0_cond4 i v0 = 1#1), ∀ a, (k0_off283 v125) a + S1x2048.size a ≤ S8704x2048.size a)
theorem k0_off283_inb : ∀ (i : grid0.Coords) (v0 : BitVec 32) (v125 : BitVec 32) (k0_hw269 : k0_chk269 i v0 v125), ∀ (k0_h4 : k0_cond4 i v0 = 1#1), ∀ a, (k0_off283 v125) a + S1x2048.size a ≤ S8704x2048.size a := fun i v0 v125 k0_hw269 k0_h4 => k0_hw269 k0_h4

def k0_off284 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c12_i32 : BitVec 32 := 12#32
  let v130 : BitVec 32 := Scalar.addi v45 c12_i32
  let v131 : Index := Scalar.indexCast v130
  ![v131.toNat]
def k0_off285 (v132 : BitVec 32) : Fin 2 → Nat :=
  let c0_i32_77 : BitVec 32 := 0#32
  ![v132.toNat, 0]

def k0_chk270 (i : grid0.Coords) (v0 : BitVec 32) (v132 : BitVec 32) : Prop :=
  (∀ (k0_h4 : k0_cond4 i v0 = 1#1), ∀ a, (k0_off285 v132) a + S1x2048.size a ≤ S8704x2048.size a)
theorem k0_off285_inb : ∀ (i : grid0.Coords) (v0 : BitVec 32) (v132 : BitVec 32) (k0_hw270 : k0_chk270 i v0 v132), ∀ (k0_h4 : k0_cond4 i v0 = 1#1), ∀ a, (k0_off285 v132) a + S1x2048.size a ≤ S8704x2048.size a := fun i v0 v132 k0_hw270 k0_h4 => k0_hw270 k0_h4

def k0_off286 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c13_i32 : BitVec 32 := 13#32
  let v137 : BitVec 32 := Scalar.addi v45 c13_i32
  let v138 : Index := Scalar.indexCast v137
  ![v138.toNat]
def k0_off287 (v139 : BitVec 32) : Fin 2 → Nat :=
  let c0_i32_81 : BitVec 32 := 0#32
  ![v139.toNat, 0]

def k0_chk271 (i : grid0.Coords) (v0 : BitVec 32) (v139 : BitVec 32) : Prop :=
  (∀ (k0_h4 : k0_cond4 i v0 = 1#1), ∀ a, (k0_off287 v139) a + S1x2048.size a ≤ S8704x2048.size a)
theorem k0_off287_inb : ∀ (i : grid0.Coords) (v0 : BitVec 32) (v139 : BitVec 32) (k0_hw271 : k0_chk271 i v0 v139), ∀ (k0_h4 : k0_cond4 i v0 = 1#1), ∀ a, (k0_off287 v139) a + S1x2048.size a ≤ S8704x2048.size a := fun i v0 v139 k0_hw271 k0_h4 => k0_hw271 k0_h4

def k0_off288 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c14_i32 : BitVec 32 := 14#32
  let v144 : BitVec 32 := Scalar.addi v45 c14_i32
  let v145 : Index := Scalar.indexCast v144
  ![v145.toNat]
def k0_off289 (v146 : BitVec 32) : Fin 2 → Nat :=
  let c0_i32_85 : BitVec 32 := 0#32
  ![v146.toNat, 0]

def k0_chk272 (i : grid0.Coords) (v0 : BitVec 32) (v146 : BitVec 32) : Prop :=
  (∀ (k0_h4 : k0_cond4 i v0 = 1#1), ∀ a, (k0_off289 v146) a + S1x2048.size a ≤ S8704x2048.size a)
theorem k0_off289_inb : ∀ (i : grid0.Coords) (v0 : BitVec 32) (v146 : BitVec 32) (k0_hw272 : k0_chk272 i v0 v146), ∀ (k0_h4 : k0_cond4 i v0 = 1#1), ∀ a, (k0_off289 v146) a + S1x2048.size a ≤ S8704x2048.size a := fun i v0 v146 k0_hw272 k0_h4 => k0_hw272 k0_h4

def k0_off290 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c15_i32 : BitVec 32 := 15#32
  let v151 : BitVec 32 := Scalar.addi v45 c15_i32
  let v152 : Index := Scalar.indexCast v151
  ![v152.toNat]
def k0_off291 (v153 : BitVec 32) : Fin 2 → Nat :=
  let c0_i32_89 : BitVec 32 := 0#32
  ![v153.toNat, 0]

def k0_chk273 (i : grid0.Coords) (v0 : BitVec 32) (v153 : BitVec 32) : Prop :=
  (∀ (k0_h4 : k0_cond4 i v0 = 1#1), ∀ a, (k0_off291 v153) a + S1x2048.size a ≤ S8704x2048.size a)
theorem k0_off291_inb : ∀ (i : grid0.Coords) (v0 : BitVec 32) (v153 : BitVec 32) (k0_hw273 : k0_chk273 i v0 v153), ∀ (k0_h4 : k0_cond4 i v0 = 1#1), ∀ a, (k0_off291 v153) a + S1x2048.size a ≤ S8704x2048.size a := fun i v0 v153 k0_hw273 k0_h4 => k0_hw273 k0_h4

def k0_off292 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c16_i32 : BitVec 32 := 16#32
  let v158 : BitVec 32 := Scalar.addi v45 c16_i32
  let v159 : Index := Scalar.indexCast v158
  ![v159.toNat]
def k0_off293 (v160 : BitVec 32) : Fin 2 → Nat :=
  let c0_i32_93 : BitVec 32 := 0#32
  ![v160.toNat, 0]

def k0_chk274 (i : grid0.Coords) (v0 : BitVec 32) (v160 : BitVec 32) : Prop :=
  (∀ (k0_h4 : k0_cond4 i v0 = 1#1), ∀ a, (k0_off293 v160) a + S1x2048.size a ≤ S8704x2048.size a)
theorem k0_off293_inb : ∀ (i : grid0.Coords) (v0 : BitVec 32) (v160 : BitVec 32) (k0_hw274 : k0_chk274 i v0 v160), ∀ (k0_h4 : k0_cond4 i v0 = 1#1), ∀ a, (k0_off293 v160) a + S1x2048.size a ≤ S8704x2048.size a := fun i v0 v160 k0_hw274 k0_h4 => k0_hw274 k0_h4

def k0_off294 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c17_i32 : BitVec 32 := 17#32
  let v165 : BitVec 32 := Scalar.addi v45 c17_i32
  let v166 : Index := Scalar.indexCast v165
  ![v166.toNat]
def k0_off295 (v167 : BitVec 32) : Fin 2 → Nat :=
  let c0_i32_97 : BitVec 32 := 0#32
  ![v167.toNat, 0]

def k0_chk275 (i : grid0.Coords) (v0 : BitVec 32) (v167 : BitVec 32) : Prop :=
  (∀ (k0_h4 : k0_cond4 i v0 = 1#1), ∀ a, (k0_off295 v167) a + S1x2048.size a ≤ S8704x2048.size a)
theorem k0_off295_inb : ∀ (i : grid0.Coords) (v0 : BitVec 32) (v167 : BitVec 32) (k0_hw275 : k0_chk275 i v0 v167), ∀ (k0_h4 : k0_cond4 i v0 = 1#1), ∀ a, (k0_off295 v167) a + S1x2048.size a ≤ S8704x2048.size a := fun i v0 v167 k0_hw275 k0_h4 => k0_hw275 k0_h4

def k0_off296 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c18_i32 : BitVec 32 := 18#32
  let v172 : BitVec 32 := Scalar.addi v45 c18_i32
  let v173 : Index := Scalar.indexCast v172
  ![v173.toNat]
def k0_off297 (v174 : BitVec 32) : Fin 2 → Nat :=
  let c0_i32_101 : BitVec 32 := 0#32
  ![v174.toNat, 0]

def k0_chk276 (i : grid0.Coords) (v0 : BitVec 32) (v174 : BitVec 32) : Prop :=
  (∀ (k0_h4 : k0_cond4 i v0 = 1#1), ∀ a, (k0_off297 v174) a + S1x2048.size a ≤ S8704x2048.size a)
theorem k0_off297_inb : ∀ (i : grid0.Coords) (v0 : BitVec 32) (v174 : BitVec 32) (k0_hw276 : k0_chk276 i v0 v174), ∀ (k0_h4 : k0_cond4 i v0 = 1#1), ∀ a, (k0_off297 v174) a + S1x2048.size a ≤ S8704x2048.size a := fun i v0 v174 k0_hw276 k0_h4 => k0_hw276 k0_h4

def k0_off298 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c19_i32 : BitVec 32 := 19#32
  let v179 : BitVec 32 := Scalar.addi v45 c19_i32
  let v180 : Index := Scalar.indexCast v179
  ![v180.toNat]
def k0_off299 (v181 : BitVec 32) : Fin 2 → Nat :=
  let c0_i32_105 : BitVec 32 := 0#32
  ![v181.toNat, 0]

def k0_chk277 (i : grid0.Coords) (v0 : BitVec 32) (v181 : BitVec 32) : Prop :=
  (∀ (k0_h4 : k0_cond4 i v0 = 1#1), ∀ a, (k0_off299 v181) a + S1x2048.size a ≤ S8704x2048.size a)
theorem k0_off299_inb : ∀ (i : grid0.Coords) (v0 : BitVec 32) (v181 : BitVec 32) (k0_hw277 : k0_chk277 i v0 v181), ∀ (k0_h4 : k0_cond4 i v0 = 1#1), ∀ a, (k0_off299 v181) a + S1x2048.size a ≤ S8704x2048.size a := fun i v0 v181 k0_hw277 k0_h4 => k0_hw277 k0_h4

def k0_off300 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c20_i32 : BitVec 32 := 20#32
  let v186 : BitVec 32 := Scalar.addi v45 c20_i32
  let v187 : Index := Scalar.indexCast v186
  ![v187.toNat]
def k0_off301 (v188 : BitVec 32) : Fin 2 → Nat :=
  let c0_i32_109 : BitVec 32 := 0#32
  ![v188.toNat, 0]

def k0_chk278 (i : grid0.Coords) (v0 : BitVec 32) (v188 : BitVec 32) : Prop :=
  (∀ (k0_h4 : k0_cond4 i v0 = 1#1), ∀ a, (k0_off301 v188) a + S1x2048.size a ≤ S8704x2048.size a)
theorem k0_off301_inb : ∀ (i : grid0.Coords) (v0 : BitVec 32) (v188 : BitVec 32) (k0_hw278 : k0_chk278 i v0 v188), ∀ (k0_h4 : k0_cond4 i v0 = 1#1), ∀ a, (k0_off301 v188) a + S1x2048.size a ≤ S8704x2048.size a := fun i v0 v188 k0_hw278 k0_h4 => k0_hw278 k0_h4

def k0_off302 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c21_i32 : BitVec 32 := 21#32
  let v193 : BitVec 32 := Scalar.addi v45 c21_i32
  let v194 : Index := Scalar.indexCast v193
  ![v194.toNat]
def k0_off303 (v195 : BitVec 32) : Fin 2 → Nat :=
  let c0_i32_113 : BitVec 32 := 0#32
  ![v195.toNat, 0]

def k0_chk279 (i : grid0.Coords) (v0 : BitVec 32) (v195 : BitVec 32) : Prop :=
  (∀ (k0_h4 : k0_cond4 i v0 = 1#1), ∀ a, (k0_off303 v195) a + S1x2048.size a ≤ S8704x2048.size a)
theorem k0_off303_inb : ∀ (i : grid0.Coords) (v0 : BitVec 32) (v195 : BitVec 32) (k0_hw279 : k0_chk279 i v0 v195), ∀ (k0_h4 : k0_cond4 i v0 = 1#1), ∀ a, (k0_off303 v195) a + S1x2048.size a ≤ S8704x2048.size a := fun i v0 v195 k0_hw279 k0_h4 => k0_hw279 k0_h4

def k0_off304 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c22_i32 : BitVec 32 := 22#32
  let v200 : BitVec 32 := Scalar.addi v45 c22_i32
  let v201 : Index := Scalar.indexCast v200
  ![v201.toNat]
def k0_off305 (v202 : BitVec 32) : Fin 2 → Nat :=
  let c0_i32_117 : BitVec 32 := 0#32
  ![v202.toNat, 0]

def k0_chk280 (i : grid0.Coords) (v0 : BitVec 32) (v202 : BitVec 32) : Prop :=
  (∀ (k0_h4 : k0_cond4 i v0 = 1#1), ∀ a, (k0_off305 v202) a + S1x2048.size a ≤ S8704x2048.size a)
theorem k0_off305_inb : ∀ (i : grid0.Coords) (v0 : BitVec 32) (v202 : BitVec 32) (k0_hw280 : k0_chk280 i v0 v202), ∀ (k0_h4 : k0_cond4 i v0 = 1#1), ∀ a, (k0_off305 v202) a + S1x2048.size a ≤ S8704x2048.size a := fun i v0 v202 k0_hw280 k0_h4 => k0_hw280 k0_h4

def k0_off306 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c23_i32 : BitVec 32 := 23#32
  let v207 : BitVec 32 := Scalar.addi v45 c23_i32
  let v208 : Index := Scalar.indexCast v207
  ![v208.toNat]
def k0_off307 (v209 : BitVec 32) : Fin 2 → Nat :=
  let c0_i32_121 : BitVec 32 := 0#32
  ![v209.toNat, 0]

def k0_chk281 (i : grid0.Coords) (v0 : BitVec 32) (v209 : BitVec 32) : Prop :=
  (∀ (k0_h4 : k0_cond4 i v0 = 1#1), ∀ a, (k0_off307 v209) a + S1x2048.size a ≤ S8704x2048.size a)
theorem k0_off307_inb : ∀ (i : grid0.Coords) (v0 : BitVec 32) (v209 : BitVec 32) (k0_hw281 : k0_chk281 i v0 v209), ∀ (k0_h4 : k0_cond4 i v0 = 1#1), ∀ a, (k0_off307 v209) a + S1x2048.size a ≤ S8704x2048.size a := fun i v0 v209 k0_hw281 k0_h4 => k0_hw281 k0_h4

def k0_off308 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c24_i32 : BitVec 32 := 24#32
  let v214 : BitVec 32 := Scalar.addi v45 c24_i32
  let v215 : Index := Scalar.indexCast v214
  ![v215.toNat]
def k0_off309 (v216 : BitVec 32) : Fin 2 → Nat :=
  let c0_i32_125 : BitVec 32 := 0#32
  ![v216.toNat, 0]

def k0_chk282 (i : grid0.Coords) (v0 : BitVec 32) (v216 : BitVec 32) : Prop :=
  (∀ (k0_h4 : k0_cond4 i v0 = 1#1), ∀ a, (k0_off309 v216) a + S1x2048.size a ≤ S8704x2048.size a)
theorem k0_off309_inb : ∀ (i : grid0.Coords) (v0 : BitVec 32) (v216 : BitVec 32) (k0_hw282 : k0_chk282 i v0 v216), ∀ (k0_h4 : k0_cond4 i v0 = 1#1), ∀ a, (k0_off309 v216) a + S1x2048.size a ≤ S8704x2048.size a := fun i v0 v216 k0_hw282 k0_h4 => k0_hw282 k0_h4

def k0_off310 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c25_i32 : BitVec 32 := 25#32
  let v221 : BitVec 32 := Scalar.addi v45 c25_i32
  let v222 : Index := Scalar.indexCast v221
  ![v222.toNat]
def k0_off311 (v223 : BitVec 32) : Fin 2 → Nat :=
  let c0_i32_129 : BitVec 32 := 0#32
  ![v223.toNat, 0]

def k0_chk283 (i : grid0.Coords) (v0 : BitVec 32) (v223 : BitVec 32) : Prop :=
  (∀ (k0_h4 : k0_cond4 i v0 = 1#1), ∀ a, (k0_off311 v223) a + S1x2048.size a ≤ S8704x2048.size a)
theorem k0_off311_inb : ∀ (i : grid0.Coords) (v0 : BitVec 32) (v223 : BitVec 32) (k0_hw283 : k0_chk283 i v0 v223), ∀ (k0_h4 : k0_cond4 i v0 = 1#1), ∀ a, (k0_off311 v223) a + S1x2048.size a ≤ S8704x2048.size a := fun i v0 v223 k0_hw283 k0_h4 => k0_hw283 k0_h4

def k0_off312 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c26_i32 : BitVec 32 := 26#32
  let v228 : BitVec 32 := Scalar.addi v45 c26_i32
  let v229 : Index := Scalar.indexCast v228
  ![v229.toNat]
def k0_off313 (v230 : BitVec 32) : Fin 2 → Nat :=
  let c0_i32_133 : BitVec 32 := 0#32
  ![v230.toNat, 0]

def k0_chk284 (i : grid0.Coords) (v0 : BitVec 32) (v230 : BitVec 32) : Prop :=
  (∀ (k0_h4 : k0_cond4 i v0 = 1#1), ∀ a, (k0_off313 v230) a + S1x2048.size a ≤ S8704x2048.size a)
theorem k0_off313_inb : ∀ (i : grid0.Coords) (v0 : BitVec 32) (v230 : BitVec 32) (k0_hw284 : k0_chk284 i v0 v230), ∀ (k0_h4 : k0_cond4 i v0 = 1#1), ∀ a, (k0_off313 v230) a + S1x2048.size a ≤ S8704x2048.size a := fun i v0 v230 k0_hw284 k0_h4 => k0_hw284 k0_h4

def k0_off314 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c27_i32 : BitVec 32 := 27#32
  let v235 : BitVec 32 := Scalar.addi v45 c27_i32
  let v236 : Index := Scalar.indexCast v235
  ![v236.toNat]
def k0_off315 (v237 : BitVec 32) : Fin 2 → Nat :=
  let c0_i32_137 : BitVec 32 := 0#32
  ![v237.toNat, 0]

def k0_chk285 (i : grid0.Coords) (v0 : BitVec 32) (v237 : BitVec 32) : Prop :=
  (∀ (k0_h4 : k0_cond4 i v0 = 1#1), ∀ a, (k0_off315 v237) a + S1x2048.size a ≤ S8704x2048.size a)
theorem k0_off315_inb : ∀ (i : grid0.Coords) (v0 : BitVec 32) (v237 : BitVec 32) (k0_hw285 : k0_chk285 i v0 v237), ∀ (k0_h4 : k0_cond4 i v0 = 1#1), ∀ a, (k0_off315 v237) a + S1x2048.size a ≤ S8704x2048.size a := fun i v0 v237 k0_hw285 k0_h4 => k0_hw285 k0_h4

def k0_off316 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c28_i32 : BitVec 32 := 28#32
  let v242 : BitVec 32 := Scalar.addi v45 c28_i32
  let v243 : Index := Scalar.indexCast v242
  ![v243.toNat]
def k0_off317 (v244 : BitVec 32) : Fin 2 → Nat :=
  let c0_i32_141 : BitVec 32 := 0#32
  ![v244.toNat, 0]

def k0_chk286 (i : grid0.Coords) (v0 : BitVec 32) (v244 : BitVec 32) : Prop :=
  (∀ (k0_h4 : k0_cond4 i v0 = 1#1), ∀ a, (k0_off317 v244) a + S1x2048.size a ≤ S8704x2048.size a)
theorem k0_off317_inb : ∀ (i : grid0.Coords) (v0 : BitVec 32) (v244 : BitVec 32) (k0_hw286 : k0_chk286 i v0 v244), ∀ (k0_h4 : k0_cond4 i v0 = 1#1), ∀ a, (k0_off317 v244) a + S1x2048.size a ≤ S8704x2048.size a := fun i v0 v244 k0_hw286 k0_h4 => k0_hw286 k0_h4

def k0_off318 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c29_i32 : BitVec 32 := 29#32
  let v249 : BitVec 32 := Scalar.addi v45 c29_i32
  let v250 : Index := Scalar.indexCast v249
  ![v250.toNat]
def k0_off319 (v251 : BitVec 32) : Fin 2 → Nat :=
  let c0_i32_145 : BitVec 32 := 0#32
  ![v251.toNat, 0]

def k0_chk287 (i : grid0.Coords) (v0 : BitVec 32) (v251 : BitVec 32) : Prop :=
  (∀ (k0_h4 : k0_cond4 i v0 = 1#1), ∀ a, (k0_off319 v251) a + S1x2048.size a ≤ S8704x2048.size a)
theorem k0_off319_inb : ∀ (i : grid0.Coords) (v0 : BitVec 32) (v251 : BitVec 32) (k0_hw287 : k0_chk287 i v0 v251), ∀ (k0_h4 : k0_cond4 i v0 = 1#1), ∀ a, (k0_off319 v251) a + S1x2048.size a ≤ S8704x2048.size a := fun i v0 v251 k0_hw287 k0_h4 => k0_hw287 k0_h4

def k0_off320 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c30_i32 : BitVec 32 := 30#32
  let v256 : BitVec 32 := Scalar.addi v45 c30_i32
  let v257 : Index := Scalar.indexCast v256
  ![v257.toNat]
def k0_off321 (v258 : BitVec 32) : Fin 2 → Nat :=
  let c0_i32_149 : BitVec 32 := 0#32
  ![v258.toNat, 0]

def k0_chk288 (i : grid0.Coords) (v0 : BitVec 32) (v258 : BitVec 32) : Prop :=
  (∀ (k0_h4 : k0_cond4 i v0 = 1#1), ∀ a, (k0_off321 v258) a + S1x2048.size a ≤ S8704x2048.size a)
theorem k0_off321_inb : ∀ (i : grid0.Coords) (v0 : BitVec 32) (v258 : BitVec 32) (k0_hw288 : k0_chk288 i v0 v258), ∀ (k0_h4 : k0_cond4 i v0 = 1#1), ∀ a, (k0_off321 v258) a + S1x2048.size a ≤ S8704x2048.size a := fun i v0 v258 k0_hw288 k0_h4 => k0_hw288 k0_h4

def k0_off322 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c31_i32 : BitVec 32 := 31#32
  let v263 : BitVec 32 := Scalar.addi v45 c31_i32
  let v264 : Index := Scalar.indexCast v263
  ![v264.toNat]
def k0_off323 (v265 : BitVec 32) : Fin 2 → Nat :=
  let c0_i32_153 : BitVec 32 := 0#32
  ![v265.toNat, 0]

def k0_chk289 (i : grid0.Coords) (v0 : BitVec 32) (v265 : BitVec 32) : Prop :=
  (∀ (k0_h4 : k0_cond4 i v0 = 1#1), ∀ a, (k0_off323 v265) a + S1x2048.size a ≤ S8704x2048.size a)
theorem k0_off323_inb : ∀ (i : grid0.Coords) (v0 : BitVec 32) (v265 : BitVec 32) (k0_hw289 : k0_chk289 i v0 v265), ∀ (k0_h4 : k0_cond4 i v0 = 1#1), ∀ a, (k0_off323 v265) a + S1x2048.size a ≤ S8704x2048.size a := fun i v0 v265 k0_hw289 k0_h4 => k0_hw289 k0_h4

def k0_off324 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c32_i32 : BitVec 32 := 32#32
  let v270 : BitVec 32 := Scalar.addi v45 c32_i32
  let v271 : Index := Scalar.indexCast v270
  ![v271.toNat]
def k0_off325 (v272 : BitVec 32) : Fin 2 → Nat :=
  let c0_i32_157 : BitVec 32 := 0#32
  ![v272.toNat, 0]

def k0_chk290 (i : grid0.Coords) (v0 : BitVec 32) (v272 : BitVec 32) : Prop :=
  (∀ (k0_h4 : k0_cond4 i v0 = 1#1), ∀ a, (k0_off325 v272) a + S1x2048.size a ≤ S8704x2048.size a)
theorem k0_off325_inb : ∀ (i : grid0.Coords) (v0 : BitVec 32) (v272 : BitVec 32) (k0_hw290 : k0_chk290 i v0 v272), ∀ (k0_h4 : k0_cond4 i v0 = 1#1), ∀ a, (k0_off325 v272) a + S1x2048.size a ≤ S8704x2048.size a := fun i v0 v272 k0_hw290 k0_h4 => k0_hw290 k0_h4

def k0_off326 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c33_i32 : BitVec 32 := 33#32
  let v277 : BitVec 32 := Scalar.addi v45 c33_i32
  let v278 : Index := Scalar.indexCast v277
  ![v278.toNat]
def k0_off327 (v279 : BitVec 32) : Fin 2 → Nat :=
  let c0_i32_161 : BitVec 32 := 0#32
  ![v279.toNat, 0]

def k0_chk291 (i : grid0.Coords) (v0 : BitVec 32) (v279 : BitVec 32) : Prop :=
  (∀ (k0_h4 : k0_cond4 i v0 = 1#1), ∀ a, (k0_off327 v279) a + S1x2048.size a ≤ S8704x2048.size a)
theorem k0_off327_inb : ∀ (i : grid0.Coords) (v0 : BitVec 32) (v279 : BitVec 32) (k0_hw291 : k0_chk291 i v0 v279), ∀ (k0_h4 : k0_cond4 i v0 = 1#1), ∀ a, (k0_off327 v279) a + S1x2048.size a ≤ S8704x2048.size a := fun i v0 v279 k0_hw291 k0_h4 => k0_hw291 k0_h4

def k0_off328 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c34_i32 : BitVec 32 := 34#32
  let v284 : BitVec 32 := Scalar.addi v45 c34_i32
  let v285 : Index := Scalar.indexCast v284
  ![v285.toNat]
def k0_off329 (v286 : BitVec 32) : Fin 2 → Nat :=
  let c0_i32_165 : BitVec 32 := 0#32
  ![v286.toNat, 0]

def k0_chk292 (i : grid0.Coords) (v0 : BitVec 32) (v286 : BitVec 32) : Prop :=
  (∀ (k0_h4 : k0_cond4 i v0 = 1#1), ∀ a, (k0_off329 v286) a + S1x2048.size a ≤ S8704x2048.size a)
theorem k0_off329_inb : ∀ (i : grid0.Coords) (v0 : BitVec 32) (v286 : BitVec 32) (k0_hw292 : k0_chk292 i v0 v286), ∀ (k0_h4 : k0_cond4 i v0 = 1#1), ∀ a, (k0_off329 v286) a + S1x2048.size a ≤ S8704x2048.size a := fun i v0 v286 k0_hw292 k0_h4 => k0_hw292 k0_h4

def k0_off330 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c35_i32 : BitVec 32 := 35#32
  let v291 : BitVec 32 := Scalar.addi v45 c35_i32
  let v292 : Index := Scalar.indexCast v291
  ![v292.toNat]
def k0_off331 (v293 : BitVec 32) : Fin 2 → Nat :=
  let c0_i32_169 : BitVec 32 := 0#32
  ![v293.toNat, 0]

def k0_chk293 (i : grid0.Coords) (v0 : BitVec 32) (v293 : BitVec 32) : Prop :=
  (∀ (k0_h4 : k0_cond4 i v0 = 1#1), ∀ a, (k0_off331 v293) a + S1x2048.size a ≤ S8704x2048.size a)
theorem k0_off331_inb : ∀ (i : grid0.Coords) (v0 : BitVec 32) (v293 : BitVec 32) (k0_hw293 : k0_chk293 i v0 v293), ∀ (k0_h4 : k0_cond4 i v0 = 1#1), ∀ a, (k0_off331 v293) a + S1x2048.size a ≤ S8704x2048.size a := fun i v0 v293 k0_hw293 k0_h4 => k0_hw293 k0_h4

def k0_off332 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c36_i32 : BitVec 32 := 36#32
  let v298 : BitVec 32 := Scalar.addi v45 c36_i32
  let v299 : Index := Scalar.indexCast v298
  ![v299.toNat]
def k0_off333 (v300 : BitVec 32) : Fin 2 → Nat :=
  let c0_i32_173 : BitVec 32 := 0#32
  ![v300.toNat, 0]

def k0_chk294 (i : grid0.Coords) (v0 : BitVec 32) (v300 : BitVec 32) : Prop :=
  (∀ (k0_h4 : k0_cond4 i v0 = 1#1), ∀ a, (k0_off333 v300) a + S1x2048.size a ≤ S8704x2048.size a)
theorem k0_off333_inb : ∀ (i : grid0.Coords) (v0 : BitVec 32) (v300 : BitVec 32) (k0_hw294 : k0_chk294 i v0 v300), ∀ (k0_h4 : k0_cond4 i v0 = 1#1), ∀ a, (k0_off333 v300) a + S1x2048.size a ≤ S8704x2048.size a := fun i v0 v300 k0_hw294 k0_h4 => k0_hw294 k0_h4

def k0_off334 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c37_i32 : BitVec 32 := 37#32
  let v305 : BitVec 32 := Scalar.addi v45 c37_i32
  let v306 : Index := Scalar.indexCast v305
  ![v306.toNat]
def k0_off335 (v307 : BitVec 32) : Fin 2 → Nat :=
  let c0_i32_177 : BitVec 32 := 0#32
  ![v307.toNat, 0]

def k0_chk295 (i : grid0.Coords) (v0 : BitVec 32) (v307 : BitVec 32) : Prop :=
  (∀ (k0_h4 : k0_cond4 i v0 = 1#1), ∀ a, (k0_off335 v307) a + S1x2048.size a ≤ S8704x2048.size a)
theorem k0_off335_inb : ∀ (i : grid0.Coords) (v0 : BitVec 32) (v307 : BitVec 32) (k0_hw295 : k0_chk295 i v0 v307), ∀ (k0_h4 : k0_cond4 i v0 = 1#1), ∀ a, (k0_off335 v307) a + S1x2048.size a ≤ S8704x2048.size a := fun i v0 v307 k0_hw295 k0_h4 => k0_hw295 k0_h4

def k0_off336 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c38_i32 : BitVec 32 := 38#32
  let v312 : BitVec 32 := Scalar.addi v45 c38_i32
  let v313 : Index := Scalar.indexCast v312
  ![v313.toNat]
def k0_off337 (v314 : BitVec 32) : Fin 2 → Nat :=
  let c0_i32_181 : BitVec 32 := 0#32
  ![v314.toNat, 0]

def k0_chk296 (i : grid0.Coords) (v0 : BitVec 32) (v314 : BitVec 32) : Prop :=
  (∀ (k0_h4 : k0_cond4 i v0 = 1#1), ∀ a, (k0_off337 v314) a + S1x2048.size a ≤ S8704x2048.size a)
theorem k0_off337_inb : ∀ (i : grid0.Coords) (v0 : BitVec 32) (v314 : BitVec 32) (k0_hw296 : k0_chk296 i v0 v314), ∀ (k0_h4 : k0_cond4 i v0 = 1#1), ∀ a, (k0_off337 v314) a + S1x2048.size a ≤ S8704x2048.size a := fun i v0 v314 k0_hw296 k0_h4 => k0_hw296 k0_h4

def k0_off338 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c39_i32 : BitVec 32 := 39#32
  let v319 : BitVec 32 := Scalar.addi v45 c39_i32
  let v320 : Index := Scalar.indexCast v319
  ![v320.toNat]
def k0_off339 (v321 : BitVec 32) : Fin 2 → Nat :=
  let c0_i32_185 : BitVec 32 := 0#32
  ![v321.toNat, 0]

def k0_chk297 (i : grid0.Coords) (v0 : BitVec 32) (v321 : BitVec 32) : Prop :=
  (∀ (k0_h4 : k0_cond4 i v0 = 1#1), ∀ a, (k0_off339 v321) a + S1x2048.size a ≤ S8704x2048.size a)
theorem k0_off339_inb : ∀ (i : grid0.Coords) (v0 : BitVec 32) (v321 : BitVec 32) (k0_hw297 : k0_chk297 i v0 v321), ∀ (k0_h4 : k0_cond4 i v0 = 1#1), ∀ a, (k0_off339 v321) a + S1x2048.size a ≤ S8704x2048.size a := fun i v0 v321 k0_hw297 k0_h4 => k0_hw297 k0_h4

def k0_off340 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c40_i32 : BitVec 32 := 40#32
  let v326 : BitVec 32 := Scalar.addi v45 c40_i32
  let v327 : Index := Scalar.indexCast v326
  ![v327.toNat]
def k0_off341 (v328 : BitVec 32) : Fin 2 → Nat :=
  let c0_i32_189 : BitVec 32 := 0#32
  ![v328.toNat, 0]

def k0_chk298 (i : grid0.Coords) (v0 : BitVec 32) (v328 : BitVec 32) : Prop :=
  (∀ (k0_h4 : k0_cond4 i v0 = 1#1), ∀ a, (k0_off341 v328) a + S1x2048.size a ≤ S8704x2048.size a)
theorem k0_off341_inb : ∀ (i : grid0.Coords) (v0 : BitVec 32) (v328 : BitVec 32) (k0_hw298 : k0_chk298 i v0 v328), ∀ (k0_h4 : k0_cond4 i v0 = 1#1), ∀ a, (k0_off341 v328) a + S1x2048.size a ≤ S8704x2048.size a := fun i v0 v328 k0_hw298 k0_h4 => k0_hw298 k0_h4

def k0_off342 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c41_i32 : BitVec 32 := 41#32
  let v333 : BitVec 32 := Scalar.addi v45 c41_i32
  let v334 : Index := Scalar.indexCast v333
  ![v334.toNat]
def k0_off343 (v335 : BitVec 32) : Fin 2 → Nat :=
  let c0_i32_193 : BitVec 32 := 0#32
  ![v335.toNat, 0]

def k0_chk299 (i : grid0.Coords) (v0 : BitVec 32) (v335 : BitVec 32) : Prop :=
  (∀ (k0_h4 : k0_cond4 i v0 = 1#1), ∀ a, (k0_off343 v335) a + S1x2048.size a ≤ S8704x2048.size a)
theorem k0_off343_inb : ∀ (i : grid0.Coords) (v0 : BitVec 32) (v335 : BitVec 32) (k0_hw299 : k0_chk299 i v0 v335), ∀ (k0_h4 : k0_cond4 i v0 = 1#1), ∀ a, (k0_off343 v335) a + S1x2048.size a ≤ S8704x2048.size a := fun i v0 v335 k0_hw299 k0_h4 => k0_hw299 k0_h4

def k0_off344 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c42_i32 : BitVec 32 := 42#32
  let v340 : BitVec 32 := Scalar.addi v45 c42_i32
  let v341 : Index := Scalar.indexCast v340
  ![v341.toNat]
def k0_off345 (v342 : BitVec 32) : Fin 2 → Nat :=
  let c0_i32_197 : BitVec 32 := 0#32
  ![v342.toNat, 0]

def k0_chk300 (i : grid0.Coords) (v0 : BitVec 32) (v342 : BitVec 32) : Prop :=
  (∀ (k0_h4 : k0_cond4 i v0 = 1#1), ∀ a, (k0_off345 v342) a + S1x2048.size a ≤ S8704x2048.size a)
theorem k0_off345_inb : ∀ (i : grid0.Coords) (v0 : BitVec 32) (v342 : BitVec 32) (k0_hw300 : k0_chk300 i v0 v342), ∀ (k0_h4 : k0_cond4 i v0 = 1#1), ∀ a, (k0_off345 v342) a + S1x2048.size a ≤ S8704x2048.size a := fun i v0 v342 k0_hw300 k0_h4 => k0_hw300 k0_h4

def k0_off346 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c43_i32 : BitVec 32 := 43#32
  let v347 : BitVec 32 := Scalar.addi v45 c43_i32
  let v348 : Index := Scalar.indexCast v347
  ![v348.toNat]
def k0_off347 (v349 : BitVec 32) : Fin 2 → Nat :=
  let c0_i32_201 : BitVec 32 := 0#32
  ![v349.toNat, 0]

def k0_chk301 (i : grid0.Coords) (v0 : BitVec 32) (v349 : BitVec 32) : Prop :=
  (∀ (k0_h4 : k0_cond4 i v0 = 1#1), ∀ a, (k0_off347 v349) a + S1x2048.size a ≤ S8704x2048.size a)
theorem k0_off347_inb : ∀ (i : grid0.Coords) (v0 : BitVec 32) (v349 : BitVec 32) (k0_hw301 : k0_chk301 i v0 v349), ∀ (k0_h4 : k0_cond4 i v0 = 1#1), ∀ a, (k0_off347 v349) a + S1x2048.size a ≤ S8704x2048.size a := fun i v0 v349 k0_hw301 k0_h4 => k0_hw301 k0_h4

def k0_off348 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c44_i32 : BitVec 32 := 44#32
  let v354 : BitVec 32 := Scalar.addi v45 c44_i32
  let v355 : Index := Scalar.indexCast v354
  ![v355.toNat]
def k0_off349 (v356 : BitVec 32) : Fin 2 → Nat :=
  let c0_i32_205 : BitVec 32 := 0#32
  ![v356.toNat, 0]

def k0_chk302 (i : grid0.Coords) (v0 : BitVec 32) (v356 : BitVec 32) : Prop :=
  (∀ (k0_h4 : k0_cond4 i v0 = 1#1), ∀ a, (k0_off349 v356) a + S1x2048.size a ≤ S8704x2048.size a)
theorem k0_off349_inb : ∀ (i : grid0.Coords) (v0 : BitVec 32) (v356 : BitVec 32) (k0_hw302 : k0_chk302 i v0 v356), ∀ (k0_h4 : k0_cond4 i v0 = 1#1), ∀ a, (k0_off349 v356) a + S1x2048.size a ≤ S8704x2048.size a := fun i v0 v356 k0_hw302 k0_h4 => k0_hw302 k0_h4

def k0_off350 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c45_i32 : BitVec 32 := 45#32
  let v361 : BitVec 32 := Scalar.addi v45 c45_i32
  let v362 : Index := Scalar.indexCast v361
  ![v362.toNat]
def k0_off351 (v363 : BitVec 32) : Fin 2 → Nat :=
  let c0_i32_209 : BitVec 32 := 0#32
  ![v363.toNat, 0]

def k0_chk303 (i : grid0.Coords) (v0 : BitVec 32) (v363 : BitVec 32) : Prop :=
  (∀ (k0_h4 : k0_cond4 i v0 = 1#1), ∀ a, (k0_off351 v363) a + S1x2048.size a ≤ S8704x2048.size a)
theorem k0_off351_inb : ∀ (i : grid0.Coords) (v0 : BitVec 32) (v363 : BitVec 32) (k0_hw303 : k0_chk303 i v0 v363), ∀ (k0_h4 : k0_cond4 i v0 = 1#1), ∀ a, (k0_off351 v363) a + S1x2048.size a ≤ S8704x2048.size a := fun i v0 v363 k0_hw303 k0_h4 => k0_hw303 k0_h4

def k0_off352 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c46_i32 : BitVec 32 := 46#32
  let v368 : BitVec 32 := Scalar.addi v45 c46_i32
  let v369 : Index := Scalar.indexCast v368
  ![v369.toNat]
def k0_off353 (v370 : BitVec 32) : Fin 2 → Nat :=
  let c0_i32_213 : BitVec 32 := 0#32
  ![v370.toNat, 0]

def k0_chk304 (i : grid0.Coords) (v0 : BitVec 32) (v370 : BitVec 32) : Prop :=
  (∀ (k0_h4 : k0_cond4 i v0 = 1#1), ∀ a, (k0_off353 v370) a + S1x2048.size a ≤ S8704x2048.size a)
theorem k0_off353_inb : ∀ (i : grid0.Coords) (v0 : BitVec 32) (v370 : BitVec 32) (k0_hw304 : k0_chk304 i v0 v370), ∀ (k0_h4 : k0_cond4 i v0 = 1#1), ∀ a, (k0_off353 v370) a + S1x2048.size a ≤ S8704x2048.size a := fun i v0 v370 k0_hw304 k0_h4 => k0_hw304 k0_h4

def k0_off354 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c47_i32 : BitVec 32 := 47#32
  let v375 : BitVec 32 := Scalar.addi v45 c47_i32
  let v376 : Index := Scalar.indexCast v375
  ![v376.toNat]
def k0_off355 (v377 : BitVec 32) : Fin 2 → Nat :=
  let c0_i32_217 : BitVec 32 := 0#32
  ![v377.toNat, 0]

def k0_chk305 (i : grid0.Coords) (v0 : BitVec 32) (v377 : BitVec 32) : Prop :=
  (∀ (k0_h4 : k0_cond4 i v0 = 1#1), ∀ a, (k0_off355 v377) a + S1x2048.size a ≤ S8704x2048.size a)
theorem k0_off355_inb : ∀ (i : grid0.Coords) (v0 : BitVec 32) (v377 : BitVec 32) (k0_hw305 : k0_chk305 i v0 v377), ∀ (k0_h4 : k0_cond4 i v0 = 1#1), ∀ a, (k0_off355 v377) a + S1x2048.size a ≤ S8704x2048.size a := fun i v0 v377 k0_hw305 k0_h4 => k0_hw305 k0_h4

def k0_off356 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c48_i32 : BitVec 32 := 48#32
  let v382 : BitVec 32 := Scalar.addi v45 c48_i32
  let v383 : Index := Scalar.indexCast v382
  ![v383.toNat]
def k0_off357 (v384 : BitVec 32) : Fin 2 → Nat :=
  let c0_i32_221 : BitVec 32 := 0#32
  ![v384.toNat, 0]

def k0_chk306 (i : grid0.Coords) (v0 : BitVec 32) (v384 : BitVec 32) : Prop :=
  (∀ (k0_h4 : k0_cond4 i v0 = 1#1), ∀ a, (k0_off357 v384) a + S1x2048.size a ≤ S8704x2048.size a)
theorem k0_off357_inb : ∀ (i : grid0.Coords) (v0 : BitVec 32) (v384 : BitVec 32) (k0_hw306 : k0_chk306 i v0 v384), ∀ (k0_h4 : k0_cond4 i v0 = 1#1), ∀ a, (k0_off357 v384) a + S1x2048.size a ≤ S8704x2048.size a := fun i v0 v384 k0_hw306 k0_h4 => k0_hw306 k0_h4

def k0_off358 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c49_i32 : BitVec 32 := 49#32
  let v389 : BitVec 32 := Scalar.addi v45 c49_i32
  let v390 : Index := Scalar.indexCast v389
  ![v390.toNat]
def k0_off359 (v391 : BitVec 32) : Fin 2 → Nat :=
  let c0_i32_225 : BitVec 32 := 0#32
  ![v391.toNat, 0]

def k0_chk307 (i : grid0.Coords) (v0 : BitVec 32) (v391 : BitVec 32) : Prop :=
  (∀ (k0_h4 : k0_cond4 i v0 = 1#1), ∀ a, (k0_off359 v391) a + S1x2048.size a ≤ S8704x2048.size a)
theorem k0_off359_inb : ∀ (i : grid0.Coords) (v0 : BitVec 32) (v391 : BitVec 32) (k0_hw307 : k0_chk307 i v0 v391), ∀ (k0_h4 : k0_cond4 i v0 = 1#1), ∀ a, (k0_off359 v391) a + S1x2048.size a ≤ S8704x2048.size a := fun i v0 v391 k0_hw307 k0_h4 => k0_hw307 k0_h4

def k0_off360 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c50_i32 : BitVec 32 := 50#32
  let v396 : BitVec 32 := Scalar.addi v45 c50_i32
  let v397 : Index := Scalar.indexCast v396
  ![v397.toNat]
def k0_off361 (v398 : BitVec 32) : Fin 2 → Nat :=
  let c0_i32_229 : BitVec 32 := 0#32
  ![v398.toNat, 0]

def k0_chk308 (i : grid0.Coords) (v0 : BitVec 32) (v398 : BitVec 32) : Prop :=
  (∀ (k0_h4 : k0_cond4 i v0 = 1#1), ∀ a, (k0_off361 v398) a + S1x2048.size a ≤ S8704x2048.size a)
theorem k0_off361_inb : ∀ (i : grid0.Coords) (v0 : BitVec 32) (v398 : BitVec 32) (k0_hw308 : k0_chk308 i v0 v398), ∀ (k0_h4 : k0_cond4 i v0 = 1#1), ∀ a, (k0_off361 v398) a + S1x2048.size a ≤ S8704x2048.size a := fun i v0 v398 k0_hw308 k0_h4 => k0_hw308 k0_h4

def k0_off362 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c51_i32 : BitVec 32 := 51#32
  let v403 : BitVec 32 := Scalar.addi v45 c51_i32
  let v404 : Index := Scalar.indexCast v403
  ![v404.toNat]
def k0_off363 (v405 : BitVec 32) : Fin 2 → Nat :=
  let c0_i32_233 : BitVec 32 := 0#32
  ![v405.toNat, 0]

def k0_chk309 (i : grid0.Coords) (v0 : BitVec 32) (v405 : BitVec 32) : Prop :=
  (∀ (k0_h4 : k0_cond4 i v0 = 1#1), ∀ a, (k0_off363 v405) a + S1x2048.size a ≤ S8704x2048.size a)
theorem k0_off363_inb : ∀ (i : grid0.Coords) (v0 : BitVec 32) (v405 : BitVec 32) (k0_hw309 : k0_chk309 i v0 v405), ∀ (k0_h4 : k0_cond4 i v0 = 1#1), ∀ a, (k0_off363 v405) a + S1x2048.size a ≤ S8704x2048.size a := fun i v0 v405 k0_hw309 k0_h4 => k0_hw309 k0_h4

def k0_off364 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c52_i32 : BitVec 32 := 52#32
  let v410 : BitVec 32 := Scalar.addi v45 c52_i32
  let v411 : Index := Scalar.indexCast v410
  ![v411.toNat]
def k0_off365 (v412 : BitVec 32) : Fin 2 → Nat :=
  let c0_i32_237 : BitVec 32 := 0#32
  ![v412.toNat, 0]

def k0_chk310 (i : grid0.Coords) (v0 : BitVec 32) (v412 : BitVec 32) : Prop :=
  (∀ (k0_h4 : k0_cond4 i v0 = 1#1), ∀ a, (k0_off365 v412) a + S1x2048.size a ≤ S8704x2048.size a)
theorem k0_off365_inb : ∀ (i : grid0.Coords) (v0 : BitVec 32) (v412 : BitVec 32) (k0_hw310 : k0_chk310 i v0 v412), ∀ (k0_h4 : k0_cond4 i v0 = 1#1), ∀ a, (k0_off365 v412) a + S1x2048.size a ≤ S8704x2048.size a := fun i v0 v412 k0_hw310 k0_h4 => k0_hw310 k0_h4

def k0_off366 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c53_i32 : BitVec 32 := 53#32
  let v417 : BitVec 32 := Scalar.addi v45 c53_i32
  let v418 : Index := Scalar.indexCast v417
  ![v418.toNat]
def k0_off367 (v419 : BitVec 32) : Fin 2 → Nat :=
  let c0_i32_241 : BitVec 32 := 0#32
  ![v419.toNat, 0]

def k0_chk311 (i : grid0.Coords) (v0 : BitVec 32) (v419 : BitVec 32) : Prop :=
  (∀ (k0_h4 : k0_cond4 i v0 = 1#1), ∀ a, (k0_off367 v419) a + S1x2048.size a ≤ S8704x2048.size a)
theorem k0_off367_inb : ∀ (i : grid0.Coords) (v0 : BitVec 32) (v419 : BitVec 32) (k0_hw311 : k0_chk311 i v0 v419), ∀ (k0_h4 : k0_cond4 i v0 = 1#1), ∀ a, (k0_off367 v419) a + S1x2048.size a ≤ S8704x2048.size a := fun i v0 v419 k0_hw311 k0_h4 => k0_hw311 k0_h4

def k0_off368 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c54_i32 : BitVec 32 := 54#32
  let v424 : BitVec 32 := Scalar.addi v45 c54_i32
  let v425 : Index := Scalar.indexCast v424
  ![v425.toNat]
def k0_off369 (v426 : BitVec 32) : Fin 2 → Nat :=
  let c0_i32_245 : BitVec 32 := 0#32
  ![v426.toNat, 0]

def k0_chk312 (i : grid0.Coords) (v0 : BitVec 32) (v426 : BitVec 32) : Prop :=
  (∀ (k0_h4 : k0_cond4 i v0 = 1#1), ∀ a, (k0_off369 v426) a + S1x2048.size a ≤ S8704x2048.size a)
theorem k0_off369_inb : ∀ (i : grid0.Coords) (v0 : BitVec 32) (v426 : BitVec 32) (k0_hw312 : k0_chk312 i v0 v426), ∀ (k0_h4 : k0_cond4 i v0 = 1#1), ∀ a, (k0_off369 v426) a + S1x2048.size a ≤ S8704x2048.size a := fun i v0 v426 k0_hw312 k0_h4 => k0_hw312 k0_h4

def k0_off370 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c55_i32 : BitVec 32 := 55#32
  let v431 : BitVec 32 := Scalar.addi v45 c55_i32
  let v432 : Index := Scalar.indexCast v431
  ![v432.toNat]
def k0_off371 (v433 : BitVec 32) : Fin 2 → Nat :=
  let c0_i32_249 : BitVec 32 := 0#32
  ![v433.toNat, 0]

def k0_chk313 (i : grid0.Coords) (v0 : BitVec 32) (v433 : BitVec 32) : Prop :=
  (∀ (k0_h4 : k0_cond4 i v0 = 1#1), ∀ a, (k0_off371 v433) a + S1x2048.size a ≤ S8704x2048.size a)
theorem k0_off371_inb : ∀ (i : grid0.Coords) (v0 : BitVec 32) (v433 : BitVec 32) (k0_hw313 : k0_chk313 i v0 v433), ∀ (k0_h4 : k0_cond4 i v0 = 1#1), ∀ a, (k0_off371 v433) a + S1x2048.size a ≤ S8704x2048.size a := fun i v0 v433 k0_hw313 k0_h4 => k0_hw313 k0_h4

def k0_off372 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c56_i32 : BitVec 32 := 56#32
  let v438 : BitVec 32 := Scalar.addi v45 c56_i32
  let v439 : Index := Scalar.indexCast v438
  ![v439.toNat]
def k0_off373 (v440 : BitVec 32) : Fin 2 → Nat :=
  let c0_i32_253 : BitVec 32 := 0#32
  ![v440.toNat, 0]

def k0_chk314 (i : grid0.Coords) (v0 : BitVec 32) (v440 : BitVec 32) : Prop :=
  (∀ (k0_h4 : k0_cond4 i v0 = 1#1), ∀ a, (k0_off373 v440) a + S1x2048.size a ≤ S8704x2048.size a)
theorem k0_off373_inb : ∀ (i : grid0.Coords) (v0 : BitVec 32) (v440 : BitVec 32) (k0_hw314 : k0_chk314 i v0 v440), ∀ (k0_h4 : k0_cond4 i v0 = 1#1), ∀ a, (k0_off373 v440) a + S1x2048.size a ≤ S8704x2048.size a := fun i v0 v440 k0_hw314 k0_h4 => k0_hw314 k0_h4

def k0_off374 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c57_i32 : BitVec 32 := 57#32
  let v445 : BitVec 32 := Scalar.addi v45 c57_i32
  let v446 : Index := Scalar.indexCast v445
  ![v446.toNat]
def k0_off375 (v447 : BitVec 32) : Fin 2 → Nat :=
  let c0_i32_257 : BitVec 32 := 0#32
  ![v447.toNat, 0]

def k0_chk315 (i : grid0.Coords) (v0 : BitVec 32) (v447 : BitVec 32) : Prop :=
  (∀ (k0_h4 : k0_cond4 i v0 = 1#1), ∀ a, (k0_off375 v447) a + S1x2048.size a ≤ S8704x2048.size a)
theorem k0_off375_inb : ∀ (i : grid0.Coords) (v0 : BitVec 32) (v447 : BitVec 32) (k0_hw315 : k0_chk315 i v0 v447), ∀ (k0_h4 : k0_cond4 i v0 = 1#1), ∀ a, (k0_off375 v447) a + S1x2048.size a ≤ S8704x2048.size a := fun i v0 v447 k0_hw315 k0_h4 => k0_hw315 k0_h4

def k0_off376 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c58_i32 : BitVec 32 := 58#32
  let v452 : BitVec 32 := Scalar.addi v45 c58_i32
  let v453 : Index := Scalar.indexCast v452
  ![v453.toNat]
def k0_off377 (v454 : BitVec 32) : Fin 2 → Nat :=
  let c0_i32_261 : BitVec 32 := 0#32
  ![v454.toNat, 0]

def k0_chk316 (i : grid0.Coords) (v0 : BitVec 32) (v454 : BitVec 32) : Prop :=
  (∀ (k0_h4 : k0_cond4 i v0 = 1#1), ∀ a, (k0_off377 v454) a + S1x2048.size a ≤ S8704x2048.size a)
theorem k0_off377_inb : ∀ (i : grid0.Coords) (v0 : BitVec 32) (v454 : BitVec 32) (k0_hw316 : k0_chk316 i v0 v454), ∀ (k0_h4 : k0_cond4 i v0 = 1#1), ∀ a, (k0_off377 v454) a + S1x2048.size a ≤ S8704x2048.size a := fun i v0 v454 k0_hw316 k0_h4 => k0_hw316 k0_h4

def k0_off378 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c59_i32 : BitVec 32 := 59#32
  let v459 : BitVec 32 := Scalar.addi v45 c59_i32
  let v460 : Index := Scalar.indexCast v459
  ![v460.toNat]
def k0_off379 (v461 : BitVec 32) : Fin 2 → Nat :=
  let c0_i32_265 : BitVec 32 := 0#32
  ![v461.toNat, 0]

def k0_chk317 (i : grid0.Coords) (v0 : BitVec 32) (v461 : BitVec 32) : Prop :=
  (∀ (k0_h4 : k0_cond4 i v0 = 1#1), ∀ a, (k0_off379 v461) a + S1x2048.size a ≤ S8704x2048.size a)
theorem k0_off379_inb : ∀ (i : grid0.Coords) (v0 : BitVec 32) (v461 : BitVec 32) (k0_hw317 : k0_chk317 i v0 v461), ∀ (k0_h4 : k0_cond4 i v0 = 1#1), ∀ a, (k0_off379 v461) a + S1x2048.size a ≤ S8704x2048.size a := fun i v0 v461 k0_hw317 k0_h4 => k0_hw317 k0_h4

def k0_off380 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c60_i32 : BitVec 32 := 60#32
  let v466 : BitVec 32 := Scalar.addi v45 c60_i32
  let v467 : Index := Scalar.indexCast v466
  ![v467.toNat]
def k0_off381 (v468 : BitVec 32) : Fin 2 → Nat :=
  let c0_i32_269 : BitVec 32 := 0#32
  ![v468.toNat, 0]

def k0_chk318 (i : grid0.Coords) (v0 : BitVec 32) (v468 : BitVec 32) : Prop :=
  (∀ (k0_h4 : k0_cond4 i v0 = 1#1), ∀ a, (k0_off381 v468) a + S1x2048.size a ≤ S8704x2048.size a)
theorem k0_off381_inb : ∀ (i : grid0.Coords) (v0 : BitVec 32) (v468 : BitVec 32) (k0_hw318 : k0_chk318 i v0 v468), ∀ (k0_h4 : k0_cond4 i v0 = 1#1), ∀ a, (k0_off381 v468) a + S1x2048.size a ≤ S8704x2048.size a := fun i v0 v468 k0_hw318 k0_h4 => k0_hw318 k0_h4

def k0_off382 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c61_i32 : BitVec 32 := 61#32
  let v473 : BitVec 32 := Scalar.addi v45 c61_i32
  let v474 : Index := Scalar.indexCast v473
  ![v474.toNat]
def k0_off383 (v475 : BitVec 32) : Fin 2 → Nat :=
  let c0_i32_273 : BitVec 32 := 0#32
  ![v475.toNat, 0]

def k0_chk319 (i : grid0.Coords) (v0 : BitVec 32) (v475 : BitVec 32) : Prop :=
  (∀ (k0_h4 : k0_cond4 i v0 = 1#1), ∀ a, (k0_off383 v475) a + S1x2048.size a ≤ S8704x2048.size a)
theorem k0_off383_inb : ∀ (i : grid0.Coords) (v0 : BitVec 32) (v475 : BitVec 32) (k0_hw319 : k0_chk319 i v0 v475), ∀ (k0_h4 : k0_cond4 i v0 = 1#1), ∀ a, (k0_off383 v475) a + S1x2048.size a ≤ S8704x2048.size a := fun i v0 v475 k0_hw319 k0_h4 => k0_hw319 k0_h4

def k0_off384 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c62_i32 : BitVec 32 := 62#32
  let v480 : BitVec 32 := Scalar.addi v45 c62_i32
  let v481 : Index := Scalar.indexCast v480
  ![v481.toNat]
def k0_off385 (v482 : BitVec 32) : Fin 2 → Nat :=
  let c0_i32_277 : BitVec 32 := 0#32
  ![v482.toNat, 0]

def k0_chk320 (i : grid0.Coords) (v0 : BitVec 32) (v482 : BitVec 32) : Prop :=
  (∀ (k0_h4 : k0_cond4 i v0 = 1#1), ∀ a, (k0_off385 v482) a + S1x2048.size a ≤ S8704x2048.size a)
theorem k0_off385_inb : ∀ (i : grid0.Coords) (v0 : BitVec 32) (v482 : BitVec 32) (k0_hw320 : k0_chk320 i v0 v482), ∀ (k0_h4 : k0_cond4 i v0 = 1#1), ∀ a, (k0_off385 v482) a + S1x2048.size a ≤ S8704x2048.size a := fun i v0 v482 k0_hw320 k0_h4 => k0_hw320 k0_h4

def k0_off386 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c63_i32 : BitVec 32 := 63#32
  let v487 : BitVec 32 := Scalar.addi v45 c63_i32
  let v488 : Index := Scalar.indexCast v487
  ![v488.toNat]
def k0_off387 (v489 : BitVec 32) : Fin 2 → Nat :=
  let c0_i32_281 : BitVec 32 := 0#32
  ![v489.toNat, 0]

def k0_chk321 (i : grid0.Coords) (v0 : BitVec 32) (v489 : BitVec 32) : Prop :=
  (∀ (k0_h4 : k0_cond4 i v0 = 1#1), ∀ a, (k0_off387 v489) a + S1x2048.size a ≤ S8704x2048.size a)
theorem k0_off387_inb : ∀ (i : grid0.Coords) (v0 : BitVec 32) (v489 : BitVec 32) (k0_hw321 : k0_chk321 i v0 v489), ∀ (k0_h4 : k0_cond4 i v0 = 1#1), ∀ a, (k0_off387 v489) a + S1x2048.size a ≤ S8704x2048.size a := fun i v0 v489 k0_hw321 k0_h4 => k0_hw321 k0_h4

def k0_off388 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c64_i32 : BitVec 32 := 64#32
  let v494 : BitVec 32 := Scalar.addi v45 c64_i32
  let v495 : Index := Scalar.indexCast v494
  ![v495.toNat]
def k0_off389 (v496 : BitVec 32) : Fin 2 → Nat :=
  let c0_i32_285 : BitVec 32 := 0#32
  ![v496.toNat, 0]

def k0_chk322 (i : grid0.Coords) (v0 : BitVec 32) (v496 : BitVec 32) : Prop :=
  (∀ (k0_h4 : k0_cond4 i v0 = 1#1), ∀ a, (k0_off389 v496) a + S1x2048.size a ≤ S8704x2048.size a)
theorem k0_off389_inb : ∀ (i : grid0.Coords) (v0 : BitVec 32) (v496 : BitVec 32) (k0_hw322 : k0_chk322 i v0 v496), ∀ (k0_h4 : k0_cond4 i v0 = 1#1), ∀ a, (k0_off389 v496) a + S1x2048.size a ≤ S8704x2048.size a := fun i v0 v496 k0_hw322 k0_h4 => k0_hw322 k0_h4

def k0_off390 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c65_i32 : BitVec 32 := 65#32
  let v501 : BitVec 32 := Scalar.addi v45 c65_i32
  let v502 : Index := Scalar.indexCast v501
  ![v502.toNat]
def k0_off391 (v503 : BitVec 32) : Fin 2 → Nat :=
  let c0_i32_289 : BitVec 32 := 0#32
  ![v503.toNat, 0]

def k0_chk323 (i : grid0.Coords) (v0 : BitVec 32) (v503 : BitVec 32) : Prop :=
  (∀ (k0_h4 : k0_cond4 i v0 = 1#1), ∀ a, (k0_off391 v503) a + S1x2048.size a ≤ S8704x2048.size a)
theorem k0_off391_inb : ∀ (i : grid0.Coords) (v0 : BitVec 32) (v503 : BitVec 32) (k0_hw323 : k0_chk323 i v0 v503), ∀ (k0_h4 : k0_cond4 i v0 = 1#1), ∀ a, (k0_off391 v503) a + S1x2048.size a ≤ S8704x2048.size a := fun i v0 v503 k0_hw323 k0_h4 => k0_hw323 k0_h4

def k0_off392 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c66_i32 : BitVec 32 := 66#32
  let v508 : BitVec 32 := Scalar.addi v45 c66_i32
  let v509 : Index := Scalar.indexCast v508
  ![v509.toNat]
def k0_off393 (v510 : BitVec 32) : Fin 2 → Nat :=
  let c0_i32_293 : BitVec 32 := 0#32
  ![v510.toNat, 0]

def k0_chk324 (i : grid0.Coords) (v0 : BitVec 32) (v510 : BitVec 32) : Prop :=
  (∀ (k0_h4 : k0_cond4 i v0 = 1#1), ∀ a, (k0_off393 v510) a + S1x2048.size a ≤ S8704x2048.size a)
theorem k0_off393_inb : ∀ (i : grid0.Coords) (v0 : BitVec 32) (v510 : BitVec 32) (k0_hw324 : k0_chk324 i v0 v510), ∀ (k0_h4 : k0_cond4 i v0 = 1#1), ∀ a, (k0_off393 v510) a + S1x2048.size a ≤ S8704x2048.size a := fun i v0 v510 k0_hw324 k0_h4 => k0_hw324 k0_h4

def k0_off394 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c67_i32 : BitVec 32 := 67#32
  let v515 : BitVec 32 := Scalar.addi v45 c67_i32
  let v516 : Index := Scalar.indexCast v515
  ![v516.toNat]
def k0_off395 (v517 : BitVec 32) : Fin 2 → Nat :=
  let c0_i32_297 : BitVec 32 := 0#32
  ![v517.toNat, 0]

def k0_chk325 (i : grid0.Coords) (v0 : BitVec 32) (v517 : BitVec 32) : Prop :=
  (∀ (k0_h4 : k0_cond4 i v0 = 1#1), ∀ a, (k0_off395 v517) a + S1x2048.size a ≤ S8704x2048.size a)
theorem k0_off395_inb : ∀ (i : grid0.Coords) (v0 : BitVec 32) (v517 : BitVec 32) (k0_hw325 : k0_chk325 i v0 v517), ∀ (k0_h4 : k0_cond4 i v0 = 1#1), ∀ a, (k0_off395 v517) a + S1x2048.size a ≤ S8704x2048.size a := fun i v0 v517 k0_hw325 k0_h4 => k0_hw325 k0_h4

def k0_off396 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c68_i32 : BitVec 32 := 68#32
  let v522 : BitVec 32 := Scalar.addi v45 c68_i32
  let v523 : Index := Scalar.indexCast v522
  ![v523.toNat]
def k0_off397 (v524 : BitVec 32) : Fin 2 → Nat :=
  let c0_i32_301 : BitVec 32 := 0#32
  ![v524.toNat, 0]

def k0_chk326 (i : grid0.Coords) (v0 : BitVec 32) (v524 : BitVec 32) : Prop :=
  (∀ (k0_h4 : k0_cond4 i v0 = 1#1), ∀ a, (k0_off397 v524) a + S1x2048.size a ≤ S8704x2048.size a)
theorem k0_off397_inb : ∀ (i : grid0.Coords) (v0 : BitVec 32) (v524 : BitVec 32) (k0_hw326 : k0_chk326 i v0 v524), ∀ (k0_h4 : k0_cond4 i v0 = 1#1), ∀ a, (k0_off397 v524) a + S1x2048.size a ≤ S8704x2048.size a := fun i v0 v524 k0_hw326 k0_h4 => k0_hw326 k0_h4

def k0_off398 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c69_i32 : BitVec 32 := 69#32
  let v529 : BitVec 32 := Scalar.addi v45 c69_i32
  let v530 : Index := Scalar.indexCast v529
  ![v530.toNat]
def k0_off399 (v531 : BitVec 32) : Fin 2 → Nat :=
  let c0_i32_305 : BitVec 32 := 0#32
  ![v531.toNat, 0]

def k0_chk327 (i : grid0.Coords) (v0 : BitVec 32) (v531 : BitVec 32) : Prop :=
  (∀ (k0_h4 : k0_cond4 i v0 = 1#1), ∀ a, (k0_off399 v531) a + S1x2048.size a ≤ S8704x2048.size a)
theorem k0_off399_inb : ∀ (i : grid0.Coords) (v0 : BitVec 32) (v531 : BitVec 32) (k0_hw327 : k0_chk327 i v0 v531), ∀ (k0_h4 : k0_cond4 i v0 = 1#1), ∀ a, (k0_off399 v531) a + S1x2048.size a ≤ S8704x2048.size a := fun i v0 v531 k0_hw327 k0_h4 => k0_hw327 k0_h4

def k0_off400 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c70_i32 : BitVec 32 := 70#32
  let v536 : BitVec 32 := Scalar.addi v45 c70_i32
  let v537 : Index := Scalar.indexCast v536
  ![v537.toNat]
def k0_off401 (v538 : BitVec 32) : Fin 2 → Nat :=
  let c0_i32_309 : BitVec 32 := 0#32
  ![v538.toNat, 0]

def k0_chk328 (i : grid0.Coords) (v0 : BitVec 32) (v538 : BitVec 32) : Prop :=
  (∀ (k0_h4 : k0_cond4 i v0 = 1#1), ∀ a, (k0_off401 v538) a + S1x2048.size a ≤ S8704x2048.size a)
theorem k0_off401_inb : ∀ (i : grid0.Coords) (v0 : BitVec 32) (v538 : BitVec 32) (k0_hw328 : k0_chk328 i v0 v538), ∀ (k0_h4 : k0_cond4 i v0 = 1#1), ∀ a, (k0_off401 v538) a + S1x2048.size a ≤ S8704x2048.size a := fun i v0 v538 k0_hw328 k0_h4 => k0_hw328 k0_h4

def k0_off402 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c71_i32 : BitVec 32 := 71#32
  let v543 : BitVec 32 := Scalar.addi v45 c71_i32
  let v544 : Index := Scalar.indexCast v543
  ![v544.toNat]
def k0_off403 (v545 : BitVec 32) : Fin 2 → Nat :=
  let c0_i32_313 : BitVec 32 := 0#32
  ![v545.toNat, 0]

def k0_chk329 (i : grid0.Coords) (v0 : BitVec 32) (v545 : BitVec 32) : Prop :=
  (∀ (k0_h4 : k0_cond4 i v0 = 1#1), ∀ a, (k0_off403 v545) a + S1x2048.size a ≤ S8704x2048.size a)
theorem k0_off403_inb : ∀ (i : grid0.Coords) (v0 : BitVec 32) (v545 : BitVec 32) (k0_hw329 : k0_chk329 i v0 v545), ∀ (k0_h4 : k0_cond4 i v0 = 1#1), ∀ a, (k0_off403 v545) a + S1x2048.size a ≤ S8704x2048.size a := fun i v0 v545 k0_hw329 k0_h4 => k0_hw329 k0_h4

def k0_off404 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c72_i32 : BitVec 32 := 72#32
  let v550 : BitVec 32 := Scalar.addi v45 c72_i32
  let v551 : Index := Scalar.indexCast v550
  ![v551.toNat]
def k0_off405 (v552 : BitVec 32) : Fin 2 → Nat :=
  let c0_i32_317 : BitVec 32 := 0#32
  ![v552.toNat, 0]

def k0_chk330 (i : grid0.Coords) (v0 : BitVec 32) (v552 : BitVec 32) : Prop :=
  (∀ (k0_h4 : k0_cond4 i v0 = 1#1), ∀ a, (k0_off405 v552) a + S1x2048.size a ≤ S8704x2048.size a)
theorem k0_off405_inb : ∀ (i : grid0.Coords) (v0 : BitVec 32) (v552 : BitVec 32) (k0_hw330 : k0_chk330 i v0 v552), ∀ (k0_h4 : k0_cond4 i v0 = 1#1), ∀ a, (k0_off405 v552) a + S1x2048.size a ≤ S8704x2048.size a := fun i v0 v552 k0_hw330 k0_h4 => k0_hw330 k0_h4

def k0_off406 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c73_i32 : BitVec 32 := 73#32
  let v557 : BitVec 32 := Scalar.addi v45 c73_i32
  let v558 : Index := Scalar.indexCast v557
  ![v558.toNat]
def k0_off407 (v559 : BitVec 32) : Fin 2 → Nat :=
  let c0_i32_321 : BitVec 32 := 0#32
  ![v559.toNat, 0]

def k0_chk331 (i : grid0.Coords) (v0 : BitVec 32) (v559 : BitVec 32) : Prop :=
  (∀ (k0_h4 : k0_cond4 i v0 = 1#1), ∀ a, (k0_off407 v559) a + S1x2048.size a ≤ S8704x2048.size a)
theorem k0_off407_inb : ∀ (i : grid0.Coords) (v0 : BitVec 32) (v559 : BitVec 32) (k0_hw331 : k0_chk331 i v0 v559), ∀ (k0_h4 : k0_cond4 i v0 = 1#1), ∀ a, (k0_off407 v559) a + S1x2048.size a ≤ S8704x2048.size a := fun i v0 v559 k0_hw331 k0_h4 => k0_hw331 k0_h4

def k0_off408 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c74_i32 : BitVec 32 := 74#32
  let v564 : BitVec 32 := Scalar.addi v45 c74_i32
  let v565 : Index := Scalar.indexCast v564
  ![v565.toNat]
def k0_off409 (v566 : BitVec 32) : Fin 2 → Nat :=
  let c0_i32_325 : BitVec 32 := 0#32
  ![v566.toNat, 0]

def k0_chk332 (i : grid0.Coords) (v0 : BitVec 32) (v566 : BitVec 32) : Prop :=
  (∀ (k0_h4 : k0_cond4 i v0 = 1#1), ∀ a, (k0_off409 v566) a + S1x2048.size a ≤ S8704x2048.size a)
theorem k0_off409_inb : ∀ (i : grid0.Coords) (v0 : BitVec 32) (v566 : BitVec 32) (k0_hw332 : k0_chk332 i v0 v566), ∀ (k0_h4 : k0_cond4 i v0 = 1#1), ∀ a, (k0_off409 v566) a + S1x2048.size a ≤ S8704x2048.size a := fun i v0 v566 k0_hw332 k0_h4 => k0_hw332 k0_h4

def k0_off410 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c75_i32 : BitVec 32 := 75#32
  let v571 : BitVec 32 := Scalar.addi v45 c75_i32
  let v572 : Index := Scalar.indexCast v571
  ![v572.toNat]
def k0_off411 (v573 : BitVec 32) : Fin 2 → Nat :=
  let c0_i32_329 : BitVec 32 := 0#32
  ![v573.toNat, 0]

def k0_chk333 (i : grid0.Coords) (v0 : BitVec 32) (v573 : BitVec 32) : Prop :=
  (∀ (k0_h4 : k0_cond4 i v0 = 1#1), ∀ a, (k0_off411 v573) a + S1x2048.size a ≤ S8704x2048.size a)
theorem k0_off411_inb : ∀ (i : grid0.Coords) (v0 : BitVec 32) (v573 : BitVec 32) (k0_hw333 : k0_chk333 i v0 v573), ∀ (k0_h4 : k0_cond4 i v0 = 1#1), ∀ a, (k0_off411 v573) a + S1x2048.size a ≤ S8704x2048.size a := fun i v0 v573 k0_hw333 k0_h4 => k0_hw333 k0_h4

def k0_off412 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c76_i32 : BitVec 32 := 76#32
  let v578 : BitVec 32 := Scalar.addi v45 c76_i32
  let v579 : Index := Scalar.indexCast v578
  ![v579.toNat]
def k0_off413 (v580 : BitVec 32) : Fin 2 → Nat :=
  let c0_i32_333 : BitVec 32 := 0#32
  ![v580.toNat, 0]

def k0_chk334 (i : grid0.Coords) (v0 : BitVec 32) (v580 : BitVec 32) : Prop :=
  (∀ (k0_h4 : k0_cond4 i v0 = 1#1), ∀ a, (k0_off413 v580) a + S1x2048.size a ≤ S8704x2048.size a)
theorem k0_off413_inb : ∀ (i : grid0.Coords) (v0 : BitVec 32) (v580 : BitVec 32) (k0_hw334 : k0_chk334 i v0 v580), ∀ (k0_h4 : k0_cond4 i v0 = 1#1), ∀ a, (k0_off413 v580) a + S1x2048.size a ≤ S8704x2048.size a := fun i v0 v580 k0_hw334 k0_h4 => k0_hw334 k0_h4

def k0_off414 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c77_i32 : BitVec 32 := 77#32
  let v585 : BitVec 32 := Scalar.addi v45 c77_i32
  let v586 : Index := Scalar.indexCast v585
  ![v586.toNat]
def k0_off415 (v587 : BitVec 32) : Fin 2 → Nat :=
  let c0_i32_337 : BitVec 32 := 0#32
  ![v587.toNat, 0]

def k0_chk335 (i : grid0.Coords) (v0 : BitVec 32) (v587 : BitVec 32) : Prop :=
  (∀ (k0_h4 : k0_cond4 i v0 = 1#1), ∀ a, (k0_off415 v587) a + S1x2048.size a ≤ S8704x2048.size a)
theorem k0_off415_inb : ∀ (i : grid0.Coords) (v0 : BitVec 32) (v587 : BitVec 32) (k0_hw335 : k0_chk335 i v0 v587), ∀ (k0_h4 : k0_cond4 i v0 = 1#1), ∀ a, (k0_off415 v587) a + S1x2048.size a ≤ S8704x2048.size a := fun i v0 v587 k0_hw335 k0_h4 => k0_hw335 k0_h4

def k0_off416 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c78_i32 : BitVec 32 := 78#32
  let v592 : BitVec 32 := Scalar.addi v45 c78_i32
  let v593 : Index := Scalar.indexCast v592
  ![v593.toNat]
def k0_off417 (v594 : BitVec 32) : Fin 2 → Nat :=
  let c0_i32_341 : BitVec 32 := 0#32
  ![v594.toNat, 0]

def k0_chk336 (i : grid0.Coords) (v0 : BitVec 32) (v594 : BitVec 32) : Prop :=
  (∀ (k0_h4 : k0_cond4 i v0 = 1#1), ∀ a, (k0_off417 v594) a + S1x2048.size a ≤ S8704x2048.size a)
theorem k0_off417_inb : ∀ (i : grid0.Coords) (v0 : BitVec 32) (v594 : BitVec 32) (k0_hw336 : k0_chk336 i v0 v594), ∀ (k0_h4 : k0_cond4 i v0 = 1#1), ∀ a, (k0_off417 v594) a + S1x2048.size a ≤ S8704x2048.size a := fun i v0 v594 k0_hw336 k0_h4 => k0_hw336 k0_h4

def k0_off418 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c79_i32 : BitVec 32 := 79#32
  let v599 : BitVec 32 := Scalar.addi v45 c79_i32
  let v600 : Index := Scalar.indexCast v599
  ![v600.toNat]
def k0_off419 (v601 : BitVec 32) : Fin 2 → Nat :=
  let c0_i32_345 : BitVec 32 := 0#32
  ![v601.toNat, 0]

def k0_chk337 (i : grid0.Coords) (v0 : BitVec 32) (v601 : BitVec 32) : Prop :=
  (∀ (k0_h4 : k0_cond4 i v0 = 1#1), ∀ a, (k0_off419 v601) a + S1x2048.size a ≤ S8704x2048.size a)
theorem k0_off419_inb : ∀ (i : grid0.Coords) (v0 : BitVec 32) (v601 : BitVec 32) (k0_hw337 : k0_chk337 i v0 v601), ∀ (k0_h4 : k0_cond4 i v0 = 1#1), ∀ a, (k0_off419 v601) a + S1x2048.size a ≤ S8704x2048.size a := fun i v0 v601 k0_hw337 k0_h4 => k0_hw337 k0_h4

def k0_off420 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c80_i32 : BitVec 32 := 80#32
  let v606 : BitVec 32 := Scalar.addi v45 c80_i32
  let v607 : Index := Scalar.indexCast v606
  ![v607.toNat]
def k0_off421 (v608 : BitVec 32) : Fin 2 → Nat :=
  let c0_i32_349 : BitVec 32 := 0#32
  ![v608.toNat, 0]

def k0_chk338 (i : grid0.Coords) (v0 : BitVec 32) (v608 : BitVec 32) : Prop :=
  (∀ (k0_h4 : k0_cond4 i v0 = 1#1), ∀ a, (k0_off421 v608) a + S1x2048.size a ≤ S8704x2048.size a)
theorem k0_off421_inb : ∀ (i : grid0.Coords) (v0 : BitVec 32) (v608 : BitVec 32) (k0_hw338 : k0_chk338 i v0 v608), ∀ (k0_h4 : k0_cond4 i v0 = 1#1), ∀ a, (k0_off421 v608) a + S1x2048.size a ≤ S8704x2048.size a := fun i v0 v608 k0_hw338 k0_h4 => k0_hw338 k0_h4

def k0_off422 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c81_i32 : BitVec 32 := 81#32
  let v613 : BitVec 32 := Scalar.addi v45 c81_i32
  let v614 : Index := Scalar.indexCast v613
  ![v614.toNat]
def k0_off423 (v615 : BitVec 32) : Fin 2 → Nat :=
  let c0_i32_353 : BitVec 32 := 0#32
  ![v615.toNat, 0]

def k0_chk339 (i : grid0.Coords) (v0 : BitVec 32) (v615 : BitVec 32) : Prop :=
  (∀ (k0_h4 : k0_cond4 i v0 = 1#1), ∀ a, (k0_off423 v615) a + S1x2048.size a ≤ S8704x2048.size a)
theorem k0_off423_inb : ∀ (i : grid0.Coords) (v0 : BitVec 32) (v615 : BitVec 32) (k0_hw339 : k0_chk339 i v0 v615), ∀ (k0_h4 : k0_cond4 i v0 = 1#1), ∀ a, (k0_off423 v615) a + S1x2048.size a ≤ S8704x2048.size a := fun i v0 v615 k0_hw339 k0_h4 => k0_hw339 k0_h4

def k0_off424 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c82_i32 : BitVec 32 := 82#32
  let v620 : BitVec 32 := Scalar.addi v45 c82_i32
  let v621 : Index := Scalar.indexCast v620
  ![v621.toNat]
def k0_off425 (v622 : BitVec 32) : Fin 2 → Nat :=
  let c0_i32_357 : BitVec 32 := 0#32
  ![v622.toNat, 0]

def k0_chk340 (i : grid0.Coords) (v0 : BitVec 32) (v622 : BitVec 32) : Prop :=
  (∀ (k0_h4 : k0_cond4 i v0 = 1#1), ∀ a, (k0_off425 v622) a + S1x2048.size a ≤ S8704x2048.size a)
theorem k0_off425_inb : ∀ (i : grid0.Coords) (v0 : BitVec 32) (v622 : BitVec 32) (k0_hw340 : k0_chk340 i v0 v622), ∀ (k0_h4 : k0_cond4 i v0 = 1#1), ∀ a, (k0_off425 v622) a + S1x2048.size a ≤ S8704x2048.size a := fun i v0 v622 k0_hw340 k0_h4 => k0_hw340 k0_h4

def k0_off426 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c83_i32 : BitVec 32 := 83#32
  let v627 : BitVec 32 := Scalar.addi v45 c83_i32
  let v628 : Index := Scalar.indexCast v627
  ![v628.toNat]
def k0_off427 (v629 : BitVec 32) : Fin 2 → Nat :=
  let c0_i32_361 : BitVec 32 := 0#32
  ![v629.toNat, 0]

def k0_chk341 (i : grid0.Coords) (v0 : BitVec 32) (v629 : BitVec 32) : Prop :=
  (∀ (k0_h4 : k0_cond4 i v0 = 1#1), ∀ a, (k0_off427 v629) a + S1x2048.size a ≤ S8704x2048.size a)
theorem k0_off427_inb : ∀ (i : grid0.Coords) (v0 : BitVec 32) (v629 : BitVec 32) (k0_hw341 : k0_chk341 i v0 v629), ∀ (k0_h4 : k0_cond4 i v0 = 1#1), ∀ a, (k0_off427 v629) a + S1x2048.size a ≤ S8704x2048.size a := fun i v0 v629 k0_hw341 k0_h4 => k0_hw341 k0_h4

def k0_off428 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c84_i32 : BitVec 32 := 84#32
  let v634 : BitVec 32 := Scalar.addi v45 c84_i32
  let v635 : Index := Scalar.indexCast v634
  ![v635.toNat]
def k0_off429 (v636 : BitVec 32) : Fin 2 → Nat :=
  let c0_i32_365 : BitVec 32 := 0#32
  ![v636.toNat, 0]

def k0_chk342 (i : grid0.Coords) (v0 : BitVec 32) (v636 : BitVec 32) : Prop :=
  (∀ (k0_h4 : k0_cond4 i v0 = 1#1), ∀ a, (k0_off429 v636) a + S1x2048.size a ≤ S8704x2048.size a)
theorem k0_off429_inb : ∀ (i : grid0.Coords) (v0 : BitVec 32) (v636 : BitVec 32) (k0_hw342 : k0_chk342 i v0 v636), ∀ (k0_h4 : k0_cond4 i v0 = 1#1), ∀ a, (k0_off429 v636) a + S1x2048.size a ≤ S8704x2048.size a := fun i v0 v636 k0_hw342 k0_h4 => k0_hw342 k0_h4

def k0_off430 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c85_i32 : BitVec 32 := 85#32
  let v641 : BitVec 32 := Scalar.addi v45 c85_i32
  let v642 : Index := Scalar.indexCast v641
  ![v642.toNat]
def k0_off431 (v643 : BitVec 32) : Fin 2 → Nat :=
  let c0_i32_369 : BitVec 32 := 0#32
  ![v643.toNat, 0]

def k0_chk343 (i : grid0.Coords) (v0 : BitVec 32) (v643 : BitVec 32) : Prop :=
  (∀ (k0_h4 : k0_cond4 i v0 = 1#1), ∀ a, (k0_off431 v643) a + S1x2048.size a ≤ S8704x2048.size a)
theorem k0_off431_inb : ∀ (i : grid0.Coords) (v0 : BitVec 32) (v643 : BitVec 32) (k0_hw343 : k0_chk343 i v0 v643), ∀ (k0_h4 : k0_cond4 i v0 = 1#1), ∀ a, (k0_off431 v643) a + S1x2048.size a ≤ S8704x2048.size a := fun i v0 v643 k0_hw343 k0_h4 => k0_hw343 k0_h4

def k0_off432 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c86_i32 : BitVec 32 := 86#32
  let v648 : BitVec 32 := Scalar.addi v45 c86_i32
  let v649 : Index := Scalar.indexCast v648
  ![v649.toNat]
def k0_off433 (v650 : BitVec 32) : Fin 2 → Nat :=
  let c0_i32_373 : BitVec 32 := 0#32
  ![v650.toNat, 0]

def k0_chk344 (i : grid0.Coords) (v0 : BitVec 32) (v650 : BitVec 32) : Prop :=
  (∀ (k0_h4 : k0_cond4 i v0 = 1#1), ∀ a, (k0_off433 v650) a + S1x2048.size a ≤ S8704x2048.size a)
theorem k0_off433_inb : ∀ (i : grid0.Coords) (v0 : BitVec 32) (v650 : BitVec 32) (k0_hw344 : k0_chk344 i v0 v650), ∀ (k0_h4 : k0_cond4 i v0 = 1#1), ∀ a, (k0_off433 v650) a + S1x2048.size a ≤ S8704x2048.size a := fun i v0 v650 k0_hw344 k0_h4 => k0_hw344 k0_h4

def k0_off434 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c87_i32 : BitVec 32 := 87#32
  let v655 : BitVec 32 := Scalar.addi v45 c87_i32
  let v656 : Index := Scalar.indexCast v655
  ![v656.toNat]
def k0_off435 (v657 : BitVec 32) : Fin 2 → Nat :=
  let c0_i32_377 : BitVec 32 := 0#32
  ![v657.toNat, 0]

def k0_chk345 (i : grid0.Coords) (v0 : BitVec 32) (v657 : BitVec 32) : Prop :=
  (∀ (k0_h4 : k0_cond4 i v0 = 1#1), ∀ a, (k0_off435 v657) a + S1x2048.size a ≤ S8704x2048.size a)
theorem k0_off435_inb : ∀ (i : grid0.Coords) (v0 : BitVec 32) (v657 : BitVec 32) (k0_hw345 : k0_chk345 i v0 v657), ∀ (k0_h4 : k0_cond4 i v0 = 1#1), ∀ a, (k0_off435 v657) a + S1x2048.size a ≤ S8704x2048.size a := fun i v0 v657 k0_hw345 k0_h4 => k0_hw345 k0_h4

def k0_off436 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c88_i32 : BitVec 32 := 88#32
  let v662 : BitVec 32 := Scalar.addi v45 c88_i32
  let v663 : Index := Scalar.indexCast v662
  ![v663.toNat]
def k0_off437 (v664 : BitVec 32) : Fin 2 → Nat :=
  let c0_i32_381 : BitVec 32 := 0#32
  ![v664.toNat, 0]

def k0_chk346 (i : grid0.Coords) (v0 : BitVec 32) (v664 : BitVec 32) : Prop :=
  (∀ (k0_h4 : k0_cond4 i v0 = 1#1), ∀ a, (k0_off437 v664) a + S1x2048.size a ≤ S8704x2048.size a)
theorem k0_off437_inb : ∀ (i : grid0.Coords) (v0 : BitVec 32) (v664 : BitVec 32) (k0_hw346 : k0_chk346 i v0 v664), ∀ (k0_h4 : k0_cond4 i v0 = 1#1), ∀ a, (k0_off437 v664) a + S1x2048.size a ≤ S8704x2048.size a := fun i v0 v664 k0_hw346 k0_h4 => k0_hw346 k0_h4

def k0_off438 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c89_i32 : BitVec 32 := 89#32
  let v669 : BitVec 32 := Scalar.addi v45 c89_i32
  let v670 : Index := Scalar.indexCast v669
  ![v670.toNat]
def k0_off439 (v671 : BitVec 32) : Fin 2 → Nat :=
  let c0_i32_385 : BitVec 32 := 0#32
  ![v671.toNat, 0]

def k0_chk347 (i : grid0.Coords) (v0 : BitVec 32) (v671 : BitVec 32) : Prop :=
  (∀ (k0_h4 : k0_cond4 i v0 = 1#1), ∀ a, (k0_off439 v671) a + S1x2048.size a ≤ S8704x2048.size a)
theorem k0_off439_inb : ∀ (i : grid0.Coords) (v0 : BitVec 32) (v671 : BitVec 32) (k0_hw347 : k0_chk347 i v0 v671), ∀ (k0_h4 : k0_cond4 i v0 = 1#1), ∀ a, (k0_off439 v671) a + S1x2048.size a ≤ S8704x2048.size a := fun i v0 v671 k0_hw347 k0_h4 => k0_hw347 k0_h4

def k0_off440 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c90_i32 : BitVec 32 := 90#32
  let v676 : BitVec 32 := Scalar.addi v45 c90_i32
  let v677 : Index := Scalar.indexCast v676
  ![v677.toNat]
def k0_off441 (v678 : BitVec 32) : Fin 2 → Nat :=
  let c0_i32_389 : BitVec 32 := 0#32
  ![v678.toNat, 0]

def k0_chk348 (i : grid0.Coords) (v0 : BitVec 32) (v678 : BitVec 32) : Prop :=
  (∀ (k0_h4 : k0_cond4 i v0 = 1#1), ∀ a, (k0_off441 v678) a + S1x2048.size a ≤ S8704x2048.size a)
theorem k0_off441_inb : ∀ (i : grid0.Coords) (v0 : BitVec 32) (v678 : BitVec 32) (k0_hw348 : k0_chk348 i v0 v678), ∀ (k0_h4 : k0_cond4 i v0 = 1#1), ∀ a, (k0_off441 v678) a + S1x2048.size a ≤ S8704x2048.size a := fun i v0 v678 k0_hw348 k0_h4 => k0_hw348 k0_h4

def k0_off442 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c91_i32 : BitVec 32 := 91#32
  let v683 : BitVec 32 := Scalar.addi v45 c91_i32
  let v684 : Index := Scalar.indexCast v683
  ![v684.toNat]
def k0_off443 (v685 : BitVec 32) : Fin 2 → Nat :=
  let c0_i32_393 : BitVec 32 := 0#32
  ![v685.toNat, 0]

def k0_chk349 (i : grid0.Coords) (v0 : BitVec 32) (v685 : BitVec 32) : Prop :=
  (∀ (k0_h4 : k0_cond4 i v0 = 1#1), ∀ a, (k0_off443 v685) a + S1x2048.size a ≤ S8704x2048.size a)
theorem k0_off443_inb : ∀ (i : grid0.Coords) (v0 : BitVec 32) (v685 : BitVec 32) (k0_hw349 : k0_chk349 i v0 v685), ∀ (k0_h4 : k0_cond4 i v0 = 1#1), ∀ a, (k0_off443 v685) a + S1x2048.size a ≤ S8704x2048.size a := fun i v0 v685 k0_hw349 k0_h4 => k0_hw349 k0_h4

def k0_off444 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c92_i32 : BitVec 32 := 92#32
  let v690 : BitVec 32 := Scalar.addi v45 c92_i32
  let v691 : Index := Scalar.indexCast v690
  ![v691.toNat]
def k0_off445 (v692 : BitVec 32) : Fin 2 → Nat :=
  let c0_i32_397 : BitVec 32 := 0#32
  ![v692.toNat, 0]

def k0_chk350 (i : grid0.Coords) (v0 : BitVec 32) (v692 : BitVec 32) : Prop :=
  (∀ (k0_h4 : k0_cond4 i v0 = 1#1), ∀ a, (k0_off445 v692) a + S1x2048.size a ≤ S8704x2048.size a)
theorem k0_off445_inb : ∀ (i : grid0.Coords) (v0 : BitVec 32) (v692 : BitVec 32) (k0_hw350 : k0_chk350 i v0 v692), ∀ (k0_h4 : k0_cond4 i v0 = 1#1), ∀ a, (k0_off445 v692) a + S1x2048.size a ≤ S8704x2048.size a := fun i v0 v692 k0_hw350 k0_h4 => k0_hw350 k0_h4

def k0_off446 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c93_i32 : BitVec 32 := 93#32
  let v697 : BitVec 32 := Scalar.addi v45 c93_i32
  let v698 : Index := Scalar.indexCast v697
  ![v698.toNat]
def k0_off447 (v699 : BitVec 32) : Fin 2 → Nat :=
  let c0_i32_401 : BitVec 32 := 0#32
  ![v699.toNat, 0]

def k0_chk351 (i : grid0.Coords) (v0 : BitVec 32) (v699 : BitVec 32) : Prop :=
  (∀ (k0_h4 : k0_cond4 i v0 = 1#1), ∀ a, (k0_off447 v699) a + S1x2048.size a ≤ S8704x2048.size a)
theorem k0_off447_inb : ∀ (i : grid0.Coords) (v0 : BitVec 32) (v699 : BitVec 32) (k0_hw351 : k0_chk351 i v0 v699), ∀ (k0_h4 : k0_cond4 i v0 = 1#1), ∀ a, (k0_off447 v699) a + S1x2048.size a ≤ S8704x2048.size a := fun i v0 v699 k0_hw351 k0_h4 => k0_hw351 k0_h4

def k0_off448 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c94_i32 : BitVec 32 := 94#32
  let v704 : BitVec 32 := Scalar.addi v45 c94_i32
  let v705 : Index := Scalar.indexCast v704
  ![v705.toNat]
def k0_off449 (v706 : BitVec 32) : Fin 2 → Nat :=
  let c0_i32_405 : BitVec 32 := 0#32
  ![v706.toNat, 0]

def k0_chk352 (i : grid0.Coords) (v0 : BitVec 32) (v706 : BitVec 32) : Prop :=
  (∀ (k0_h4 : k0_cond4 i v0 = 1#1), ∀ a, (k0_off449 v706) a + S1x2048.size a ≤ S8704x2048.size a)
theorem k0_off449_inb : ∀ (i : grid0.Coords) (v0 : BitVec 32) (v706 : BitVec 32) (k0_hw352 : k0_chk352 i v0 v706), ∀ (k0_h4 : k0_cond4 i v0 = 1#1), ∀ a, (k0_off449 v706) a + S1x2048.size a ≤ S8704x2048.size a := fun i v0 v706 k0_hw352 k0_h4 => k0_hw352 k0_h4

def k0_off450 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c95_i32 : BitVec 32 := 95#32
  let v711 : BitVec 32 := Scalar.addi v45 c95_i32
  let v712 : Index := Scalar.indexCast v711
  ![v712.toNat]
def k0_off451 (v713 : BitVec 32) : Fin 2 → Nat :=
  let c0_i32_409 : BitVec 32 := 0#32
  ![v713.toNat, 0]

def k0_chk353 (i : grid0.Coords) (v0 : BitVec 32) (v713 : BitVec 32) : Prop :=
  (∀ (k0_h4 : k0_cond4 i v0 = 1#1), ∀ a, (k0_off451 v713) a + S1x2048.size a ≤ S8704x2048.size a)
theorem k0_off451_inb : ∀ (i : grid0.Coords) (v0 : BitVec 32) (v713 : BitVec 32) (k0_hw353 : k0_chk353 i v0 v713), ∀ (k0_h4 : k0_cond4 i v0 = 1#1), ∀ a, (k0_off451 v713) a + S1x2048.size a ≤ S8704x2048.size a := fun i v0 v713 k0_hw353 k0_h4 => k0_hw353 k0_h4

def k0_off452 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c96_i32 : BitVec 32 := 96#32
  let v718 : BitVec 32 := Scalar.addi v45 c96_i32
  let v719 : Index := Scalar.indexCast v718
  ![v719.toNat]
def k0_off453 (v720 : BitVec 32) : Fin 2 → Nat :=
  let c0_i32_413 : BitVec 32 := 0#32
  ![v720.toNat, 0]

def k0_chk354 (i : grid0.Coords) (v0 : BitVec 32) (v720 : BitVec 32) : Prop :=
  (∀ (k0_h4 : k0_cond4 i v0 = 1#1), ∀ a, (k0_off453 v720) a + S1x2048.size a ≤ S8704x2048.size a)
theorem k0_off453_inb : ∀ (i : grid0.Coords) (v0 : BitVec 32) (v720 : BitVec 32) (k0_hw354 : k0_chk354 i v0 v720), ∀ (k0_h4 : k0_cond4 i v0 = 1#1), ∀ a, (k0_off453 v720) a + S1x2048.size a ≤ S8704x2048.size a := fun i v0 v720 k0_hw354 k0_h4 => k0_hw354 k0_h4

def k0_off454 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c97_i32 : BitVec 32 := 97#32
  let v725 : BitVec 32 := Scalar.addi v45 c97_i32
  let v726 : Index := Scalar.indexCast v725
  ![v726.toNat]
def k0_off455 (v727 : BitVec 32) : Fin 2 → Nat :=
  let c0_i32_417 : BitVec 32 := 0#32
  ![v727.toNat, 0]

def k0_chk355 (i : grid0.Coords) (v0 : BitVec 32) (v727 : BitVec 32) : Prop :=
  (∀ (k0_h4 : k0_cond4 i v0 = 1#1), ∀ a, (k0_off455 v727) a + S1x2048.size a ≤ S8704x2048.size a)
theorem k0_off455_inb : ∀ (i : grid0.Coords) (v0 : BitVec 32) (v727 : BitVec 32) (k0_hw355 : k0_chk355 i v0 v727), ∀ (k0_h4 : k0_cond4 i v0 = 1#1), ∀ a, (k0_off455 v727) a + S1x2048.size a ≤ S8704x2048.size a := fun i v0 v727 k0_hw355 k0_h4 => k0_hw355 k0_h4

def k0_off456 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c98_i32 : BitVec 32 := 98#32
  let v732 : BitVec 32 := Scalar.addi v45 c98_i32
  let v733 : Index := Scalar.indexCast v732
  ![v733.toNat]
def k0_off457 (v734 : BitVec 32) : Fin 2 → Nat :=
  let c0_i32_421 : BitVec 32 := 0#32
  ![v734.toNat, 0]

def k0_chk356 (i : grid0.Coords) (v0 : BitVec 32) (v734 : BitVec 32) : Prop :=
  (∀ (k0_h4 : k0_cond4 i v0 = 1#1), ∀ a, (k0_off457 v734) a + S1x2048.size a ≤ S8704x2048.size a)
theorem k0_off457_inb : ∀ (i : grid0.Coords) (v0 : BitVec 32) (v734 : BitVec 32) (k0_hw356 : k0_chk356 i v0 v734), ∀ (k0_h4 : k0_cond4 i v0 = 1#1), ∀ a, (k0_off457 v734) a + S1x2048.size a ≤ S8704x2048.size a := fun i v0 v734 k0_hw356 k0_h4 => k0_hw356 k0_h4

def k0_off458 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c99_i32 : BitVec 32 := 99#32
  let v739 : BitVec 32 := Scalar.addi v45 c99_i32
  let v740 : Index := Scalar.indexCast v739
  ![v740.toNat]
def k0_off459 (v741 : BitVec 32) : Fin 2 → Nat :=
  let c0_i32_425 : BitVec 32 := 0#32
  ![v741.toNat, 0]

def k0_chk357 (i : grid0.Coords) (v0 : BitVec 32) (v741 : BitVec 32) : Prop :=
  (∀ (k0_h4 : k0_cond4 i v0 = 1#1), ∀ a, (k0_off459 v741) a + S1x2048.size a ≤ S8704x2048.size a)
theorem k0_off459_inb : ∀ (i : grid0.Coords) (v0 : BitVec 32) (v741 : BitVec 32) (k0_hw357 : k0_chk357 i v0 v741), ∀ (k0_h4 : k0_cond4 i v0 = 1#1), ∀ a, (k0_off459 v741) a + S1x2048.size a ≤ S8704x2048.size a := fun i v0 v741 k0_hw357 k0_h4 => k0_hw357 k0_h4

def k0_off460 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c100_i32 : BitVec 32 := 100#32
  let v746 : BitVec 32 := Scalar.addi v45 c100_i32
  let v747 : Index := Scalar.indexCast v746
  ![v747.toNat]
def k0_off461 (v748 : BitVec 32) : Fin 2 → Nat :=
  let c0_i32_429 : BitVec 32 := 0#32
  ![v748.toNat, 0]

def k0_chk358 (i : grid0.Coords) (v0 : BitVec 32) (v748 : BitVec 32) : Prop :=
  (∀ (k0_h4 : k0_cond4 i v0 = 1#1), ∀ a, (k0_off461 v748) a + S1x2048.size a ≤ S8704x2048.size a)
theorem k0_off461_inb : ∀ (i : grid0.Coords) (v0 : BitVec 32) (v748 : BitVec 32) (k0_hw358 : k0_chk358 i v0 v748), ∀ (k0_h4 : k0_cond4 i v0 = 1#1), ∀ a, (k0_off461 v748) a + S1x2048.size a ≤ S8704x2048.size a := fun i v0 v748 k0_hw358 k0_h4 => k0_hw358 k0_h4

def k0_off462 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c101_i32 : BitVec 32 := 101#32
  let v753 : BitVec 32 := Scalar.addi v45 c101_i32
  let v754 : Index := Scalar.indexCast v753
  ![v754.toNat]
def k0_off463 (v755 : BitVec 32) : Fin 2 → Nat :=
  let c0_i32_433 : BitVec 32 := 0#32
  ![v755.toNat, 0]

def k0_chk359 (i : grid0.Coords) (v0 : BitVec 32) (v755 : BitVec 32) : Prop :=
  (∀ (k0_h4 : k0_cond4 i v0 = 1#1), ∀ a, (k0_off463 v755) a + S1x2048.size a ≤ S8704x2048.size a)
theorem k0_off463_inb : ∀ (i : grid0.Coords) (v0 : BitVec 32) (v755 : BitVec 32) (k0_hw359 : k0_chk359 i v0 v755), ∀ (k0_h4 : k0_cond4 i v0 = 1#1), ∀ a, (k0_off463 v755) a + S1x2048.size a ≤ S8704x2048.size a := fun i v0 v755 k0_hw359 k0_h4 => k0_hw359 k0_h4

def k0_off464 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c102_i32 : BitVec 32 := 102#32
  let v760 : BitVec 32 := Scalar.addi v45 c102_i32
  let v761 : Index := Scalar.indexCast v760
  ![v761.toNat]
def k0_off465 (v762 : BitVec 32) : Fin 2 → Nat :=
  let c0_i32_437 : BitVec 32 := 0#32
  ![v762.toNat, 0]

def k0_chk360 (i : grid0.Coords) (v0 : BitVec 32) (v762 : BitVec 32) : Prop :=
  (∀ (k0_h4 : k0_cond4 i v0 = 1#1), ∀ a, (k0_off465 v762) a + S1x2048.size a ≤ S8704x2048.size a)
theorem k0_off465_inb : ∀ (i : grid0.Coords) (v0 : BitVec 32) (v762 : BitVec 32) (k0_hw360 : k0_chk360 i v0 v762), ∀ (k0_h4 : k0_cond4 i v0 = 1#1), ∀ a, (k0_off465 v762) a + S1x2048.size a ≤ S8704x2048.size a := fun i v0 v762 k0_hw360 k0_h4 => k0_hw360 k0_h4

def k0_off466 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c103_i32 : BitVec 32 := 103#32
  let v767 : BitVec 32 := Scalar.addi v45 c103_i32
  let v768 : Index := Scalar.indexCast v767
  ![v768.toNat]
def k0_off467 (v769 : BitVec 32) : Fin 2 → Nat :=
  let c0_i32_441 : BitVec 32 := 0#32
  ![v769.toNat, 0]

def k0_chk361 (i : grid0.Coords) (v0 : BitVec 32) (v769 : BitVec 32) : Prop :=
  (∀ (k0_h4 : k0_cond4 i v0 = 1#1), ∀ a, (k0_off467 v769) a + S1x2048.size a ≤ S8704x2048.size a)
theorem k0_off467_inb : ∀ (i : grid0.Coords) (v0 : BitVec 32) (v769 : BitVec 32) (k0_hw361 : k0_chk361 i v0 v769), ∀ (k0_h4 : k0_cond4 i v0 = 1#1), ∀ a, (k0_off467 v769) a + S1x2048.size a ≤ S8704x2048.size a := fun i v0 v769 k0_hw361 k0_h4 => k0_hw361 k0_h4

def k0_off468 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c104_i32 : BitVec 32 := 104#32
  let v774 : BitVec 32 := Scalar.addi v45 c104_i32
  let v775 : Index := Scalar.indexCast v774
  ![v775.toNat]
def k0_off469 (v776 : BitVec 32) : Fin 2 → Nat :=
  let c0_i32_445 : BitVec 32 := 0#32
  ![v776.toNat, 0]

def k0_chk362 (i : grid0.Coords) (v0 : BitVec 32) (v776 : BitVec 32) : Prop :=
  (∀ (k0_h4 : k0_cond4 i v0 = 1#1), ∀ a, (k0_off469 v776) a + S1x2048.size a ≤ S8704x2048.size a)
theorem k0_off469_inb : ∀ (i : grid0.Coords) (v0 : BitVec 32) (v776 : BitVec 32) (k0_hw362 : k0_chk362 i v0 v776), ∀ (k0_h4 : k0_cond4 i v0 = 1#1), ∀ a, (k0_off469 v776) a + S1x2048.size a ≤ S8704x2048.size a := fun i v0 v776 k0_hw362 k0_h4 => k0_hw362 k0_h4

def k0_off470 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c105_i32 : BitVec 32 := 105#32
  let v781 : BitVec 32 := Scalar.addi v45 c105_i32
  let v782 : Index := Scalar.indexCast v781
  ![v782.toNat]
def k0_off471 (v783 : BitVec 32) : Fin 2 → Nat :=
  let c0_i32_449 : BitVec 32 := 0#32
  ![v783.toNat, 0]

def k0_chk363 (i : grid0.Coords) (v0 : BitVec 32) (v783 : BitVec 32) : Prop :=
  (∀ (k0_h4 : k0_cond4 i v0 = 1#1), ∀ a, (k0_off471 v783) a + S1x2048.size a ≤ S8704x2048.size a)
theorem k0_off471_inb : ∀ (i : grid0.Coords) (v0 : BitVec 32) (v783 : BitVec 32) (k0_hw363 : k0_chk363 i v0 v783), ∀ (k0_h4 : k0_cond4 i v0 = 1#1), ∀ a, (k0_off471 v783) a + S1x2048.size a ≤ S8704x2048.size a := fun i v0 v783 k0_hw363 k0_h4 => k0_hw363 k0_h4

def k0_off472 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c106_i32 : BitVec 32 := 106#32
  let v788 : BitVec 32 := Scalar.addi v45 c106_i32
  let v789 : Index := Scalar.indexCast v788
  ![v789.toNat]
def k0_off473 (v790 : BitVec 32) : Fin 2 → Nat :=
  let c0_i32_453 : BitVec 32 := 0#32
  ![v790.toNat, 0]

def k0_chk364 (i : grid0.Coords) (v0 : BitVec 32) (v790 : BitVec 32) : Prop :=
  (∀ (k0_h4 : k0_cond4 i v0 = 1#1), ∀ a, (k0_off473 v790) a + S1x2048.size a ≤ S8704x2048.size a)
theorem k0_off473_inb : ∀ (i : grid0.Coords) (v0 : BitVec 32) (v790 : BitVec 32) (k0_hw364 : k0_chk364 i v0 v790), ∀ (k0_h4 : k0_cond4 i v0 = 1#1), ∀ a, (k0_off473 v790) a + S1x2048.size a ≤ S8704x2048.size a := fun i v0 v790 k0_hw364 k0_h4 => k0_hw364 k0_h4

def k0_off474 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c107_i32 : BitVec 32 := 107#32
  let v795 : BitVec 32 := Scalar.addi v45 c107_i32
  let v796 : Index := Scalar.indexCast v795
  ![v796.toNat]
def k0_off475 (v797 : BitVec 32) : Fin 2 → Nat :=
  let c0_i32_457 : BitVec 32 := 0#32
  ![v797.toNat, 0]

def k0_chk365 (i : grid0.Coords) (v0 : BitVec 32) (v797 : BitVec 32) : Prop :=
  (∀ (k0_h4 : k0_cond4 i v0 = 1#1), ∀ a, (k0_off475 v797) a + S1x2048.size a ≤ S8704x2048.size a)
theorem k0_off475_inb : ∀ (i : grid0.Coords) (v0 : BitVec 32) (v797 : BitVec 32) (k0_hw365 : k0_chk365 i v0 v797), ∀ (k0_h4 : k0_cond4 i v0 = 1#1), ∀ a, (k0_off475 v797) a + S1x2048.size a ≤ S8704x2048.size a := fun i v0 v797 k0_hw365 k0_h4 => k0_hw365 k0_h4

def k0_off476 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c108_i32 : BitVec 32 := 108#32
  let v802 : BitVec 32 := Scalar.addi v45 c108_i32
  let v803 : Index := Scalar.indexCast v802
  ![v803.toNat]
def k0_off477 (v804 : BitVec 32) : Fin 2 → Nat :=
  let c0_i32_461 : BitVec 32 := 0#32
  ![v804.toNat, 0]

def k0_chk366 (i : grid0.Coords) (v0 : BitVec 32) (v804 : BitVec 32) : Prop :=
  (∀ (k0_h4 : k0_cond4 i v0 = 1#1), ∀ a, (k0_off477 v804) a + S1x2048.size a ≤ S8704x2048.size a)
theorem k0_off477_inb : ∀ (i : grid0.Coords) (v0 : BitVec 32) (v804 : BitVec 32) (k0_hw366 : k0_chk366 i v0 v804), ∀ (k0_h4 : k0_cond4 i v0 = 1#1), ∀ a, (k0_off477 v804) a + S1x2048.size a ≤ S8704x2048.size a := fun i v0 v804 k0_hw366 k0_h4 => k0_hw366 k0_h4

def k0_off478 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c109_i32 : BitVec 32 := 109#32
  let v809 : BitVec 32 := Scalar.addi v45 c109_i32
  let v810 : Index := Scalar.indexCast v809
  ![v810.toNat]
def k0_off479 (v811 : BitVec 32) : Fin 2 → Nat :=
  let c0_i32_465 : BitVec 32 := 0#32
  ![v811.toNat, 0]

def k0_chk367 (i : grid0.Coords) (v0 : BitVec 32) (v811 : BitVec 32) : Prop :=
  (∀ (k0_h4 : k0_cond4 i v0 = 1#1), ∀ a, (k0_off479 v811) a + S1x2048.size a ≤ S8704x2048.size a)
theorem k0_off479_inb : ∀ (i : grid0.Coords) (v0 : BitVec 32) (v811 : BitVec 32) (k0_hw367 : k0_chk367 i v0 v811), ∀ (k0_h4 : k0_cond4 i v0 = 1#1), ∀ a, (k0_off479 v811) a + S1x2048.size a ≤ S8704x2048.size a := fun i v0 v811 k0_hw367 k0_h4 => k0_hw367 k0_h4

def k0_off480 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c110_i32 : BitVec 32 := 110#32
  let v816 : BitVec 32 := Scalar.addi v45 c110_i32
  let v817 : Index := Scalar.indexCast v816
  ![v817.toNat]
def k0_off481 (v818 : BitVec 32) : Fin 2 → Nat :=
  let c0_i32_469 : BitVec 32 := 0#32
  ![v818.toNat, 0]

def k0_chk368 (i : grid0.Coords) (v0 : BitVec 32) (v818 : BitVec 32) : Prop :=
  (∀ (k0_h4 : k0_cond4 i v0 = 1#1), ∀ a, (k0_off481 v818) a + S1x2048.size a ≤ S8704x2048.size a)
theorem k0_off481_inb : ∀ (i : grid0.Coords) (v0 : BitVec 32) (v818 : BitVec 32) (k0_hw368 : k0_chk368 i v0 v818), ∀ (k0_h4 : k0_cond4 i v0 = 1#1), ∀ a, (k0_off481 v818) a + S1x2048.size a ≤ S8704x2048.size a := fun i v0 v818 k0_hw368 k0_h4 => k0_hw368 k0_h4

def k0_off482 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c111_i32 : BitVec 32 := 111#32
  let v823 : BitVec 32 := Scalar.addi v45 c111_i32
  let v824 : Index := Scalar.indexCast v823
  ![v824.toNat]
def k0_off483 (v825 : BitVec 32) : Fin 2 → Nat :=
  let c0_i32_473 : BitVec 32 := 0#32
  ![v825.toNat, 0]

def k0_chk369 (i : grid0.Coords) (v0 : BitVec 32) (v825 : BitVec 32) : Prop :=
  (∀ (k0_h4 : k0_cond4 i v0 = 1#1), ∀ a, (k0_off483 v825) a + S1x2048.size a ≤ S8704x2048.size a)
theorem k0_off483_inb : ∀ (i : grid0.Coords) (v0 : BitVec 32) (v825 : BitVec 32) (k0_hw369 : k0_chk369 i v0 v825), ∀ (k0_h4 : k0_cond4 i v0 = 1#1), ∀ a, (k0_off483 v825) a + S1x2048.size a ≤ S8704x2048.size a := fun i v0 v825 k0_hw369 k0_h4 => k0_hw369 k0_h4

def k0_off484 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c112_i32 : BitVec 32 := 112#32
  let v830 : BitVec 32 := Scalar.addi v45 c112_i32
  let v831 : Index := Scalar.indexCast v830
  ![v831.toNat]
def k0_off485 (v832 : BitVec 32) : Fin 2 → Nat :=
  let c0_i32_477 : BitVec 32 := 0#32
  ![v832.toNat, 0]

def k0_chk370 (i : grid0.Coords) (v0 : BitVec 32) (v832 : BitVec 32) : Prop :=
  (∀ (k0_h4 : k0_cond4 i v0 = 1#1), ∀ a, (k0_off485 v832) a + S1x2048.size a ≤ S8704x2048.size a)
theorem k0_off485_inb : ∀ (i : grid0.Coords) (v0 : BitVec 32) (v832 : BitVec 32) (k0_hw370 : k0_chk370 i v0 v832), ∀ (k0_h4 : k0_cond4 i v0 = 1#1), ∀ a, (k0_off485 v832) a + S1x2048.size a ≤ S8704x2048.size a := fun i v0 v832 k0_hw370 k0_h4 => k0_hw370 k0_h4

def k0_off486 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c113_i32 : BitVec 32 := 113#32
  let v837 : BitVec 32 := Scalar.addi v45 c113_i32
  let v838 : Index := Scalar.indexCast v837
  ![v838.toNat]
def k0_off487 (v839 : BitVec 32) : Fin 2 → Nat :=
  let c0_i32_481 : BitVec 32 := 0#32
  ![v839.toNat, 0]

def k0_chk371 (i : grid0.Coords) (v0 : BitVec 32) (v839 : BitVec 32) : Prop :=
  (∀ (k0_h4 : k0_cond4 i v0 = 1#1), ∀ a, (k0_off487 v839) a + S1x2048.size a ≤ S8704x2048.size a)
theorem k0_off487_inb : ∀ (i : grid0.Coords) (v0 : BitVec 32) (v839 : BitVec 32) (k0_hw371 : k0_chk371 i v0 v839), ∀ (k0_h4 : k0_cond4 i v0 = 1#1), ∀ a, (k0_off487 v839) a + S1x2048.size a ≤ S8704x2048.size a := fun i v0 v839 k0_hw371 k0_h4 => k0_hw371 k0_h4

def k0_off488 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c114_i32 : BitVec 32 := 114#32
  let v844 : BitVec 32 := Scalar.addi v45 c114_i32
  let v845 : Index := Scalar.indexCast v844
  ![v845.toNat]
def k0_off489 (v846 : BitVec 32) : Fin 2 → Nat :=
  let c0_i32_485 : BitVec 32 := 0#32
  ![v846.toNat, 0]

def k0_chk372 (i : grid0.Coords) (v0 : BitVec 32) (v846 : BitVec 32) : Prop :=
  (∀ (k0_h4 : k0_cond4 i v0 = 1#1), ∀ a, (k0_off489 v846) a + S1x2048.size a ≤ S8704x2048.size a)
theorem k0_off489_inb : ∀ (i : grid0.Coords) (v0 : BitVec 32) (v846 : BitVec 32) (k0_hw372 : k0_chk372 i v0 v846), ∀ (k0_h4 : k0_cond4 i v0 = 1#1), ∀ a, (k0_off489 v846) a + S1x2048.size a ≤ S8704x2048.size a := fun i v0 v846 k0_hw372 k0_h4 => k0_hw372 k0_h4

def k0_off490 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c115_i32 : BitVec 32 := 115#32
  let v851 : BitVec 32 := Scalar.addi v45 c115_i32
  let v852 : Index := Scalar.indexCast v851
  ![v852.toNat]
def k0_off491 (v853 : BitVec 32) : Fin 2 → Nat :=
  let c0_i32_489 : BitVec 32 := 0#32
  ![v853.toNat, 0]

def k0_chk373 (i : grid0.Coords) (v0 : BitVec 32) (v853 : BitVec 32) : Prop :=
  (∀ (k0_h4 : k0_cond4 i v0 = 1#1), ∀ a, (k0_off491 v853) a + S1x2048.size a ≤ S8704x2048.size a)
theorem k0_off491_inb : ∀ (i : grid0.Coords) (v0 : BitVec 32) (v853 : BitVec 32) (k0_hw373 : k0_chk373 i v0 v853), ∀ (k0_h4 : k0_cond4 i v0 = 1#1), ∀ a, (k0_off491 v853) a + S1x2048.size a ≤ S8704x2048.size a := fun i v0 v853 k0_hw373 k0_h4 => k0_hw373 k0_h4

def k0_off492 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c116_i32 : BitVec 32 := 116#32
  let v858 : BitVec 32 := Scalar.addi v45 c116_i32
  let v859 : Index := Scalar.indexCast v858
  ![v859.toNat]
def k0_off493 (v860 : BitVec 32) : Fin 2 → Nat :=
  let c0_i32_493 : BitVec 32 := 0#32
  ![v860.toNat, 0]

def k0_chk374 (i : grid0.Coords) (v0 : BitVec 32) (v860 : BitVec 32) : Prop :=
  (∀ (k0_h4 : k0_cond4 i v0 = 1#1), ∀ a, (k0_off493 v860) a + S1x2048.size a ≤ S8704x2048.size a)
theorem k0_off493_inb : ∀ (i : grid0.Coords) (v0 : BitVec 32) (v860 : BitVec 32) (k0_hw374 : k0_chk374 i v0 v860), ∀ (k0_h4 : k0_cond4 i v0 = 1#1), ∀ a, (k0_off493 v860) a + S1x2048.size a ≤ S8704x2048.size a := fun i v0 v860 k0_hw374 k0_h4 => k0_hw374 k0_h4

def k0_off494 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c117_i32 : BitVec 32 := 117#32
  let v865 : BitVec 32 := Scalar.addi v45 c117_i32
  let v866 : Index := Scalar.indexCast v865
  ![v866.toNat]
def k0_off495 (v867 : BitVec 32) : Fin 2 → Nat :=
  let c0_i32_497 : BitVec 32 := 0#32
  ![v867.toNat, 0]

def k0_chk375 (i : grid0.Coords) (v0 : BitVec 32) (v867 : BitVec 32) : Prop :=
  (∀ (k0_h4 : k0_cond4 i v0 = 1#1), ∀ a, (k0_off495 v867) a + S1x2048.size a ≤ S8704x2048.size a)
theorem k0_off495_inb : ∀ (i : grid0.Coords) (v0 : BitVec 32) (v867 : BitVec 32) (k0_hw375 : k0_chk375 i v0 v867), ∀ (k0_h4 : k0_cond4 i v0 = 1#1), ∀ a, (k0_off495 v867) a + S1x2048.size a ≤ S8704x2048.size a := fun i v0 v867 k0_hw375 k0_h4 => k0_hw375 k0_h4

def k0_off496 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c118_i32 : BitVec 32 := 118#32
  let v872 : BitVec 32 := Scalar.addi v45 c118_i32
  let v873 : Index := Scalar.indexCast v872
  ![v873.toNat]
def k0_off497 (v874 : BitVec 32) : Fin 2 → Nat :=
  let c0_i32_501 : BitVec 32 := 0#32
  ![v874.toNat, 0]

def k0_chk376 (i : grid0.Coords) (v0 : BitVec 32) (v874 : BitVec 32) : Prop :=
  (∀ (k0_h4 : k0_cond4 i v0 = 1#1), ∀ a, (k0_off497 v874) a + S1x2048.size a ≤ S8704x2048.size a)
theorem k0_off497_inb : ∀ (i : grid0.Coords) (v0 : BitVec 32) (v874 : BitVec 32) (k0_hw376 : k0_chk376 i v0 v874), ∀ (k0_h4 : k0_cond4 i v0 = 1#1), ∀ a, (k0_off497 v874) a + S1x2048.size a ≤ S8704x2048.size a := fun i v0 v874 k0_hw376 k0_h4 => k0_hw376 k0_h4

def k0_off498 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c119_i32 : BitVec 32 := 119#32
  let v879 : BitVec 32 := Scalar.addi v45 c119_i32
  let v880 : Index := Scalar.indexCast v879
  ![v880.toNat]
def k0_off499 (v881 : BitVec 32) : Fin 2 → Nat :=
  let c0_i32_505 : BitVec 32 := 0#32
  ![v881.toNat, 0]

def k0_chk377 (i : grid0.Coords) (v0 : BitVec 32) (v881 : BitVec 32) : Prop :=
  (∀ (k0_h4 : k0_cond4 i v0 = 1#1), ∀ a, (k0_off499 v881) a + S1x2048.size a ≤ S8704x2048.size a)
theorem k0_off499_inb : ∀ (i : grid0.Coords) (v0 : BitVec 32) (v881 : BitVec 32) (k0_hw377 : k0_chk377 i v0 v881), ∀ (k0_h4 : k0_cond4 i v0 = 1#1), ∀ a, (k0_off499 v881) a + S1x2048.size a ≤ S8704x2048.size a := fun i v0 v881 k0_hw377 k0_h4 => k0_hw377 k0_h4

def k0_off500 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c120_i32 : BitVec 32 := 120#32
  let v886 : BitVec 32 := Scalar.addi v45 c120_i32
  let v887 : Index := Scalar.indexCast v886
  ![v887.toNat]
def k0_off501 (v888 : BitVec 32) : Fin 2 → Nat :=
  let c0_i32_509 : BitVec 32 := 0#32
  ![v888.toNat, 0]

def k0_chk378 (i : grid0.Coords) (v0 : BitVec 32) (v888 : BitVec 32) : Prop :=
  (∀ (k0_h4 : k0_cond4 i v0 = 1#1), ∀ a, (k0_off501 v888) a + S1x2048.size a ≤ S8704x2048.size a)
theorem k0_off501_inb : ∀ (i : grid0.Coords) (v0 : BitVec 32) (v888 : BitVec 32) (k0_hw378 : k0_chk378 i v0 v888), ∀ (k0_h4 : k0_cond4 i v0 = 1#1), ∀ a, (k0_off501 v888) a + S1x2048.size a ≤ S8704x2048.size a := fun i v0 v888 k0_hw378 k0_h4 => k0_hw378 k0_h4

def k0_off502 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c121_i32 : BitVec 32 := 121#32
  let v893 : BitVec 32 := Scalar.addi v45 c121_i32
  let v894 : Index := Scalar.indexCast v893
  ![v894.toNat]
def k0_off503 (v895 : BitVec 32) : Fin 2 → Nat :=
  let c0_i32_513 : BitVec 32 := 0#32
  ![v895.toNat, 0]

def k0_chk379 (i : grid0.Coords) (v0 : BitVec 32) (v895 : BitVec 32) : Prop :=
  (∀ (k0_h4 : k0_cond4 i v0 = 1#1), ∀ a, (k0_off503 v895) a + S1x2048.size a ≤ S8704x2048.size a)
theorem k0_off503_inb : ∀ (i : grid0.Coords) (v0 : BitVec 32) (v895 : BitVec 32) (k0_hw379 : k0_chk379 i v0 v895), ∀ (k0_h4 : k0_cond4 i v0 = 1#1), ∀ a, (k0_off503 v895) a + S1x2048.size a ≤ S8704x2048.size a := fun i v0 v895 k0_hw379 k0_h4 => k0_hw379 k0_h4

def k0_off504 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c122_i32 : BitVec 32 := 122#32
  let v900 : BitVec 32 := Scalar.addi v45 c122_i32
  let v901 : Index := Scalar.indexCast v900
  ![v901.toNat]
def k0_off505 (v902 : BitVec 32) : Fin 2 → Nat :=
  let c0_i32_517 : BitVec 32 := 0#32
  ![v902.toNat, 0]

def k0_chk380 (i : grid0.Coords) (v0 : BitVec 32) (v902 : BitVec 32) : Prop :=
  (∀ (k0_h4 : k0_cond4 i v0 = 1#1), ∀ a, (k0_off505 v902) a + S1x2048.size a ≤ S8704x2048.size a)
theorem k0_off505_inb : ∀ (i : grid0.Coords) (v0 : BitVec 32) (v902 : BitVec 32) (k0_hw380 : k0_chk380 i v0 v902), ∀ (k0_h4 : k0_cond4 i v0 = 1#1), ∀ a, (k0_off505 v902) a + S1x2048.size a ≤ S8704x2048.size a := fun i v0 v902 k0_hw380 k0_h4 => k0_hw380 k0_h4

def k0_off506 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c123_i32 : BitVec 32 := 123#32
  let v907 : BitVec 32 := Scalar.addi v45 c123_i32
  let v908 : Index := Scalar.indexCast v907
  ![v908.toNat]
def k0_off507 (v909 : BitVec 32) : Fin 2 → Nat :=
  let c0_i32_521 : BitVec 32 := 0#32
  ![v909.toNat, 0]

def k0_chk381 (i : grid0.Coords) (v0 : BitVec 32) (v909 : BitVec 32) : Prop :=
  (∀ (k0_h4 : k0_cond4 i v0 = 1#1), ∀ a, (k0_off507 v909) a + S1x2048.size a ≤ S8704x2048.size a)
theorem k0_off507_inb : ∀ (i : grid0.Coords) (v0 : BitVec 32) (v909 : BitVec 32) (k0_hw381 : k0_chk381 i v0 v909), ∀ (k0_h4 : k0_cond4 i v0 = 1#1), ∀ a, (k0_off507 v909) a + S1x2048.size a ≤ S8704x2048.size a := fun i v0 v909 k0_hw381 k0_h4 => k0_hw381 k0_h4

def k0_off508 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c124_i32 : BitVec 32 := 124#32
  let v914 : BitVec 32 := Scalar.addi v45 c124_i32
  let v915 : Index := Scalar.indexCast v914
  ![v915.toNat]
def k0_off509 (v916 : BitVec 32) : Fin 2 → Nat :=
  let c0_i32_525 : BitVec 32 := 0#32
  ![v916.toNat, 0]

def k0_chk382 (i : grid0.Coords) (v0 : BitVec 32) (v916 : BitVec 32) : Prop :=
  (∀ (k0_h4 : k0_cond4 i v0 = 1#1), ∀ a, (k0_off509 v916) a + S1x2048.size a ≤ S8704x2048.size a)
theorem k0_off509_inb : ∀ (i : grid0.Coords) (v0 : BitVec 32) (v916 : BitVec 32) (k0_hw382 : k0_chk382 i v0 v916), ∀ (k0_h4 : k0_cond4 i v0 = 1#1), ∀ a, (k0_off509 v916) a + S1x2048.size a ≤ S8704x2048.size a := fun i v0 v916 k0_hw382 k0_h4 => k0_hw382 k0_h4

def k0_off510 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c125_i32 : BitVec 32 := 125#32
  let v921 : BitVec 32 := Scalar.addi v45 c125_i32
  let v922 : Index := Scalar.indexCast v921
  ![v922.toNat]
def k0_off511 (v923 : BitVec 32) : Fin 2 → Nat :=
  let c0_i32_529 : BitVec 32 := 0#32
  ![v923.toNat, 0]

def k0_chk383 (i : grid0.Coords) (v0 : BitVec 32) (v923 : BitVec 32) : Prop :=
  (∀ (k0_h4 : k0_cond4 i v0 = 1#1), ∀ a, (k0_off511 v923) a + S1x2048.size a ≤ S8704x2048.size a)
theorem k0_off511_inb : ∀ (i : grid0.Coords) (v0 : BitVec 32) (v923 : BitVec 32) (k0_hw383 : k0_chk383 i v0 v923), ∀ (k0_h4 : k0_cond4 i v0 = 1#1), ∀ a, (k0_off511 v923) a + S1x2048.size a ≤ S8704x2048.size a := fun i v0 v923 k0_hw383 k0_h4 => k0_hw383 k0_h4

def k0_off512 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c126_i32 : BitVec 32 := 126#32
  let v928 : BitVec 32 := Scalar.addi v45 c126_i32
  let v929 : Index := Scalar.indexCast v928
  ![v929.toNat]
def k0_off513 (v930 : BitVec 32) : Fin 2 → Nat :=
  let c0_i32_533 : BitVec 32 := 0#32
  ![v930.toNat, 0]

def k0_chk384 (i : grid0.Coords) (v0 : BitVec 32) (v930 : BitVec 32) : Prop :=
  (∀ (k0_h4 : k0_cond4 i v0 = 1#1), ∀ a, (k0_off513 v930) a + S1x2048.size a ≤ S8704x2048.size a)
theorem k0_off513_inb : ∀ (i : grid0.Coords) (v0 : BitVec 32) (v930 : BitVec 32) (k0_hw384 : k0_chk384 i v0 v930), ∀ (k0_h4 : k0_cond4 i v0 = 1#1), ∀ a, (k0_off513 v930) a + S1x2048.size a ≤ S8704x2048.size a := fun i v0 v930 k0_hw384 k0_h4 => k0_hw384 k0_h4

def k0_off514 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c127_i32 : BitVec 32 := 127#32
  let v935 : BitVec 32 := Scalar.addi v45 c127_i32
  let v936 : Index := Scalar.indexCast v935
  ![v936.toNat]
def k0_off515 (v937 : BitVec 32) : Fin 2 → Nat :=
  let c0_i32_537 : BitVec 32 := 0#32
  ![v937.toNat, 0]

def k0_chk385 (i : grid0.Coords) (v0 : BitVec 32) (v937 : BitVec 32) : Prop :=
  (∀ (k0_h4 : k0_cond4 i v0 = 1#1), ∀ a, (k0_off515 v937) a + S1x2048.size a ≤ S8704x2048.size a)
theorem k0_off515_inb : ∀ (i : grid0.Coords) (v0 : BitVec 32) (v937 : BitVec 32) (k0_hw385 : k0_chk385 i v0 v937), ∀ (k0_h4 : k0_cond4 i v0 = 1#1), ∀ a, (k0_off515 v937) a + S1x2048.size a ≤ S8704x2048.size a := fun i v0 v937 k0_hw385 k0_h4 => k0_hw385 k0_h4

def k0_off516 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c128_i32 : BitVec 32 := 128#32
  let v942 : BitVec 32 := Scalar.addi v45 c128_i32
  let v943 : Index := Scalar.indexCast v942
  ![v943.toNat]
def k0_off517 (v944 : BitVec 32) : Fin 2 → Nat :=
  let c0_i32_541 : BitVec 32 := 0#32
  ![v944.toNat, 0]

def k0_chk386 (i : grid0.Coords) (v0 : BitVec 32) (v944 : BitVec 32) : Prop :=
  (∀ (k0_h4 : k0_cond4 i v0 = 1#1), ∀ a, (k0_off517 v944) a + S1x2048.size a ≤ S8704x2048.size a)
theorem k0_off517_inb : ∀ (i : grid0.Coords) (v0 : BitVec 32) (v944 : BitVec 32) (k0_hw386 : k0_chk386 i v0 v944), ∀ (k0_h4 : k0_cond4 i v0 = 1#1), ∀ a, (k0_off517 v944) a + S1x2048.size a ≤ S8704x2048.size a := fun i v0 v944 k0_hw386 k0_h4 => k0_hw386 k0_h4

def k0_off518 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c129_i32 : BitVec 32 := 129#32
  let v949 : BitVec 32 := Scalar.addi v45 c129_i32
  let v950 : Index := Scalar.indexCast v949
  ![v950.toNat]
def k0_off519 (v951 : BitVec 32) : Fin 2 → Nat :=
  let c0_i32_545 : BitVec 32 := 0#32
  ![v951.toNat, 0]

def k0_chk387 (i : grid0.Coords) (v0 : BitVec 32) (v951 : BitVec 32) : Prop :=
  (∀ (k0_h4 : k0_cond4 i v0 = 1#1), ∀ a, (k0_off519 v951) a + S1x2048.size a ≤ S8704x2048.size a)
theorem k0_off519_inb : ∀ (i : grid0.Coords) (v0 : BitVec 32) (v951 : BitVec 32) (k0_hw387 : k0_chk387 i v0 v951), ∀ (k0_h4 : k0_cond4 i v0 = 1#1), ∀ a, (k0_off519 v951) a + S1x2048.size a ≤ S8704x2048.size a := fun i v0 v951 k0_hw387 k0_h4 => k0_hw387 k0_h4

def k0_off520 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c130_i32 : BitVec 32 := 130#32
  let v956 : BitVec 32 := Scalar.addi v45 c130_i32
  let v957 : Index := Scalar.indexCast v956
  ![v957.toNat]
def k0_off521 (v958 : BitVec 32) : Fin 2 → Nat :=
  let c0_i32_549 : BitVec 32 := 0#32
  ![v958.toNat, 0]

def k0_chk388 (i : grid0.Coords) (v0 : BitVec 32) (v958 : BitVec 32) : Prop :=
  (∀ (k0_h4 : k0_cond4 i v0 = 1#1), ∀ a, (k0_off521 v958) a + S1x2048.size a ≤ S8704x2048.size a)
theorem k0_off521_inb : ∀ (i : grid0.Coords) (v0 : BitVec 32) (v958 : BitVec 32) (k0_hw388 : k0_chk388 i v0 v958), ∀ (k0_h4 : k0_cond4 i v0 = 1#1), ∀ a, (k0_off521 v958) a + S1x2048.size a ≤ S8704x2048.size a := fun i v0 v958 k0_hw388 k0_h4 => k0_hw388 k0_h4

def k0_off522 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c131_i32 : BitVec 32 := 131#32
  let v963 : BitVec 32 := Scalar.addi v45 c131_i32
  let v964 : Index := Scalar.indexCast v963
  ![v964.toNat]
def k0_off523 (v965 : BitVec 32) : Fin 2 → Nat :=
  let c0_i32_553 : BitVec 32 := 0#32
  ![v965.toNat, 0]

def k0_chk389 (i : grid0.Coords) (v0 : BitVec 32) (v965 : BitVec 32) : Prop :=
  (∀ (k0_h4 : k0_cond4 i v0 = 1#1), ∀ a, (k0_off523 v965) a + S1x2048.size a ≤ S8704x2048.size a)
theorem k0_off523_inb : ∀ (i : grid0.Coords) (v0 : BitVec 32) (v965 : BitVec 32) (k0_hw389 : k0_chk389 i v0 v965), ∀ (k0_h4 : k0_cond4 i v0 = 1#1), ∀ a, (k0_off523 v965) a + S1x2048.size a ≤ S8704x2048.size a := fun i v0 v965 k0_hw389 k0_h4 => k0_hw389 k0_h4

def k0_off524 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c132_i32 : BitVec 32 := 132#32
  let v970 : BitVec 32 := Scalar.addi v45 c132_i32
  let v971 : Index := Scalar.indexCast v970
  ![v971.toNat]
def k0_off525 (v972 : BitVec 32) : Fin 2 → Nat :=
  let c0_i32_557 : BitVec 32 := 0#32
  ![v972.toNat, 0]

def k0_chk390 (i : grid0.Coords) (v0 : BitVec 32) (v972 : BitVec 32) : Prop :=
  (∀ (k0_h4 : k0_cond4 i v0 = 1#1), ∀ a, (k0_off525 v972) a + S1x2048.size a ≤ S8704x2048.size a)
theorem k0_off525_inb : ∀ (i : grid0.Coords) (v0 : BitVec 32) (v972 : BitVec 32) (k0_hw390 : k0_chk390 i v0 v972), ∀ (k0_h4 : k0_cond4 i v0 = 1#1), ∀ a, (k0_off525 v972) a + S1x2048.size a ≤ S8704x2048.size a := fun i v0 v972 k0_hw390 k0_h4 => k0_hw390 k0_h4

def k0_off526 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c133_i32 : BitVec 32 := 133#32
  let v977 : BitVec 32 := Scalar.addi v45 c133_i32
  let v978 : Index := Scalar.indexCast v977
  ![v978.toNat]
def k0_off527 (v979 : BitVec 32) : Fin 2 → Nat :=
  let c0_i32_561 : BitVec 32 := 0#32
  ![v979.toNat, 0]

def k0_chk391 (i : grid0.Coords) (v0 : BitVec 32) (v979 : BitVec 32) : Prop :=
  (∀ (k0_h4 : k0_cond4 i v0 = 1#1), ∀ a, (k0_off527 v979) a + S1x2048.size a ≤ S8704x2048.size a)
theorem k0_off527_inb : ∀ (i : grid0.Coords) (v0 : BitVec 32) (v979 : BitVec 32) (k0_hw391 : k0_chk391 i v0 v979), ∀ (k0_h4 : k0_cond4 i v0 = 1#1), ∀ a, (k0_off527 v979) a + S1x2048.size a ≤ S8704x2048.size a := fun i v0 v979 k0_hw391 k0_h4 => k0_hw391 k0_h4

def k0_off528 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c134_i32 : BitVec 32 := 134#32
  let v984 : BitVec 32 := Scalar.addi v45 c134_i32
  let v985 : Index := Scalar.indexCast v984
  ![v985.toNat]
def k0_off529 (v986 : BitVec 32) : Fin 2 → Nat :=
  let c0_i32_565 : BitVec 32 := 0#32
  ![v986.toNat, 0]

def k0_chk392 (i : grid0.Coords) (v0 : BitVec 32) (v986 : BitVec 32) : Prop :=
  (∀ (k0_h4 : k0_cond4 i v0 = 1#1), ∀ a, (k0_off529 v986) a + S1x2048.size a ≤ S8704x2048.size a)
theorem k0_off529_inb : ∀ (i : grid0.Coords) (v0 : BitVec 32) (v986 : BitVec 32) (k0_hw392 : k0_chk392 i v0 v986), ∀ (k0_h4 : k0_cond4 i v0 = 1#1), ∀ a, (k0_off529 v986) a + S1x2048.size a ≤ S8704x2048.size a := fun i v0 v986 k0_hw392 k0_h4 => k0_hw392 k0_h4

def k0_off530 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c135_i32 : BitVec 32 := 135#32
  let v991 : BitVec 32 := Scalar.addi v45 c135_i32
  let v992 : Index := Scalar.indexCast v991
  ![v992.toNat]
def k0_off531 (v993 : BitVec 32) : Fin 2 → Nat :=
  let c0_i32_569 : BitVec 32 := 0#32
  ![v993.toNat, 0]

def k0_chk393 (i : grid0.Coords) (v0 : BitVec 32) (v993 : BitVec 32) : Prop :=
  (∀ (k0_h4 : k0_cond4 i v0 = 1#1), ∀ a, (k0_off531 v993) a + S1x2048.size a ≤ S8704x2048.size a)
theorem k0_off531_inb : ∀ (i : grid0.Coords) (v0 : BitVec 32) (v993 : BitVec 32) (k0_hw393 : k0_chk393 i v0 v993), ∀ (k0_h4 : k0_cond4 i v0 = 1#1), ∀ a, (k0_off531 v993) a + S1x2048.size a ≤ S8704x2048.size a := fun i v0 v993 k0_hw393 k0_h4 => k0_hw393 k0_h4

def k0_off532 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c136_i32 : BitVec 32 := 136#32
  let v998 : BitVec 32 := Scalar.addi v45 c136_i32
  let v999 : Index := Scalar.indexCast v998
  ![v999.toNat]
def k0_off533 (v1000 : BitVec 32) : Fin 2 → Nat :=
  let c0_i32_573 : BitVec 32 := 0#32
  ![v1000.toNat, 0]

def k0_chk394 (i : grid0.Coords) (v0 : BitVec 32) (v1000 : BitVec 32) : Prop :=
  (∀ (k0_h4 : k0_cond4 i v0 = 1#1), ∀ a, (k0_off533 v1000) a + S1x2048.size a ≤ S8704x2048.size a)
theorem k0_off533_inb : ∀ (i : grid0.Coords) (v0 : BitVec 32) (v1000 : BitVec 32) (k0_hw394 : k0_chk394 i v0 v1000), ∀ (k0_h4 : k0_cond4 i v0 = 1#1), ∀ a, (k0_off533 v1000) a + S1x2048.size a ≤ S8704x2048.size a := fun i v0 v1000 k0_hw394 k0_h4 => k0_hw394 k0_h4

def k0_off534 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c137_i32 : BitVec 32 := 137#32
  let v1005 : BitVec 32 := Scalar.addi v45 c137_i32
  let v1006 : Index := Scalar.indexCast v1005
  ![v1006.toNat]
def k0_off535 (v1007 : BitVec 32) : Fin 2 → Nat :=
  let c0_i32_577 : BitVec 32 := 0#32
  ![v1007.toNat, 0]

def k0_chk395 (i : grid0.Coords) (v0 : BitVec 32) (v1007 : BitVec 32) : Prop :=
  (∀ (k0_h4 : k0_cond4 i v0 = 1#1), ∀ a, (k0_off535 v1007) a + S1x2048.size a ≤ S8704x2048.size a)
theorem k0_off535_inb : ∀ (i : grid0.Coords) (v0 : BitVec 32) (v1007 : BitVec 32) (k0_hw395 : k0_chk395 i v0 v1007), ∀ (k0_h4 : k0_cond4 i v0 = 1#1), ∀ a, (k0_off535 v1007) a + S1x2048.size a ≤ S8704x2048.size a := fun i v0 v1007 k0_hw395 k0_h4 => k0_hw395 k0_h4

def k0_off536 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c138_i32 : BitVec 32 := 138#32
  let v1012 : BitVec 32 := Scalar.addi v45 c138_i32
  let v1013 : Index := Scalar.indexCast v1012
  ![v1013.toNat]
def k0_off537 (v1014 : BitVec 32) : Fin 2 → Nat :=
  let c0_i32_581 : BitVec 32 := 0#32
  ![v1014.toNat, 0]

def k0_chk396 (i : grid0.Coords) (v0 : BitVec 32) (v1014 : BitVec 32) : Prop :=
  (∀ (k0_h4 : k0_cond4 i v0 = 1#1), ∀ a, (k0_off537 v1014) a + S1x2048.size a ≤ S8704x2048.size a)
theorem k0_off537_inb : ∀ (i : grid0.Coords) (v0 : BitVec 32) (v1014 : BitVec 32) (k0_hw396 : k0_chk396 i v0 v1014), ∀ (k0_h4 : k0_cond4 i v0 = 1#1), ∀ a, (k0_off537 v1014) a + S1x2048.size a ≤ S8704x2048.size a := fun i v0 v1014 k0_hw396 k0_h4 => k0_hw396 k0_h4

def k0_off538 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c139_i32 : BitVec 32 := 139#32
  let v1019 : BitVec 32 := Scalar.addi v45 c139_i32
  let v1020 : Index := Scalar.indexCast v1019
  ![v1020.toNat]
def k0_off539 (v1021 : BitVec 32) : Fin 2 → Nat :=
  let c0_i32_585 : BitVec 32 := 0#32
  ![v1021.toNat, 0]

def k0_chk397 (i : grid0.Coords) (v0 : BitVec 32) (v1021 : BitVec 32) : Prop :=
  (∀ (k0_h4 : k0_cond4 i v0 = 1#1), ∀ a, (k0_off539 v1021) a + S1x2048.size a ≤ S8704x2048.size a)
theorem k0_off539_inb : ∀ (i : grid0.Coords) (v0 : BitVec 32) (v1021 : BitVec 32) (k0_hw397 : k0_chk397 i v0 v1021), ∀ (k0_h4 : k0_cond4 i v0 = 1#1), ∀ a, (k0_off539 v1021) a + S1x2048.size a ≤ S8704x2048.size a := fun i v0 v1021 k0_hw397 k0_h4 => k0_hw397 k0_h4

def k0_off540 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c140_i32 : BitVec 32 := 140#32
  let v1026 : BitVec 32 := Scalar.addi v45 c140_i32
  let v1027 : Index := Scalar.indexCast v1026
  ![v1027.toNat]
def k0_off541 (v1028 : BitVec 32) : Fin 2 → Nat :=
  let c0_i32_589 : BitVec 32 := 0#32
  ![v1028.toNat, 0]

def k0_chk398 (i : grid0.Coords) (v0 : BitVec 32) (v1028 : BitVec 32) : Prop :=
  (∀ (k0_h4 : k0_cond4 i v0 = 1#1), ∀ a, (k0_off541 v1028) a + S1x2048.size a ≤ S8704x2048.size a)
theorem k0_off541_inb : ∀ (i : grid0.Coords) (v0 : BitVec 32) (v1028 : BitVec 32) (k0_hw398 : k0_chk398 i v0 v1028), ∀ (k0_h4 : k0_cond4 i v0 = 1#1), ∀ a, (k0_off541 v1028) a + S1x2048.size a ≤ S8704x2048.size a := fun i v0 v1028 k0_hw398 k0_h4 => k0_hw398 k0_h4

def k0_off542 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c141_i32 : BitVec 32 := 141#32
  let v1033 : BitVec 32 := Scalar.addi v45 c141_i32
  let v1034 : Index := Scalar.indexCast v1033
  ![v1034.toNat]
def k0_off543 (v1035 : BitVec 32) : Fin 2 → Nat :=
  let c0_i32_593 : BitVec 32 := 0#32
  ![v1035.toNat, 0]

def k0_chk399 (i : grid0.Coords) (v0 : BitVec 32) (v1035 : BitVec 32) : Prop :=
  (∀ (k0_h4 : k0_cond4 i v0 = 1#1), ∀ a, (k0_off543 v1035) a + S1x2048.size a ≤ S8704x2048.size a)
theorem k0_off543_inb : ∀ (i : grid0.Coords) (v0 : BitVec 32) (v1035 : BitVec 32) (k0_hw399 : k0_chk399 i v0 v1035), ∀ (k0_h4 : k0_cond4 i v0 = 1#1), ∀ a, (k0_off543 v1035) a + S1x2048.size a ≤ S8704x2048.size a := fun i v0 v1035 k0_hw399 k0_h4 => k0_hw399 k0_h4

def k0_off544 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c142_i32 : BitVec 32 := 142#32
  let v1040 : BitVec 32 := Scalar.addi v45 c142_i32
  let v1041 : Index := Scalar.indexCast v1040
  ![v1041.toNat]
def k0_off545 (v1042 : BitVec 32) : Fin 2 → Nat :=
  let c0_i32_597 : BitVec 32 := 0#32
  ![v1042.toNat, 0]

def k0_chk400 (i : grid0.Coords) (v0 : BitVec 32) (v1042 : BitVec 32) : Prop :=
  (∀ (k0_h4 : k0_cond4 i v0 = 1#1), ∀ a, (k0_off545 v1042) a + S1x2048.size a ≤ S8704x2048.size a)
theorem k0_off545_inb : ∀ (i : grid0.Coords) (v0 : BitVec 32) (v1042 : BitVec 32) (k0_hw400 : k0_chk400 i v0 v1042), ∀ (k0_h4 : k0_cond4 i v0 = 1#1), ∀ a, (k0_off545 v1042) a + S1x2048.size a ≤ S8704x2048.size a := fun i v0 v1042 k0_hw400 k0_h4 => k0_hw400 k0_h4

def k0_off546 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c143_i32 : BitVec 32 := 143#32
  let v1047 : BitVec 32 := Scalar.addi v45 c143_i32
  let v1048 : Index := Scalar.indexCast v1047
  ![v1048.toNat]
def k0_off547 (v1049 : BitVec 32) : Fin 2 → Nat :=
  let c0_i32_601 : BitVec 32 := 0#32
  ![v1049.toNat, 0]

def k0_chk401 (i : grid0.Coords) (v0 : BitVec 32) (v1049 : BitVec 32) : Prop :=
  (∀ (k0_h4 : k0_cond4 i v0 = 1#1), ∀ a, (k0_off547 v1049) a + S1x2048.size a ≤ S8704x2048.size a)
theorem k0_off547_inb : ∀ (i : grid0.Coords) (v0 : BitVec 32) (v1049 : BitVec 32) (k0_hw401 : k0_chk401 i v0 v1049), ∀ (k0_h4 : k0_cond4 i v0 = 1#1), ∀ a, (k0_off547 v1049) a + S1x2048.size a ≤ S8704x2048.size a := fun i v0 v1049 k0_hw401 k0_h4 => k0_hw401 k0_h4

def k0_off548 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c144_i32 : BitVec 32 := 144#32
  let v1054 : BitVec 32 := Scalar.addi v45 c144_i32
  let v1055 : Index := Scalar.indexCast v1054
  ![v1055.toNat]
def k0_off549 (v1056 : BitVec 32) : Fin 2 → Nat :=
  let c0_i32_605 : BitVec 32 := 0#32
  ![v1056.toNat, 0]

def k0_chk402 (i : grid0.Coords) (v0 : BitVec 32) (v1056 : BitVec 32) : Prop :=
  (∀ (k0_h4 : k0_cond4 i v0 = 1#1), ∀ a, (k0_off549 v1056) a + S1x2048.size a ≤ S8704x2048.size a)
theorem k0_off549_inb : ∀ (i : grid0.Coords) (v0 : BitVec 32) (v1056 : BitVec 32) (k0_hw402 : k0_chk402 i v0 v1056), ∀ (k0_h4 : k0_cond4 i v0 = 1#1), ∀ a, (k0_off549 v1056) a + S1x2048.size a ≤ S8704x2048.size a := fun i v0 v1056 k0_hw402 k0_h4 => k0_hw402 k0_h4

def k0_off550 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c145_i32 : BitVec 32 := 145#32
  let v1061 : BitVec 32 := Scalar.addi v45 c145_i32
  let v1062 : Index := Scalar.indexCast v1061
  ![v1062.toNat]
def k0_off551 (v1063 : BitVec 32) : Fin 2 → Nat :=
  let c0_i32_609 : BitVec 32 := 0#32
  ![v1063.toNat, 0]

def k0_chk403 (i : grid0.Coords) (v0 : BitVec 32) (v1063 : BitVec 32) : Prop :=
  (∀ (k0_h4 : k0_cond4 i v0 = 1#1), ∀ a, (k0_off551 v1063) a + S1x2048.size a ≤ S8704x2048.size a)
theorem k0_off551_inb : ∀ (i : grid0.Coords) (v0 : BitVec 32) (v1063 : BitVec 32) (k0_hw403 : k0_chk403 i v0 v1063), ∀ (k0_h4 : k0_cond4 i v0 = 1#1), ∀ a, (k0_off551 v1063) a + S1x2048.size a ≤ S8704x2048.size a := fun i v0 v1063 k0_hw403 k0_h4 => k0_hw403 k0_h4

def k0_off552 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c146_i32 : BitVec 32 := 146#32
  let v1068 : BitVec 32 := Scalar.addi v45 c146_i32
  let v1069 : Index := Scalar.indexCast v1068
  ![v1069.toNat]
def k0_off553 (v1070 : BitVec 32) : Fin 2 → Nat :=
  let c0_i32_613 : BitVec 32 := 0#32
  ![v1070.toNat, 0]

def k0_chk404 (i : grid0.Coords) (v0 : BitVec 32) (v1070 : BitVec 32) : Prop :=
  (∀ (k0_h4 : k0_cond4 i v0 = 1#1), ∀ a, (k0_off553 v1070) a + S1x2048.size a ≤ S8704x2048.size a)
theorem k0_off553_inb : ∀ (i : grid0.Coords) (v0 : BitVec 32) (v1070 : BitVec 32) (k0_hw404 : k0_chk404 i v0 v1070), ∀ (k0_h4 : k0_cond4 i v0 = 1#1), ∀ a, (k0_off553 v1070) a + S1x2048.size a ≤ S8704x2048.size a := fun i v0 v1070 k0_hw404 k0_h4 => k0_hw404 k0_h4

def k0_off554 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c147_i32 : BitVec 32 := 147#32
  let v1075 : BitVec 32 := Scalar.addi v45 c147_i32
  let v1076 : Index := Scalar.indexCast v1075
  ![v1076.toNat]
def k0_off555 (v1077 : BitVec 32) : Fin 2 → Nat :=
  let c0_i32_617 : BitVec 32 := 0#32
  ![v1077.toNat, 0]

def k0_chk405 (i : grid0.Coords) (v0 : BitVec 32) (v1077 : BitVec 32) : Prop :=
  (∀ (k0_h4 : k0_cond4 i v0 = 1#1), ∀ a, (k0_off555 v1077) a + S1x2048.size a ≤ S8704x2048.size a)
theorem k0_off555_inb : ∀ (i : grid0.Coords) (v0 : BitVec 32) (v1077 : BitVec 32) (k0_hw405 : k0_chk405 i v0 v1077), ∀ (k0_h4 : k0_cond4 i v0 = 1#1), ∀ a, (k0_off555 v1077) a + S1x2048.size a ≤ S8704x2048.size a := fun i v0 v1077 k0_hw405 k0_h4 => k0_hw405 k0_h4

def k0_off556 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c148_i32 : BitVec 32 := 148#32
  let v1082 : BitVec 32 := Scalar.addi v45 c148_i32
  let v1083 : Index := Scalar.indexCast v1082
  ![v1083.toNat]
def k0_off557 (v1084 : BitVec 32) : Fin 2 → Nat :=
  let c0_i32_621 : BitVec 32 := 0#32
  ![v1084.toNat, 0]

def k0_chk406 (i : grid0.Coords) (v0 : BitVec 32) (v1084 : BitVec 32) : Prop :=
  (∀ (k0_h4 : k0_cond4 i v0 = 1#1), ∀ a, (k0_off557 v1084) a + S1x2048.size a ≤ S8704x2048.size a)
theorem k0_off557_inb : ∀ (i : grid0.Coords) (v0 : BitVec 32) (v1084 : BitVec 32) (k0_hw406 : k0_chk406 i v0 v1084), ∀ (k0_h4 : k0_cond4 i v0 = 1#1), ∀ a, (k0_off557 v1084) a + S1x2048.size a ≤ S8704x2048.size a := fun i v0 v1084 k0_hw406 k0_h4 => k0_hw406 k0_h4

def k0_off558 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c149_i32 : BitVec 32 := 149#32
  let v1089 : BitVec 32 := Scalar.addi v45 c149_i32
  let v1090 : Index := Scalar.indexCast v1089
  ![v1090.toNat]
def k0_off559 (v1091 : BitVec 32) : Fin 2 → Nat :=
  let c0_i32_625 : BitVec 32 := 0#32
  ![v1091.toNat, 0]

def k0_chk407 (i : grid0.Coords) (v0 : BitVec 32) (v1091 : BitVec 32) : Prop :=
  (∀ (k0_h4 : k0_cond4 i v0 = 1#1), ∀ a, (k0_off559 v1091) a + S1x2048.size a ≤ S8704x2048.size a)
theorem k0_off559_inb : ∀ (i : grid0.Coords) (v0 : BitVec 32) (v1091 : BitVec 32) (k0_hw407 : k0_chk407 i v0 v1091), ∀ (k0_h4 : k0_cond4 i v0 = 1#1), ∀ a, (k0_off559 v1091) a + S1x2048.size a ≤ S8704x2048.size a := fun i v0 v1091 k0_hw407 k0_h4 => k0_hw407 k0_h4

def k0_off560 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c150_i32 : BitVec 32 := 150#32
  let v1096 : BitVec 32 := Scalar.addi v45 c150_i32
  let v1097 : Index := Scalar.indexCast v1096
  ![v1097.toNat]
def k0_off561 (v1098 : BitVec 32) : Fin 2 → Nat :=
  let c0_i32_629 : BitVec 32 := 0#32
  ![v1098.toNat, 0]

def k0_chk408 (i : grid0.Coords) (v0 : BitVec 32) (v1098 : BitVec 32) : Prop :=
  (∀ (k0_h4 : k0_cond4 i v0 = 1#1), ∀ a, (k0_off561 v1098) a + S1x2048.size a ≤ S8704x2048.size a)
theorem k0_off561_inb : ∀ (i : grid0.Coords) (v0 : BitVec 32) (v1098 : BitVec 32) (k0_hw408 : k0_chk408 i v0 v1098), ∀ (k0_h4 : k0_cond4 i v0 = 1#1), ∀ a, (k0_off561 v1098) a + S1x2048.size a ≤ S8704x2048.size a := fun i v0 v1098 k0_hw408 k0_h4 => k0_hw408 k0_h4

def k0_off562 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c151_i32 : BitVec 32 := 151#32
  let v1103 : BitVec 32 := Scalar.addi v45 c151_i32
  let v1104 : Index := Scalar.indexCast v1103
  ![v1104.toNat]
def k0_off563 (v1105 : BitVec 32) : Fin 2 → Nat :=
  let c0_i32_633 : BitVec 32 := 0#32
  ![v1105.toNat, 0]

def k0_chk409 (i : grid0.Coords) (v0 : BitVec 32) (v1105 : BitVec 32) : Prop :=
  (∀ (k0_h4 : k0_cond4 i v0 = 1#1), ∀ a, (k0_off563 v1105) a + S1x2048.size a ≤ S8704x2048.size a)
theorem k0_off563_inb : ∀ (i : grid0.Coords) (v0 : BitVec 32) (v1105 : BitVec 32) (k0_hw409 : k0_chk409 i v0 v1105), ∀ (k0_h4 : k0_cond4 i v0 = 1#1), ∀ a, (k0_off563 v1105) a + S1x2048.size a ≤ S8704x2048.size a := fun i v0 v1105 k0_hw409 k0_h4 => k0_hw409 k0_h4

def k0_off564 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c152_i32 : BitVec 32 := 152#32
  let v1110 : BitVec 32 := Scalar.addi v45 c152_i32
  let v1111 : Index := Scalar.indexCast v1110
  ![v1111.toNat]
def k0_off565 (v1112 : BitVec 32) : Fin 2 → Nat :=
  let c0_i32_637 : BitVec 32 := 0#32
  ![v1112.toNat, 0]

def k0_chk410 (i : grid0.Coords) (v0 : BitVec 32) (v1112 : BitVec 32) : Prop :=
  (∀ (k0_h4 : k0_cond4 i v0 = 1#1), ∀ a, (k0_off565 v1112) a + S1x2048.size a ≤ S8704x2048.size a)
theorem k0_off565_inb : ∀ (i : grid0.Coords) (v0 : BitVec 32) (v1112 : BitVec 32) (k0_hw410 : k0_chk410 i v0 v1112), ∀ (k0_h4 : k0_cond4 i v0 = 1#1), ∀ a, (k0_off565 v1112) a + S1x2048.size a ≤ S8704x2048.size a := fun i v0 v1112 k0_hw410 k0_h4 => k0_hw410 k0_h4

def k0_off566 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c153_i32 : BitVec 32 := 153#32
  let v1117 : BitVec 32 := Scalar.addi v45 c153_i32
  let v1118 : Index := Scalar.indexCast v1117
  ![v1118.toNat]
def k0_off567 (v1119 : BitVec 32) : Fin 2 → Nat :=
  let c0_i32_641 : BitVec 32 := 0#32
  ![v1119.toNat, 0]

def k0_chk411 (i : grid0.Coords) (v0 : BitVec 32) (v1119 : BitVec 32) : Prop :=
  (∀ (k0_h4 : k0_cond4 i v0 = 1#1), ∀ a, (k0_off567 v1119) a + S1x2048.size a ≤ S8704x2048.size a)
theorem k0_off567_inb : ∀ (i : grid0.Coords) (v0 : BitVec 32) (v1119 : BitVec 32) (k0_hw411 : k0_chk411 i v0 v1119), ∀ (k0_h4 : k0_cond4 i v0 = 1#1), ∀ a, (k0_off567 v1119) a + S1x2048.size a ≤ S8704x2048.size a := fun i v0 v1119 k0_hw411 k0_h4 => k0_hw411 k0_h4

def k0_off568 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c154_i32 : BitVec 32 := 154#32
  let v1124 : BitVec 32 := Scalar.addi v45 c154_i32
  let v1125 : Index := Scalar.indexCast v1124
  ![v1125.toNat]
def k0_off569 (v1126 : BitVec 32) : Fin 2 → Nat :=
  let c0_i32_645 : BitVec 32 := 0#32
  ![v1126.toNat, 0]

def k0_chk412 (i : grid0.Coords) (v0 : BitVec 32) (v1126 : BitVec 32) : Prop :=
  (∀ (k0_h4 : k0_cond4 i v0 = 1#1), ∀ a, (k0_off569 v1126) a + S1x2048.size a ≤ S8704x2048.size a)
theorem k0_off569_inb : ∀ (i : grid0.Coords) (v0 : BitVec 32) (v1126 : BitVec 32) (k0_hw412 : k0_chk412 i v0 v1126), ∀ (k0_h4 : k0_cond4 i v0 = 1#1), ∀ a, (k0_off569 v1126) a + S1x2048.size a ≤ S8704x2048.size a := fun i v0 v1126 k0_hw412 k0_h4 => k0_hw412 k0_h4

def k0_off570 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c155_i32 : BitVec 32 := 155#32
  let v1131 : BitVec 32 := Scalar.addi v45 c155_i32
  let v1132 : Index := Scalar.indexCast v1131
  ![v1132.toNat]
def k0_off571 (v1133 : BitVec 32) : Fin 2 → Nat :=
  let c0_i32_649 : BitVec 32 := 0#32
  ![v1133.toNat, 0]

def k0_chk413 (i : grid0.Coords) (v0 : BitVec 32) (v1133 : BitVec 32) : Prop :=
  (∀ (k0_h4 : k0_cond4 i v0 = 1#1), ∀ a, (k0_off571 v1133) a + S1x2048.size a ≤ S8704x2048.size a)
theorem k0_off571_inb : ∀ (i : grid0.Coords) (v0 : BitVec 32) (v1133 : BitVec 32) (k0_hw413 : k0_chk413 i v0 v1133), ∀ (k0_h4 : k0_cond4 i v0 = 1#1), ∀ a, (k0_off571 v1133) a + S1x2048.size a ≤ S8704x2048.size a := fun i v0 v1133 k0_hw413 k0_h4 => k0_hw413 k0_h4

def k0_off572 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c156_i32 : BitVec 32 := 156#32
  let v1138 : BitVec 32 := Scalar.addi v45 c156_i32
  let v1139 : Index := Scalar.indexCast v1138
  ![v1139.toNat]
def k0_off573 (v1140 : BitVec 32) : Fin 2 → Nat :=
  let c0_i32_653 : BitVec 32 := 0#32
  ![v1140.toNat, 0]

def k0_chk414 (i : grid0.Coords) (v0 : BitVec 32) (v1140 : BitVec 32) : Prop :=
  (∀ (k0_h4 : k0_cond4 i v0 = 1#1), ∀ a, (k0_off573 v1140) a + S1x2048.size a ≤ S8704x2048.size a)
theorem k0_off573_inb : ∀ (i : grid0.Coords) (v0 : BitVec 32) (v1140 : BitVec 32) (k0_hw414 : k0_chk414 i v0 v1140), ∀ (k0_h4 : k0_cond4 i v0 = 1#1), ∀ a, (k0_off573 v1140) a + S1x2048.size a ≤ S8704x2048.size a := fun i v0 v1140 k0_hw414 k0_h4 => k0_hw414 k0_h4

def k0_off574 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c157_i32 : BitVec 32 := 157#32
  let v1145 : BitVec 32 := Scalar.addi v45 c157_i32
  let v1146 : Index := Scalar.indexCast v1145
  ![v1146.toNat]
def k0_off575 (v1147 : BitVec 32) : Fin 2 → Nat :=
  let c0_i32_657 : BitVec 32 := 0#32
  ![v1147.toNat, 0]

def k0_chk415 (i : grid0.Coords) (v0 : BitVec 32) (v1147 : BitVec 32) : Prop :=
  (∀ (k0_h4 : k0_cond4 i v0 = 1#1), ∀ a, (k0_off575 v1147) a + S1x2048.size a ≤ S8704x2048.size a)
theorem k0_off575_inb : ∀ (i : grid0.Coords) (v0 : BitVec 32) (v1147 : BitVec 32) (k0_hw415 : k0_chk415 i v0 v1147), ∀ (k0_h4 : k0_cond4 i v0 = 1#1), ∀ a, (k0_off575 v1147) a + S1x2048.size a ≤ S8704x2048.size a := fun i v0 v1147 k0_hw415 k0_h4 => k0_hw415 k0_h4

def k0_off576 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c158_i32 : BitVec 32 := 158#32
  let v1152 : BitVec 32 := Scalar.addi v45 c158_i32
  let v1153 : Index := Scalar.indexCast v1152
  ![v1153.toNat]
def k0_off577 (v1154 : BitVec 32) : Fin 2 → Nat :=
  let c0_i32_661 : BitVec 32 := 0#32
  ![v1154.toNat, 0]

def k0_chk416 (i : grid0.Coords) (v0 : BitVec 32) (v1154 : BitVec 32) : Prop :=
  (∀ (k0_h4 : k0_cond4 i v0 = 1#1), ∀ a, (k0_off577 v1154) a + S1x2048.size a ≤ S8704x2048.size a)
theorem k0_off577_inb : ∀ (i : grid0.Coords) (v0 : BitVec 32) (v1154 : BitVec 32) (k0_hw416 : k0_chk416 i v0 v1154), ∀ (k0_h4 : k0_cond4 i v0 = 1#1), ∀ a, (k0_off577 v1154) a + S1x2048.size a ≤ S8704x2048.size a := fun i v0 v1154 k0_hw416 k0_h4 => k0_hw416 k0_h4

def k0_off578 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c159_i32 : BitVec 32 := 159#32
  let v1159 : BitVec 32 := Scalar.addi v45 c159_i32
  let v1160 : Index := Scalar.indexCast v1159
  ![v1160.toNat]
def k0_off579 (v1161 : BitVec 32) : Fin 2 → Nat :=
  let c0_i32_665 : BitVec 32 := 0#32
  ![v1161.toNat, 0]

def k0_chk417 (i : grid0.Coords) (v0 : BitVec 32) (v1161 : BitVec 32) : Prop :=
  (∀ (k0_h4 : k0_cond4 i v0 = 1#1), ∀ a, (k0_off579 v1161) a + S1x2048.size a ≤ S8704x2048.size a)
theorem k0_off579_inb : ∀ (i : grid0.Coords) (v0 : BitVec 32) (v1161 : BitVec 32) (k0_hw417 : k0_chk417 i v0 v1161), ∀ (k0_h4 : k0_cond4 i v0 = 1#1), ∀ a, (k0_off579 v1161) a + S1x2048.size a ≤ S8704x2048.size a := fun i v0 v1161 k0_hw417 k0_h4 => k0_hw417 k0_h4

def k0_off580 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c160_i32 : BitVec 32 := 160#32
  let v1166 : BitVec 32 := Scalar.addi v45 c160_i32
  let v1167 : Index := Scalar.indexCast v1166
  ![v1167.toNat]
def k0_off581 (v1168 : BitVec 32) : Fin 2 → Nat :=
  let c0_i32_669 : BitVec 32 := 0#32
  ![v1168.toNat, 0]

def k0_chk418 (i : grid0.Coords) (v0 : BitVec 32) (v1168 : BitVec 32) : Prop :=
  (∀ (k0_h4 : k0_cond4 i v0 = 1#1), ∀ a, (k0_off581 v1168) a + S1x2048.size a ≤ S8704x2048.size a)
theorem k0_off581_inb : ∀ (i : grid0.Coords) (v0 : BitVec 32) (v1168 : BitVec 32) (k0_hw418 : k0_chk418 i v0 v1168), ∀ (k0_h4 : k0_cond4 i v0 = 1#1), ∀ a, (k0_off581 v1168) a + S1x2048.size a ≤ S8704x2048.size a := fun i v0 v1168 k0_hw418 k0_h4 => k0_hw418 k0_h4

def k0_off582 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c161_i32 : BitVec 32 := 161#32
  let v1173 : BitVec 32 := Scalar.addi v45 c161_i32
  let v1174 : Index := Scalar.indexCast v1173
  ![v1174.toNat]
def k0_off583 (v1175 : BitVec 32) : Fin 2 → Nat :=
  let c0_i32_673 : BitVec 32 := 0#32
  ![v1175.toNat, 0]

def k0_chk419 (i : grid0.Coords) (v0 : BitVec 32) (v1175 : BitVec 32) : Prop :=
  (∀ (k0_h4 : k0_cond4 i v0 = 1#1), ∀ a, (k0_off583 v1175) a + S1x2048.size a ≤ S8704x2048.size a)
theorem k0_off583_inb : ∀ (i : grid0.Coords) (v0 : BitVec 32) (v1175 : BitVec 32) (k0_hw419 : k0_chk419 i v0 v1175), ∀ (k0_h4 : k0_cond4 i v0 = 1#1), ∀ a, (k0_off583 v1175) a + S1x2048.size a ≤ S8704x2048.size a := fun i v0 v1175 k0_hw419 k0_h4 => k0_hw419 k0_h4

def k0_off584 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c162_i32 : BitVec 32 := 162#32
  let v1180 : BitVec 32 := Scalar.addi v45 c162_i32
  let v1181 : Index := Scalar.indexCast v1180
  ![v1181.toNat]
def k0_off585 (v1182 : BitVec 32) : Fin 2 → Nat :=
  let c0_i32_677 : BitVec 32 := 0#32
  ![v1182.toNat, 0]

def k0_chk420 (i : grid0.Coords) (v0 : BitVec 32) (v1182 : BitVec 32) : Prop :=
  (∀ (k0_h4 : k0_cond4 i v0 = 1#1), ∀ a, (k0_off585 v1182) a + S1x2048.size a ≤ S8704x2048.size a)
theorem k0_off585_inb : ∀ (i : grid0.Coords) (v0 : BitVec 32) (v1182 : BitVec 32) (k0_hw420 : k0_chk420 i v0 v1182), ∀ (k0_h4 : k0_cond4 i v0 = 1#1), ∀ a, (k0_off585 v1182) a + S1x2048.size a ≤ S8704x2048.size a := fun i v0 v1182 k0_hw420 k0_h4 => k0_hw420 k0_h4

def k0_off586 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c163_i32 : BitVec 32 := 163#32
  let v1187 : BitVec 32 := Scalar.addi v45 c163_i32
  let v1188 : Index := Scalar.indexCast v1187
  ![v1188.toNat]
def k0_off587 (v1189 : BitVec 32) : Fin 2 → Nat :=
  let c0_i32_681 : BitVec 32 := 0#32
  ![v1189.toNat, 0]

def k0_chk421 (i : grid0.Coords) (v0 : BitVec 32) (v1189 : BitVec 32) : Prop :=
  (∀ (k0_h4 : k0_cond4 i v0 = 1#1), ∀ a, (k0_off587 v1189) a + S1x2048.size a ≤ S8704x2048.size a)
theorem k0_off587_inb : ∀ (i : grid0.Coords) (v0 : BitVec 32) (v1189 : BitVec 32) (k0_hw421 : k0_chk421 i v0 v1189), ∀ (k0_h4 : k0_cond4 i v0 = 1#1), ∀ a, (k0_off587 v1189) a + S1x2048.size a ≤ S8704x2048.size a := fun i v0 v1189 k0_hw421 k0_h4 => k0_hw421 k0_h4

def k0_off588 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c164_i32 : BitVec 32 := 164#32
  let v1194 : BitVec 32 := Scalar.addi v45 c164_i32
  let v1195 : Index := Scalar.indexCast v1194
  ![v1195.toNat]
def k0_off589 (v1196 : BitVec 32) : Fin 2 → Nat :=
  let c0_i32_685 : BitVec 32 := 0#32
  ![v1196.toNat, 0]

def k0_chk422 (i : grid0.Coords) (v0 : BitVec 32) (v1196 : BitVec 32) : Prop :=
  (∀ (k0_h4 : k0_cond4 i v0 = 1#1), ∀ a, (k0_off589 v1196) a + S1x2048.size a ≤ S8704x2048.size a)
theorem k0_off589_inb : ∀ (i : grid0.Coords) (v0 : BitVec 32) (v1196 : BitVec 32) (k0_hw422 : k0_chk422 i v0 v1196), ∀ (k0_h4 : k0_cond4 i v0 = 1#1), ∀ a, (k0_off589 v1196) a + S1x2048.size a ≤ S8704x2048.size a := fun i v0 v1196 k0_hw422 k0_h4 => k0_hw422 k0_h4

def k0_off590 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c165_i32 : BitVec 32 := 165#32
  let v1201 : BitVec 32 := Scalar.addi v45 c165_i32
  let v1202 : Index := Scalar.indexCast v1201
  ![v1202.toNat]
def k0_off591 (v1203 : BitVec 32) : Fin 2 → Nat :=
  let c0_i32_689 : BitVec 32 := 0#32
  ![v1203.toNat, 0]

def k0_chk423 (i : grid0.Coords) (v0 : BitVec 32) (v1203 : BitVec 32) : Prop :=
  (∀ (k0_h4 : k0_cond4 i v0 = 1#1), ∀ a, (k0_off591 v1203) a + S1x2048.size a ≤ S8704x2048.size a)
theorem k0_off591_inb : ∀ (i : grid0.Coords) (v0 : BitVec 32) (v1203 : BitVec 32) (k0_hw423 : k0_chk423 i v0 v1203), ∀ (k0_h4 : k0_cond4 i v0 = 1#1), ∀ a, (k0_off591 v1203) a + S1x2048.size a ≤ S8704x2048.size a := fun i v0 v1203 k0_hw423 k0_h4 => k0_hw423 k0_h4

def k0_off592 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c166_i32 : BitVec 32 := 166#32
  let v1208 : BitVec 32 := Scalar.addi v45 c166_i32
  let v1209 : Index := Scalar.indexCast v1208
  ![v1209.toNat]
def k0_off593 (v1210 : BitVec 32) : Fin 2 → Nat :=
  let c0_i32_693 : BitVec 32 := 0#32
  ![v1210.toNat, 0]

def k0_chk424 (i : grid0.Coords) (v0 : BitVec 32) (v1210 : BitVec 32) : Prop :=
  (∀ (k0_h4 : k0_cond4 i v0 = 1#1), ∀ a, (k0_off593 v1210) a + S1x2048.size a ≤ S8704x2048.size a)
theorem k0_off593_inb : ∀ (i : grid0.Coords) (v0 : BitVec 32) (v1210 : BitVec 32) (k0_hw424 : k0_chk424 i v0 v1210), ∀ (k0_h4 : k0_cond4 i v0 = 1#1), ∀ a, (k0_off593 v1210) a + S1x2048.size a ≤ S8704x2048.size a := fun i v0 v1210 k0_hw424 k0_h4 => k0_hw424 k0_h4

def k0_off594 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c167_i32 : BitVec 32 := 167#32
  let v1215 : BitVec 32 := Scalar.addi v45 c167_i32
  let v1216 : Index := Scalar.indexCast v1215
  ![v1216.toNat]
def k0_off595 (v1217 : BitVec 32) : Fin 2 → Nat :=
  let c0_i32_697 : BitVec 32 := 0#32
  ![v1217.toNat, 0]

def k0_chk425 (i : grid0.Coords) (v0 : BitVec 32) (v1217 : BitVec 32) : Prop :=
  (∀ (k0_h4 : k0_cond4 i v0 = 1#1), ∀ a, (k0_off595 v1217) a + S1x2048.size a ≤ S8704x2048.size a)
theorem k0_off595_inb : ∀ (i : grid0.Coords) (v0 : BitVec 32) (v1217 : BitVec 32) (k0_hw425 : k0_chk425 i v0 v1217), ∀ (k0_h4 : k0_cond4 i v0 = 1#1), ∀ a, (k0_off595 v1217) a + S1x2048.size a ≤ S8704x2048.size a := fun i v0 v1217 k0_hw425 k0_h4 => k0_hw425 k0_h4

def k0_off596 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c168_i32 : BitVec 32 := 168#32
  let v1222 : BitVec 32 := Scalar.addi v45 c168_i32
  let v1223 : Index := Scalar.indexCast v1222
  ![v1223.toNat]
def k0_off597 (v1224 : BitVec 32) : Fin 2 → Nat :=
  let c0_i32_701 : BitVec 32 := 0#32
  ![v1224.toNat, 0]

def k0_chk426 (i : grid0.Coords) (v0 : BitVec 32) (v1224 : BitVec 32) : Prop :=
  (∀ (k0_h4 : k0_cond4 i v0 = 1#1), ∀ a, (k0_off597 v1224) a + S1x2048.size a ≤ S8704x2048.size a)
theorem k0_off597_inb : ∀ (i : grid0.Coords) (v0 : BitVec 32) (v1224 : BitVec 32) (k0_hw426 : k0_chk426 i v0 v1224), ∀ (k0_h4 : k0_cond4 i v0 = 1#1), ∀ a, (k0_off597 v1224) a + S1x2048.size a ≤ S8704x2048.size a := fun i v0 v1224 k0_hw426 k0_h4 => k0_hw426 k0_h4

def k0_off598 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c169_i32 : BitVec 32 := 169#32
  let v1229 : BitVec 32 := Scalar.addi v45 c169_i32
  let v1230 : Index := Scalar.indexCast v1229
  ![v1230.toNat]
def k0_off599 (v1231 : BitVec 32) : Fin 2 → Nat :=
  let c0_i32_705 : BitVec 32 := 0#32
  ![v1231.toNat, 0]

def k0_chk427 (i : grid0.Coords) (v0 : BitVec 32) (v1231 : BitVec 32) : Prop :=
  (∀ (k0_h4 : k0_cond4 i v0 = 1#1), ∀ a, (k0_off599 v1231) a + S1x2048.size a ≤ S8704x2048.size a)
theorem k0_off599_inb : ∀ (i : grid0.Coords) (v0 : BitVec 32) (v1231 : BitVec 32) (k0_hw427 : k0_chk427 i v0 v1231), ∀ (k0_h4 : k0_cond4 i v0 = 1#1), ∀ a, (k0_off599 v1231) a + S1x2048.size a ≤ S8704x2048.size a := fun i v0 v1231 k0_hw427 k0_h4 => k0_hw427 k0_h4

def k0_off600 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c170_i32 : BitVec 32 := 170#32
  let v1236 : BitVec 32 := Scalar.addi v45 c170_i32
  let v1237 : Index := Scalar.indexCast v1236
  ![v1237.toNat]
def k0_off601 (v1238 : BitVec 32) : Fin 2 → Nat :=
  let c0_i32_709 : BitVec 32 := 0#32
  ![v1238.toNat, 0]

def k0_chk428 (i : grid0.Coords) (v0 : BitVec 32) (v1238 : BitVec 32) : Prop :=
  (∀ (k0_h4 : k0_cond4 i v0 = 1#1), ∀ a, (k0_off601 v1238) a + S1x2048.size a ≤ S8704x2048.size a)
theorem k0_off601_inb : ∀ (i : grid0.Coords) (v0 : BitVec 32) (v1238 : BitVec 32) (k0_hw428 : k0_chk428 i v0 v1238), ∀ (k0_h4 : k0_cond4 i v0 = 1#1), ∀ a, (k0_off601 v1238) a + S1x2048.size a ≤ S8704x2048.size a := fun i v0 v1238 k0_hw428 k0_h4 => k0_hw428 k0_h4

def k0_off602 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c171_i32 : BitVec 32 := 171#32
  let v1243 : BitVec 32 := Scalar.addi v45 c171_i32
  let v1244 : Index := Scalar.indexCast v1243
  ![v1244.toNat]
def k0_off603 (v1245 : BitVec 32) : Fin 2 → Nat :=
  let c0_i32_713 : BitVec 32 := 0#32
  ![v1245.toNat, 0]

def k0_chk429 (i : grid0.Coords) (v0 : BitVec 32) (v1245 : BitVec 32) : Prop :=
  (∀ (k0_h4 : k0_cond4 i v0 = 1#1), ∀ a, (k0_off603 v1245) a + S1x2048.size a ≤ S8704x2048.size a)
theorem k0_off603_inb : ∀ (i : grid0.Coords) (v0 : BitVec 32) (v1245 : BitVec 32) (k0_hw429 : k0_chk429 i v0 v1245), ∀ (k0_h4 : k0_cond4 i v0 = 1#1), ∀ a, (k0_off603 v1245) a + S1x2048.size a ≤ S8704x2048.size a := fun i v0 v1245 k0_hw429 k0_h4 => k0_hw429 k0_h4

def k0_off604 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c172_i32 : BitVec 32 := 172#32
  let v1250 : BitVec 32 := Scalar.addi v45 c172_i32
  let v1251 : Index := Scalar.indexCast v1250
  ![v1251.toNat]
def k0_off605 (v1252 : BitVec 32) : Fin 2 → Nat :=
  let c0_i32_717 : BitVec 32 := 0#32
  ![v1252.toNat, 0]

def k0_chk430 (i : grid0.Coords) (v0 : BitVec 32) (v1252 : BitVec 32) : Prop :=
  (∀ (k0_h4 : k0_cond4 i v0 = 1#1), ∀ a, (k0_off605 v1252) a + S1x2048.size a ≤ S8704x2048.size a)
theorem k0_off605_inb : ∀ (i : grid0.Coords) (v0 : BitVec 32) (v1252 : BitVec 32) (k0_hw430 : k0_chk430 i v0 v1252), ∀ (k0_h4 : k0_cond4 i v0 = 1#1), ∀ a, (k0_off605 v1252) a + S1x2048.size a ≤ S8704x2048.size a := fun i v0 v1252 k0_hw430 k0_h4 => k0_hw430 k0_h4

def k0_off606 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c173_i32 : BitVec 32 := 173#32
  let v1257 : BitVec 32 := Scalar.addi v45 c173_i32
  let v1258 : Index := Scalar.indexCast v1257
  ![v1258.toNat]
def k0_off607 (v1259 : BitVec 32) : Fin 2 → Nat :=
  let c0_i32_721 : BitVec 32 := 0#32
  ![v1259.toNat, 0]

def k0_chk431 (i : grid0.Coords) (v0 : BitVec 32) (v1259 : BitVec 32) : Prop :=
  (∀ (k0_h4 : k0_cond4 i v0 = 1#1), ∀ a, (k0_off607 v1259) a + S1x2048.size a ≤ S8704x2048.size a)
theorem k0_off607_inb : ∀ (i : grid0.Coords) (v0 : BitVec 32) (v1259 : BitVec 32) (k0_hw431 : k0_chk431 i v0 v1259), ∀ (k0_h4 : k0_cond4 i v0 = 1#1), ∀ a, (k0_off607 v1259) a + S1x2048.size a ≤ S8704x2048.size a := fun i v0 v1259 k0_hw431 k0_h4 => k0_hw431 k0_h4

def k0_off608 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c174_i32 : BitVec 32 := 174#32
  let v1264 : BitVec 32 := Scalar.addi v45 c174_i32
  let v1265 : Index := Scalar.indexCast v1264
  ![v1265.toNat]
def k0_off609 (v1266 : BitVec 32) : Fin 2 → Nat :=
  let c0_i32_725 : BitVec 32 := 0#32
  ![v1266.toNat, 0]

def k0_chk432 (i : grid0.Coords) (v0 : BitVec 32) (v1266 : BitVec 32) : Prop :=
  (∀ (k0_h4 : k0_cond4 i v0 = 1#1), ∀ a, (k0_off609 v1266) a + S1x2048.size a ≤ S8704x2048.size a)
theorem k0_off609_inb : ∀ (i : grid0.Coords) (v0 : BitVec 32) (v1266 : BitVec 32) (k0_hw432 : k0_chk432 i v0 v1266), ∀ (k0_h4 : k0_cond4 i v0 = 1#1), ∀ a, (k0_off609 v1266) a + S1x2048.size a ≤ S8704x2048.size a := fun i v0 v1266 k0_hw432 k0_h4 => k0_hw432 k0_h4

def k0_off610 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c175_i32 : BitVec 32 := 175#32
  let v1271 : BitVec 32 := Scalar.addi v45 c175_i32
  let v1272 : Index := Scalar.indexCast v1271
  ![v1272.toNat]
def k0_off611 (v1273 : BitVec 32) : Fin 2 → Nat :=
  let c0_i32_729 : BitVec 32 := 0#32
  ![v1273.toNat, 0]

def k0_chk433 (i : grid0.Coords) (v0 : BitVec 32) (v1273 : BitVec 32) : Prop :=
  (∀ (k0_h4 : k0_cond4 i v0 = 1#1), ∀ a, (k0_off611 v1273) a + S1x2048.size a ≤ S8704x2048.size a)
theorem k0_off611_inb : ∀ (i : grid0.Coords) (v0 : BitVec 32) (v1273 : BitVec 32) (k0_hw433 : k0_chk433 i v0 v1273), ∀ (k0_h4 : k0_cond4 i v0 = 1#1), ∀ a, (k0_off611 v1273) a + S1x2048.size a ≤ S8704x2048.size a := fun i v0 v1273 k0_hw433 k0_h4 => k0_hw433 k0_h4

def k0_off612 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c176_i32 : BitVec 32 := 176#32
  let v1278 : BitVec 32 := Scalar.addi v45 c176_i32
  let v1279 : Index := Scalar.indexCast v1278
  ![v1279.toNat]
def k0_off613 (v1280 : BitVec 32) : Fin 2 → Nat :=
  let c0_i32_733 : BitVec 32 := 0#32
  ![v1280.toNat, 0]

def k0_chk434 (i : grid0.Coords) (v0 : BitVec 32) (v1280 : BitVec 32) : Prop :=
  (∀ (k0_h4 : k0_cond4 i v0 = 1#1), ∀ a, (k0_off613 v1280) a + S1x2048.size a ≤ S8704x2048.size a)
theorem k0_off613_inb : ∀ (i : grid0.Coords) (v0 : BitVec 32) (v1280 : BitVec 32) (k0_hw434 : k0_chk434 i v0 v1280), ∀ (k0_h4 : k0_cond4 i v0 = 1#1), ∀ a, (k0_off613 v1280) a + S1x2048.size a ≤ S8704x2048.size a := fun i v0 v1280 k0_hw434 k0_h4 => k0_hw434 k0_h4

def k0_off614 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c177_i32 : BitVec 32 := 177#32
  let v1285 : BitVec 32 := Scalar.addi v45 c177_i32
  let v1286 : Index := Scalar.indexCast v1285
  ![v1286.toNat]
def k0_off615 (v1287 : BitVec 32) : Fin 2 → Nat :=
  let c0_i32_737 : BitVec 32 := 0#32
  ![v1287.toNat, 0]

def k0_chk435 (i : grid0.Coords) (v0 : BitVec 32) (v1287 : BitVec 32) : Prop :=
  (∀ (k0_h4 : k0_cond4 i v0 = 1#1), ∀ a, (k0_off615 v1287) a + S1x2048.size a ≤ S8704x2048.size a)
theorem k0_off615_inb : ∀ (i : grid0.Coords) (v0 : BitVec 32) (v1287 : BitVec 32) (k0_hw435 : k0_chk435 i v0 v1287), ∀ (k0_h4 : k0_cond4 i v0 = 1#1), ∀ a, (k0_off615 v1287) a + S1x2048.size a ≤ S8704x2048.size a := fun i v0 v1287 k0_hw435 k0_h4 => k0_hw435 k0_h4

def k0_off616 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c178_i32 : BitVec 32 := 178#32
  let v1292 : BitVec 32 := Scalar.addi v45 c178_i32
  let v1293 : Index := Scalar.indexCast v1292
  ![v1293.toNat]
def k0_off617 (v1294 : BitVec 32) : Fin 2 → Nat :=
  let c0_i32_741 : BitVec 32 := 0#32
  ![v1294.toNat, 0]

def k0_chk436 (i : grid0.Coords) (v0 : BitVec 32) (v1294 : BitVec 32) : Prop :=
  (∀ (k0_h4 : k0_cond4 i v0 = 1#1), ∀ a, (k0_off617 v1294) a + S1x2048.size a ≤ S8704x2048.size a)
theorem k0_off617_inb : ∀ (i : grid0.Coords) (v0 : BitVec 32) (v1294 : BitVec 32) (k0_hw436 : k0_chk436 i v0 v1294), ∀ (k0_h4 : k0_cond4 i v0 = 1#1), ∀ a, (k0_off617 v1294) a + S1x2048.size a ≤ S8704x2048.size a := fun i v0 v1294 k0_hw436 k0_h4 => k0_hw436 k0_h4

def k0_off618 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c179_i32 : BitVec 32 := 179#32
  let v1299 : BitVec 32 := Scalar.addi v45 c179_i32
  let v1300 : Index := Scalar.indexCast v1299
  ![v1300.toNat]
def k0_off619 (v1301 : BitVec 32) : Fin 2 → Nat :=
  let c0_i32_745 : BitVec 32 := 0#32
  ![v1301.toNat, 0]

def k0_chk437 (i : grid0.Coords) (v0 : BitVec 32) (v1301 : BitVec 32) : Prop :=
  (∀ (k0_h4 : k0_cond4 i v0 = 1#1), ∀ a, (k0_off619 v1301) a + S1x2048.size a ≤ S8704x2048.size a)
theorem k0_off619_inb : ∀ (i : grid0.Coords) (v0 : BitVec 32) (v1301 : BitVec 32) (k0_hw437 : k0_chk437 i v0 v1301), ∀ (k0_h4 : k0_cond4 i v0 = 1#1), ∀ a, (k0_off619 v1301) a + S1x2048.size a ≤ S8704x2048.size a := fun i v0 v1301 k0_hw437 k0_h4 => k0_hw437 k0_h4

def k0_off620 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c180_i32 : BitVec 32 := 180#32
  let v1306 : BitVec 32 := Scalar.addi v45 c180_i32
  let v1307 : Index := Scalar.indexCast v1306
  ![v1307.toNat]
def k0_off621 (v1308 : BitVec 32) : Fin 2 → Nat :=
  let c0_i32_749 : BitVec 32 := 0#32
  ![v1308.toNat, 0]

def k0_chk438 (i : grid0.Coords) (v0 : BitVec 32) (v1308 : BitVec 32) : Prop :=
  (∀ (k0_h4 : k0_cond4 i v0 = 1#1), ∀ a, (k0_off621 v1308) a + S1x2048.size a ≤ S8704x2048.size a)
theorem k0_off621_inb : ∀ (i : grid0.Coords) (v0 : BitVec 32) (v1308 : BitVec 32) (k0_hw438 : k0_chk438 i v0 v1308), ∀ (k0_h4 : k0_cond4 i v0 = 1#1), ∀ a, (k0_off621 v1308) a + S1x2048.size a ≤ S8704x2048.size a := fun i v0 v1308 k0_hw438 k0_h4 => k0_hw438 k0_h4

def k0_off622 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c181_i32 : BitVec 32 := 181#32
  let v1313 : BitVec 32 := Scalar.addi v45 c181_i32
  let v1314 : Index := Scalar.indexCast v1313
  ![v1314.toNat]
def k0_off623 (v1315 : BitVec 32) : Fin 2 → Nat :=
  let c0_i32_753 : BitVec 32 := 0#32
  ![v1315.toNat, 0]

def k0_chk439 (i : grid0.Coords) (v0 : BitVec 32) (v1315 : BitVec 32) : Prop :=
  (∀ (k0_h4 : k0_cond4 i v0 = 1#1), ∀ a, (k0_off623 v1315) a + S1x2048.size a ≤ S8704x2048.size a)
theorem k0_off623_inb : ∀ (i : grid0.Coords) (v0 : BitVec 32) (v1315 : BitVec 32) (k0_hw439 : k0_chk439 i v0 v1315), ∀ (k0_h4 : k0_cond4 i v0 = 1#1), ∀ a, (k0_off623 v1315) a + S1x2048.size a ≤ S8704x2048.size a := fun i v0 v1315 k0_hw439 k0_h4 => k0_hw439 k0_h4

def k0_off624 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c182_i32 : BitVec 32 := 182#32
  let v1320 : BitVec 32 := Scalar.addi v45 c182_i32
  let v1321 : Index := Scalar.indexCast v1320
  ![v1321.toNat]
def k0_off625 (v1322 : BitVec 32) : Fin 2 → Nat :=
  let c0_i32_757 : BitVec 32 := 0#32
  ![v1322.toNat, 0]

def k0_chk440 (i : grid0.Coords) (v0 : BitVec 32) (v1322 : BitVec 32) : Prop :=
  (∀ (k0_h4 : k0_cond4 i v0 = 1#1), ∀ a, (k0_off625 v1322) a + S1x2048.size a ≤ S8704x2048.size a)
theorem k0_off625_inb : ∀ (i : grid0.Coords) (v0 : BitVec 32) (v1322 : BitVec 32) (k0_hw440 : k0_chk440 i v0 v1322), ∀ (k0_h4 : k0_cond4 i v0 = 1#1), ∀ a, (k0_off625 v1322) a + S1x2048.size a ≤ S8704x2048.size a := fun i v0 v1322 k0_hw440 k0_h4 => k0_hw440 k0_h4

def k0_off626 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c183_i32 : BitVec 32 := 183#32
  let v1327 : BitVec 32 := Scalar.addi v45 c183_i32
  let v1328 : Index := Scalar.indexCast v1327
  ![v1328.toNat]
def k0_off627 (v1329 : BitVec 32) : Fin 2 → Nat :=
  let c0_i32_761 : BitVec 32 := 0#32
  ![v1329.toNat, 0]

def k0_chk441 (i : grid0.Coords) (v0 : BitVec 32) (v1329 : BitVec 32) : Prop :=
  (∀ (k0_h4 : k0_cond4 i v0 = 1#1), ∀ a, (k0_off627 v1329) a + S1x2048.size a ≤ S8704x2048.size a)
theorem k0_off627_inb : ∀ (i : grid0.Coords) (v0 : BitVec 32) (v1329 : BitVec 32) (k0_hw441 : k0_chk441 i v0 v1329), ∀ (k0_h4 : k0_cond4 i v0 = 1#1), ∀ a, (k0_off627 v1329) a + S1x2048.size a ≤ S8704x2048.size a := fun i v0 v1329 k0_hw441 k0_h4 => k0_hw441 k0_h4

def k0_off628 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c184_i32 : BitVec 32 := 184#32
  let v1334 : BitVec 32 := Scalar.addi v45 c184_i32
  let v1335 : Index := Scalar.indexCast v1334
  ![v1335.toNat]
def k0_off629 (v1336 : BitVec 32) : Fin 2 → Nat :=
  let c0_i32_765 : BitVec 32 := 0#32
  ![v1336.toNat, 0]

def k0_chk442 (i : grid0.Coords) (v0 : BitVec 32) (v1336 : BitVec 32) : Prop :=
  (∀ (k0_h4 : k0_cond4 i v0 = 1#1), ∀ a, (k0_off629 v1336) a + S1x2048.size a ≤ S8704x2048.size a)
theorem k0_off629_inb : ∀ (i : grid0.Coords) (v0 : BitVec 32) (v1336 : BitVec 32) (k0_hw442 : k0_chk442 i v0 v1336), ∀ (k0_h4 : k0_cond4 i v0 = 1#1), ∀ a, (k0_off629 v1336) a + S1x2048.size a ≤ S8704x2048.size a := fun i v0 v1336 k0_hw442 k0_h4 => k0_hw442 k0_h4

def k0_off630 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c185_i32 : BitVec 32 := 185#32
  let v1341 : BitVec 32 := Scalar.addi v45 c185_i32
  let v1342 : Index := Scalar.indexCast v1341
  ![v1342.toNat]
def k0_off631 (v1343 : BitVec 32) : Fin 2 → Nat :=
  let c0_i32_769 : BitVec 32 := 0#32
  ![v1343.toNat, 0]

def k0_chk443 (i : grid0.Coords) (v0 : BitVec 32) (v1343 : BitVec 32) : Prop :=
  (∀ (k0_h4 : k0_cond4 i v0 = 1#1), ∀ a, (k0_off631 v1343) a + S1x2048.size a ≤ S8704x2048.size a)
theorem k0_off631_inb : ∀ (i : grid0.Coords) (v0 : BitVec 32) (v1343 : BitVec 32) (k0_hw443 : k0_chk443 i v0 v1343), ∀ (k0_h4 : k0_cond4 i v0 = 1#1), ∀ a, (k0_off631 v1343) a + S1x2048.size a ≤ S8704x2048.size a := fun i v0 v1343 k0_hw443 k0_h4 => k0_hw443 k0_h4

def k0_off632 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c186_i32 : BitVec 32 := 186#32
  let v1348 : BitVec 32 := Scalar.addi v45 c186_i32
  let v1349 : Index := Scalar.indexCast v1348
  ![v1349.toNat]
def k0_off633 (v1350 : BitVec 32) : Fin 2 → Nat :=
  let c0_i32_773 : BitVec 32 := 0#32
  ![v1350.toNat, 0]

def k0_chk444 (i : grid0.Coords) (v0 : BitVec 32) (v1350 : BitVec 32) : Prop :=
  (∀ (k0_h4 : k0_cond4 i v0 = 1#1), ∀ a, (k0_off633 v1350) a + S1x2048.size a ≤ S8704x2048.size a)
theorem k0_off633_inb : ∀ (i : grid0.Coords) (v0 : BitVec 32) (v1350 : BitVec 32) (k0_hw444 : k0_chk444 i v0 v1350), ∀ (k0_h4 : k0_cond4 i v0 = 1#1), ∀ a, (k0_off633 v1350) a + S1x2048.size a ≤ S8704x2048.size a := fun i v0 v1350 k0_hw444 k0_h4 => k0_hw444 k0_h4

def k0_off634 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c187_i32 : BitVec 32 := 187#32
  let v1355 : BitVec 32 := Scalar.addi v45 c187_i32
  let v1356 : Index := Scalar.indexCast v1355
  ![v1356.toNat]
def k0_off635 (v1357 : BitVec 32) : Fin 2 → Nat :=
  let c0_i32_777 : BitVec 32 := 0#32
  ![v1357.toNat, 0]

def k0_chk445 (i : grid0.Coords) (v0 : BitVec 32) (v1357 : BitVec 32) : Prop :=
  (∀ (k0_h4 : k0_cond4 i v0 = 1#1), ∀ a, (k0_off635 v1357) a + S1x2048.size a ≤ S8704x2048.size a)
theorem k0_off635_inb : ∀ (i : grid0.Coords) (v0 : BitVec 32) (v1357 : BitVec 32) (k0_hw445 : k0_chk445 i v0 v1357), ∀ (k0_h4 : k0_cond4 i v0 = 1#1), ∀ a, (k0_off635 v1357) a + S1x2048.size a ≤ S8704x2048.size a := fun i v0 v1357 k0_hw445 k0_h4 => k0_hw445 k0_h4

def k0_off636 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c188_i32 : BitVec 32 := 188#32
  let v1362 : BitVec 32 := Scalar.addi v45 c188_i32
  let v1363 : Index := Scalar.indexCast v1362
  ![v1363.toNat]
def k0_off637 (v1364 : BitVec 32) : Fin 2 → Nat :=
  let c0_i32_781 : BitVec 32 := 0#32
  ![v1364.toNat, 0]

def k0_chk446 (i : grid0.Coords) (v0 : BitVec 32) (v1364 : BitVec 32) : Prop :=
  (∀ (k0_h4 : k0_cond4 i v0 = 1#1), ∀ a, (k0_off637 v1364) a + S1x2048.size a ≤ S8704x2048.size a)
theorem k0_off637_inb : ∀ (i : grid0.Coords) (v0 : BitVec 32) (v1364 : BitVec 32) (k0_hw446 : k0_chk446 i v0 v1364), ∀ (k0_h4 : k0_cond4 i v0 = 1#1), ∀ a, (k0_off637 v1364) a + S1x2048.size a ≤ S8704x2048.size a := fun i v0 v1364 k0_hw446 k0_h4 => k0_hw446 k0_h4

def k0_off638 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c189_i32 : BitVec 32 := 189#32
  let v1369 : BitVec 32 := Scalar.addi v45 c189_i32
  let v1370 : Index := Scalar.indexCast v1369
  ![v1370.toNat]
def k0_off639 (v1371 : BitVec 32) : Fin 2 → Nat :=
  let c0_i32_785 : BitVec 32 := 0#32
  ![v1371.toNat, 0]

def k0_chk447 (i : grid0.Coords) (v0 : BitVec 32) (v1371 : BitVec 32) : Prop :=
  (∀ (k0_h4 : k0_cond4 i v0 = 1#1), ∀ a, (k0_off639 v1371) a + S1x2048.size a ≤ S8704x2048.size a)
theorem k0_off639_inb : ∀ (i : grid0.Coords) (v0 : BitVec 32) (v1371 : BitVec 32) (k0_hw447 : k0_chk447 i v0 v1371), ∀ (k0_h4 : k0_cond4 i v0 = 1#1), ∀ a, (k0_off639 v1371) a + S1x2048.size a ≤ S8704x2048.size a := fun i v0 v1371 k0_hw447 k0_h4 => k0_hw447 k0_h4

def k0_off640 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c190_i32 : BitVec 32 := 190#32
  let v1376 : BitVec 32 := Scalar.addi v45 c190_i32
  let v1377 : Index := Scalar.indexCast v1376
  ![v1377.toNat]
def k0_off641 (v1378 : BitVec 32) : Fin 2 → Nat :=
  let c0_i32_789 : BitVec 32 := 0#32
  ![v1378.toNat, 0]

def k0_chk448 (i : grid0.Coords) (v0 : BitVec 32) (v1378 : BitVec 32) : Prop :=
  (∀ (k0_h4 : k0_cond4 i v0 = 1#1), ∀ a, (k0_off641 v1378) a + S1x2048.size a ≤ S8704x2048.size a)
theorem k0_off641_inb : ∀ (i : grid0.Coords) (v0 : BitVec 32) (v1378 : BitVec 32) (k0_hw448 : k0_chk448 i v0 v1378), ∀ (k0_h4 : k0_cond4 i v0 = 1#1), ∀ a, (k0_off641 v1378) a + S1x2048.size a ≤ S8704x2048.size a := fun i v0 v1378 k0_hw448 k0_h4 => k0_hw448 k0_h4

def k0_off642 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c191_i32 : BitVec 32 := 191#32
  let v1383 : BitVec 32 := Scalar.addi v45 c191_i32
  let v1384 : Index := Scalar.indexCast v1383
  ![v1384.toNat]
def k0_off643 (v1385 : BitVec 32) : Fin 2 → Nat :=
  let c0_i32_793 : BitVec 32 := 0#32
  ![v1385.toNat, 0]

def k0_chk449 (i : grid0.Coords) (v0 : BitVec 32) (v1385 : BitVec 32) : Prop :=
  (∀ (k0_h4 : k0_cond4 i v0 = 1#1), ∀ a, (k0_off643 v1385) a + S1x2048.size a ≤ S8704x2048.size a)
theorem k0_off643_inb : ∀ (i : grid0.Coords) (v0 : BitVec 32) (v1385 : BitVec 32) (k0_hw449 : k0_chk449 i v0 v1385), ∀ (k0_h4 : k0_cond4 i v0 = 1#1), ∀ a, (k0_off643 v1385) a + S1x2048.size a ≤ S8704x2048.size a := fun i v0 v1385 k0_hw449 k0_h4 => k0_hw449 k0_h4

def k0_off644 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c192_i32 : BitVec 32 := 192#32
  let v1390 : BitVec 32 := Scalar.addi v45 c192_i32
  let v1391 : Index := Scalar.indexCast v1390
  ![v1391.toNat]
def k0_off645 (v1392 : BitVec 32) : Fin 2 → Nat :=
  let c0_i32_797 : BitVec 32 := 0#32
  ![v1392.toNat, 0]

def k0_chk450 (i : grid0.Coords) (v0 : BitVec 32) (v1392 : BitVec 32) : Prop :=
  (∀ (k0_h4 : k0_cond4 i v0 = 1#1), ∀ a, (k0_off645 v1392) a + S1x2048.size a ≤ S8704x2048.size a)
theorem k0_off645_inb : ∀ (i : grid0.Coords) (v0 : BitVec 32) (v1392 : BitVec 32) (k0_hw450 : k0_chk450 i v0 v1392), ∀ (k0_h4 : k0_cond4 i v0 = 1#1), ∀ a, (k0_off645 v1392) a + S1x2048.size a ≤ S8704x2048.size a := fun i v0 v1392 k0_hw450 k0_h4 => k0_hw450 k0_h4

def k0_off646 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c193_i32 : BitVec 32 := 193#32
  let v1397 : BitVec 32 := Scalar.addi v45 c193_i32
  let v1398 : Index := Scalar.indexCast v1397
  ![v1398.toNat]
def k0_off647 (v1399 : BitVec 32) : Fin 2 → Nat :=
  let c0_i32_801 : BitVec 32 := 0#32
  ![v1399.toNat, 0]

def k0_chk451 (i : grid0.Coords) (v0 : BitVec 32) (v1399 : BitVec 32) : Prop :=
  (∀ (k0_h4 : k0_cond4 i v0 = 1#1), ∀ a, (k0_off647 v1399) a + S1x2048.size a ≤ S8704x2048.size a)
theorem k0_off647_inb : ∀ (i : grid0.Coords) (v0 : BitVec 32) (v1399 : BitVec 32) (k0_hw451 : k0_chk451 i v0 v1399), ∀ (k0_h4 : k0_cond4 i v0 = 1#1), ∀ a, (k0_off647 v1399) a + S1x2048.size a ≤ S8704x2048.size a := fun i v0 v1399 k0_hw451 k0_h4 => k0_hw451 k0_h4

def k0_off648 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c194_i32 : BitVec 32 := 194#32
  let v1404 : BitVec 32 := Scalar.addi v45 c194_i32
  let v1405 : Index := Scalar.indexCast v1404
  ![v1405.toNat]
def k0_off649 (v1406 : BitVec 32) : Fin 2 → Nat :=
  let c0_i32_805 : BitVec 32 := 0#32
  ![v1406.toNat, 0]

def k0_chk452 (i : grid0.Coords) (v0 : BitVec 32) (v1406 : BitVec 32) : Prop :=
  (∀ (k0_h4 : k0_cond4 i v0 = 1#1), ∀ a, (k0_off649 v1406) a + S1x2048.size a ≤ S8704x2048.size a)
theorem k0_off649_inb : ∀ (i : grid0.Coords) (v0 : BitVec 32) (v1406 : BitVec 32) (k0_hw452 : k0_chk452 i v0 v1406), ∀ (k0_h4 : k0_cond4 i v0 = 1#1), ∀ a, (k0_off649 v1406) a + S1x2048.size a ≤ S8704x2048.size a := fun i v0 v1406 k0_hw452 k0_h4 => k0_hw452 k0_h4

def k0_off650 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c195_i32 : BitVec 32 := 195#32
  let v1411 : BitVec 32 := Scalar.addi v45 c195_i32
  let v1412 : Index := Scalar.indexCast v1411
  ![v1412.toNat]
def k0_off651 (v1413 : BitVec 32) : Fin 2 → Nat :=
  let c0_i32_809 : BitVec 32 := 0#32
  ![v1413.toNat, 0]

def k0_chk453 (i : grid0.Coords) (v0 : BitVec 32) (v1413 : BitVec 32) : Prop :=
  (∀ (k0_h4 : k0_cond4 i v0 = 1#1), ∀ a, (k0_off651 v1413) a + S1x2048.size a ≤ S8704x2048.size a)
theorem k0_off651_inb : ∀ (i : grid0.Coords) (v0 : BitVec 32) (v1413 : BitVec 32) (k0_hw453 : k0_chk453 i v0 v1413), ∀ (k0_h4 : k0_cond4 i v0 = 1#1), ∀ a, (k0_off651 v1413) a + S1x2048.size a ≤ S8704x2048.size a := fun i v0 v1413 k0_hw453 k0_h4 => k0_hw453 k0_h4

def k0_off652 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c196_i32 : BitVec 32 := 196#32
  let v1418 : BitVec 32 := Scalar.addi v45 c196_i32
  let v1419 : Index := Scalar.indexCast v1418
  ![v1419.toNat]
def k0_off653 (v1420 : BitVec 32) : Fin 2 → Nat :=
  let c0_i32_813 : BitVec 32 := 0#32
  ![v1420.toNat, 0]

def k0_chk454 (i : grid0.Coords) (v0 : BitVec 32) (v1420 : BitVec 32) : Prop :=
  (∀ (k0_h4 : k0_cond4 i v0 = 1#1), ∀ a, (k0_off653 v1420) a + S1x2048.size a ≤ S8704x2048.size a)
theorem k0_off653_inb : ∀ (i : grid0.Coords) (v0 : BitVec 32) (v1420 : BitVec 32) (k0_hw454 : k0_chk454 i v0 v1420), ∀ (k0_h4 : k0_cond4 i v0 = 1#1), ∀ a, (k0_off653 v1420) a + S1x2048.size a ≤ S8704x2048.size a := fun i v0 v1420 k0_hw454 k0_h4 => k0_hw454 k0_h4

def k0_off654 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c197_i32 : BitVec 32 := 197#32
  let v1425 : BitVec 32 := Scalar.addi v45 c197_i32
  let v1426 : Index := Scalar.indexCast v1425
  ![v1426.toNat]
def k0_off655 (v1427 : BitVec 32) : Fin 2 → Nat :=
  let c0_i32_817 : BitVec 32 := 0#32
  ![v1427.toNat, 0]

def k0_chk455 (i : grid0.Coords) (v0 : BitVec 32) (v1427 : BitVec 32) : Prop :=
  (∀ (k0_h4 : k0_cond4 i v0 = 1#1), ∀ a, (k0_off655 v1427) a + S1x2048.size a ≤ S8704x2048.size a)
theorem k0_off655_inb : ∀ (i : grid0.Coords) (v0 : BitVec 32) (v1427 : BitVec 32) (k0_hw455 : k0_chk455 i v0 v1427), ∀ (k0_h4 : k0_cond4 i v0 = 1#1), ∀ a, (k0_off655 v1427) a + S1x2048.size a ≤ S8704x2048.size a := fun i v0 v1427 k0_hw455 k0_h4 => k0_hw455 k0_h4

def k0_off656 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c198_i32 : BitVec 32 := 198#32
  let v1432 : BitVec 32 := Scalar.addi v45 c198_i32
  let v1433 : Index := Scalar.indexCast v1432
  ![v1433.toNat]
def k0_off657 (v1434 : BitVec 32) : Fin 2 → Nat :=
  let c0_i32_821 : BitVec 32 := 0#32
  ![v1434.toNat, 0]

def k0_chk456 (i : grid0.Coords) (v0 : BitVec 32) (v1434 : BitVec 32) : Prop :=
  (∀ (k0_h4 : k0_cond4 i v0 = 1#1), ∀ a, (k0_off657 v1434) a + S1x2048.size a ≤ S8704x2048.size a)
theorem k0_off657_inb : ∀ (i : grid0.Coords) (v0 : BitVec 32) (v1434 : BitVec 32) (k0_hw456 : k0_chk456 i v0 v1434), ∀ (k0_h4 : k0_cond4 i v0 = 1#1), ∀ a, (k0_off657 v1434) a + S1x2048.size a ≤ S8704x2048.size a := fun i v0 v1434 k0_hw456 k0_h4 => k0_hw456 k0_h4

def k0_off658 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c199_i32 : BitVec 32 := 199#32
  let v1439 : BitVec 32 := Scalar.addi v45 c199_i32
  let v1440 : Index := Scalar.indexCast v1439
  ![v1440.toNat]
def k0_off659 (v1441 : BitVec 32) : Fin 2 → Nat :=
  let c0_i32_825 : BitVec 32 := 0#32
  ![v1441.toNat, 0]

def k0_chk457 (i : grid0.Coords) (v0 : BitVec 32) (v1441 : BitVec 32) : Prop :=
  (∀ (k0_h4 : k0_cond4 i v0 = 1#1), ∀ a, (k0_off659 v1441) a + S1x2048.size a ≤ S8704x2048.size a)
theorem k0_off659_inb : ∀ (i : grid0.Coords) (v0 : BitVec 32) (v1441 : BitVec 32) (k0_hw457 : k0_chk457 i v0 v1441), ∀ (k0_h4 : k0_cond4 i v0 = 1#1), ∀ a, (k0_off659 v1441) a + S1x2048.size a ≤ S8704x2048.size a := fun i v0 v1441 k0_hw457 k0_h4 => k0_hw457 k0_h4

def k0_off660 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c200_i32 : BitVec 32 := 200#32
  let v1446 : BitVec 32 := Scalar.addi v45 c200_i32
  let v1447 : Index := Scalar.indexCast v1446
  ![v1447.toNat]
def k0_off661 (v1448 : BitVec 32) : Fin 2 → Nat :=
  let c0_i32_829 : BitVec 32 := 0#32
  ![v1448.toNat, 0]

def k0_chk458 (i : grid0.Coords) (v0 : BitVec 32) (v1448 : BitVec 32) : Prop :=
  (∀ (k0_h4 : k0_cond4 i v0 = 1#1), ∀ a, (k0_off661 v1448) a + S1x2048.size a ≤ S8704x2048.size a)
theorem k0_off661_inb : ∀ (i : grid0.Coords) (v0 : BitVec 32) (v1448 : BitVec 32) (k0_hw458 : k0_chk458 i v0 v1448), ∀ (k0_h4 : k0_cond4 i v0 = 1#1), ∀ a, (k0_off661 v1448) a + S1x2048.size a ≤ S8704x2048.size a := fun i v0 v1448 k0_hw458 k0_h4 => k0_hw458 k0_h4

def k0_off662 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c201_i32 : BitVec 32 := 201#32
  let v1453 : BitVec 32 := Scalar.addi v45 c201_i32
  let v1454 : Index := Scalar.indexCast v1453
  ![v1454.toNat]
def k0_off663 (v1455 : BitVec 32) : Fin 2 → Nat :=
  let c0_i32_833 : BitVec 32 := 0#32
  ![v1455.toNat, 0]

def k0_chk459 (i : grid0.Coords) (v0 : BitVec 32) (v1455 : BitVec 32) : Prop :=
  (∀ (k0_h4 : k0_cond4 i v0 = 1#1), ∀ a, (k0_off663 v1455) a + S1x2048.size a ≤ S8704x2048.size a)
theorem k0_off663_inb : ∀ (i : grid0.Coords) (v0 : BitVec 32) (v1455 : BitVec 32) (k0_hw459 : k0_chk459 i v0 v1455), ∀ (k0_h4 : k0_cond4 i v0 = 1#1), ∀ a, (k0_off663 v1455) a + S1x2048.size a ≤ S8704x2048.size a := fun i v0 v1455 k0_hw459 k0_h4 => k0_hw459 k0_h4

def k0_off664 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c202_i32 : BitVec 32 := 202#32
  let v1460 : BitVec 32 := Scalar.addi v45 c202_i32
  let v1461 : Index := Scalar.indexCast v1460
  ![v1461.toNat]
def k0_off665 (v1462 : BitVec 32) : Fin 2 → Nat :=
  let c0_i32_837 : BitVec 32 := 0#32
  ![v1462.toNat, 0]

def k0_chk460 (i : grid0.Coords) (v0 : BitVec 32) (v1462 : BitVec 32) : Prop :=
  (∀ (k0_h4 : k0_cond4 i v0 = 1#1), ∀ a, (k0_off665 v1462) a + S1x2048.size a ≤ S8704x2048.size a)
theorem k0_off665_inb : ∀ (i : grid0.Coords) (v0 : BitVec 32) (v1462 : BitVec 32) (k0_hw460 : k0_chk460 i v0 v1462), ∀ (k0_h4 : k0_cond4 i v0 = 1#1), ∀ a, (k0_off665 v1462) a + S1x2048.size a ≤ S8704x2048.size a := fun i v0 v1462 k0_hw460 k0_h4 => k0_hw460 k0_h4

def k0_off666 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c203_i32 : BitVec 32 := 203#32
  let v1467 : BitVec 32 := Scalar.addi v45 c203_i32
  let v1468 : Index := Scalar.indexCast v1467
  ![v1468.toNat]
def k0_off667 (v1469 : BitVec 32) : Fin 2 → Nat :=
  let c0_i32_841 : BitVec 32 := 0#32
  ![v1469.toNat, 0]

def k0_chk461 (i : grid0.Coords) (v0 : BitVec 32) (v1469 : BitVec 32) : Prop :=
  (∀ (k0_h4 : k0_cond4 i v0 = 1#1), ∀ a, (k0_off667 v1469) a + S1x2048.size a ≤ S8704x2048.size a)
theorem k0_off667_inb : ∀ (i : grid0.Coords) (v0 : BitVec 32) (v1469 : BitVec 32) (k0_hw461 : k0_chk461 i v0 v1469), ∀ (k0_h4 : k0_cond4 i v0 = 1#1), ∀ a, (k0_off667 v1469) a + S1x2048.size a ≤ S8704x2048.size a := fun i v0 v1469 k0_hw461 k0_h4 => k0_hw461 k0_h4

def k0_off668 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c204_i32 : BitVec 32 := 204#32
  let v1474 : BitVec 32 := Scalar.addi v45 c204_i32
  let v1475 : Index := Scalar.indexCast v1474
  ![v1475.toNat]
def k0_off669 (v1476 : BitVec 32) : Fin 2 → Nat :=
  let c0_i32_845 : BitVec 32 := 0#32
  ![v1476.toNat, 0]

def k0_chk462 (i : grid0.Coords) (v0 : BitVec 32) (v1476 : BitVec 32) : Prop :=
  (∀ (k0_h4 : k0_cond4 i v0 = 1#1), ∀ a, (k0_off669 v1476) a + S1x2048.size a ≤ S8704x2048.size a)
theorem k0_off669_inb : ∀ (i : grid0.Coords) (v0 : BitVec 32) (v1476 : BitVec 32) (k0_hw462 : k0_chk462 i v0 v1476), ∀ (k0_h4 : k0_cond4 i v0 = 1#1), ∀ a, (k0_off669 v1476) a + S1x2048.size a ≤ S8704x2048.size a := fun i v0 v1476 k0_hw462 k0_h4 => k0_hw462 k0_h4

def k0_off670 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c205_i32 : BitVec 32 := 205#32
  let v1481 : BitVec 32 := Scalar.addi v45 c205_i32
  let v1482 : Index := Scalar.indexCast v1481
  ![v1482.toNat]
def k0_off671 (v1483 : BitVec 32) : Fin 2 → Nat :=
  let c0_i32_849 : BitVec 32 := 0#32
  ![v1483.toNat, 0]

def k0_chk463 (i : grid0.Coords) (v0 : BitVec 32) (v1483 : BitVec 32) : Prop :=
  (∀ (k0_h4 : k0_cond4 i v0 = 1#1), ∀ a, (k0_off671 v1483) a + S1x2048.size a ≤ S8704x2048.size a)
theorem k0_off671_inb : ∀ (i : grid0.Coords) (v0 : BitVec 32) (v1483 : BitVec 32) (k0_hw463 : k0_chk463 i v0 v1483), ∀ (k0_h4 : k0_cond4 i v0 = 1#1), ∀ a, (k0_off671 v1483) a + S1x2048.size a ≤ S8704x2048.size a := fun i v0 v1483 k0_hw463 k0_h4 => k0_hw463 k0_h4

def k0_off672 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c206_i32 : BitVec 32 := 206#32
  let v1488 : BitVec 32 := Scalar.addi v45 c206_i32
  let v1489 : Index := Scalar.indexCast v1488
  ![v1489.toNat]
def k0_off673 (v1490 : BitVec 32) : Fin 2 → Nat :=
  let c0_i32_853 : BitVec 32 := 0#32
  ![v1490.toNat, 0]

def k0_chk464 (i : grid0.Coords) (v0 : BitVec 32) (v1490 : BitVec 32) : Prop :=
  (∀ (k0_h4 : k0_cond4 i v0 = 1#1), ∀ a, (k0_off673 v1490) a + S1x2048.size a ≤ S8704x2048.size a)
theorem k0_off673_inb : ∀ (i : grid0.Coords) (v0 : BitVec 32) (v1490 : BitVec 32) (k0_hw464 : k0_chk464 i v0 v1490), ∀ (k0_h4 : k0_cond4 i v0 = 1#1), ∀ a, (k0_off673 v1490) a + S1x2048.size a ≤ S8704x2048.size a := fun i v0 v1490 k0_hw464 k0_h4 => k0_hw464 k0_h4

def k0_off674 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c207_i32 : BitVec 32 := 207#32
  let v1495 : BitVec 32 := Scalar.addi v45 c207_i32
  let v1496 : Index := Scalar.indexCast v1495
  ![v1496.toNat]
def k0_off675 (v1497 : BitVec 32) : Fin 2 → Nat :=
  let c0_i32_857 : BitVec 32 := 0#32
  ![v1497.toNat, 0]

def k0_chk465 (i : grid0.Coords) (v0 : BitVec 32) (v1497 : BitVec 32) : Prop :=
  (∀ (k0_h4 : k0_cond4 i v0 = 1#1), ∀ a, (k0_off675 v1497) a + S1x2048.size a ≤ S8704x2048.size a)
theorem k0_off675_inb : ∀ (i : grid0.Coords) (v0 : BitVec 32) (v1497 : BitVec 32) (k0_hw465 : k0_chk465 i v0 v1497), ∀ (k0_h4 : k0_cond4 i v0 = 1#1), ∀ a, (k0_off675 v1497) a + S1x2048.size a ≤ S8704x2048.size a := fun i v0 v1497 k0_hw465 k0_h4 => k0_hw465 k0_h4

def k0_off676 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c208_i32 : BitVec 32 := 208#32
  let v1502 : BitVec 32 := Scalar.addi v45 c208_i32
  let v1503 : Index := Scalar.indexCast v1502
  ![v1503.toNat]
def k0_off677 (v1504 : BitVec 32) : Fin 2 → Nat :=
  let c0_i32_861 : BitVec 32 := 0#32
  ![v1504.toNat, 0]

def k0_chk466 (i : grid0.Coords) (v0 : BitVec 32) (v1504 : BitVec 32) : Prop :=
  (∀ (k0_h4 : k0_cond4 i v0 = 1#1), ∀ a, (k0_off677 v1504) a + S1x2048.size a ≤ S8704x2048.size a)
theorem k0_off677_inb : ∀ (i : grid0.Coords) (v0 : BitVec 32) (v1504 : BitVec 32) (k0_hw466 : k0_chk466 i v0 v1504), ∀ (k0_h4 : k0_cond4 i v0 = 1#1), ∀ a, (k0_off677 v1504) a + S1x2048.size a ≤ S8704x2048.size a := fun i v0 v1504 k0_hw466 k0_h4 => k0_hw466 k0_h4

def k0_off678 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c209_i32 : BitVec 32 := 209#32
  let v1509 : BitVec 32 := Scalar.addi v45 c209_i32
  let v1510 : Index := Scalar.indexCast v1509
  ![v1510.toNat]
def k0_off679 (v1511 : BitVec 32) : Fin 2 → Nat :=
  let c0_i32_865 : BitVec 32 := 0#32
  ![v1511.toNat, 0]

def k0_chk467 (i : grid0.Coords) (v0 : BitVec 32) (v1511 : BitVec 32) : Prop :=
  (∀ (k0_h4 : k0_cond4 i v0 = 1#1), ∀ a, (k0_off679 v1511) a + S1x2048.size a ≤ S8704x2048.size a)
theorem k0_off679_inb : ∀ (i : grid0.Coords) (v0 : BitVec 32) (v1511 : BitVec 32) (k0_hw467 : k0_chk467 i v0 v1511), ∀ (k0_h4 : k0_cond4 i v0 = 1#1), ∀ a, (k0_off679 v1511) a + S1x2048.size a ≤ S8704x2048.size a := fun i v0 v1511 k0_hw467 k0_h4 => k0_hw467 k0_h4

def k0_off680 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c210_i32 : BitVec 32 := 210#32
  let v1516 : BitVec 32 := Scalar.addi v45 c210_i32
  let v1517 : Index := Scalar.indexCast v1516
  ![v1517.toNat]
def k0_off681 (v1518 : BitVec 32) : Fin 2 → Nat :=
  let c0_i32_869 : BitVec 32 := 0#32
  ![v1518.toNat, 0]

def k0_chk468 (i : grid0.Coords) (v0 : BitVec 32) (v1518 : BitVec 32) : Prop :=
  (∀ (k0_h4 : k0_cond4 i v0 = 1#1), ∀ a, (k0_off681 v1518) a + S1x2048.size a ≤ S8704x2048.size a)
theorem k0_off681_inb : ∀ (i : grid0.Coords) (v0 : BitVec 32) (v1518 : BitVec 32) (k0_hw468 : k0_chk468 i v0 v1518), ∀ (k0_h4 : k0_cond4 i v0 = 1#1), ∀ a, (k0_off681 v1518) a + S1x2048.size a ≤ S8704x2048.size a := fun i v0 v1518 k0_hw468 k0_h4 => k0_hw468 k0_h4

def k0_off682 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c211_i32 : BitVec 32 := 211#32
  let v1523 : BitVec 32 := Scalar.addi v45 c211_i32
  let v1524 : Index := Scalar.indexCast v1523
  ![v1524.toNat]
def k0_off683 (v1525 : BitVec 32) : Fin 2 → Nat :=
  let c0_i32_873 : BitVec 32 := 0#32
  ![v1525.toNat, 0]

def k0_chk469 (i : grid0.Coords) (v0 : BitVec 32) (v1525 : BitVec 32) : Prop :=
  (∀ (k0_h4 : k0_cond4 i v0 = 1#1), ∀ a, (k0_off683 v1525) a + S1x2048.size a ≤ S8704x2048.size a)
theorem k0_off683_inb : ∀ (i : grid0.Coords) (v0 : BitVec 32) (v1525 : BitVec 32) (k0_hw469 : k0_chk469 i v0 v1525), ∀ (k0_h4 : k0_cond4 i v0 = 1#1), ∀ a, (k0_off683 v1525) a + S1x2048.size a ≤ S8704x2048.size a := fun i v0 v1525 k0_hw469 k0_h4 => k0_hw469 k0_h4

def k0_off684 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c212_i32 : BitVec 32 := 212#32
  let v1530 : BitVec 32 := Scalar.addi v45 c212_i32
  let v1531 : Index := Scalar.indexCast v1530
  ![v1531.toNat]
def k0_off685 (v1532 : BitVec 32) : Fin 2 → Nat :=
  let c0_i32_877 : BitVec 32 := 0#32
  ![v1532.toNat, 0]

def k0_chk470 (i : grid0.Coords) (v0 : BitVec 32) (v1532 : BitVec 32) : Prop :=
  (∀ (k0_h4 : k0_cond4 i v0 = 1#1), ∀ a, (k0_off685 v1532) a + S1x2048.size a ≤ S8704x2048.size a)
theorem k0_off685_inb : ∀ (i : grid0.Coords) (v0 : BitVec 32) (v1532 : BitVec 32) (k0_hw470 : k0_chk470 i v0 v1532), ∀ (k0_h4 : k0_cond4 i v0 = 1#1), ∀ a, (k0_off685 v1532) a + S1x2048.size a ≤ S8704x2048.size a := fun i v0 v1532 k0_hw470 k0_h4 => k0_hw470 k0_h4

def k0_off686 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c213_i32 : BitVec 32 := 213#32
  let v1537 : BitVec 32 := Scalar.addi v45 c213_i32
  let v1538 : Index := Scalar.indexCast v1537
  ![v1538.toNat]
def k0_off687 (v1539 : BitVec 32) : Fin 2 → Nat :=
  let c0_i32_881 : BitVec 32 := 0#32
  ![v1539.toNat, 0]

def k0_chk471 (i : grid0.Coords) (v0 : BitVec 32) (v1539 : BitVec 32) : Prop :=
  (∀ (k0_h4 : k0_cond4 i v0 = 1#1), ∀ a, (k0_off687 v1539) a + S1x2048.size a ≤ S8704x2048.size a)
theorem k0_off687_inb : ∀ (i : grid0.Coords) (v0 : BitVec 32) (v1539 : BitVec 32) (k0_hw471 : k0_chk471 i v0 v1539), ∀ (k0_h4 : k0_cond4 i v0 = 1#1), ∀ a, (k0_off687 v1539) a + S1x2048.size a ≤ S8704x2048.size a := fun i v0 v1539 k0_hw471 k0_h4 => k0_hw471 k0_h4

def k0_off688 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c214_i32 : BitVec 32 := 214#32
  let v1544 : BitVec 32 := Scalar.addi v45 c214_i32
  let v1545 : Index := Scalar.indexCast v1544
  ![v1545.toNat]
def k0_off689 (v1546 : BitVec 32) : Fin 2 → Nat :=
  let c0_i32_885 : BitVec 32 := 0#32
  ![v1546.toNat, 0]

def k0_chk472 (i : grid0.Coords) (v0 : BitVec 32) (v1546 : BitVec 32) : Prop :=
  (∀ (k0_h4 : k0_cond4 i v0 = 1#1), ∀ a, (k0_off689 v1546) a + S1x2048.size a ≤ S8704x2048.size a)
theorem k0_off689_inb : ∀ (i : grid0.Coords) (v0 : BitVec 32) (v1546 : BitVec 32) (k0_hw472 : k0_chk472 i v0 v1546), ∀ (k0_h4 : k0_cond4 i v0 = 1#1), ∀ a, (k0_off689 v1546) a + S1x2048.size a ≤ S8704x2048.size a := fun i v0 v1546 k0_hw472 k0_h4 => k0_hw472 k0_h4

def k0_off690 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c215_i32 : BitVec 32 := 215#32
  let v1551 : BitVec 32 := Scalar.addi v45 c215_i32
  let v1552 : Index := Scalar.indexCast v1551
  ![v1552.toNat]
def k0_off691 (v1553 : BitVec 32) : Fin 2 → Nat :=
  let c0_i32_889 : BitVec 32 := 0#32
  ![v1553.toNat, 0]

def k0_chk473 (i : grid0.Coords) (v0 : BitVec 32) (v1553 : BitVec 32) : Prop :=
  (∀ (k0_h4 : k0_cond4 i v0 = 1#1), ∀ a, (k0_off691 v1553) a + S1x2048.size a ≤ S8704x2048.size a)
theorem k0_off691_inb : ∀ (i : grid0.Coords) (v0 : BitVec 32) (v1553 : BitVec 32) (k0_hw473 : k0_chk473 i v0 v1553), ∀ (k0_h4 : k0_cond4 i v0 = 1#1), ∀ a, (k0_off691 v1553) a + S1x2048.size a ≤ S8704x2048.size a := fun i v0 v1553 k0_hw473 k0_h4 => k0_hw473 k0_h4

def k0_off692 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c216_i32 : BitVec 32 := 216#32
  let v1558 : BitVec 32 := Scalar.addi v45 c216_i32
  let v1559 : Index := Scalar.indexCast v1558
  ![v1559.toNat]
def k0_off693 (v1560 : BitVec 32) : Fin 2 → Nat :=
  let c0_i32_893 : BitVec 32 := 0#32
  ![v1560.toNat, 0]

def k0_chk474 (i : grid0.Coords) (v0 : BitVec 32) (v1560 : BitVec 32) : Prop :=
  (∀ (k0_h4 : k0_cond4 i v0 = 1#1), ∀ a, (k0_off693 v1560) a + S1x2048.size a ≤ S8704x2048.size a)
theorem k0_off693_inb : ∀ (i : grid0.Coords) (v0 : BitVec 32) (v1560 : BitVec 32) (k0_hw474 : k0_chk474 i v0 v1560), ∀ (k0_h4 : k0_cond4 i v0 = 1#1), ∀ a, (k0_off693 v1560) a + S1x2048.size a ≤ S8704x2048.size a := fun i v0 v1560 k0_hw474 k0_h4 => k0_hw474 k0_h4

def k0_off694 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c217_i32 : BitVec 32 := 217#32
  let v1565 : BitVec 32 := Scalar.addi v45 c217_i32
  let v1566 : Index := Scalar.indexCast v1565
  ![v1566.toNat]
def k0_off695 (v1567 : BitVec 32) : Fin 2 → Nat :=
  let c0_i32_897 : BitVec 32 := 0#32
  ![v1567.toNat, 0]

def k0_chk475 (i : grid0.Coords) (v0 : BitVec 32) (v1567 : BitVec 32) : Prop :=
  (∀ (k0_h4 : k0_cond4 i v0 = 1#1), ∀ a, (k0_off695 v1567) a + S1x2048.size a ≤ S8704x2048.size a)
theorem k0_off695_inb : ∀ (i : grid0.Coords) (v0 : BitVec 32) (v1567 : BitVec 32) (k0_hw475 : k0_chk475 i v0 v1567), ∀ (k0_h4 : k0_cond4 i v0 = 1#1), ∀ a, (k0_off695 v1567) a + S1x2048.size a ≤ S8704x2048.size a := fun i v0 v1567 k0_hw475 k0_h4 => k0_hw475 k0_h4

def k0_off696 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c218_i32 : BitVec 32 := 218#32
  let v1572 : BitVec 32 := Scalar.addi v45 c218_i32
  let v1573 : Index := Scalar.indexCast v1572
  ![v1573.toNat]
def k0_off697 (v1574 : BitVec 32) : Fin 2 → Nat :=
  let c0_i32_901 : BitVec 32 := 0#32
  ![v1574.toNat, 0]

def k0_chk476 (i : grid0.Coords) (v0 : BitVec 32) (v1574 : BitVec 32) : Prop :=
  (∀ (k0_h4 : k0_cond4 i v0 = 1#1), ∀ a, (k0_off697 v1574) a + S1x2048.size a ≤ S8704x2048.size a)
theorem k0_off697_inb : ∀ (i : grid0.Coords) (v0 : BitVec 32) (v1574 : BitVec 32) (k0_hw476 : k0_chk476 i v0 v1574), ∀ (k0_h4 : k0_cond4 i v0 = 1#1), ∀ a, (k0_off697 v1574) a + S1x2048.size a ≤ S8704x2048.size a := fun i v0 v1574 k0_hw476 k0_h4 => k0_hw476 k0_h4

def k0_off698 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c219_i32 : BitVec 32 := 219#32
  let v1579 : BitVec 32 := Scalar.addi v45 c219_i32
  let v1580 : Index := Scalar.indexCast v1579
  ![v1580.toNat]
def k0_off699 (v1581 : BitVec 32) : Fin 2 → Nat :=
  let c0_i32_905 : BitVec 32 := 0#32
  ![v1581.toNat, 0]

def k0_chk477 (i : grid0.Coords) (v0 : BitVec 32) (v1581 : BitVec 32) : Prop :=
  (∀ (k0_h4 : k0_cond4 i v0 = 1#1), ∀ a, (k0_off699 v1581) a + S1x2048.size a ≤ S8704x2048.size a)
theorem k0_off699_inb : ∀ (i : grid0.Coords) (v0 : BitVec 32) (v1581 : BitVec 32) (k0_hw477 : k0_chk477 i v0 v1581), ∀ (k0_h4 : k0_cond4 i v0 = 1#1), ∀ a, (k0_off699 v1581) a + S1x2048.size a ≤ S8704x2048.size a := fun i v0 v1581 k0_hw477 k0_h4 => k0_hw477 k0_h4

def k0_off700 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c220_i32 : BitVec 32 := 220#32
  let v1586 : BitVec 32 := Scalar.addi v45 c220_i32
  let v1587 : Index := Scalar.indexCast v1586
  ![v1587.toNat]
def k0_off701 (v1588 : BitVec 32) : Fin 2 → Nat :=
  let c0_i32_909 : BitVec 32 := 0#32
  ![v1588.toNat, 0]

def k0_chk478 (i : grid0.Coords) (v0 : BitVec 32) (v1588 : BitVec 32) : Prop :=
  (∀ (k0_h4 : k0_cond4 i v0 = 1#1), ∀ a, (k0_off701 v1588) a + S1x2048.size a ≤ S8704x2048.size a)
theorem k0_off701_inb : ∀ (i : grid0.Coords) (v0 : BitVec 32) (v1588 : BitVec 32) (k0_hw478 : k0_chk478 i v0 v1588), ∀ (k0_h4 : k0_cond4 i v0 = 1#1), ∀ a, (k0_off701 v1588) a + S1x2048.size a ≤ S8704x2048.size a := fun i v0 v1588 k0_hw478 k0_h4 => k0_hw478 k0_h4

def k0_off702 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c221_i32 : BitVec 32 := 221#32
  let v1593 : BitVec 32 := Scalar.addi v45 c221_i32
  let v1594 : Index := Scalar.indexCast v1593
  ![v1594.toNat]
def k0_off703 (v1595 : BitVec 32) : Fin 2 → Nat :=
  let c0_i32_913 : BitVec 32 := 0#32
  ![v1595.toNat, 0]

def k0_chk479 (i : grid0.Coords) (v0 : BitVec 32) (v1595 : BitVec 32) : Prop :=
  (∀ (k0_h4 : k0_cond4 i v0 = 1#1), ∀ a, (k0_off703 v1595) a + S1x2048.size a ≤ S8704x2048.size a)
theorem k0_off703_inb : ∀ (i : grid0.Coords) (v0 : BitVec 32) (v1595 : BitVec 32) (k0_hw479 : k0_chk479 i v0 v1595), ∀ (k0_h4 : k0_cond4 i v0 = 1#1), ∀ a, (k0_off703 v1595) a + S1x2048.size a ≤ S8704x2048.size a := fun i v0 v1595 k0_hw479 k0_h4 => k0_hw479 k0_h4

def k0_off704 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c222_i32 : BitVec 32 := 222#32
  let v1600 : BitVec 32 := Scalar.addi v45 c222_i32
  let v1601 : Index := Scalar.indexCast v1600
  ![v1601.toNat]
def k0_off705 (v1602 : BitVec 32) : Fin 2 → Nat :=
  let c0_i32_917 : BitVec 32 := 0#32
  ![v1602.toNat, 0]

def k0_chk480 (i : grid0.Coords) (v0 : BitVec 32) (v1602 : BitVec 32) : Prop :=
  (∀ (k0_h4 : k0_cond4 i v0 = 1#1), ∀ a, (k0_off705 v1602) a + S1x2048.size a ≤ S8704x2048.size a)
theorem k0_off705_inb : ∀ (i : grid0.Coords) (v0 : BitVec 32) (v1602 : BitVec 32) (k0_hw480 : k0_chk480 i v0 v1602), ∀ (k0_h4 : k0_cond4 i v0 = 1#1), ∀ a, (k0_off705 v1602) a + S1x2048.size a ≤ S8704x2048.size a := fun i v0 v1602 k0_hw480 k0_h4 => k0_hw480 k0_h4

def k0_off706 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c223_i32 : BitVec 32 := 223#32
  let v1607 : BitVec 32 := Scalar.addi v45 c223_i32
  let v1608 : Index := Scalar.indexCast v1607
  ![v1608.toNat]
def k0_off707 (v1609 : BitVec 32) : Fin 2 → Nat :=
  let c0_i32_921 : BitVec 32 := 0#32
  ![v1609.toNat, 0]

def k0_chk481 (i : grid0.Coords) (v0 : BitVec 32) (v1609 : BitVec 32) : Prop :=
  (∀ (k0_h4 : k0_cond4 i v0 = 1#1), ∀ a, (k0_off707 v1609) a + S1x2048.size a ≤ S8704x2048.size a)
theorem k0_off707_inb : ∀ (i : grid0.Coords) (v0 : BitVec 32) (v1609 : BitVec 32) (k0_hw481 : k0_chk481 i v0 v1609), ∀ (k0_h4 : k0_cond4 i v0 = 1#1), ∀ a, (k0_off707 v1609) a + S1x2048.size a ≤ S8704x2048.size a := fun i v0 v1609 k0_hw481 k0_h4 => k0_hw481 k0_h4

def k0_off708 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c224_i32 : BitVec 32 := 224#32
  let v1614 : BitVec 32 := Scalar.addi v45 c224_i32
  let v1615 : Index := Scalar.indexCast v1614
  ![v1615.toNat]
def k0_off709 (v1616 : BitVec 32) : Fin 2 → Nat :=
  let c0_i32_925 : BitVec 32 := 0#32
  ![v1616.toNat, 0]

def k0_chk482 (i : grid0.Coords) (v0 : BitVec 32) (v1616 : BitVec 32) : Prop :=
  (∀ (k0_h4 : k0_cond4 i v0 = 1#1), ∀ a, (k0_off709 v1616) a + S1x2048.size a ≤ S8704x2048.size a)
theorem k0_off709_inb : ∀ (i : grid0.Coords) (v0 : BitVec 32) (v1616 : BitVec 32) (k0_hw482 : k0_chk482 i v0 v1616), ∀ (k0_h4 : k0_cond4 i v0 = 1#1), ∀ a, (k0_off709 v1616) a + S1x2048.size a ≤ S8704x2048.size a := fun i v0 v1616 k0_hw482 k0_h4 => k0_hw482 k0_h4

def k0_off710 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c225_i32 : BitVec 32 := 225#32
  let v1621 : BitVec 32 := Scalar.addi v45 c225_i32
  let v1622 : Index := Scalar.indexCast v1621
  ![v1622.toNat]
def k0_off711 (v1623 : BitVec 32) : Fin 2 → Nat :=
  let c0_i32_929 : BitVec 32 := 0#32
  ![v1623.toNat, 0]

def k0_chk483 (i : grid0.Coords) (v0 : BitVec 32) (v1623 : BitVec 32) : Prop :=
  (∀ (k0_h4 : k0_cond4 i v0 = 1#1), ∀ a, (k0_off711 v1623) a + S1x2048.size a ≤ S8704x2048.size a)
theorem k0_off711_inb : ∀ (i : grid0.Coords) (v0 : BitVec 32) (v1623 : BitVec 32) (k0_hw483 : k0_chk483 i v0 v1623), ∀ (k0_h4 : k0_cond4 i v0 = 1#1), ∀ a, (k0_off711 v1623) a + S1x2048.size a ≤ S8704x2048.size a := fun i v0 v1623 k0_hw483 k0_h4 => k0_hw483 k0_h4

def k0_off712 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c226_i32 : BitVec 32 := 226#32
  let v1628 : BitVec 32 := Scalar.addi v45 c226_i32
  let v1629 : Index := Scalar.indexCast v1628
  ![v1629.toNat]
def k0_off713 (v1630 : BitVec 32) : Fin 2 → Nat :=
  let c0_i32_933 : BitVec 32 := 0#32
  ![v1630.toNat, 0]

def k0_chk484 (i : grid0.Coords) (v0 : BitVec 32) (v1630 : BitVec 32) : Prop :=
  (∀ (k0_h4 : k0_cond4 i v0 = 1#1), ∀ a, (k0_off713 v1630) a + S1x2048.size a ≤ S8704x2048.size a)
theorem k0_off713_inb : ∀ (i : grid0.Coords) (v0 : BitVec 32) (v1630 : BitVec 32) (k0_hw484 : k0_chk484 i v0 v1630), ∀ (k0_h4 : k0_cond4 i v0 = 1#1), ∀ a, (k0_off713 v1630) a + S1x2048.size a ≤ S8704x2048.size a := fun i v0 v1630 k0_hw484 k0_h4 => k0_hw484 k0_h4

def k0_off714 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c227_i32 : BitVec 32 := 227#32
  let v1635 : BitVec 32 := Scalar.addi v45 c227_i32
  let v1636 : Index := Scalar.indexCast v1635
  ![v1636.toNat]
def k0_off715 (v1637 : BitVec 32) : Fin 2 → Nat :=
  let c0_i32_937 : BitVec 32 := 0#32
  ![v1637.toNat, 0]

def k0_chk485 (i : grid0.Coords) (v0 : BitVec 32) (v1637 : BitVec 32) : Prop :=
  (∀ (k0_h4 : k0_cond4 i v0 = 1#1), ∀ a, (k0_off715 v1637) a + S1x2048.size a ≤ S8704x2048.size a)
theorem k0_off715_inb : ∀ (i : grid0.Coords) (v0 : BitVec 32) (v1637 : BitVec 32) (k0_hw485 : k0_chk485 i v0 v1637), ∀ (k0_h4 : k0_cond4 i v0 = 1#1), ∀ a, (k0_off715 v1637) a + S1x2048.size a ≤ S8704x2048.size a := fun i v0 v1637 k0_hw485 k0_h4 => k0_hw485 k0_h4

def k0_off716 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c228_i32 : BitVec 32 := 228#32
  let v1642 : BitVec 32 := Scalar.addi v45 c228_i32
  let v1643 : Index := Scalar.indexCast v1642
  ![v1643.toNat]
def k0_off717 (v1644 : BitVec 32) : Fin 2 → Nat :=
  let c0_i32_941 : BitVec 32 := 0#32
  ![v1644.toNat, 0]

def k0_chk486 (i : grid0.Coords) (v0 : BitVec 32) (v1644 : BitVec 32) : Prop :=
  (∀ (k0_h4 : k0_cond4 i v0 = 1#1), ∀ a, (k0_off717 v1644) a + S1x2048.size a ≤ S8704x2048.size a)
theorem k0_off717_inb : ∀ (i : grid0.Coords) (v0 : BitVec 32) (v1644 : BitVec 32) (k0_hw486 : k0_chk486 i v0 v1644), ∀ (k0_h4 : k0_cond4 i v0 = 1#1), ∀ a, (k0_off717 v1644) a + S1x2048.size a ≤ S8704x2048.size a := fun i v0 v1644 k0_hw486 k0_h4 => k0_hw486 k0_h4

def k0_off718 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c229_i32 : BitVec 32 := 229#32
  let v1649 : BitVec 32 := Scalar.addi v45 c229_i32
  let v1650 : Index := Scalar.indexCast v1649
  ![v1650.toNat]
def k0_off719 (v1651 : BitVec 32) : Fin 2 → Nat :=
  let c0_i32_945 : BitVec 32 := 0#32
  ![v1651.toNat, 0]

def k0_chk487 (i : grid0.Coords) (v0 : BitVec 32) (v1651 : BitVec 32) : Prop :=
  (∀ (k0_h4 : k0_cond4 i v0 = 1#1), ∀ a, (k0_off719 v1651) a + S1x2048.size a ≤ S8704x2048.size a)
theorem k0_off719_inb : ∀ (i : grid0.Coords) (v0 : BitVec 32) (v1651 : BitVec 32) (k0_hw487 : k0_chk487 i v0 v1651), ∀ (k0_h4 : k0_cond4 i v0 = 1#1), ∀ a, (k0_off719 v1651) a + S1x2048.size a ≤ S8704x2048.size a := fun i v0 v1651 k0_hw487 k0_h4 => k0_hw487 k0_h4

def k0_off720 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c230_i32 : BitVec 32 := 230#32
  let v1656 : BitVec 32 := Scalar.addi v45 c230_i32
  let v1657 : Index := Scalar.indexCast v1656
  ![v1657.toNat]
def k0_off721 (v1658 : BitVec 32) : Fin 2 → Nat :=
  let c0_i32_949 : BitVec 32 := 0#32
  ![v1658.toNat, 0]

def k0_chk488 (i : grid0.Coords) (v0 : BitVec 32) (v1658 : BitVec 32) : Prop :=
  (∀ (k0_h4 : k0_cond4 i v0 = 1#1), ∀ a, (k0_off721 v1658) a + S1x2048.size a ≤ S8704x2048.size a)
theorem k0_off721_inb : ∀ (i : grid0.Coords) (v0 : BitVec 32) (v1658 : BitVec 32) (k0_hw488 : k0_chk488 i v0 v1658), ∀ (k0_h4 : k0_cond4 i v0 = 1#1), ∀ a, (k0_off721 v1658) a + S1x2048.size a ≤ S8704x2048.size a := fun i v0 v1658 k0_hw488 k0_h4 => k0_hw488 k0_h4

def k0_off722 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c231_i32 : BitVec 32 := 231#32
  let v1663 : BitVec 32 := Scalar.addi v45 c231_i32
  let v1664 : Index := Scalar.indexCast v1663
  ![v1664.toNat]
def k0_off723 (v1665 : BitVec 32) : Fin 2 → Nat :=
  let c0_i32_953 : BitVec 32 := 0#32
  ![v1665.toNat, 0]

def k0_chk489 (i : grid0.Coords) (v0 : BitVec 32) (v1665 : BitVec 32) : Prop :=
  (∀ (k0_h4 : k0_cond4 i v0 = 1#1), ∀ a, (k0_off723 v1665) a + S1x2048.size a ≤ S8704x2048.size a)
theorem k0_off723_inb : ∀ (i : grid0.Coords) (v0 : BitVec 32) (v1665 : BitVec 32) (k0_hw489 : k0_chk489 i v0 v1665), ∀ (k0_h4 : k0_cond4 i v0 = 1#1), ∀ a, (k0_off723 v1665) a + S1x2048.size a ≤ S8704x2048.size a := fun i v0 v1665 k0_hw489 k0_h4 => k0_hw489 k0_h4

def k0_off724 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c232_i32 : BitVec 32 := 232#32
  let v1670 : BitVec 32 := Scalar.addi v45 c232_i32
  let v1671 : Index := Scalar.indexCast v1670
  ![v1671.toNat]
def k0_off725 (v1672 : BitVec 32) : Fin 2 → Nat :=
  let c0_i32_957 : BitVec 32 := 0#32
  ![v1672.toNat, 0]

def k0_chk490 (i : grid0.Coords) (v0 : BitVec 32) (v1672 : BitVec 32) : Prop :=
  (∀ (k0_h4 : k0_cond4 i v0 = 1#1), ∀ a, (k0_off725 v1672) a + S1x2048.size a ≤ S8704x2048.size a)
theorem k0_off725_inb : ∀ (i : grid0.Coords) (v0 : BitVec 32) (v1672 : BitVec 32) (k0_hw490 : k0_chk490 i v0 v1672), ∀ (k0_h4 : k0_cond4 i v0 = 1#1), ∀ a, (k0_off725 v1672) a + S1x2048.size a ≤ S8704x2048.size a := fun i v0 v1672 k0_hw490 k0_h4 => k0_hw490 k0_h4

def k0_off726 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c233_i32 : BitVec 32 := 233#32
  let v1677 : BitVec 32 := Scalar.addi v45 c233_i32
  let v1678 : Index := Scalar.indexCast v1677
  ![v1678.toNat]
def k0_off727 (v1679 : BitVec 32) : Fin 2 → Nat :=
  let c0_i32_961 : BitVec 32 := 0#32
  ![v1679.toNat, 0]

def k0_chk491 (i : grid0.Coords) (v0 : BitVec 32) (v1679 : BitVec 32) : Prop :=
  (∀ (k0_h4 : k0_cond4 i v0 = 1#1), ∀ a, (k0_off727 v1679) a + S1x2048.size a ≤ S8704x2048.size a)
theorem k0_off727_inb : ∀ (i : grid0.Coords) (v0 : BitVec 32) (v1679 : BitVec 32) (k0_hw491 : k0_chk491 i v0 v1679), ∀ (k0_h4 : k0_cond4 i v0 = 1#1), ∀ a, (k0_off727 v1679) a + S1x2048.size a ≤ S8704x2048.size a := fun i v0 v1679 k0_hw491 k0_h4 => k0_hw491 k0_h4

def k0_off728 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c234_i32 : BitVec 32 := 234#32
  let v1684 : BitVec 32 := Scalar.addi v45 c234_i32
  let v1685 : Index := Scalar.indexCast v1684
  ![v1685.toNat]
def k0_off729 (v1686 : BitVec 32) : Fin 2 → Nat :=
  let c0_i32_965 : BitVec 32 := 0#32
  ![v1686.toNat, 0]

def k0_chk492 (i : grid0.Coords) (v0 : BitVec 32) (v1686 : BitVec 32) : Prop :=
  (∀ (k0_h4 : k0_cond4 i v0 = 1#1), ∀ a, (k0_off729 v1686) a + S1x2048.size a ≤ S8704x2048.size a)
theorem k0_off729_inb : ∀ (i : grid0.Coords) (v0 : BitVec 32) (v1686 : BitVec 32) (k0_hw492 : k0_chk492 i v0 v1686), ∀ (k0_h4 : k0_cond4 i v0 = 1#1), ∀ a, (k0_off729 v1686) a + S1x2048.size a ≤ S8704x2048.size a := fun i v0 v1686 k0_hw492 k0_h4 => k0_hw492 k0_h4

def k0_off730 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c235_i32 : BitVec 32 := 235#32
  let v1691 : BitVec 32 := Scalar.addi v45 c235_i32
  let v1692 : Index := Scalar.indexCast v1691
  ![v1692.toNat]
def k0_off731 (v1693 : BitVec 32) : Fin 2 → Nat :=
  let c0_i32_969 : BitVec 32 := 0#32
  ![v1693.toNat, 0]

def k0_chk493 (i : grid0.Coords) (v0 : BitVec 32) (v1693 : BitVec 32) : Prop :=
  (∀ (k0_h4 : k0_cond4 i v0 = 1#1), ∀ a, (k0_off731 v1693) a + S1x2048.size a ≤ S8704x2048.size a)
theorem k0_off731_inb : ∀ (i : grid0.Coords) (v0 : BitVec 32) (v1693 : BitVec 32) (k0_hw493 : k0_chk493 i v0 v1693), ∀ (k0_h4 : k0_cond4 i v0 = 1#1), ∀ a, (k0_off731 v1693) a + S1x2048.size a ≤ S8704x2048.size a := fun i v0 v1693 k0_hw493 k0_h4 => k0_hw493 k0_h4

def k0_off732 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c236_i32 : BitVec 32 := 236#32
  let v1698 : BitVec 32 := Scalar.addi v45 c236_i32
  let v1699 : Index := Scalar.indexCast v1698
  ![v1699.toNat]
def k0_off733 (v1700 : BitVec 32) : Fin 2 → Nat :=
  let c0_i32_973 : BitVec 32 := 0#32
  ![v1700.toNat, 0]

def k0_chk494 (i : grid0.Coords) (v0 : BitVec 32) (v1700 : BitVec 32) : Prop :=
  (∀ (k0_h4 : k0_cond4 i v0 = 1#1), ∀ a, (k0_off733 v1700) a + S1x2048.size a ≤ S8704x2048.size a)
theorem k0_off733_inb : ∀ (i : grid0.Coords) (v0 : BitVec 32) (v1700 : BitVec 32) (k0_hw494 : k0_chk494 i v0 v1700), ∀ (k0_h4 : k0_cond4 i v0 = 1#1), ∀ a, (k0_off733 v1700) a + S1x2048.size a ≤ S8704x2048.size a := fun i v0 v1700 k0_hw494 k0_h4 => k0_hw494 k0_h4

def k0_off734 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c237_i32 : BitVec 32 := 237#32
  let v1705 : BitVec 32 := Scalar.addi v45 c237_i32
  let v1706 : Index := Scalar.indexCast v1705
  ![v1706.toNat]
def k0_off735 (v1707 : BitVec 32) : Fin 2 → Nat :=
  let c0_i32_977 : BitVec 32 := 0#32
  ![v1707.toNat, 0]

def k0_chk495 (i : grid0.Coords) (v0 : BitVec 32) (v1707 : BitVec 32) : Prop :=
  (∀ (k0_h4 : k0_cond4 i v0 = 1#1), ∀ a, (k0_off735 v1707) a + S1x2048.size a ≤ S8704x2048.size a)
theorem k0_off735_inb : ∀ (i : grid0.Coords) (v0 : BitVec 32) (v1707 : BitVec 32) (k0_hw495 : k0_chk495 i v0 v1707), ∀ (k0_h4 : k0_cond4 i v0 = 1#1), ∀ a, (k0_off735 v1707) a + S1x2048.size a ≤ S8704x2048.size a := fun i v0 v1707 k0_hw495 k0_h4 => k0_hw495 k0_h4

def k0_off736 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c238_i32 : BitVec 32 := 238#32
  let v1712 : BitVec 32 := Scalar.addi v45 c238_i32
  let v1713 : Index := Scalar.indexCast v1712
  ![v1713.toNat]
def k0_off737 (v1714 : BitVec 32) : Fin 2 → Nat :=
  let c0_i32_981 : BitVec 32 := 0#32
  ![v1714.toNat, 0]

def k0_chk496 (i : grid0.Coords) (v0 : BitVec 32) (v1714 : BitVec 32) : Prop :=
  (∀ (k0_h4 : k0_cond4 i v0 = 1#1), ∀ a, (k0_off737 v1714) a + S1x2048.size a ≤ S8704x2048.size a)
theorem k0_off737_inb : ∀ (i : grid0.Coords) (v0 : BitVec 32) (v1714 : BitVec 32) (k0_hw496 : k0_chk496 i v0 v1714), ∀ (k0_h4 : k0_cond4 i v0 = 1#1), ∀ a, (k0_off737 v1714) a + S1x2048.size a ≤ S8704x2048.size a := fun i v0 v1714 k0_hw496 k0_h4 => k0_hw496 k0_h4

def k0_off738 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c239_i32 : BitVec 32 := 239#32
  let v1719 : BitVec 32 := Scalar.addi v45 c239_i32
  let v1720 : Index := Scalar.indexCast v1719
  ![v1720.toNat]
def k0_off739 (v1721 : BitVec 32) : Fin 2 → Nat :=
  let c0_i32_985 : BitVec 32 := 0#32
  ![v1721.toNat, 0]

def k0_chk497 (i : grid0.Coords) (v0 : BitVec 32) (v1721 : BitVec 32) : Prop :=
  (∀ (k0_h4 : k0_cond4 i v0 = 1#1), ∀ a, (k0_off739 v1721) a + S1x2048.size a ≤ S8704x2048.size a)
theorem k0_off739_inb : ∀ (i : grid0.Coords) (v0 : BitVec 32) (v1721 : BitVec 32) (k0_hw497 : k0_chk497 i v0 v1721), ∀ (k0_h4 : k0_cond4 i v0 = 1#1), ∀ a, (k0_off739 v1721) a + S1x2048.size a ≤ S8704x2048.size a := fun i v0 v1721 k0_hw497 k0_h4 => k0_hw497 k0_h4

def k0_off740 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c240_i32 : BitVec 32 := 240#32
  let v1726 : BitVec 32 := Scalar.addi v45 c240_i32
  let v1727 : Index := Scalar.indexCast v1726
  ![v1727.toNat]
def k0_off741 (v1728 : BitVec 32) : Fin 2 → Nat :=
  let c0_i32_989 : BitVec 32 := 0#32
  ![v1728.toNat, 0]

def k0_chk498 (i : grid0.Coords) (v0 : BitVec 32) (v1728 : BitVec 32) : Prop :=
  (∀ (k0_h4 : k0_cond4 i v0 = 1#1), ∀ a, (k0_off741 v1728) a + S1x2048.size a ≤ S8704x2048.size a)
theorem k0_off741_inb : ∀ (i : grid0.Coords) (v0 : BitVec 32) (v1728 : BitVec 32) (k0_hw498 : k0_chk498 i v0 v1728), ∀ (k0_h4 : k0_cond4 i v0 = 1#1), ∀ a, (k0_off741 v1728) a + S1x2048.size a ≤ S8704x2048.size a := fun i v0 v1728 k0_hw498 k0_h4 => k0_hw498 k0_h4

def k0_off742 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c241_i32 : BitVec 32 := 241#32
  let v1733 : BitVec 32 := Scalar.addi v45 c241_i32
  let v1734 : Index := Scalar.indexCast v1733
  ![v1734.toNat]
def k0_off743 (v1735 : BitVec 32) : Fin 2 → Nat :=
  let c0_i32_993 : BitVec 32 := 0#32
  ![v1735.toNat, 0]

def k0_chk499 (i : grid0.Coords) (v0 : BitVec 32) (v1735 : BitVec 32) : Prop :=
  (∀ (k0_h4 : k0_cond4 i v0 = 1#1), ∀ a, (k0_off743 v1735) a + S1x2048.size a ≤ S8704x2048.size a)
theorem k0_off743_inb : ∀ (i : grid0.Coords) (v0 : BitVec 32) (v1735 : BitVec 32) (k0_hw499 : k0_chk499 i v0 v1735), ∀ (k0_h4 : k0_cond4 i v0 = 1#1), ∀ a, (k0_off743 v1735) a + S1x2048.size a ≤ S8704x2048.size a := fun i v0 v1735 k0_hw499 k0_h4 => k0_hw499 k0_h4

def k0_off744 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c242_i32 : BitVec 32 := 242#32
  let v1740 : BitVec 32 := Scalar.addi v45 c242_i32
  let v1741 : Index := Scalar.indexCast v1740
  ![v1741.toNat]
def k0_off745 (v1742 : BitVec 32) : Fin 2 → Nat :=
  let c0_i32_997 : BitVec 32 := 0#32
  ![v1742.toNat, 0]

def k0_chk500 (i : grid0.Coords) (v0 : BitVec 32) (v1742 : BitVec 32) : Prop :=
  (∀ (k0_h4 : k0_cond4 i v0 = 1#1), ∀ a, (k0_off745 v1742) a + S1x2048.size a ≤ S8704x2048.size a)
theorem k0_off745_inb : ∀ (i : grid0.Coords) (v0 : BitVec 32) (v1742 : BitVec 32) (k0_hw500 : k0_chk500 i v0 v1742), ∀ (k0_h4 : k0_cond4 i v0 = 1#1), ∀ a, (k0_off745 v1742) a + S1x2048.size a ≤ S8704x2048.size a := fun i v0 v1742 k0_hw500 k0_h4 => k0_hw500 k0_h4

def k0_off746 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c243_i32 : BitVec 32 := 243#32
  let v1747 : BitVec 32 := Scalar.addi v45 c243_i32
  let v1748 : Index := Scalar.indexCast v1747
  ![v1748.toNat]
def k0_off747 (v1749 : BitVec 32) : Fin 2 → Nat :=
  let c0_i32_1001 : BitVec 32 := 0#32
  ![v1749.toNat, 0]

def k0_chk501 (i : grid0.Coords) (v0 : BitVec 32) (v1749 : BitVec 32) : Prop :=
  (∀ (k0_h4 : k0_cond4 i v0 = 1#1), ∀ a, (k0_off747 v1749) a + S1x2048.size a ≤ S8704x2048.size a)
theorem k0_off747_inb : ∀ (i : grid0.Coords) (v0 : BitVec 32) (v1749 : BitVec 32) (k0_hw501 : k0_chk501 i v0 v1749), ∀ (k0_h4 : k0_cond4 i v0 = 1#1), ∀ a, (k0_off747 v1749) a + S1x2048.size a ≤ S8704x2048.size a := fun i v0 v1749 k0_hw501 k0_h4 => k0_hw501 k0_h4

def k0_off748 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c244_i32 : BitVec 32 := 244#32
  let v1754 : BitVec 32 := Scalar.addi v45 c244_i32
  let v1755 : Index := Scalar.indexCast v1754
  ![v1755.toNat]
def k0_off749 (v1756 : BitVec 32) : Fin 2 → Nat :=
  let c0_i32_1005 : BitVec 32 := 0#32
  ![v1756.toNat, 0]

def k0_chk502 (i : grid0.Coords) (v0 : BitVec 32) (v1756 : BitVec 32) : Prop :=
  (∀ (k0_h4 : k0_cond4 i v0 = 1#1), ∀ a, (k0_off749 v1756) a + S1x2048.size a ≤ S8704x2048.size a)
theorem k0_off749_inb : ∀ (i : grid0.Coords) (v0 : BitVec 32) (v1756 : BitVec 32) (k0_hw502 : k0_chk502 i v0 v1756), ∀ (k0_h4 : k0_cond4 i v0 = 1#1), ∀ a, (k0_off749 v1756) a + S1x2048.size a ≤ S8704x2048.size a := fun i v0 v1756 k0_hw502 k0_h4 => k0_hw502 k0_h4

def k0_off750 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c245_i32 : BitVec 32 := 245#32
  let v1761 : BitVec 32 := Scalar.addi v45 c245_i32
  let v1762 : Index := Scalar.indexCast v1761
  ![v1762.toNat]
def k0_off751 (v1763 : BitVec 32) : Fin 2 → Nat :=
  let c0_i32_1009 : BitVec 32 := 0#32
  ![v1763.toNat, 0]

def k0_chk503 (i : grid0.Coords) (v0 : BitVec 32) (v1763 : BitVec 32) : Prop :=
  (∀ (k0_h4 : k0_cond4 i v0 = 1#1), ∀ a, (k0_off751 v1763) a + S1x2048.size a ≤ S8704x2048.size a)
theorem k0_off751_inb : ∀ (i : grid0.Coords) (v0 : BitVec 32) (v1763 : BitVec 32) (k0_hw503 : k0_chk503 i v0 v1763), ∀ (k0_h4 : k0_cond4 i v0 = 1#1), ∀ a, (k0_off751 v1763) a + S1x2048.size a ≤ S8704x2048.size a := fun i v0 v1763 k0_hw503 k0_h4 => k0_hw503 k0_h4

def k0_off752 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c246_i32 : BitVec 32 := 246#32
  let v1768 : BitVec 32 := Scalar.addi v45 c246_i32
  let v1769 : Index := Scalar.indexCast v1768
  ![v1769.toNat]
def k0_off753 (v1770 : BitVec 32) : Fin 2 → Nat :=
  let c0_i32_1013 : BitVec 32 := 0#32
  ![v1770.toNat, 0]

def k0_chk504 (i : grid0.Coords) (v0 : BitVec 32) (v1770 : BitVec 32) : Prop :=
  (∀ (k0_h4 : k0_cond4 i v0 = 1#1), ∀ a, (k0_off753 v1770) a + S1x2048.size a ≤ S8704x2048.size a)
theorem k0_off753_inb : ∀ (i : grid0.Coords) (v0 : BitVec 32) (v1770 : BitVec 32) (k0_hw504 : k0_chk504 i v0 v1770), ∀ (k0_h4 : k0_cond4 i v0 = 1#1), ∀ a, (k0_off753 v1770) a + S1x2048.size a ≤ S8704x2048.size a := fun i v0 v1770 k0_hw504 k0_h4 => k0_hw504 k0_h4

def k0_off754 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c247_i32 : BitVec 32 := 247#32
  let v1775 : BitVec 32 := Scalar.addi v45 c247_i32
  let v1776 : Index := Scalar.indexCast v1775
  ![v1776.toNat]
def k0_off755 (v1777 : BitVec 32) : Fin 2 → Nat :=
  let c0_i32_1017 : BitVec 32 := 0#32
  ![v1777.toNat, 0]

def k0_chk505 (i : grid0.Coords) (v0 : BitVec 32) (v1777 : BitVec 32) : Prop :=
  (∀ (k0_h4 : k0_cond4 i v0 = 1#1), ∀ a, (k0_off755 v1777) a + S1x2048.size a ≤ S8704x2048.size a)
theorem k0_off755_inb : ∀ (i : grid0.Coords) (v0 : BitVec 32) (v1777 : BitVec 32) (k0_hw505 : k0_chk505 i v0 v1777), ∀ (k0_h4 : k0_cond4 i v0 = 1#1), ∀ a, (k0_off755 v1777) a + S1x2048.size a ≤ S8704x2048.size a := fun i v0 v1777 k0_hw505 k0_h4 => k0_hw505 k0_h4

def k0_off756 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c248_i32 : BitVec 32 := 248#32
  let v1782 : BitVec 32 := Scalar.addi v45 c248_i32
  let v1783 : Index := Scalar.indexCast v1782
  ![v1783.toNat]
def k0_off757 (v1784 : BitVec 32) : Fin 2 → Nat :=
  let c0_i32_1021 : BitVec 32 := 0#32
  ![v1784.toNat, 0]

def k0_chk506 (i : grid0.Coords) (v0 : BitVec 32) (v1784 : BitVec 32) : Prop :=
  (∀ (k0_h4 : k0_cond4 i v0 = 1#1), ∀ a, (k0_off757 v1784) a + S1x2048.size a ≤ S8704x2048.size a)
theorem k0_off757_inb : ∀ (i : grid0.Coords) (v0 : BitVec 32) (v1784 : BitVec 32) (k0_hw506 : k0_chk506 i v0 v1784), ∀ (k0_h4 : k0_cond4 i v0 = 1#1), ∀ a, (k0_off757 v1784) a + S1x2048.size a ≤ S8704x2048.size a := fun i v0 v1784 k0_hw506 k0_h4 => k0_hw506 k0_h4

def k0_off758 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c249_i32 : BitVec 32 := 249#32
  let v1789 : BitVec 32 := Scalar.addi v45 c249_i32
  let v1790 : Index := Scalar.indexCast v1789
  ![v1790.toNat]
def k0_off759 (v1791 : BitVec 32) : Fin 2 → Nat :=
  let c0_i32_1025 : BitVec 32 := 0#32
  ![v1791.toNat, 0]

def k0_chk507 (i : grid0.Coords) (v0 : BitVec 32) (v1791 : BitVec 32) : Prop :=
  (∀ (k0_h4 : k0_cond4 i v0 = 1#1), ∀ a, (k0_off759 v1791) a + S1x2048.size a ≤ S8704x2048.size a)
theorem k0_off759_inb : ∀ (i : grid0.Coords) (v0 : BitVec 32) (v1791 : BitVec 32) (k0_hw507 : k0_chk507 i v0 v1791), ∀ (k0_h4 : k0_cond4 i v0 = 1#1), ∀ a, (k0_off759 v1791) a + S1x2048.size a ≤ S8704x2048.size a := fun i v0 v1791 k0_hw507 k0_h4 => k0_hw507 k0_h4

def k0_off760 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c250_i32 : BitVec 32 := 250#32
  let v1796 : BitVec 32 := Scalar.addi v45 c250_i32
  let v1797 : Index := Scalar.indexCast v1796
  ![v1797.toNat]
def k0_off761 (v1798 : BitVec 32) : Fin 2 → Nat :=
  let c0_i32_1029 : BitVec 32 := 0#32
  ![v1798.toNat, 0]

def k0_chk508 (i : grid0.Coords) (v0 : BitVec 32) (v1798 : BitVec 32) : Prop :=
  (∀ (k0_h4 : k0_cond4 i v0 = 1#1), ∀ a, (k0_off761 v1798) a + S1x2048.size a ≤ S8704x2048.size a)
theorem k0_off761_inb : ∀ (i : grid0.Coords) (v0 : BitVec 32) (v1798 : BitVec 32) (k0_hw508 : k0_chk508 i v0 v1798), ∀ (k0_h4 : k0_cond4 i v0 = 1#1), ∀ a, (k0_off761 v1798) a + S1x2048.size a ≤ S8704x2048.size a := fun i v0 v1798 k0_hw508 k0_h4 => k0_hw508 k0_h4

def k0_off762 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c251_i32 : BitVec 32 := 251#32
  let v1803 : BitVec 32 := Scalar.addi v45 c251_i32
  let v1804 : Index := Scalar.indexCast v1803
  ![v1804.toNat]
def k0_off763 (v1805 : BitVec 32) : Fin 2 → Nat :=
  let c0_i32_1033 : BitVec 32 := 0#32
  ![v1805.toNat, 0]

def k0_chk509 (i : grid0.Coords) (v0 : BitVec 32) (v1805 : BitVec 32) : Prop :=
  (∀ (k0_h4 : k0_cond4 i v0 = 1#1), ∀ a, (k0_off763 v1805) a + S1x2048.size a ≤ S8704x2048.size a)
theorem k0_off763_inb : ∀ (i : grid0.Coords) (v0 : BitVec 32) (v1805 : BitVec 32) (k0_hw509 : k0_chk509 i v0 v1805), ∀ (k0_h4 : k0_cond4 i v0 = 1#1), ∀ a, (k0_off763 v1805) a + S1x2048.size a ≤ S8704x2048.size a := fun i v0 v1805 k0_hw509 k0_h4 => k0_hw509 k0_h4

def k0_off764 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c252_i32 : BitVec 32 := 252#32
  let v1810 : BitVec 32 := Scalar.addi v45 c252_i32
  let v1811 : Index := Scalar.indexCast v1810
  ![v1811.toNat]
def k0_off765 (v1812 : BitVec 32) : Fin 2 → Nat :=
  let c0_i32_1037 : BitVec 32 := 0#32
  ![v1812.toNat, 0]

def k0_chk510 (i : grid0.Coords) (v0 : BitVec 32) (v1812 : BitVec 32) : Prop :=
  (∀ (k0_h4 : k0_cond4 i v0 = 1#1), ∀ a, (k0_off765 v1812) a + S1x2048.size a ≤ S8704x2048.size a)
theorem k0_off765_inb : ∀ (i : grid0.Coords) (v0 : BitVec 32) (v1812 : BitVec 32) (k0_hw510 : k0_chk510 i v0 v1812), ∀ (k0_h4 : k0_cond4 i v0 = 1#1), ∀ a, (k0_off765 v1812) a + S1x2048.size a ≤ S8704x2048.size a := fun i v0 v1812 k0_hw510 k0_h4 => k0_hw510 k0_h4

def k0_off766 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c253_i32 : BitVec 32 := 253#32
  let v1817 : BitVec 32 := Scalar.addi v45 c253_i32
  let v1818 : Index := Scalar.indexCast v1817
  ![v1818.toNat]
def k0_off767 (v1819 : BitVec 32) : Fin 2 → Nat :=
  let c0_i32_1041 : BitVec 32 := 0#32
  ![v1819.toNat, 0]

def k0_chk511 (i : grid0.Coords) (v0 : BitVec 32) (v1819 : BitVec 32) : Prop :=
  (∀ (k0_h4 : k0_cond4 i v0 = 1#1), ∀ a, (k0_off767 v1819) a + S1x2048.size a ≤ S8704x2048.size a)
theorem k0_off767_inb : ∀ (i : grid0.Coords) (v0 : BitVec 32) (v1819 : BitVec 32) (k0_hw511 : k0_chk511 i v0 v1819), ∀ (k0_h4 : k0_cond4 i v0 = 1#1), ∀ a, (k0_off767 v1819) a + S1x2048.size a ≤ S8704x2048.size a := fun i v0 v1819 k0_hw511 k0_h4 => k0_hw511 k0_h4

def k0_off768 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c254_i32 : BitVec 32 := 254#32
  let v1824 : BitVec 32 := Scalar.addi v45 c254_i32
  let v1825 : Index := Scalar.indexCast v1824
  ![v1825.toNat]
def k0_off769 (v1826 : BitVec 32) : Fin 2 → Nat :=
  let c0_i32_1045 : BitVec 32 := 0#32
  ![v1826.toNat, 0]

def k0_chk512 (i : grid0.Coords) (v0 : BitVec 32) (v1826 : BitVec 32) : Prop :=
  (∀ (k0_h4 : k0_cond4 i v0 = 1#1), ∀ a, (k0_off769 v1826) a + S1x2048.size a ≤ S8704x2048.size a)
theorem k0_off769_inb : ∀ (i : grid0.Coords) (v0 : BitVec 32) (v1826 : BitVec 32) (k0_hw512 : k0_chk512 i v0 v1826), ∀ (k0_h4 : k0_cond4 i v0 = 1#1), ∀ a, (k0_off769 v1826) a + S1x2048.size a ≤ S8704x2048.size a := fun i v0 v1826 k0_hw512 k0_h4 => k0_hw512 k0_h4

def k0_off770 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c255_i32 : BitVec 32 := 255#32
  let v1831 : BitVec 32 := Scalar.addi v45 c255_i32
  let v1832 : Index := Scalar.indexCast v1831
  ![v1832.toNat]
def k0_off771 (v1833 : BitVec 32) : Fin 2 → Nat :=
  let c0_i32_1049 : BitVec 32 := 0#32
  ![v1833.toNat, 0]

def k0_chk513 (i : grid0.Coords) (v0 : BitVec 32) (v1833 : BitVec 32) : Prop :=
  (∀ (k0_h4 : k0_cond4 i v0 = 1#1), ∀ a, (k0_off771 v1833) a + S1x2048.size a ≤ S8704x2048.size a)
theorem k0_off771_inb : ∀ (i : grid0.Coords) (v0 : BitVec 32) (v1833 : BitVec 32) (k0_hw513 : k0_chk513 i v0 v1833), ∀ (k0_h4 : k0_cond4 i v0 = 1#1), ∀ a, (k0_off771 v1833) a + S1x2048.size a ≤ S8704x2048.size a := fun i v0 v1833 k0_hw513 k0_h4 => k0_hw513 k0_h4

def k0_off772 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c0_i32_23 : BitVec 32 := 0#32
  let v46 : BitVec 32 := Scalar.addi v45 c0_i32_23
  let v47 : Index := Scalar.indexCast v46
  ![v47.toNat]
def k0_cond6 (i : grid0.Coords) (v0 : BitVec 32) : BitVec 1 :=
  let arg0 : BitVec 32 := BitVec.ofNat 32 (i 0).val
  let v1 : BitVec 1 := Scalar.cmpi .slt arg0 v0
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi arg0 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_14 : BitVec 32 := 1#32
  let v31 : BitVec 1 := Scalar.cmpi .eq v30 c1_i32_14
  let v32 : BitVec 1 := Scalar.andi v1 v31
  let v33 : BitVec 32 := Scalar.extui v32
  let c0_i32_15 : BitVec 32 := 0#32
  let v34 : BitVec 1 := Scalar.cmpi .ne v33 c0_i32_15
  v34

def k0_off773 (v48 : BitVec 32) : Fin 2 → Nat :=
  let c0_i32_27 : BitVec 32 := 0#32
  ![v48.toNat, 0]

def k0_chk514 (i : grid0.Coords) (v0 : BitVec 32) (v48 : BitVec 32) : Prop :=
  (∀ (k0_h6 : k0_cond6 i v0 = 1#1), ∀ a, (k0_off773 v48) a + S1x2048.size a ≤ S8704x2048.size a)
theorem k0_off773_inb : ∀ (i : grid0.Coords) (v0 : BitVec 32) (v48 : BitVec 32) (k0_hw514 : k0_chk514 i v0 v48), ∀ (k0_h6 : k0_cond6 i v0 = 1#1), ∀ a, (k0_off773 v48) a + S1x2048.size a ≤ S8704x2048.size a := fun i v0 v48 k0_hw514 k0_h6 => k0_hw514 k0_h6

def k0_off774 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c1_i32_28 : BitVec 32 := 1#32
  let v53 : BitVec 32 := Scalar.addi v45 c1_i32_28
  let v54 : Index := Scalar.indexCast v53
  ![v54.toNat]
def k0_off775 (v55 : BitVec 32) : Fin 2 → Nat :=
  let c0_i32_32 : BitVec 32 := 0#32
  ![v55.toNat, 0]

def k0_chk515 (i : grid0.Coords) (v0 : BitVec 32) (v55 : BitVec 32) : Prop :=
  (∀ (k0_h6 : k0_cond6 i v0 = 1#1), ∀ a, (k0_off775 v55) a + S1x2048.size a ≤ S8704x2048.size a)
theorem k0_off775_inb : ∀ (i : grid0.Coords) (v0 : BitVec 32) (v55 : BitVec 32) (k0_hw515 : k0_chk515 i v0 v55), ∀ (k0_h6 : k0_cond6 i v0 = 1#1), ∀ a, (k0_off775 v55) a + S1x2048.size a ≤ S8704x2048.size a := fun i v0 v55 k0_hw515 k0_h6 => k0_hw515 k0_h6

def k0_off776 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c2_i32_33 : BitVec 32 := 2#32
  let v60 : BitVec 32 := Scalar.addi v45 c2_i32_33
  let v61 : Index := Scalar.indexCast v60
  ![v61.toNat]
def k0_off777 (v62 : BitVec 32) : Fin 2 → Nat :=
  let c0_i32_37 : BitVec 32 := 0#32
  ![v62.toNat, 0]

def k0_chk516 (i : grid0.Coords) (v0 : BitVec 32) (v62 : BitVec 32) : Prop :=
  (∀ (k0_h6 : k0_cond6 i v0 = 1#1), ∀ a, (k0_off777 v62) a + S1x2048.size a ≤ S8704x2048.size a)
theorem k0_off777_inb : ∀ (i : grid0.Coords) (v0 : BitVec 32) (v62 : BitVec 32) (k0_hw516 : k0_chk516 i v0 v62), ∀ (k0_h6 : k0_cond6 i v0 = 1#1), ∀ a, (k0_off777 v62) a + S1x2048.size a ≤ S8704x2048.size a := fun i v0 v62 k0_hw516 k0_h6 => k0_hw516 k0_h6

def k0_off778 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c3_i32 : BitVec 32 := 3#32
  let v67 : BitVec 32 := Scalar.addi v45 c3_i32
  let v68 : Index := Scalar.indexCast v67
  ![v68.toNat]
def k0_off779 (v69 : BitVec 32) : Fin 2 → Nat :=
  let c0_i32_41 : BitVec 32 := 0#32
  ![v69.toNat, 0]

def k0_chk517 (i : grid0.Coords) (v0 : BitVec 32) (v69 : BitVec 32) : Prop :=
  (∀ (k0_h6 : k0_cond6 i v0 = 1#1), ∀ a, (k0_off779 v69) a + S1x2048.size a ≤ S8704x2048.size a)
theorem k0_off779_inb : ∀ (i : grid0.Coords) (v0 : BitVec 32) (v69 : BitVec 32) (k0_hw517 : k0_chk517 i v0 v69), ∀ (k0_h6 : k0_cond6 i v0 = 1#1), ∀ a, (k0_off779 v69) a + S1x2048.size a ≤ S8704x2048.size a := fun i v0 v69 k0_hw517 k0_h6 => k0_hw517 k0_h6

def k0_off780 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c4_i32 : BitVec 32 := 4#32
  let v74 : BitVec 32 := Scalar.addi v45 c4_i32
  let v75 : Index := Scalar.indexCast v74
  ![v75.toNat]
def k0_off781 (v76 : BitVec 32) : Fin 2 → Nat :=
  let c0_i32_45 : BitVec 32 := 0#32
  ![v76.toNat, 0]

def k0_chk518 (i : grid0.Coords) (v0 : BitVec 32) (v76 : BitVec 32) : Prop :=
  (∀ (k0_h6 : k0_cond6 i v0 = 1#1), ∀ a, (k0_off781 v76) a + S1x2048.size a ≤ S8704x2048.size a)
theorem k0_off781_inb : ∀ (i : grid0.Coords) (v0 : BitVec 32) (v76 : BitVec 32) (k0_hw518 : k0_chk518 i v0 v76), ∀ (k0_h6 : k0_cond6 i v0 = 1#1), ∀ a, (k0_off781 v76) a + S1x2048.size a ≤ S8704x2048.size a := fun i v0 v76 k0_hw518 k0_h6 => k0_hw518 k0_h6

def k0_off782 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c5_i32 : BitVec 32 := 5#32
  let v81 : BitVec 32 := Scalar.addi v45 c5_i32
  let v82 : Index := Scalar.indexCast v81
  ![v82.toNat]
def k0_off783 (v83 : BitVec 32) : Fin 2 → Nat :=
  let c0_i32_49 : BitVec 32 := 0#32
  ![v83.toNat, 0]

def k0_chk519 (i : grid0.Coords) (v0 : BitVec 32) (v83 : BitVec 32) : Prop :=
  (∀ (k0_h6 : k0_cond6 i v0 = 1#1), ∀ a, (k0_off783 v83) a + S1x2048.size a ≤ S8704x2048.size a)
theorem k0_off783_inb : ∀ (i : grid0.Coords) (v0 : BitVec 32) (v83 : BitVec 32) (k0_hw519 : k0_chk519 i v0 v83), ∀ (k0_h6 : k0_cond6 i v0 = 1#1), ∀ a, (k0_off783 v83) a + S1x2048.size a ≤ S8704x2048.size a := fun i v0 v83 k0_hw519 k0_h6 => k0_hw519 k0_h6

def k0_off784 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c6_i32 : BitVec 32 := 6#32
  let v88 : BitVec 32 := Scalar.addi v45 c6_i32
  let v89 : Index := Scalar.indexCast v88
  ![v89.toNat]
def k0_off785 (v90 : BitVec 32) : Fin 2 → Nat :=
  let c0_i32_53 : BitVec 32 := 0#32
  ![v90.toNat, 0]

def k0_chk520 (i : grid0.Coords) (v0 : BitVec 32) (v90 : BitVec 32) : Prop :=
  (∀ (k0_h6 : k0_cond6 i v0 = 1#1), ∀ a, (k0_off785 v90) a + S1x2048.size a ≤ S8704x2048.size a)
theorem k0_off785_inb : ∀ (i : grid0.Coords) (v0 : BitVec 32) (v90 : BitVec 32) (k0_hw520 : k0_chk520 i v0 v90), ∀ (k0_h6 : k0_cond6 i v0 = 1#1), ∀ a, (k0_off785 v90) a + S1x2048.size a ≤ S8704x2048.size a := fun i v0 v90 k0_hw520 k0_h6 => k0_hw520 k0_h6

def k0_off786 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c7_i32 : BitVec 32 := 7#32
  let v95 : BitVec 32 := Scalar.addi v45 c7_i32
  let v96 : Index := Scalar.indexCast v95
  ![v96.toNat]
def k0_off787 (v97 : BitVec 32) : Fin 2 → Nat :=
  let c0_i32_57 : BitVec 32 := 0#32
  ![v97.toNat, 0]

def k0_chk521 (i : grid0.Coords) (v0 : BitVec 32) (v97 : BitVec 32) : Prop :=
  (∀ (k0_h6 : k0_cond6 i v0 = 1#1), ∀ a, (k0_off787 v97) a + S1x2048.size a ≤ S8704x2048.size a)
theorem k0_off787_inb : ∀ (i : grid0.Coords) (v0 : BitVec 32) (v97 : BitVec 32) (k0_hw521 : k0_chk521 i v0 v97), ∀ (k0_h6 : k0_cond6 i v0 = 1#1), ∀ a, (k0_off787 v97) a + S1x2048.size a ≤ S8704x2048.size a := fun i v0 v97 k0_hw521 k0_h6 => k0_hw521 k0_h6

def k0_off788 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c8_i32 : BitVec 32 := 8#32
  let v102 : BitVec 32 := Scalar.addi v45 c8_i32
  let v103 : Index := Scalar.indexCast v102
  ![v103.toNat]
def k0_off789 (v104 : BitVec 32) : Fin 2 → Nat :=
  let c0_i32_61 : BitVec 32 := 0#32
  ![v104.toNat, 0]

def k0_chk522 (i : grid0.Coords) (v0 : BitVec 32) (v104 : BitVec 32) : Prop :=
  (∀ (k0_h6 : k0_cond6 i v0 = 1#1), ∀ a, (k0_off789 v104) a + S1x2048.size a ≤ S8704x2048.size a)
theorem k0_off789_inb : ∀ (i : grid0.Coords) (v0 : BitVec 32) (v104 : BitVec 32) (k0_hw522 : k0_chk522 i v0 v104), ∀ (k0_h6 : k0_cond6 i v0 = 1#1), ∀ a, (k0_off789 v104) a + S1x2048.size a ≤ S8704x2048.size a := fun i v0 v104 k0_hw522 k0_h6 => k0_hw522 k0_h6

def k0_off790 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c9_i32 : BitVec 32 := 9#32
  let v109 : BitVec 32 := Scalar.addi v45 c9_i32
  let v110 : Index := Scalar.indexCast v109
  ![v110.toNat]
def k0_off791 (v111 : BitVec 32) : Fin 2 → Nat :=
  let c0_i32_65 : BitVec 32 := 0#32
  ![v111.toNat, 0]

def k0_chk523 (i : grid0.Coords) (v0 : BitVec 32) (v111 : BitVec 32) : Prop :=
  (∀ (k0_h6 : k0_cond6 i v0 = 1#1), ∀ a, (k0_off791 v111) a + S1x2048.size a ≤ S8704x2048.size a)
theorem k0_off791_inb : ∀ (i : grid0.Coords) (v0 : BitVec 32) (v111 : BitVec 32) (k0_hw523 : k0_chk523 i v0 v111), ∀ (k0_h6 : k0_cond6 i v0 = 1#1), ∀ a, (k0_off791 v111) a + S1x2048.size a ≤ S8704x2048.size a := fun i v0 v111 k0_hw523 k0_h6 => k0_hw523 k0_h6

def k0_off792 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c10_i32 : BitVec 32 := 10#32
  let v116 : BitVec 32 := Scalar.addi v45 c10_i32
  let v117 : Index := Scalar.indexCast v116
  ![v117.toNat]
def k0_off793 (v118 : BitVec 32) : Fin 2 → Nat :=
  let c0_i32_69 : BitVec 32 := 0#32
  ![v118.toNat, 0]

def k0_chk524 (i : grid0.Coords) (v0 : BitVec 32) (v118 : BitVec 32) : Prop :=
  (∀ (k0_h6 : k0_cond6 i v0 = 1#1), ∀ a, (k0_off793 v118) a + S1x2048.size a ≤ S8704x2048.size a)
theorem k0_off793_inb : ∀ (i : grid0.Coords) (v0 : BitVec 32) (v118 : BitVec 32) (k0_hw524 : k0_chk524 i v0 v118), ∀ (k0_h6 : k0_cond6 i v0 = 1#1), ∀ a, (k0_off793 v118) a + S1x2048.size a ≤ S8704x2048.size a := fun i v0 v118 k0_hw524 k0_h6 => k0_hw524 k0_h6

def k0_off794 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c11_i32 : BitVec 32 := 11#32
  let v123 : BitVec 32 := Scalar.addi v45 c11_i32
  let v124 : Index := Scalar.indexCast v123
  ![v124.toNat]
def k0_off795 (v125 : BitVec 32) : Fin 2 → Nat :=
  let c0_i32_73 : BitVec 32 := 0#32
  ![v125.toNat, 0]

def k0_chk525 (i : grid0.Coords) (v0 : BitVec 32) (v125 : BitVec 32) : Prop :=
  (∀ (k0_h6 : k0_cond6 i v0 = 1#1), ∀ a, (k0_off795 v125) a + S1x2048.size a ≤ S8704x2048.size a)
theorem k0_off795_inb : ∀ (i : grid0.Coords) (v0 : BitVec 32) (v125 : BitVec 32) (k0_hw525 : k0_chk525 i v0 v125), ∀ (k0_h6 : k0_cond6 i v0 = 1#1), ∀ a, (k0_off795 v125) a + S1x2048.size a ≤ S8704x2048.size a := fun i v0 v125 k0_hw525 k0_h6 => k0_hw525 k0_h6

def k0_off796 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c12_i32 : BitVec 32 := 12#32
  let v130 : BitVec 32 := Scalar.addi v45 c12_i32
  let v131 : Index := Scalar.indexCast v130
  ![v131.toNat]
def k0_off797 (v132 : BitVec 32) : Fin 2 → Nat :=
  let c0_i32_77 : BitVec 32 := 0#32
  ![v132.toNat, 0]

def k0_chk526 (i : grid0.Coords) (v0 : BitVec 32) (v132 : BitVec 32) : Prop :=
  (∀ (k0_h6 : k0_cond6 i v0 = 1#1), ∀ a, (k0_off797 v132) a + S1x2048.size a ≤ S8704x2048.size a)
theorem k0_off797_inb : ∀ (i : grid0.Coords) (v0 : BitVec 32) (v132 : BitVec 32) (k0_hw526 : k0_chk526 i v0 v132), ∀ (k0_h6 : k0_cond6 i v0 = 1#1), ∀ a, (k0_off797 v132) a + S1x2048.size a ≤ S8704x2048.size a := fun i v0 v132 k0_hw526 k0_h6 => k0_hw526 k0_h6

def k0_off798 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c13_i32 : BitVec 32 := 13#32
  let v137 : BitVec 32 := Scalar.addi v45 c13_i32
  let v138 : Index := Scalar.indexCast v137
  ![v138.toNat]
def k0_off799 (v139 : BitVec 32) : Fin 2 → Nat :=
  let c0_i32_81 : BitVec 32 := 0#32
  ![v139.toNat, 0]

def k0_chk527 (i : grid0.Coords) (v0 : BitVec 32) (v139 : BitVec 32) : Prop :=
  (∀ (k0_h6 : k0_cond6 i v0 = 1#1), ∀ a, (k0_off799 v139) a + S1x2048.size a ≤ S8704x2048.size a)
theorem k0_off799_inb : ∀ (i : grid0.Coords) (v0 : BitVec 32) (v139 : BitVec 32) (k0_hw527 : k0_chk527 i v0 v139), ∀ (k0_h6 : k0_cond6 i v0 = 1#1), ∀ a, (k0_off799 v139) a + S1x2048.size a ≤ S8704x2048.size a := fun i v0 v139 k0_hw527 k0_h6 => k0_hw527 k0_h6

def k0_off800 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c14_i32 : BitVec 32 := 14#32
  let v144 : BitVec 32 := Scalar.addi v45 c14_i32
  let v145 : Index := Scalar.indexCast v144
  ![v145.toNat]
def k0_off801 (v146 : BitVec 32) : Fin 2 → Nat :=
  let c0_i32_85 : BitVec 32 := 0#32
  ![v146.toNat, 0]

def k0_chk528 (i : grid0.Coords) (v0 : BitVec 32) (v146 : BitVec 32) : Prop :=
  (∀ (k0_h6 : k0_cond6 i v0 = 1#1), ∀ a, (k0_off801 v146) a + S1x2048.size a ≤ S8704x2048.size a)
theorem k0_off801_inb : ∀ (i : grid0.Coords) (v0 : BitVec 32) (v146 : BitVec 32) (k0_hw528 : k0_chk528 i v0 v146), ∀ (k0_h6 : k0_cond6 i v0 = 1#1), ∀ a, (k0_off801 v146) a + S1x2048.size a ≤ S8704x2048.size a := fun i v0 v146 k0_hw528 k0_h6 => k0_hw528 k0_h6

def k0_off802 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c15_i32 : BitVec 32 := 15#32
  let v151 : BitVec 32 := Scalar.addi v45 c15_i32
  let v152 : Index := Scalar.indexCast v151
  ![v152.toNat]
def k0_off803 (v153 : BitVec 32) : Fin 2 → Nat :=
  let c0_i32_89 : BitVec 32 := 0#32
  ![v153.toNat, 0]

def k0_chk529 (i : grid0.Coords) (v0 : BitVec 32) (v153 : BitVec 32) : Prop :=
  (∀ (k0_h6 : k0_cond6 i v0 = 1#1), ∀ a, (k0_off803 v153) a + S1x2048.size a ≤ S8704x2048.size a)
theorem k0_off803_inb : ∀ (i : grid0.Coords) (v0 : BitVec 32) (v153 : BitVec 32) (k0_hw529 : k0_chk529 i v0 v153), ∀ (k0_h6 : k0_cond6 i v0 = 1#1), ∀ a, (k0_off803 v153) a + S1x2048.size a ≤ S8704x2048.size a := fun i v0 v153 k0_hw529 k0_h6 => k0_hw529 k0_h6

def k0_off804 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c16_i32 : BitVec 32 := 16#32
  let v158 : BitVec 32 := Scalar.addi v45 c16_i32
  let v159 : Index := Scalar.indexCast v158
  ![v159.toNat]
def k0_off805 (v160 : BitVec 32) : Fin 2 → Nat :=
  let c0_i32_93 : BitVec 32 := 0#32
  ![v160.toNat, 0]

def k0_chk530 (i : grid0.Coords) (v0 : BitVec 32) (v160 : BitVec 32) : Prop :=
  (∀ (k0_h6 : k0_cond6 i v0 = 1#1), ∀ a, (k0_off805 v160) a + S1x2048.size a ≤ S8704x2048.size a)
theorem k0_off805_inb : ∀ (i : grid0.Coords) (v0 : BitVec 32) (v160 : BitVec 32) (k0_hw530 : k0_chk530 i v0 v160), ∀ (k0_h6 : k0_cond6 i v0 = 1#1), ∀ a, (k0_off805 v160) a + S1x2048.size a ≤ S8704x2048.size a := fun i v0 v160 k0_hw530 k0_h6 => k0_hw530 k0_h6

def k0_off806 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c17_i32 : BitVec 32 := 17#32
  let v165 : BitVec 32 := Scalar.addi v45 c17_i32
  let v166 : Index := Scalar.indexCast v165
  ![v166.toNat]
def k0_off807 (v167 : BitVec 32) : Fin 2 → Nat :=
  let c0_i32_97 : BitVec 32 := 0#32
  ![v167.toNat, 0]

def k0_chk531 (i : grid0.Coords) (v0 : BitVec 32) (v167 : BitVec 32) : Prop :=
  (∀ (k0_h6 : k0_cond6 i v0 = 1#1), ∀ a, (k0_off807 v167) a + S1x2048.size a ≤ S8704x2048.size a)
theorem k0_off807_inb : ∀ (i : grid0.Coords) (v0 : BitVec 32) (v167 : BitVec 32) (k0_hw531 : k0_chk531 i v0 v167), ∀ (k0_h6 : k0_cond6 i v0 = 1#1), ∀ a, (k0_off807 v167) a + S1x2048.size a ≤ S8704x2048.size a := fun i v0 v167 k0_hw531 k0_h6 => k0_hw531 k0_h6

def k0_off808 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c18_i32 : BitVec 32 := 18#32
  let v172 : BitVec 32 := Scalar.addi v45 c18_i32
  let v173 : Index := Scalar.indexCast v172
  ![v173.toNat]
def k0_off809 (v174 : BitVec 32) : Fin 2 → Nat :=
  let c0_i32_101 : BitVec 32 := 0#32
  ![v174.toNat, 0]

def k0_chk532 (i : grid0.Coords) (v0 : BitVec 32) (v174 : BitVec 32) : Prop :=
  (∀ (k0_h6 : k0_cond6 i v0 = 1#1), ∀ a, (k0_off809 v174) a + S1x2048.size a ≤ S8704x2048.size a)
theorem k0_off809_inb : ∀ (i : grid0.Coords) (v0 : BitVec 32) (v174 : BitVec 32) (k0_hw532 : k0_chk532 i v0 v174), ∀ (k0_h6 : k0_cond6 i v0 = 1#1), ∀ a, (k0_off809 v174) a + S1x2048.size a ≤ S8704x2048.size a := fun i v0 v174 k0_hw532 k0_h6 => k0_hw532 k0_h6

def k0_off810 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c19_i32 : BitVec 32 := 19#32
  let v179 : BitVec 32 := Scalar.addi v45 c19_i32
  let v180 : Index := Scalar.indexCast v179
  ![v180.toNat]
def k0_off811 (v181 : BitVec 32) : Fin 2 → Nat :=
  let c0_i32_105 : BitVec 32 := 0#32
  ![v181.toNat, 0]

def k0_chk533 (i : grid0.Coords) (v0 : BitVec 32) (v181 : BitVec 32) : Prop :=
  (∀ (k0_h6 : k0_cond6 i v0 = 1#1), ∀ a, (k0_off811 v181) a + S1x2048.size a ≤ S8704x2048.size a)
theorem k0_off811_inb : ∀ (i : grid0.Coords) (v0 : BitVec 32) (v181 : BitVec 32) (k0_hw533 : k0_chk533 i v0 v181), ∀ (k0_h6 : k0_cond6 i v0 = 1#1), ∀ a, (k0_off811 v181) a + S1x2048.size a ≤ S8704x2048.size a := fun i v0 v181 k0_hw533 k0_h6 => k0_hw533 k0_h6

def k0_off812 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c20_i32 : BitVec 32 := 20#32
  let v186 : BitVec 32 := Scalar.addi v45 c20_i32
  let v187 : Index := Scalar.indexCast v186
  ![v187.toNat]
def k0_off813 (v188 : BitVec 32) : Fin 2 → Nat :=
  let c0_i32_109 : BitVec 32 := 0#32
  ![v188.toNat, 0]

def k0_chk534 (i : grid0.Coords) (v0 : BitVec 32) (v188 : BitVec 32) : Prop :=
  (∀ (k0_h6 : k0_cond6 i v0 = 1#1), ∀ a, (k0_off813 v188) a + S1x2048.size a ≤ S8704x2048.size a)
theorem k0_off813_inb : ∀ (i : grid0.Coords) (v0 : BitVec 32) (v188 : BitVec 32) (k0_hw534 : k0_chk534 i v0 v188), ∀ (k0_h6 : k0_cond6 i v0 = 1#1), ∀ a, (k0_off813 v188) a + S1x2048.size a ≤ S8704x2048.size a := fun i v0 v188 k0_hw534 k0_h6 => k0_hw534 k0_h6

def k0_off814 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c21_i32 : BitVec 32 := 21#32
  let v193 : BitVec 32 := Scalar.addi v45 c21_i32
  let v194 : Index := Scalar.indexCast v193
  ![v194.toNat]
def k0_off815 (v195 : BitVec 32) : Fin 2 → Nat :=
  let c0_i32_113 : BitVec 32 := 0#32
  ![v195.toNat, 0]

def k0_chk535 (i : grid0.Coords) (v0 : BitVec 32) (v195 : BitVec 32) : Prop :=
  (∀ (k0_h6 : k0_cond6 i v0 = 1#1), ∀ a, (k0_off815 v195) a + S1x2048.size a ≤ S8704x2048.size a)
theorem k0_off815_inb : ∀ (i : grid0.Coords) (v0 : BitVec 32) (v195 : BitVec 32) (k0_hw535 : k0_chk535 i v0 v195), ∀ (k0_h6 : k0_cond6 i v0 = 1#1), ∀ a, (k0_off815 v195) a + S1x2048.size a ≤ S8704x2048.size a := fun i v0 v195 k0_hw535 k0_h6 => k0_hw535 k0_h6

def k0_off816 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c22_i32 : BitVec 32 := 22#32
  let v200 : BitVec 32 := Scalar.addi v45 c22_i32
  let v201 : Index := Scalar.indexCast v200
  ![v201.toNat]
def k0_off817 (v202 : BitVec 32) : Fin 2 → Nat :=
  let c0_i32_117 : BitVec 32 := 0#32
  ![v202.toNat, 0]

def k0_chk536 (i : grid0.Coords) (v0 : BitVec 32) (v202 : BitVec 32) : Prop :=
  (∀ (k0_h6 : k0_cond6 i v0 = 1#1), ∀ a, (k0_off817 v202) a + S1x2048.size a ≤ S8704x2048.size a)
theorem k0_off817_inb : ∀ (i : grid0.Coords) (v0 : BitVec 32) (v202 : BitVec 32) (k0_hw536 : k0_chk536 i v0 v202), ∀ (k0_h6 : k0_cond6 i v0 = 1#1), ∀ a, (k0_off817 v202) a + S1x2048.size a ≤ S8704x2048.size a := fun i v0 v202 k0_hw536 k0_h6 => k0_hw536 k0_h6

def k0_off818 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c23_i32 : BitVec 32 := 23#32
  let v207 : BitVec 32 := Scalar.addi v45 c23_i32
  let v208 : Index := Scalar.indexCast v207
  ![v208.toNat]
def k0_off819 (v209 : BitVec 32) : Fin 2 → Nat :=
  let c0_i32_121 : BitVec 32 := 0#32
  ![v209.toNat, 0]

def k0_chk537 (i : grid0.Coords) (v0 : BitVec 32) (v209 : BitVec 32) : Prop :=
  (∀ (k0_h6 : k0_cond6 i v0 = 1#1), ∀ a, (k0_off819 v209) a + S1x2048.size a ≤ S8704x2048.size a)
theorem k0_off819_inb : ∀ (i : grid0.Coords) (v0 : BitVec 32) (v209 : BitVec 32) (k0_hw537 : k0_chk537 i v0 v209), ∀ (k0_h6 : k0_cond6 i v0 = 1#1), ∀ a, (k0_off819 v209) a + S1x2048.size a ≤ S8704x2048.size a := fun i v0 v209 k0_hw537 k0_h6 => k0_hw537 k0_h6

def k0_off820 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c24_i32 : BitVec 32 := 24#32
  let v214 : BitVec 32 := Scalar.addi v45 c24_i32
  let v215 : Index := Scalar.indexCast v214
  ![v215.toNat]
def k0_off821 (v216 : BitVec 32) : Fin 2 → Nat :=
  let c0_i32_125 : BitVec 32 := 0#32
  ![v216.toNat, 0]

def k0_chk538 (i : grid0.Coords) (v0 : BitVec 32) (v216 : BitVec 32) : Prop :=
  (∀ (k0_h6 : k0_cond6 i v0 = 1#1), ∀ a, (k0_off821 v216) a + S1x2048.size a ≤ S8704x2048.size a)
theorem k0_off821_inb : ∀ (i : grid0.Coords) (v0 : BitVec 32) (v216 : BitVec 32) (k0_hw538 : k0_chk538 i v0 v216), ∀ (k0_h6 : k0_cond6 i v0 = 1#1), ∀ a, (k0_off821 v216) a + S1x2048.size a ≤ S8704x2048.size a := fun i v0 v216 k0_hw538 k0_h6 => k0_hw538 k0_h6

def k0_off822 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c25_i32 : BitVec 32 := 25#32
  let v221 : BitVec 32 := Scalar.addi v45 c25_i32
  let v222 : Index := Scalar.indexCast v221
  ![v222.toNat]
def k0_off823 (v223 : BitVec 32) : Fin 2 → Nat :=
  let c0_i32_129 : BitVec 32 := 0#32
  ![v223.toNat, 0]

def k0_chk539 (i : grid0.Coords) (v0 : BitVec 32) (v223 : BitVec 32) : Prop :=
  (∀ (k0_h6 : k0_cond6 i v0 = 1#1), ∀ a, (k0_off823 v223) a + S1x2048.size a ≤ S8704x2048.size a)
theorem k0_off823_inb : ∀ (i : grid0.Coords) (v0 : BitVec 32) (v223 : BitVec 32) (k0_hw539 : k0_chk539 i v0 v223), ∀ (k0_h6 : k0_cond6 i v0 = 1#1), ∀ a, (k0_off823 v223) a + S1x2048.size a ≤ S8704x2048.size a := fun i v0 v223 k0_hw539 k0_h6 => k0_hw539 k0_h6

def k0_off824 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c26_i32 : BitVec 32 := 26#32
  let v228 : BitVec 32 := Scalar.addi v45 c26_i32
  let v229 : Index := Scalar.indexCast v228
  ![v229.toNat]
def k0_off825 (v230 : BitVec 32) : Fin 2 → Nat :=
  let c0_i32_133 : BitVec 32 := 0#32
  ![v230.toNat, 0]

def k0_chk540 (i : grid0.Coords) (v0 : BitVec 32) (v230 : BitVec 32) : Prop :=
  (∀ (k0_h6 : k0_cond6 i v0 = 1#1), ∀ a, (k0_off825 v230) a + S1x2048.size a ≤ S8704x2048.size a)
theorem k0_off825_inb : ∀ (i : grid0.Coords) (v0 : BitVec 32) (v230 : BitVec 32) (k0_hw540 : k0_chk540 i v0 v230), ∀ (k0_h6 : k0_cond6 i v0 = 1#1), ∀ a, (k0_off825 v230) a + S1x2048.size a ≤ S8704x2048.size a := fun i v0 v230 k0_hw540 k0_h6 => k0_hw540 k0_h6

def k0_off826 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c27_i32 : BitVec 32 := 27#32
  let v235 : BitVec 32 := Scalar.addi v45 c27_i32
  let v236 : Index := Scalar.indexCast v235
  ![v236.toNat]
def k0_off827 (v237 : BitVec 32) : Fin 2 → Nat :=
  let c0_i32_137 : BitVec 32 := 0#32
  ![v237.toNat, 0]

def k0_chk541 (i : grid0.Coords) (v0 : BitVec 32) (v237 : BitVec 32) : Prop :=
  (∀ (k0_h6 : k0_cond6 i v0 = 1#1), ∀ a, (k0_off827 v237) a + S1x2048.size a ≤ S8704x2048.size a)
theorem k0_off827_inb : ∀ (i : grid0.Coords) (v0 : BitVec 32) (v237 : BitVec 32) (k0_hw541 : k0_chk541 i v0 v237), ∀ (k0_h6 : k0_cond6 i v0 = 1#1), ∀ a, (k0_off827 v237) a + S1x2048.size a ≤ S8704x2048.size a := fun i v0 v237 k0_hw541 k0_h6 => k0_hw541 k0_h6

def k0_off828 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c28_i32 : BitVec 32 := 28#32
  let v242 : BitVec 32 := Scalar.addi v45 c28_i32
  let v243 : Index := Scalar.indexCast v242
  ![v243.toNat]
def k0_off829 (v244 : BitVec 32) : Fin 2 → Nat :=
  let c0_i32_141 : BitVec 32 := 0#32
  ![v244.toNat, 0]

def k0_chk542 (i : grid0.Coords) (v0 : BitVec 32) (v244 : BitVec 32) : Prop :=
  (∀ (k0_h6 : k0_cond6 i v0 = 1#1), ∀ a, (k0_off829 v244) a + S1x2048.size a ≤ S8704x2048.size a)
theorem k0_off829_inb : ∀ (i : grid0.Coords) (v0 : BitVec 32) (v244 : BitVec 32) (k0_hw542 : k0_chk542 i v0 v244), ∀ (k0_h6 : k0_cond6 i v0 = 1#1), ∀ a, (k0_off829 v244) a + S1x2048.size a ≤ S8704x2048.size a := fun i v0 v244 k0_hw542 k0_h6 => k0_hw542 k0_h6

def k0_off830 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c29_i32 : BitVec 32 := 29#32
  let v249 : BitVec 32 := Scalar.addi v45 c29_i32
  let v250 : Index := Scalar.indexCast v249
  ![v250.toNat]
def k0_off831 (v251 : BitVec 32) : Fin 2 → Nat :=
  let c0_i32_145 : BitVec 32 := 0#32
  ![v251.toNat, 0]

def k0_chk543 (i : grid0.Coords) (v0 : BitVec 32) (v251 : BitVec 32) : Prop :=
  (∀ (k0_h6 : k0_cond6 i v0 = 1#1), ∀ a, (k0_off831 v251) a + S1x2048.size a ≤ S8704x2048.size a)
theorem k0_off831_inb : ∀ (i : grid0.Coords) (v0 : BitVec 32) (v251 : BitVec 32) (k0_hw543 : k0_chk543 i v0 v251), ∀ (k0_h6 : k0_cond6 i v0 = 1#1), ∀ a, (k0_off831 v251) a + S1x2048.size a ≤ S8704x2048.size a := fun i v0 v251 k0_hw543 k0_h6 => k0_hw543 k0_h6

def k0_off832 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c30_i32 : BitVec 32 := 30#32
  let v256 : BitVec 32 := Scalar.addi v45 c30_i32
  let v257 : Index := Scalar.indexCast v256
  ![v257.toNat]
def k0_off833 (v258 : BitVec 32) : Fin 2 → Nat :=
  let c0_i32_149 : BitVec 32 := 0#32
  ![v258.toNat, 0]

def k0_chk544 (i : grid0.Coords) (v0 : BitVec 32) (v258 : BitVec 32) : Prop :=
  (∀ (k0_h6 : k0_cond6 i v0 = 1#1), ∀ a, (k0_off833 v258) a + S1x2048.size a ≤ S8704x2048.size a)
theorem k0_off833_inb : ∀ (i : grid0.Coords) (v0 : BitVec 32) (v258 : BitVec 32) (k0_hw544 : k0_chk544 i v0 v258), ∀ (k0_h6 : k0_cond6 i v0 = 1#1), ∀ a, (k0_off833 v258) a + S1x2048.size a ≤ S8704x2048.size a := fun i v0 v258 k0_hw544 k0_h6 => k0_hw544 k0_h6

def k0_off834 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c31_i32 : BitVec 32 := 31#32
  let v263 : BitVec 32 := Scalar.addi v45 c31_i32
  let v264 : Index := Scalar.indexCast v263
  ![v264.toNat]
def k0_off835 (v265 : BitVec 32) : Fin 2 → Nat :=
  let c0_i32_153 : BitVec 32 := 0#32
  ![v265.toNat, 0]

def k0_chk545 (i : grid0.Coords) (v0 : BitVec 32) (v265 : BitVec 32) : Prop :=
  (∀ (k0_h6 : k0_cond6 i v0 = 1#1), ∀ a, (k0_off835 v265) a + S1x2048.size a ≤ S8704x2048.size a)
theorem k0_off835_inb : ∀ (i : grid0.Coords) (v0 : BitVec 32) (v265 : BitVec 32) (k0_hw545 : k0_chk545 i v0 v265), ∀ (k0_h6 : k0_cond6 i v0 = 1#1), ∀ a, (k0_off835 v265) a + S1x2048.size a ≤ S8704x2048.size a := fun i v0 v265 k0_hw545 k0_h6 => k0_hw545 k0_h6

def k0_off836 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c32_i32 : BitVec 32 := 32#32
  let v270 : BitVec 32 := Scalar.addi v45 c32_i32
  let v271 : Index := Scalar.indexCast v270
  ![v271.toNat]
def k0_off837 (v272 : BitVec 32) : Fin 2 → Nat :=
  let c0_i32_157 : BitVec 32 := 0#32
  ![v272.toNat, 0]

def k0_chk546 (i : grid0.Coords) (v0 : BitVec 32) (v272 : BitVec 32) : Prop :=
  (∀ (k0_h6 : k0_cond6 i v0 = 1#1), ∀ a, (k0_off837 v272) a + S1x2048.size a ≤ S8704x2048.size a)
theorem k0_off837_inb : ∀ (i : grid0.Coords) (v0 : BitVec 32) (v272 : BitVec 32) (k0_hw546 : k0_chk546 i v0 v272), ∀ (k0_h6 : k0_cond6 i v0 = 1#1), ∀ a, (k0_off837 v272) a + S1x2048.size a ≤ S8704x2048.size a := fun i v0 v272 k0_hw546 k0_h6 => k0_hw546 k0_h6

def k0_off838 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c33_i32 : BitVec 32 := 33#32
  let v277 : BitVec 32 := Scalar.addi v45 c33_i32
  let v278 : Index := Scalar.indexCast v277
  ![v278.toNat]
def k0_off839 (v279 : BitVec 32) : Fin 2 → Nat :=
  let c0_i32_161 : BitVec 32 := 0#32
  ![v279.toNat, 0]

def k0_chk547 (i : grid0.Coords) (v0 : BitVec 32) (v279 : BitVec 32) : Prop :=
  (∀ (k0_h6 : k0_cond6 i v0 = 1#1), ∀ a, (k0_off839 v279) a + S1x2048.size a ≤ S8704x2048.size a)
theorem k0_off839_inb : ∀ (i : grid0.Coords) (v0 : BitVec 32) (v279 : BitVec 32) (k0_hw547 : k0_chk547 i v0 v279), ∀ (k0_h6 : k0_cond6 i v0 = 1#1), ∀ a, (k0_off839 v279) a + S1x2048.size a ≤ S8704x2048.size a := fun i v0 v279 k0_hw547 k0_h6 => k0_hw547 k0_h6

def k0_off840 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c34_i32 : BitVec 32 := 34#32
  let v284 : BitVec 32 := Scalar.addi v45 c34_i32
  let v285 : Index := Scalar.indexCast v284
  ![v285.toNat]
def k0_off841 (v286 : BitVec 32) : Fin 2 → Nat :=
  let c0_i32_165 : BitVec 32 := 0#32
  ![v286.toNat, 0]

def k0_chk548 (i : grid0.Coords) (v0 : BitVec 32) (v286 : BitVec 32) : Prop :=
  (∀ (k0_h6 : k0_cond6 i v0 = 1#1), ∀ a, (k0_off841 v286) a + S1x2048.size a ≤ S8704x2048.size a)
theorem k0_off841_inb : ∀ (i : grid0.Coords) (v0 : BitVec 32) (v286 : BitVec 32) (k0_hw548 : k0_chk548 i v0 v286), ∀ (k0_h6 : k0_cond6 i v0 = 1#1), ∀ a, (k0_off841 v286) a + S1x2048.size a ≤ S8704x2048.size a := fun i v0 v286 k0_hw548 k0_h6 => k0_hw548 k0_h6

def k0_off842 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c35_i32 : BitVec 32 := 35#32
  let v291 : BitVec 32 := Scalar.addi v45 c35_i32
  let v292 : Index := Scalar.indexCast v291
  ![v292.toNat]
def k0_off843 (v293 : BitVec 32) : Fin 2 → Nat :=
  let c0_i32_169 : BitVec 32 := 0#32
  ![v293.toNat, 0]

def k0_chk549 (i : grid0.Coords) (v0 : BitVec 32) (v293 : BitVec 32) : Prop :=
  (∀ (k0_h6 : k0_cond6 i v0 = 1#1), ∀ a, (k0_off843 v293) a + S1x2048.size a ≤ S8704x2048.size a)
theorem k0_off843_inb : ∀ (i : grid0.Coords) (v0 : BitVec 32) (v293 : BitVec 32) (k0_hw549 : k0_chk549 i v0 v293), ∀ (k0_h6 : k0_cond6 i v0 = 1#1), ∀ a, (k0_off843 v293) a + S1x2048.size a ≤ S8704x2048.size a := fun i v0 v293 k0_hw549 k0_h6 => k0_hw549 k0_h6

def k0_off844 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c36_i32 : BitVec 32 := 36#32
  let v298 : BitVec 32 := Scalar.addi v45 c36_i32
  let v299 : Index := Scalar.indexCast v298
  ![v299.toNat]
def k0_off845 (v300 : BitVec 32) : Fin 2 → Nat :=
  let c0_i32_173 : BitVec 32 := 0#32
  ![v300.toNat, 0]

def k0_chk550 (i : grid0.Coords) (v0 : BitVec 32) (v300 : BitVec 32) : Prop :=
  (∀ (k0_h6 : k0_cond6 i v0 = 1#1), ∀ a, (k0_off845 v300) a + S1x2048.size a ≤ S8704x2048.size a)
theorem k0_off845_inb : ∀ (i : grid0.Coords) (v0 : BitVec 32) (v300 : BitVec 32) (k0_hw550 : k0_chk550 i v0 v300), ∀ (k0_h6 : k0_cond6 i v0 = 1#1), ∀ a, (k0_off845 v300) a + S1x2048.size a ≤ S8704x2048.size a := fun i v0 v300 k0_hw550 k0_h6 => k0_hw550 k0_h6

def k0_off846 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c37_i32 : BitVec 32 := 37#32
  let v305 : BitVec 32 := Scalar.addi v45 c37_i32
  let v306 : Index := Scalar.indexCast v305
  ![v306.toNat]
def k0_off847 (v307 : BitVec 32) : Fin 2 → Nat :=
  let c0_i32_177 : BitVec 32 := 0#32
  ![v307.toNat, 0]

def k0_chk551 (i : grid0.Coords) (v0 : BitVec 32) (v307 : BitVec 32) : Prop :=
  (∀ (k0_h6 : k0_cond6 i v0 = 1#1), ∀ a, (k0_off847 v307) a + S1x2048.size a ≤ S8704x2048.size a)
theorem k0_off847_inb : ∀ (i : grid0.Coords) (v0 : BitVec 32) (v307 : BitVec 32) (k0_hw551 : k0_chk551 i v0 v307), ∀ (k0_h6 : k0_cond6 i v0 = 1#1), ∀ a, (k0_off847 v307) a + S1x2048.size a ≤ S8704x2048.size a := fun i v0 v307 k0_hw551 k0_h6 => k0_hw551 k0_h6

def k0_off848 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c38_i32 : BitVec 32 := 38#32
  let v312 : BitVec 32 := Scalar.addi v45 c38_i32
  let v313 : Index := Scalar.indexCast v312
  ![v313.toNat]
def k0_off849 (v314 : BitVec 32) : Fin 2 → Nat :=
  let c0_i32_181 : BitVec 32 := 0#32
  ![v314.toNat, 0]

def k0_chk552 (i : grid0.Coords) (v0 : BitVec 32) (v314 : BitVec 32) : Prop :=
  (∀ (k0_h6 : k0_cond6 i v0 = 1#1), ∀ a, (k0_off849 v314) a + S1x2048.size a ≤ S8704x2048.size a)
theorem k0_off849_inb : ∀ (i : grid0.Coords) (v0 : BitVec 32) (v314 : BitVec 32) (k0_hw552 : k0_chk552 i v0 v314), ∀ (k0_h6 : k0_cond6 i v0 = 1#1), ∀ a, (k0_off849 v314) a + S1x2048.size a ≤ S8704x2048.size a := fun i v0 v314 k0_hw552 k0_h6 => k0_hw552 k0_h6

def k0_off850 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c39_i32 : BitVec 32 := 39#32
  let v319 : BitVec 32 := Scalar.addi v45 c39_i32
  let v320 : Index := Scalar.indexCast v319
  ![v320.toNat]
def k0_off851 (v321 : BitVec 32) : Fin 2 → Nat :=
  let c0_i32_185 : BitVec 32 := 0#32
  ![v321.toNat, 0]

def k0_chk553 (i : grid0.Coords) (v0 : BitVec 32) (v321 : BitVec 32) : Prop :=
  (∀ (k0_h6 : k0_cond6 i v0 = 1#1), ∀ a, (k0_off851 v321) a + S1x2048.size a ≤ S8704x2048.size a)
theorem k0_off851_inb : ∀ (i : grid0.Coords) (v0 : BitVec 32) (v321 : BitVec 32) (k0_hw553 : k0_chk553 i v0 v321), ∀ (k0_h6 : k0_cond6 i v0 = 1#1), ∀ a, (k0_off851 v321) a + S1x2048.size a ≤ S8704x2048.size a := fun i v0 v321 k0_hw553 k0_h6 => k0_hw553 k0_h6

def k0_off852 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c40_i32 : BitVec 32 := 40#32
  let v326 : BitVec 32 := Scalar.addi v45 c40_i32
  let v327 : Index := Scalar.indexCast v326
  ![v327.toNat]
def k0_off853 (v328 : BitVec 32) : Fin 2 → Nat :=
  let c0_i32_189 : BitVec 32 := 0#32
  ![v328.toNat, 0]

def k0_chk554 (i : grid0.Coords) (v0 : BitVec 32) (v328 : BitVec 32) : Prop :=
  (∀ (k0_h6 : k0_cond6 i v0 = 1#1), ∀ a, (k0_off853 v328) a + S1x2048.size a ≤ S8704x2048.size a)
theorem k0_off853_inb : ∀ (i : grid0.Coords) (v0 : BitVec 32) (v328 : BitVec 32) (k0_hw554 : k0_chk554 i v0 v328), ∀ (k0_h6 : k0_cond6 i v0 = 1#1), ∀ a, (k0_off853 v328) a + S1x2048.size a ≤ S8704x2048.size a := fun i v0 v328 k0_hw554 k0_h6 => k0_hw554 k0_h6

def k0_off854 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c41_i32 : BitVec 32 := 41#32
  let v333 : BitVec 32 := Scalar.addi v45 c41_i32
  let v334 : Index := Scalar.indexCast v333
  ![v334.toNat]
def k0_off855 (v335 : BitVec 32) : Fin 2 → Nat :=
  let c0_i32_193 : BitVec 32 := 0#32
  ![v335.toNat, 0]

def k0_chk555 (i : grid0.Coords) (v0 : BitVec 32) (v335 : BitVec 32) : Prop :=
  (∀ (k0_h6 : k0_cond6 i v0 = 1#1), ∀ a, (k0_off855 v335) a + S1x2048.size a ≤ S8704x2048.size a)
theorem k0_off855_inb : ∀ (i : grid0.Coords) (v0 : BitVec 32) (v335 : BitVec 32) (k0_hw555 : k0_chk555 i v0 v335), ∀ (k0_h6 : k0_cond6 i v0 = 1#1), ∀ a, (k0_off855 v335) a + S1x2048.size a ≤ S8704x2048.size a := fun i v0 v335 k0_hw555 k0_h6 => k0_hw555 k0_h6

def k0_off856 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c42_i32 : BitVec 32 := 42#32
  let v340 : BitVec 32 := Scalar.addi v45 c42_i32
  let v341 : Index := Scalar.indexCast v340
  ![v341.toNat]
def k0_off857 (v342 : BitVec 32) : Fin 2 → Nat :=
  let c0_i32_197 : BitVec 32 := 0#32
  ![v342.toNat, 0]

def k0_chk556 (i : grid0.Coords) (v0 : BitVec 32) (v342 : BitVec 32) : Prop :=
  (∀ (k0_h6 : k0_cond6 i v0 = 1#1), ∀ a, (k0_off857 v342) a + S1x2048.size a ≤ S8704x2048.size a)
theorem k0_off857_inb : ∀ (i : grid0.Coords) (v0 : BitVec 32) (v342 : BitVec 32) (k0_hw556 : k0_chk556 i v0 v342), ∀ (k0_h6 : k0_cond6 i v0 = 1#1), ∀ a, (k0_off857 v342) a + S1x2048.size a ≤ S8704x2048.size a := fun i v0 v342 k0_hw556 k0_h6 => k0_hw556 k0_h6

def k0_off858 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c43_i32 : BitVec 32 := 43#32
  let v347 : BitVec 32 := Scalar.addi v45 c43_i32
  let v348 : Index := Scalar.indexCast v347
  ![v348.toNat]
def k0_off859 (v349 : BitVec 32) : Fin 2 → Nat :=
  let c0_i32_201 : BitVec 32 := 0#32
  ![v349.toNat, 0]

def k0_chk557 (i : grid0.Coords) (v0 : BitVec 32) (v349 : BitVec 32) : Prop :=
  (∀ (k0_h6 : k0_cond6 i v0 = 1#1), ∀ a, (k0_off859 v349) a + S1x2048.size a ≤ S8704x2048.size a)
theorem k0_off859_inb : ∀ (i : grid0.Coords) (v0 : BitVec 32) (v349 : BitVec 32) (k0_hw557 : k0_chk557 i v0 v349), ∀ (k0_h6 : k0_cond6 i v0 = 1#1), ∀ a, (k0_off859 v349) a + S1x2048.size a ≤ S8704x2048.size a := fun i v0 v349 k0_hw557 k0_h6 => k0_hw557 k0_h6

def k0_off860 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c44_i32 : BitVec 32 := 44#32
  let v354 : BitVec 32 := Scalar.addi v45 c44_i32
  let v355 : Index := Scalar.indexCast v354
  ![v355.toNat]
def k0_off861 (v356 : BitVec 32) : Fin 2 → Nat :=
  let c0_i32_205 : BitVec 32 := 0#32
  ![v356.toNat, 0]

def k0_chk558 (i : grid0.Coords) (v0 : BitVec 32) (v356 : BitVec 32) : Prop :=
  (∀ (k0_h6 : k0_cond6 i v0 = 1#1), ∀ a, (k0_off861 v356) a + S1x2048.size a ≤ S8704x2048.size a)
theorem k0_off861_inb : ∀ (i : grid0.Coords) (v0 : BitVec 32) (v356 : BitVec 32) (k0_hw558 : k0_chk558 i v0 v356), ∀ (k0_h6 : k0_cond6 i v0 = 1#1), ∀ a, (k0_off861 v356) a + S1x2048.size a ≤ S8704x2048.size a := fun i v0 v356 k0_hw558 k0_h6 => k0_hw558 k0_h6

def k0_off862 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c45_i32 : BitVec 32 := 45#32
  let v361 : BitVec 32 := Scalar.addi v45 c45_i32
  let v362 : Index := Scalar.indexCast v361
  ![v362.toNat]
def k0_off863 (v363 : BitVec 32) : Fin 2 → Nat :=
  let c0_i32_209 : BitVec 32 := 0#32
  ![v363.toNat, 0]

def k0_chk559 (i : grid0.Coords) (v0 : BitVec 32) (v363 : BitVec 32) : Prop :=
  (∀ (k0_h6 : k0_cond6 i v0 = 1#1), ∀ a, (k0_off863 v363) a + S1x2048.size a ≤ S8704x2048.size a)
theorem k0_off863_inb : ∀ (i : grid0.Coords) (v0 : BitVec 32) (v363 : BitVec 32) (k0_hw559 : k0_chk559 i v0 v363), ∀ (k0_h6 : k0_cond6 i v0 = 1#1), ∀ a, (k0_off863 v363) a + S1x2048.size a ≤ S8704x2048.size a := fun i v0 v363 k0_hw559 k0_h6 => k0_hw559 k0_h6

def k0_off864 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c46_i32 : BitVec 32 := 46#32
  let v368 : BitVec 32 := Scalar.addi v45 c46_i32
  let v369 : Index := Scalar.indexCast v368
  ![v369.toNat]
def k0_off865 (v370 : BitVec 32) : Fin 2 → Nat :=
  let c0_i32_213 : BitVec 32 := 0#32
  ![v370.toNat, 0]

def k0_chk560 (i : grid0.Coords) (v0 : BitVec 32) (v370 : BitVec 32) : Prop :=
  (∀ (k0_h6 : k0_cond6 i v0 = 1#1), ∀ a, (k0_off865 v370) a + S1x2048.size a ≤ S8704x2048.size a)
theorem k0_off865_inb : ∀ (i : grid0.Coords) (v0 : BitVec 32) (v370 : BitVec 32) (k0_hw560 : k0_chk560 i v0 v370), ∀ (k0_h6 : k0_cond6 i v0 = 1#1), ∀ a, (k0_off865 v370) a + S1x2048.size a ≤ S8704x2048.size a := fun i v0 v370 k0_hw560 k0_h6 => k0_hw560 k0_h6

def k0_off866 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c47_i32 : BitVec 32 := 47#32
  let v375 : BitVec 32 := Scalar.addi v45 c47_i32
  let v376 : Index := Scalar.indexCast v375
  ![v376.toNat]
def k0_off867 (v377 : BitVec 32) : Fin 2 → Nat :=
  let c0_i32_217 : BitVec 32 := 0#32
  ![v377.toNat, 0]

def k0_chk561 (i : grid0.Coords) (v0 : BitVec 32) (v377 : BitVec 32) : Prop :=
  (∀ (k0_h6 : k0_cond6 i v0 = 1#1), ∀ a, (k0_off867 v377) a + S1x2048.size a ≤ S8704x2048.size a)
theorem k0_off867_inb : ∀ (i : grid0.Coords) (v0 : BitVec 32) (v377 : BitVec 32) (k0_hw561 : k0_chk561 i v0 v377), ∀ (k0_h6 : k0_cond6 i v0 = 1#1), ∀ a, (k0_off867 v377) a + S1x2048.size a ≤ S8704x2048.size a := fun i v0 v377 k0_hw561 k0_h6 => k0_hw561 k0_h6

def k0_off868 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c48_i32 : BitVec 32 := 48#32
  let v382 : BitVec 32 := Scalar.addi v45 c48_i32
  let v383 : Index := Scalar.indexCast v382
  ![v383.toNat]
def k0_off869 (v384 : BitVec 32) : Fin 2 → Nat :=
  let c0_i32_221 : BitVec 32 := 0#32
  ![v384.toNat, 0]

def k0_chk562 (i : grid0.Coords) (v0 : BitVec 32) (v384 : BitVec 32) : Prop :=
  (∀ (k0_h6 : k0_cond6 i v0 = 1#1), ∀ a, (k0_off869 v384) a + S1x2048.size a ≤ S8704x2048.size a)
theorem k0_off869_inb : ∀ (i : grid0.Coords) (v0 : BitVec 32) (v384 : BitVec 32) (k0_hw562 : k0_chk562 i v0 v384), ∀ (k0_h6 : k0_cond6 i v0 = 1#1), ∀ a, (k0_off869 v384) a + S1x2048.size a ≤ S8704x2048.size a := fun i v0 v384 k0_hw562 k0_h6 => k0_hw562 k0_h6

def k0_off870 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c49_i32 : BitVec 32 := 49#32
  let v389 : BitVec 32 := Scalar.addi v45 c49_i32
  let v390 : Index := Scalar.indexCast v389
  ![v390.toNat]
def k0_off871 (v391 : BitVec 32) : Fin 2 → Nat :=
  let c0_i32_225 : BitVec 32 := 0#32
  ![v391.toNat, 0]

def k0_chk563 (i : grid0.Coords) (v0 : BitVec 32) (v391 : BitVec 32) : Prop :=
  (∀ (k0_h6 : k0_cond6 i v0 = 1#1), ∀ a, (k0_off871 v391) a + S1x2048.size a ≤ S8704x2048.size a)
theorem k0_off871_inb : ∀ (i : grid0.Coords) (v0 : BitVec 32) (v391 : BitVec 32) (k0_hw563 : k0_chk563 i v0 v391), ∀ (k0_h6 : k0_cond6 i v0 = 1#1), ∀ a, (k0_off871 v391) a + S1x2048.size a ≤ S8704x2048.size a := fun i v0 v391 k0_hw563 k0_h6 => k0_hw563 k0_h6

def k0_off872 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c50_i32 : BitVec 32 := 50#32
  let v396 : BitVec 32 := Scalar.addi v45 c50_i32
  let v397 : Index := Scalar.indexCast v396
  ![v397.toNat]
def k0_off873 (v398 : BitVec 32) : Fin 2 → Nat :=
  let c0_i32_229 : BitVec 32 := 0#32
  ![v398.toNat, 0]

def k0_chk564 (i : grid0.Coords) (v0 : BitVec 32) (v398 : BitVec 32) : Prop :=
  (∀ (k0_h6 : k0_cond6 i v0 = 1#1), ∀ a, (k0_off873 v398) a + S1x2048.size a ≤ S8704x2048.size a)
theorem k0_off873_inb : ∀ (i : grid0.Coords) (v0 : BitVec 32) (v398 : BitVec 32) (k0_hw564 : k0_chk564 i v0 v398), ∀ (k0_h6 : k0_cond6 i v0 = 1#1), ∀ a, (k0_off873 v398) a + S1x2048.size a ≤ S8704x2048.size a := fun i v0 v398 k0_hw564 k0_h6 => k0_hw564 k0_h6

def k0_off874 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c51_i32 : BitVec 32 := 51#32
  let v403 : BitVec 32 := Scalar.addi v45 c51_i32
  let v404 : Index := Scalar.indexCast v403
  ![v404.toNat]
def k0_off875 (v405 : BitVec 32) : Fin 2 → Nat :=
  let c0_i32_233 : BitVec 32 := 0#32
  ![v405.toNat, 0]

def k0_chk565 (i : grid0.Coords) (v0 : BitVec 32) (v405 : BitVec 32) : Prop :=
  (∀ (k0_h6 : k0_cond6 i v0 = 1#1), ∀ a, (k0_off875 v405) a + S1x2048.size a ≤ S8704x2048.size a)
theorem k0_off875_inb : ∀ (i : grid0.Coords) (v0 : BitVec 32) (v405 : BitVec 32) (k0_hw565 : k0_chk565 i v0 v405), ∀ (k0_h6 : k0_cond6 i v0 = 1#1), ∀ a, (k0_off875 v405) a + S1x2048.size a ≤ S8704x2048.size a := fun i v0 v405 k0_hw565 k0_h6 => k0_hw565 k0_h6

def k0_off876 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c52_i32 : BitVec 32 := 52#32
  let v410 : BitVec 32 := Scalar.addi v45 c52_i32
  let v411 : Index := Scalar.indexCast v410
  ![v411.toNat]
def k0_off877 (v412 : BitVec 32) : Fin 2 → Nat :=
  let c0_i32_237 : BitVec 32 := 0#32
  ![v412.toNat, 0]

def k0_chk566 (i : grid0.Coords) (v0 : BitVec 32) (v412 : BitVec 32) : Prop :=
  (∀ (k0_h6 : k0_cond6 i v0 = 1#1), ∀ a, (k0_off877 v412) a + S1x2048.size a ≤ S8704x2048.size a)
theorem k0_off877_inb : ∀ (i : grid0.Coords) (v0 : BitVec 32) (v412 : BitVec 32) (k0_hw566 : k0_chk566 i v0 v412), ∀ (k0_h6 : k0_cond6 i v0 = 1#1), ∀ a, (k0_off877 v412) a + S1x2048.size a ≤ S8704x2048.size a := fun i v0 v412 k0_hw566 k0_h6 => k0_hw566 k0_h6

def k0_off878 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c53_i32 : BitVec 32 := 53#32
  let v417 : BitVec 32 := Scalar.addi v45 c53_i32
  let v418 : Index := Scalar.indexCast v417
  ![v418.toNat]
def k0_off879 (v419 : BitVec 32) : Fin 2 → Nat :=
  let c0_i32_241 : BitVec 32 := 0#32
  ![v419.toNat, 0]

def k0_chk567 (i : grid0.Coords) (v0 : BitVec 32) (v419 : BitVec 32) : Prop :=
  (∀ (k0_h6 : k0_cond6 i v0 = 1#1), ∀ a, (k0_off879 v419) a + S1x2048.size a ≤ S8704x2048.size a)
theorem k0_off879_inb : ∀ (i : grid0.Coords) (v0 : BitVec 32) (v419 : BitVec 32) (k0_hw567 : k0_chk567 i v0 v419), ∀ (k0_h6 : k0_cond6 i v0 = 1#1), ∀ a, (k0_off879 v419) a + S1x2048.size a ≤ S8704x2048.size a := fun i v0 v419 k0_hw567 k0_h6 => k0_hw567 k0_h6

def k0_off880 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c54_i32 : BitVec 32 := 54#32
  let v424 : BitVec 32 := Scalar.addi v45 c54_i32
  let v425 : Index := Scalar.indexCast v424
  ![v425.toNat]
def k0_off881 (v426 : BitVec 32) : Fin 2 → Nat :=
  let c0_i32_245 : BitVec 32 := 0#32
  ![v426.toNat, 0]

def k0_chk568 (i : grid0.Coords) (v0 : BitVec 32) (v426 : BitVec 32) : Prop :=
  (∀ (k0_h6 : k0_cond6 i v0 = 1#1), ∀ a, (k0_off881 v426) a + S1x2048.size a ≤ S8704x2048.size a)
theorem k0_off881_inb : ∀ (i : grid0.Coords) (v0 : BitVec 32) (v426 : BitVec 32) (k0_hw568 : k0_chk568 i v0 v426), ∀ (k0_h6 : k0_cond6 i v0 = 1#1), ∀ a, (k0_off881 v426) a + S1x2048.size a ≤ S8704x2048.size a := fun i v0 v426 k0_hw568 k0_h6 => k0_hw568 k0_h6

def k0_off882 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c55_i32 : BitVec 32 := 55#32
  let v431 : BitVec 32 := Scalar.addi v45 c55_i32
  let v432 : Index := Scalar.indexCast v431
  ![v432.toNat]
def k0_off883 (v433 : BitVec 32) : Fin 2 → Nat :=
  let c0_i32_249 : BitVec 32 := 0#32
  ![v433.toNat, 0]

def k0_chk569 (i : grid0.Coords) (v0 : BitVec 32) (v433 : BitVec 32) : Prop :=
  (∀ (k0_h6 : k0_cond6 i v0 = 1#1), ∀ a, (k0_off883 v433) a + S1x2048.size a ≤ S8704x2048.size a)
theorem k0_off883_inb : ∀ (i : grid0.Coords) (v0 : BitVec 32) (v433 : BitVec 32) (k0_hw569 : k0_chk569 i v0 v433), ∀ (k0_h6 : k0_cond6 i v0 = 1#1), ∀ a, (k0_off883 v433) a + S1x2048.size a ≤ S8704x2048.size a := fun i v0 v433 k0_hw569 k0_h6 => k0_hw569 k0_h6

def k0_off884 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c56_i32 : BitVec 32 := 56#32
  let v438 : BitVec 32 := Scalar.addi v45 c56_i32
  let v439 : Index := Scalar.indexCast v438
  ![v439.toNat]
def k0_off885 (v440 : BitVec 32) : Fin 2 → Nat :=
  let c0_i32_253 : BitVec 32 := 0#32
  ![v440.toNat, 0]

def k0_chk570 (i : grid0.Coords) (v0 : BitVec 32) (v440 : BitVec 32) : Prop :=
  (∀ (k0_h6 : k0_cond6 i v0 = 1#1), ∀ a, (k0_off885 v440) a + S1x2048.size a ≤ S8704x2048.size a)
theorem k0_off885_inb : ∀ (i : grid0.Coords) (v0 : BitVec 32) (v440 : BitVec 32) (k0_hw570 : k0_chk570 i v0 v440), ∀ (k0_h6 : k0_cond6 i v0 = 1#1), ∀ a, (k0_off885 v440) a + S1x2048.size a ≤ S8704x2048.size a := fun i v0 v440 k0_hw570 k0_h6 => k0_hw570 k0_h6

def k0_off886 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c57_i32 : BitVec 32 := 57#32
  let v445 : BitVec 32 := Scalar.addi v45 c57_i32
  let v446 : Index := Scalar.indexCast v445
  ![v446.toNat]
def k0_off887 (v447 : BitVec 32) : Fin 2 → Nat :=
  let c0_i32_257 : BitVec 32 := 0#32
  ![v447.toNat, 0]

def k0_chk571 (i : grid0.Coords) (v0 : BitVec 32) (v447 : BitVec 32) : Prop :=
  (∀ (k0_h6 : k0_cond6 i v0 = 1#1), ∀ a, (k0_off887 v447) a + S1x2048.size a ≤ S8704x2048.size a)
theorem k0_off887_inb : ∀ (i : grid0.Coords) (v0 : BitVec 32) (v447 : BitVec 32) (k0_hw571 : k0_chk571 i v0 v447), ∀ (k0_h6 : k0_cond6 i v0 = 1#1), ∀ a, (k0_off887 v447) a + S1x2048.size a ≤ S8704x2048.size a := fun i v0 v447 k0_hw571 k0_h6 => k0_hw571 k0_h6

def k0_off888 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c58_i32 : BitVec 32 := 58#32
  let v452 : BitVec 32 := Scalar.addi v45 c58_i32
  let v453 : Index := Scalar.indexCast v452
  ![v453.toNat]
def k0_off889 (v454 : BitVec 32) : Fin 2 → Nat :=
  let c0_i32_261 : BitVec 32 := 0#32
  ![v454.toNat, 0]

def k0_chk572 (i : grid0.Coords) (v0 : BitVec 32) (v454 : BitVec 32) : Prop :=
  (∀ (k0_h6 : k0_cond6 i v0 = 1#1), ∀ a, (k0_off889 v454) a + S1x2048.size a ≤ S8704x2048.size a)
theorem k0_off889_inb : ∀ (i : grid0.Coords) (v0 : BitVec 32) (v454 : BitVec 32) (k0_hw572 : k0_chk572 i v0 v454), ∀ (k0_h6 : k0_cond6 i v0 = 1#1), ∀ a, (k0_off889 v454) a + S1x2048.size a ≤ S8704x2048.size a := fun i v0 v454 k0_hw572 k0_h6 => k0_hw572 k0_h6

def k0_off890 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c59_i32 : BitVec 32 := 59#32
  let v459 : BitVec 32 := Scalar.addi v45 c59_i32
  let v460 : Index := Scalar.indexCast v459
  ![v460.toNat]
def k0_off891 (v461 : BitVec 32) : Fin 2 → Nat :=
  let c0_i32_265 : BitVec 32 := 0#32
  ![v461.toNat, 0]

def k0_chk573 (i : grid0.Coords) (v0 : BitVec 32) (v461 : BitVec 32) : Prop :=
  (∀ (k0_h6 : k0_cond6 i v0 = 1#1), ∀ a, (k0_off891 v461) a + S1x2048.size a ≤ S8704x2048.size a)
theorem k0_off891_inb : ∀ (i : grid0.Coords) (v0 : BitVec 32) (v461 : BitVec 32) (k0_hw573 : k0_chk573 i v0 v461), ∀ (k0_h6 : k0_cond6 i v0 = 1#1), ∀ a, (k0_off891 v461) a + S1x2048.size a ≤ S8704x2048.size a := fun i v0 v461 k0_hw573 k0_h6 => k0_hw573 k0_h6

def k0_off892 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c60_i32 : BitVec 32 := 60#32
  let v466 : BitVec 32 := Scalar.addi v45 c60_i32
  let v467 : Index := Scalar.indexCast v466
  ![v467.toNat]
def k0_off893 (v468 : BitVec 32) : Fin 2 → Nat :=
  let c0_i32_269 : BitVec 32 := 0#32
  ![v468.toNat, 0]

def k0_chk574 (i : grid0.Coords) (v0 : BitVec 32) (v468 : BitVec 32) : Prop :=
  (∀ (k0_h6 : k0_cond6 i v0 = 1#1), ∀ a, (k0_off893 v468) a + S1x2048.size a ≤ S8704x2048.size a)
theorem k0_off893_inb : ∀ (i : grid0.Coords) (v0 : BitVec 32) (v468 : BitVec 32) (k0_hw574 : k0_chk574 i v0 v468), ∀ (k0_h6 : k0_cond6 i v0 = 1#1), ∀ a, (k0_off893 v468) a + S1x2048.size a ≤ S8704x2048.size a := fun i v0 v468 k0_hw574 k0_h6 => k0_hw574 k0_h6

def k0_off894 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c61_i32 : BitVec 32 := 61#32
  let v473 : BitVec 32 := Scalar.addi v45 c61_i32
  let v474 : Index := Scalar.indexCast v473
  ![v474.toNat]
def k0_off895 (v475 : BitVec 32) : Fin 2 → Nat :=
  let c0_i32_273 : BitVec 32 := 0#32
  ![v475.toNat, 0]

def k0_chk575 (i : grid0.Coords) (v0 : BitVec 32) (v475 : BitVec 32) : Prop :=
  (∀ (k0_h6 : k0_cond6 i v0 = 1#1), ∀ a, (k0_off895 v475) a + S1x2048.size a ≤ S8704x2048.size a)
theorem k0_off895_inb : ∀ (i : grid0.Coords) (v0 : BitVec 32) (v475 : BitVec 32) (k0_hw575 : k0_chk575 i v0 v475), ∀ (k0_h6 : k0_cond6 i v0 = 1#1), ∀ a, (k0_off895 v475) a + S1x2048.size a ≤ S8704x2048.size a := fun i v0 v475 k0_hw575 k0_h6 => k0_hw575 k0_h6

def k0_off896 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c62_i32 : BitVec 32 := 62#32
  let v480 : BitVec 32 := Scalar.addi v45 c62_i32
  let v481 : Index := Scalar.indexCast v480
  ![v481.toNat]
def k0_off897 (v482 : BitVec 32) : Fin 2 → Nat :=
  let c0_i32_277 : BitVec 32 := 0#32
  ![v482.toNat, 0]

def k0_chk576 (i : grid0.Coords) (v0 : BitVec 32) (v482 : BitVec 32) : Prop :=
  (∀ (k0_h6 : k0_cond6 i v0 = 1#1), ∀ a, (k0_off897 v482) a + S1x2048.size a ≤ S8704x2048.size a)
theorem k0_off897_inb : ∀ (i : grid0.Coords) (v0 : BitVec 32) (v482 : BitVec 32) (k0_hw576 : k0_chk576 i v0 v482), ∀ (k0_h6 : k0_cond6 i v0 = 1#1), ∀ a, (k0_off897 v482) a + S1x2048.size a ≤ S8704x2048.size a := fun i v0 v482 k0_hw576 k0_h6 => k0_hw576 k0_h6

def k0_off898 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c63_i32 : BitVec 32 := 63#32
  let v487 : BitVec 32 := Scalar.addi v45 c63_i32
  let v488 : Index := Scalar.indexCast v487
  ![v488.toNat]
def k0_off899 (v489 : BitVec 32) : Fin 2 → Nat :=
  let c0_i32_281 : BitVec 32 := 0#32
  ![v489.toNat, 0]

def k0_chk577 (i : grid0.Coords) (v0 : BitVec 32) (v489 : BitVec 32) : Prop :=
  (∀ (k0_h6 : k0_cond6 i v0 = 1#1), ∀ a, (k0_off899 v489) a + S1x2048.size a ≤ S8704x2048.size a)
theorem k0_off899_inb : ∀ (i : grid0.Coords) (v0 : BitVec 32) (v489 : BitVec 32) (k0_hw577 : k0_chk577 i v0 v489), ∀ (k0_h6 : k0_cond6 i v0 = 1#1), ∀ a, (k0_off899 v489) a + S1x2048.size a ≤ S8704x2048.size a := fun i v0 v489 k0_hw577 k0_h6 => k0_hw577 k0_h6

def k0_off900 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c64_i32 : BitVec 32 := 64#32
  let v494 : BitVec 32 := Scalar.addi v45 c64_i32
  let v495 : Index := Scalar.indexCast v494
  ![v495.toNat]
def k0_off901 (v496 : BitVec 32) : Fin 2 → Nat :=
  let c0_i32_285 : BitVec 32 := 0#32
  ![v496.toNat, 0]

def k0_chk578 (i : grid0.Coords) (v0 : BitVec 32) (v496 : BitVec 32) : Prop :=
  (∀ (k0_h6 : k0_cond6 i v0 = 1#1), ∀ a, (k0_off901 v496) a + S1x2048.size a ≤ S8704x2048.size a)
theorem k0_off901_inb : ∀ (i : grid0.Coords) (v0 : BitVec 32) (v496 : BitVec 32) (k0_hw578 : k0_chk578 i v0 v496), ∀ (k0_h6 : k0_cond6 i v0 = 1#1), ∀ a, (k0_off901 v496) a + S1x2048.size a ≤ S8704x2048.size a := fun i v0 v496 k0_hw578 k0_h6 => k0_hw578 k0_h6

def k0_off902 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c65_i32 : BitVec 32 := 65#32
  let v501 : BitVec 32 := Scalar.addi v45 c65_i32
  let v502 : Index := Scalar.indexCast v501
  ![v502.toNat]
def k0_off903 (v503 : BitVec 32) : Fin 2 → Nat :=
  let c0_i32_289 : BitVec 32 := 0#32
  ![v503.toNat, 0]

def k0_chk579 (i : grid0.Coords) (v0 : BitVec 32) (v503 : BitVec 32) : Prop :=
  (∀ (k0_h6 : k0_cond6 i v0 = 1#1), ∀ a, (k0_off903 v503) a + S1x2048.size a ≤ S8704x2048.size a)
theorem k0_off903_inb : ∀ (i : grid0.Coords) (v0 : BitVec 32) (v503 : BitVec 32) (k0_hw579 : k0_chk579 i v0 v503), ∀ (k0_h6 : k0_cond6 i v0 = 1#1), ∀ a, (k0_off903 v503) a + S1x2048.size a ≤ S8704x2048.size a := fun i v0 v503 k0_hw579 k0_h6 => k0_hw579 k0_h6

def k0_off904 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c66_i32 : BitVec 32 := 66#32
  let v508 : BitVec 32 := Scalar.addi v45 c66_i32
  let v509 : Index := Scalar.indexCast v508
  ![v509.toNat]
def k0_off905 (v510 : BitVec 32) : Fin 2 → Nat :=
  let c0_i32_293 : BitVec 32 := 0#32
  ![v510.toNat, 0]

def k0_chk580 (i : grid0.Coords) (v0 : BitVec 32) (v510 : BitVec 32) : Prop :=
  (∀ (k0_h6 : k0_cond6 i v0 = 1#1), ∀ a, (k0_off905 v510) a + S1x2048.size a ≤ S8704x2048.size a)
theorem k0_off905_inb : ∀ (i : grid0.Coords) (v0 : BitVec 32) (v510 : BitVec 32) (k0_hw580 : k0_chk580 i v0 v510), ∀ (k0_h6 : k0_cond6 i v0 = 1#1), ∀ a, (k0_off905 v510) a + S1x2048.size a ≤ S8704x2048.size a := fun i v0 v510 k0_hw580 k0_h6 => k0_hw580 k0_h6

def k0_off906 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c67_i32 : BitVec 32 := 67#32
  let v515 : BitVec 32 := Scalar.addi v45 c67_i32
  let v516 : Index := Scalar.indexCast v515
  ![v516.toNat]
def k0_off907 (v517 : BitVec 32) : Fin 2 → Nat :=
  let c0_i32_297 : BitVec 32 := 0#32
  ![v517.toNat, 0]

def k0_chk581 (i : grid0.Coords) (v0 : BitVec 32) (v517 : BitVec 32) : Prop :=
  (∀ (k0_h6 : k0_cond6 i v0 = 1#1), ∀ a, (k0_off907 v517) a + S1x2048.size a ≤ S8704x2048.size a)
theorem k0_off907_inb : ∀ (i : grid0.Coords) (v0 : BitVec 32) (v517 : BitVec 32) (k0_hw581 : k0_chk581 i v0 v517), ∀ (k0_h6 : k0_cond6 i v0 = 1#1), ∀ a, (k0_off907 v517) a + S1x2048.size a ≤ S8704x2048.size a := fun i v0 v517 k0_hw581 k0_h6 => k0_hw581 k0_h6

def k0_off908 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c68_i32 : BitVec 32 := 68#32
  let v522 : BitVec 32 := Scalar.addi v45 c68_i32
  let v523 : Index := Scalar.indexCast v522
  ![v523.toNat]
def k0_off909 (v524 : BitVec 32) : Fin 2 → Nat :=
  let c0_i32_301 : BitVec 32 := 0#32
  ![v524.toNat, 0]

def k0_chk582 (i : grid0.Coords) (v0 : BitVec 32) (v524 : BitVec 32) : Prop :=
  (∀ (k0_h6 : k0_cond6 i v0 = 1#1), ∀ a, (k0_off909 v524) a + S1x2048.size a ≤ S8704x2048.size a)
theorem k0_off909_inb : ∀ (i : grid0.Coords) (v0 : BitVec 32) (v524 : BitVec 32) (k0_hw582 : k0_chk582 i v0 v524), ∀ (k0_h6 : k0_cond6 i v0 = 1#1), ∀ a, (k0_off909 v524) a + S1x2048.size a ≤ S8704x2048.size a := fun i v0 v524 k0_hw582 k0_h6 => k0_hw582 k0_h6

def k0_off910 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c69_i32 : BitVec 32 := 69#32
  let v529 : BitVec 32 := Scalar.addi v45 c69_i32
  let v530 : Index := Scalar.indexCast v529
  ![v530.toNat]
def k0_off911 (v531 : BitVec 32) : Fin 2 → Nat :=
  let c0_i32_305 : BitVec 32 := 0#32
  ![v531.toNat, 0]

def k0_chk583 (i : grid0.Coords) (v0 : BitVec 32) (v531 : BitVec 32) : Prop :=
  (∀ (k0_h6 : k0_cond6 i v0 = 1#1), ∀ a, (k0_off911 v531) a + S1x2048.size a ≤ S8704x2048.size a)
theorem k0_off911_inb : ∀ (i : grid0.Coords) (v0 : BitVec 32) (v531 : BitVec 32) (k0_hw583 : k0_chk583 i v0 v531), ∀ (k0_h6 : k0_cond6 i v0 = 1#1), ∀ a, (k0_off911 v531) a + S1x2048.size a ≤ S8704x2048.size a := fun i v0 v531 k0_hw583 k0_h6 => k0_hw583 k0_h6

def k0_off912 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c70_i32 : BitVec 32 := 70#32
  let v536 : BitVec 32 := Scalar.addi v45 c70_i32
  let v537 : Index := Scalar.indexCast v536
  ![v537.toNat]
def k0_off913 (v538 : BitVec 32) : Fin 2 → Nat :=
  let c0_i32_309 : BitVec 32 := 0#32
  ![v538.toNat, 0]

def k0_chk584 (i : grid0.Coords) (v0 : BitVec 32) (v538 : BitVec 32) : Prop :=
  (∀ (k0_h6 : k0_cond6 i v0 = 1#1), ∀ a, (k0_off913 v538) a + S1x2048.size a ≤ S8704x2048.size a)
theorem k0_off913_inb : ∀ (i : grid0.Coords) (v0 : BitVec 32) (v538 : BitVec 32) (k0_hw584 : k0_chk584 i v0 v538), ∀ (k0_h6 : k0_cond6 i v0 = 1#1), ∀ a, (k0_off913 v538) a + S1x2048.size a ≤ S8704x2048.size a := fun i v0 v538 k0_hw584 k0_h6 => k0_hw584 k0_h6

def k0_off914 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c71_i32 : BitVec 32 := 71#32
  let v543 : BitVec 32 := Scalar.addi v45 c71_i32
  let v544 : Index := Scalar.indexCast v543
  ![v544.toNat]
def k0_off915 (v545 : BitVec 32) : Fin 2 → Nat :=
  let c0_i32_313 : BitVec 32 := 0#32
  ![v545.toNat, 0]

def k0_chk585 (i : grid0.Coords) (v0 : BitVec 32) (v545 : BitVec 32) : Prop :=
  (∀ (k0_h6 : k0_cond6 i v0 = 1#1), ∀ a, (k0_off915 v545) a + S1x2048.size a ≤ S8704x2048.size a)
theorem k0_off915_inb : ∀ (i : grid0.Coords) (v0 : BitVec 32) (v545 : BitVec 32) (k0_hw585 : k0_chk585 i v0 v545), ∀ (k0_h6 : k0_cond6 i v0 = 1#1), ∀ a, (k0_off915 v545) a + S1x2048.size a ≤ S8704x2048.size a := fun i v0 v545 k0_hw585 k0_h6 => k0_hw585 k0_h6

def k0_off916 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c72_i32 : BitVec 32 := 72#32
  let v550 : BitVec 32 := Scalar.addi v45 c72_i32
  let v551 : Index := Scalar.indexCast v550
  ![v551.toNat]
def k0_off917 (v552 : BitVec 32) : Fin 2 → Nat :=
  let c0_i32_317 : BitVec 32 := 0#32
  ![v552.toNat, 0]

def k0_chk586 (i : grid0.Coords) (v0 : BitVec 32) (v552 : BitVec 32) : Prop :=
  (∀ (k0_h6 : k0_cond6 i v0 = 1#1), ∀ a, (k0_off917 v552) a + S1x2048.size a ≤ S8704x2048.size a)
theorem k0_off917_inb : ∀ (i : grid0.Coords) (v0 : BitVec 32) (v552 : BitVec 32) (k0_hw586 : k0_chk586 i v0 v552), ∀ (k0_h6 : k0_cond6 i v0 = 1#1), ∀ a, (k0_off917 v552) a + S1x2048.size a ≤ S8704x2048.size a := fun i v0 v552 k0_hw586 k0_h6 => k0_hw586 k0_h6

def k0_off918 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c73_i32 : BitVec 32 := 73#32
  let v557 : BitVec 32 := Scalar.addi v45 c73_i32
  let v558 : Index := Scalar.indexCast v557
  ![v558.toNat]
def k0_off919 (v559 : BitVec 32) : Fin 2 → Nat :=
  let c0_i32_321 : BitVec 32 := 0#32
  ![v559.toNat, 0]

def k0_chk587 (i : grid0.Coords) (v0 : BitVec 32) (v559 : BitVec 32) : Prop :=
  (∀ (k0_h6 : k0_cond6 i v0 = 1#1), ∀ a, (k0_off919 v559) a + S1x2048.size a ≤ S8704x2048.size a)
theorem k0_off919_inb : ∀ (i : grid0.Coords) (v0 : BitVec 32) (v559 : BitVec 32) (k0_hw587 : k0_chk587 i v0 v559), ∀ (k0_h6 : k0_cond6 i v0 = 1#1), ∀ a, (k0_off919 v559) a + S1x2048.size a ≤ S8704x2048.size a := fun i v0 v559 k0_hw587 k0_h6 => k0_hw587 k0_h6

def k0_off920 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c74_i32 : BitVec 32 := 74#32
  let v564 : BitVec 32 := Scalar.addi v45 c74_i32
  let v565 : Index := Scalar.indexCast v564
  ![v565.toNat]
def k0_off921 (v566 : BitVec 32) : Fin 2 → Nat :=
  let c0_i32_325 : BitVec 32 := 0#32
  ![v566.toNat, 0]

def k0_chk588 (i : grid0.Coords) (v0 : BitVec 32) (v566 : BitVec 32) : Prop :=
  (∀ (k0_h6 : k0_cond6 i v0 = 1#1), ∀ a, (k0_off921 v566) a + S1x2048.size a ≤ S8704x2048.size a)
theorem k0_off921_inb : ∀ (i : grid0.Coords) (v0 : BitVec 32) (v566 : BitVec 32) (k0_hw588 : k0_chk588 i v0 v566), ∀ (k0_h6 : k0_cond6 i v0 = 1#1), ∀ a, (k0_off921 v566) a + S1x2048.size a ≤ S8704x2048.size a := fun i v0 v566 k0_hw588 k0_h6 => k0_hw588 k0_h6

def k0_off922 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c75_i32 : BitVec 32 := 75#32
  let v571 : BitVec 32 := Scalar.addi v45 c75_i32
  let v572 : Index := Scalar.indexCast v571
  ![v572.toNat]
def k0_off923 (v573 : BitVec 32) : Fin 2 → Nat :=
  let c0_i32_329 : BitVec 32 := 0#32
  ![v573.toNat, 0]

def k0_chk589 (i : grid0.Coords) (v0 : BitVec 32) (v573 : BitVec 32) : Prop :=
  (∀ (k0_h6 : k0_cond6 i v0 = 1#1), ∀ a, (k0_off923 v573) a + S1x2048.size a ≤ S8704x2048.size a)
theorem k0_off923_inb : ∀ (i : grid0.Coords) (v0 : BitVec 32) (v573 : BitVec 32) (k0_hw589 : k0_chk589 i v0 v573), ∀ (k0_h6 : k0_cond6 i v0 = 1#1), ∀ a, (k0_off923 v573) a + S1x2048.size a ≤ S8704x2048.size a := fun i v0 v573 k0_hw589 k0_h6 => k0_hw589 k0_h6

def k0_off924 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c76_i32 : BitVec 32 := 76#32
  let v578 : BitVec 32 := Scalar.addi v45 c76_i32
  let v579 : Index := Scalar.indexCast v578
  ![v579.toNat]
def k0_off925 (v580 : BitVec 32) : Fin 2 → Nat :=
  let c0_i32_333 : BitVec 32 := 0#32
  ![v580.toNat, 0]

def k0_chk590 (i : grid0.Coords) (v0 : BitVec 32) (v580 : BitVec 32) : Prop :=
  (∀ (k0_h6 : k0_cond6 i v0 = 1#1), ∀ a, (k0_off925 v580) a + S1x2048.size a ≤ S8704x2048.size a)
theorem k0_off925_inb : ∀ (i : grid0.Coords) (v0 : BitVec 32) (v580 : BitVec 32) (k0_hw590 : k0_chk590 i v0 v580), ∀ (k0_h6 : k0_cond6 i v0 = 1#1), ∀ a, (k0_off925 v580) a + S1x2048.size a ≤ S8704x2048.size a := fun i v0 v580 k0_hw590 k0_h6 => k0_hw590 k0_h6

def k0_off926 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c77_i32 : BitVec 32 := 77#32
  let v585 : BitVec 32 := Scalar.addi v45 c77_i32
  let v586 : Index := Scalar.indexCast v585
  ![v586.toNat]
def k0_off927 (v587 : BitVec 32) : Fin 2 → Nat :=
  let c0_i32_337 : BitVec 32 := 0#32
  ![v587.toNat, 0]

def k0_chk591 (i : grid0.Coords) (v0 : BitVec 32) (v587 : BitVec 32) : Prop :=
  (∀ (k0_h6 : k0_cond6 i v0 = 1#1), ∀ a, (k0_off927 v587) a + S1x2048.size a ≤ S8704x2048.size a)
theorem k0_off927_inb : ∀ (i : grid0.Coords) (v0 : BitVec 32) (v587 : BitVec 32) (k0_hw591 : k0_chk591 i v0 v587), ∀ (k0_h6 : k0_cond6 i v0 = 1#1), ∀ a, (k0_off927 v587) a + S1x2048.size a ≤ S8704x2048.size a := fun i v0 v587 k0_hw591 k0_h6 => k0_hw591 k0_h6

def k0_off928 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c78_i32 : BitVec 32 := 78#32
  let v592 : BitVec 32 := Scalar.addi v45 c78_i32
  let v593 : Index := Scalar.indexCast v592
  ![v593.toNat]
def k0_off929 (v594 : BitVec 32) : Fin 2 → Nat :=
  let c0_i32_341 : BitVec 32 := 0#32
  ![v594.toNat, 0]

def k0_chk592 (i : grid0.Coords) (v0 : BitVec 32) (v594 : BitVec 32) : Prop :=
  (∀ (k0_h6 : k0_cond6 i v0 = 1#1), ∀ a, (k0_off929 v594) a + S1x2048.size a ≤ S8704x2048.size a)
theorem k0_off929_inb : ∀ (i : grid0.Coords) (v0 : BitVec 32) (v594 : BitVec 32) (k0_hw592 : k0_chk592 i v0 v594), ∀ (k0_h6 : k0_cond6 i v0 = 1#1), ∀ a, (k0_off929 v594) a + S1x2048.size a ≤ S8704x2048.size a := fun i v0 v594 k0_hw592 k0_h6 => k0_hw592 k0_h6

def k0_off930 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c79_i32 : BitVec 32 := 79#32
  let v599 : BitVec 32 := Scalar.addi v45 c79_i32
  let v600 : Index := Scalar.indexCast v599
  ![v600.toNat]
def k0_off931 (v601 : BitVec 32) : Fin 2 → Nat :=
  let c0_i32_345 : BitVec 32 := 0#32
  ![v601.toNat, 0]

def k0_chk593 (i : grid0.Coords) (v0 : BitVec 32) (v601 : BitVec 32) : Prop :=
  (∀ (k0_h6 : k0_cond6 i v0 = 1#1), ∀ a, (k0_off931 v601) a + S1x2048.size a ≤ S8704x2048.size a)
theorem k0_off931_inb : ∀ (i : grid0.Coords) (v0 : BitVec 32) (v601 : BitVec 32) (k0_hw593 : k0_chk593 i v0 v601), ∀ (k0_h6 : k0_cond6 i v0 = 1#1), ∀ a, (k0_off931 v601) a + S1x2048.size a ≤ S8704x2048.size a := fun i v0 v601 k0_hw593 k0_h6 => k0_hw593 k0_h6

def k0_off932 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c80_i32 : BitVec 32 := 80#32
  let v606 : BitVec 32 := Scalar.addi v45 c80_i32
  let v607 : Index := Scalar.indexCast v606
  ![v607.toNat]
def k0_off933 (v608 : BitVec 32) : Fin 2 → Nat :=
  let c0_i32_349 : BitVec 32 := 0#32
  ![v608.toNat, 0]

def k0_chk594 (i : grid0.Coords) (v0 : BitVec 32) (v608 : BitVec 32) : Prop :=
  (∀ (k0_h6 : k0_cond6 i v0 = 1#1), ∀ a, (k0_off933 v608) a + S1x2048.size a ≤ S8704x2048.size a)
theorem k0_off933_inb : ∀ (i : grid0.Coords) (v0 : BitVec 32) (v608 : BitVec 32) (k0_hw594 : k0_chk594 i v0 v608), ∀ (k0_h6 : k0_cond6 i v0 = 1#1), ∀ a, (k0_off933 v608) a + S1x2048.size a ≤ S8704x2048.size a := fun i v0 v608 k0_hw594 k0_h6 => k0_hw594 k0_h6

def k0_off934 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c81_i32 : BitVec 32 := 81#32
  let v613 : BitVec 32 := Scalar.addi v45 c81_i32
  let v614 : Index := Scalar.indexCast v613
  ![v614.toNat]
def k0_off935 (v615 : BitVec 32) : Fin 2 → Nat :=
  let c0_i32_353 : BitVec 32 := 0#32
  ![v615.toNat, 0]

def k0_chk595 (i : grid0.Coords) (v0 : BitVec 32) (v615 : BitVec 32) : Prop :=
  (∀ (k0_h6 : k0_cond6 i v0 = 1#1), ∀ a, (k0_off935 v615) a + S1x2048.size a ≤ S8704x2048.size a)
theorem k0_off935_inb : ∀ (i : grid0.Coords) (v0 : BitVec 32) (v615 : BitVec 32) (k0_hw595 : k0_chk595 i v0 v615), ∀ (k0_h6 : k0_cond6 i v0 = 1#1), ∀ a, (k0_off935 v615) a + S1x2048.size a ≤ S8704x2048.size a := fun i v0 v615 k0_hw595 k0_h6 => k0_hw595 k0_h6

def k0_off936 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c82_i32 : BitVec 32 := 82#32
  let v620 : BitVec 32 := Scalar.addi v45 c82_i32
  let v621 : Index := Scalar.indexCast v620
  ![v621.toNat]
def k0_off937 (v622 : BitVec 32) : Fin 2 → Nat :=
  let c0_i32_357 : BitVec 32 := 0#32
  ![v622.toNat, 0]

def k0_chk596 (i : grid0.Coords) (v0 : BitVec 32) (v622 : BitVec 32) : Prop :=
  (∀ (k0_h6 : k0_cond6 i v0 = 1#1), ∀ a, (k0_off937 v622) a + S1x2048.size a ≤ S8704x2048.size a)
theorem k0_off937_inb : ∀ (i : grid0.Coords) (v0 : BitVec 32) (v622 : BitVec 32) (k0_hw596 : k0_chk596 i v0 v622), ∀ (k0_h6 : k0_cond6 i v0 = 1#1), ∀ a, (k0_off937 v622) a + S1x2048.size a ≤ S8704x2048.size a := fun i v0 v622 k0_hw596 k0_h6 => k0_hw596 k0_h6

def k0_off938 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c83_i32 : BitVec 32 := 83#32
  let v627 : BitVec 32 := Scalar.addi v45 c83_i32
  let v628 : Index := Scalar.indexCast v627
  ![v628.toNat]
def k0_off939 (v629 : BitVec 32) : Fin 2 → Nat :=
  let c0_i32_361 : BitVec 32 := 0#32
  ![v629.toNat, 0]

def k0_chk597 (i : grid0.Coords) (v0 : BitVec 32) (v629 : BitVec 32) : Prop :=
  (∀ (k0_h6 : k0_cond6 i v0 = 1#1), ∀ a, (k0_off939 v629) a + S1x2048.size a ≤ S8704x2048.size a)
theorem k0_off939_inb : ∀ (i : grid0.Coords) (v0 : BitVec 32) (v629 : BitVec 32) (k0_hw597 : k0_chk597 i v0 v629), ∀ (k0_h6 : k0_cond6 i v0 = 1#1), ∀ a, (k0_off939 v629) a + S1x2048.size a ≤ S8704x2048.size a := fun i v0 v629 k0_hw597 k0_h6 => k0_hw597 k0_h6

def k0_off940 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c84_i32 : BitVec 32 := 84#32
  let v634 : BitVec 32 := Scalar.addi v45 c84_i32
  let v635 : Index := Scalar.indexCast v634
  ![v635.toNat]
def k0_off941 (v636 : BitVec 32) : Fin 2 → Nat :=
  let c0_i32_365 : BitVec 32 := 0#32
  ![v636.toNat, 0]

def k0_chk598 (i : grid0.Coords) (v0 : BitVec 32) (v636 : BitVec 32) : Prop :=
  (∀ (k0_h6 : k0_cond6 i v0 = 1#1), ∀ a, (k0_off941 v636) a + S1x2048.size a ≤ S8704x2048.size a)
theorem k0_off941_inb : ∀ (i : grid0.Coords) (v0 : BitVec 32) (v636 : BitVec 32) (k0_hw598 : k0_chk598 i v0 v636), ∀ (k0_h6 : k0_cond6 i v0 = 1#1), ∀ a, (k0_off941 v636) a + S1x2048.size a ≤ S8704x2048.size a := fun i v0 v636 k0_hw598 k0_h6 => k0_hw598 k0_h6

def k0_off942 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c85_i32 : BitVec 32 := 85#32
  let v641 : BitVec 32 := Scalar.addi v45 c85_i32
  let v642 : Index := Scalar.indexCast v641
  ![v642.toNat]
def k0_off943 (v643 : BitVec 32) : Fin 2 → Nat :=
  let c0_i32_369 : BitVec 32 := 0#32
  ![v643.toNat, 0]

def k0_chk599 (i : grid0.Coords) (v0 : BitVec 32) (v643 : BitVec 32) : Prop :=
  (∀ (k0_h6 : k0_cond6 i v0 = 1#1), ∀ a, (k0_off943 v643) a + S1x2048.size a ≤ S8704x2048.size a)
theorem k0_off943_inb : ∀ (i : grid0.Coords) (v0 : BitVec 32) (v643 : BitVec 32) (k0_hw599 : k0_chk599 i v0 v643), ∀ (k0_h6 : k0_cond6 i v0 = 1#1), ∀ a, (k0_off943 v643) a + S1x2048.size a ≤ S8704x2048.size a := fun i v0 v643 k0_hw599 k0_h6 => k0_hw599 k0_h6

def k0_off944 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c86_i32 : BitVec 32 := 86#32
  let v648 : BitVec 32 := Scalar.addi v45 c86_i32
  let v649 : Index := Scalar.indexCast v648
  ![v649.toNat]
def k0_off945 (v650 : BitVec 32) : Fin 2 → Nat :=
  let c0_i32_373 : BitVec 32 := 0#32
  ![v650.toNat, 0]

def k0_chk600 (i : grid0.Coords) (v0 : BitVec 32) (v650 : BitVec 32) : Prop :=
  (∀ (k0_h6 : k0_cond6 i v0 = 1#1), ∀ a, (k0_off945 v650) a + S1x2048.size a ≤ S8704x2048.size a)
theorem k0_off945_inb : ∀ (i : grid0.Coords) (v0 : BitVec 32) (v650 : BitVec 32) (k0_hw600 : k0_chk600 i v0 v650), ∀ (k0_h6 : k0_cond6 i v0 = 1#1), ∀ a, (k0_off945 v650) a + S1x2048.size a ≤ S8704x2048.size a := fun i v0 v650 k0_hw600 k0_h6 => k0_hw600 k0_h6

def k0_off946 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c87_i32 : BitVec 32 := 87#32
  let v655 : BitVec 32 := Scalar.addi v45 c87_i32
  let v656 : Index := Scalar.indexCast v655
  ![v656.toNat]
def k0_off947 (v657 : BitVec 32) : Fin 2 → Nat :=
  let c0_i32_377 : BitVec 32 := 0#32
  ![v657.toNat, 0]

def k0_chk601 (i : grid0.Coords) (v0 : BitVec 32) (v657 : BitVec 32) : Prop :=
  (∀ (k0_h6 : k0_cond6 i v0 = 1#1), ∀ a, (k0_off947 v657) a + S1x2048.size a ≤ S8704x2048.size a)
theorem k0_off947_inb : ∀ (i : grid0.Coords) (v0 : BitVec 32) (v657 : BitVec 32) (k0_hw601 : k0_chk601 i v0 v657), ∀ (k0_h6 : k0_cond6 i v0 = 1#1), ∀ a, (k0_off947 v657) a + S1x2048.size a ≤ S8704x2048.size a := fun i v0 v657 k0_hw601 k0_h6 => k0_hw601 k0_h6

def k0_off948 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c88_i32 : BitVec 32 := 88#32
  let v662 : BitVec 32 := Scalar.addi v45 c88_i32
  let v663 : Index := Scalar.indexCast v662
  ![v663.toNat]
def k0_off949 (v664 : BitVec 32) : Fin 2 → Nat :=
  let c0_i32_381 : BitVec 32 := 0#32
  ![v664.toNat, 0]

def k0_chk602 (i : grid0.Coords) (v0 : BitVec 32) (v664 : BitVec 32) : Prop :=
  (∀ (k0_h6 : k0_cond6 i v0 = 1#1), ∀ a, (k0_off949 v664) a + S1x2048.size a ≤ S8704x2048.size a)
theorem k0_off949_inb : ∀ (i : grid0.Coords) (v0 : BitVec 32) (v664 : BitVec 32) (k0_hw602 : k0_chk602 i v0 v664), ∀ (k0_h6 : k0_cond6 i v0 = 1#1), ∀ a, (k0_off949 v664) a + S1x2048.size a ≤ S8704x2048.size a := fun i v0 v664 k0_hw602 k0_h6 => k0_hw602 k0_h6

def k0_off950 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c89_i32 : BitVec 32 := 89#32
  let v669 : BitVec 32 := Scalar.addi v45 c89_i32
  let v670 : Index := Scalar.indexCast v669
  ![v670.toNat]
def k0_off951 (v671 : BitVec 32) : Fin 2 → Nat :=
  let c0_i32_385 : BitVec 32 := 0#32
  ![v671.toNat, 0]

def k0_chk603 (i : grid0.Coords) (v0 : BitVec 32) (v671 : BitVec 32) : Prop :=
  (∀ (k0_h6 : k0_cond6 i v0 = 1#1), ∀ a, (k0_off951 v671) a + S1x2048.size a ≤ S8704x2048.size a)
theorem k0_off951_inb : ∀ (i : grid0.Coords) (v0 : BitVec 32) (v671 : BitVec 32) (k0_hw603 : k0_chk603 i v0 v671), ∀ (k0_h6 : k0_cond6 i v0 = 1#1), ∀ a, (k0_off951 v671) a + S1x2048.size a ≤ S8704x2048.size a := fun i v0 v671 k0_hw603 k0_h6 => k0_hw603 k0_h6

def k0_off952 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c90_i32 : BitVec 32 := 90#32
  let v676 : BitVec 32 := Scalar.addi v45 c90_i32
  let v677 : Index := Scalar.indexCast v676
  ![v677.toNat]
def k0_off953 (v678 : BitVec 32) : Fin 2 → Nat :=
  let c0_i32_389 : BitVec 32 := 0#32
  ![v678.toNat, 0]

def k0_chk604 (i : grid0.Coords) (v0 : BitVec 32) (v678 : BitVec 32) : Prop :=
  (∀ (k0_h6 : k0_cond6 i v0 = 1#1), ∀ a, (k0_off953 v678) a + S1x2048.size a ≤ S8704x2048.size a)
theorem k0_off953_inb : ∀ (i : grid0.Coords) (v0 : BitVec 32) (v678 : BitVec 32) (k0_hw604 : k0_chk604 i v0 v678), ∀ (k0_h6 : k0_cond6 i v0 = 1#1), ∀ a, (k0_off953 v678) a + S1x2048.size a ≤ S8704x2048.size a := fun i v0 v678 k0_hw604 k0_h6 => k0_hw604 k0_h6

def k0_off954 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c91_i32 : BitVec 32 := 91#32
  let v683 : BitVec 32 := Scalar.addi v45 c91_i32
  let v684 : Index := Scalar.indexCast v683
  ![v684.toNat]
def k0_off955 (v685 : BitVec 32) : Fin 2 → Nat :=
  let c0_i32_393 : BitVec 32 := 0#32
  ![v685.toNat, 0]

def k0_chk605 (i : grid0.Coords) (v0 : BitVec 32) (v685 : BitVec 32) : Prop :=
  (∀ (k0_h6 : k0_cond6 i v0 = 1#1), ∀ a, (k0_off955 v685) a + S1x2048.size a ≤ S8704x2048.size a)
theorem k0_off955_inb : ∀ (i : grid0.Coords) (v0 : BitVec 32) (v685 : BitVec 32) (k0_hw605 : k0_chk605 i v0 v685), ∀ (k0_h6 : k0_cond6 i v0 = 1#1), ∀ a, (k0_off955 v685) a + S1x2048.size a ≤ S8704x2048.size a := fun i v0 v685 k0_hw605 k0_h6 => k0_hw605 k0_h6

def k0_off956 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c92_i32 : BitVec 32 := 92#32
  let v690 : BitVec 32 := Scalar.addi v45 c92_i32
  let v691 : Index := Scalar.indexCast v690
  ![v691.toNat]
def k0_off957 (v692 : BitVec 32) : Fin 2 → Nat :=
  let c0_i32_397 : BitVec 32 := 0#32
  ![v692.toNat, 0]

def k0_chk606 (i : grid0.Coords) (v0 : BitVec 32) (v692 : BitVec 32) : Prop :=
  (∀ (k0_h6 : k0_cond6 i v0 = 1#1), ∀ a, (k0_off957 v692) a + S1x2048.size a ≤ S8704x2048.size a)
theorem k0_off957_inb : ∀ (i : grid0.Coords) (v0 : BitVec 32) (v692 : BitVec 32) (k0_hw606 : k0_chk606 i v0 v692), ∀ (k0_h6 : k0_cond6 i v0 = 1#1), ∀ a, (k0_off957 v692) a + S1x2048.size a ≤ S8704x2048.size a := fun i v0 v692 k0_hw606 k0_h6 => k0_hw606 k0_h6

def k0_off958 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c93_i32 : BitVec 32 := 93#32
  let v697 : BitVec 32 := Scalar.addi v45 c93_i32
  let v698 : Index := Scalar.indexCast v697
  ![v698.toNat]
def k0_off959 (v699 : BitVec 32) : Fin 2 → Nat :=
  let c0_i32_401 : BitVec 32 := 0#32
  ![v699.toNat, 0]

def k0_chk607 (i : grid0.Coords) (v0 : BitVec 32) (v699 : BitVec 32) : Prop :=
  (∀ (k0_h6 : k0_cond6 i v0 = 1#1), ∀ a, (k0_off959 v699) a + S1x2048.size a ≤ S8704x2048.size a)
theorem k0_off959_inb : ∀ (i : grid0.Coords) (v0 : BitVec 32) (v699 : BitVec 32) (k0_hw607 : k0_chk607 i v0 v699), ∀ (k0_h6 : k0_cond6 i v0 = 1#1), ∀ a, (k0_off959 v699) a + S1x2048.size a ≤ S8704x2048.size a := fun i v0 v699 k0_hw607 k0_h6 => k0_hw607 k0_h6

def k0_off960 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c94_i32 : BitVec 32 := 94#32
  let v704 : BitVec 32 := Scalar.addi v45 c94_i32
  let v705 : Index := Scalar.indexCast v704
  ![v705.toNat]
def k0_off961 (v706 : BitVec 32) : Fin 2 → Nat :=
  let c0_i32_405 : BitVec 32 := 0#32
  ![v706.toNat, 0]

def k0_chk608 (i : grid0.Coords) (v0 : BitVec 32) (v706 : BitVec 32) : Prop :=
  (∀ (k0_h6 : k0_cond6 i v0 = 1#1), ∀ a, (k0_off961 v706) a + S1x2048.size a ≤ S8704x2048.size a)
theorem k0_off961_inb : ∀ (i : grid0.Coords) (v0 : BitVec 32) (v706 : BitVec 32) (k0_hw608 : k0_chk608 i v0 v706), ∀ (k0_h6 : k0_cond6 i v0 = 1#1), ∀ a, (k0_off961 v706) a + S1x2048.size a ≤ S8704x2048.size a := fun i v0 v706 k0_hw608 k0_h6 => k0_hw608 k0_h6

def k0_off962 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c95_i32 : BitVec 32 := 95#32
  let v711 : BitVec 32 := Scalar.addi v45 c95_i32
  let v712 : Index := Scalar.indexCast v711
  ![v712.toNat]
def k0_off963 (v713 : BitVec 32) : Fin 2 → Nat :=
  let c0_i32_409 : BitVec 32 := 0#32
  ![v713.toNat, 0]

def k0_chk609 (i : grid0.Coords) (v0 : BitVec 32) (v713 : BitVec 32) : Prop :=
  (∀ (k0_h6 : k0_cond6 i v0 = 1#1), ∀ a, (k0_off963 v713) a + S1x2048.size a ≤ S8704x2048.size a)
theorem k0_off963_inb : ∀ (i : grid0.Coords) (v0 : BitVec 32) (v713 : BitVec 32) (k0_hw609 : k0_chk609 i v0 v713), ∀ (k0_h6 : k0_cond6 i v0 = 1#1), ∀ a, (k0_off963 v713) a + S1x2048.size a ≤ S8704x2048.size a := fun i v0 v713 k0_hw609 k0_h6 => k0_hw609 k0_h6

def k0_off964 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c96_i32 : BitVec 32 := 96#32
  let v718 : BitVec 32 := Scalar.addi v45 c96_i32
  let v719 : Index := Scalar.indexCast v718
  ![v719.toNat]
def k0_off965 (v720 : BitVec 32) : Fin 2 → Nat :=
  let c0_i32_413 : BitVec 32 := 0#32
  ![v720.toNat, 0]

def k0_chk610 (i : grid0.Coords) (v0 : BitVec 32) (v720 : BitVec 32) : Prop :=
  (∀ (k0_h6 : k0_cond6 i v0 = 1#1), ∀ a, (k0_off965 v720) a + S1x2048.size a ≤ S8704x2048.size a)
theorem k0_off965_inb : ∀ (i : grid0.Coords) (v0 : BitVec 32) (v720 : BitVec 32) (k0_hw610 : k0_chk610 i v0 v720), ∀ (k0_h6 : k0_cond6 i v0 = 1#1), ∀ a, (k0_off965 v720) a + S1x2048.size a ≤ S8704x2048.size a := fun i v0 v720 k0_hw610 k0_h6 => k0_hw610 k0_h6

def k0_off966 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c97_i32 : BitVec 32 := 97#32
  let v725 : BitVec 32 := Scalar.addi v45 c97_i32
  let v726 : Index := Scalar.indexCast v725
  ![v726.toNat]
def k0_off967 (v727 : BitVec 32) : Fin 2 → Nat :=
  let c0_i32_417 : BitVec 32 := 0#32
  ![v727.toNat, 0]

def k0_chk611 (i : grid0.Coords) (v0 : BitVec 32) (v727 : BitVec 32) : Prop :=
  (∀ (k0_h6 : k0_cond6 i v0 = 1#1), ∀ a, (k0_off967 v727) a + S1x2048.size a ≤ S8704x2048.size a)
theorem k0_off967_inb : ∀ (i : grid0.Coords) (v0 : BitVec 32) (v727 : BitVec 32) (k0_hw611 : k0_chk611 i v0 v727), ∀ (k0_h6 : k0_cond6 i v0 = 1#1), ∀ a, (k0_off967 v727) a + S1x2048.size a ≤ S8704x2048.size a := fun i v0 v727 k0_hw611 k0_h6 => k0_hw611 k0_h6

def k0_off968 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c98_i32 : BitVec 32 := 98#32
  let v732 : BitVec 32 := Scalar.addi v45 c98_i32
  let v733 : Index := Scalar.indexCast v732
  ![v733.toNat]
def k0_off969 (v734 : BitVec 32) : Fin 2 → Nat :=
  let c0_i32_421 : BitVec 32 := 0#32
  ![v734.toNat, 0]

def k0_chk612 (i : grid0.Coords) (v0 : BitVec 32) (v734 : BitVec 32) : Prop :=
  (∀ (k0_h6 : k0_cond6 i v0 = 1#1), ∀ a, (k0_off969 v734) a + S1x2048.size a ≤ S8704x2048.size a)
theorem k0_off969_inb : ∀ (i : grid0.Coords) (v0 : BitVec 32) (v734 : BitVec 32) (k0_hw612 : k0_chk612 i v0 v734), ∀ (k0_h6 : k0_cond6 i v0 = 1#1), ∀ a, (k0_off969 v734) a + S1x2048.size a ≤ S8704x2048.size a := fun i v0 v734 k0_hw612 k0_h6 => k0_hw612 k0_h6

def k0_off970 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c99_i32 : BitVec 32 := 99#32
  let v739 : BitVec 32 := Scalar.addi v45 c99_i32
  let v740 : Index := Scalar.indexCast v739
  ![v740.toNat]
def k0_off971 (v741 : BitVec 32) : Fin 2 → Nat :=
  let c0_i32_425 : BitVec 32 := 0#32
  ![v741.toNat, 0]

def k0_chk613 (i : grid0.Coords) (v0 : BitVec 32) (v741 : BitVec 32) : Prop :=
  (∀ (k0_h6 : k0_cond6 i v0 = 1#1), ∀ a, (k0_off971 v741) a + S1x2048.size a ≤ S8704x2048.size a)
theorem k0_off971_inb : ∀ (i : grid0.Coords) (v0 : BitVec 32) (v741 : BitVec 32) (k0_hw613 : k0_chk613 i v0 v741), ∀ (k0_h6 : k0_cond6 i v0 = 1#1), ∀ a, (k0_off971 v741) a + S1x2048.size a ≤ S8704x2048.size a := fun i v0 v741 k0_hw613 k0_h6 => k0_hw613 k0_h6

def k0_off972 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c100_i32 : BitVec 32 := 100#32
  let v746 : BitVec 32 := Scalar.addi v45 c100_i32
  let v747 : Index := Scalar.indexCast v746
  ![v747.toNat]
def k0_off973 (v748 : BitVec 32) : Fin 2 → Nat :=
  let c0_i32_429 : BitVec 32 := 0#32
  ![v748.toNat, 0]

def k0_chk614 (i : grid0.Coords) (v0 : BitVec 32) (v748 : BitVec 32) : Prop :=
  (∀ (k0_h6 : k0_cond6 i v0 = 1#1), ∀ a, (k0_off973 v748) a + S1x2048.size a ≤ S8704x2048.size a)
theorem k0_off973_inb : ∀ (i : grid0.Coords) (v0 : BitVec 32) (v748 : BitVec 32) (k0_hw614 : k0_chk614 i v0 v748), ∀ (k0_h6 : k0_cond6 i v0 = 1#1), ∀ a, (k0_off973 v748) a + S1x2048.size a ≤ S8704x2048.size a := fun i v0 v748 k0_hw614 k0_h6 => k0_hw614 k0_h6

def k0_off974 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c101_i32 : BitVec 32 := 101#32
  let v753 : BitVec 32 := Scalar.addi v45 c101_i32
  let v754 : Index := Scalar.indexCast v753
  ![v754.toNat]
def k0_off975 (v755 : BitVec 32) : Fin 2 → Nat :=
  let c0_i32_433 : BitVec 32 := 0#32
  ![v755.toNat, 0]

def k0_chk615 (i : grid0.Coords) (v0 : BitVec 32) (v755 : BitVec 32) : Prop :=
  (∀ (k0_h6 : k0_cond6 i v0 = 1#1), ∀ a, (k0_off975 v755) a + S1x2048.size a ≤ S8704x2048.size a)
theorem k0_off975_inb : ∀ (i : grid0.Coords) (v0 : BitVec 32) (v755 : BitVec 32) (k0_hw615 : k0_chk615 i v0 v755), ∀ (k0_h6 : k0_cond6 i v0 = 1#1), ∀ a, (k0_off975 v755) a + S1x2048.size a ≤ S8704x2048.size a := fun i v0 v755 k0_hw615 k0_h6 => k0_hw615 k0_h6

def k0_off976 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c102_i32 : BitVec 32 := 102#32
  let v760 : BitVec 32 := Scalar.addi v45 c102_i32
  let v761 : Index := Scalar.indexCast v760
  ![v761.toNat]
def k0_off977 (v762 : BitVec 32) : Fin 2 → Nat :=
  let c0_i32_437 : BitVec 32 := 0#32
  ![v762.toNat, 0]

def k0_chk616 (i : grid0.Coords) (v0 : BitVec 32) (v762 : BitVec 32) : Prop :=
  (∀ (k0_h6 : k0_cond6 i v0 = 1#1), ∀ a, (k0_off977 v762) a + S1x2048.size a ≤ S8704x2048.size a)
theorem k0_off977_inb : ∀ (i : grid0.Coords) (v0 : BitVec 32) (v762 : BitVec 32) (k0_hw616 : k0_chk616 i v0 v762), ∀ (k0_h6 : k0_cond6 i v0 = 1#1), ∀ a, (k0_off977 v762) a + S1x2048.size a ≤ S8704x2048.size a := fun i v0 v762 k0_hw616 k0_h6 => k0_hw616 k0_h6

def k0_off978 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c103_i32 : BitVec 32 := 103#32
  let v767 : BitVec 32 := Scalar.addi v45 c103_i32
  let v768 : Index := Scalar.indexCast v767
  ![v768.toNat]
def k0_off979 (v769 : BitVec 32) : Fin 2 → Nat :=
  let c0_i32_441 : BitVec 32 := 0#32
  ![v769.toNat, 0]

def k0_chk617 (i : grid0.Coords) (v0 : BitVec 32) (v769 : BitVec 32) : Prop :=
  (∀ (k0_h6 : k0_cond6 i v0 = 1#1), ∀ a, (k0_off979 v769) a + S1x2048.size a ≤ S8704x2048.size a)
theorem k0_off979_inb : ∀ (i : grid0.Coords) (v0 : BitVec 32) (v769 : BitVec 32) (k0_hw617 : k0_chk617 i v0 v769), ∀ (k0_h6 : k0_cond6 i v0 = 1#1), ∀ a, (k0_off979 v769) a + S1x2048.size a ≤ S8704x2048.size a := fun i v0 v769 k0_hw617 k0_h6 => k0_hw617 k0_h6

def k0_off980 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c104_i32 : BitVec 32 := 104#32
  let v774 : BitVec 32 := Scalar.addi v45 c104_i32
  let v775 : Index := Scalar.indexCast v774
  ![v775.toNat]
def k0_off981 (v776 : BitVec 32) : Fin 2 → Nat :=
  let c0_i32_445 : BitVec 32 := 0#32
  ![v776.toNat, 0]

def k0_chk618 (i : grid0.Coords) (v0 : BitVec 32) (v776 : BitVec 32) : Prop :=
  (∀ (k0_h6 : k0_cond6 i v0 = 1#1), ∀ a, (k0_off981 v776) a + S1x2048.size a ≤ S8704x2048.size a)
theorem k0_off981_inb : ∀ (i : grid0.Coords) (v0 : BitVec 32) (v776 : BitVec 32) (k0_hw618 : k0_chk618 i v0 v776), ∀ (k0_h6 : k0_cond6 i v0 = 1#1), ∀ a, (k0_off981 v776) a + S1x2048.size a ≤ S8704x2048.size a := fun i v0 v776 k0_hw618 k0_h6 => k0_hw618 k0_h6

def k0_off982 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c105_i32 : BitVec 32 := 105#32
  let v781 : BitVec 32 := Scalar.addi v45 c105_i32
  let v782 : Index := Scalar.indexCast v781
  ![v782.toNat]
def k0_off983 (v783 : BitVec 32) : Fin 2 → Nat :=
  let c0_i32_449 : BitVec 32 := 0#32
  ![v783.toNat, 0]

def k0_chk619 (i : grid0.Coords) (v0 : BitVec 32) (v783 : BitVec 32) : Prop :=
  (∀ (k0_h6 : k0_cond6 i v0 = 1#1), ∀ a, (k0_off983 v783) a + S1x2048.size a ≤ S8704x2048.size a)
theorem k0_off983_inb : ∀ (i : grid0.Coords) (v0 : BitVec 32) (v783 : BitVec 32) (k0_hw619 : k0_chk619 i v0 v783), ∀ (k0_h6 : k0_cond6 i v0 = 1#1), ∀ a, (k0_off983 v783) a + S1x2048.size a ≤ S8704x2048.size a := fun i v0 v783 k0_hw619 k0_h6 => k0_hw619 k0_h6

def k0_off984 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c106_i32 : BitVec 32 := 106#32
  let v788 : BitVec 32 := Scalar.addi v45 c106_i32
  let v789 : Index := Scalar.indexCast v788
  ![v789.toNat]
def k0_off985 (v790 : BitVec 32) : Fin 2 → Nat :=
  let c0_i32_453 : BitVec 32 := 0#32
  ![v790.toNat, 0]

def k0_chk620 (i : grid0.Coords) (v0 : BitVec 32) (v790 : BitVec 32) : Prop :=
  (∀ (k0_h6 : k0_cond6 i v0 = 1#1), ∀ a, (k0_off985 v790) a + S1x2048.size a ≤ S8704x2048.size a)
theorem k0_off985_inb : ∀ (i : grid0.Coords) (v0 : BitVec 32) (v790 : BitVec 32) (k0_hw620 : k0_chk620 i v0 v790), ∀ (k0_h6 : k0_cond6 i v0 = 1#1), ∀ a, (k0_off985 v790) a + S1x2048.size a ≤ S8704x2048.size a := fun i v0 v790 k0_hw620 k0_h6 => k0_hw620 k0_h6

def k0_off986 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c107_i32 : BitVec 32 := 107#32
  let v795 : BitVec 32 := Scalar.addi v45 c107_i32
  let v796 : Index := Scalar.indexCast v795
  ![v796.toNat]
def k0_off987 (v797 : BitVec 32) : Fin 2 → Nat :=
  let c0_i32_457 : BitVec 32 := 0#32
  ![v797.toNat, 0]

def k0_chk621 (i : grid0.Coords) (v0 : BitVec 32) (v797 : BitVec 32) : Prop :=
  (∀ (k0_h6 : k0_cond6 i v0 = 1#1), ∀ a, (k0_off987 v797) a + S1x2048.size a ≤ S8704x2048.size a)
theorem k0_off987_inb : ∀ (i : grid0.Coords) (v0 : BitVec 32) (v797 : BitVec 32) (k0_hw621 : k0_chk621 i v0 v797), ∀ (k0_h6 : k0_cond6 i v0 = 1#1), ∀ a, (k0_off987 v797) a + S1x2048.size a ≤ S8704x2048.size a := fun i v0 v797 k0_hw621 k0_h6 => k0_hw621 k0_h6

def k0_off988 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c108_i32 : BitVec 32 := 108#32
  let v802 : BitVec 32 := Scalar.addi v45 c108_i32
  let v803 : Index := Scalar.indexCast v802
  ![v803.toNat]
def k0_off989 (v804 : BitVec 32) : Fin 2 → Nat :=
  let c0_i32_461 : BitVec 32 := 0#32
  ![v804.toNat, 0]

def k0_chk622 (i : grid0.Coords) (v0 : BitVec 32) (v804 : BitVec 32) : Prop :=
  (∀ (k0_h6 : k0_cond6 i v0 = 1#1), ∀ a, (k0_off989 v804) a + S1x2048.size a ≤ S8704x2048.size a)
theorem k0_off989_inb : ∀ (i : grid0.Coords) (v0 : BitVec 32) (v804 : BitVec 32) (k0_hw622 : k0_chk622 i v0 v804), ∀ (k0_h6 : k0_cond6 i v0 = 1#1), ∀ a, (k0_off989 v804) a + S1x2048.size a ≤ S8704x2048.size a := fun i v0 v804 k0_hw622 k0_h6 => k0_hw622 k0_h6

def k0_off990 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c109_i32 : BitVec 32 := 109#32
  let v809 : BitVec 32 := Scalar.addi v45 c109_i32
  let v810 : Index := Scalar.indexCast v809
  ![v810.toNat]
def k0_off991 (v811 : BitVec 32) : Fin 2 → Nat :=
  let c0_i32_465 : BitVec 32 := 0#32
  ![v811.toNat, 0]

def k0_chk623 (i : grid0.Coords) (v0 : BitVec 32) (v811 : BitVec 32) : Prop :=
  (∀ (k0_h6 : k0_cond6 i v0 = 1#1), ∀ a, (k0_off991 v811) a + S1x2048.size a ≤ S8704x2048.size a)
theorem k0_off991_inb : ∀ (i : grid0.Coords) (v0 : BitVec 32) (v811 : BitVec 32) (k0_hw623 : k0_chk623 i v0 v811), ∀ (k0_h6 : k0_cond6 i v0 = 1#1), ∀ a, (k0_off991 v811) a + S1x2048.size a ≤ S8704x2048.size a := fun i v0 v811 k0_hw623 k0_h6 => k0_hw623 k0_h6

def k0_off992 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c110_i32 : BitVec 32 := 110#32
  let v816 : BitVec 32 := Scalar.addi v45 c110_i32
  let v817 : Index := Scalar.indexCast v816
  ![v817.toNat]
def k0_off993 (v818 : BitVec 32) : Fin 2 → Nat :=
  let c0_i32_469 : BitVec 32 := 0#32
  ![v818.toNat, 0]

def k0_chk624 (i : grid0.Coords) (v0 : BitVec 32) (v818 : BitVec 32) : Prop :=
  (∀ (k0_h6 : k0_cond6 i v0 = 1#1), ∀ a, (k0_off993 v818) a + S1x2048.size a ≤ S8704x2048.size a)
theorem k0_off993_inb : ∀ (i : grid0.Coords) (v0 : BitVec 32) (v818 : BitVec 32) (k0_hw624 : k0_chk624 i v0 v818), ∀ (k0_h6 : k0_cond6 i v0 = 1#1), ∀ a, (k0_off993 v818) a + S1x2048.size a ≤ S8704x2048.size a := fun i v0 v818 k0_hw624 k0_h6 => k0_hw624 k0_h6

def k0_off994 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c111_i32 : BitVec 32 := 111#32
  let v823 : BitVec 32 := Scalar.addi v45 c111_i32
  let v824 : Index := Scalar.indexCast v823
  ![v824.toNat]
def k0_off995 (v825 : BitVec 32) : Fin 2 → Nat :=
  let c0_i32_473 : BitVec 32 := 0#32
  ![v825.toNat, 0]

def k0_chk625 (i : grid0.Coords) (v0 : BitVec 32) (v825 : BitVec 32) : Prop :=
  (∀ (k0_h6 : k0_cond6 i v0 = 1#1), ∀ a, (k0_off995 v825) a + S1x2048.size a ≤ S8704x2048.size a)
theorem k0_off995_inb : ∀ (i : grid0.Coords) (v0 : BitVec 32) (v825 : BitVec 32) (k0_hw625 : k0_chk625 i v0 v825), ∀ (k0_h6 : k0_cond6 i v0 = 1#1), ∀ a, (k0_off995 v825) a + S1x2048.size a ≤ S8704x2048.size a := fun i v0 v825 k0_hw625 k0_h6 => k0_hw625 k0_h6

def k0_off996 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c112_i32 : BitVec 32 := 112#32
  let v830 : BitVec 32 := Scalar.addi v45 c112_i32
  let v831 : Index := Scalar.indexCast v830
  ![v831.toNat]
def k0_off997 (v832 : BitVec 32) : Fin 2 → Nat :=
  let c0_i32_477 : BitVec 32 := 0#32
  ![v832.toNat, 0]

def k0_chk626 (i : grid0.Coords) (v0 : BitVec 32) (v832 : BitVec 32) : Prop :=
  (∀ (k0_h6 : k0_cond6 i v0 = 1#1), ∀ a, (k0_off997 v832) a + S1x2048.size a ≤ S8704x2048.size a)
theorem k0_off997_inb : ∀ (i : grid0.Coords) (v0 : BitVec 32) (v832 : BitVec 32) (k0_hw626 : k0_chk626 i v0 v832), ∀ (k0_h6 : k0_cond6 i v0 = 1#1), ∀ a, (k0_off997 v832) a + S1x2048.size a ≤ S8704x2048.size a := fun i v0 v832 k0_hw626 k0_h6 => k0_hw626 k0_h6

def k0_off998 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c113_i32 : BitVec 32 := 113#32
  let v837 : BitVec 32 := Scalar.addi v45 c113_i32
  let v838 : Index := Scalar.indexCast v837
  ![v838.toNat]
def k0_off999 (v839 : BitVec 32) : Fin 2 → Nat :=
  let c0_i32_481 : BitVec 32 := 0#32
  ![v839.toNat, 0]

def k0_chk627 (i : grid0.Coords) (v0 : BitVec 32) (v839 : BitVec 32) : Prop :=
  (∀ (k0_h6 : k0_cond6 i v0 = 1#1), ∀ a, (k0_off999 v839) a + S1x2048.size a ≤ S8704x2048.size a)
theorem k0_off999_inb : ∀ (i : grid0.Coords) (v0 : BitVec 32) (v839 : BitVec 32) (k0_hw627 : k0_chk627 i v0 v839), ∀ (k0_h6 : k0_cond6 i v0 = 1#1), ∀ a, (k0_off999 v839) a + S1x2048.size a ≤ S8704x2048.size a := fun i v0 v839 k0_hw627 k0_h6 => k0_hw627 k0_h6

def k0_off1000 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c114_i32 : BitVec 32 := 114#32
  let v844 : BitVec 32 := Scalar.addi v45 c114_i32
  let v845 : Index := Scalar.indexCast v844
  ![v845.toNat]
def k0_off1001 (v846 : BitVec 32) : Fin 2 → Nat :=
  let c0_i32_485 : BitVec 32 := 0#32
  ![v846.toNat, 0]

def k0_chk628 (i : grid0.Coords) (v0 : BitVec 32) (v846 : BitVec 32) : Prop :=
  (∀ (k0_h6 : k0_cond6 i v0 = 1#1), ∀ a, (k0_off1001 v846) a + S1x2048.size a ≤ S8704x2048.size a)
theorem k0_off1001_inb : ∀ (i : grid0.Coords) (v0 : BitVec 32) (v846 : BitVec 32) (k0_hw628 : k0_chk628 i v0 v846), ∀ (k0_h6 : k0_cond6 i v0 = 1#1), ∀ a, (k0_off1001 v846) a + S1x2048.size a ≤ S8704x2048.size a := fun i v0 v846 k0_hw628 k0_h6 => k0_hw628 k0_h6

def k0_off1002 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c115_i32 : BitVec 32 := 115#32
  let v851 : BitVec 32 := Scalar.addi v45 c115_i32
  let v852 : Index := Scalar.indexCast v851
  ![v852.toNat]
def k0_off1003 (v853 : BitVec 32) : Fin 2 → Nat :=
  let c0_i32_489 : BitVec 32 := 0#32
  ![v853.toNat, 0]

def k0_chk629 (i : grid0.Coords) (v0 : BitVec 32) (v853 : BitVec 32) : Prop :=
  (∀ (k0_h6 : k0_cond6 i v0 = 1#1), ∀ a, (k0_off1003 v853) a + S1x2048.size a ≤ S8704x2048.size a)
theorem k0_off1003_inb : ∀ (i : grid0.Coords) (v0 : BitVec 32) (v853 : BitVec 32) (k0_hw629 : k0_chk629 i v0 v853), ∀ (k0_h6 : k0_cond6 i v0 = 1#1), ∀ a, (k0_off1003 v853) a + S1x2048.size a ≤ S8704x2048.size a := fun i v0 v853 k0_hw629 k0_h6 => k0_hw629 k0_h6

def k0_off1004 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c116_i32 : BitVec 32 := 116#32
  let v858 : BitVec 32 := Scalar.addi v45 c116_i32
  let v859 : Index := Scalar.indexCast v858
  ![v859.toNat]
def k0_off1005 (v860 : BitVec 32) : Fin 2 → Nat :=
  let c0_i32_493 : BitVec 32 := 0#32
  ![v860.toNat, 0]

def k0_chk630 (i : grid0.Coords) (v0 : BitVec 32) (v860 : BitVec 32) : Prop :=
  (∀ (k0_h6 : k0_cond6 i v0 = 1#1), ∀ a, (k0_off1005 v860) a + S1x2048.size a ≤ S8704x2048.size a)
theorem k0_off1005_inb : ∀ (i : grid0.Coords) (v0 : BitVec 32) (v860 : BitVec 32) (k0_hw630 : k0_chk630 i v0 v860), ∀ (k0_h6 : k0_cond6 i v0 = 1#1), ∀ a, (k0_off1005 v860) a + S1x2048.size a ≤ S8704x2048.size a := fun i v0 v860 k0_hw630 k0_h6 => k0_hw630 k0_h6

def k0_off1006 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c117_i32 : BitVec 32 := 117#32
  let v865 : BitVec 32 := Scalar.addi v45 c117_i32
  let v866 : Index := Scalar.indexCast v865
  ![v866.toNat]
def k0_off1007 (v867 : BitVec 32) : Fin 2 → Nat :=
  let c0_i32_497 : BitVec 32 := 0#32
  ![v867.toNat, 0]

def k0_chk631 (i : grid0.Coords) (v0 : BitVec 32) (v867 : BitVec 32) : Prop :=
  (∀ (k0_h6 : k0_cond6 i v0 = 1#1), ∀ a, (k0_off1007 v867) a + S1x2048.size a ≤ S8704x2048.size a)
theorem k0_off1007_inb : ∀ (i : grid0.Coords) (v0 : BitVec 32) (v867 : BitVec 32) (k0_hw631 : k0_chk631 i v0 v867), ∀ (k0_h6 : k0_cond6 i v0 = 1#1), ∀ a, (k0_off1007 v867) a + S1x2048.size a ≤ S8704x2048.size a := fun i v0 v867 k0_hw631 k0_h6 => k0_hw631 k0_h6

def k0_off1008 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c118_i32 : BitVec 32 := 118#32
  let v872 : BitVec 32 := Scalar.addi v45 c118_i32
  let v873 : Index := Scalar.indexCast v872
  ![v873.toNat]
def k0_off1009 (v874 : BitVec 32) : Fin 2 → Nat :=
  let c0_i32_501 : BitVec 32 := 0#32
  ![v874.toNat, 0]

def k0_chk632 (i : grid0.Coords) (v0 : BitVec 32) (v874 : BitVec 32) : Prop :=
  (∀ (k0_h6 : k0_cond6 i v0 = 1#1), ∀ a, (k0_off1009 v874) a + S1x2048.size a ≤ S8704x2048.size a)
theorem k0_off1009_inb : ∀ (i : grid0.Coords) (v0 : BitVec 32) (v874 : BitVec 32) (k0_hw632 : k0_chk632 i v0 v874), ∀ (k0_h6 : k0_cond6 i v0 = 1#1), ∀ a, (k0_off1009 v874) a + S1x2048.size a ≤ S8704x2048.size a := fun i v0 v874 k0_hw632 k0_h6 => k0_hw632 k0_h6

def k0_off1010 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c119_i32 : BitVec 32 := 119#32
  let v879 : BitVec 32 := Scalar.addi v45 c119_i32
  let v880 : Index := Scalar.indexCast v879
  ![v880.toNat]
def k0_off1011 (v881 : BitVec 32) : Fin 2 → Nat :=
  let c0_i32_505 : BitVec 32 := 0#32
  ![v881.toNat, 0]

def k0_chk633 (i : grid0.Coords) (v0 : BitVec 32) (v881 : BitVec 32) : Prop :=
  (∀ (k0_h6 : k0_cond6 i v0 = 1#1), ∀ a, (k0_off1011 v881) a + S1x2048.size a ≤ S8704x2048.size a)
theorem k0_off1011_inb : ∀ (i : grid0.Coords) (v0 : BitVec 32) (v881 : BitVec 32) (k0_hw633 : k0_chk633 i v0 v881), ∀ (k0_h6 : k0_cond6 i v0 = 1#1), ∀ a, (k0_off1011 v881) a + S1x2048.size a ≤ S8704x2048.size a := fun i v0 v881 k0_hw633 k0_h6 => k0_hw633 k0_h6

def k0_off1012 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c120_i32 : BitVec 32 := 120#32
  let v886 : BitVec 32 := Scalar.addi v45 c120_i32
  let v887 : Index := Scalar.indexCast v886
  ![v887.toNat]
def k0_off1013 (v888 : BitVec 32) : Fin 2 → Nat :=
  let c0_i32_509 : BitVec 32 := 0#32
  ![v888.toNat, 0]

def k0_chk634 (i : grid0.Coords) (v0 : BitVec 32) (v888 : BitVec 32) : Prop :=
  (∀ (k0_h6 : k0_cond6 i v0 = 1#1), ∀ a, (k0_off1013 v888) a + S1x2048.size a ≤ S8704x2048.size a)
theorem k0_off1013_inb : ∀ (i : grid0.Coords) (v0 : BitVec 32) (v888 : BitVec 32) (k0_hw634 : k0_chk634 i v0 v888), ∀ (k0_h6 : k0_cond6 i v0 = 1#1), ∀ a, (k0_off1013 v888) a + S1x2048.size a ≤ S8704x2048.size a := fun i v0 v888 k0_hw634 k0_h6 => k0_hw634 k0_h6

def k0_off1014 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c121_i32 : BitVec 32 := 121#32
  let v893 : BitVec 32 := Scalar.addi v45 c121_i32
  let v894 : Index := Scalar.indexCast v893
  ![v894.toNat]
def k0_off1015 (v895 : BitVec 32) : Fin 2 → Nat :=
  let c0_i32_513 : BitVec 32 := 0#32
  ![v895.toNat, 0]

def k0_chk635 (i : grid0.Coords) (v0 : BitVec 32) (v895 : BitVec 32) : Prop :=
  (∀ (k0_h6 : k0_cond6 i v0 = 1#1), ∀ a, (k0_off1015 v895) a + S1x2048.size a ≤ S8704x2048.size a)
theorem k0_off1015_inb : ∀ (i : grid0.Coords) (v0 : BitVec 32) (v895 : BitVec 32) (k0_hw635 : k0_chk635 i v0 v895), ∀ (k0_h6 : k0_cond6 i v0 = 1#1), ∀ a, (k0_off1015 v895) a + S1x2048.size a ≤ S8704x2048.size a := fun i v0 v895 k0_hw635 k0_h6 => k0_hw635 k0_h6

def k0_off1016 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c122_i32 : BitVec 32 := 122#32
  let v900 : BitVec 32 := Scalar.addi v45 c122_i32
  let v901 : Index := Scalar.indexCast v900
  ![v901.toNat]
def k0_off1017 (v902 : BitVec 32) : Fin 2 → Nat :=
  let c0_i32_517 : BitVec 32 := 0#32
  ![v902.toNat, 0]

def k0_chk636 (i : grid0.Coords) (v0 : BitVec 32) (v902 : BitVec 32) : Prop :=
  (∀ (k0_h6 : k0_cond6 i v0 = 1#1), ∀ a, (k0_off1017 v902) a + S1x2048.size a ≤ S8704x2048.size a)
theorem k0_off1017_inb : ∀ (i : grid0.Coords) (v0 : BitVec 32) (v902 : BitVec 32) (k0_hw636 : k0_chk636 i v0 v902), ∀ (k0_h6 : k0_cond6 i v0 = 1#1), ∀ a, (k0_off1017 v902) a + S1x2048.size a ≤ S8704x2048.size a := fun i v0 v902 k0_hw636 k0_h6 => k0_hw636 k0_h6

def k0_off1018 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c123_i32 : BitVec 32 := 123#32
  let v907 : BitVec 32 := Scalar.addi v45 c123_i32
  let v908 : Index := Scalar.indexCast v907
  ![v908.toNat]
def k0_off1019 (v909 : BitVec 32) : Fin 2 → Nat :=
  let c0_i32_521 : BitVec 32 := 0#32
  ![v909.toNat, 0]

def k0_chk637 (i : grid0.Coords) (v0 : BitVec 32) (v909 : BitVec 32) : Prop :=
  (∀ (k0_h6 : k0_cond6 i v0 = 1#1), ∀ a, (k0_off1019 v909) a + S1x2048.size a ≤ S8704x2048.size a)
theorem k0_off1019_inb : ∀ (i : grid0.Coords) (v0 : BitVec 32) (v909 : BitVec 32) (k0_hw637 : k0_chk637 i v0 v909), ∀ (k0_h6 : k0_cond6 i v0 = 1#1), ∀ a, (k0_off1019 v909) a + S1x2048.size a ≤ S8704x2048.size a := fun i v0 v909 k0_hw637 k0_h6 => k0_hw637 k0_h6

def k0_off1020 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c124_i32 : BitVec 32 := 124#32
  let v914 : BitVec 32 := Scalar.addi v45 c124_i32
  let v915 : Index := Scalar.indexCast v914
  ![v915.toNat]
def k0_off1021 (v916 : BitVec 32) : Fin 2 → Nat :=
  let c0_i32_525 : BitVec 32 := 0#32
  ![v916.toNat, 0]

def k0_chk638 (i : grid0.Coords) (v0 : BitVec 32) (v916 : BitVec 32) : Prop :=
  (∀ (k0_h6 : k0_cond6 i v0 = 1#1), ∀ a, (k0_off1021 v916) a + S1x2048.size a ≤ S8704x2048.size a)
theorem k0_off1021_inb : ∀ (i : grid0.Coords) (v0 : BitVec 32) (v916 : BitVec 32) (k0_hw638 : k0_chk638 i v0 v916), ∀ (k0_h6 : k0_cond6 i v0 = 1#1), ∀ a, (k0_off1021 v916) a + S1x2048.size a ≤ S8704x2048.size a := fun i v0 v916 k0_hw638 k0_h6 => k0_hw638 k0_h6

def k0_off1022 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c125_i32 : BitVec 32 := 125#32
  let v921 : BitVec 32 := Scalar.addi v45 c125_i32
  let v922 : Index := Scalar.indexCast v921
  ![v922.toNat]
def k0_off1023 (v923 : BitVec 32) : Fin 2 → Nat :=
  let c0_i32_529 : BitVec 32 := 0#32
  ![v923.toNat, 0]

def k0_chk639 (i : grid0.Coords) (v0 : BitVec 32) (v923 : BitVec 32) : Prop :=
  (∀ (k0_h6 : k0_cond6 i v0 = 1#1), ∀ a, (k0_off1023 v923) a + S1x2048.size a ≤ S8704x2048.size a)
theorem k0_off1023_inb : ∀ (i : grid0.Coords) (v0 : BitVec 32) (v923 : BitVec 32) (k0_hw639 : k0_chk639 i v0 v923), ∀ (k0_h6 : k0_cond6 i v0 = 1#1), ∀ a, (k0_off1023 v923) a + S1x2048.size a ≤ S8704x2048.size a := fun i v0 v923 k0_hw639 k0_h6 => k0_hw639 k0_h6

def k0_off1024 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c126_i32 : BitVec 32 := 126#32
  let v928 : BitVec 32 := Scalar.addi v45 c126_i32
  let v929 : Index := Scalar.indexCast v928
  ![v929.toNat]
def k0_off1025 (v930 : BitVec 32) : Fin 2 → Nat :=
  let c0_i32_533 : BitVec 32 := 0#32
  ![v930.toNat, 0]

def k0_chk640 (i : grid0.Coords) (v0 : BitVec 32) (v930 : BitVec 32) : Prop :=
  (∀ (k0_h6 : k0_cond6 i v0 = 1#1), ∀ a, (k0_off1025 v930) a + S1x2048.size a ≤ S8704x2048.size a)
theorem k0_off1025_inb : ∀ (i : grid0.Coords) (v0 : BitVec 32) (v930 : BitVec 32) (k0_hw640 : k0_chk640 i v0 v930), ∀ (k0_h6 : k0_cond6 i v0 = 1#1), ∀ a, (k0_off1025 v930) a + S1x2048.size a ≤ S8704x2048.size a := fun i v0 v930 k0_hw640 k0_h6 => k0_hw640 k0_h6

def k0_off1026 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c127_i32 : BitVec 32 := 127#32
  let v935 : BitVec 32 := Scalar.addi v45 c127_i32
  let v936 : Index := Scalar.indexCast v935
  ![v936.toNat]
def k0_off1027 (v937 : BitVec 32) : Fin 2 → Nat :=
  let c0_i32_537 : BitVec 32 := 0#32
  ![v937.toNat, 0]

def k0_chk641 (i : grid0.Coords) (v0 : BitVec 32) (v937 : BitVec 32) : Prop :=
  (∀ (k0_h6 : k0_cond6 i v0 = 1#1), ∀ a, (k0_off1027 v937) a + S1x2048.size a ≤ S8704x2048.size a)
theorem k0_off1027_inb : ∀ (i : grid0.Coords) (v0 : BitVec 32) (v937 : BitVec 32) (k0_hw641 : k0_chk641 i v0 v937), ∀ (k0_h6 : k0_cond6 i v0 = 1#1), ∀ a, (k0_off1027 v937) a + S1x2048.size a ≤ S8704x2048.size a := fun i v0 v937 k0_hw641 k0_h6 => k0_hw641 k0_h6

def k0_off1028 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c128_i32 : BitVec 32 := 128#32
  let v942 : BitVec 32 := Scalar.addi v45 c128_i32
  let v943 : Index := Scalar.indexCast v942
  ![v943.toNat]
def k0_off1029 (v944 : BitVec 32) : Fin 2 → Nat :=
  let c0_i32_541 : BitVec 32 := 0#32
  ![v944.toNat, 0]

def k0_chk642 (i : grid0.Coords) (v0 : BitVec 32) (v944 : BitVec 32) : Prop :=
  (∀ (k0_h6 : k0_cond6 i v0 = 1#1), ∀ a, (k0_off1029 v944) a + S1x2048.size a ≤ S8704x2048.size a)
theorem k0_off1029_inb : ∀ (i : grid0.Coords) (v0 : BitVec 32) (v944 : BitVec 32) (k0_hw642 : k0_chk642 i v0 v944), ∀ (k0_h6 : k0_cond6 i v0 = 1#1), ∀ a, (k0_off1029 v944) a + S1x2048.size a ≤ S8704x2048.size a := fun i v0 v944 k0_hw642 k0_h6 => k0_hw642 k0_h6

def k0_off1030 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c129_i32 : BitVec 32 := 129#32
  let v949 : BitVec 32 := Scalar.addi v45 c129_i32
  let v950 : Index := Scalar.indexCast v949
  ![v950.toNat]
def k0_off1031 (v951 : BitVec 32) : Fin 2 → Nat :=
  let c0_i32_545 : BitVec 32 := 0#32
  ![v951.toNat, 0]

def k0_chk643 (i : grid0.Coords) (v0 : BitVec 32) (v951 : BitVec 32) : Prop :=
  (∀ (k0_h6 : k0_cond6 i v0 = 1#1), ∀ a, (k0_off1031 v951) a + S1x2048.size a ≤ S8704x2048.size a)
theorem k0_off1031_inb : ∀ (i : grid0.Coords) (v0 : BitVec 32) (v951 : BitVec 32) (k0_hw643 : k0_chk643 i v0 v951), ∀ (k0_h6 : k0_cond6 i v0 = 1#1), ∀ a, (k0_off1031 v951) a + S1x2048.size a ≤ S8704x2048.size a := fun i v0 v951 k0_hw643 k0_h6 => k0_hw643 k0_h6

def k0_off1032 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c130_i32 : BitVec 32 := 130#32
  let v956 : BitVec 32 := Scalar.addi v45 c130_i32
  let v957 : Index := Scalar.indexCast v956
  ![v957.toNat]
def k0_off1033 (v958 : BitVec 32) : Fin 2 → Nat :=
  let c0_i32_549 : BitVec 32 := 0#32
  ![v958.toNat, 0]

def k0_chk644 (i : grid0.Coords) (v0 : BitVec 32) (v958 : BitVec 32) : Prop :=
  (∀ (k0_h6 : k0_cond6 i v0 = 1#1), ∀ a, (k0_off1033 v958) a + S1x2048.size a ≤ S8704x2048.size a)
theorem k0_off1033_inb : ∀ (i : grid0.Coords) (v0 : BitVec 32) (v958 : BitVec 32) (k0_hw644 : k0_chk644 i v0 v958), ∀ (k0_h6 : k0_cond6 i v0 = 1#1), ∀ a, (k0_off1033 v958) a + S1x2048.size a ≤ S8704x2048.size a := fun i v0 v958 k0_hw644 k0_h6 => k0_hw644 k0_h6

def k0_off1034 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c131_i32 : BitVec 32 := 131#32
  let v963 : BitVec 32 := Scalar.addi v45 c131_i32
  let v964 : Index := Scalar.indexCast v963
  ![v964.toNat]
def k0_off1035 (v965 : BitVec 32) : Fin 2 → Nat :=
  let c0_i32_553 : BitVec 32 := 0#32
  ![v965.toNat, 0]

def k0_chk645 (i : grid0.Coords) (v0 : BitVec 32) (v965 : BitVec 32) : Prop :=
  (∀ (k0_h6 : k0_cond6 i v0 = 1#1), ∀ a, (k0_off1035 v965) a + S1x2048.size a ≤ S8704x2048.size a)
theorem k0_off1035_inb : ∀ (i : grid0.Coords) (v0 : BitVec 32) (v965 : BitVec 32) (k0_hw645 : k0_chk645 i v0 v965), ∀ (k0_h6 : k0_cond6 i v0 = 1#1), ∀ a, (k0_off1035 v965) a + S1x2048.size a ≤ S8704x2048.size a := fun i v0 v965 k0_hw645 k0_h6 => k0_hw645 k0_h6

def k0_off1036 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c132_i32 : BitVec 32 := 132#32
  let v970 : BitVec 32 := Scalar.addi v45 c132_i32
  let v971 : Index := Scalar.indexCast v970
  ![v971.toNat]
def k0_off1037 (v972 : BitVec 32) : Fin 2 → Nat :=
  let c0_i32_557 : BitVec 32 := 0#32
  ![v972.toNat, 0]

def k0_chk646 (i : grid0.Coords) (v0 : BitVec 32) (v972 : BitVec 32) : Prop :=
  (∀ (k0_h6 : k0_cond6 i v0 = 1#1), ∀ a, (k0_off1037 v972) a + S1x2048.size a ≤ S8704x2048.size a)
theorem k0_off1037_inb : ∀ (i : grid0.Coords) (v0 : BitVec 32) (v972 : BitVec 32) (k0_hw646 : k0_chk646 i v0 v972), ∀ (k0_h6 : k0_cond6 i v0 = 1#1), ∀ a, (k0_off1037 v972) a + S1x2048.size a ≤ S8704x2048.size a := fun i v0 v972 k0_hw646 k0_h6 => k0_hw646 k0_h6

def k0_off1038 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c133_i32 : BitVec 32 := 133#32
  let v977 : BitVec 32 := Scalar.addi v45 c133_i32
  let v978 : Index := Scalar.indexCast v977
  ![v978.toNat]
def k0_off1039 (v979 : BitVec 32) : Fin 2 → Nat :=
  let c0_i32_561 : BitVec 32 := 0#32
  ![v979.toNat, 0]

def k0_chk647 (i : grid0.Coords) (v0 : BitVec 32) (v979 : BitVec 32) : Prop :=
  (∀ (k0_h6 : k0_cond6 i v0 = 1#1), ∀ a, (k0_off1039 v979) a + S1x2048.size a ≤ S8704x2048.size a)
theorem k0_off1039_inb : ∀ (i : grid0.Coords) (v0 : BitVec 32) (v979 : BitVec 32) (k0_hw647 : k0_chk647 i v0 v979), ∀ (k0_h6 : k0_cond6 i v0 = 1#1), ∀ a, (k0_off1039 v979) a + S1x2048.size a ≤ S8704x2048.size a := fun i v0 v979 k0_hw647 k0_h6 => k0_hw647 k0_h6

def k0_off1040 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c134_i32 : BitVec 32 := 134#32
  let v984 : BitVec 32 := Scalar.addi v45 c134_i32
  let v985 : Index := Scalar.indexCast v984
  ![v985.toNat]
def k0_off1041 (v986 : BitVec 32) : Fin 2 → Nat :=
  let c0_i32_565 : BitVec 32 := 0#32
  ![v986.toNat, 0]

def k0_chk648 (i : grid0.Coords) (v0 : BitVec 32) (v986 : BitVec 32) : Prop :=
  (∀ (k0_h6 : k0_cond6 i v0 = 1#1), ∀ a, (k0_off1041 v986) a + S1x2048.size a ≤ S8704x2048.size a)
theorem k0_off1041_inb : ∀ (i : grid0.Coords) (v0 : BitVec 32) (v986 : BitVec 32) (k0_hw648 : k0_chk648 i v0 v986), ∀ (k0_h6 : k0_cond6 i v0 = 1#1), ∀ a, (k0_off1041 v986) a + S1x2048.size a ≤ S8704x2048.size a := fun i v0 v986 k0_hw648 k0_h6 => k0_hw648 k0_h6

def k0_off1042 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c135_i32 : BitVec 32 := 135#32
  let v991 : BitVec 32 := Scalar.addi v45 c135_i32
  let v992 : Index := Scalar.indexCast v991
  ![v992.toNat]
def k0_off1043 (v993 : BitVec 32) : Fin 2 → Nat :=
  let c0_i32_569 : BitVec 32 := 0#32
  ![v993.toNat, 0]

def k0_chk649 (i : grid0.Coords) (v0 : BitVec 32) (v993 : BitVec 32) : Prop :=
  (∀ (k0_h6 : k0_cond6 i v0 = 1#1), ∀ a, (k0_off1043 v993) a + S1x2048.size a ≤ S8704x2048.size a)
theorem k0_off1043_inb : ∀ (i : grid0.Coords) (v0 : BitVec 32) (v993 : BitVec 32) (k0_hw649 : k0_chk649 i v0 v993), ∀ (k0_h6 : k0_cond6 i v0 = 1#1), ∀ a, (k0_off1043 v993) a + S1x2048.size a ≤ S8704x2048.size a := fun i v0 v993 k0_hw649 k0_h6 => k0_hw649 k0_h6

def k0_off1044 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c136_i32 : BitVec 32 := 136#32
  let v998 : BitVec 32 := Scalar.addi v45 c136_i32
  let v999 : Index := Scalar.indexCast v998
  ![v999.toNat]
def k0_off1045 (v1000 : BitVec 32) : Fin 2 → Nat :=
  let c0_i32_573 : BitVec 32 := 0#32
  ![v1000.toNat, 0]

def k0_chk650 (i : grid0.Coords) (v0 : BitVec 32) (v1000 : BitVec 32) : Prop :=
  (∀ (k0_h6 : k0_cond6 i v0 = 1#1), ∀ a, (k0_off1045 v1000) a + S1x2048.size a ≤ S8704x2048.size a)
theorem k0_off1045_inb : ∀ (i : grid0.Coords) (v0 : BitVec 32) (v1000 : BitVec 32) (k0_hw650 : k0_chk650 i v0 v1000), ∀ (k0_h6 : k0_cond6 i v0 = 1#1), ∀ a, (k0_off1045 v1000) a + S1x2048.size a ≤ S8704x2048.size a := fun i v0 v1000 k0_hw650 k0_h6 => k0_hw650 k0_h6

def k0_off1046 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c137_i32 : BitVec 32 := 137#32
  let v1005 : BitVec 32 := Scalar.addi v45 c137_i32
  let v1006 : Index := Scalar.indexCast v1005
  ![v1006.toNat]
def k0_off1047 (v1007 : BitVec 32) : Fin 2 → Nat :=
  let c0_i32_577 : BitVec 32 := 0#32
  ![v1007.toNat, 0]

def k0_chk651 (i : grid0.Coords) (v0 : BitVec 32) (v1007 : BitVec 32) : Prop :=
  (∀ (k0_h6 : k0_cond6 i v0 = 1#1), ∀ a, (k0_off1047 v1007) a + S1x2048.size a ≤ S8704x2048.size a)
theorem k0_off1047_inb : ∀ (i : grid0.Coords) (v0 : BitVec 32) (v1007 : BitVec 32) (k0_hw651 : k0_chk651 i v0 v1007), ∀ (k0_h6 : k0_cond6 i v0 = 1#1), ∀ a, (k0_off1047 v1007) a + S1x2048.size a ≤ S8704x2048.size a := fun i v0 v1007 k0_hw651 k0_h6 => k0_hw651 k0_h6

def k0_off1048 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c138_i32 : BitVec 32 := 138#32
  let v1012 : BitVec 32 := Scalar.addi v45 c138_i32
  let v1013 : Index := Scalar.indexCast v1012
  ![v1013.toNat]
def k0_off1049 (v1014 : BitVec 32) : Fin 2 → Nat :=
  let c0_i32_581 : BitVec 32 := 0#32
  ![v1014.toNat, 0]

def k0_chk652 (i : grid0.Coords) (v0 : BitVec 32) (v1014 : BitVec 32) : Prop :=
  (∀ (k0_h6 : k0_cond6 i v0 = 1#1), ∀ a, (k0_off1049 v1014) a + S1x2048.size a ≤ S8704x2048.size a)
theorem k0_off1049_inb : ∀ (i : grid0.Coords) (v0 : BitVec 32) (v1014 : BitVec 32) (k0_hw652 : k0_chk652 i v0 v1014), ∀ (k0_h6 : k0_cond6 i v0 = 1#1), ∀ a, (k0_off1049 v1014) a + S1x2048.size a ≤ S8704x2048.size a := fun i v0 v1014 k0_hw652 k0_h6 => k0_hw652 k0_h6

def k0_off1050 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c139_i32 : BitVec 32 := 139#32
  let v1019 : BitVec 32 := Scalar.addi v45 c139_i32
  let v1020 : Index := Scalar.indexCast v1019
  ![v1020.toNat]
def k0_off1051 (v1021 : BitVec 32) : Fin 2 → Nat :=
  let c0_i32_585 : BitVec 32 := 0#32
  ![v1021.toNat, 0]

def k0_chk653 (i : grid0.Coords) (v0 : BitVec 32) (v1021 : BitVec 32) : Prop :=
  (∀ (k0_h6 : k0_cond6 i v0 = 1#1), ∀ a, (k0_off1051 v1021) a + S1x2048.size a ≤ S8704x2048.size a)
theorem k0_off1051_inb : ∀ (i : grid0.Coords) (v0 : BitVec 32) (v1021 : BitVec 32) (k0_hw653 : k0_chk653 i v0 v1021), ∀ (k0_h6 : k0_cond6 i v0 = 1#1), ∀ a, (k0_off1051 v1021) a + S1x2048.size a ≤ S8704x2048.size a := fun i v0 v1021 k0_hw653 k0_h6 => k0_hw653 k0_h6

def k0_off1052 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c140_i32 : BitVec 32 := 140#32
  let v1026 : BitVec 32 := Scalar.addi v45 c140_i32
  let v1027 : Index := Scalar.indexCast v1026
  ![v1027.toNat]
def k0_off1053 (v1028 : BitVec 32) : Fin 2 → Nat :=
  let c0_i32_589 : BitVec 32 := 0#32
  ![v1028.toNat, 0]

def k0_chk654 (i : grid0.Coords) (v0 : BitVec 32) (v1028 : BitVec 32) : Prop :=
  (∀ (k0_h6 : k0_cond6 i v0 = 1#1), ∀ a, (k0_off1053 v1028) a + S1x2048.size a ≤ S8704x2048.size a)
theorem k0_off1053_inb : ∀ (i : grid0.Coords) (v0 : BitVec 32) (v1028 : BitVec 32) (k0_hw654 : k0_chk654 i v0 v1028), ∀ (k0_h6 : k0_cond6 i v0 = 1#1), ∀ a, (k0_off1053 v1028) a + S1x2048.size a ≤ S8704x2048.size a := fun i v0 v1028 k0_hw654 k0_h6 => k0_hw654 k0_h6

def k0_off1054 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c141_i32 : BitVec 32 := 141#32
  let v1033 : BitVec 32 := Scalar.addi v45 c141_i32
  let v1034 : Index := Scalar.indexCast v1033
  ![v1034.toNat]
def k0_off1055 (v1035 : BitVec 32) : Fin 2 → Nat :=
  let c0_i32_593 : BitVec 32 := 0#32
  ![v1035.toNat, 0]

def k0_chk655 (i : grid0.Coords) (v0 : BitVec 32) (v1035 : BitVec 32) : Prop :=
  (∀ (k0_h6 : k0_cond6 i v0 = 1#1), ∀ a, (k0_off1055 v1035) a + S1x2048.size a ≤ S8704x2048.size a)
theorem k0_off1055_inb : ∀ (i : grid0.Coords) (v0 : BitVec 32) (v1035 : BitVec 32) (k0_hw655 : k0_chk655 i v0 v1035), ∀ (k0_h6 : k0_cond6 i v0 = 1#1), ∀ a, (k0_off1055 v1035) a + S1x2048.size a ≤ S8704x2048.size a := fun i v0 v1035 k0_hw655 k0_h6 => k0_hw655 k0_h6

def k0_off1056 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c142_i32 : BitVec 32 := 142#32
  let v1040 : BitVec 32 := Scalar.addi v45 c142_i32
  let v1041 : Index := Scalar.indexCast v1040
  ![v1041.toNat]
def k0_off1057 (v1042 : BitVec 32) : Fin 2 → Nat :=
  let c0_i32_597 : BitVec 32 := 0#32
  ![v1042.toNat, 0]

def k0_chk656 (i : grid0.Coords) (v0 : BitVec 32) (v1042 : BitVec 32) : Prop :=
  (∀ (k0_h6 : k0_cond6 i v0 = 1#1), ∀ a, (k0_off1057 v1042) a + S1x2048.size a ≤ S8704x2048.size a)
theorem k0_off1057_inb : ∀ (i : grid0.Coords) (v0 : BitVec 32) (v1042 : BitVec 32) (k0_hw656 : k0_chk656 i v0 v1042), ∀ (k0_h6 : k0_cond6 i v0 = 1#1), ∀ a, (k0_off1057 v1042) a + S1x2048.size a ≤ S8704x2048.size a := fun i v0 v1042 k0_hw656 k0_h6 => k0_hw656 k0_h6

def k0_off1058 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c143_i32 : BitVec 32 := 143#32
  let v1047 : BitVec 32 := Scalar.addi v45 c143_i32
  let v1048 : Index := Scalar.indexCast v1047
  ![v1048.toNat]
def k0_off1059 (v1049 : BitVec 32) : Fin 2 → Nat :=
  let c0_i32_601 : BitVec 32 := 0#32
  ![v1049.toNat, 0]

def k0_chk657 (i : grid0.Coords) (v0 : BitVec 32) (v1049 : BitVec 32) : Prop :=
  (∀ (k0_h6 : k0_cond6 i v0 = 1#1), ∀ a, (k0_off1059 v1049) a + S1x2048.size a ≤ S8704x2048.size a)
theorem k0_off1059_inb : ∀ (i : grid0.Coords) (v0 : BitVec 32) (v1049 : BitVec 32) (k0_hw657 : k0_chk657 i v0 v1049), ∀ (k0_h6 : k0_cond6 i v0 = 1#1), ∀ a, (k0_off1059 v1049) a + S1x2048.size a ≤ S8704x2048.size a := fun i v0 v1049 k0_hw657 k0_h6 => k0_hw657 k0_h6

def k0_off1060 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c144_i32 : BitVec 32 := 144#32
  let v1054 : BitVec 32 := Scalar.addi v45 c144_i32
  let v1055 : Index := Scalar.indexCast v1054
  ![v1055.toNat]
def k0_off1061 (v1056 : BitVec 32) : Fin 2 → Nat :=
  let c0_i32_605 : BitVec 32 := 0#32
  ![v1056.toNat, 0]

def k0_chk658 (i : grid0.Coords) (v0 : BitVec 32) (v1056 : BitVec 32) : Prop :=
  (∀ (k0_h6 : k0_cond6 i v0 = 1#1), ∀ a, (k0_off1061 v1056) a + S1x2048.size a ≤ S8704x2048.size a)
theorem k0_off1061_inb : ∀ (i : grid0.Coords) (v0 : BitVec 32) (v1056 : BitVec 32) (k0_hw658 : k0_chk658 i v0 v1056), ∀ (k0_h6 : k0_cond6 i v0 = 1#1), ∀ a, (k0_off1061 v1056) a + S1x2048.size a ≤ S8704x2048.size a := fun i v0 v1056 k0_hw658 k0_h6 => k0_hw658 k0_h6

def k0_off1062 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c145_i32 : BitVec 32 := 145#32
  let v1061 : BitVec 32 := Scalar.addi v45 c145_i32
  let v1062 : Index := Scalar.indexCast v1061
  ![v1062.toNat]
def k0_off1063 (v1063 : BitVec 32) : Fin 2 → Nat :=
  let c0_i32_609 : BitVec 32 := 0#32
  ![v1063.toNat, 0]

def k0_chk659 (i : grid0.Coords) (v0 : BitVec 32) (v1063 : BitVec 32) : Prop :=
  (∀ (k0_h6 : k0_cond6 i v0 = 1#1), ∀ a, (k0_off1063 v1063) a + S1x2048.size a ≤ S8704x2048.size a)
theorem k0_off1063_inb : ∀ (i : grid0.Coords) (v0 : BitVec 32) (v1063 : BitVec 32) (k0_hw659 : k0_chk659 i v0 v1063), ∀ (k0_h6 : k0_cond6 i v0 = 1#1), ∀ a, (k0_off1063 v1063) a + S1x2048.size a ≤ S8704x2048.size a := fun i v0 v1063 k0_hw659 k0_h6 => k0_hw659 k0_h6

def k0_off1064 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c146_i32 : BitVec 32 := 146#32
  let v1068 : BitVec 32 := Scalar.addi v45 c146_i32
  let v1069 : Index := Scalar.indexCast v1068
  ![v1069.toNat]
def k0_off1065 (v1070 : BitVec 32) : Fin 2 → Nat :=
  let c0_i32_613 : BitVec 32 := 0#32
  ![v1070.toNat, 0]

def k0_chk660 (i : grid0.Coords) (v0 : BitVec 32) (v1070 : BitVec 32) : Prop :=
  (∀ (k0_h6 : k0_cond6 i v0 = 1#1), ∀ a, (k0_off1065 v1070) a + S1x2048.size a ≤ S8704x2048.size a)
theorem k0_off1065_inb : ∀ (i : grid0.Coords) (v0 : BitVec 32) (v1070 : BitVec 32) (k0_hw660 : k0_chk660 i v0 v1070), ∀ (k0_h6 : k0_cond6 i v0 = 1#1), ∀ a, (k0_off1065 v1070) a + S1x2048.size a ≤ S8704x2048.size a := fun i v0 v1070 k0_hw660 k0_h6 => k0_hw660 k0_h6

def k0_off1066 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c147_i32 : BitVec 32 := 147#32
  let v1075 : BitVec 32 := Scalar.addi v45 c147_i32
  let v1076 : Index := Scalar.indexCast v1075
  ![v1076.toNat]
def k0_off1067 (v1077 : BitVec 32) : Fin 2 → Nat :=
  let c0_i32_617 : BitVec 32 := 0#32
  ![v1077.toNat, 0]

def k0_chk661 (i : grid0.Coords) (v0 : BitVec 32) (v1077 : BitVec 32) : Prop :=
  (∀ (k0_h6 : k0_cond6 i v0 = 1#1), ∀ a, (k0_off1067 v1077) a + S1x2048.size a ≤ S8704x2048.size a)
theorem k0_off1067_inb : ∀ (i : grid0.Coords) (v0 : BitVec 32) (v1077 : BitVec 32) (k0_hw661 : k0_chk661 i v0 v1077), ∀ (k0_h6 : k0_cond6 i v0 = 1#1), ∀ a, (k0_off1067 v1077) a + S1x2048.size a ≤ S8704x2048.size a := fun i v0 v1077 k0_hw661 k0_h6 => k0_hw661 k0_h6

def k0_off1068 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c148_i32 : BitVec 32 := 148#32
  let v1082 : BitVec 32 := Scalar.addi v45 c148_i32
  let v1083 : Index := Scalar.indexCast v1082
  ![v1083.toNat]
def k0_off1069 (v1084 : BitVec 32) : Fin 2 → Nat :=
  let c0_i32_621 : BitVec 32 := 0#32
  ![v1084.toNat, 0]

def k0_chk662 (i : grid0.Coords) (v0 : BitVec 32) (v1084 : BitVec 32) : Prop :=
  (∀ (k0_h6 : k0_cond6 i v0 = 1#1), ∀ a, (k0_off1069 v1084) a + S1x2048.size a ≤ S8704x2048.size a)
theorem k0_off1069_inb : ∀ (i : grid0.Coords) (v0 : BitVec 32) (v1084 : BitVec 32) (k0_hw662 : k0_chk662 i v0 v1084), ∀ (k0_h6 : k0_cond6 i v0 = 1#1), ∀ a, (k0_off1069 v1084) a + S1x2048.size a ≤ S8704x2048.size a := fun i v0 v1084 k0_hw662 k0_h6 => k0_hw662 k0_h6

def k0_off1070 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c149_i32 : BitVec 32 := 149#32
  let v1089 : BitVec 32 := Scalar.addi v45 c149_i32
  let v1090 : Index := Scalar.indexCast v1089
  ![v1090.toNat]
def k0_off1071 (v1091 : BitVec 32) : Fin 2 → Nat :=
  let c0_i32_625 : BitVec 32 := 0#32
  ![v1091.toNat, 0]

def k0_chk663 (i : grid0.Coords) (v0 : BitVec 32) (v1091 : BitVec 32) : Prop :=
  (∀ (k0_h6 : k0_cond6 i v0 = 1#1), ∀ a, (k0_off1071 v1091) a + S1x2048.size a ≤ S8704x2048.size a)
theorem k0_off1071_inb : ∀ (i : grid0.Coords) (v0 : BitVec 32) (v1091 : BitVec 32) (k0_hw663 : k0_chk663 i v0 v1091), ∀ (k0_h6 : k0_cond6 i v0 = 1#1), ∀ a, (k0_off1071 v1091) a + S1x2048.size a ≤ S8704x2048.size a := fun i v0 v1091 k0_hw663 k0_h6 => k0_hw663 k0_h6

def k0_off1072 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c150_i32 : BitVec 32 := 150#32
  let v1096 : BitVec 32 := Scalar.addi v45 c150_i32
  let v1097 : Index := Scalar.indexCast v1096
  ![v1097.toNat]
def k0_off1073 (v1098 : BitVec 32) : Fin 2 → Nat :=
  let c0_i32_629 : BitVec 32 := 0#32
  ![v1098.toNat, 0]

def k0_chk664 (i : grid0.Coords) (v0 : BitVec 32) (v1098 : BitVec 32) : Prop :=
  (∀ (k0_h6 : k0_cond6 i v0 = 1#1), ∀ a, (k0_off1073 v1098) a + S1x2048.size a ≤ S8704x2048.size a)
theorem k0_off1073_inb : ∀ (i : grid0.Coords) (v0 : BitVec 32) (v1098 : BitVec 32) (k0_hw664 : k0_chk664 i v0 v1098), ∀ (k0_h6 : k0_cond6 i v0 = 1#1), ∀ a, (k0_off1073 v1098) a + S1x2048.size a ≤ S8704x2048.size a := fun i v0 v1098 k0_hw664 k0_h6 => k0_hw664 k0_h6

def k0_off1074 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c151_i32 : BitVec 32 := 151#32
  let v1103 : BitVec 32 := Scalar.addi v45 c151_i32
  let v1104 : Index := Scalar.indexCast v1103
  ![v1104.toNat]
def k0_off1075 (v1105 : BitVec 32) : Fin 2 → Nat :=
  let c0_i32_633 : BitVec 32 := 0#32
  ![v1105.toNat, 0]

def k0_chk665 (i : grid0.Coords) (v0 : BitVec 32) (v1105 : BitVec 32) : Prop :=
  (∀ (k0_h6 : k0_cond6 i v0 = 1#1), ∀ a, (k0_off1075 v1105) a + S1x2048.size a ≤ S8704x2048.size a)
theorem k0_off1075_inb : ∀ (i : grid0.Coords) (v0 : BitVec 32) (v1105 : BitVec 32) (k0_hw665 : k0_chk665 i v0 v1105), ∀ (k0_h6 : k0_cond6 i v0 = 1#1), ∀ a, (k0_off1075 v1105) a + S1x2048.size a ≤ S8704x2048.size a := fun i v0 v1105 k0_hw665 k0_h6 => k0_hw665 k0_h6

def k0_off1076 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c152_i32 : BitVec 32 := 152#32
  let v1110 : BitVec 32 := Scalar.addi v45 c152_i32
  let v1111 : Index := Scalar.indexCast v1110
  ![v1111.toNat]
def k0_off1077 (v1112 : BitVec 32) : Fin 2 → Nat :=
  let c0_i32_637 : BitVec 32 := 0#32
  ![v1112.toNat, 0]

def k0_chk666 (i : grid0.Coords) (v0 : BitVec 32) (v1112 : BitVec 32) : Prop :=
  (∀ (k0_h6 : k0_cond6 i v0 = 1#1), ∀ a, (k0_off1077 v1112) a + S1x2048.size a ≤ S8704x2048.size a)
theorem k0_off1077_inb : ∀ (i : grid0.Coords) (v0 : BitVec 32) (v1112 : BitVec 32) (k0_hw666 : k0_chk666 i v0 v1112), ∀ (k0_h6 : k0_cond6 i v0 = 1#1), ∀ a, (k0_off1077 v1112) a + S1x2048.size a ≤ S8704x2048.size a := fun i v0 v1112 k0_hw666 k0_h6 => k0_hw666 k0_h6

def k0_off1078 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c153_i32 : BitVec 32 := 153#32
  let v1117 : BitVec 32 := Scalar.addi v45 c153_i32
  let v1118 : Index := Scalar.indexCast v1117
  ![v1118.toNat]
def k0_off1079 (v1119 : BitVec 32) : Fin 2 → Nat :=
  let c0_i32_641 : BitVec 32 := 0#32
  ![v1119.toNat, 0]

def k0_chk667 (i : grid0.Coords) (v0 : BitVec 32) (v1119 : BitVec 32) : Prop :=
  (∀ (k0_h6 : k0_cond6 i v0 = 1#1), ∀ a, (k0_off1079 v1119) a + S1x2048.size a ≤ S8704x2048.size a)
theorem k0_off1079_inb : ∀ (i : grid0.Coords) (v0 : BitVec 32) (v1119 : BitVec 32) (k0_hw667 : k0_chk667 i v0 v1119), ∀ (k0_h6 : k0_cond6 i v0 = 1#1), ∀ a, (k0_off1079 v1119) a + S1x2048.size a ≤ S8704x2048.size a := fun i v0 v1119 k0_hw667 k0_h6 => k0_hw667 k0_h6

def k0_off1080 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c154_i32 : BitVec 32 := 154#32
  let v1124 : BitVec 32 := Scalar.addi v45 c154_i32
  let v1125 : Index := Scalar.indexCast v1124
  ![v1125.toNat]
def k0_off1081 (v1126 : BitVec 32) : Fin 2 → Nat :=
  let c0_i32_645 : BitVec 32 := 0#32
  ![v1126.toNat, 0]

def k0_chk668 (i : grid0.Coords) (v0 : BitVec 32) (v1126 : BitVec 32) : Prop :=
  (∀ (k0_h6 : k0_cond6 i v0 = 1#1), ∀ a, (k0_off1081 v1126) a + S1x2048.size a ≤ S8704x2048.size a)
theorem k0_off1081_inb : ∀ (i : grid0.Coords) (v0 : BitVec 32) (v1126 : BitVec 32) (k0_hw668 : k0_chk668 i v0 v1126), ∀ (k0_h6 : k0_cond6 i v0 = 1#1), ∀ a, (k0_off1081 v1126) a + S1x2048.size a ≤ S8704x2048.size a := fun i v0 v1126 k0_hw668 k0_h6 => k0_hw668 k0_h6

def k0_off1082 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c155_i32 : BitVec 32 := 155#32
  let v1131 : BitVec 32 := Scalar.addi v45 c155_i32
  let v1132 : Index := Scalar.indexCast v1131
  ![v1132.toNat]
def k0_off1083 (v1133 : BitVec 32) : Fin 2 → Nat :=
  let c0_i32_649 : BitVec 32 := 0#32
  ![v1133.toNat, 0]

def k0_chk669 (i : grid0.Coords) (v0 : BitVec 32) (v1133 : BitVec 32) : Prop :=
  (∀ (k0_h6 : k0_cond6 i v0 = 1#1), ∀ a, (k0_off1083 v1133) a + S1x2048.size a ≤ S8704x2048.size a)
theorem k0_off1083_inb : ∀ (i : grid0.Coords) (v0 : BitVec 32) (v1133 : BitVec 32) (k0_hw669 : k0_chk669 i v0 v1133), ∀ (k0_h6 : k0_cond6 i v0 = 1#1), ∀ a, (k0_off1083 v1133) a + S1x2048.size a ≤ S8704x2048.size a := fun i v0 v1133 k0_hw669 k0_h6 => k0_hw669 k0_h6

def k0_off1084 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c156_i32 : BitVec 32 := 156#32
  let v1138 : BitVec 32 := Scalar.addi v45 c156_i32
  let v1139 : Index := Scalar.indexCast v1138
  ![v1139.toNat]
def k0_off1085 (v1140 : BitVec 32) : Fin 2 → Nat :=
  let c0_i32_653 : BitVec 32 := 0#32
  ![v1140.toNat, 0]

def k0_chk670 (i : grid0.Coords) (v0 : BitVec 32) (v1140 : BitVec 32) : Prop :=
  (∀ (k0_h6 : k0_cond6 i v0 = 1#1), ∀ a, (k0_off1085 v1140) a + S1x2048.size a ≤ S8704x2048.size a)
theorem k0_off1085_inb : ∀ (i : grid0.Coords) (v0 : BitVec 32) (v1140 : BitVec 32) (k0_hw670 : k0_chk670 i v0 v1140), ∀ (k0_h6 : k0_cond6 i v0 = 1#1), ∀ a, (k0_off1085 v1140) a + S1x2048.size a ≤ S8704x2048.size a := fun i v0 v1140 k0_hw670 k0_h6 => k0_hw670 k0_h6

def k0_off1086 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c157_i32 : BitVec 32 := 157#32
  let v1145 : BitVec 32 := Scalar.addi v45 c157_i32
  let v1146 : Index := Scalar.indexCast v1145
  ![v1146.toNat]
def k0_off1087 (v1147 : BitVec 32) : Fin 2 → Nat :=
  let c0_i32_657 : BitVec 32 := 0#32
  ![v1147.toNat, 0]

def k0_chk671 (i : grid0.Coords) (v0 : BitVec 32) (v1147 : BitVec 32) : Prop :=
  (∀ (k0_h6 : k0_cond6 i v0 = 1#1), ∀ a, (k0_off1087 v1147) a + S1x2048.size a ≤ S8704x2048.size a)
theorem k0_off1087_inb : ∀ (i : grid0.Coords) (v0 : BitVec 32) (v1147 : BitVec 32) (k0_hw671 : k0_chk671 i v0 v1147), ∀ (k0_h6 : k0_cond6 i v0 = 1#1), ∀ a, (k0_off1087 v1147) a + S1x2048.size a ≤ S8704x2048.size a := fun i v0 v1147 k0_hw671 k0_h6 => k0_hw671 k0_h6

def k0_off1088 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c158_i32 : BitVec 32 := 158#32
  let v1152 : BitVec 32 := Scalar.addi v45 c158_i32
  let v1153 : Index := Scalar.indexCast v1152
  ![v1153.toNat]
def k0_off1089 (v1154 : BitVec 32) : Fin 2 → Nat :=
  let c0_i32_661 : BitVec 32 := 0#32
  ![v1154.toNat, 0]

def k0_chk672 (i : grid0.Coords) (v0 : BitVec 32) (v1154 : BitVec 32) : Prop :=
  (∀ (k0_h6 : k0_cond6 i v0 = 1#1), ∀ a, (k0_off1089 v1154) a + S1x2048.size a ≤ S8704x2048.size a)
theorem k0_off1089_inb : ∀ (i : grid0.Coords) (v0 : BitVec 32) (v1154 : BitVec 32) (k0_hw672 : k0_chk672 i v0 v1154), ∀ (k0_h6 : k0_cond6 i v0 = 1#1), ∀ a, (k0_off1089 v1154) a + S1x2048.size a ≤ S8704x2048.size a := fun i v0 v1154 k0_hw672 k0_h6 => k0_hw672 k0_h6

def k0_off1090 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c159_i32 : BitVec 32 := 159#32
  let v1159 : BitVec 32 := Scalar.addi v45 c159_i32
  let v1160 : Index := Scalar.indexCast v1159
  ![v1160.toNat]
def k0_off1091 (v1161 : BitVec 32) : Fin 2 → Nat :=
  let c0_i32_665 : BitVec 32 := 0#32
  ![v1161.toNat, 0]

def k0_chk673 (i : grid0.Coords) (v0 : BitVec 32) (v1161 : BitVec 32) : Prop :=
  (∀ (k0_h6 : k0_cond6 i v0 = 1#1), ∀ a, (k0_off1091 v1161) a + S1x2048.size a ≤ S8704x2048.size a)
theorem k0_off1091_inb : ∀ (i : grid0.Coords) (v0 : BitVec 32) (v1161 : BitVec 32) (k0_hw673 : k0_chk673 i v0 v1161), ∀ (k0_h6 : k0_cond6 i v0 = 1#1), ∀ a, (k0_off1091 v1161) a + S1x2048.size a ≤ S8704x2048.size a := fun i v0 v1161 k0_hw673 k0_h6 => k0_hw673 k0_h6

def k0_off1092 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c160_i32 : BitVec 32 := 160#32
  let v1166 : BitVec 32 := Scalar.addi v45 c160_i32
  let v1167 : Index := Scalar.indexCast v1166
  ![v1167.toNat]
def k0_off1093 (v1168 : BitVec 32) : Fin 2 → Nat :=
  let c0_i32_669 : BitVec 32 := 0#32
  ![v1168.toNat, 0]

def k0_chk674 (i : grid0.Coords) (v0 : BitVec 32) (v1168 : BitVec 32) : Prop :=
  (∀ (k0_h6 : k0_cond6 i v0 = 1#1), ∀ a, (k0_off1093 v1168) a + S1x2048.size a ≤ S8704x2048.size a)
theorem k0_off1093_inb : ∀ (i : grid0.Coords) (v0 : BitVec 32) (v1168 : BitVec 32) (k0_hw674 : k0_chk674 i v0 v1168), ∀ (k0_h6 : k0_cond6 i v0 = 1#1), ∀ a, (k0_off1093 v1168) a + S1x2048.size a ≤ S8704x2048.size a := fun i v0 v1168 k0_hw674 k0_h6 => k0_hw674 k0_h6

def k0_off1094 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c161_i32 : BitVec 32 := 161#32
  let v1173 : BitVec 32 := Scalar.addi v45 c161_i32
  let v1174 : Index := Scalar.indexCast v1173
  ![v1174.toNat]
def k0_off1095 (v1175 : BitVec 32) : Fin 2 → Nat :=
  let c0_i32_673 : BitVec 32 := 0#32
  ![v1175.toNat, 0]

def k0_chk675 (i : grid0.Coords) (v0 : BitVec 32) (v1175 : BitVec 32) : Prop :=
  (∀ (k0_h6 : k0_cond6 i v0 = 1#1), ∀ a, (k0_off1095 v1175) a + S1x2048.size a ≤ S8704x2048.size a)
theorem k0_off1095_inb : ∀ (i : grid0.Coords) (v0 : BitVec 32) (v1175 : BitVec 32) (k0_hw675 : k0_chk675 i v0 v1175), ∀ (k0_h6 : k0_cond6 i v0 = 1#1), ∀ a, (k0_off1095 v1175) a + S1x2048.size a ≤ S8704x2048.size a := fun i v0 v1175 k0_hw675 k0_h6 => k0_hw675 k0_h6

def k0_off1096 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c162_i32 : BitVec 32 := 162#32
  let v1180 : BitVec 32 := Scalar.addi v45 c162_i32
  let v1181 : Index := Scalar.indexCast v1180
  ![v1181.toNat]
def k0_off1097 (v1182 : BitVec 32) : Fin 2 → Nat :=
  let c0_i32_677 : BitVec 32 := 0#32
  ![v1182.toNat, 0]

def k0_chk676 (i : grid0.Coords) (v0 : BitVec 32) (v1182 : BitVec 32) : Prop :=
  (∀ (k0_h6 : k0_cond6 i v0 = 1#1), ∀ a, (k0_off1097 v1182) a + S1x2048.size a ≤ S8704x2048.size a)
theorem k0_off1097_inb : ∀ (i : grid0.Coords) (v0 : BitVec 32) (v1182 : BitVec 32) (k0_hw676 : k0_chk676 i v0 v1182), ∀ (k0_h6 : k0_cond6 i v0 = 1#1), ∀ a, (k0_off1097 v1182) a + S1x2048.size a ≤ S8704x2048.size a := fun i v0 v1182 k0_hw676 k0_h6 => k0_hw676 k0_h6

def k0_off1098 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c163_i32 : BitVec 32 := 163#32
  let v1187 : BitVec 32 := Scalar.addi v45 c163_i32
  let v1188 : Index := Scalar.indexCast v1187
  ![v1188.toNat]
def k0_off1099 (v1189 : BitVec 32) : Fin 2 → Nat :=
  let c0_i32_681 : BitVec 32 := 0#32
  ![v1189.toNat, 0]

def k0_chk677 (i : grid0.Coords) (v0 : BitVec 32) (v1189 : BitVec 32) : Prop :=
  (∀ (k0_h6 : k0_cond6 i v0 = 1#1), ∀ a, (k0_off1099 v1189) a + S1x2048.size a ≤ S8704x2048.size a)
theorem k0_off1099_inb : ∀ (i : grid0.Coords) (v0 : BitVec 32) (v1189 : BitVec 32) (k0_hw677 : k0_chk677 i v0 v1189), ∀ (k0_h6 : k0_cond6 i v0 = 1#1), ∀ a, (k0_off1099 v1189) a + S1x2048.size a ≤ S8704x2048.size a := fun i v0 v1189 k0_hw677 k0_h6 => k0_hw677 k0_h6

def k0_off1100 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c164_i32 : BitVec 32 := 164#32
  let v1194 : BitVec 32 := Scalar.addi v45 c164_i32
  let v1195 : Index := Scalar.indexCast v1194
  ![v1195.toNat]
def k0_off1101 (v1196 : BitVec 32) : Fin 2 → Nat :=
  let c0_i32_685 : BitVec 32 := 0#32
  ![v1196.toNat, 0]

def k0_chk678 (i : grid0.Coords) (v0 : BitVec 32) (v1196 : BitVec 32) : Prop :=
  (∀ (k0_h6 : k0_cond6 i v0 = 1#1), ∀ a, (k0_off1101 v1196) a + S1x2048.size a ≤ S8704x2048.size a)
theorem k0_off1101_inb : ∀ (i : grid0.Coords) (v0 : BitVec 32) (v1196 : BitVec 32) (k0_hw678 : k0_chk678 i v0 v1196), ∀ (k0_h6 : k0_cond6 i v0 = 1#1), ∀ a, (k0_off1101 v1196) a + S1x2048.size a ≤ S8704x2048.size a := fun i v0 v1196 k0_hw678 k0_h6 => k0_hw678 k0_h6

def k0_off1102 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c165_i32 : BitVec 32 := 165#32
  let v1201 : BitVec 32 := Scalar.addi v45 c165_i32
  let v1202 : Index := Scalar.indexCast v1201
  ![v1202.toNat]
def k0_off1103 (v1203 : BitVec 32) : Fin 2 → Nat :=
  let c0_i32_689 : BitVec 32 := 0#32
  ![v1203.toNat, 0]

def k0_chk679 (i : grid0.Coords) (v0 : BitVec 32) (v1203 : BitVec 32) : Prop :=
  (∀ (k0_h6 : k0_cond6 i v0 = 1#1), ∀ a, (k0_off1103 v1203) a + S1x2048.size a ≤ S8704x2048.size a)
theorem k0_off1103_inb : ∀ (i : grid0.Coords) (v0 : BitVec 32) (v1203 : BitVec 32) (k0_hw679 : k0_chk679 i v0 v1203), ∀ (k0_h6 : k0_cond6 i v0 = 1#1), ∀ a, (k0_off1103 v1203) a + S1x2048.size a ≤ S8704x2048.size a := fun i v0 v1203 k0_hw679 k0_h6 => k0_hw679 k0_h6

def k0_off1104 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c166_i32 : BitVec 32 := 166#32
  let v1208 : BitVec 32 := Scalar.addi v45 c166_i32
  let v1209 : Index := Scalar.indexCast v1208
  ![v1209.toNat]
def k0_off1105 (v1210 : BitVec 32) : Fin 2 → Nat :=
  let c0_i32_693 : BitVec 32 := 0#32
  ![v1210.toNat, 0]

def k0_chk680 (i : grid0.Coords) (v0 : BitVec 32) (v1210 : BitVec 32) : Prop :=
  (∀ (k0_h6 : k0_cond6 i v0 = 1#1), ∀ a, (k0_off1105 v1210) a + S1x2048.size a ≤ S8704x2048.size a)
theorem k0_off1105_inb : ∀ (i : grid0.Coords) (v0 : BitVec 32) (v1210 : BitVec 32) (k0_hw680 : k0_chk680 i v0 v1210), ∀ (k0_h6 : k0_cond6 i v0 = 1#1), ∀ a, (k0_off1105 v1210) a + S1x2048.size a ≤ S8704x2048.size a := fun i v0 v1210 k0_hw680 k0_h6 => k0_hw680 k0_h6

def k0_off1106 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c167_i32 : BitVec 32 := 167#32
  let v1215 : BitVec 32 := Scalar.addi v45 c167_i32
  let v1216 : Index := Scalar.indexCast v1215
  ![v1216.toNat]
def k0_off1107 (v1217 : BitVec 32) : Fin 2 → Nat :=
  let c0_i32_697 : BitVec 32 := 0#32
  ![v1217.toNat, 0]

def k0_chk681 (i : grid0.Coords) (v0 : BitVec 32) (v1217 : BitVec 32) : Prop :=
  (∀ (k0_h6 : k0_cond6 i v0 = 1#1), ∀ a, (k0_off1107 v1217) a + S1x2048.size a ≤ S8704x2048.size a)
theorem k0_off1107_inb : ∀ (i : grid0.Coords) (v0 : BitVec 32) (v1217 : BitVec 32) (k0_hw681 : k0_chk681 i v0 v1217), ∀ (k0_h6 : k0_cond6 i v0 = 1#1), ∀ a, (k0_off1107 v1217) a + S1x2048.size a ≤ S8704x2048.size a := fun i v0 v1217 k0_hw681 k0_h6 => k0_hw681 k0_h6

def k0_off1108 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c168_i32 : BitVec 32 := 168#32
  let v1222 : BitVec 32 := Scalar.addi v45 c168_i32
  let v1223 : Index := Scalar.indexCast v1222
  ![v1223.toNat]
def k0_off1109 (v1224 : BitVec 32) : Fin 2 → Nat :=
  let c0_i32_701 : BitVec 32 := 0#32
  ![v1224.toNat, 0]

def k0_chk682 (i : grid0.Coords) (v0 : BitVec 32) (v1224 : BitVec 32) : Prop :=
  (∀ (k0_h6 : k0_cond6 i v0 = 1#1), ∀ a, (k0_off1109 v1224) a + S1x2048.size a ≤ S8704x2048.size a)
theorem k0_off1109_inb : ∀ (i : grid0.Coords) (v0 : BitVec 32) (v1224 : BitVec 32) (k0_hw682 : k0_chk682 i v0 v1224), ∀ (k0_h6 : k0_cond6 i v0 = 1#1), ∀ a, (k0_off1109 v1224) a + S1x2048.size a ≤ S8704x2048.size a := fun i v0 v1224 k0_hw682 k0_h6 => k0_hw682 k0_h6

def k0_off1110 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c169_i32 : BitVec 32 := 169#32
  let v1229 : BitVec 32 := Scalar.addi v45 c169_i32
  let v1230 : Index := Scalar.indexCast v1229
  ![v1230.toNat]
def k0_off1111 (v1231 : BitVec 32) : Fin 2 → Nat :=
  let c0_i32_705 : BitVec 32 := 0#32
  ![v1231.toNat, 0]

def k0_chk683 (i : grid0.Coords) (v0 : BitVec 32) (v1231 : BitVec 32) : Prop :=
  (∀ (k0_h6 : k0_cond6 i v0 = 1#1), ∀ a, (k0_off1111 v1231) a + S1x2048.size a ≤ S8704x2048.size a)
theorem k0_off1111_inb : ∀ (i : grid0.Coords) (v0 : BitVec 32) (v1231 : BitVec 32) (k0_hw683 : k0_chk683 i v0 v1231), ∀ (k0_h6 : k0_cond6 i v0 = 1#1), ∀ a, (k0_off1111 v1231) a + S1x2048.size a ≤ S8704x2048.size a := fun i v0 v1231 k0_hw683 k0_h6 => k0_hw683 k0_h6

def k0_off1112 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c170_i32 : BitVec 32 := 170#32
  let v1236 : BitVec 32 := Scalar.addi v45 c170_i32
  let v1237 : Index := Scalar.indexCast v1236
  ![v1237.toNat]
def k0_off1113 (v1238 : BitVec 32) : Fin 2 → Nat :=
  let c0_i32_709 : BitVec 32 := 0#32
  ![v1238.toNat, 0]

def k0_chk684 (i : grid0.Coords) (v0 : BitVec 32) (v1238 : BitVec 32) : Prop :=
  (∀ (k0_h6 : k0_cond6 i v0 = 1#1), ∀ a, (k0_off1113 v1238) a + S1x2048.size a ≤ S8704x2048.size a)
theorem k0_off1113_inb : ∀ (i : grid0.Coords) (v0 : BitVec 32) (v1238 : BitVec 32) (k0_hw684 : k0_chk684 i v0 v1238), ∀ (k0_h6 : k0_cond6 i v0 = 1#1), ∀ a, (k0_off1113 v1238) a + S1x2048.size a ≤ S8704x2048.size a := fun i v0 v1238 k0_hw684 k0_h6 => k0_hw684 k0_h6

def k0_off1114 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c171_i32 : BitVec 32 := 171#32
  let v1243 : BitVec 32 := Scalar.addi v45 c171_i32
  let v1244 : Index := Scalar.indexCast v1243
  ![v1244.toNat]
def k0_off1115 (v1245 : BitVec 32) : Fin 2 → Nat :=
  let c0_i32_713 : BitVec 32 := 0#32
  ![v1245.toNat, 0]

def k0_chk685 (i : grid0.Coords) (v0 : BitVec 32) (v1245 : BitVec 32) : Prop :=
  (∀ (k0_h6 : k0_cond6 i v0 = 1#1), ∀ a, (k0_off1115 v1245) a + S1x2048.size a ≤ S8704x2048.size a)
theorem k0_off1115_inb : ∀ (i : grid0.Coords) (v0 : BitVec 32) (v1245 : BitVec 32) (k0_hw685 : k0_chk685 i v0 v1245), ∀ (k0_h6 : k0_cond6 i v0 = 1#1), ∀ a, (k0_off1115 v1245) a + S1x2048.size a ≤ S8704x2048.size a := fun i v0 v1245 k0_hw685 k0_h6 => k0_hw685 k0_h6

def k0_off1116 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c172_i32 : BitVec 32 := 172#32
  let v1250 : BitVec 32 := Scalar.addi v45 c172_i32
  let v1251 : Index := Scalar.indexCast v1250
  ![v1251.toNat]
def k0_off1117 (v1252 : BitVec 32) : Fin 2 → Nat :=
  let c0_i32_717 : BitVec 32 := 0#32
  ![v1252.toNat, 0]

def k0_chk686 (i : grid0.Coords) (v0 : BitVec 32) (v1252 : BitVec 32) : Prop :=
  (∀ (k0_h6 : k0_cond6 i v0 = 1#1), ∀ a, (k0_off1117 v1252) a + S1x2048.size a ≤ S8704x2048.size a)
theorem k0_off1117_inb : ∀ (i : grid0.Coords) (v0 : BitVec 32) (v1252 : BitVec 32) (k0_hw686 : k0_chk686 i v0 v1252), ∀ (k0_h6 : k0_cond6 i v0 = 1#1), ∀ a, (k0_off1117 v1252) a + S1x2048.size a ≤ S8704x2048.size a := fun i v0 v1252 k0_hw686 k0_h6 => k0_hw686 k0_h6

def k0_off1118 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c173_i32 : BitVec 32 := 173#32
  let v1257 : BitVec 32 := Scalar.addi v45 c173_i32
  let v1258 : Index := Scalar.indexCast v1257
  ![v1258.toNat]
def k0_off1119 (v1259 : BitVec 32) : Fin 2 → Nat :=
  let c0_i32_721 : BitVec 32 := 0#32
  ![v1259.toNat, 0]

def k0_chk687 (i : grid0.Coords) (v0 : BitVec 32) (v1259 : BitVec 32) : Prop :=
  (∀ (k0_h6 : k0_cond6 i v0 = 1#1), ∀ a, (k0_off1119 v1259) a + S1x2048.size a ≤ S8704x2048.size a)
theorem k0_off1119_inb : ∀ (i : grid0.Coords) (v0 : BitVec 32) (v1259 : BitVec 32) (k0_hw687 : k0_chk687 i v0 v1259), ∀ (k0_h6 : k0_cond6 i v0 = 1#1), ∀ a, (k0_off1119 v1259) a + S1x2048.size a ≤ S8704x2048.size a := fun i v0 v1259 k0_hw687 k0_h6 => k0_hw687 k0_h6

def k0_off1120 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c174_i32 : BitVec 32 := 174#32
  let v1264 : BitVec 32 := Scalar.addi v45 c174_i32
  let v1265 : Index := Scalar.indexCast v1264
  ![v1265.toNat]
def k0_off1121 (v1266 : BitVec 32) : Fin 2 → Nat :=
  let c0_i32_725 : BitVec 32 := 0#32
  ![v1266.toNat, 0]

def k0_chk688 (i : grid0.Coords) (v0 : BitVec 32) (v1266 : BitVec 32) : Prop :=
  (∀ (k0_h6 : k0_cond6 i v0 = 1#1), ∀ a, (k0_off1121 v1266) a + S1x2048.size a ≤ S8704x2048.size a)
theorem k0_off1121_inb : ∀ (i : grid0.Coords) (v0 : BitVec 32) (v1266 : BitVec 32) (k0_hw688 : k0_chk688 i v0 v1266), ∀ (k0_h6 : k0_cond6 i v0 = 1#1), ∀ a, (k0_off1121 v1266) a + S1x2048.size a ≤ S8704x2048.size a := fun i v0 v1266 k0_hw688 k0_h6 => k0_hw688 k0_h6

def k0_off1122 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c175_i32 : BitVec 32 := 175#32
  let v1271 : BitVec 32 := Scalar.addi v45 c175_i32
  let v1272 : Index := Scalar.indexCast v1271
  ![v1272.toNat]
def k0_off1123 (v1273 : BitVec 32) : Fin 2 → Nat :=
  let c0_i32_729 : BitVec 32 := 0#32
  ![v1273.toNat, 0]

def k0_chk689 (i : grid0.Coords) (v0 : BitVec 32) (v1273 : BitVec 32) : Prop :=
  (∀ (k0_h6 : k0_cond6 i v0 = 1#1), ∀ a, (k0_off1123 v1273) a + S1x2048.size a ≤ S8704x2048.size a)
theorem k0_off1123_inb : ∀ (i : grid0.Coords) (v0 : BitVec 32) (v1273 : BitVec 32) (k0_hw689 : k0_chk689 i v0 v1273), ∀ (k0_h6 : k0_cond6 i v0 = 1#1), ∀ a, (k0_off1123 v1273) a + S1x2048.size a ≤ S8704x2048.size a := fun i v0 v1273 k0_hw689 k0_h6 => k0_hw689 k0_h6

def k0_off1124 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c176_i32 : BitVec 32 := 176#32
  let v1278 : BitVec 32 := Scalar.addi v45 c176_i32
  let v1279 : Index := Scalar.indexCast v1278
  ![v1279.toNat]
def k0_off1125 (v1280 : BitVec 32) : Fin 2 → Nat :=
  let c0_i32_733 : BitVec 32 := 0#32
  ![v1280.toNat, 0]

def k0_chk690 (i : grid0.Coords) (v0 : BitVec 32) (v1280 : BitVec 32) : Prop :=
  (∀ (k0_h6 : k0_cond6 i v0 = 1#1), ∀ a, (k0_off1125 v1280) a + S1x2048.size a ≤ S8704x2048.size a)
theorem k0_off1125_inb : ∀ (i : grid0.Coords) (v0 : BitVec 32) (v1280 : BitVec 32) (k0_hw690 : k0_chk690 i v0 v1280), ∀ (k0_h6 : k0_cond6 i v0 = 1#1), ∀ a, (k0_off1125 v1280) a + S1x2048.size a ≤ S8704x2048.size a := fun i v0 v1280 k0_hw690 k0_h6 => k0_hw690 k0_h6

def k0_off1126 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c177_i32 : BitVec 32 := 177#32
  let v1285 : BitVec 32 := Scalar.addi v45 c177_i32
  let v1286 : Index := Scalar.indexCast v1285
  ![v1286.toNat]
def k0_off1127 (v1287 : BitVec 32) : Fin 2 → Nat :=
  let c0_i32_737 : BitVec 32 := 0#32
  ![v1287.toNat, 0]

def k0_chk691 (i : grid0.Coords) (v0 : BitVec 32) (v1287 : BitVec 32) : Prop :=
  (∀ (k0_h6 : k0_cond6 i v0 = 1#1), ∀ a, (k0_off1127 v1287) a + S1x2048.size a ≤ S8704x2048.size a)
theorem k0_off1127_inb : ∀ (i : grid0.Coords) (v0 : BitVec 32) (v1287 : BitVec 32) (k0_hw691 : k0_chk691 i v0 v1287), ∀ (k0_h6 : k0_cond6 i v0 = 1#1), ∀ a, (k0_off1127 v1287) a + S1x2048.size a ≤ S8704x2048.size a := fun i v0 v1287 k0_hw691 k0_h6 => k0_hw691 k0_h6

def k0_off1128 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c178_i32 : BitVec 32 := 178#32
  let v1292 : BitVec 32 := Scalar.addi v45 c178_i32
  let v1293 : Index := Scalar.indexCast v1292
  ![v1293.toNat]
def k0_off1129 (v1294 : BitVec 32) : Fin 2 → Nat :=
  let c0_i32_741 : BitVec 32 := 0#32
  ![v1294.toNat, 0]

def k0_chk692 (i : grid0.Coords) (v0 : BitVec 32) (v1294 : BitVec 32) : Prop :=
  (∀ (k0_h6 : k0_cond6 i v0 = 1#1), ∀ a, (k0_off1129 v1294) a + S1x2048.size a ≤ S8704x2048.size a)
theorem k0_off1129_inb : ∀ (i : grid0.Coords) (v0 : BitVec 32) (v1294 : BitVec 32) (k0_hw692 : k0_chk692 i v0 v1294), ∀ (k0_h6 : k0_cond6 i v0 = 1#1), ∀ a, (k0_off1129 v1294) a + S1x2048.size a ≤ S8704x2048.size a := fun i v0 v1294 k0_hw692 k0_h6 => k0_hw692 k0_h6

def k0_off1130 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c179_i32 : BitVec 32 := 179#32
  let v1299 : BitVec 32 := Scalar.addi v45 c179_i32
  let v1300 : Index := Scalar.indexCast v1299
  ![v1300.toNat]
def k0_off1131 (v1301 : BitVec 32) : Fin 2 → Nat :=
  let c0_i32_745 : BitVec 32 := 0#32
  ![v1301.toNat, 0]

def k0_chk693 (i : grid0.Coords) (v0 : BitVec 32) (v1301 : BitVec 32) : Prop :=
  (∀ (k0_h6 : k0_cond6 i v0 = 1#1), ∀ a, (k0_off1131 v1301) a + S1x2048.size a ≤ S8704x2048.size a)
theorem k0_off1131_inb : ∀ (i : grid0.Coords) (v0 : BitVec 32) (v1301 : BitVec 32) (k0_hw693 : k0_chk693 i v0 v1301), ∀ (k0_h6 : k0_cond6 i v0 = 1#1), ∀ a, (k0_off1131 v1301) a + S1x2048.size a ≤ S8704x2048.size a := fun i v0 v1301 k0_hw693 k0_h6 => k0_hw693 k0_h6

def k0_off1132 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c180_i32 : BitVec 32 := 180#32
  let v1306 : BitVec 32 := Scalar.addi v45 c180_i32
  let v1307 : Index := Scalar.indexCast v1306
  ![v1307.toNat]
def k0_off1133 (v1308 : BitVec 32) : Fin 2 → Nat :=
  let c0_i32_749 : BitVec 32 := 0#32
  ![v1308.toNat, 0]

def k0_chk694 (i : grid0.Coords) (v0 : BitVec 32) (v1308 : BitVec 32) : Prop :=
  (∀ (k0_h6 : k0_cond6 i v0 = 1#1), ∀ a, (k0_off1133 v1308) a + S1x2048.size a ≤ S8704x2048.size a)
theorem k0_off1133_inb : ∀ (i : grid0.Coords) (v0 : BitVec 32) (v1308 : BitVec 32) (k0_hw694 : k0_chk694 i v0 v1308), ∀ (k0_h6 : k0_cond6 i v0 = 1#1), ∀ a, (k0_off1133 v1308) a + S1x2048.size a ≤ S8704x2048.size a := fun i v0 v1308 k0_hw694 k0_h6 => k0_hw694 k0_h6

def k0_off1134 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c181_i32 : BitVec 32 := 181#32
  let v1313 : BitVec 32 := Scalar.addi v45 c181_i32
  let v1314 : Index := Scalar.indexCast v1313
  ![v1314.toNat]
def k0_off1135 (v1315 : BitVec 32) : Fin 2 → Nat :=
  let c0_i32_753 : BitVec 32 := 0#32
  ![v1315.toNat, 0]

def k0_chk695 (i : grid0.Coords) (v0 : BitVec 32) (v1315 : BitVec 32) : Prop :=
  (∀ (k0_h6 : k0_cond6 i v0 = 1#1), ∀ a, (k0_off1135 v1315) a + S1x2048.size a ≤ S8704x2048.size a)
theorem k0_off1135_inb : ∀ (i : grid0.Coords) (v0 : BitVec 32) (v1315 : BitVec 32) (k0_hw695 : k0_chk695 i v0 v1315), ∀ (k0_h6 : k0_cond6 i v0 = 1#1), ∀ a, (k0_off1135 v1315) a + S1x2048.size a ≤ S8704x2048.size a := fun i v0 v1315 k0_hw695 k0_h6 => k0_hw695 k0_h6

def k0_off1136 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c182_i32 : BitVec 32 := 182#32
  let v1320 : BitVec 32 := Scalar.addi v45 c182_i32
  let v1321 : Index := Scalar.indexCast v1320
  ![v1321.toNat]
def k0_off1137 (v1322 : BitVec 32) : Fin 2 → Nat :=
  let c0_i32_757 : BitVec 32 := 0#32
  ![v1322.toNat, 0]

def k0_chk696 (i : grid0.Coords) (v0 : BitVec 32) (v1322 : BitVec 32) : Prop :=
  (∀ (k0_h6 : k0_cond6 i v0 = 1#1), ∀ a, (k0_off1137 v1322) a + S1x2048.size a ≤ S8704x2048.size a)
theorem k0_off1137_inb : ∀ (i : grid0.Coords) (v0 : BitVec 32) (v1322 : BitVec 32) (k0_hw696 : k0_chk696 i v0 v1322), ∀ (k0_h6 : k0_cond6 i v0 = 1#1), ∀ a, (k0_off1137 v1322) a + S1x2048.size a ≤ S8704x2048.size a := fun i v0 v1322 k0_hw696 k0_h6 => k0_hw696 k0_h6

def k0_off1138 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c183_i32 : BitVec 32 := 183#32
  let v1327 : BitVec 32 := Scalar.addi v45 c183_i32
  let v1328 : Index := Scalar.indexCast v1327
  ![v1328.toNat]
def k0_off1139 (v1329 : BitVec 32) : Fin 2 → Nat :=
  let c0_i32_761 : BitVec 32 := 0#32
  ![v1329.toNat, 0]

def k0_chk697 (i : grid0.Coords) (v0 : BitVec 32) (v1329 : BitVec 32) : Prop :=
  (∀ (k0_h6 : k0_cond6 i v0 = 1#1), ∀ a, (k0_off1139 v1329) a + S1x2048.size a ≤ S8704x2048.size a)
theorem k0_off1139_inb : ∀ (i : grid0.Coords) (v0 : BitVec 32) (v1329 : BitVec 32) (k0_hw697 : k0_chk697 i v0 v1329), ∀ (k0_h6 : k0_cond6 i v0 = 1#1), ∀ a, (k0_off1139 v1329) a + S1x2048.size a ≤ S8704x2048.size a := fun i v0 v1329 k0_hw697 k0_h6 => k0_hw697 k0_h6

def k0_off1140 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c184_i32 : BitVec 32 := 184#32
  let v1334 : BitVec 32 := Scalar.addi v45 c184_i32
  let v1335 : Index := Scalar.indexCast v1334
  ![v1335.toNat]
def k0_off1141 (v1336 : BitVec 32) : Fin 2 → Nat :=
  let c0_i32_765 : BitVec 32 := 0#32
  ![v1336.toNat, 0]

def k0_chk698 (i : grid0.Coords) (v0 : BitVec 32) (v1336 : BitVec 32) : Prop :=
  (∀ (k0_h6 : k0_cond6 i v0 = 1#1), ∀ a, (k0_off1141 v1336) a + S1x2048.size a ≤ S8704x2048.size a)
theorem k0_off1141_inb : ∀ (i : grid0.Coords) (v0 : BitVec 32) (v1336 : BitVec 32) (k0_hw698 : k0_chk698 i v0 v1336), ∀ (k0_h6 : k0_cond6 i v0 = 1#1), ∀ a, (k0_off1141 v1336) a + S1x2048.size a ≤ S8704x2048.size a := fun i v0 v1336 k0_hw698 k0_h6 => k0_hw698 k0_h6

def k0_off1142 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c185_i32 : BitVec 32 := 185#32
  let v1341 : BitVec 32 := Scalar.addi v45 c185_i32
  let v1342 : Index := Scalar.indexCast v1341
  ![v1342.toNat]
def k0_off1143 (v1343 : BitVec 32) : Fin 2 → Nat :=
  let c0_i32_769 : BitVec 32 := 0#32
  ![v1343.toNat, 0]

def k0_chk699 (i : grid0.Coords) (v0 : BitVec 32) (v1343 : BitVec 32) : Prop :=
  (∀ (k0_h6 : k0_cond6 i v0 = 1#1), ∀ a, (k0_off1143 v1343) a + S1x2048.size a ≤ S8704x2048.size a)
theorem k0_off1143_inb : ∀ (i : grid0.Coords) (v0 : BitVec 32) (v1343 : BitVec 32) (k0_hw699 : k0_chk699 i v0 v1343), ∀ (k0_h6 : k0_cond6 i v0 = 1#1), ∀ a, (k0_off1143 v1343) a + S1x2048.size a ≤ S8704x2048.size a := fun i v0 v1343 k0_hw699 k0_h6 => k0_hw699 k0_h6

def k0_off1144 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c186_i32 : BitVec 32 := 186#32
  let v1348 : BitVec 32 := Scalar.addi v45 c186_i32
  let v1349 : Index := Scalar.indexCast v1348
  ![v1349.toNat]
def k0_off1145 (v1350 : BitVec 32) : Fin 2 → Nat :=
  let c0_i32_773 : BitVec 32 := 0#32
  ![v1350.toNat, 0]

def k0_chk700 (i : grid0.Coords) (v0 : BitVec 32) (v1350 : BitVec 32) : Prop :=
  (∀ (k0_h6 : k0_cond6 i v0 = 1#1), ∀ a, (k0_off1145 v1350) a + S1x2048.size a ≤ S8704x2048.size a)
theorem k0_off1145_inb : ∀ (i : grid0.Coords) (v0 : BitVec 32) (v1350 : BitVec 32) (k0_hw700 : k0_chk700 i v0 v1350), ∀ (k0_h6 : k0_cond6 i v0 = 1#1), ∀ a, (k0_off1145 v1350) a + S1x2048.size a ≤ S8704x2048.size a := fun i v0 v1350 k0_hw700 k0_h6 => k0_hw700 k0_h6

def k0_off1146 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c187_i32 : BitVec 32 := 187#32
  let v1355 : BitVec 32 := Scalar.addi v45 c187_i32
  let v1356 : Index := Scalar.indexCast v1355
  ![v1356.toNat]
def k0_off1147 (v1357 : BitVec 32) : Fin 2 → Nat :=
  let c0_i32_777 : BitVec 32 := 0#32
  ![v1357.toNat, 0]

def k0_chk701 (i : grid0.Coords) (v0 : BitVec 32) (v1357 : BitVec 32) : Prop :=
  (∀ (k0_h6 : k0_cond6 i v0 = 1#1), ∀ a, (k0_off1147 v1357) a + S1x2048.size a ≤ S8704x2048.size a)
theorem k0_off1147_inb : ∀ (i : grid0.Coords) (v0 : BitVec 32) (v1357 : BitVec 32) (k0_hw701 : k0_chk701 i v0 v1357), ∀ (k0_h6 : k0_cond6 i v0 = 1#1), ∀ a, (k0_off1147 v1357) a + S1x2048.size a ≤ S8704x2048.size a := fun i v0 v1357 k0_hw701 k0_h6 => k0_hw701 k0_h6

def k0_off1148 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c188_i32 : BitVec 32 := 188#32
  let v1362 : BitVec 32 := Scalar.addi v45 c188_i32
  let v1363 : Index := Scalar.indexCast v1362
  ![v1363.toNat]
def k0_off1149 (v1364 : BitVec 32) : Fin 2 → Nat :=
  let c0_i32_781 : BitVec 32 := 0#32
  ![v1364.toNat, 0]

def k0_chk702 (i : grid0.Coords) (v0 : BitVec 32) (v1364 : BitVec 32) : Prop :=
  (∀ (k0_h6 : k0_cond6 i v0 = 1#1), ∀ a, (k0_off1149 v1364) a + S1x2048.size a ≤ S8704x2048.size a)
theorem k0_off1149_inb : ∀ (i : grid0.Coords) (v0 : BitVec 32) (v1364 : BitVec 32) (k0_hw702 : k0_chk702 i v0 v1364), ∀ (k0_h6 : k0_cond6 i v0 = 1#1), ∀ a, (k0_off1149 v1364) a + S1x2048.size a ≤ S8704x2048.size a := fun i v0 v1364 k0_hw702 k0_h6 => k0_hw702 k0_h6

def k0_off1150 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c189_i32 : BitVec 32 := 189#32
  let v1369 : BitVec 32 := Scalar.addi v45 c189_i32
  let v1370 : Index := Scalar.indexCast v1369
  ![v1370.toNat]
def k0_off1151 (v1371 : BitVec 32) : Fin 2 → Nat :=
  let c0_i32_785 : BitVec 32 := 0#32
  ![v1371.toNat, 0]

def k0_chk703 (i : grid0.Coords) (v0 : BitVec 32) (v1371 : BitVec 32) : Prop :=
  (∀ (k0_h6 : k0_cond6 i v0 = 1#1), ∀ a, (k0_off1151 v1371) a + S1x2048.size a ≤ S8704x2048.size a)
theorem k0_off1151_inb : ∀ (i : grid0.Coords) (v0 : BitVec 32) (v1371 : BitVec 32) (k0_hw703 : k0_chk703 i v0 v1371), ∀ (k0_h6 : k0_cond6 i v0 = 1#1), ∀ a, (k0_off1151 v1371) a + S1x2048.size a ≤ S8704x2048.size a := fun i v0 v1371 k0_hw703 k0_h6 => k0_hw703 k0_h6

def k0_off1152 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c190_i32 : BitVec 32 := 190#32
  let v1376 : BitVec 32 := Scalar.addi v45 c190_i32
  let v1377 : Index := Scalar.indexCast v1376
  ![v1377.toNat]
def k0_off1153 (v1378 : BitVec 32) : Fin 2 → Nat :=
  let c0_i32_789 : BitVec 32 := 0#32
  ![v1378.toNat, 0]

def k0_chk704 (i : grid0.Coords) (v0 : BitVec 32) (v1378 : BitVec 32) : Prop :=
  (∀ (k0_h6 : k0_cond6 i v0 = 1#1), ∀ a, (k0_off1153 v1378) a + S1x2048.size a ≤ S8704x2048.size a)
theorem k0_off1153_inb : ∀ (i : grid0.Coords) (v0 : BitVec 32) (v1378 : BitVec 32) (k0_hw704 : k0_chk704 i v0 v1378), ∀ (k0_h6 : k0_cond6 i v0 = 1#1), ∀ a, (k0_off1153 v1378) a + S1x2048.size a ≤ S8704x2048.size a := fun i v0 v1378 k0_hw704 k0_h6 => k0_hw704 k0_h6

def k0_off1154 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c191_i32 : BitVec 32 := 191#32
  let v1383 : BitVec 32 := Scalar.addi v45 c191_i32
  let v1384 : Index := Scalar.indexCast v1383
  ![v1384.toNat]
def k0_off1155 (v1385 : BitVec 32) : Fin 2 → Nat :=
  let c0_i32_793 : BitVec 32 := 0#32
  ![v1385.toNat, 0]

def k0_chk705 (i : grid0.Coords) (v0 : BitVec 32) (v1385 : BitVec 32) : Prop :=
  (∀ (k0_h6 : k0_cond6 i v0 = 1#1), ∀ a, (k0_off1155 v1385) a + S1x2048.size a ≤ S8704x2048.size a)
theorem k0_off1155_inb : ∀ (i : grid0.Coords) (v0 : BitVec 32) (v1385 : BitVec 32) (k0_hw705 : k0_chk705 i v0 v1385), ∀ (k0_h6 : k0_cond6 i v0 = 1#1), ∀ a, (k0_off1155 v1385) a + S1x2048.size a ≤ S8704x2048.size a := fun i v0 v1385 k0_hw705 k0_h6 => k0_hw705 k0_h6

def k0_off1156 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c192_i32 : BitVec 32 := 192#32
  let v1390 : BitVec 32 := Scalar.addi v45 c192_i32
  let v1391 : Index := Scalar.indexCast v1390
  ![v1391.toNat]
def k0_off1157 (v1392 : BitVec 32) : Fin 2 → Nat :=
  let c0_i32_797 : BitVec 32 := 0#32
  ![v1392.toNat, 0]

def k0_chk706 (i : grid0.Coords) (v0 : BitVec 32) (v1392 : BitVec 32) : Prop :=
  (∀ (k0_h6 : k0_cond6 i v0 = 1#1), ∀ a, (k0_off1157 v1392) a + S1x2048.size a ≤ S8704x2048.size a)
theorem k0_off1157_inb : ∀ (i : grid0.Coords) (v0 : BitVec 32) (v1392 : BitVec 32) (k0_hw706 : k0_chk706 i v0 v1392), ∀ (k0_h6 : k0_cond6 i v0 = 1#1), ∀ a, (k0_off1157 v1392) a + S1x2048.size a ≤ S8704x2048.size a := fun i v0 v1392 k0_hw706 k0_h6 => k0_hw706 k0_h6

def k0_off1158 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c193_i32 : BitVec 32 := 193#32
  let v1397 : BitVec 32 := Scalar.addi v45 c193_i32
  let v1398 : Index := Scalar.indexCast v1397
  ![v1398.toNat]
def k0_off1159 (v1399 : BitVec 32) : Fin 2 → Nat :=
  let c0_i32_801 : BitVec 32 := 0#32
  ![v1399.toNat, 0]

def k0_chk707 (i : grid0.Coords) (v0 : BitVec 32) (v1399 : BitVec 32) : Prop :=
  (∀ (k0_h6 : k0_cond6 i v0 = 1#1), ∀ a, (k0_off1159 v1399) a + S1x2048.size a ≤ S8704x2048.size a)
theorem k0_off1159_inb : ∀ (i : grid0.Coords) (v0 : BitVec 32) (v1399 : BitVec 32) (k0_hw707 : k0_chk707 i v0 v1399), ∀ (k0_h6 : k0_cond6 i v0 = 1#1), ∀ a, (k0_off1159 v1399) a + S1x2048.size a ≤ S8704x2048.size a := fun i v0 v1399 k0_hw707 k0_h6 => k0_hw707 k0_h6

def k0_off1160 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c194_i32 : BitVec 32 := 194#32
  let v1404 : BitVec 32 := Scalar.addi v45 c194_i32
  let v1405 : Index := Scalar.indexCast v1404
  ![v1405.toNat]
def k0_off1161 (v1406 : BitVec 32) : Fin 2 → Nat :=
  let c0_i32_805 : BitVec 32 := 0#32
  ![v1406.toNat, 0]

def k0_chk708 (i : grid0.Coords) (v0 : BitVec 32) (v1406 : BitVec 32) : Prop :=
  (∀ (k0_h6 : k0_cond6 i v0 = 1#1), ∀ a, (k0_off1161 v1406) a + S1x2048.size a ≤ S8704x2048.size a)
theorem k0_off1161_inb : ∀ (i : grid0.Coords) (v0 : BitVec 32) (v1406 : BitVec 32) (k0_hw708 : k0_chk708 i v0 v1406), ∀ (k0_h6 : k0_cond6 i v0 = 1#1), ∀ a, (k0_off1161 v1406) a + S1x2048.size a ≤ S8704x2048.size a := fun i v0 v1406 k0_hw708 k0_h6 => k0_hw708 k0_h6

def k0_off1162 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c195_i32 : BitVec 32 := 195#32
  let v1411 : BitVec 32 := Scalar.addi v45 c195_i32
  let v1412 : Index := Scalar.indexCast v1411
  ![v1412.toNat]
def k0_off1163 (v1413 : BitVec 32) : Fin 2 → Nat :=
  let c0_i32_809 : BitVec 32 := 0#32
  ![v1413.toNat, 0]

def k0_chk709 (i : grid0.Coords) (v0 : BitVec 32) (v1413 : BitVec 32) : Prop :=
  (∀ (k0_h6 : k0_cond6 i v0 = 1#1), ∀ a, (k0_off1163 v1413) a + S1x2048.size a ≤ S8704x2048.size a)
theorem k0_off1163_inb : ∀ (i : grid0.Coords) (v0 : BitVec 32) (v1413 : BitVec 32) (k0_hw709 : k0_chk709 i v0 v1413), ∀ (k0_h6 : k0_cond6 i v0 = 1#1), ∀ a, (k0_off1163 v1413) a + S1x2048.size a ≤ S8704x2048.size a := fun i v0 v1413 k0_hw709 k0_h6 => k0_hw709 k0_h6

def k0_off1164 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c196_i32 : BitVec 32 := 196#32
  let v1418 : BitVec 32 := Scalar.addi v45 c196_i32
  let v1419 : Index := Scalar.indexCast v1418
  ![v1419.toNat]
def k0_off1165 (v1420 : BitVec 32) : Fin 2 → Nat :=
  let c0_i32_813 : BitVec 32 := 0#32
  ![v1420.toNat, 0]

def k0_chk710 (i : grid0.Coords) (v0 : BitVec 32) (v1420 : BitVec 32) : Prop :=
  (∀ (k0_h6 : k0_cond6 i v0 = 1#1), ∀ a, (k0_off1165 v1420) a + S1x2048.size a ≤ S8704x2048.size a)
theorem k0_off1165_inb : ∀ (i : grid0.Coords) (v0 : BitVec 32) (v1420 : BitVec 32) (k0_hw710 : k0_chk710 i v0 v1420), ∀ (k0_h6 : k0_cond6 i v0 = 1#1), ∀ a, (k0_off1165 v1420) a + S1x2048.size a ≤ S8704x2048.size a := fun i v0 v1420 k0_hw710 k0_h6 => k0_hw710 k0_h6

def k0_off1166 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c197_i32 : BitVec 32 := 197#32
  let v1425 : BitVec 32 := Scalar.addi v45 c197_i32
  let v1426 : Index := Scalar.indexCast v1425
  ![v1426.toNat]
def k0_off1167 (v1427 : BitVec 32) : Fin 2 → Nat :=
  let c0_i32_817 : BitVec 32 := 0#32
  ![v1427.toNat, 0]

def k0_chk711 (i : grid0.Coords) (v0 : BitVec 32) (v1427 : BitVec 32) : Prop :=
  (∀ (k0_h6 : k0_cond6 i v0 = 1#1), ∀ a, (k0_off1167 v1427) a + S1x2048.size a ≤ S8704x2048.size a)
theorem k0_off1167_inb : ∀ (i : grid0.Coords) (v0 : BitVec 32) (v1427 : BitVec 32) (k0_hw711 : k0_chk711 i v0 v1427), ∀ (k0_h6 : k0_cond6 i v0 = 1#1), ∀ a, (k0_off1167 v1427) a + S1x2048.size a ≤ S8704x2048.size a := fun i v0 v1427 k0_hw711 k0_h6 => k0_hw711 k0_h6

def k0_off1168 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c198_i32 : BitVec 32 := 198#32
  let v1432 : BitVec 32 := Scalar.addi v45 c198_i32
  let v1433 : Index := Scalar.indexCast v1432
  ![v1433.toNat]
def k0_off1169 (v1434 : BitVec 32) : Fin 2 → Nat :=
  let c0_i32_821 : BitVec 32 := 0#32
  ![v1434.toNat, 0]

def k0_chk712 (i : grid0.Coords) (v0 : BitVec 32) (v1434 : BitVec 32) : Prop :=
  (∀ (k0_h6 : k0_cond6 i v0 = 1#1), ∀ a, (k0_off1169 v1434) a + S1x2048.size a ≤ S8704x2048.size a)
theorem k0_off1169_inb : ∀ (i : grid0.Coords) (v0 : BitVec 32) (v1434 : BitVec 32) (k0_hw712 : k0_chk712 i v0 v1434), ∀ (k0_h6 : k0_cond6 i v0 = 1#1), ∀ a, (k0_off1169 v1434) a + S1x2048.size a ≤ S8704x2048.size a := fun i v0 v1434 k0_hw712 k0_h6 => k0_hw712 k0_h6

def k0_off1170 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c199_i32 : BitVec 32 := 199#32
  let v1439 : BitVec 32 := Scalar.addi v45 c199_i32
  let v1440 : Index := Scalar.indexCast v1439
  ![v1440.toNat]
def k0_off1171 (v1441 : BitVec 32) : Fin 2 → Nat :=
  let c0_i32_825 : BitVec 32 := 0#32
  ![v1441.toNat, 0]

def k0_chk713 (i : grid0.Coords) (v0 : BitVec 32) (v1441 : BitVec 32) : Prop :=
  (∀ (k0_h6 : k0_cond6 i v0 = 1#1), ∀ a, (k0_off1171 v1441) a + S1x2048.size a ≤ S8704x2048.size a)
theorem k0_off1171_inb : ∀ (i : grid0.Coords) (v0 : BitVec 32) (v1441 : BitVec 32) (k0_hw713 : k0_chk713 i v0 v1441), ∀ (k0_h6 : k0_cond6 i v0 = 1#1), ∀ a, (k0_off1171 v1441) a + S1x2048.size a ≤ S8704x2048.size a := fun i v0 v1441 k0_hw713 k0_h6 => k0_hw713 k0_h6

def k0_off1172 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c200_i32 : BitVec 32 := 200#32
  let v1446 : BitVec 32 := Scalar.addi v45 c200_i32
  let v1447 : Index := Scalar.indexCast v1446
  ![v1447.toNat]
def k0_off1173 (v1448 : BitVec 32) : Fin 2 → Nat :=
  let c0_i32_829 : BitVec 32 := 0#32
  ![v1448.toNat, 0]

def k0_chk714 (i : grid0.Coords) (v0 : BitVec 32) (v1448 : BitVec 32) : Prop :=
  (∀ (k0_h6 : k0_cond6 i v0 = 1#1), ∀ a, (k0_off1173 v1448) a + S1x2048.size a ≤ S8704x2048.size a)
theorem k0_off1173_inb : ∀ (i : grid0.Coords) (v0 : BitVec 32) (v1448 : BitVec 32) (k0_hw714 : k0_chk714 i v0 v1448), ∀ (k0_h6 : k0_cond6 i v0 = 1#1), ∀ a, (k0_off1173 v1448) a + S1x2048.size a ≤ S8704x2048.size a := fun i v0 v1448 k0_hw714 k0_h6 => k0_hw714 k0_h6

def k0_off1174 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c201_i32 : BitVec 32 := 201#32
  let v1453 : BitVec 32 := Scalar.addi v45 c201_i32
  let v1454 : Index := Scalar.indexCast v1453
  ![v1454.toNat]
def k0_off1175 (v1455 : BitVec 32) : Fin 2 → Nat :=
  let c0_i32_833 : BitVec 32 := 0#32
  ![v1455.toNat, 0]

def k0_chk715 (i : grid0.Coords) (v0 : BitVec 32) (v1455 : BitVec 32) : Prop :=
  (∀ (k0_h6 : k0_cond6 i v0 = 1#1), ∀ a, (k0_off1175 v1455) a + S1x2048.size a ≤ S8704x2048.size a)
theorem k0_off1175_inb : ∀ (i : grid0.Coords) (v0 : BitVec 32) (v1455 : BitVec 32) (k0_hw715 : k0_chk715 i v0 v1455), ∀ (k0_h6 : k0_cond6 i v0 = 1#1), ∀ a, (k0_off1175 v1455) a + S1x2048.size a ≤ S8704x2048.size a := fun i v0 v1455 k0_hw715 k0_h6 => k0_hw715 k0_h6

def k0_off1176 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c202_i32 : BitVec 32 := 202#32
  let v1460 : BitVec 32 := Scalar.addi v45 c202_i32
  let v1461 : Index := Scalar.indexCast v1460
  ![v1461.toNat]
def k0_off1177 (v1462 : BitVec 32) : Fin 2 → Nat :=
  let c0_i32_837 : BitVec 32 := 0#32
  ![v1462.toNat, 0]

def k0_chk716 (i : grid0.Coords) (v0 : BitVec 32) (v1462 : BitVec 32) : Prop :=
  (∀ (k0_h6 : k0_cond6 i v0 = 1#1), ∀ a, (k0_off1177 v1462) a + S1x2048.size a ≤ S8704x2048.size a)
theorem k0_off1177_inb : ∀ (i : grid0.Coords) (v0 : BitVec 32) (v1462 : BitVec 32) (k0_hw716 : k0_chk716 i v0 v1462), ∀ (k0_h6 : k0_cond6 i v0 = 1#1), ∀ a, (k0_off1177 v1462) a + S1x2048.size a ≤ S8704x2048.size a := fun i v0 v1462 k0_hw716 k0_h6 => k0_hw716 k0_h6

def k0_off1178 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c203_i32 : BitVec 32 := 203#32
  let v1467 : BitVec 32 := Scalar.addi v45 c203_i32
  let v1468 : Index := Scalar.indexCast v1467
  ![v1468.toNat]
def k0_off1179 (v1469 : BitVec 32) : Fin 2 → Nat :=
  let c0_i32_841 : BitVec 32 := 0#32
  ![v1469.toNat, 0]

def k0_chk717 (i : grid0.Coords) (v0 : BitVec 32) (v1469 : BitVec 32) : Prop :=
  (∀ (k0_h6 : k0_cond6 i v0 = 1#1), ∀ a, (k0_off1179 v1469) a + S1x2048.size a ≤ S8704x2048.size a)
theorem k0_off1179_inb : ∀ (i : grid0.Coords) (v0 : BitVec 32) (v1469 : BitVec 32) (k0_hw717 : k0_chk717 i v0 v1469), ∀ (k0_h6 : k0_cond6 i v0 = 1#1), ∀ a, (k0_off1179 v1469) a + S1x2048.size a ≤ S8704x2048.size a := fun i v0 v1469 k0_hw717 k0_h6 => k0_hw717 k0_h6

def k0_off1180 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c204_i32 : BitVec 32 := 204#32
  let v1474 : BitVec 32 := Scalar.addi v45 c204_i32
  let v1475 : Index := Scalar.indexCast v1474
  ![v1475.toNat]
def k0_off1181 (v1476 : BitVec 32) : Fin 2 → Nat :=
  let c0_i32_845 : BitVec 32 := 0#32
  ![v1476.toNat, 0]

def k0_chk718 (i : grid0.Coords) (v0 : BitVec 32) (v1476 : BitVec 32) : Prop :=
  (∀ (k0_h6 : k0_cond6 i v0 = 1#1), ∀ a, (k0_off1181 v1476) a + S1x2048.size a ≤ S8704x2048.size a)
theorem k0_off1181_inb : ∀ (i : grid0.Coords) (v0 : BitVec 32) (v1476 : BitVec 32) (k0_hw718 : k0_chk718 i v0 v1476), ∀ (k0_h6 : k0_cond6 i v0 = 1#1), ∀ a, (k0_off1181 v1476) a + S1x2048.size a ≤ S8704x2048.size a := fun i v0 v1476 k0_hw718 k0_h6 => k0_hw718 k0_h6

def k0_off1182 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c205_i32 : BitVec 32 := 205#32
  let v1481 : BitVec 32 := Scalar.addi v45 c205_i32
  let v1482 : Index := Scalar.indexCast v1481
  ![v1482.toNat]
def k0_off1183 (v1483 : BitVec 32) : Fin 2 → Nat :=
  let c0_i32_849 : BitVec 32 := 0#32
  ![v1483.toNat, 0]

def k0_chk719 (i : grid0.Coords) (v0 : BitVec 32) (v1483 : BitVec 32) : Prop :=
  (∀ (k0_h6 : k0_cond6 i v0 = 1#1), ∀ a, (k0_off1183 v1483) a + S1x2048.size a ≤ S8704x2048.size a)
theorem k0_off1183_inb : ∀ (i : grid0.Coords) (v0 : BitVec 32) (v1483 : BitVec 32) (k0_hw719 : k0_chk719 i v0 v1483), ∀ (k0_h6 : k0_cond6 i v0 = 1#1), ∀ a, (k0_off1183 v1483) a + S1x2048.size a ≤ S8704x2048.size a := fun i v0 v1483 k0_hw719 k0_h6 => k0_hw719 k0_h6

def k0_off1184 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c206_i32 : BitVec 32 := 206#32
  let v1488 : BitVec 32 := Scalar.addi v45 c206_i32
  let v1489 : Index := Scalar.indexCast v1488
  ![v1489.toNat]
def k0_off1185 (v1490 : BitVec 32) : Fin 2 → Nat :=
  let c0_i32_853 : BitVec 32 := 0#32
  ![v1490.toNat, 0]

def k0_chk720 (i : grid0.Coords) (v0 : BitVec 32) (v1490 : BitVec 32) : Prop :=
  (∀ (k0_h6 : k0_cond6 i v0 = 1#1), ∀ a, (k0_off1185 v1490) a + S1x2048.size a ≤ S8704x2048.size a)
theorem k0_off1185_inb : ∀ (i : grid0.Coords) (v0 : BitVec 32) (v1490 : BitVec 32) (k0_hw720 : k0_chk720 i v0 v1490), ∀ (k0_h6 : k0_cond6 i v0 = 1#1), ∀ a, (k0_off1185 v1490) a + S1x2048.size a ≤ S8704x2048.size a := fun i v0 v1490 k0_hw720 k0_h6 => k0_hw720 k0_h6

def k0_off1186 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c207_i32 : BitVec 32 := 207#32
  let v1495 : BitVec 32 := Scalar.addi v45 c207_i32
  let v1496 : Index := Scalar.indexCast v1495
  ![v1496.toNat]
def k0_off1187 (v1497 : BitVec 32) : Fin 2 → Nat :=
  let c0_i32_857 : BitVec 32 := 0#32
  ![v1497.toNat, 0]

def k0_chk721 (i : grid0.Coords) (v0 : BitVec 32) (v1497 : BitVec 32) : Prop :=
  (∀ (k0_h6 : k0_cond6 i v0 = 1#1), ∀ a, (k0_off1187 v1497) a + S1x2048.size a ≤ S8704x2048.size a)
theorem k0_off1187_inb : ∀ (i : grid0.Coords) (v0 : BitVec 32) (v1497 : BitVec 32) (k0_hw721 : k0_chk721 i v0 v1497), ∀ (k0_h6 : k0_cond6 i v0 = 1#1), ∀ a, (k0_off1187 v1497) a + S1x2048.size a ≤ S8704x2048.size a := fun i v0 v1497 k0_hw721 k0_h6 => k0_hw721 k0_h6

def k0_off1188 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c208_i32 : BitVec 32 := 208#32
  let v1502 : BitVec 32 := Scalar.addi v45 c208_i32
  let v1503 : Index := Scalar.indexCast v1502
  ![v1503.toNat]
def k0_off1189 (v1504 : BitVec 32) : Fin 2 → Nat :=
  let c0_i32_861 : BitVec 32 := 0#32
  ![v1504.toNat, 0]

def k0_chk722 (i : grid0.Coords) (v0 : BitVec 32) (v1504 : BitVec 32) : Prop :=
  (∀ (k0_h6 : k0_cond6 i v0 = 1#1), ∀ a, (k0_off1189 v1504) a + S1x2048.size a ≤ S8704x2048.size a)
theorem k0_off1189_inb : ∀ (i : grid0.Coords) (v0 : BitVec 32) (v1504 : BitVec 32) (k0_hw722 : k0_chk722 i v0 v1504), ∀ (k0_h6 : k0_cond6 i v0 = 1#1), ∀ a, (k0_off1189 v1504) a + S1x2048.size a ≤ S8704x2048.size a := fun i v0 v1504 k0_hw722 k0_h6 => k0_hw722 k0_h6

def k0_off1190 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c209_i32 : BitVec 32 := 209#32
  let v1509 : BitVec 32 := Scalar.addi v45 c209_i32
  let v1510 : Index := Scalar.indexCast v1509
  ![v1510.toNat]
def k0_off1191 (v1511 : BitVec 32) : Fin 2 → Nat :=
  let c0_i32_865 : BitVec 32 := 0#32
  ![v1511.toNat, 0]

def k0_chk723 (i : grid0.Coords) (v0 : BitVec 32) (v1511 : BitVec 32) : Prop :=
  (∀ (k0_h6 : k0_cond6 i v0 = 1#1), ∀ a, (k0_off1191 v1511) a + S1x2048.size a ≤ S8704x2048.size a)
theorem k0_off1191_inb : ∀ (i : grid0.Coords) (v0 : BitVec 32) (v1511 : BitVec 32) (k0_hw723 : k0_chk723 i v0 v1511), ∀ (k0_h6 : k0_cond6 i v0 = 1#1), ∀ a, (k0_off1191 v1511) a + S1x2048.size a ≤ S8704x2048.size a := fun i v0 v1511 k0_hw723 k0_h6 => k0_hw723 k0_h6

def k0_off1192 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c210_i32 : BitVec 32 := 210#32
  let v1516 : BitVec 32 := Scalar.addi v45 c210_i32
  let v1517 : Index := Scalar.indexCast v1516
  ![v1517.toNat]
def k0_off1193 (v1518 : BitVec 32) : Fin 2 → Nat :=
  let c0_i32_869 : BitVec 32 := 0#32
  ![v1518.toNat, 0]

def k0_chk724 (i : grid0.Coords) (v0 : BitVec 32) (v1518 : BitVec 32) : Prop :=
  (∀ (k0_h6 : k0_cond6 i v0 = 1#1), ∀ a, (k0_off1193 v1518) a + S1x2048.size a ≤ S8704x2048.size a)
theorem k0_off1193_inb : ∀ (i : grid0.Coords) (v0 : BitVec 32) (v1518 : BitVec 32) (k0_hw724 : k0_chk724 i v0 v1518), ∀ (k0_h6 : k0_cond6 i v0 = 1#1), ∀ a, (k0_off1193 v1518) a + S1x2048.size a ≤ S8704x2048.size a := fun i v0 v1518 k0_hw724 k0_h6 => k0_hw724 k0_h6

def k0_off1194 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c211_i32 : BitVec 32 := 211#32
  let v1523 : BitVec 32 := Scalar.addi v45 c211_i32
  let v1524 : Index := Scalar.indexCast v1523
  ![v1524.toNat]
def k0_off1195 (v1525 : BitVec 32) : Fin 2 → Nat :=
  let c0_i32_873 : BitVec 32 := 0#32
  ![v1525.toNat, 0]

def k0_chk725 (i : grid0.Coords) (v0 : BitVec 32) (v1525 : BitVec 32) : Prop :=
  (∀ (k0_h6 : k0_cond6 i v0 = 1#1), ∀ a, (k0_off1195 v1525) a + S1x2048.size a ≤ S8704x2048.size a)
theorem k0_off1195_inb : ∀ (i : grid0.Coords) (v0 : BitVec 32) (v1525 : BitVec 32) (k0_hw725 : k0_chk725 i v0 v1525), ∀ (k0_h6 : k0_cond6 i v0 = 1#1), ∀ a, (k0_off1195 v1525) a + S1x2048.size a ≤ S8704x2048.size a := fun i v0 v1525 k0_hw725 k0_h6 => k0_hw725 k0_h6

def k0_off1196 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c212_i32 : BitVec 32 := 212#32
  let v1530 : BitVec 32 := Scalar.addi v45 c212_i32
  let v1531 : Index := Scalar.indexCast v1530
  ![v1531.toNat]
def k0_off1197 (v1532 : BitVec 32) : Fin 2 → Nat :=
  let c0_i32_877 : BitVec 32 := 0#32
  ![v1532.toNat, 0]

def k0_chk726 (i : grid0.Coords) (v0 : BitVec 32) (v1532 : BitVec 32) : Prop :=
  (∀ (k0_h6 : k0_cond6 i v0 = 1#1), ∀ a, (k0_off1197 v1532) a + S1x2048.size a ≤ S8704x2048.size a)
theorem k0_off1197_inb : ∀ (i : grid0.Coords) (v0 : BitVec 32) (v1532 : BitVec 32) (k0_hw726 : k0_chk726 i v0 v1532), ∀ (k0_h6 : k0_cond6 i v0 = 1#1), ∀ a, (k0_off1197 v1532) a + S1x2048.size a ≤ S8704x2048.size a := fun i v0 v1532 k0_hw726 k0_h6 => k0_hw726 k0_h6

def k0_off1198 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c213_i32 : BitVec 32 := 213#32
  let v1537 : BitVec 32 := Scalar.addi v45 c213_i32
  let v1538 : Index := Scalar.indexCast v1537
  ![v1538.toNat]
def k0_off1199 (v1539 : BitVec 32) : Fin 2 → Nat :=
  let c0_i32_881 : BitVec 32 := 0#32
  ![v1539.toNat, 0]

def k0_chk727 (i : grid0.Coords) (v0 : BitVec 32) (v1539 : BitVec 32) : Prop :=
  (∀ (k0_h6 : k0_cond6 i v0 = 1#1), ∀ a, (k0_off1199 v1539) a + S1x2048.size a ≤ S8704x2048.size a)
theorem k0_off1199_inb : ∀ (i : grid0.Coords) (v0 : BitVec 32) (v1539 : BitVec 32) (k0_hw727 : k0_chk727 i v0 v1539), ∀ (k0_h6 : k0_cond6 i v0 = 1#1), ∀ a, (k0_off1199 v1539) a + S1x2048.size a ≤ S8704x2048.size a := fun i v0 v1539 k0_hw727 k0_h6 => k0_hw727 k0_h6

def k0_off1200 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c214_i32 : BitVec 32 := 214#32
  let v1544 : BitVec 32 := Scalar.addi v45 c214_i32
  let v1545 : Index := Scalar.indexCast v1544
  ![v1545.toNat]
def k0_off1201 (v1546 : BitVec 32) : Fin 2 → Nat :=
  let c0_i32_885 : BitVec 32 := 0#32
  ![v1546.toNat, 0]

def k0_chk728 (i : grid0.Coords) (v0 : BitVec 32) (v1546 : BitVec 32) : Prop :=
  (∀ (k0_h6 : k0_cond6 i v0 = 1#1), ∀ a, (k0_off1201 v1546) a + S1x2048.size a ≤ S8704x2048.size a)
theorem k0_off1201_inb : ∀ (i : grid0.Coords) (v0 : BitVec 32) (v1546 : BitVec 32) (k0_hw728 : k0_chk728 i v0 v1546), ∀ (k0_h6 : k0_cond6 i v0 = 1#1), ∀ a, (k0_off1201 v1546) a + S1x2048.size a ≤ S8704x2048.size a := fun i v0 v1546 k0_hw728 k0_h6 => k0_hw728 k0_h6

def k0_off1202 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c215_i32 : BitVec 32 := 215#32
  let v1551 : BitVec 32 := Scalar.addi v45 c215_i32
  let v1552 : Index := Scalar.indexCast v1551
  ![v1552.toNat]
def k0_off1203 (v1553 : BitVec 32) : Fin 2 → Nat :=
  let c0_i32_889 : BitVec 32 := 0#32
  ![v1553.toNat, 0]

def k0_chk729 (i : grid0.Coords) (v0 : BitVec 32) (v1553 : BitVec 32) : Prop :=
  (∀ (k0_h6 : k0_cond6 i v0 = 1#1), ∀ a, (k0_off1203 v1553) a + S1x2048.size a ≤ S8704x2048.size a)
theorem k0_off1203_inb : ∀ (i : grid0.Coords) (v0 : BitVec 32) (v1553 : BitVec 32) (k0_hw729 : k0_chk729 i v0 v1553), ∀ (k0_h6 : k0_cond6 i v0 = 1#1), ∀ a, (k0_off1203 v1553) a + S1x2048.size a ≤ S8704x2048.size a := fun i v0 v1553 k0_hw729 k0_h6 => k0_hw729 k0_h6

def k0_off1204 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c216_i32 : BitVec 32 := 216#32
  let v1558 : BitVec 32 := Scalar.addi v45 c216_i32
  let v1559 : Index := Scalar.indexCast v1558
  ![v1559.toNat]
def k0_off1205 (v1560 : BitVec 32) : Fin 2 → Nat :=
  let c0_i32_893 : BitVec 32 := 0#32
  ![v1560.toNat, 0]

def k0_chk730 (i : grid0.Coords) (v0 : BitVec 32) (v1560 : BitVec 32) : Prop :=
  (∀ (k0_h6 : k0_cond6 i v0 = 1#1), ∀ a, (k0_off1205 v1560) a + S1x2048.size a ≤ S8704x2048.size a)
theorem k0_off1205_inb : ∀ (i : grid0.Coords) (v0 : BitVec 32) (v1560 : BitVec 32) (k0_hw730 : k0_chk730 i v0 v1560), ∀ (k0_h6 : k0_cond6 i v0 = 1#1), ∀ a, (k0_off1205 v1560) a + S1x2048.size a ≤ S8704x2048.size a := fun i v0 v1560 k0_hw730 k0_h6 => k0_hw730 k0_h6

def k0_off1206 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c217_i32 : BitVec 32 := 217#32
  let v1565 : BitVec 32 := Scalar.addi v45 c217_i32
  let v1566 : Index := Scalar.indexCast v1565
  ![v1566.toNat]
def k0_off1207 (v1567 : BitVec 32) : Fin 2 → Nat :=
  let c0_i32_897 : BitVec 32 := 0#32
  ![v1567.toNat, 0]

def k0_chk731 (i : grid0.Coords) (v0 : BitVec 32) (v1567 : BitVec 32) : Prop :=
  (∀ (k0_h6 : k0_cond6 i v0 = 1#1), ∀ a, (k0_off1207 v1567) a + S1x2048.size a ≤ S8704x2048.size a)
theorem k0_off1207_inb : ∀ (i : grid0.Coords) (v0 : BitVec 32) (v1567 : BitVec 32) (k0_hw731 : k0_chk731 i v0 v1567), ∀ (k0_h6 : k0_cond6 i v0 = 1#1), ∀ a, (k0_off1207 v1567) a + S1x2048.size a ≤ S8704x2048.size a := fun i v0 v1567 k0_hw731 k0_h6 => k0_hw731 k0_h6

def k0_off1208 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c218_i32 : BitVec 32 := 218#32
  let v1572 : BitVec 32 := Scalar.addi v45 c218_i32
  let v1573 : Index := Scalar.indexCast v1572
  ![v1573.toNat]
def k0_off1209 (v1574 : BitVec 32) : Fin 2 → Nat :=
  let c0_i32_901 : BitVec 32 := 0#32
  ![v1574.toNat, 0]

def k0_chk732 (i : grid0.Coords) (v0 : BitVec 32) (v1574 : BitVec 32) : Prop :=
  (∀ (k0_h6 : k0_cond6 i v0 = 1#1), ∀ a, (k0_off1209 v1574) a + S1x2048.size a ≤ S8704x2048.size a)
theorem k0_off1209_inb : ∀ (i : grid0.Coords) (v0 : BitVec 32) (v1574 : BitVec 32) (k0_hw732 : k0_chk732 i v0 v1574), ∀ (k0_h6 : k0_cond6 i v0 = 1#1), ∀ a, (k0_off1209 v1574) a + S1x2048.size a ≤ S8704x2048.size a := fun i v0 v1574 k0_hw732 k0_h6 => k0_hw732 k0_h6

def k0_off1210 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c219_i32 : BitVec 32 := 219#32
  let v1579 : BitVec 32 := Scalar.addi v45 c219_i32
  let v1580 : Index := Scalar.indexCast v1579
  ![v1580.toNat]
def k0_off1211 (v1581 : BitVec 32) : Fin 2 → Nat :=
  let c0_i32_905 : BitVec 32 := 0#32
  ![v1581.toNat, 0]

def k0_chk733 (i : grid0.Coords) (v0 : BitVec 32) (v1581 : BitVec 32) : Prop :=
  (∀ (k0_h6 : k0_cond6 i v0 = 1#1), ∀ a, (k0_off1211 v1581) a + S1x2048.size a ≤ S8704x2048.size a)
theorem k0_off1211_inb : ∀ (i : grid0.Coords) (v0 : BitVec 32) (v1581 : BitVec 32) (k0_hw733 : k0_chk733 i v0 v1581), ∀ (k0_h6 : k0_cond6 i v0 = 1#1), ∀ a, (k0_off1211 v1581) a + S1x2048.size a ≤ S8704x2048.size a := fun i v0 v1581 k0_hw733 k0_h6 => k0_hw733 k0_h6

def k0_off1212 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c220_i32 : BitVec 32 := 220#32
  let v1586 : BitVec 32 := Scalar.addi v45 c220_i32
  let v1587 : Index := Scalar.indexCast v1586
  ![v1587.toNat]
def k0_off1213 (v1588 : BitVec 32) : Fin 2 → Nat :=
  let c0_i32_909 : BitVec 32 := 0#32
  ![v1588.toNat, 0]

def k0_chk734 (i : grid0.Coords) (v0 : BitVec 32) (v1588 : BitVec 32) : Prop :=
  (∀ (k0_h6 : k0_cond6 i v0 = 1#1), ∀ a, (k0_off1213 v1588) a + S1x2048.size a ≤ S8704x2048.size a)
theorem k0_off1213_inb : ∀ (i : grid0.Coords) (v0 : BitVec 32) (v1588 : BitVec 32) (k0_hw734 : k0_chk734 i v0 v1588), ∀ (k0_h6 : k0_cond6 i v0 = 1#1), ∀ a, (k0_off1213 v1588) a + S1x2048.size a ≤ S8704x2048.size a := fun i v0 v1588 k0_hw734 k0_h6 => k0_hw734 k0_h6

def k0_off1214 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c221_i32 : BitVec 32 := 221#32
  let v1593 : BitVec 32 := Scalar.addi v45 c221_i32
  let v1594 : Index := Scalar.indexCast v1593
  ![v1594.toNat]
def k0_off1215 (v1595 : BitVec 32) : Fin 2 → Nat :=
  let c0_i32_913 : BitVec 32 := 0#32
  ![v1595.toNat, 0]

def k0_chk735 (i : grid0.Coords) (v0 : BitVec 32) (v1595 : BitVec 32) : Prop :=
  (∀ (k0_h6 : k0_cond6 i v0 = 1#1), ∀ a, (k0_off1215 v1595) a + S1x2048.size a ≤ S8704x2048.size a)
theorem k0_off1215_inb : ∀ (i : grid0.Coords) (v0 : BitVec 32) (v1595 : BitVec 32) (k0_hw735 : k0_chk735 i v0 v1595), ∀ (k0_h6 : k0_cond6 i v0 = 1#1), ∀ a, (k0_off1215 v1595) a + S1x2048.size a ≤ S8704x2048.size a := fun i v0 v1595 k0_hw735 k0_h6 => k0_hw735 k0_h6

def k0_off1216 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c222_i32 : BitVec 32 := 222#32
  let v1600 : BitVec 32 := Scalar.addi v45 c222_i32
  let v1601 : Index := Scalar.indexCast v1600
  ![v1601.toNat]
def k0_off1217 (v1602 : BitVec 32) : Fin 2 → Nat :=
  let c0_i32_917 : BitVec 32 := 0#32
  ![v1602.toNat, 0]

def k0_chk736 (i : grid0.Coords) (v0 : BitVec 32) (v1602 : BitVec 32) : Prop :=
  (∀ (k0_h6 : k0_cond6 i v0 = 1#1), ∀ a, (k0_off1217 v1602) a + S1x2048.size a ≤ S8704x2048.size a)
theorem k0_off1217_inb : ∀ (i : grid0.Coords) (v0 : BitVec 32) (v1602 : BitVec 32) (k0_hw736 : k0_chk736 i v0 v1602), ∀ (k0_h6 : k0_cond6 i v0 = 1#1), ∀ a, (k0_off1217 v1602) a + S1x2048.size a ≤ S8704x2048.size a := fun i v0 v1602 k0_hw736 k0_h6 => k0_hw736 k0_h6

def k0_off1218 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c223_i32 : BitVec 32 := 223#32
  let v1607 : BitVec 32 := Scalar.addi v45 c223_i32
  let v1608 : Index := Scalar.indexCast v1607
  ![v1608.toNat]
def k0_off1219 (v1609 : BitVec 32) : Fin 2 → Nat :=
  let c0_i32_921 : BitVec 32 := 0#32
  ![v1609.toNat, 0]

def k0_chk737 (i : grid0.Coords) (v0 : BitVec 32) (v1609 : BitVec 32) : Prop :=
  (∀ (k0_h6 : k0_cond6 i v0 = 1#1), ∀ a, (k0_off1219 v1609) a + S1x2048.size a ≤ S8704x2048.size a)
theorem k0_off1219_inb : ∀ (i : grid0.Coords) (v0 : BitVec 32) (v1609 : BitVec 32) (k0_hw737 : k0_chk737 i v0 v1609), ∀ (k0_h6 : k0_cond6 i v0 = 1#1), ∀ a, (k0_off1219 v1609) a + S1x2048.size a ≤ S8704x2048.size a := fun i v0 v1609 k0_hw737 k0_h6 => k0_hw737 k0_h6

def k0_off1220 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c224_i32 : BitVec 32 := 224#32
  let v1614 : BitVec 32 := Scalar.addi v45 c224_i32
  let v1615 : Index := Scalar.indexCast v1614
  ![v1615.toNat]
def k0_off1221 (v1616 : BitVec 32) : Fin 2 → Nat :=
  let c0_i32_925 : BitVec 32 := 0#32
  ![v1616.toNat, 0]

def k0_chk738 (i : grid0.Coords) (v0 : BitVec 32) (v1616 : BitVec 32) : Prop :=
  (∀ (k0_h6 : k0_cond6 i v0 = 1#1), ∀ a, (k0_off1221 v1616) a + S1x2048.size a ≤ S8704x2048.size a)
theorem k0_off1221_inb : ∀ (i : grid0.Coords) (v0 : BitVec 32) (v1616 : BitVec 32) (k0_hw738 : k0_chk738 i v0 v1616), ∀ (k0_h6 : k0_cond6 i v0 = 1#1), ∀ a, (k0_off1221 v1616) a + S1x2048.size a ≤ S8704x2048.size a := fun i v0 v1616 k0_hw738 k0_h6 => k0_hw738 k0_h6

def k0_off1222 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c225_i32 : BitVec 32 := 225#32
  let v1621 : BitVec 32 := Scalar.addi v45 c225_i32
  let v1622 : Index := Scalar.indexCast v1621
  ![v1622.toNat]
def k0_off1223 (v1623 : BitVec 32) : Fin 2 → Nat :=
  let c0_i32_929 : BitVec 32 := 0#32
  ![v1623.toNat, 0]

def k0_chk739 (i : grid0.Coords) (v0 : BitVec 32) (v1623 : BitVec 32) : Prop :=
  (∀ (k0_h6 : k0_cond6 i v0 = 1#1), ∀ a, (k0_off1223 v1623) a + S1x2048.size a ≤ S8704x2048.size a)
theorem k0_off1223_inb : ∀ (i : grid0.Coords) (v0 : BitVec 32) (v1623 : BitVec 32) (k0_hw739 : k0_chk739 i v0 v1623), ∀ (k0_h6 : k0_cond6 i v0 = 1#1), ∀ a, (k0_off1223 v1623) a + S1x2048.size a ≤ S8704x2048.size a := fun i v0 v1623 k0_hw739 k0_h6 => k0_hw739 k0_h6

def k0_off1224 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c226_i32 : BitVec 32 := 226#32
  let v1628 : BitVec 32 := Scalar.addi v45 c226_i32
  let v1629 : Index := Scalar.indexCast v1628
  ![v1629.toNat]
def k0_off1225 (v1630 : BitVec 32) : Fin 2 → Nat :=
  let c0_i32_933 : BitVec 32 := 0#32
  ![v1630.toNat, 0]

def k0_chk740 (i : grid0.Coords) (v0 : BitVec 32) (v1630 : BitVec 32) : Prop :=
  (∀ (k0_h6 : k0_cond6 i v0 = 1#1), ∀ a, (k0_off1225 v1630) a + S1x2048.size a ≤ S8704x2048.size a)
theorem k0_off1225_inb : ∀ (i : grid0.Coords) (v0 : BitVec 32) (v1630 : BitVec 32) (k0_hw740 : k0_chk740 i v0 v1630), ∀ (k0_h6 : k0_cond6 i v0 = 1#1), ∀ a, (k0_off1225 v1630) a + S1x2048.size a ≤ S8704x2048.size a := fun i v0 v1630 k0_hw740 k0_h6 => k0_hw740 k0_h6

def k0_off1226 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c227_i32 : BitVec 32 := 227#32
  let v1635 : BitVec 32 := Scalar.addi v45 c227_i32
  let v1636 : Index := Scalar.indexCast v1635
  ![v1636.toNat]
def k0_off1227 (v1637 : BitVec 32) : Fin 2 → Nat :=
  let c0_i32_937 : BitVec 32 := 0#32
  ![v1637.toNat, 0]

def k0_chk741 (i : grid0.Coords) (v0 : BitVec 32) (v1637 : BitVec 32) : Prop :=
  (∀ (k0_h6 : k0_cond6 i v0 = 1#1), ∀ a, (k0_off1227 v1637) a + S1x2048.size a ≤ S8704x2048.size a)
theorem k0_off1227_inb : ∀ (i : grid0.Coords) (v0 : BitVec 32) (v1637 : BitVec 32) (k0_hw741 : k0_chk741 i v0 v1637), ∀ (k0_h6 : k0_cond6 i v0 = 1#1), ∀ a, (k0_off1227 v1637) a + S1x2048.size a ≤ S8704x2048.size a := fun i v0 v1637 k0_hw741 k0_h6 => k0_hw741 k0_h6

def k0_off1228 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c228_i32 : BitVec 32 := 228#32
  let v1642 : BitVec 32 := Scalar.addi v45 c228_i32
  let v1643 : Index := Scalar.indexCast v1642
  ![v1643.toNat]
def k0_off1229 (v1644 : BitVec 32) : Fin 2 → Nat :=
  let c0_i32_941 : BitVec 32 := 0#32
  ![v1644.toNat, 0]

def k0_chk742 (i : grid0.Coords) (v0 : BitVec 32) (v1644 : BitVec 32) : Prop :=
  (∀ (k0_h6 : k0_cond6 i v0 = 1#1), ∀ a, (k0_off1229 v1644) a + S1x2048.size a ≤ S8704x2048.size a)
theorem k0_off1229_inb : ∀ (i : grid0.Coords) (v0 : BitVec 32) (v1644 : BitVec 32) (k0_hw742 : k0_chk742 i v0 v1644), ∀ (k0_h6 : k0_cond6 i v0 = 1#1), ∀ a, (k0_off1229 v1644) a + S1x2048.size a ≤ S8704x2048.size a := fun i v0 v1644 k0_hw742 k0_h6 => k0_hw742 k0_h6

def k0_off1230 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c229_i32 : BitVec 32 := 229#32
  let v1649 : BitVec 32 := Scalar.addi v45 c229_i32
  let v1650 : Index := Scalar.indexCast v1649
  ![v1650.toNat]
def k0_off1231 (v1651 : BitVec 32) : Fin 2 → Nat :=
  let c0_i32_945 : BitVec 32 := 0#32
  ![v1651.toNat, 0]

def k0_chk743 (i : grid0.Coords) (v0 : BitVec 32) (v1651 : BitVec 32) : Prop :=
  (∀ (k0_h6 : k0_cond6 i v0 = 1#1), ∀ a, (k0_off1231 v1651) a + S1x2048.size a ≤ S8704x2048.size a)
theorem k0_off1231_inb : ∀ (i : grid0.Coords) (v0 : BitVec 32) (v1651 : BitVec 32) (k0_hw743 : k0_chk743 i v0 v1651), ∀ (k0_h6 : k0_cond6 i v0 = 1#1), ∀ a, (k0_off1231 v1651) a + S1x2048.size a ≤ S8704x2048.size a := fun i v0 v1651 k0_hw743 k0_h6 => k0_hw743 k0_h6

def k0_off1232 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c230_i32 : BitVec 32 := 230#32
  let v1656 : BitVec 32 := Scalar.addi v45 c230_i32
  let v1657 : Index := Scalar.indexCast v1656
  ![v1657.toNat]
def k0_off1233 (v1658 : BitVec 32) : Fin 2 → Nat :=
  let c0_i32_949 : BitVec 32 := 0#32
  ![v1658.toNat, 0]

def k0_chk744 (i : grid0.Coords) (v0 : BitVec 32) (v1658 : BitVec 32) : Prop :=
  (∀ (k0_h6 : k0_cond6 i v0 = 1#1), ∀ a, (k0_off1233 v1658) a + S1x2048.size a ≤ S8704x2048.size a)
theorem k0_off1233_inb : ∀ (i : grid0.Coords) (v0 : BitVec 32) (v1658 : BitVec 32) (k0_hw744 : k0_chk744 i v0 v1658), ∀ (k0_h6 : k0_cond6 i v0 = 1#1), ∀ a, (k0_off1233 v1658) a + S1x2048.size a ≤ S8704x2048.size a := fun i v0 v1658 k0_hw744 k0_h6 => k0_hw744 k0_h6

def k0_off1234 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c231_i32 : BitVec 32 := 231#32
  let v1663 : BitVec 32 := Scalar.addi v45 c231_i32
  let v1664 : Index := Scalar.indexCast v1663
  ![v1664.toNat]
def k0_off1235 (v1665 : BitVec 32) : Fin 2 → Nat :=
  let c0_i32_953 : BitVec 32 := 0#32
  ![v1665.toNat, 0]

def k0_chk745 (i : grid0.Coords) (v0 : BitVec 32) (v1665 : BitVec 32) : Prop :=
  (∀ (k0_h6 : k0_cond6 i v0 = 1#1), ∀ a, (k0_off1235 v1665) a + S1x2048.size a ≤ S8704x2048.size a)
theorem k0_off1235_inb : ∀ (i : grid0.Coords) (v0 : BitVec 32) (v1665 : BitVec 32) (k0_hw745 : k0_chk745 i v0 v1665), ∀ (k0_h6 : k0_cond6 i v0 = 1#1), ∀ a, (k0_off1235 v1665) a + S1x2048.size a ≤ S8704x2048.size a := fun i v0 v1665 k0_hw745 k0_h6 => k0_hw745 k0_h6

def k0_off1236 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c232_i32 : BitVec 32 := 232#32
  let v1670 : BitVec 32 := Scalar.addi v45 c232_i32
  let v1671 : Index := Scalar.indexCast v1670
  ![v1671.toNat]
def k0_off1237 (v1672 : BitVec 32) : Fin 2 → Nat :=
  let c0_i32_957 : BitVec 32 := 0#32
  ![v1672.toNat, 0]

def k0_chk746 (i : grid0.Coords) (v0 : BitVec 32) (v1672 : BitVec 32) : Prop :=
  (∀ (k0_h6 : k0_cond6 i v0 = 1#1), ∀ a, (k0_off1237 v1672) a + S1x2048.size a ≤ S8704x2048.size a)
theorem k0_off1237_inb : ∀ (i : grid0.Coords) (v0 : BitVec 32) (v1672 : BitVec 32) (k0_hw746 : k0_chk746 i v0 v1672), ∀ (k0_h6 : k0_cond6 i v0 = 1#1), ∀ a, (k0_off1237 v1672) a + S1x2048.size a ≤ S8704x2048.size a := fun i v0 v1672 k0_hw746 k0_h6 => k0_hw746 k0_h6

def k0_off1238 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c233_i32 : BitVec 32 := 233#32
  let v1677 : BitVec 32 := Scalar.addi v45 c233_i32
  let v1678 : Index := Scalar.indexCast v1677
  ![v1678.toNat]
def k0_off1239 (v1679 : BitVec 32) : Fin 2 → Nat :=
  let c0_i32_961 : BitVec 32 := 0#32
  ![v1679.toNat, 0]

def k0_chk747 (i : grid0.Coords) (v0 : BitVec 32) (v1679 : BitVec 32) : Prop :=
  (∀ (k0_h6 : k0_cond6 i v0 = 1#1), ∀ a, (k0_off1239 v1679) a + S1x2048.size a ≤ S8704x2048.size a)
theorem k0_off1239_inb : ∀ (i : grid0.Coords) (v0 : BitVec 32) (v1679 : BitVec 32) (k0_hw747 : k0_chk747 i v0 v1679), ∀ (k0_h6 : k0_cond6 i v0 = 1#1), ∀ a, (k0_off1239 v1679) a + S1x2048.size a ≤ S8704x2048.size a := fun i v0 v1679 k0_hw747 k0_h6 => k0_hw747 k0_h6

def k0_off1240 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c234_i32 : BitVec 32 := 234#32
  let v1684 : BitVec 32 := Scalar.addi v45 c234_i32
  let v1685 : Index := Scalar.indexCast v1684
  ![v1685.toNat]
def k0_off1241 (v1686 : BitVec 32) : Fin 2 → Nat :=
  let c0_i32_965 : BitVec 32 := 0#32
  ![v1686.toNat, 0]

def k0_chk748 (i : grid0.Coords) (v0 : BitVec 32) (v1686 : BitVec 32) : Prop :=
  (∀ (k0_h6 : k0_cond6 i v0 = 1#1), ∀ a, (k0_off1241 v1686) a + S1x2048.size a ≤ S8704x2048.size a)
theorem k0_off1241_inb : ∀ (i : grid0.Coords) (v0 : BitVec 32) (v1686 : BitVec 32) (k0_hw748 : k0_chk748 i v0 v1686), ∀ (k0_h6 : k0_cond6 i v0 = 1#1), ∀ a, (k0_off1241 v1686) a + S1x2048.size a ≤ S8704x2048.size a := fun i v0 v1686 k0_hw748 k0_h6 => k0_hw748 k0_h6

def k0_off1242 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c235_i32 : BitVec 32 := 235#32
  let v1691 : BitVec 32 := Scalar.addi v45 c235_i32
  let v1692 : Index := Scalar.indexCast v1691
  ![v1692.toNat]
def k0_off1243 (v1693 : BitVec 32) : Fin 2 → Nat :=
  let c0_i32_969 : BitVec 32 := 0#32
  ![v1693.toNat, 0]

def k0_chk749 (i : grid0.Coords) (v0 : BitVec 32) (v1693 : BitVec 32) : Prop :=
  (∀ (k0_h6 : k0_cond6 i v0 = 1#1), ∀ a, (k0_off1243 v1693) a + S1x2048.size a ≤ S8704x2048.size a)
theorem k0_off1243_inb : ∀ (i : grid0.Coords) (v0 : BitVec 32) (v1693 : BitVec 32) (k0_hw749 : k0_chk749 i v0 v1693), ∀ (k0_h6 : k0_cond6 i v0 = 1#1), ∀ a, (k0_off1243 v1693) a + S1x2048.size a ≤ S8704x2048.size a := fun i v0 v1693 k0_hw749 k0_h6 => k0_hw749 k0_h6

def k0_off1244 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c236_i32 : BitVec 32 := 236#32
  let v1698 : BitVec 32 := Scalar.addi v45 c236_i32
  let v1699 : Index := Scalar.indexCast v1698
  ![v1699.toNat]
def k0_off1245 (v1700 : BitVec 32) : Fin 2 → Nat :=
  let c0_i32_973 : BitVec 32 := 0#32
  ![v1700.toNat, 0]

def k0_chk750 (i : grid0.Coords) (v0 : BitVec 32) (v1700 : BitVec 32) : Prop :=
  (∀ (k0_h6 : k0_cond6 i v0 = 1#1), ∀ a, (k0_off1245 v1700) a + S1x2048.size a ≤ S8704x2048.size a)
theorem k0_off1245_inb : ∀ (i : grid0.Coords) (v0 : BitVec 32) (v1700 : BitVec 32) (k0_hw750 : k0_chk750 i v0 v1700), ∀ (k0_h6 : k0_cond6 i v0 = 1#1), ∀ a, (k0_off1245 v1700) a + S1x2048.size a ≤ S8704x2048.size a := fun i v0 v1700 k0_hw750 k0_h6 => k0_hw750 k0_h6

def k0_off1246 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c237_i32 : BitVec 32 := 237#32
  let v1705 : BitVec 32 := Scalar.addi v45 c237_i32
  let v1706 : Index := Scalar.indexCast v1705
  ![v1706.toNat]
def k0_off1247 (v1707 : BitVec 32) : Fin 2 → Nat :=
  let c0_i32_977 : BitVec 32 := 0#32
  ![v1707.toNat, 0]

def k0_chk751 (i : grid0.Coords) (v0 : BitVec 32) (v1707 : BitVec 32) : Prop :=
  (∀ (k0_h6 : k0_cond6 i v0 = 1#1), ∀ a, (k0_off1247 v1707) a + S1x2048.size a ≤ S8704x2048.size a)
theorem k0_off1247_inb : ∀ (i : grid0.Coords) (v0 : BitVec 32) (v1707 : BitVec 32) (k0_hw751 : k0_chk751 i v0 v1707), ∀ (k0_h6 : k0_cond6 i v0 = 1#1), ∀ a, (k0_off1247 v1707) a + S1x2048.size a ≤ S8704x2048.size a := fun i v0 v1707 k0_hw751 k0_h6 => k0_hw751 k0_h6

def k0_off1248 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c238_i32 : BitVec 32 := 238#32
  let v1712 : BitVec 32 := Scalar.addi v45 c238_i32
  let v1713 : Index := Scalar.indexCast v1712
  ![v1713.toNat]
def k0_off1249 (v1714 : BitVec 32) : Fin 2 → Nat :=
  let c0_i32_981 : BitVec 32 := 0#32
  ![v1714.toNat, 0]

def k0_chk752 (i : grid0.Coords) (v0 : BitVec 32) (v1714 : BitVec 32) : Prop :=
  (∀ (k0_h6 : k0_cond6 i v0 = 1#1), ∀ a, (k0_off1249 v1714) a + S1x2048.size a ≤ S8704x2048.size a)
theorem k0_off1249_inb : ∀ (i : grid0.Coords) (v0 : BitVec 32) (v1714 : BitVec 32) (k0_hw752 : k0_chk752 i v0 v1714), ∀ (k0_h6 : k0_cond6 i v0 = 1#1), ∀ a, (k0_off1249 v1714) a + S1x2048.size a ≤ S8704x2048.size a := fun i v0 v1714 k0_hw752 k0_h6 => k0_hw752 k0_h6

def k0_off1250 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c239_i32 : BitVec 32 := 239#32
  let v1719 : BitVec 32 := Scalar.addi v45 c239_i32
  let v1720 : Index := Scalar.indexCast v1719
  ![v1720.toNat]
def k0_off1251 (v1721 : BitVec 32) : Fin 2 → Nat :=
  let c0_i32_985 : BitVec 32 := 0#32
  ![v1721.toNat, 0]

def k0_chk753 (i : grid0.Coords) (v0 : BitVec 32) (v1721 : BitVec 32) : Prop :=
  (∀ (k0_h6 : k0_cond6 i v0 = 1#1), ∀ a, (k0_off1251 v1721) a + S1x2048.size a ≤ S8704x2048.size a)
theorem k0_off1251_inb : ∀ (i : grid0.Coords) (v0 : BitVec 32) (v1721 : BitVec 32) (k0_hw753 : k0_chk753 i v0 v1721), ∀ (k0_h6 : k0_cond6 i v0 = 1#1), ∀ a, (k0_off1251 v1721) a + S1x2048.size a ≤ S8704x2048.size a := fun i v0 v1721 k0_hw753 k0_h6 => k0_hw753 k0_h6

def k0_off1252 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c240_i32 : BitVec 32 := 240#32
  let v1726 : BitVec 32 := Scalar.addi v45 c240_i32
  let v1727 : Index := Scalar.indexCast v1726
  ![v1727.toNat]
def k0_off1253 (v1728 : BitVec 32) : Fin 2 → Nat :=
  let c0_i32_989 : BitVec 32 := 0#32
  ![v1728.toNat, 0]

def k0_chk754 (i : grid0.Coords) (v0 : BitVec 32) (v1728 : BitVec 32) : Prop :=
  (∀ (k0_h6 : k0_cond6 i v0 = 1#1), ∀ a, (k0_off1253 v1728) a + S1x2048.size a ≤ S8704x2048.size a)
theorem k0_off1253_inb : ∀ (i : grid0.Coords) (v0 : BitVec 32) (v1728 : BitVec 32) (k0_hw754 : k0_chk754 i v0 v1728), ∀ (k0_h6 : k0_cond6 i v0 = 1#1), ∀ a, (k0_off1253 v1728) a + S1x2048.size a ≤ S8704x2048.size a := fun i v0 v1728 k0_hw754 k0_h6 => k0_hw754 k0_h6

def k0_off1254 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c241_i32 : BitVec 32 := 241#32
  let v1733 : BitVec 32 := Scalar.addi v45 c241_i32
  let v1734 : Index := Scalar.indexCast v1733
  ![v1734.toNat]
def k0_off1255 (v1735 : BitVec 32) : Fin 2 → Nat :=
  let c0_i32_993 : BitVec 32 := 0#32
  ![v1735.toNat, 0]

def k0_chk755 (i : grid0.Coords) (v0 : BitVec 32) (v1735 : BitVec 32) : Prop :=
  (∀ (k0_h6 : k0_cond6 i v0 = 1#1), ∀ a, (k0_off1255 v1735) a + S1x2048.size a ≤ S8704x2048.size a)
theorem k0_off1255_inb : ∀ (i : grid0.Coords) (v0 : BitVec 32) (v1735 : BitVec 32) (k0_hw755 : k0_chk755 i v0 v1735), ∀ (k0_h6 : k0_cond6 i v0 = 1#1), ∀ a, (k0_off1255 v1735) a + S1x2048.size a ≤ S8704x2048.size a := fun i v0 v1735 k0_hw755 k0_h6 => k0_hw755 k0_h6

def k0_off1256 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c242_i32 : BitVec 32 := 242#32
  let v1740 : BitVec 32 := Scalar.addi v45 c242_i32
  let v1741 : Index := Scalar.indexCast v1740
  ![v1741.toNat]
def k0_off1257 (v1742 : BitVec 32) : Fin 2 → Nat :=
  let c0_i32_997 : BitVec 32 := 0#32
  ![v1742.toNat, 0]

def k0_chk756 (i : grid0.Coords) (v0 : BitVec 32) (v1742 : BitVec 32) : Prop :=
  (∀ (k0_h6 : k0_cond6 i v0 = 1#1), ∀ a, (k0_off1257 v1742) a + S1x2048.size a ≤ S8704x2048.size a)
theorem k0_off1257_inb : ∀ (i : grid0.Coords) (v0 : BitVec 32) (v1742 : BitVec 32) (k0_hw756 : k0_chk756 i v0 v1742), ∀ (k0_h6 : k0_cond6 i v0 = 1#1), ∀ a, (k0_off1257 v1742) a + S1x2048.size a ≤ S8704x2048.size a := fun i v0 v1742 k0_hw756 k0_h6 => k0_hw756 k0_h6

def k0_off1258 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c243_i32 : BitVec 32 := 243#32
  let v1747 : BitVec 32 := Scalar.addi v45 c243_i32
  let v1748 : Index := Scalar.indexCast v1747
  ![v1748.toNat]
def k0_off1259 (v1749 : BitVec 32) : Fin 2 → Nat :=
  let c0_i32_1001 : BitVec 32 := 0#32
  ![v1749.toNat, 0]

def k0_chk757 (i : grid0.Coords) (v0 : BitVec 32) (v1749 : BitVec 32) : Prop :=
  (∀ (k0_h6 : k0_cond6 i v0 = 1#1), ∀ a, (k0_off1259 v1749) a + S1x2048.size a ≤ S8704x2048.size a)
theorem k0_off1259_inb : ∀ (i : grid0.Coords) (v0 : BitVec 32) (v1749 : BitVec 32) (k0_hw757 : k0_chk757 i v0 v1749), ∀ (k0_h6 : k0_cond6 i v0 = 1#1), ∀ a, (k0_off1259 v1749) a + S1x2048.size a ≤ S8704x2048.size a := fun i v0 v1749 k0_hw757 k0_h6 => k0_hw757 k0_h6

def k0_off1260 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c244_i32 : BitVec 32 := 244#32
  let v1754 : BitVec 32 := Scalar.addi v45 c244_i32
  let v1755 : Index := Scalar.indexCast v1754
  ![v1755.toNat]
def k0_off1261 (v1756 : BitVec 32) : Fin 2 → Nat :=
  let c0_i32_1005 : BitVec 32 := 0#32
  ![v1756.toNat, 0]

def k0_chk758 (i : grid0.Coords) (v0 : BitVec 32) (v1756 : BitVec 32) : Prop :=
  (∀ (k0_h6 : k0_cond6 i v0 = 1#1), ∀ a, (k0_off1261 v1756) a + S1x2048.size a ≤ S8704x2048.size a)
theorem k0_off1261_inb : ∀ (i : grid0.Coords) (v0 : BitVec 32) (v1756 : BitVec 32) (k0_hw758 : k0_chk758 i v0 v1756), ∀ (k0_h6 : k0_cond6 i v0 = 1#1), ∀ a, (k0_off1261 v1756) a + S1x2048.size a ≤ S8704x2048.size a := fun i v0 v1756 k0_hw758 k0_h6 => k0_hw758 k0_h6

def k0_off1262 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c245_i32 : BitVec 32 := 245#32
  let v1761 : BitVec 32 := Scalar.addi v45 c245_i32
  let v1762 : Index := Scalar.indexCast v1761
  ![v1762.toNat]
def k0_off1263 (v1763 : BitVec 32) : Fin 2 → Nat :=
  let c0_i32_1009 : BitVec 32 := 0#32
  ![v1763.toNat, 0]

def k0_chk759 (i : grid0.Coords) (v0 : BitVec 32) (v1763 : BitVec 32) : Prop :=
  (∀ (k0_h6 : k0_cond6 i v0 = 1#1), ∀ a, (k0_off1263 v1763) a + S1x2048.size a ≤ S8704x2048.size a)
theorem k0_off1263_inb : ∀ (i : grid0.Coords) (v0 : BitVec 32) (v1763 : BitVec 32) (k0_hw759 : k0_chk759 i v0 v1763), ∀ (k0_h6 : k0_cond6 i v0 = 1#1), ∀ a, (k0_off1263 v1763) a + S1x2048.size a ≤ S8704x2048.size a := fun i v0 v1763 k0_hw759 k0_h6 => k0_hw759 k0_h6

def k0_off1264 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c246_i32 : BitVec 32 := 246#32
  let v1768 : BitVec 32 := Scalar.addi v45 c246_i32
  let v1769 : Index := Scalar.indexCast v1768
  ![v1769.toNat]
def k0_off1265 (v1770 : BitVec 32) : Fin 2 → Nat :=
  let c0_i32_1013 : BitVec 32 := 0#32
  ![v1770.toNat, 0]

def k0_chk760 (i : grid0.Coords) (v0 : BitVec 32) (v1770 : BitVec 32) : Prop :=
  (∀ (k0_h6 : k0_cond6 i v0 = 1#1), ∀ a, (k0_off1265 v1770) a + S1x2048.size a ≤ S8704x2048.size a)
theorem k0_off1265_inb : ∀ (i : grid0.Coords) (v0 : BitVec 32) (v1770 : BitVec 32) (k0_hw760 : k0_chk760 i v0 v1770), ∀ (k0_h6 : k0_cond6 i v0 = 1#1), ∀ a, (k0_off1265 v1770) a + S1x2048.size a ≤ S8704x2048.size a := fun i v0 v1770 k0_hw760 k0_h6 => k0_hw760 k0_h6

def k0_off1266 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c247_i32 : BitVec 32 := 247#32
  let v1775 : BitVec 32 := Scalar.addi v45 c247_i32
  let v1776 : Index := Scalar.indexCast v1775
  ![v1776.toNat]
def k0_off1267 (v1777 : BitVec 32) : Fin 2 → Nat :=
  let c0_i32_1017 : BitVec 32 := 0#32
  ![v1777.toNat, 0]

def k0_chk761 (i : grid0.Coords) (v0 : BitVec 32) (v1777 : BitVec 32) : Prop :=
  (∀ (k0_h6 : k0_cond6 i v0 = 1#1), ∀ a, (k0_off1267 v1777) a + S1x2048.size a ≤ S8704x2048.size a)
theorem k0_off1267_inb : ∀ (i : grid0.Coords) (v0 : BitVec 32) (v1777 : BitVec 32) (k0_hw761 : k0_chk761 i v0 v1777), ∀ (k0_h6 : k0_cond6 i v0 = 1#1), ∀ a, (k0_off1267 v1777) a + S1x2048.size a ≤ S8704x2048.size a := fun i v0 v1777 k0_hw761 k0_h6 => k0_hw761 k0_h6

def k0_off1268 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c248_i32 : BitVec 32 := 248#32
  let v1782 : BitVec 32 := Scalar.addi v45 c248_i32
  let v1783 : Index := Scalar.indexCast v1782
  ![v1783.toNat]
def k0_off1269 (v1784 : BitVec 32) : Fin 2 → Nat :=
  let c0_i32_1021 : BitVec 32 := 0#32
  ![v1784.toNat, 0]

def k0_chk762 (i : grid0.Coords) (v0 : BitVec 32) (v1784 : BitVec 32) : Prop :=
  (∀ (k0_h6 : k0_cond6 i v0 = 1#1), ∀ a, (k0_off1269 v1784) a + S1x2048.size a ≤ S8704x2048.size a)
theorem k0_off1269_inb : ∀ (i : grid0.Coords) (v0 : BitVec 32) (v1784 : BitVec 32) (k0_hw762 : k0_chk762 i v0 v1784), ∀ (k0_h6 : k0_cond6 i v0 = 1#1), ∀ a, (k0_off1269 v1784) a + S1x2048.size a ≤ S8704x2048.size a := fun i v0 v1784 k0_hw762 k0_h6 => k0_hw762 k0_h6

def k0_off1270 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c249_i32 : BitVec 32 := 249#32
  let v1789 : BitVec 32 := Scalar.addi v45 c249_i32
  let v1790 : Index := Scalar.indexCast v1789
  ![v1790.toNat]
def k0_off1271 (v1791 : BitVec 32) : Fin 2 → Nat :=
  let c0_i32_1025 : BitVec 32 := 0#32
  ![v1791.toNat, 0]

def k0_chk763 (i : grid0.Coords) (v0 : BitVec 32) (v1791 : BitVec 32) : Prop :=
  (∀ (k0_h6 : k0_cond6 i v0 = 1#1), ∀ a, (k0_off1271 v1791) a + S1x2048.size a ≤ S8704x2048.size a)
theorem k0_off1271_inb : ∀ (i : grid0.Coords) (v0 : BitVec 32) (v1791 : BitVec 32) (k0_hw763 : k0_chk763 i v0 v1791), ∀ (k0_h6 : k0_cond6 i v0 = 1#1), ∀ a, (k0_off1271 v1791) a + S1x2048.size a ≤ S8704x2048.size a := fun i v0 v1791 k0_hw763 k0_h6 => k0_hw763 k0_h6

def k0_off1272 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c250_i32 : BitVec 32 := 250#32
  let v1796 : BitVec 32 := Scalar.addi v45 c250_i32
  let v1797 : Index := Scalar.indexCast v1796
  ![v1797.toNat]
def k0_off1273 (v1798 : BitVec 32) : Fin 2 → Nat :=
  let c0_i32_1029 : BitVec 32 := 0#32
  ![v1798.toNat, 0]

def k0_chk764 (i : grid0.Coords) (v0 : BitVec 32) (v1798 : BitVec 32) : Prop :=
  (∀ (k0_h6 : k0_cond6 i v0 = 1#1), ∀ a, (k0_off1273 v1798) a + S1x2048.size a ≤ S8704x2048.size a)
theorem k0_off1273_inb : ∀ (i : grid0.Coords) (v0 : BitVec 32) (v1798 : BitVec 32) (k0_hw764 : k0_chk764 i v0 v1798), ∀ (k0_h6 : k0_cond6 i v0 = 1#1), ∀ a, (k0_off1273 v1798) a + S1x2048.size a ≤ S8704x2048.size a := fun i v0 v1798 k0_hw764 k0_h6 => k0_hw764 k0_h6

def k0_off1274 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c251_i32 : BitVec 32 := 251#32
  let v1803 : BitVec 32 := Scalar.addi v45 c251_i32
  let v1804 : Index := Scalar.indexCast v1803
  ![v1804.toNat]
def k0_off1275 (v1805 : BitVec 32) : Fin 2 → Nat :=
  let c0_i32_1033 : BitVec 32 := 0#32
  ![v1805.toNat, 0]

def k0_chk765 (i : grid0.Coords) (v0 : BitVec 32) (v1805 : BitVec 32) : Prop :=
  (∀ (k0_h6 : k0_cond6 i v0 = 1#1), ∀ a, (k0_off1275 v1805) a + S1x2048.size a ≤ S8704x2048.size a)
theorem k0_off1275_inb : ∀ (i : grid0.Coords) (v0 : BitVec 32) (v1805 : BitVec 32) (k0_hw765 : k0_chk765 i v0 v1805), ∀ (k0_h6 : k0_cond6 i v0 = 1#1), ∀ a, (k0_off1275 v1805) a + S1x2048.size a ≤ S8704x2048.size a := fun i v0 v1805 k0_hw765 k0_h6 => k0_hw765 k0_h6

def k0_off1276 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c252_i32 : BitVec 32 := 252#32
  let v1810 : BitVec 32 := Scalar.addi v45 c252_i32
  let v1811 : Index := Scalar.indexCast v1810
  ![v1811.toNat]
def k0_off1277 (v1812 : BitVec 32) : Fin 2 → Nat :=
  let c0_i32_1037 : BitVec 32 := 0#32
  ![v1812.toNat, 0]

def k0_chk766 (i : grid0.Coords) (v0 : BitVec 32) (v1812 : BitVec 32) : Prop :=
  (∀ (k0_h6 : k0_cond6 i v0 = 1#1), ∀ a, (k0_off1277 v1812) a + S1x2048.size a ≤ S8704x2048.size a)
theorem k0_off1277_inb : ∀ (i : grid0.Coords) (v0 : BitVec 32) (v1812 : BitVec 32) (k0_hw766 : k0_chk766 i v0 v1812), ∀ (k0_h6 : k0_cond6 i v0 = 1#1), ∀ a, (k0_off1277 v1812) a + S1x2048.size a ≤ S8704x2048.size a := fun i v0 v1812 k0_hw766 k0_h6 => k0_hw766 k0_h6

def k0_off1278 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c253_i32 : BitVec 32 := 253#32
  let v1817 : BitVec 32 := Scalar.addi v45 c253_i32
  let v1818 : Index := Scalar.indexCast v1817
  ![v1818.toNat]
def k0_off1279 (v1819 : BitVec 32) : Fin 2 → Nat :=
  let c0_i32_1041 : BitVec 32 := 0#32
  ![v1819.toNat, 0]

def k0_chk767 (i : grid0.Coords) (v0 : BitVec 32) (v1819 : BitVec 32) : Prop :=
  (∀ (k0_h6 : k0_cond6 i v0 = 1#1), ∀ a, (k0_off1279 v1819) a + S1x2048.size a ≤ S8704x2048.size a)
theorem k0_off1279_inb : ∀ (i : grid0.Coords) (v0 : BitVec 32) (v1819 : BitVec 32) (k0_hw767 : k0_chk767 i v0 v1819), ∀ (k0_h6 : k0_cond6 i v0 = 1#1), ∀ a, (k0_off1279 v1819) a + S1x2048.size a ≤ S8704x2048.size a := fun i v0 v1819 k0_hw767 k0_h6 => k0_hw767 k0_h6

def k0_off1280 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c254_i32 : BitVec 32 := 254#32
  let v1824 : BitVec 32 := Scalar.addi v45 c254_i32
  let v1825 : Index := Scalar.indexCast v1824
  ![v1825.toNat]
def k0_off1281 (v1826 : BitVec 32) : Fin 2 → Nat :=
  let c0_i32_1045 : BitVec 32 := 0#32
  ![v1826.toNat, 0]

def k0_chk768 (i : grid0.Coords) (v0 : BitVec 32) (v1826 : BitVec 32) : Prop :=
  (∀ (k0_h6 : k0_cond6 i v0 = 1#1), ∀ a, (k0_off1281 v1826) a + S1x2048.size a ≤ S8704x2048.size a)
theorem k0_off1281_inb : ∀ (i : grid0.Coords) (v0 : BitVec 32) (v1826 : BitVec 32) (k0_hw768 : k0_chk768 i v0 v1826), ∀ (k0_h6 : k0_cond6 i v0 = 1#1), ∀ a, (k0_off1281 v1826) a + S1x2048.size a ≤ S8704x2048.size a := fun i v0 v1826 k0_hw768 k0_h6 => k0_hw768 k0_h6

def k0_off1282 (i : grid0.Coords) (v0 : BitVec 32) : Fin 1 → Nat :=
  let arg0 : BitVec 32 := BitVec.ofNat 32 (i 0).val
  let c1_i32_21 : BitVec 32 := 1#32
  let v42 : BitVec 32 := Scalar.addi arg0 c1_i32_21
  let c1_i32_22 : BitVec 32 := 1#32
  let v43 : BitVec 32 := Scalar.subi v0 c1_i32_22
  let v44 : BitVec 32 := Scalar.minsi v42 v43
  let c256_i32 : BitVec 32 := 256#32
  let v45 : BitVec 32 := Scalar.muli v44 c256_i32
  let c255_i32 : BitVec 32 := 255#32
  let v1831 : BitVec 32 := Scalar.addi v45 c255_i32
  let v1832 : Index := Scalar.indexCast v1831
  ![v1832.toNat]

def k0_chk257_0 (i : grid0.Coords) (v0 : BitVec 32) : Prop :=
  (∀ (k0_h4 : k0_cond4 i v0 = 1#1), ∀ a, (k0_off260 i v0) a + S1.size a ≤ S86016.size a) ∧
  (∀ (k0_h4 : k0_cond4 i v0 = 1#1), ∀ a, (k0_off262 i v0) a + S1.size a ≤ S86016.size a) ∧
  (∀ (k0_h4 : k0_cond4 i v0 = 1#1), ∀ a, (k0_off264 i v0) a + S1.size a ≤ S86016.size a) ∧
  (∀ (k0_h4 : k0_cond4 i v0 = 1#1), ∀ a, (k0_off266 i v0) a + S1.size a ≤ S86016.size a) ∧
  (∀ (k0_h4 : k0_cond4 i v0 = 1#1), ∀ a, (k0_off268 i v0) a + S1.size a ≤ S86016.size a) ∧
  (∀ (k0_h4 : k0_cond4 i v0 = 1#1), ∀ a, (k0_off270 i v0) a + S1.size a ≤ S86016.size a) ∧
  (∀ (k0_h4 : k0_cond4 i v0 = 1#1), ∀ a, (k0_off272 i v0) a + S1.size a ≤ S86016.size a) ∧
  (∀ (k0_h4 : k0_cond4 i v0 = 1#1), ∀ a, (k0_off274 i v0) a + S1.size a ≤ S86016.size a) ∧
  (∀ (k0_h4 : k0_cond4 i v0 = 1#1), ∀ a, (k0_off276 i v0) a + S1.size a ≤ S86016.size a) ∧
  (∀ (k0_h4 : k0_cond4 i v0 = 1#1), ∀ a, (k0_off278 i v0) a + S1.size a ≤ S86016.size a) ∧
  (∀ (k0_h4 : k0_cond4 i v0 = 1#1), ∀ a, (k0_off280 i v0) a + S1.size a ≤ S86016.size a) ∧
  (∀ (k0_h4 : k0_cond4 i v0 = 1#1), ∀ a, (k0_off282 i v0) a + S1.size a ≤ S86016.size a) ∧
  (∀ (k0_h4 : k0_cond4 i v0 = 1#1), ∀ a, (k0_off284 i v0) a + S1.size a ≤ S86016.size a) ∧
  (∀ (k0_h4 : k0_cond4 i v0 = 1#1), ∀ a, (k0_off286 i v0) a + S1.size a ≤ S86016.size a) ∧
  (∀ (k0_h4 : k0_cond4 i v0 = 1#1), ∀ a, (k0_off288 i v0) a + S1.size a ≤ S86016.size a) ∧
  (∀ (k0_h4 : k0_cond4 i v0 = 1#1), ∀ a, (k0_off290 i v0) a + S1.size a ≤ S86016.size a) ∧
  (∀ (k0_h4 : k0_cond4 i v0 = 1#1), ∀ a, (k0_off292 i v0) a + S1.size a ≤ S86016.size a) ∧
  (∀ (k0_h4 : k0_cond4 i v0 = 1#1), ∀ a, (k0_off294 i v0) a + S1.size a ≤ S86016.size a) ∧
  (∀ (k0_h4 : k0_cond4 i v0 = 1#1), ∀ a, (k0_off296 i v0) a + S1.size a ≤ S86016.size a) ∧
  (∀ (k0_h4 : k0_cond4 i v0 = 1#1), ∀ a, (k0_off298 i v0) a + S1.size a ≤ S86016.size a) ∧
  (∀ (k0_h4 : k0_cond4 i v0 = 1#1), ∀ a, (k0_off300 i v0) a + S1.size a ≤ S86016.size a) ∧
  (∀ (k0_h4 : k0_cond4 i v0 = 1#1), ∀ a, (k0_off302 i v0) a + S1.size a ≤ S86016.size a) ∧
  (∀ (k0_h4 : k0_cond4 i v0 = 1#1), ∀ a, (k0_off304 i v0) a + S1.size a ≤ S86016.size a) ∧
  (∀ (k0_h4 : k0_cond4 i v0 = 1#1), ∀ a, (k0_off306 i v0) a + S1.size a ≤ S86016.size a) ∧
  (∀ (k0_h4 : k0_cond4 i v0 = 1#1), ∀ a, (k0_off308 i v0) a + S1.size a ≤ S86016.size a) ∧
  (∀ (k0_h4 : k0_cond4 i v0 = 1#1), ∀ a, (k0_off310 i v0) a + S1.size a ≤ S86016.size a) ∧
  (∀ (k0_h4 : k0_cond4 i v0 = 1#1), ∀ a, (k0_off312 i v0) a + S1.size a ≤ S86016.size a) ∧
  (∀ (k0_h4 : k0_cond4 i v0 = 1#1), ∀ a, (k0_off314 i v0) a + S1.size a ≤ S86016.size a) ∧
  (∀ (k0_h4 : k0_cond4 i v0 = 1#1), ∀ a, (k0_off316 i v0) a + S1.size a ≤ S86016.size a) ∧
  (∀ (k0_h4 : k0_cond4 i v0 = 1#1), ∀ a, (k0_off318 i v0) a + S1.size a ≤ S86016.size a) ∧
  (∀ (k0_h4 : k0_cond4 i v0 = 1#1), ∀ a, (k0_off320 i v0) a + S1.size a ≤ S86016.size a) ∧
  (∀ (k0_h4 : k0_cond4 i v0 = 1#1), ∀ a, (k0_off322 i v0) a + S1.size a ≤ S86016.size a)
def k0_chk257_1 (i : grid0.Coords) (v0 : BitVec 32) : Prop :=
  (∀ (k0_h4 : k0_cond4 i v0 = 1#1), ∀ a, (k0_off324 i v0) a + S1.size a ≤ S86016.size a) ∧
  (∀ (k0_h4 : k0_cond4 i v0 = 1#1), ∀ a, (k0_off326 i v0) a + S1.size a ≤ S86016.size a) ∧
  (∀ (k0_h4 : k0_cond4 i v0 = 1#1), ∀ a, (k0_off328 i v0) a + S1.size a ≤ S86016.size a) ∧
  (∀ (k0_h4 : k0_cond4 i v0 = 1#1), ∀ a, (k0_off330 i v0) a + S1.size a ≤ S86016.size a) ∧
  (∀ (k0_h4 : k0_cond4 i v0 = 1#1), ∀ a, (k0_off332 i v0) a + S1.size a ≤ S86016.size a) ∧
  (∀ (k0_h4 : k0_cond4 i v0 = 1#1), ∀ a, (k0_off334 i v0) a + S1.size a ≤ S86016.size a) ∧
  (∀ (k0_h4 : k0_cond4 i v0 = 1#1), ∀ a, (k0_off336 i v0) a + S1.size a ≤ S86016.size a) ∧
  (∀ (k0_h4 : k0_cond4 i v0 = 1#1), ∀ a, (k0_off338 i v0) a + S1.size a ≤ S86016.size a) ∧
  (∀ (k0_h4 : k0_cond4 i v0 = 1#1), ∀ a, (k0_off340 i v0) a + S1.size a ≤ S86016.size a) ∧
  (∀ (k0_h4 : k0_cond4 i v0 = 1#1), ∀ a, (k0_off342 i v0) a + S1.size a ≤ S86016.size a) ∧
  (∀ (k0_h4 : k0_cond4 i v0 = 1#1), ∀ a, (k0_off344 i v0) a + S1.size a ≤ S86016.size a) ∧
  (∀ (k0_h4 : k0_cond4 i v0 = 1#1), ∀ a, (k0_off346 i v0) a + S1.size a ≤ S86016.size a) ∧
  (∀ (k0_h4 : k0_cond4 i v0 = 1#1), ∀ a, (k0_off348 i v0) a + S1.size a ≤ S86016.size a) ∧
  (∀ (k0_h4 : k0_cond4 i v0 = 1#1), ∀ a, (k0_off350 i v0) a + S1.size a ≤ S86016.size a) ∧
  (∀ (k0_h4 : k0_cond4 i v0 = 1#1), ∀ a, (k0_off352 i v0) a + S1.size a ≤ S86016.size a) ∧
  (∀ (k0_h4 : k0_cond4 i v0 = 1#1), ∀ a, (k0_off354 i v0) a + S1.size a ≤ S86016.size a) ∧
  (∀ (k0_h4 : k0_cond4 i v0 = 1#1), ∀ a, (k0_off356 i v0) a + S1.size a ≤ S86016.size a) ∧
  (∀ (k0_h4 : k0_cond4 i v0 = 1#1), ∀ a, (k0_off358 i v0) a + S1.size a ≤ S86016.size a) ∧
  (∀ (k0_h4 : k0_cond4 i v0 = 1#1), ∀ a, (k0_off360 i v0) a + S1.size a ≤ S86016.size a) ∧
  (∀ (k0_h4 : k0_cond4 i v0 = 1#1), ∀ a, (k0_off362 i v0) a + S1.size a ≤ S86016.size a) ∧
  (∀ (k0_h4 : k0_cond4 i v0 = 1#1), ∀ a, (k0_off364 i v0) a + S1.size a ≤ S86016.size a) ∧
  (∀ (k0_h4 : k0_cond4 i v0 = 1#1), ∀ a, (k0_off366 i v0) a + S1.size a ≤ S86016.size a) ∧
  (∀ (k0_h4 : k0_cond4 i v0 = 1#1), ∀ a, (k0_off368 i v0) a + S1.size a ≤ S86016.size a) ∧
  (∀ (k0_h4 : k0_cond4 i v0 = 1#1), ∀ a, (k0_off370 i v0) a + S1.size a ≤ S86016.size a) ∧
  (∀ (k0_h4 : k0_cond4 i v0 = 1#1), ∀ a, (k0_off372 i v0) a + S1.size a ≤ S86016.size a) ∧
  (∀ (k0_h4 : k0_cond4 i v0 = 1#1), ∀ a, (k0_off374 i v0) a + S1.size a ≤ S86016.size a) ∧
  (∀ (k0_h4 : k0_cond4 i v0 = 1#1), ∀ a, (k0_off376 i v0) a + S1.size a ≤ S86016.size a) ∧
  (∀ (k0_h4 : k0_cond4 i v0 = 1#1), ∀ a, (k0_off378 i v0) a + S1.size a ≤ S86016.size a) ∧
  (∀ (k0_h4 : k0_cond4 i v0 = 1#1), ∀ a, (k0_off380 i v0) a + S1.size a ≤ S86016.size a) ∧
  (∀ (k0_h4 : k0_cond4 i v0 = 1#1), ∀ a, (k0_off382 i v0) a + S1.size a ≤ S86016.size a) ∧
  (∀ (k0_h4 : k0_cond4 i v0 = 1#1), ∀ a, (k0_off384 i v0) a + S1.size a ≤ S86016.size a) ∧
  (∀ (k0_h4 : k0_cond4 i v0 = 1#1), ∀ a, (k0_off386 i v0) a + S1.size a ≤ S86016.size a)
def k0_chk257_2 (i : grid0.Coords) (v0 : BitVec 32) : Prop :=
  (∀ (k0_h4 : k0_cond4 i v0 = 1#1), ∀ a, (k0_off388 i v0) a + S1.size a ≤ S86016.size a) ∧
  (∀ (k0_h4 : k0_cond4 i v0 = 1#1), ∀ a, (k0_off390 i v0) a + S1.size a ≤ S86016.size a) ∧
  (∀ (k0_h4 : k0_cond4 i v0 = 1#1), ∀ a, (k0_off392 i v0) a + S1.size a ≤ S86016.size a) ∧
  (∀ (k0_h4 : k0_cond4 i v0 = 1#1), ∀ a, (k0_off394 i v0) a + S1.size a ≤ S86016.size a) ∧
  (∀ (k0_h4 : k0_cond4 i v0 = 1#1), ∀ a, (k0_off396 i v0) a + S1.size a ≤ S86016.size a) ∧
  (∀ (k0_h4 : k0_cond4 i v0 = 1#1), ∀ a, (k0_off398 i v0) a + S1.size a ≤ S86016.size a) ∧
  (∀ (k0_h4 : k0_cond4 i v0 = 1#1), ∀ a, (k0_off400 i v0) a + S1.size a ≤ S86016.size a) ∧
  (∀ (k0_h4 : k0_cond4 i v0 = 1#1), ∀ a, (k0_off402 i v0) a + S1.size a ≤ S86016.size a) ∧
  (∀ (k0_h4 : k0_cond4 i v0 = 1#1), ∀ a, (k0_off404 i v0) a + S1.size a ≤ S86016.size a) ∧
  (∀ (k0_h4 : k0_cond4 i v0 = 1#1), ∀ a, (k0_off406 i v0) a + S1.size a ≤ S86016.size a) ∧
  (∀ (k0_h4 : k0_cond4 i v0 = 1#1), ∀ a, (k0_off408 i v0) a + S1.size a ≤ S86016.size a) ∧
  (∀ (k0_h4 : k0_cond4 i v0 = 1#1), ∀ a, (k0_off410 i v0) a + S1.size a ≤ S86016.size a) ∧
  (∀ (k0_h4 : k0_cond4 i v0 = 1#1), ∀ a, (k0_off412 i v0) a + S1.size a ≤ S86016.size a) ∧
  (∀ (k0_h4 : k0_cond4 i v0 = 1#1), ∀ a, (k0_off414 i v0) a + S1.size a ≤ S86016.size a) ∧
  (∀ (k0_h4 : k0_cond4 i v0 = 1#1), ∀ a, (k0_off416 i v0) a + S1.size a ≤ S86016.size a) ∧
  (∀ (k0_h4 : k0_cond4 i v0 = 1#1), ∀ a, (k0_off418 i v0) a + S1.size a ≤ S86016.size a) ∧
  (∀ (k0_h4 : k0_cond4 i v0 = 1#1), ∀ a, (k0_off420 i v0) a + S1.size a ≤ S86016.size a) ∧
  (∀ (k0_h4 : k0_cond4 i v0 = 1#1), ∀ a, (k0_off422 i v0) a + S1.size a ≤ S86016.size a) ∧
  (∀ (k0_h4 : k0_cond4 i v0 = 1#1), ∀ a, (k0_off424 i v0) a + S1.size a ≤ S86016.size a) ∧
  (∀ (k0_h4 : k0_cond4 i v0 = 1#1), ∀ a, (k0_off426 i v0) a + S1.size a ≤ S86016.size a) ∧
  (∀ (k0_h4 : k0_cond4 i v0 = 1#1), ∀ a, (k0_off428 i v0) a + S1.size a ≤ S86016.size a) ∧
  (∀ (k0_h4 : k0_cond4 i v0 = 1#1), ∀ a, (k0_off430 i v0) a + S1.size a ≤ S86016.size a) ∧
  (∀ (k0_h4 : k0_cond4 i v0 = 1#1), ∀ a, (k0_off432 i v0) a + S1.size a ≤ S86016.size a) ∧
  (∀ (k0_h4 : k0_cond4 i v0 = 1#1), ∀ a, (k0_off434 i v0) a + S1.size a ≤ S86016.size a) ∧
  (∀ (k0_h4 : k0_cond4 i v0 = 1#1), ∀ a, (k0_off436 i v0) a + S1.size a ≤ S86016.size a) ∧
  (∀ (k0_h4 : k0_cond4 i v0 = 1#1), ∀ a, (k0_off438 i v0) a + S1.size a ≤ S86016.size a) ∧
  (∀ (k0_h4 : k0_cond4 i v0 = 1#1), ∀ a, (k0_off440 i v0) a + S1.size a ≤ S86016.size a) ∧
  (∀ (k0_h4 : k0_cond4 i v0 = 1#1), ∀ a, (k0_off442 i v0) a + S1.size a ≤ S86016.size a) ∧
  (∀ (k0_h4 : k0_cond4 i v0 = 1#1), ∀ a, (k0_off444 i v0) a + S1.size a ≤ S86016.size a) ∧
  (∀ (k0_h4 : k0_cond4 i v0 = 1#1), ∀ a, (k0_off446 i v0) a + S1.size a ≤ S86016.size a) ∧
  (∀ (k0_h4 : k0_cond4 i v0 = 1#1), ∀ a, (k0_off448 i v0) a + S1.size a ≤ S86016.size a) ∧
  (∀ (k0_h4 : k0_cond4 i v0 = 1#1), ∀ a, (k0_off450 i v0) a + S1.size a ≤ S86016.size a)
def k0_chk257_3 (i : grid0.Coords) (v0 : BitVec 32) : Prop :=
  (∀ (k0_h4 : k0_cond4 i v0 = 1#1), ∀ a, (k0_off452 i v0) a + S1.size a ≤ S86016.size a) ∧
  (∀ (k0_h4 : k0_cond4 i v0 = 1#1), ∀ a, (k0_off454 i v0) a + S1.size a ≤ S86016.size a) ∧
  (∀ (k0_h4 : k0_cond4 i v0 = 1#1), ∀ a, (k0_off456 i v0) a + S1.size a ≤ S86016.size a) ∧
  (∀ (k0_h4 : k0_cond4 i v0 = 1#1), ∀ a, (k0_off458 i v0) a + S1.size a ≤ S86016.size a) ∧
  (∀ (k0_h4 : k0_cond4 i v0 = 1#1), ∀ a, (k0_off460 i v0) a + S1.size a ≤ S86016.size a) ∧
  (∀ (k0_h4 : k0_cond4 i v0 = 1#1), ∀ a, (k0_off462 i v0) a + S1.size a ≤ S86016.size a) ∧
  (∀ (k0_h4 : k0_cond4 i v0 = 1#1), ∀ a, (k0_off464 i v0) a + S1.size a ≤ S86016.size a) ∧
  (∀ (k0_h4 : k0_cond4 i v0 = 1#1), ∀ a, (k0_off466 i v0) a + S1.size a ≤ S86016.size a) ∧
  (∀ (k0_h4 : k0_cond4 i v0 = 1#1), ∀ a, (k0_off468 i v0) a + S1.size a ≤ S86016.size a) ∧
  (∀ (k0_h4 : k0_cond4 i v0 = 1#1), ∀ a, (k0_off470 i v0) a + S1.size a ≤ S86016.size a) ∧
  (∀ (k0_h4 : k0_cond4 i v0 = 1#1), ∀ a, (k0_off472 i v0) a + S1.size a ≤ S86016.size a) ∧
  (∀ (k0_h4 : k0_cond4 i v0 = 1#1), ∀ a, (k0_off474 i v0) a + S1.size a ≤ S86016.size a) ∧
  (∀ (k0_h4 : k0_cond4 i v0 = 1#1), ∀ a, (k0_off476 i v0) a + S1.size a ≤ S86016.size a) ∧
  (∀ (k0_h4 : k0_cond4 i v0 = 1#1), ∀ a, (k0_off478 i v0) a + S1.size a ≤ S86016.size a) ∧
  (∀ (k0_h4 : k0_cond4 i v0 = 1#1), ∀ a, (k0_off480 i v0) a + S1.size a ≤ S86016.size a) ∧
  (∀ (k0_h4 : k0_cond4 i v0 = 1#1), ∀ a, (k0_off482 i v0) a + S1.size a ≤ S86016.size a) ∧
  (∀ (k0_h4 : k0_cond4 i v0 = 1#1), ∀ a, (k0_off484 i v0) a + S1.size a ≤ S86016.size a) ∧
  (∀ (k0_h4 : k0_cond4 i v0 = 1#1), ∀ a, (k0_off486 i v0) a + S1.size a ≤ S86016.size a) ∧
  (∀ (k0_h4 : k0_cond4 i v0 = 1#1), ∀ a, (k0_off488 i v0) a + S1.size a ≤ S86016.size a) ∧
  (∀ (k0_h4 : k0_cond4 i v0 = 1#1), ∀ a, (k0_off490 i v0) a + S1.size a ≤ S86016.size a) ∧
  (∀ (k0_h4 : k0_cond4 i v0 = 1#1), ∀ a, (k0_off492 i v0) a + S1.size a ≤ S86016.size a) ∧
  (∀ (k0_h4 : k0_cond4 i v0 = 1#1), ∀ a, (k0_off494 i v0) a + S1.size a ≤ S86016.size a) ∧
  (∀ (k0_h4 : k0_cond4 i v0 = 1#1), ∀ a, (k0_off496 i v0) a + S1.size a ≤ S86016.size a) ∧
  (∀ (k0_h4 : k0_cond4 i v0 = 1#1), ∀ a, (k0_off498 i v0) a + S1.size a ≤ S86016.size a) ∧
  (∀ (k0_h4 : k0_cond4 i v0 = 1#1), ∀ a, (k0_off500 i v0) a + S1.size a ≤ S86016.size a) ∧
  (∀ (k0_h4 : k0_cond4 i v0 = 1#1), ∀ a, (k0_off502 i v0) a + S1.size a ≤ S86016.size a) ∧
  (∀ (k0_h4 : k0_cond4 i v0 = 1#1), ∀ a, (k0_off504 i v0) a + S1.size a ≤ S86016.size a) ∧
  (∀ (k0_h4 : k0_cond4 i v0 = 1#1), ∀ a, (k0_off506 i v0) a + S1.size a ≤ S86016.size a) ∧
  (∀ (k0_h4 : k0_cond4 i v0 = 1#1), ∀ a, (k0_off508 i v0) a + S1.size a ≤ S86016.size a) ∧
  (∀ (k0_h4 : k0_cond4 i v0 = 1#1), ∀ a, (k0_off510 i v0) a + S1.size a ≤ S86016.size a) ∧
  (∀ (k0_h4 : k0_cond4 i v0 = 1#1), ∀ a, (k0_off512 i v0) a + S1.size a ≤ S86016.size a) ∧
  (∀ (k0_h4 : k0_cond4 i v0 = 1#1), ∀ a, (k0_off514 i v0) a + S1.size a ≤ S86016.size a)
def k0_chk257_4 (i : grid0.Coords) (v0 : BitVec 32) : Prop :=
  (∀ (k0_h4 : k0_cond4 i v0 = 1#1), ∀ a, (k0_off516 i v0) a + S1.size a ≤ S86016.size a) ∧
  (∀ (k0_h4 : k0_cond4 i v0 = 1#1), ∀ a, (k0_off518 i v0) a + S1.size a ≤ S86016.size a) ∧
  (∀ (k0_h4 : k0_cond4 i v0 = 1#1), ∀ a, (k0_off520 i v0) a + S1.size a ≤ S86016.size a) ∧
  (∀ (k0_h4 : k0_cond4 i v0 = 1#1), ∀ a, (k0_off522 i v0) a + S1.size a ≤ S86016.size a) ∧
  (∀ (k0_h4 : k0_cond4 i v0 = 1#1), ∀ a, (k0_off524 i v0) a + S1.size a ≤ S86016.size a) ∧
  (∀ (k0_h4 : k0_cond4 i v0 = 1#1), ∀ a, (k0_off526 i v0) a + S1.size a ≤ S86016.size a) ∧
  (∀ (k0_h4 : k0_cond4 i v0 = 1#1), ∀ a, (k0_off528 i v0) a + S1.size a ≤ S86016.size a) ∧
  (∀ (k0_h4 : k0_cond4 i v0 = 1#1), ∀ a, (k0_off530 i v0) a + S1.size a ≤ S86016.size a) ∧
  (∀ (k0_h4 : k0_cond4 i v0 = 1#1), ∀ a, (k0_off532 i v0) a + S1.size a ≤ S86016.size a) ∧
  (∀ (k0_h4 : k0_cond4 i v0 = 1#1), ∀ a, (k0_off534 i v0) a + S1.size a ≤ S86016.size a) ∧
  (∀ (k0_h4 : k0_cond4 i v0 = 1#1), ∀ a, (k0_off536 i v0) a + S1.size a ≤ S86016.size a) ∧
  (∀ (k0_h4 : k0_cond4 i v0 = 1#1), ∀ a, (k0_off538 i v0) a + S1.size a ≤ S86016.size a) ∧
  (∀ (k0_h4 : k0_cond4 i v0 = 1#1), ∀ a, (k0_off540 i v0) a + S1.size a ≤ S86016.size a) ∧
  (∀ (k0_h4 : k0_cond4 i v0 = 1#1), ∀ a, (k0_off542 i v0) a + S1.size a ≤ S86016.size a) ∧
  (∀ (k0_h4 : k0_cond4 i v0 = 1#1), ∀ a, (k0_off544 i v0) a + S1.size a ≤ S86016.size a) ∧
  (∀ (k0_h4 : k0_cond4 i v0 = 1#1), ∀ a, (k0_off546 i v0) a + S1.size a ≤ S86016.size a) ∧
  (∀ (k0_h4 : k0_cond4 i v0 = 1#1), ∀ a, (k0_off548 i v0) a + S1.size a ≤ S86016.size a) ∧
  (∀ (k0_h4 : k0_cond4 i v0 = 1#1), ∀ a, (k0_off550 i v0) a + S1.size a ≤ S86016.size a) ∧
  (∀ (k0_h4 : k0_cond4 i v0 = 1#1), ∀ a, (k0_off552 i v0) a + S1.size a ≤ S86016.size a) ∧
  (∀ (k0_h4 : k0_cond4 i v0 = 1#1), ∀ a, (k0_off554 i v0) a + S1.size a ≤ S86016.size a) ∧
  (∀ (k0_h4 : k0_cond4 i v0 = 1#1), ∀ a, (k0_off556 i v0) a + S1.size a ≤ S86016.size a) ∧
  (∀ (k0_h4 : k0_cond4 i v0 = 1#1), ∀ a, (k0_off558 i v0) a + S1.size a ≤ S86016.size a) ∧
  (∀ (k0_h4 : k0_cond4 i v0 = 1#1), ∀ a, (k0_off560 i v0) a + S1.size a ≤ S86016.size a) ∧
  (∀ (k0_h4 : k0_cond4 i v0 = 1#1), ∀ a, (k0_off562 i v0) a + S1.size a ≤ S86016.size a) ∧
  (∀ (k0_h4 : k0_cond4 i v0 = 1#1), ∀ a, (k0_off564 i v0) a + S1.size a ≤ S86016.size a) ∧
  (∀ (k0_h4 : k0_cond4 i v0 = 1#1), ∀ a, (k0_off566 i v0) a + S1.size a ≤ S86016.size a) ∧
  (∀ (k0_h4 : k0_cond4 i v0 = 1#1), ∀ a, (k0_off568 i v0) a + S1.size a ≤ S86016.size a) ∧
  (∀ (k0_h4 : k0_cond4 i v0 = 1#1), ∀ a, (k0_off570 i v0) a + S1.size a ≤ S86016.size a) ∧
  (∀ (k0_h4 : k0_cond4 i v0 = 1#1), ∀ a, (k0_off572 i v0) a + S1.size a ≤ S86016.size a) ∧
  (∀ (k0_h4 : k0_cond4 i v0 = 1#1), ∀ a, (k0_off574 i v0) a + S1.size a ≤ S86016.size a) ∧
  (∀ (k0_h4 : k0_cond4 i v0 = 1#1), ∀ a, (k0_off576 i v0) a + S1.size a ≤ S86016.size a) ∧
  (∀ (k0_h4 : k0_cond4 i v0 = 1#1), ∀ a, (k0_off578 i v0) a + S1.size a ≤ S86016.size a)
def k0_chk257_5 (i : grid0.Coords) (v0 : BitVec 32) : Prop :=
  (∀ (k0_h4 : k0_cond4 i v0 = 1#1), ∀ a, (k0_off580 i v0) a + S1.size a ≤ S86016.size a) ∧
  (∀ (k0_h4 : k0_cond4 i v0 = 1#1), ∀ a, (k0_off582 i v0) a + S1.size a ≤ S86016.size a) ∧
  (∀ (k0_h4 : k0_cond4 i v0 = 1#1), ∀ a, (k0_off584 i v0) a + S1.size a ≤ S86016.size a) ∧
  (∀ (k0_h4 : k0_cond4 i v0 = 1#1), ∀ a, (k0_off586 i v0) a + S1.size a ≤ S86016.size a) ∧
  (∀ (k0_h4 : k0_cond4 i v0 = 1#1), ∀ a, (k0_off588 i v0) a + S1.size a ≤ S86016.size a) ∧
  (∀ (k0_h4 : k0_cond4 i v0 = 1#1), ∀ a, (k0_off590 i v0) a + S1.size a ≤ S86016.size a) ∧
  (∀ (k0_h4 : k0_cond4 i v0 = 1#1), ∀ a, (k0_off592 i v0) a + S1.size a ≤ S86016.size a) ∧
  (∀ (k0_h4 : k0_cond4 i v0 = 1#1), ∀ a, (k0_off594 i v0) a + S1.size a ≤ S86016.size a) ∧
  (∀ (k0_h4 : k0_cond4 i v0 = 1#1), ∀ a, (k0_off596 i v0) a + S1.size a ≤ S86016.size a) ∧
  (∀ (k0_h4 : k0_cond4 i v0 = 1#1), ∀ a, (k0_off598 i v0) a + S1.size a ≤ S86016.size a) ∧
  (∀ (k0_h4 : k0_cond4 i v0 = 1#1), ∀ a, (k0_off600 i v0) a + S1.size a ≤ S86016.size a) ∧
  (∀ (k0_h4 : k0_cond4 i v0 = 1#1), ∀ a, (k0_off602 i v0) a + S1.size a ≤ S86016.size a) ∧
  (∀ (k0_h4 : k0_cond4 i v0 = 1#1), ∀ a, (k0_off604 i v0) a + S1.size a ≤ S86016.size a) ∧
  (∀ (k0_h4 : k0_cond4 i v0 = 1#1), ∀ a, (k0_off606 i v0) a + S1.size a ≤ S86016.size a) ∧
  (∀ (k0_h4 : k0_cond4 i v0 = 1#1), ∀ a, (k0_off608 i v0) a + S1.size a ≤ S86016.size a) ∧
  (∀ (k0_h4 : k0_cond4 i v0 = 1#1), ∀ a, (k0_off610 i v0) a + S1.size a ≤ S86016.size a) ∧
  (∀ (k0_h4 : k0_cond4 i v0 = 1#1), ∀ a, (k0_off612 i v0) a + S1.size a ≤ S86016.size a) ∧
  (∀ (k0_h4 : k0_cond4 i v0 = 1#1), ∀ a, (k0_off614 i v0) a + S1.size a ≤ S86016.size a) ∧
  (∀ (k0_h4 : k0_cond4 i v0 = 1#1), ∀ a, (k0_off616 i v0) a + S1.size a ≤ S86016.size a) ∧
  (∀ (k0_h4 : k0_cond4 i v0 = 1#1), ∀ a, (k0_off618 i v0) a + S1.size a ≤ S86016.size a) ∧
  (∀ (k0_h4 : k0_cond4 i v0 = 1#1), ∀ a, (k0_off620 i v0) a + S1.size a ≤ S86016.size a) ∧
  (∀ (k0_h4 : k0_cond4 i v0 = 1#1), ∀ a, (k0_off622 i v0) a + S1.size a ≤ S86016.size a) ∧
  (∀ (k0_h4 : k0_cond4 i v0 = 1#1), ∀ a, (k0_off624 i v0) a + S1.size a ≤ S86016.size a) ∧
  (∀ (k0_h4 : k0_cond4 i v0 = 1#1), ∀ a, (k0_off626 i v0) a + S1.size a ≤ S86016.size a) ∧
  (∀ (k0_h4 : k0_cond4 i v0 = 1#1), ∀ a, (k0_off628 i v0) a + S1.size a ≤ S86016.size a) ∧
  (∀ (k0_h4 : k0_cond4 i v0 = 1#1), ∀ a, (k0_off630 i v0) a + S1.size a ≤ S86016.size a) ∧
  (∀ (k0_h4 : k0_cond4 i v0 = 1#1), ∀ a, (k0_off632 i v0) a + S1.size a ≤ S86016.size a) ∧
  (∀ (k0_h4 : k0_cond4 i v0 = 1#1), ∀ a, (k0_off634 i v0) a + S1.size a ≤ S86016.size a) ∧
  (∀ (k0_h4 : k0_cond4 i v0 = 1#1), ∀ a, (k0_off636 i v0) a + S1.size a ≤ S86016.size a) ∧
  (∀ (k0_h4 : k0_cond4 i v0 = 1#1), ∀ a, (k0_off638 i v0) a + S1.size a ≤ S86016.size a) ∧
  (∀ (k0_h4 : k0_cond4 i v0 = 1#1), ∀ a, (k0_off640 i v0) a + S1.size a ≤ S86016.size a) ∧
  (∀ (k0_h4 : k0_cond4 i v0 = 1#1), ∀ a, (k0_off642 i v0) a + S1.size a ≤ S86016.size a)
def k0_chk257_6 (i : grid0.Coords) (v0 : BitVec 32) : Prop :=
  (∀ (k0_h4 : k0_cond4 i v0 = 1#1), ∀ a, (k0_off644 i v0) a + S1.size a ≤ S86016.size a) ∧
  (∀ (k0_h4 : k0_cond4 i v0 = 1#1), ∀ a, (k0_off646 i v0) a + S1.size a ≤ S86016.size a) ∧
  (∀ (k0_h4 : k0_cond4 i v0 = 1#1), ∀ a, (k0_off648 i v0) a + S1.size a ≤ S86016.size a) ∧
  (∀ (k0_h4 : k0_cond4 i v0 = 1#1), ∀ a, (k0_off650 i v0) a + S1.size a ≤ S86016.size a) ∧
  (∀ (k0_h4 : k0_cond4 i v0 = 1#1), ∀ a, (k0_off652 i v0) a + S1.size a ≤ S86016.size a) ∧
  (∀ (k0_h4 : k0_cond4 i v0 = 1#1), ∀ a, (k0_off654 i v0) a + S1.size a ≤ S86016.size a) ∧
  (∀ (k0_h4 : k0_cond4 i v0 = 1#1), ∀ a, (k0_off656 i v0) a + S1.size a ≤ S86016.size a) ∧
  (∀ (k0_h4 : k0_cond4 i v0 = 1#1), ∀ a, (k0_off658 i v0) a + S1.size a ≤ S86016.size a) ∧
  (∀ (k0_h4 : k0_cond4 i v0 = 1#1), ∀ a, (k0_off660 i v0) a + S1.size a ≤ S86016.size a) ∧
  (∀ (k0_h4 : k0_cond4 i v0 = 1#1), ∀ a, (k0_off662 i v0) a + S1.size a ≤ S86016.size a) ∧
  (∀ (k0_h4 : k0_cond4 i v0 = 1#1), ∀ a, (k0_off664 i v0) a + S1.size a ≤ S86016.size a) ∧
  (∀ (k0_h4 : k0_cond4 i v0 = 1#1), ∀ a, (k0_off666 i v0) a + S1.size a ≤ S86016.size a) ∧
  (∀ (k0_h4 : k0_cond4 i v0 = 1#1), ∀ a, (k0_off668 i v0) a + S1.size a ≤ S86016.size a) ∧
  (∀ (k0_h4 : k0_cond4 i v0 = 1#1), ∀ a, (k0_off670 i v0) a + S1.size a ≤ S86016.size a) ∧
  (∀ (k0_h4 : k0_cond4 i v0 = 1#1), ∀ a, (k0_off672 i v0) a + S1.size a ≤ S86016.size a) ∧
  (∀ (k0_h4 : k0_cond4 i v0 = 1#1), ∀ a, (k0_off674 i v0) a + S1.size a ≤ S86016.size a) ∧
  (∀ (k0_h4 : k0_cond4 i v0 = 1#1), ∀ a, (k0_off676 i v0) a + S1.size a ≤ S86016.size a) ∧
  (∀ (k0_h4 : k0_cond4 i v0 = 1#1), ∀ a, (k0_off678 i v0) a + S1.size a ≤ S86016.size a) ∧
  (∀ (k0_h4 : k0_cond4 i v0 = 1#1), ∀ a, (k0_off680 i v0) a + S1.size a ≤ S86016.size a) ∧
  (∀ (k0_h4 : k0_cond4 i v0 = 1#1), ∀ a, (k0_off682 i v0) a + S1.size a ≤ S86016.size a) ∧
  (∀ (k0_h4 : k0_cond4 i v0 = 1#1), ∀ a, (k0_off684 i v0) a + S1.size a ≤ S86016.size a) ∧
  (∀ (k0_h4 : k0_cond4 i v0 = 1#1), ∀ a, (k0_off686 i v0) a + S1.size a ≤ S86016.size a) ∧
  (∀ (k0_h4 : k0_cond4 i v0 = 1#1), ∀ a, (k0_off688 i v0) a + S1.size a ≤ S86016.size a) ∧
  (∀ (k0_h4 : k0_cond4 i v0 = 1#1), ∀ a, (k0_off690 i v0) a + S1.size a ≤ S86016.size a) ∧
  (∀ (k0_h4 : k0_cond4 i v0 = 1#1), ∀ a, (k0_off692 i v0) a + S1.size a ≤ S86016.size a) ∧
  (∀ (k0_h4 : k0_cond4 i v0 = 1#1), ∀ a, (k0_off694 i v0) a + S1.size a ≤ S86016.size a) ∧
  (∀ (k0_h4 : k0_cond4 i v0 = 1#1), ∀ a, (k0_off696 i v0) a + S1.size a ≤ S86016.size a) ∧
  (∀ (k0_h4 : k0_cond4 i v0 = 1#1), ∀ a, (k0_off698 i v0) a + S1.size a ≤ S86016.size a) ∧
  (∀ (k0_h4 : k0_cond4 i v0 = 1#1), ∀ a, (k0_off700 i v0) a + S1.size a ≤ S86016.size a) ∧
  (∀ (k0_h4 : k0_cond4 i v0 = 1#1), ∀ a, (k0_off702 i v0) a + S1.size a ≤ S86016.size a) ∧
  (∀ (k0_h4 : k0_cond4 i v0 = 1#1), ∀ a, (k0_off704 i v0) a + S1.size a ≤ S86016.size a) ∧
  (∀ (k0_h4 : k0_cond4 i v0 = 1#1), ∀ a, (k0_off706 i v0) a + S1.size a ≤ S86016.size a)
def k0_chk257_7 (i : grid0.Coords) (v0 : BitVec 32) : Prop :=
  (∀ (k0_h4 : k0_cond4 i v0 = 1#1), ∀ a, (k0_off708 i v0) a + S1.size a ≤ S86016.size a) ∧
  (∀ (k0_h4 : k0_cond4 i v0 = 1#1), ∀ a, (k0_off710 i v0) a + S1.size a ≤ S86016.size a) ∧
  (∀ (k0_h4 : k0_cond4 i v0 = 1#1), ∀ a, (k0_off712 i v0) a + S1.size a ≤ S86016.size a) ∧
  (∀ (k0_h4 : k0_cond4 i v0 = 1#1), ∀ a, (k0_off714 i v0) a + S1.size a ≤ S86016.size a) ∧
  (∀ (k0_h4 : k0_cond4 i v0 = 1#1), ∀ a, (k0_off716 i v0) a + S1.size a ≤ S86016.size a) ∧
  (∀ (k0_h4 : k0_cond4 i v0 = 1#1), ∀ a, (k0_off718 i v0) a + S1.size a ≤ S86016.size a) ∧
  (∀ (k0_h4 : k0_cond4 i v0 = 1#1), ∀ a, (k0_off720 i v0) a + S1.size a ≤ S86016.size a) ∧
  (∀ (k0_h4 : k0_cond4 i v0 = 1#1), ∀ a, (k0_off722 i v0) a + S1.size a ≤ S86016.size a) ∧
  (∀ (k0_h4 : k0_cond4 i v0 = 1#1), ∀ a, (k0_off724 i v0) a + S1.size a ≤ S86016.size a) ∧
  (∀ (k0_h4 : k0_cond4 i v0 = 1#1), ∀ a, (k0_off726 i v0) a + S1.size a ≤ S86016.size a) ∧
  (∀ (k0_h4 : k0_cond4 i v0 = 1#1), ∀ a, (k0_off728 i v0) a + S1.size a ≤ S86016.size a) ∧
  (∀ (k0_h4 : k0_cond4 i v0 = 1#1), ∀ a, (k0_off730 i v0) a + S1.size a ≤ S86016.size a) ∧
  (∀ (k0_h4 : k0_cond4 i v0 = 1#1), ∀ a, (k0_off732 i v0) a + S1.size a ≤ S86016.size a) ∧
  (∀ (k0_h4 : k0_cond4 i v0 = 1#1), ∀ a, (k0_off734 i v0) a + S1.size a ≤ S86016.size a) ∧
  (∀ (k0_h4 : k0_cond4 i v0 = 1#1), ∀ a, (k0_off736 i v0) a + S1.size a ≤ S86016.size a) ∧
  (∀ (k0_h4 : k0_cond4 i v0 = 1#1), ∀ a, (k0_off738 i v0) a + S1.size a ≤ S86016.size a) ∧
  (∀ (k0_h4 : k0_cond4 i v0 = 1#1), ∀ a, (k0_off740 i v0) a + S1.size a ≤ S86016.size a) ∧
  (∀ (k0_h4 : k0_cond4 i v0 = 1#1), ∀ a, (k0_off742 i v0) a + S1.size a ≤ S86016.size a) ∧
  (∀ (k0_h4 : k0_cond4 i v0 = 1#1), ∀ a, (k0_off744 i v0) a + S1.size a ≤ S86016.size a) ∧
  (∀ (k0_h4 : k0_cond4 i v0 = 1#1), ∀ a, (k0_off746 i v0) a + S1.size a ≤ S86016.size a) ∧
  (∀ (k0_h4 : k0_cond4 i v0 = 1#1), ∀ a, (k0_off748 i v0) a + S1.size a ≤ S86016.size a) ∧
  (∀ (k0_h4 : k0_cond4 i v0 = 1#1), ∀ a, (k0_off750 i v0) a + S1.size a ≤ S86016.size a) ∧
  (∀ (k0_h4 : k0_cond4 i v0 = 1#1), ∀ a, (k0_off752 i v0) a + S1.size a ≤ S86016.size a) ∧
  (∀ (k0_h4 : k0_cond4 i v0 = 1#1), ∀ a, (k0_off754 i v0) a + S1.size a ≤ S86016.size a) ∧
  (∀ (k0_h4 : k0_cond4 i v0 = 1#1), ∀ a, (k0_off756 i v0) a + S1.size a ≤ S86016.size a) ∧
  (∀ (k0_h4 : k0_cond4 i v0 = 1#1), ∀ a, (k0_off758 i v0) a + S1.size a ≤ S86016.size a) ∧
  (∀ (k0_h4 : k0_cond4 i v0 = 1#1), ∀ a, (k0_off760 i v0) a + S1.size a ≤ S86016.size a) ∧
  (∀ (k0_h4 : k0_cond4 i v0 = 1#1), ∀ a, (k0_off762 i v0) a + S1.size a ≤ S86016.size a) ∧
  (∀ (k0_h4 : k0_cond4 i v0 = 1#1), ∀ a, (k0_off764 i v0) a + S1.size a ≤ S86016.size a) ∧
  (∀ (k0_h4 : k0_cond4 i v0 = 1#1), ∀ a, (k0_off766 i v0) a + S1.size a ≤ S86016.size a) ∧
  (∀ (k0_h4 : k0_cond4 i v0 = 1#1), ∀ a, (k0_off768 i v0) a + S1.size a ≤ S86016.size a) ∧
  (∀ (k0_h4 : k0_cond4 i v0 = 1#1), ∀ a, (k0_off770 i v0) a + S1.size a ≤ S86016.size a)
def k0_chk257_8 (i : grid0.Coords) (v0 : BitVec 32) : Prop :=
  (∀ (k0_h6 : k0_cond6 i v0 = 1#1), ∀ a, (k0_off772 i v0) a + S1.size a ≤ S86016.size a) ∧
  (∀ (k0_h6 : k0_cond6 i v0 = 1#1), ∀ a, (k0_off774 i v0) a + S1.size a ≤ S86016.size a) ∧
  (∀ (k0_h6 : k0_cond6 i v0 = 1#1), ∀ a, (k0_off776 i v0) a + S1.size a ≤ S86016.size a) ∧
  (∀ (k0_h6 : k0_cond6 i v0 = 1#1), ∀ a, (k0_off778 i v0) a + S1.size a ≤ S86016.size a) ∧
  (∀ (k0_h6 : k0_cond6 i v0 = 1#1), ∀ a, (k0_off780 i v0) a + S1.size a ≤ S86016.size a) ∧
  (∀ (k0_h6 : k0_cond6 i v0 = 1#1), ∀ a, (k0_off782 i v0) a + S1.size a ≤ S86016.size a) ∧
  (∀ (k0_h6 : k0_cond6 i v0 = 1#1), ∀ a, (k0_off784 i v0) a + S1.size a ≤ S86016.size a) ∧
  (∀ (k0_h6 : k0_cond6 i v0 = 1#1), ∀ a, (k0_off786 i v0) a + S1.size a ≤ S86016.size a) ∧
  (∀ (k0_h6 : k0_cond6 i v0 = 1#1), ∀ a, (k0_off788 i v0) a + S1.size a ≤ S86016.size a) ∧
  (∀ (k0_h6 : k0_cond6 i v0 = 1#1), ∀ a, (k0_off790 i v0) a + S1.size a ≤ S86016.size a) ∧
  (∀ (k0_h6 : k0_cond6 i v0 = 1#1), ∀ a, (k0_off792 i v0) a + S1.size a ≤ S86016.size a) ∧
  (∀ (k0_h6 : k0_cond6 i v0 = 1#1), ∀ a, (k0_off794 i v0) a + S1.size a ≤ S86016.size a) ∧
  (∀ (k0_h6 : k0_cond6 i v0 = 1#1), ∀ a, (k0_off796 i v0) a + S1.size a ≤ S86016.size a) ∧
  (∀ (k0_h6 : k0_cond6 i v0 = 1#1), ∀ a, (k0_off798 i v0) a + S1.size a ≤ S86016.size a) ∧
  (∀ (k0_h6 : k0_cond6 i v0 = 1#1), ∀ a, (k0_off800 i v0) a + S1.size a ≤ S86016.size a) ∧
  (∀ (k0_h6 : k0_cond6 i v0 = 1#1), ∀ a, (k0_off802 i v0) a + S1.size a ≤ S86016.size a) ∧
  (∀ (k0_h6 : k0_cond6 i v0 = 1#1), ∀ a, (k0_off804 i v0) a + S1.size a ≤ S86016.size a) ∧
  (∀ (k0_h6 : k0_cond6 i v0 = 1#1), ∀ a, (k0_off806 i v0) a + S1.size a ≤ S86016.size a) ∧
  (∀ (k0_h6 : k0_cond6 i v0 = 1#1), ∀ a, (k0_off808 i v0) a + S1.size a ≤ S86016.size a) ∧
  (∀ (k0_h6 : k0_cond6 i v0 = 1#1), ∀ a, (k0_off810 i v0) a + S1.size a ≤ S86016.size a) ∧
  (∀ (k0_h6 : k0_cond6 i v0 = 1#1), ∀ a, (k0_off812 i v0) a + S1.size a ≤ S86016.size a) ∧
  (∀ (k0_h6 : k0_cond6 i v0 = 1#1), ∀ a, (k0_off814 i v0) a + S1.size a ≤ S86016.size a) ∧
  (∀ (k0_h6 : k0_cond6 i v0 = 1#1), ∀ a, (k0_off816 i v0) a + S1.size a ≤ S86016.size a) ∧
  (∀ (k0_h6 : k0_cond6 i v0 = 1#1), ∀ a, (k0_off818 i v0) a + S1.size a ≤ S86016.size a) ∧
  (∀ (k0_h6 : k0_cond6 i v0 = 1#1), ∀ a, (k0_off820 i v0) a + S1.size a ≤ S86016.size a) ∧
  (∀ (k0_h6 : k0_cond6 i v0 = 1#1), ∀ a, (k0_off822 i v0) a + S1.size a ≤ S86016.size a) ∧
  (∀ (k0_h6 : k0_cond6 i v0 = 1#1), ∀ a, (k0_off824 i v0) a + S1.size a ≤ S86016.size a) ∧
  (∀ (k0_h6 : k0_cond6 i v0 = 1#1), ∀ a, (k0_off826 i v0) a + S1.size a ≤ S86016.size a) ∧
  (∀ (k0_h6 : k0_cond6 i v0 = 1#1), ∀ a, (k0_off828 i v0) a + S1.size a ≤ S86016.size a) ∧
  (∀ (k0_h6 : k0_cond6 i v0 = 1#1), ∀ a, (k0_off830 i v0) a + S1.size a ≤ S86016.size a) ∧
  (∀ (k0_h6 : k0_cond6 i v0 = 1#1), ∀ a, (k0_off832 i v0) a + S1.size a ≤ S86016.size a) ∧
  (∀ (k0_h6 : k0_cond6 i v0 = 1#1), ∀ a, (k0_off834 i v0) a + S1.size a ≤ S86016.size a)
def k0_chk257_9 (i : grid0.Coords) (v0 : BitVec 32) : Prop :=
  (∀ (k0_h6 : k0_cond6 i v0 = 1#1), ∀ a, (k0_off836 i v0) a + S1.size a ≤ S86016.size a) ∧
  (∀ (k0_h6 : k0_cond6 i v0 = 1#1), ∀ a, (k0_off838 i v0) a + S1.size a ≤ S86016.size a) ∧
  (∀ (k0_h6 : k0_cond6 i v0 = 1#1), ∀ a, (k0_off840 i v0) a + S1.size a ≤ S86016.size a) ∧
  (∀ (k0_h6 : k0_cond6 i v0 = 1#1), ∀ a, (k0_off842 i v0) a + S1.size a ≤ S86016.size a) ∧
  (∀ (k0_h6 : k0_cond6 i v0 = 1#1), ∀ a, (k0_off844 i v0) a + S1.size a ≤ S86016.size a) ∧
  (∀ (k0_h6 : k0_cond6 i v0 = 1#1), ∀ a, (k0_off846 i v0) a + S1.size a ≤ S86016.size a) ∧
  (∀ (k0_h6 : k0_cond6 i v0 = 1#1), ∀ a, (k0_off848 i v0) a + S1.size a ≤ S86016.size a) ∧
  (∀ (k0_h6 : k0_cond6 i v0 = 1#1), ∀ a, (k0_off850 i v0) a + S1.size a ≤ S86016.size a) ∧
  (∀ (k0_h6 : k0_cond6 i v0 = 1#1), ∀ a, (k0_off852 i v0) a + S1.size a ≤ S86016.size a) ∧
  (∀ (k0_h6 : k0_cond6 i v0 = 1#1), ∀ a, (k0_off854 i v0) a + S1.size a ≤ S86016.size a) ∧
  (∀ (k0_h6 : k0_cond6 i v0 = 1#1), ∀ a, (k0_off856 i v0) a + S1.size a ≤ S86016.size a) ∧
  (∀ (k0_h6 : k0_cond6 i v0 = 1#1), ∀ a, (k0_off858 i v0) a + S1.size a ≤ S86016.size a) ∧
  (∀ (k0_h6 : k0_cond6 i v0 = 1#1), ∀ a, (k0_off860 i v0) a + S1.size a ≤ S86016.size a) ∧
  (∀ (k0_h6 : k0_cond6 i v0 = 1#1), ∀ a, (k0_off862 i v0) a + S1.size a ≤ S86016.size a) ∧
  (∀ (k0_h6 : k0_cond6 i v0 = 1#1), ∀ a, (k0_off864 i v0) a + S1.size a ≤ S86016.size a) ∧
  (∀ (k0_h6 : k0_cond6 i v0 = 1#1), ∀ a, (k0_off866 i v0) a + S1.size a ≤ S86016.size a) ∧
  (∀ (k0_h6 : k0_cond6 i v0 = 1#1), ∀ a, (k0_off868 i v0) a + S1.size a ≤ S86016.size a) ∧
  (∀ (k0_h6 : k0_cond6 i v0 = 1#1), ∀ a, (k0_off870 i v0) a + S1.size a ≤ S86016.size a) ∧
  (∀ (k0_h6 : k0_cond6 i v0 = 1#1), ∀ a, (k0_off872 i v0) a + S1.size a ≤ S86016.size a) ∧
  (∀ (k0_h6 : k0_cond6 i v0 = 1#1), ∀ a, (k0_off874 i v0) a + S1.size a ≤ S86016.size a) ∧
  (∀ (k0_h6 : k0_cond6 i v0 = 1#1), ∀ a, (k0_off876 i v0) a + S1.size a ≤ S86016.size a) ∧
  (∀ (k0_h6 : k0_cond6 i v0 = 1#1), ∀ a, (k0_off878 i v0) a + S1.size a ≤ S86016.size a) ∧
  (∀ (k0_h6 : k0_cond6 i v0 = 1#1), ∀ a, (k0_off880 i v0) a + S1.size a ≤ S86016.size a) ∧
  (∀ (k0_h6 : k0_cond6 i v0 = 1#1), ∀ a, (k0_off882 i v0) a + S1.size a ≤ S86016.size a) ∧
  (∀ (k0_h6 : k0_cond6 i v0 = 1#1), ∀ a, (k0_off884 i v0) a + S1.size a ≤ S86016.size a) ∧
  (∀ (k0_h6 : k0_cond6 i v0 = 1#1), ∀ a, (k0_off886 i v0) a + S1.size a ≤ S86016.size a) ∧
  (∀ (k0_h6 : k0_cond6 i v0 = 1#1), ∀ a, (k0_off888 i v0) a + S1.size a ≤ S86016.size a) ∧
  (∀ (k0_h6 : k0_cond6 i v0 = 1#1), ∀ a, (k0_off890 i v0) a + S1.size a ≤ S86016.size a) ∧
  (∀ (k0_h6 : k0_cond6 i v0 = 1#1), ∀ a, (k0_off892 i v0) a + S1.size a ≤ S86016.size a) ∧
  (∀ (k0_h6 : k0_cond6 i v0 = 1#1), ∀ a, (k0_off894 i v0) a + S1.size a ≤ S86016.size a) ∧
  (∀ (k0_h6 : k0_cond6 i v0 = 1#1), ∀ a, (k0_off896 i v0) a + S1.size a ≤ S86016.size a) ∧
  (∀ (k0_h6 : k0_cond6 i v0 = 1#1), ∀ a, (k0_off898 i v0) a + S1.size a ≤ S86016.size a)
def k0_chk257_10 (i : grid0.Coords) (v0 : BitVec 32) : Prop :=
  (∀ (k0_h6 : k0_cond6 i v0 = 1#1), ∀ a, (k0_off900 i v0) a + S1.size a ≤ S86016.size a) ∧
  (∀ (k0_h6 : k0_cond6 i v0 = 1#1), ∀ a, (k0_off902 i v0) a + S1.size a ≤ S86016.size a) ∧
  (∀ (k0_h6 : k0_cond6 i v0 = 1#1), ∀ a, (k0_off904 i v0) a + S1.size a ≤ S86016.size a) ∧
  (∀ (k0_h6 : k0_cond6 i v0 = 1#1), ∀ a, (k0_off906 i v0) a + S1.size a ≤ S86016.size a) ∧
  (∀ (k0_h6 : k0_cond6 i v0 = 1#1), ∀ a, (k0_off908 i v0) a + S1.size a ≤ S86016.size a) ∧
  (∀ (k0_h6 : k0_cond6 i v0 = 1#1), ∀ a, (k0_off910 i v0) a + S1.size a ≤ S86016.size a) ∧
  (∀ (k0_h6 : k0_cond6 i v0 = 1#1), ∀ a, (k0_off912 i v0) a + S1.size a ≤ S86016.size a) ∧
  (∀ (k0_h6 : k0_cond6 i v0 = 1#1), ∀ a, (k0_off914 i v0) a + S1.size a ≤ S86016.size a) ∧
  (∀ (k0_h6 : k0_cond6 i v0 = 1#1), ∀ a, (k0_off916 i v0) a + S1.size a ≤ S86016.size a) ∧
  (∀ (k0_h6 : k0_cond6 i v0 = 1#1), ∀ a, (k0_off918 i v0) a + S1.size a ≤ S86016.size a) ∧
  (∀ (k0_h6 : k0_cond6 i v0 = 1#1), ∀ a, (k0_off920 i v0) a + S1.size a ≤ S86016.size a) ∧
  (∀ (k0_h6 : k0_cond6 i v0 = 1#1), ∀ a, (k0_off922 i v0) a + S1.size a ≤ S86016.size a) ∧
  (∀ (k0_h6 : k0_cond6 i v0 = 1#1), ∀ a, (k0_off924 i v0) a + S1.size a ≤ S86016.size a) ∧
  (∀ (k0_h6 : k0_cond6 i v0 = 1#1), ∀ a, (k0_off926 i v0) a + S1.size a ≤ S86016.size a) ∧
  (∀ (k0_h6 : k0_cond6 i v0 = 1#1), ∀ a, (k0_off928 i v0) a + S1.size a ≤ S86016.size a) ∧
  (∀ (k0_h6 : k0_cond6 i v0 = 1#1), ∀ a, (k0_off930 i v0) a + S1.size a ≤ S86016.size a) ∧
  (∀ (k0_h6 : k0_cond6 i v0 = 1#1), ∀ a, (k0_off932 i v0) a + S1.size a ≤ S86016.size a) ∧
  (∀ (k0_h6 : k0_cond6 i v0 = 1#1), ∀ a, (k0_off934 i v0) a + S1.size a ≤ S86016.size a) ∧
  (∀ (k0_h6 : k0_cond6 i v0 = 1#1), ∀ a, (k0_off936 i v0) a + S1.size a ≤ S86016.size a) ∧
  (∀ (k0_h6 : k0_cond6 i v0 = 1#1), ∀ a, (k0_off938 i v0) a + S1.size a ≤ S86016.size a) ∧
  (∀ (k0_h6 : k0_cond6 i v0 = 1#1), ∀ a, (k0_off940 i v0) a + S1.size a ≤ S86016.size a) ∧
  (∀ (k0_h6 : k0_cond6 i v0 = 1#1), ∀ a, (k0_off942 i v0) a + S1.size a ≤ S86016.size a) ∧
  (∀ (k0_h6 : k0_cond6 i v0 = 1#1), ∀ a, (k0_off944 i v0) a + S1.size a ≤ S86016.size a) ∧
  (∀ (k0_h6 : k0_cond6 i v0 = 1#1), ∀ a, (k0_off946 i v0) a + S1.size a ≤ S86016.size a) ∧
  (∀ (k0_h6 : k0_cond6 i v0 = 1#1), ∀ a, (k0_off948 i v0) a + S1.size a ≤ S86016.size a) ∧
  (∀ (k0_h6 : k0_cond6 i v0 = 1#1), ∀ a, (k0_off950 i v0) a + S1.size a ≤ S86016.size a) ∧
  (∀ (k0_h6 : k0_cond6 i v0 = 1#1), ∀ a, (k0_off952 i v0) a + S1.size a ≤ S86016.size a) ∧
  (∀ (k0_h6 : k0_cond6 i v0 = 1#1), ∀ a, (k0_off954 i v0) a + S1.size a ≤ S86016.size a) ∧
  (∀ (k0_h6 : k0_cond6 i v0 = 1#1), ∀ a, (k0_off956 i v0) a + S1.size a ≤ S86016.size a) ∧
  (∀ (k0_h6 : k0_cond6 i v0 = 1#1), ∀ a, (k0_off958 i v0) a + S1.size a ≤ S86016.size a) ∧
  (∀ (k0_h6 : k0_cond6 i v0 = 1#1), ∀ a, (k0_off960 i v0) a + S1.size a ≤ S86016.size a) ∧
  (∀ (k0_h6 : k0_cond6 i v0 = 1#1), ∀ a, (k0_off962 i v0) a + S1.size a ≤ S86016.size a)
def k0_chk257_11 (i : grid0.Coords) (v0 : BitVec 32) : Prop :=
  (∀ (k0_h6 : k0_cond6 i v0 = 1#1), ∀ a, (k0_off964 i v0) a + S1.size a ≤ S86016.size a) ∧
  (∀ (k0_h6 : k0_cond6 i v0 = 1#1), ∀ a, (k0_off966 i v0) a + S1.size a ≤ S86016.size a) ∧
  (∀ (k0_h6 : k0_cond6 i v0 = 1#1), ∀ a, (k0_off968 i v0) a + S1.size a ≤ S86016.size a) ∧
  (∀ (k0_h6 : k0_cond6 i v0 = 1#1), ∀ a, (k0_off970 i v0) a + S1.size a ≤ S86016.size a) ∧
  (∀ (k0_h6 : k0_cond6 i v0 = 1#1), ∀ a, (k0_off972 i v0) a + S1.size a ≤ S86016.size a) ∧
  (∀ (k0_h6 : k0_cond6 i v0 = 1#1), ∀ a, (k0_off974 i v0) a + S1.size a ≤ S86016.size a) ∧
  (∀ (k0_h6 : k0_cond6 i v0 = 1#1), ∀ a, (k0_off976 i v0) a + S1.size a ≤ S86016.size a) ∧
  (∀ (k0_h6 : k0_cond6 i v0 = 1#1), ∀ a, (k0_off978 i v0) a + S1.size a ≤ S86016.size a) ∧
  (∀ (k0_h6 : k0_cond6 i v0 = 1#1), ∀ a, (k0_off980 i v0) a + S1.size a ≤ S86016.size a) ∧
  (∀ (k0_h6 : k0_cond6 i v0 = 1#1), ∀ a, (k0_off982 i v0) a + S1.size a ≤ S86016.size a) ∧
  (∀ (k0_h6 : k0_cond6 i v0 = 1#1), ∀ a, (k0_off984 i v0) a + S1.size a ≤ S86016.size a) ∧
  (∀ (k0_h6 : k0_cond6 i v0 = 1#1), ∀ a, (k0_off986 i v0) a + S1.size a ≤ S86016.size a) ∧
  (∀ (k0_h6 : k0_cond6 i v0 = 1#1), ∀ a, (k0_off988 i v0) a + S1.size a ≤ S86016.size a) ∧
  (∀ (k0_h6 : k0_cond6 i v0 = 1#1), ∀ a, (k0_off990 i v0) a + S1.size a ≤ S86016.size a) ∧
  (∀ (k0_h6 : k0_cond6 i v0 = 1#1), ∀ a, (k0_off992 i v0) a + S1.size a ≤ S86016.size a) ∧
  (∀ (k0_h6 : k0_cond6 i v0 = 1#1), ∀ a, (k0_off994 i v0) a + S1.size a ≤ S86016.size a) ∧
  (∀ (k0_h6 : k0_cond6 i v0 = 1#1), ∀ a, (k0_off996 i v0) a + S1.size a ≤ S86016.size a) ∧
  (∀ (k0_h6 : k0_cond6 i v0 = 1#1), ∀ a, (k0_off998 i v0) a + S1.size a ≤ S86016.size a) ∧
  (∀ (k0_h6 : k0_cond6 i v0 = 1#1), ∀ a, (k0_off1000 i v0) a + S1.size a ≤ S86016.size a) ∧
  (∀ (k0_h6 : k0_cond6 i v0 = 1#1), ∀ a, (k0_off1002 i v0) a + S1.size a ≤ S86016.size a) ∧
  (∀ (k0_h6 : k0_cond6 i v0 = 1#1), ∀ a, (k0_off1004 i v0) a + S1.size a ≤ S86016.size a) ∧
  (∀ (k0_h6 : k0_cond6 i v0 = 1#1), ∀ a, (k0_off1006 i v0) a + S1.size a ≤ S86016.size a) ∧
  (∀ (k0_h6 : k0_cond6 i v0 = 1#1), ∀ a, (k0_off1008 i v0) a + S1.size a ≤ S86016.size a) ∧
  (∀ (k0_h6 : k0_cond6 i v0 = 1#1), ∀ a, (k0_off1010 i v0) a + S1.size a ≤ S86016.size a) ∧
  (∀ (k0_h6 : k0_cond6 i v0 = 1#1), ∀ a, (k0_off1012 i v0) a + S1.size a ≤ S86016.size a) ∧
  (∀ (k0_h6 : k0_cond6 i v0 = 1#1), ∀ a, (k0_off1014 i v0) a + S1.size a ≤ S86016.size a) ∧
  (∀ (k0_h6 : k0_cond6 i v0 = 1#1), ∀ a, (k0_off1016 i v0) a + S1.size a ≤ S86016.size a) ∧
  (∀ (k0_h6 : k0_cond6 i v0 = 1#1), ∀ a, (k0_off1018 i v0) a + S1.size a ≤ S86016.size a) ∧
  (∀ (k0_h6 : k0_cond6 i v0 = 1#1), ∀ a, (k0_off1020 i v0) a + S1.size a ≤ S86016.size a) ∧
  (∀ (k0_h6 : k0_cond6 i v0 = 1#1), ∀ a, (k0_off1022 i v0) a + S1.size a ≤ S86016.size a) ∧
  (∀ (k0_h6 : k0_cond6 i v0 = 1#1), ∀ a, (k0_off1024 i v0) a + S1.size a ≤ S86016.size a) ∧
  (∀ (k0_h6 : k0_cond6 i v0 = 1#1), ∀ a, (k0_off1026 i v0) a + S1.size a ≤ S86016.size a)
def k0_chk257_12 (i : grid0.Coords) (v0 : BitVec 32) : Prop :=
  (∀ (k0_h6 : k0_cond6 i v0 = 1#1), ∀ a, (k0_off1028 i v0) a + S1.size a ≤ S86016.size a) ∧
  (∀ (k0_h6 : k0_cond6 i v0 = 1#1), ∀ a, (k0_off1030 i v0) a + S1.size a ≤ S86016.size a) ∧
  (∀ (k0_h6 : k0_cond6 i v0 = 1#1), ∀ a, (k0_off1032 i v0) a + S1.size a ≤ S86016.size a) ∧
  (∀ (k0_h6 : k0_cond6 i v0 = 1#1), ∀ a, (k0_off1034 i v0) a + S1.size a ≤ S86016.size a) ∧
  (∀ (k0_h6 : k0_cond6 i v0 = 1#1), ∀ a, (k0_off1036 i v0) a + S1.size a ≤ S86016.size a) ∧
  (∀ (k0_h6 : k0_cond6 i v0 = 1#1), ∀ a, (k0_off1038 i v0) a + S1.size a ≤ S86016.size a) ∧
  (∀ (k0_h6 : k0_cond6 i v0 = 1#1), ∀ a, (k0_off1040 i v0) a + S1.size a ≤ S86016.size a) ∧
  (∀ (k0_h6 : k0_cond6 i v0 = 1#1), ∀ a, (k0_off1042 i v0) a + S1.size a ≤ S86016.size a) ∧
  (∀ (k0_h6 : k0_cond6 i v0 = 1#1), ∀ a, (k0_off1044 i v0) a + S1.size a ≤ S86016.size a) ∧
  (∀ (k0_h6 : k0_cond6 i v0 = 1#1), ∀ a, (k0_off1046 i v0) a + S1.size a ≤ S86016.size a) ∧
  (∀ (k0_h6 : k0_cond6 i v0 = 1#1), ∀ a, (k0_off1048 i v0) a + S1.size a ≤ S86016.size a) ∧
  (∀ (k0_h6 : k0_cond6 i v0 = 1#1), ∀ a, (k0_off1050 i v0) a + S1.size a ≤ S86016.size a) ∧
  (∀ (k0_h6 : k0_cond6 i v0 = 1#1), ∀ a, (k0_off1052 i v0) a + S1.size a ≤ S86016.size a) ∧
  (∀ (k0_h6 : k0_cond6 i v0 = 1#1), ∀ a, (k0_off1054 i v0) a + S1.size a ≤ S86016.size a) ∧
  (∀ (k0_h6 : k0_cond6 i v0 = 1#1), ∀ a, (k0_off1056 i v0) a + S1.size a ≤ S86016.size a) ∧
  (∀ (k0_h6 : k0_cond6 i v0 = 1#1), ∀ a, (k0_off1058 i v0) a + S1.size a ≤ S86016.size a) ∧
  (∀ (k0_h6 : k0_cond6 i v0 = 1#1), ∀ a, (k0_off1060 i v0) a + S1.size a ≤ S86016.size a) ∧
  (∀ (k0_h6 : k0_cond6 i v0 = 1#1), ∀ a, (k0_off1062 i v0) a + S1.size a ≤ S86016.size a) ∧
  (∀ (k0_h6 : k0_cond6 i v0 = 1#1), ∀ a, (k0_off1064 i v0) a + S1.size a ≤ S86016.size a) ∧
  (∀ (k0_h6 : k0_cond6 i v0 = 1#1), ∀ a, (k0_off1066 i v0) a + S1.size a ≤ S86016.size a) ∧
  (∀ (k0_h6 : k0_cond6 i v0 = 1#1), ∀ a, (k0_off1068 i v0) a + S1.size a ≤ S86016.size a) ∧
  (∀ (k0_h6 : k0_cond6 i v0 = 1#1), ∀ a, (k0_off1070 i v0) a + S1.size a ≤ S86016.size a) ∧
  (∀ (k0_h6 : k0_cond6 i v0 = 1#1), ∀ a, (k0_off1072 i v0) a + S1.size a ≤ S86016.size a) ∧
  (∀ (k0_h6 : k0_cond6 i v0 = 1#1), ∀ a, (k0_off1074 i v0) a + S1.size a ≤ S86016.size a) ∧
  (∀ (k0_h6 : k0_cond6 i v0 = 1#1), ∀ a, (k0_off1076 i v0) a + S1.size a ≤ S86016.size a) ∧
  (∀ (k0_h6 : k0_cond6 i v0 = 1#1), ∀ a, (k0_off1078 i v0) a + S1.size a ≤ S86016.size a) ∧
  (∀ (k0_h6 : k0_cond6 i v0 = 1#1), ∀ a, (k0_off1080 i v0) a + S1.size a ≤ S86016.size a) ∧
  (∀ (k0_h6 : k0_cond6 i v0 = 1#1), ∀ a, (k0_off1082 i v0) a + S1.size a ≤ S86016.size a) ∧
  (∀ (k0_h6 : k0_cond6 i v0 = 1#1), ∀ a, (k0_off1084 i v0) a + S1.size a ≤ S86016.size a) ∧
  (∀ (k0_h6 : k0_cond6 i v0 = 1#1), ∀ a, (k0_off1086 i v0) a + S1.size a ≤ S86016.size a) ∧
  (∀ (k0_h6 : k0_cond6 i v0 = 1#1), ∀ a, (k0_off1088 i v0) a + S1.size a ≤ S86016.size a) ∧
  (∀ (k0_h6 : k0_cond6 i v0 = 1#1), ∀ a, (k0_off1090 i v0) a + S1.size a ≤ S86016.size a)
def k0_chk257_13 (i : grid0.Coords) (v0 : BitVec 32) : Prop :=
  (∀ (k0_h6 : k0_cond6 i v0 = 1#1), ∀ a, (k0_off1092 i v0) a + S1.size a ≤ S86016.size a) ∧
  (∀ (k0_h6 : k0_cond6 i v0 = 1#1), ∀ a, (k0_off1094 i v0) a + S1.size a ≤ S86016.size a) ∧
  (∀ (k0_h6 : k0_cond6 i v0 = 1#1), ∀ a, (k0_off1096 i v0) a + S1.size a ≤ S86016.size a) ∧
  (∀ (k0_h6 : k0_cond6 i v0 = 1#1), ∀ a, (k0_off1098 i v0) a + S1.size a ≤ S86016.size a) ∧
  (∀ (k0_h6 : k0_cond6 i v0 = 1#1), ∀ a, (k0_off1100 i v0) a + S1.size a ≤ S86016.size a) ∧
  (∀ (k0_h6 : k0_cond6 i v0 = 1#1), ∀ a, (k0_off1102 i v0) a + S1.size a ≤ S86016.size a) ∧
  (∀ (k0_h6 : k0_cond6 i v0 = 1#1), ∀ a, (k0_off1104 i v0) a + S1.size a ≤ S86016.size a) ∧
  (∀ (k0_h6 : k0_cond6 i v0 = 1#1), ∀ a, (k0_off1106 i v0) a + S1.size a ≤ S86016.size a) ∧
  (∀ (k0_h6 : k0_cond6 i v0 = 1#1), ∀ a, (k0_off1108 i v0) a + S1.size a ≤ S86016.size a) ∧
  (∀ (k0_h6 : k0_cond6 i v0 = 1#1), ∀ a, (k0_off1110 i v0) a + S1.size a ≤ S86016.size a) ∧
  (∀ (k0_h6 : k0_cond6 i v0 = 1#1), ∀ a, (k0_off1112 i v0) a + S1.size a ≤ S86016.size a) ∧
  (∀ (k0_h6 : k0_cond6 i v0 = 1#1), ∀ a, (k0_off1114 i v0) a + S1.size a ≤ S86016.size a) ∧
  (∀ (k0_h6 : k0_cond6 i v0 = 1#1), ∀ a, (k0_off1116 i v0) a + S1.size a ≤ S86016.size a) ∧
  (∀ (k0_h6 : k0_cond6 i v0 = 1#1), ∀ a, (k0_off1118 i v0) a + S1.size a ≤ S86016.size a) ∧
  (∀ (k0_h6 : k0_cond6 i v0 = 1#1), ∀ a, (k0_off1120 i v0) a + S1.size a ≤ S86016.size a) ∧
  (∀ (k0_h6 : k0_cond6 i v0 = 1#1), ∀ a, (k0_off1122 i v0) a + S1.size a ≤ S86016.size a) ∧
  (∀ (k0_h6 : k0_cond6 i v0 = 1#1), ∀ a, (k0_off1124 i v0) a + S1.size a ≤ S86016.size a) ∧
  (∀ (k0_h6 : k0_cond6 i v0 = 1#1), ∀ a, (k0_off1126 i v0) a + S1.size a ≤ S86016.size a) ∧
  (∀ (k0_h6 : k0_cond6 i v0 = 1#1), ∀ a, (k0_off1128 i v0) a + S1.size a ≤ S86016.size a) ∧
  (∀ (k0_h6 : k0_cond6 i v0 = 1#1), ∀ a, (k0_off1130 i v0) a + S1.size a ≤ S86016.size a) ∧
  (∀ (k0_h6 : k0_cond6 i v0 = 1#1), ∀ a, (k0_off1132 i v0) a + S1.size a ≤ S86016.size a) ∧
  (∀ (k0_h6 : k0_cond6 i v0 = 1#1), ∀ a, (k0_off1134 i v0) a + S1.size a ≤ S86016.size a) ∧
  (∀ (k0_h6 : k0_cond6 i v0 = 1#1), ∀ a, (k0_off1136 i v0) a + S1.size a ≤ S86016.size a) ∧
  (∀ (k0_h6 : k0_cond6 i v0 = 1#1), ∀ a, (k0_off1138 i v0) a + S1.size a ≤ S86016.size a) ∧
  (∀ (k0_h6 : k0_cond6 i v0 = 1#1), ∀ a, (k0_off1140 i v0) a + S1.size a ≤ S86016.size a) ∧
  (∀ (k0_h6 : k0_cond6 i v0 = 1#1), ∀ a, (k0_off1142 i v0) a + S1.size a ≤ S86016.size a) ∧
  (∀ (k0_h6 : k0_cond6 i v0 = 1#1), ∀ a, (k0_off1144 i v0) a + S1.size a ≤ S86016.size a) ∧
  (∀ (k0_h6 : k0_cond6 i v0 = 1#1), ∀ a, (k0_off1146 i v0) a + S1.size a ≤ S86016.size a) ∧
  (∀ (k0_h6 : k0_cond6 i v0 = 1#1), ∀ a, (k0_off1148 i v0) a + S1.size a ≤ S86016.size a) ∧
  (∀ (k0_h6 : k0_cond6 i v0 = 1#1), ∀ a, (k0_off1150 i v0) a + S1.size a ≤ S86016.size a) ∧
  (∀ (k0_h6 : k0_cond6 i v0 = 1#1), ∀ a, (k0_off1152 i v0) a + S1.size a ≤ S86016.size a) ∧
  (∀ (k0_h6 : k0_cond6 i v0 = 1#1), ∀ a, (k0_off1154 i v0) a + S1.size a ≤ S86016.size a)
def k0_chk257_14 (i : grid0.Coords) (v0 : BitVec 32) : Prop :=
  (∀ (k0_h6 : k0_cond6 i v0 = 1#1), ∀ a, (k0_off1156 i v0) a + S1.size a ≤ S86016.size a) ∧
  (∀ (k0_h6 : k0_cond6 i v0 = 1#1), ∀ a, (k0_off1158 i v0) a + S1.size a ≤ S86016.size a) ∧
  (∀ (k0_h6 : k0_cond6 i v0 = 1#1), ∀ a, (k0_off1160 i v0) a + S1.size a ≤ S86016.size a) ∧
  (∀ (k0_h6 : k0_cond6 i v0 = 1#1), ∀ a, (k0_off1162 i v0) a + S1.size a ≤ S86016.size a) ∧
  (∀ (k0_h6 : k0_cond6 i v0 = 1#1), ∀ a, (k0_off1164 i v0) a + S1.size a ≤ S86016.size a) ∧
  (∀ (k0_h6 : k0_cond6 i v0 = 1#1), ∀ a, (k0_off1166 i v0) a + S1.size a ≤ S86016.size a) ∧
  (∀ (k0_h6 : k0_cond6 i v0 = 1#1), ∀ a, (k0_off1168 i v0) a + S1.size a ≤ S86016.size a) ∧
  (∀ (k0_h6 : k0_cond6 i v0 = 1#1), ∀ a, (k0_off1170 i v0) a + S1.size a ≤ S86016.size a) ∧
  (∀ (k0_h6 : k0_cond6 i v0 = 1#1), ∀ a, (k0_off1172 i v0) a + S1.size a ≤ S86016.size a) ∧
  (∀ (k0_h6 : k0_cond6 i v0 = 1#1), ∀ a, (k0_off1174 i v0) a + S1.size a ≤ S86016.size a) ∧
  (∀ (k0_h6 : k0_cond6 i v0 = 1#1), ∀ a, (k0_off1176 i v0) a + S1.size a ≤ S86016.size a) ∧
  (∀ (k0_h6 : k0_cond6 i v0 = 1#1), ∀ a, (k0_off1178 i v0) a + S1.size a ≤ S86016.size a) ∧
  (∀ (k0_h6 : k0_cond6 i v0 = 1#1), ∀ a, (k0_off1180 i v0) a + S1.size a ≤ S86016.size a) ∧
  (∀ (k0_h6 : k0_cond6 i v0 = 1#1), ∀ a, (k0_off1182 i v0) a + S1.size a ≤ S86016.size a) ∧
  (∀ (k0_h6 : k0_cond6 i v0 = 1#1), ∀ a, (k0_off1184 i v0) a + S1.size a ≤ S86016.size a) ∧
  (∀ (k0_h6 : k0_cond6 i v0 = 1#1), ∀ a, (k0_off1186 i v0) a + S1.size a ≤ S86016.size a) ∧
  (∀ (k0_h6 : k0_cond6 i v0 = 1#1), ∀ a, (k0_off1188 i v0) a + S1.size a ≤ S86016.size a) ∧
  (∀ (k0_h6 : k0_cond6 i v0 = 1#1), ∀ a, (k0_off1190 i v0) a + S1.size a ≤ S86016.size a) ∧
  (∀ (k0_h6 : k0_cond6 i v0 = 1#1), ∀ a, (k0_off1192 i v0) a + S1.size a ≤ S86016.size a) ∧
  (∀ (k0_h6 : k0_cond6 i v0 = 1#1), ∀ a, (k0_off1194 i v0) a + S1.size a ≤ S86016.size a) ∧
  (∀ (k0_h6 : k0_cond6 i v0 = 1#1), ∀ a, (k0_off1196 i v0) a + S1.size a ≤ S86016.size a) ∧
  (∀ (k0_h6 : k0_cond6 i v0 = 1#1), ∀ a, (k0_off1198 i v0) a + S1.size a ≤ S86016.size a) ∧
  (∀ (k0_h6 : k0_cond6 i v0 = 1#1), ∀ a, (k0_off1200 i v0) a + S1.size a ≤ S86016.size a) ∧
  (∀ (k0_h6 : k0_cond6 i v0 = 1#1), ∀ a, (k0_off1202 i v0) a + S1.size a ≤ S86016.size a) ∧
  (∀ (k0_h6 : k0_cond6 i v0 = 1#1), ∀ a, (k0_off1204 i v0) a + S1.size a ≤ S86016.size a) ∧
  (∀ (k0_h6 : k0_cond6 i v0 = 1#1), ∀ a, (k0_off1206 i v0) a + S1.size a ≤ S86016.size a) ∧
  (∀ (k0_h6 : k0_cond6 i v0 = 1#1), ∀ a, (k0_off1208 i v0) a + S1.size a ≤ S86016.size a) ∧
  (∀ (k0_h6 : k0_cond6 i v0 = 1#1), ∀ a, (k0_off1210 i v0) a + S1.size a ≤ S86016.size a) ∧
  (∀ (k0_h6 : k0_cond6 i v0 = 1#1), ∀ a, (k0_off1212 i v0) a + S1.size a ≤ S86016.size a) ∧
  (∀ (k0_h6 : k0_cond6 i v0 = 1#1), ∀ a, (k0_off1214 i v0) a + S1.size a ≤ S86016.size a) ∧
  (∀ (k0_h6 : k0_cond6 i v0 = 1#1), ∀ a, (k0_off1216 i v0) a + S1.size a ≤ S86016.size a) ∧
  (∀ (k0_h6 : k0_cond6 i v0 = 1#1), ∀ a, (k0_off1218 i v0) a + S1.size a ≤ S86016.size a)
def k0_chk257_15 (i : grid0.Coords) (v0 : BitVec 32) : Prop :=
  (∀ (k0_h6 : k0_cond6 i v0 = 1#1), ∀ a, (k0_off1220 i v0) a + S1.size a ≤ S86016.size a) ∧
  (∀ (k0_h6 : k0_cond6 i v0 = 1#1), ∀ a, (k0_off1222 i v0) a + S1.size a ≤ S86016.size a) ∧
  (∀ (k0_h6 : k0_cond6 i v0 = 1#1), ∀ a, (k0_off1224 i v0) a + S1.size a ≤ S86016.size a) ∧
  (∀ (k0_h6 : k0_cond6 i v0 = 1#1), ∀ a, (k0_off1226 i v0) a + S1.size a ≤ S86016.size a) ∧
  (∀ (k0_h6 : k0_cond6 i v0 = 1#1), ∀ a, (k0_off1228 i v0) a + S1.size a ≤ S86016.size a) ∧
  (∀ (k0_h6 : k0_cond6 i v0 = 1#1), ∀ a, (k0_off1230 i v0) a + S1.size a ≤ S86016.size a) ∧
  (∀ (k0_h6 : k0_cond6 i v0 = 1#1), ∀ a, (k0_off1232 i v0) a + S1.size a ≤ S86016.size a) ∧
  (∀ (k0_h6 : k0_cond6 i v0 = 1#1), ∀ a, (k0_off1234 i v0) a + S1.size a ≤ S86016.size a) ∧
  (∀ (k0_h6 : k0_cond6 i v0 = 1#1), ∀ a, (k0_off1236 i v0) a + S1.size a ≤ S86016.size a) ∧
  (∀ (k0_h6 : k0_cond6 i v0 = 1#1), ∀ a, (k0_off1238 i v0) a + S1.size a ≤ S86016.size a) ∧
  (∀ (k0_h6 : k0_cond6 i v0 = 1#1), ∀ a, (k0_off1240 i v0) a + S1.size a ≤ S86016.size a) ∧
  (∀ (k0_h6 : k0_cond6 i v0 = 1#1), ∀ a, (k0_off1242 i v0) a + S1.size a ≤ S86016.size a) ∧
  (∀ (k0_h6 : k0_cond6 i v0 = 1#1), ∀ a, (k0_off1244 i v0) a + S1.size a ≤ S86016.size a) ∧
  (∀ (k0_h6 : k0_cond6 i v0 = 1#1), ∀ a, (k0_off1246 i v0) a + S1.size a ≤ S86016.size a) ∧
  (∀ (k0_h6 : k0_cond6 i v0 = 1#1), ∀ a, (k0_off1248 i v0) a + S1.size a ≤ S86016.size a) ∧
  (∀ (k0_h6 : k0_cond6 i v0 = 1#1), ∀ a, (k0_off1250 i v0) a + S1.size a ≤ S86016.size a) ∧
  (∀ (k0_h6 : k0_cond6 i v0 = 1#1), ∀ a, (k0_off1252 i v0) a + S1.size a ≤ S86016.size a) ∧
  (∀ (k0_h6 : k0_cond6 i v0 = 1#1), ∀ a, (k0_off1254 i v0) a + S1.size a ≤ S86016.size a) ∧
  (∀ (k0_h6 : k0_cond6 i v0 = 1#1), ∀ a, (k0_off1256 i v0) a + S1.size a ≤ S86016.size a) ∧
  (∀ (k0_h6 : k0_cond6 i v0 = 1#1), ∀ a, (k0_off1258 i v0) a + S1.size a ≤ S86016.size a) ∧
  (∀ (k0_h6 : k0_cond6 i v0 = 1#1), ∀ a, (k0_off1260 i v0) a + S1.size a ≤ S86016.size a) ∧
  (∀ (k0_h6 : k0_cond6 i v0 = 1#1), ∀ a, (k0_off1262 i v0) a + S1.size a ≤ S86016.size a) ∧
  (∀ (k0_h6 : k0_cond6 i v0 = 1#1), ∀ a, (k0_off1264 i v0) a + S1.size a ≤ S86016.size a) ∧
  (∀ (k0_h6 : k0_cond6 i v0 = 1#1), ∀ a, (k0_off1266 i v0) a + S1.size a ≤ S86016.size a) ∧
  (∀ (k0_h6 : k0_cond6 i v0 = 1#1), ∀ a, (k0_off1268 i v0) a + S1.size a ≤ S86016.size a) ∧
  (∀ (k0_h6 : k0_cond6 i v0 = 1#1), ∀ a, (k0_off1270 i v0) a + S1.size a ≤ S86016.size a) ∧
  (∀ (k0_h6 : k0_cond6 i v0 = 1#1), ∀ a, (k0_off1272 i v0) a + S1.size a ≤ S86016.size a) ∧
  (∀ (k0_h6 : k0_cond6 i v0 = 1#1), ∀ a, (k0_off1274 i v0) a + S1.size a ≤ S86016.size a) ∧
  (∀ (k0_h6 : k0_cond6 i v0 = 1#1), ∀ a, (k0_off1276 i v0) a + S1.size a ≤ S86016.size a) ∧
  (∀ (k0_h6 : k0_cond6 i v0 = 1#1), ∀ a, (k0_off1278 i v0) a + S1.size a ≤ S86016.size a) ∧
  (∀ (k0_h6 : k0_cond6 i v0 = 1#1), ∀ a, (k0_off1280 i v0) a + S1.size a ≤ S86016.size a) ∧
  (∀ (k0_h6 : k0_cond6 i v0 = 1#1), ∀ a, (k0_off1282 i v0) a + S1.size a ≤ S86016.size a)
def k0_chk257 (i : grid0.Coords) (v0 : BitVec 32) : Prop :=
  k0_chk257_0 i v0 ∧
  k0_chk257_1 i v0 ∧
  k0_chk257_2 i v0 ∧
  k0_chk257_3 i v0 ∧
  k0_chk257_4 i v0 ∧
  k0_chk257_5 i v0 ∧
  k0_chk257_6 i v0 ∧
  k0_chk257_7 i v0 ∧
  k0_chk257_8 i v0 ∧
  k0_chk257_9 i v0 ∧
  k0_chk257_10 i v0 ∧
  k0_chk257_11 i v0 ∧
  k0_chk257_12 i v0 ∧
  k0_chk257_13 i v0 ∧
  k0_chk257_14 i v0 ∧
  k0_chk257_15 i v0
theorem k0_off260_inb : ∀ (i : grid0.Coords) (v0 : BitVec 32) (k0_hw257 : k0_chk257 i v0), ∀ (k0_h4 : k0_cond4 i v0 = 1#1), ∀ a, (k0_off260 i v0) a + S1.size a ≤ S86016.size a := fun i v0 k0_hw257 k0_h4 => k0_hw257.1.1 k0_h4
theorem k0_off262_inb : ∀ (i : grid0.Coords) (v0 : BitVec 32) (k0_hw257 : k0_chk257 i v0), ∀ (k0_h4 : k0_cond4 i v0 = 1#1), ∀ a, (k0_off262 i v0) a + S1.size a ≤ S86016.size a := fun i v0 k0_hw257 k0_h4 => k0_hw257.1.2.1 k0_h4
theorem k0_off264_inb : ∀ (i : grid0.Coords) (v0 : BitVec 32) (k0_hw257 : k0_chk257 i v0), ∀ (k0_h4 : k0_cond4 i v0 = 1#1), ∀ a, (k0_off264 i v0) a + S1.size a ≤ S86016.size a := fun i v0 k0_hw257 k0_h4 => k0_hw257.1.2.2.1 k0_h4
theorem k0_off266_inb : ∀ (i : grid0.Coords) (v0 : BitVec 32) (k0_hw257 : k0_chk257 i v0), ∀ (k0_h4 : k0_cond4 i v0 = 1#1), ∀ a, (k0_off266 i v0) a + S1.size a ≤ S86016.size a := fun i v0 k0_hw257 k0_h4 => k0_hw257.1.2.2.2.1 k0_h4
theorem k0_off268_inb : ∀ (i : grid0.Coords) (v0 : BitVec 32) (k0_hw257 : k0_chk257 i v0), ∀ (k0_h4 : k0_cond4 i v0 = 1#1), ∀ a, (k0_off268 i v0) a + S1.size a ≤ S86016.size a := fun i v0 k0_hw257 k0_h4 => k0_hw257.1.2.2.2.2.1 k0_h4
theorem k0_off270_inb : ∀ (i : grid0.Coords) (v0 : BitVec 32) (k0_hw257 : k0_chk257 i v0), ∀ (k0_h4 : k0_cond4 i v0 = 1#1), ∀ a, (k0_off270 i v0) a + S1.size a ≤ S86016.size a := fun i v0 k0_hw257 k0_h4 => k0_hw257.1.2.2.2.2.2.1 k0_h4
theorem k0_off272_inb : ∀ (i : grid0.Coords) (v0 : BitVec 32) (k0_hw257 : k0_chk257 i v0), ∀ (k0_h4 : k0_cond4 i v0 = 1#1), ∀ a, (k0_off272 i v0) a + S1.size a ≤ S86016.size a := fun i v0 k0_hw257 k0_h4 => k0_hw257.1.2.2.2.2.2.2.1 k0_h4
theorem k0_off274_inb : ∀ (i : grid0.Coords) (v0 : BitVec 32) (k0_hw257 : k0_chk257 i v0), ∀ (k0_h4 : k0_cond4 i v0 = 1#1), ∀ a, (k0_off274 i v0) a + S1.size a ≤ S86016.size a := fun i v0 k0_hw257 k0_h4 => k0_hw257.1.2.2.2.2.2.2.2.1 k0_h4
theorem k0_off276_inb : ∀ (i : grid0.Coords) (v0 : BitVec 32) (k0_hw257 : k0_chk257 i v0), ∀ (k0_h4 : k0_cond4 i v0 = 1#1), ∀ a, (k0_off276 i v0) a + S1.size a ≤ S86016.size a := fun i v0 k0_hw257 k0_h4 => k0_hw257.1.2.2.2.2.2.2.2.2.1 k0_h4
theorem k0_off278_inb : ∀ (i : grid0.Coords) (v0 : BitVec 32) (k0_hw257 : k0_chk257 i v0), ∀ (k0_h4 : k0_cond4 i v0 = 1#1), ∀ a, (k0_off278 i v0) a + S1.size a ≤ S86016.size a := fun i v0 k0_hw257 k0_h4 => k0_hw257.1.2.2.2.2.2.2.2.2.2.1 k0_h4
theorem k0_off280_inb : ∀ (i : grid0.Coords) (v0 : BitVec 32) (k0_hw257 : k0_chk257 i v0), ∀ (k0_h4 : k0_cond4 i v0 = 1#1), ∀ a, (k0_off280 i v0) a + S1.size a ≤ S86016.size a := fun i v0 k0_hw257 k0_h4 => k0_hw257.1.2.2.2.2.2.2.2.2.2.2.1 k0_h4
theorem k0_off282_inb : ∀ (i : grid0.Coords) (v0 : BitVec 32) (k0_hw257 : k0_chk257 i v0), ∀ (k0_h4 : k0_cond4 i v0 = 1#1), ∀ a, (k0_off282 i v0) a + S1.size a ≤ S86016.size a := fun i v0 k0_hw257 k0_h4 => k0_hw257.1.2.2.2.2.2.2.2.2.2.2.2.1 k0_h4
theorem k0_off284_inb : ∀ (i : grid0.Coords) (v0 : BitVec 32) (k0_hw257 : k0_chk257 i v0), ∀ (k0_h4 : k0_cond4 i v0 = 1#1), ∀ a, (k0_off284 i v0) a + S1.size a ≤ S86016.size a := fun i v0 k0_hw257 k0_h4 => k0_hw257.1.2.2.2.2.2.2.2.2.2.2.2.2.1 k0_h4
theorem k0_off286_inb : ∀ (i : grid0.Coords) (v0 : BitVec 32) (k0_hw257 : k0_chk257 i v0), ∀ (k0_h4 : k0_cond4 i v0 = 1#1), ∀ a, (k0_off286 i v0) a + S1.size a ≤ S86016.size a := fun i v0 k0_hw257 k0_h4 => k0_hw257.1.2.2.2.2.2.2.2.2.2.2.2.2.2.1 k0_h4
theorem k0_off288_inb : ∀ (i : grid0.Coords) (v0 : BitVec 32) (k0_hw257 : k0_chk257 i v0), ∀ (k0_h4 : k0_cond4 i v0 = 1#1), ∀ a, (k0_off288 i v0) a + S1.size a ≤ S86016.size a := fun i v0 k0_hw257 k0_h4 => k0_hw257.1.2.2.2.2.2.2.2.2.2.2.2.2.2.2.1 k0_h4
theorem k0_off290_inb : ∀ (i : grid0.Coords) (v0 : BitVec 32) (k0_hw257 : k0_chk257 i v0), ∀ (k0_h4 : k0_cond4 i v0 = 1#1), ∀ a, (k0_off290 i v0) a + S1.size a ≤ S86016.size a := fun i v0 k0_hw257 k0_h4 => k0_hw257.1.2.2.2.2.2.2.2.2.2.2.2.2.2.2.2.1 k0_h4
theorem k0_off292_inb : ∀ (i : grid0.Coords) (v0 : BitVec 32) (k0_hw257 : k0_chk257 i v0), ∀ (k0_h4 : k0_cond4 i v0 = 1#1), ∀ a, (k0_off292 i v0) a + S1.size a ≤ S86016.size a := fun i v0 k0_hw257 k0_h4 => k0_hw257.1.2.2.2.2.2.2.2.2.2.2.2.2.2.2.2.2.1 k0_h4
theorem k0_off294_inb : ∀ (i : grid0.Coords) (v0 : BitVec 32) (k0_hw257 : k0_chk257 i v0), ∀ (k0_h4 : k0_cond4 i v0 = 1#1), ∀ a, (k0_off294 i v0) a + S1.size a ≤ S86016.size a := fun i v0 k0_hw257 k0_h4 => k0_hw257.1.2.2.2.2.2.2.2.2.2.2.2.2.2.2.2.2.2.1 k0_h4
theorem k0_off296_inb : ∀ (i : grid0.Coords) (v0 : BitVec 32) (k0_hw257 : k0_chk257 i v0), ∀ (k0_h4 : k0_cond4 i v0 = 1#1), ∀ a, (k0_off296 i v0) a + S1.size a ≤ S86016.size a := fun i v0 k0_hw257 k0_h4 => k0_hw257.1.2.2.2.2.2.2.2.2.2.2.2.2.2.2.2.2.2.2.1 k0_h4
theorem k0_off298_inb : ∀ (i : grid0.Coords) (v0 : BitVec 32) (k0_hw257 : k0_chk257 i v0), ∀ (k0_h4 : k0_cond4 i v0 = 1#1), ∀ a, (k0_off298 i v0) a + S1.size a ≤ S86016.size a := fun i v0 k0_hw257 k0_h4 => k0_hw257.1.2.2.2.2.2.2.2.2.2.2.2.2.2.2.2.2.2.2.2.1 k0_h4
theorem k0_off300_inb : ∀ (i : grid0.Coords) (v0 : BitVec 32) (k0_hw257 : k0_chk257 i v0), ∀ (k0_h4 : k0_cond4 i v0 = 1#1), ∀ a, (k0_off300 i v0) a + S1.size a ≤ S86016.size a := fun i v0 k0_hw257 k0_h4 => k0_hw257.1.2.2.2.2.2.2.2.2.2.2.2.2.2.2.2.2.2.2.2.2.1 k0_h4
theorem k0_off302_inb : ∀ (i : grid0.Coords) (v0 : BitVec 32) (k0_hw257 : k0_chk257 i v0), ∀ (k0_h4 : k0_cond4 i v0 = 1#1), ∀ a, (k0_off302 i v0) a + S1.size a ≤ S86016.size a := fun i v0 k0_hw257 k0_h4 => k0_hw257.1.2.2.2.2.2.2.2.2.2.2.2.2.2.2.2.2.2.2.2.2.2.1 k0_h4
theorem k0_off304_inb : ∀ (i : grid0.Coords) (v0 : BitVec 32) (k0_hw257 : k0_chk257 i v0), ∀ (k0_h4 : k0_cond4 i v0 = 1#1), ∀ a, (k0_off304 i v0) a + S1.size a ≤ S86016.size a := fun i v0 k0_hw257 k0_h4 => k0_hw257.1.2.2.2.2.2.2.2.2.2.2.2.2.2.2.2.2.2.2.2.2.2.2.1 k0_h4
theorem k0_off306_inb : ∀ (i : grid0.Coords) (v0 : BitVec 32) (k0_hw257 : k0_chk257 i v0), ∀ (k0_h4 : k0_cond4 i v0 = 1#1), ∀ a, (k0_off306 i v0) a + S1.size a ≤ S86016.size a := fun i v0 k0_hw257 k0_h4 => k0_hw257.1.2.2.2.2.2.2.2.2.2.2.2.2.2.2.2.2.2.2.2.2.2.2.2.1 k0_h4
theorem k0_off308_inb : ∀ (i : grid0.Coords) (v0 : BitVec 32) (k0_hw257 : k0_chk257 i v0), ∀ (k0_h4 : k0_cond4 i v0 = 1#1), ∀ a, (k0_off308 i v0) a + S1.size a ≤ S86016.size a := fun i v0 k0_hw257 k0_h4 => k0_hw257.1.2.2.2.2.2.2.2.2.2.2.2.2.2.2.2.2.2.2.2.2.2.2.2.2.1 k0_h4
theorem k0_off310_inb : ∀ (i : grid0.Coords) (v0 : BitVec 32) (k0_hw257 : k0_chk257 i v0), ∀ (k0_h4 : k0_cond4 i v0 = 1#1), ∀ a, (k0_off310 i v0) a + S1.size a ≤ S86016.size a := fun i v0 k0_hw257 k0_h4 => k0_hw257.1.2.2.2.2.2.2.2.2.2.2.2.2.2.2.2.2.2.2.2.2.2.2.2.2.2.1 k0_h4
theorem k0_off312_inb : ∀ (i : grid0.Coords) (v0 : BitVec 32) (k0_hw257 : k0_chk257 i v0), ∀ (k0_h4 : k0_cond4 i v0 = 1#1), ∀ a, (k0_off312 i v0) a + S1.size a ≤ S86016.size a := fun i v0 k0_hw257 k0_h4 => k0_hw257.1.2.2.2.2.2.2.2.2.2.2.2.2.2.2.2.2.2.2.2.2.2.2.2.2.2.2.1 k0_h4
theorem k0_off314_inb : ∀ (i : grid0.Coords) (v0 : BitVec 32) (k0_hw257 : k0_chk257 i v0), ∀ (k0_h4 : k0_cond4 i v0 = 1#1), ∀ a, (k0_off314 i v0) a + S1.size a ≤ S86016.size a := fun i v0 k0_hw257 k0_h4 => k0_hw257.1.2.2.2.2.2.2.2.2.2.2.2.2.2.2.2.2.2.2.2.2.2.2.2.2.2.2.2.1 k0_h4
theorem k0_off316_inb : ∀ (i : grid0.Coords) (v0 : BitVec 32) (k0_hw257 : k0_chk257 i v0), ∀ (k0_h4 : k0_cond4 i v0 = 1#1), ∀ a, (k0_off316 i v0) a + S1.size a ≤ S86016.size a := fun i v0 k0_hw257 k0_h4 => k0_hw257.1.2.2.2.2.2.2.2.2.2.2.2.2.2.2.2.2.2.2.2.2.2.2.2.2.2.2.2.2.1 k0_h4
theorem k0_off318_inb : ∀ (i : grid0.Coords) (v0 : BitVec 32) (k0_hw257 : k0_chk257 i v0), ∀ (k0_h4 : k0_cond4 i v0 = 1#1), ∀ a, (k0_off318 i v0) a + S1.size a ≤ S86016.size a := fun i v0 k0_hw257 k0_h4 => k0_hw257.1.2.2.2.2.2.2.2.2.2.2.2.2.2.2.2.2.2.2.2.2.2.2.2.2.2.2.2.2.2.1 k0_h4
theorem k0_off320_inb : ∀ (i : grid0.Coords) (v0 : BitVec 32) (k0_hw257 : k0_chk257 i v0), ∀ (k0_h4 : k0_cond4 i v0 = 1#1), ∀ a, (k0_off320 i v0) a + S1.size a ≤ S86016.size a := fun i v0 k0_hw257 k0_h4 => k0_hw257.1.2.2.2.2.2.2.2.2.2.2.2.2.2.2.2.2.2.2.2.2.2.2.2.2.2.2.2.2.2.2.1 k0_h4
theorem k0_off322_inb : ∀ (i : grid0.Coords) (v0 : BitVec 32) (k0_hw257 : k0_chk257 i v0), ∀ (k0_h4 : k0_cond4 i v0 = 1#1), ∀ a, (k0_off322 i v0) a + S1.size a ≤ S86016.size a := fun i v0 k0_hw257 k0_h4 => k0_hw257.1.2.2.2.2.2.2.2.2.2.2.2.2.2.2.2.2.2.2.2.2.2.2.2.2.2.2.2.2.2.2.2 k0_h4
theorem k0_off324_inb : ∀ (i : grid0.Coords) (v0 : BitVec 32) (k0_hw257 : k0_chk257 i v0), ∀ (k0_h4 : k0_cond4 i v0 = 1#1), ∀ a, (k0_off324 i v0) a + S1.size a ≤ S86016.size a := fun i v0 k0_hw257 k0_h4 => k0_hw257.2.1.1 k0_h4
theorem k0_off326_inb : ∀ (i : grid0.Coords) (v0 : BitVec 32) (k0_hw257 : k0_chk257 i v0), ∀ (k0_h4 : k0_cond4 i v0 = 1#1), ∀ a, (k0_off326 i v0) a + S1.size a ≤ S86016.size a := fun i v0 k0_hw257 k0_h4 => k0_hw257.2.1.2.1 k0_h4
theorem k0_off328_inb : ∀ (i : grid0.Coords) (v0 : BitVec 32) (k0_hw257 : k0_chk257 i v0), ∀ (k0_h4 : k0_cond4 i v0 = 1#1), ∀ a, (k0_off328 i v0) a + S1.size a ≤ S86016.size a := fun i v0 k0_hw257 k0_h4 => k0_hw257.2.1.2.2.1 k0_h4
theorem k0_off330_inb : ∀ (i : grid0.Coords) (v0 : BitVec 32) (k0_hw257 : k0_chk257 i v0), ∀ (k0_h4 : k0_cond4 i v0 = 1#1), ∀ a, (k0_off330 i v0) a + S1.size a ≤ S86016.size a := fun i v0 k0_hw257 k0_h4 => k0_hw257.2.1.2.2.2.1 k0_h4
theorem k0_off332_inb : ∀ (i : grid0.Coords) (v0 : BitVec 32) (k0_hw257 : k0_chk257 i v0), ∀ (k0_h4 : k0_cond4 i v0 = 1#1), ∀ a, (k0_off332 i v0) a + S1.size a ≤ S86016.size a := fun i v0 k0_hw257 k0_h4 => k0_hw257.2.1.2.2.2.2.1 k0_h4
theorem k0_off334_inb : ∀ (i : grid0.Coords) (v0 : BitVec 32) (k0_hw257 : k0_chk257 i v0), ∀ (k0_h4 : k0_cond4 i v0 = 1#1), ∀ a, (k0_off334 i v0) a + S1.size a ≤ S86016.size a := fun i v0 k0_hw257 k0_h4 => k0_hw257.2.1.2.2.2.2.2.1 k0_h4
theorem k0_off336_inb : ∀ (i : grid0.Coords) (v0 : BitVec 32) (k0_hw257 : k0_chk257 i v0), ∀ (k0_h4 : k0_cond4 i v0 = 1#1), ∀ a, (k0_off336 i v0) a + S1.size a ≤ S86016.size a := fun i v0 k0_hw257 k0_h4 => k0_hw257.2.1.2.2.2.2.2.2.1 k0_h4
theorem k0_off338_inb : ∀ (i : grid0.Coords) (v0 : BitVec 32) (k0_hw257 : k0_chk257 i v0), ∀ (k0_h4 : k0_cond4 i v0 = 1#1), ∀ a, (k0_off338 i v0) a + S1.size a ≤ S86016.size a := fun i v0 k0_hw257 k0_h4 => k0_hw257.2.1.2.2.2.2.2.2.2.1 k0_h4
theorem k0_off340_inb : ∀ (i : grid0.Coords) (v0 : BitVec 32) (k0_hw257 : k0_chk257 i v0), ∀ (k0_h4 : k0_cond4 i v0 = 1#1), ∀ a, (k0_off340 i v0) a + S1.size a ≤ S86016.size a := fun i v0 k0_hw257 k0_h4 => k0_hw257.2.1.2.2.2.2.2.2.2.2.1 k0_h4
theorem k0_off342_inb : ∀ (i : grid0.Coords) (v0 : BitVec 32) (k0_hw257 : k0_chk257 i v0), ∀ (k0_h4 : k0_cond4 i v0 = 1#1), ∀ a, (k0_off342 i v0) a + S1.size a ≤ S86016.size a := fun i v0 k0_hw257 k0_h4 => k0_hw257.2.1.2.2.2.2.2.2.2.2.2.1 k0_h4
theorem k0_off344_inb : ∀ (i : grid0.Coords) (v0 : BitVec 32) (k0_hw257 : k0_chk257 i v0), ∀ (k0_h4 : k0_cond4 i v0 = 1#1), ∀ a, (k0_off344 i v0) a + S1.size a ≤ S86016.size a := fun i v0 k0_hw257 k0_h4 => k0_hw257.2.1.2.2.2.2.2.2.2.2.2.2.1 k0_h4
theorem k0_off346_inb : ∀ (i : grid0.Coords) (v0 : BitVec 32) (k0_hw257 : k0_chk257 i v0), ∀ (k0_h4 : k0_cond4 i v0 = 1#1), ∀ a, (k0_off346 i v0) a + S1.size a ≤ S86016.size a := fun i v0 k0_hw257 k0_h4 => k0_hw257.2.1.2.2.2.2.2.2.2.2.2.2.2.1 k0_h4
theorem k0_off348_inb : ∀ (i : grid0.Coords) (v0 : BitVec 32) (k0_hw257 : k0_chk257 i v0), ∀ (k0_h4 : k0_cond4 i v0 = 1#1), ∀ a, (k0_off348 i v0) a + S1.size a ≤ S86016.size a := fun i v0 k0_hw257 k0_h4 => k0_hw257.2.1.2.2.2.2.2.2.2.2.2.2.2.2.1 k0_h4
theorem k0_off350_inb : ∀ (i : grid0.Coords) (v0 : BitVec 32) (k0_hw257 : k0_chk257 i v0), ∀ (k0_h4 : k0_cond4 i v0 = 1#1), ∀ a, (k0_off350 i v0) a + S1.size a ≤ S86016.size a := fun i v0 k0_hw257 k0_h4 => k0_hw257.2.1.2.2.2.2.2.2.2.2.2.2.2.2.2.1 k0_h4
theorem k0_off352_inb : ∀ (i : grid0.Coords) (v0 : BitVec 32) (k0_hw257 : k0_chk257 i v0), ∀ (k0_h4 : k0_cond4 i v0 = 1#1), ∀ a, (k0_off352 i v0) a + S1.size a ≤ S86016.size a := fun i v0 k0_hw257 k0_h4 => k0_hw257.2.1.2.2.2.2.2.2.2.2.2.2.2.2.2.2.1 k0_h4
theorem k0_off354_inb : ∀ (i : grid0.Coords) (v0 : BitVec 32) (k0_hw257 : k0_chk257 i v0), ∀ (k0_h4 : k0_cond4 i v0 = 1#1), ∀ a, (k0_off354 i v0) a + S1.size a ≤ S86016.size a := fun i v0 k0_hw257 k0_h4 => k0_hw257.2.1.2.2.2.2.2.2.2.2.2.2.2.2.2.2.2.1 k0_h4
theorem k0_off356_inb : ∀ (i : grid0.Coords) (v0 : BitVec 32) (k0_hw257 : k0_chk257 i v0), ∀ (k0_h4 : k0_cond4 i v0 = 1#1), ∀ a, (k0_off356 i v0) a + S1.size a ≤ S86016.size a := fun i v0 k0_hw257 k0_h4 => k0_hw257.2.1.2.2.2.2.2.2.2.2.2.2.2.2.2.2.2.2.1 k0_h4
theorem k0_off358_inb : ∀ (i : grid0.Coords) (v0 : BitVec 32) (k0_hw257 : k0_chk257 i v0), ∀ (k0_h4 : k0_cond4 i v0 = 1#1), ∀ a, (k0_off358 i v0) a + S1.size a ≤ S86016.size a := fun i v0 k0_hw257 k0_h4 => k0_hw257.2.1.2.2.2.2.2.2.2.2.2.2.2.2.2.2.2.2.2.1 k0_h4
theorem k0_off360_inb : ∀ (i : grid0.Coords) (v0 : BitVec 32) (k0_hw257 : k0_chk257 i v0), ∀ (k0_h4 : k0_cond4 i v0 = 1#1), ∀ a, (k0_off360 i v0) a + S1.size a ≤ S86016.size a := fun i v0 k0_hw257 k0_h4 => k0_hw257.2.1.2.2.2.2.2.2.2.2.2.2.2.2.2.2.2.2.2.2.1 k0_h4
theorem k0_off362_inb : ∀ (i : grid0.Coords) (v0 : BitVec 32) (k0_hw257 : k0_chk257 i v0), ∀ (k0_h4 : k0_cond4 i v0 = 1#1), ∀ a, (k0_off362 i v0) a + S1.size a ≤ S86016.size a := fun i v0 k0_hw257 k0_h4 => k0_hw257.2.1.2.2.2.2.2.2.2.2.2.2.2.2.2.2.2.2.2.2.2.1 k0_h4
theorem k0_off364_inb : ∀ (i : grid0.Coords) (v0 : BitVec 32) (k0_hw257 : k0_chk257 i v0), ∀ (k0_h4 : k0_cond4 i v0 = 1#1), ∀ a, (k0_off364 i v0) a + S1.size a ≤ S86016.size a := fun i v0 k0_hw257 k0_h4 => k0_hw257.2.1.2.2.2.2.2.2.2.2.2.2.2.2.2.2.2.2.2.2.2.2.1 k0_h4
theorem k0_off366_inb : ∀ (i : grid0.Coords) (v0 : BitVec 32) (k0_hw257 : k0_chk257 i v0), ∀ (k0_h4 : k0_cond4 i v0 = 1#1), ∀ a, (k0_off366 i v0) a + S1.size a ≤ S86016.size a := fun i v0 k0_hw257 k0_h4 => k0_hw257.2.1.2.2.2.2.2.2.2.2.2.2.2.2.2.2.2.2.2.2.2.2.2.1 k0_h4
theorem k0_off368_inb : ∀ (i : grid0.Coords) (v0 : BitVec 32) (k0_hw257 : k0_chk257 i v0), ∀ (k0_h4 : k0_cond4 i v0 = 1#1), ∀ a, (k0_off368 i v0) a + S1.size a ≤ S86016.size a := fun i v0 k0_hw257 k0_h4 => k0_hw257.2.1.2.2.2.2.2.2.2.2.2.2.2.2.2.2.2.2.2.2.2.2.2.2.1 k0_h4
theorem k0_off370_inb : ∀ (i : grid0.Coords) (v0 : BitVec 32) (k0_hw257 : k0_chk257 i v0), ∀ (k0_h4 : k0_cond4 i v0 = 1#1), ∀ a, (k0_off370 i v0) a + S1.size a ≤ S86016.size a := fun i v0 k0_hw257 k0_h4 => k0_hw257.2.1.2.2.2.2.2.2.2.2.2.2.2.2.2.2.2.2.2.2.2.2.2.2.2.1 k0_h4
theorem k0_off372_inb : ∀ (i : grid0.Coords) (v0 : BitVec 32) (k0_hw257 : k0_chk257 i v0), ∀ (k0_h4 : k0_cond4 i v0 = 1#1), ∀ a, (k0_off372 i v0) a + S1.size a ≤ S86016.size a := fun i v0 k0_hw257 k0_h4 => k0_hw257.2.1.2.2.2.2.2.2.2.2.2.2.2.2.2.2.2.2.2.2.2.2.2.2.2.2.1 k0_h4
theorem k0_off374_inb : ∀ (i : grid0.Coords) (v0 : BitVec 32) (k0_hw257 : k0_chk257 i v0), ∀ (k0_h4 : k0_cond4 i v0 = 1#1), ∀ a, (k0_off374 i v0) a + S1.size a ≤ S86016.size a := fun i v0 k0_hw257 k0_h4 => k0_hw257.2.1.2.2.2.2.2.2.2.2.2.2.2.2.2.2.2.2.2.2.2.2.2.2.2.2.2.1 k0_h4
theorem k0_off376_inb : ∀ (i : grid0.Coords) (v0 : BitVec 32) (k0_hw257 : k0_chk257 i v0), ∀ (k0_h4 : k0_cond4 i v0 = 1#1), ∀ a, (k0_off376 i v0) a + S1.size a ≤ S86016.size a := fun i v0 k0_hw257 k0_h4 => k0_hw257.2.1.2.2.2.2.2.2.2.2.2.2.2.2.2.2.2.2.2.2.2.2.2.2.2.2.2.2.1 k0_h4
theorem k0_off378_inb : ∀ (i : grid0.Coords) (v0 : BitVec 32) (k0_hw257 : k0_chk257 i v0), ∀ (k0_h4 : k0_cond4 i v0 = 1#1), ∀ a, (k0_off378 i v0) a + S1.size a ≤ S86016.size a := fun i v0 k0_hw257 k0_h4 => k0_hw257.2.1.2.2.2.2.2.2.2.2.2.2.2.2.2.2.2.2.2.2.2.2.2.2.2.2.2.2.2.1 k0_h4
theorem k0_off380_inb : ∀ (i : grid0.Coords) (v0 : BitVec 32) (k0_hw257 : k0_chk257 i v0), ∀ (k0_h4 : k0_cond4 i v0 = 1#1), ∀ a, (k0_off380 i v0) a + S1.size a ≤ S86016.size a := fun i v0 k0_hw257 k0_h4 => k0_hw257.2.1.2.2.2.2.2.2.2.2.2.2.2.2.2.2.2.2.2.2.2.2.2.2.2.2.2.2.2.2.1 k0_h4
theorem k0_off382_inb : ∀ (i : grid0.Coords) (v0 : BitVec 32) (k0_hw257 : k0_chk257 i v0), ∀ (k0_h4 : k0_cond4 i v0 = 1#1), ∀ a, (k0_off382 i v0) a + S1.size a ≤ S86016.size a := fun i v0 k0_hw257 k0_h4 => k0_hw257.2.1.2.2.2.2.2.2.2.2.2.2.2.2.2.2.2.2.2.2.2.2.2.2.2.2.2.2.2.2.2.1 k0_h4
theorem k0_off384_inb : ∀ (i : grid0.Coords) (v0 : BitVec 32) (k0_hw257 : k0_chk257 i v0), ∀ (k0_h4 : k0_cond4 i v0 = 1#1), ∀ a, (k0_off384 i v0) a + S1.size a ≤ S86016.size a := fun i v0 k0_hw257 k0_h4 => k0_hw257.2.1.2.2.2.2.2.2.2.2.2.2.2.2.2.2.2.2.2.2.2.2.2.2.2.2.2.2.2.2.2.2.1 k0_h4
theorem k0_off386_inb : ∀ (i : grid0.Coords) (v0 : BitVec 32) (k0_hw257 : k0_chk257 i v0), ∀ (k0_h4 : k0_cond4 i v0 = 1#1), ∀ a, (k0_off386 i v0) a + S1.size a ≤ S86016.size a := fun i v0 k0_hw257 k0_h4 => k0_hw257.2.1.2.2.2.2.2.2.2.2.2.2.2.2.2.2.2.2.2.2.2.2.2.2.2.2.2.2.2.2.2.2.2 k0_h4
theorem k0_off388_inb : ∀ (i : grid0.Coords) (v0 : BitVec 32) (k0_hw257 : k0_chk257 i v0), ∀ (k0_h4 : k0_cond4 i v0 = 1#1), ∀ a, (k0_off388 i v0) a + S1.size a ≤ S86016.size a := fun i v0 k0_hw257 k0_h4 => k0_hw257.2.2.1.1 k0_h4
theorem k0_off390_inb : ∀ (i : grid0.Coords) (v0 : BitVec 32) (k0_hw257 : k0_chk257 i v0), ∀ (k0_h4 : k0_cond4 i v0 = 1#1), ∀ a, (k0_off390 i v0) a + S1.size a ≤ S86016.size a := fun i v0 k0_hw257 k0_h4 => k0_hw257.2.2.1.2.1 k0_h4
theorem k0_off392_inb : ∀ (i : grid0.Coords) (v0 : BitVec 32) (k0_hw257 : k0_chk257 i v0), ∀ (k0_h4 : k0_cond4 i v0 = 1#1), ∀ a, (k0_off392 i v0) a + S1.size a ≤ S86016.size a := fun i v0 k0_hw257 k0_h4 => k0_hw257.2.2.1.2.2.1 k0_h4
theorem k0_off394_inb : ∀ (i : grid0.Coords) (v0 : BitVec 32) (k0_hw257 : k0_chk257 i v0), ∀ (k0_h4 : k0_cond4 i v0 = 1#1), ∀ a, (k0_off394 i v0) a + S1.size a ≤ S86016.size a := fun i v0 k0_hw257 k0_h4 => k0_hw257.2.2.1.2.2.2.1 k0_h4
theorem k0_off396_inb : ∀ (i : grid0.Coords) (v0 : BitVec 32) (k0_hw257 : k0_chk257 i v0), ∀ (k0_h4 : k0_cond4 i v0 = 1#1), ∀ a, (k0_off396 i v0) a + S1.size a ≤ S86016.size a := fun i v0 k0_hw257 k0_h4 => k0_hw257.2.2.1.2.2.2.2.1 k0_h4
theorem k0_off398_inb : ∀ (i : grid0.Coords) (v0 : BitVec 32) (k0_hw257 : k0_chk257 i v0), ∀ (k0_h4 : k0_cond4 i v0 = 1#1), ∀ a, (k0_off398 i v0) a + S1.size a ≤ S86016.size a := fun i v0 k0_hw257 k0_h4 => k0_hw257.2.2.1.2.2.2.2.2.1 k0_h4
theorem k0_off400_inb : ∀ (i : grid0.Coords) (v0 : BitVec 32) (k0_hw257 : k0_chk257 i v0), ∀ (k0_h4 : k0_cond4 i v0 = 1#1), ∀ a, (k0_off400 i v0) a + S1.size a ≤ S86016.size a := fun i v0 k0_hw257 k0_h4 => k0_hw257.2.2.1.2.2.2.2.2.2.1 k0_h4
theorem k0_off402_inb : ∀ (i : grid0.Coords) (v0 : BitVec 32) (k0_hw257 : k0_chk257 i v0), ∀ (k0_h4 : k0_cond4 i v0 = 1#1), ∀ a, (k0_off402 i v0) a + S1.size a ≤ S86016.size a := fun i v0 k0_hw257 k0_h4 => k0_hw257.2.2.1.2.2.2.2.2.2.2.1 k0_h4
theorem k0_off404_inb : ∀ (i : grid0.Coords) (v0 : BitVec 32) (k0_hw257 : k0_chk257 i v0), ∀ (k0_h4 : k0_cond4 i v0 = 1#1), ∀ a, (k0_off404 i v0) a + S1.size a ≤ S86016.size a := fun i v0 k0_hw257 k0_h4 => k0_hw257.2.2.1.2.2.2.2.2.2.2.2.1 k0_h4
theorem k0_off406_inb : ∀ (i : grid0.Coords) (v0 : BitVec 32) (k0_hw257 : k0_chk257 i v0), ∀ (k0_h4 : k0_cond4 i v0 = 1#1), ∀ a, (k0_off406 i v0) a + S1.size a ≤ S86016.size a := fun i v0 k0_hw257 k0_h4 => k0_hw257.2.2.1.2.2.2.2.2.2.2.2.2.1 k0_h4
theorem k0_off408_inb : ∀ (i : grid0.Coords) (v0 : BitVec 32) (k0_hw257 : k0_chk257 i v0), ∀ (k0_h4 : k0_cond4 i v0 = 1#1), ∀ a, (k0_off408 i v0) a + S1.size a ≤ S86016.size a := fun i v0 k0_hw257 k0_h4 => k0_hw257.2.2.1.2.2.2.2.2.2.2.2.2.2.1 k0_h4
theorem k0_off410_inb : ∀ (i : grid0.Coords) (v0 : BitVec 32) (k0_hw257 : k0_chk257 i v0), ∀ (k0_h4 : k0_cond4 i v0 = 1#1), ∀ a, (k0_off410 i v0) a + S1.size a ≤ S86016.size a := fun i v0 k0_hw257 k0_h4 => k0_hw257.2.2.1.2.2.2.2.2.2.2.2.2.2.2.1 k0_h4
theorem k0_off412_inb : ∀ (i : grid0.Coords) (v0 : BitVec 32) (k0_hw257 : k0_chk257 i v0), ∀ (k0_h4 : k0_cond4 i v0 = 1#1), ∀ a, (k0_off412 i v0) a + S1.size a ≤ S86016.size a := fun i v0 k0_hw257 k0_h4 => k0_hw257.2.2.1.2.2.2.2.2.2.2.2.2.2.2.2.1 k0_h4
theorem k0_off414_inb : ∀ (i : grid0.Coords) (v0 : BitVec 32) (k0_hw257 : k0_chk257 i v0), ∀ (k0_h4 : k0_cond4 i v0 = 1#1), ∀ a, (k0_off414 i v0) a + S1.size a ≤ S86016.size a := fun i v0 k0_hw257 k0_h4 => k0_hw257.2.2.1.2.2.2.2.2.2.2.2.2.2.2.2.2.1 k0_h4
theorem k0_off416_inb : ∀ (i : grid0.Coords) (v0 : BitVec 32) (k0_hw257 : k0_chk257 i v0), ∀ (k0_h4 : k0_cond4 i v0 = 1#1), ∀ a, (k0_off416 i v0) a + S1.size a ≤ S86016.size a := fun i v0 k0_hw257 k0_h4 => k0_hw257.2.2.1.2.2.2.2.2.2.2.2.2.2.2.2.2.2.1 k0_h4
theorem k0_off418_inb : ∀ (i : grid0.Coords) (v0 : BitVec 32) (k0_hw257 : k0_chk257 i v0), ∀ (k0_h4 : k0_cond4 i v0 = 1#1), ∀ a, (k0_off418 i v0) a + S1.size a ≤ S86016.size a := fun i v0 k0_hw257 k0_h4 => k0_hw257.2.2.1.2.2.2.2.2.2.2.2.2.2.2.2.2.2.2.1 k0_h4
theorem k0_off420_inb : ∀ (i : grid0.Coords) (v0 : BitVec 32) (k0_hw257 : k0_chk257 i v0), ∀ (k0_h4 : k0_cond4 i v0 = 1#1), ∀ a, (k0_off420 i v0) a + S1.size a ≤ S86016.size a := fun i v0 k0_hw257 k0_h4 => k0_hw257.2.2.1.2.2.2.2.2.2.2.2.2.2.2.2.2.2.2.2.1 k0_h4
theorem k0_off422_inb : ∀ (i : grid0.Coords) (v0 : BitVec 32) (k0_hw257 : k0_chk257 i v0), ∀ (k0_h4 : k0_cond4 i v0 = 1#1), ∀ a, (k0_off422 i v0) a + S1.size a ≤ S86016.size a := fun i v0 k0_hw257 k0_h4 => k0_hw257.2.2.1.2.2.2.2.2.2.2.2.2.2.2.2.2.2.2.2.2.1 k0_h4
theorem k0_off424_inb : ∀ (i : grid0.Coords) (v0 : BitVec 32) (k0_hw257 : k0_chk257 i v0), ∀ (k0_h4 : k0_cond4 i v0 = 1#1), ∀ a, (k0_off424 i v0) a + S1.size a ≤ S86016.size a := fun i v0 k0_hw257 k0_h4 => k0_hw257.2.2.1.2.2.2.2.2.2.2.2.2.2.2.2.2.2.2.2.2.2.1 k0_h4
theorem k0_off426_inb : ∀ (i : grid0.Coords) (v0 : BitVec 32) (k0_hw257 : k0_chk257 i v0), ∀ (k0_h4 : k0_cond4 i v0 = 1#1), ∀ a, (k0_off426 i v0) a + S1.size a ≤ S86016.size a := fun i v0 k0_hw257 k0_h4 => k0_hw257.2.2.1.2.2.2.2.2.2.2.2.2.2.2.2.2.2.2.2.2.2.2.1 k0_h4
theorem k0_off428_inb : ∀ (i : grid0.Coords) (v0 : BitVec 32) (k0_hw257 : k0_chk257 i v0), ∀ (k0_h4 : k0_cond4 i v0 = 1#1), ∀ a, (k0_off428 i v0) a + S1.size a ≤ S86016.size a := fun i v0 k0_hw257 k0_h4 => k0_hw257.2.2.1.2.2.2.2.2.2.2.2.2.2.2.2.2.2.2.2.2.2.2.2.1 k0_h4
theorem k0_off430_inb : ∀ (i : grid0.Coords) (v0 : BitVec 32) (k0_hw257 : k0_chk257 i v0), ∀ (k0_h4 : k0_cond4 i v0 = 1#1), ∀ a, (k0_off430 i v0) a + S1.size a ≤ S86016.size a := fun i v0 k0_hw257 k0_h4 => k0_hw257.2.2.1.2.2.2.2.2.2.2.2.2.2.2.2.2.2.2.2.2.2.2.2.2.1 k0_h4
theorem k0_off432_inb : ∀ (i : grid0.Coords) (v0 : BitVec 32) (k0_hw257 : k0_chk257 i v0), ∀ (k0_h4 : k0_cond4 i v0 = 1#1), ∀ a, (k0_off432 i v0) a + S1.size a ≤ S86016.size a := fun i v0 k0_hw257 k0_h4 => k0_hw257.2.2.1.2.2.2.2.2.2.2.2.2.2.2.2.2.2.2.2.2.2.2.2.2.2.1 k0_h4
theorem k0_off434_inb : ∀ (i : grid0.Coords) (v0 : BitVec 32) (k0_hw257 : k0_chk257 i v0), ∀ (k0_h4 : k0_cond4 i v0 = 1#1), ∀ a, (k0_off434 i v0) a + S1.size a ≤ S86016.size a := fun i v0 k0_hw257 k0_h4 => k0_hw257.2.2.1.2.2.2.2.2.2.2.2.2.2.2.2.2.2.2.2.2.2.2.2.2.2.2.1 k0_h4
theorem k0_off436_inb : ∀ (i : grid0.Coords) (v0 : BitVec 32) (k0_hw257 : k0_chk257 i v0), ∀ (k0_h4 : k0_cond4 i v0 = 1#1), ∀ a, (k0_off436 i v0) a + S1.size a ≤ S86016.size a := fun i v0 k0_hw257 k0_h4 => k0_hw257.2.2.1.2.2.2.2.2.2.2.2.2.2.2.2.2.2.2.2.2.2.2.2.2.2.2.2.1 k0_h4
theorem k0_off438_inb : ∀ (i : grid0.Coords) (v0 : BitVec 32) (k0_hw257 : k0_chk257 i v0), ∀ (k0_h4 : k0_cond4 i v0 = 1#1), ∀ a, (k0_off438 i v0) a + S1.size a ≤ S86016.size a := fun i v0 k0_hw257 k0_h4 => k0_hw257.2.2.1.2.2.2.2.2.2.2.2.2.2.2.2.2.2.2.2.2.2.2.2.2.2.2.2.2.1 k0_h4
theorem k0_off440_inb : ∀ (i : grid0.Coords) (v0 : BitVec 32) (k0_hw257 : k0_chk257 i v0), ∀ (k0_h4 : k0_cond4 i v0 = 1#1), ∀ a, (k0_off440 i v0) a + S1.size a ≤ S86016.size a := fun i v0 k0_hw257 k0_h4 => k0_hw257.2.2.1.2.2.2.2.2.2.2.2.2.2.2.2.2.2.2.2.2.2.2.2.2.2.2.2.2.2.1 k0_h4
theorem k0_off442_inb : ∀ (i : grid0.Coords) (v0 : BitVec 32) (k0_hw257 : k0_chk257 i v0), ∀ (k0_h4 : k0_cond4 i v0 = 1#1), ∀ a, (k0_off442 i v0) a + S1.size a ≤ S86016.size a := fun i v0 k0_hw257 k0_h4 => k0_hw257.2.2.1.2.2.2.2.2.2.2.2.2.2.2.2.2.2.2.2.2.2.2.2.2.2.2.2.2.2.2.1 k0_h4
theorem k0_off444_inb : ∀ (i : grid0.Coords) (v0 : BitVec 32) (k0_hw257 : k0_chk257 i v0), ∀ (k0_h4 : k0_cond4 i v0 = 1#1), ∀ a, (k0_off444 i v0) a + S1.size a ≤ S86016.size a := fun i v0 k0_hw257 k0_h4 => k0_hw257.2.2.1.2.2.2.2.2.2.2.2.2.2.2.2.2.2.2.2.2.2.2.2.2.2.2.2.2.2.2.2.1 k0_h4
theorem k0_off446_inb : ∀ (i : grid0.Coords) (v0 : BitVec 32) (k0_hw257 : k0_chk257 i v0), ∀ (k0_h4 : k0_cond4 i v0 = 1#1), ∀ a, (k0_off446 i v0) a + S1.size a ≤ S86016.size a := fun i v0 k0_hw257 k0_h4 => k0_hw257.2.2.1.2.2.2.2.2.2.2.2.2.2.2.2.2.2.2.2.2.2.2.2.2.2.2.2.2.2.2.2.2.1 k0_h4
theorem k0_off448_inb : ∀ (i : grid0.Coords) (v0 : BitVec 32) (k0_hw257 : k0_chk257 i v0), ∀ (k0_h4 : k0_cond4 i v0 = 1#1), ∀ a, (k0_off448 i v0) a + S1.size a ≤ S86016.size a := fun i v0 k0_hw257 k0_h4 => k0_hw257.2.2.1.2.2.2.2.2.2.2.2.2.2.2.2.2.2.2.2.2.2.2.2.2.2.2.2.2.2.2.2.2.2.1 k0_h4
theorem k0_off450_inb : ∀ (i : grid0.Coords) (v0 : BitVec 32) (k0_hw257 : k0_chk257 i v0), ∀ (k0_h4 : k0_cond4 i v0 = 1#1), ∀ a, (k0_off450 i v0) a + S1.size a ≤ S86016.size a := fun i v0 k0_hw257 k0_h4 => k0_hw257.2.2.1.2.2.2.2.2.2.2.2.2.2.2.2.2.2.2.2.2.2.2.2.2.2.2.2.2.2.2.2.2.2.2 k0_h4
theorem k0_off452_inb : ∀ (i : grid0.Coords) (v0 : BitVec 32) (k0_hw257 : k0_chk257 i v0), ∀ (k0_h4 : k0_cond4 i v0 = 1#1), ∀ a, (k0_off452 i v0) a + S1.size a ≤ S86016.size a := fun i v0 k0_hw257 k0_h4 => k0_hw257.2.2.2.1.1 k0_h4
theorem k0_off454_inb : ∀ (i : grid0.Coords) (v0 : BitVec 32) (k0_hw257 : k0_chk257 i v0), ∀ (k0_h4 : k0_cond4 i v0 = 1#1), ∀ a, (k0_off454 i v0) a + S1.size a ≤ S86016.size a := fun i v0 k0_hw257 k0_h4 => k0_hw257.2.2.2.1.2.1 k0_h4
theorem k0_off456_inb : ∀ (i : grid0.Coords) (v0 : BitVec 32) (k0_hw257 : k0_chk257 i v0), ∀ (k0_h4 : k0_cond4 i v0 = 1#1), ∀ a, (k0_off456 i v0) a + S1.size a ≤ S86016.size a := fun i v0 k0_hw257 k0_h4 => k0_hw257.2.2.2.1.2.2.1 k0_h4
theorem k0_off458_inb : ∀ (i : grid0.Coords) (v0 : BitVec 32) (k0_hw257 : k0_chk257 i v0), ∀ (k0_h4 : k0_cond4 i v0 = 1#1), ∀ a, (k0_off458 i v0) a + S1.size a ≤ S86016.size a := fun i v0 k0_hw257 k0_h4 => k0_hw257.2.2.2.1.2.2.2.1 k0_h4
theorem k0_off460_inb : ∀ (i : grid0.Coords) (v0 : BitVec 32) (k0_hw257 : k0_chk257 i v0), ∀ (k0_h4 : k0_cond4 i v0 = 1#1), ∀ a, (k0_off460 i v0) a + S1.size a ≤ S86016.size a := fun i v0 k0_hw257 k0_h4 => k0_hw257.2.2.2.1.2.2.2.2.1 k0_h4
theorem k0_off462_inb : ∀ (i : grid0.Coords) (v0 : BitVec 32) (k0_hw257 : k0_chk257 i v0), ∀ (k0_h4 : k0_cond4 i v0 = 1#1), ∀ a, (k0_off462 i v0) a + S1.size a ≤ S86016.size a := fun i v0 k0_hw257 k0_h4 => k0_hw257.2.2.2.1.2.2.2.2.2.1 k0_h4
theorem k0_off464_inb : ∀ (i : grid0.Coords) (v0 : BitVec 32) (k0_hw257 : k0_chk257 i v0), ∀ (k0_h4 : k0_cond4 i v0 = 1#1), ∀ a, (k0_off464 i v0) a + S1.size a ≤ S86016.size a := fun i v0 k0_hw257 k0_h4 => k0_hw257.2.2.2.1.2.2.2.2.2.2.1 k0_h4
theorem k0_off466_inb : ∀ (i : grid0.Coords) (v0 : BitVec 32) (k0_hw257 : k0_chk257 i v0), ∀ (k0_h4 : k0_cond4 i v0 = 1#1), ∀ a, (k0_off466 i v0) a + S1.size a ≤ S86016.size a := fun i v0 k0_hw257 k0_h4 => k0_hw257.2.2.2.1.2.2.2.2.2.2.2.1 k0_h4
theorem k0_off468_inb : ∀ (i : grid0.Coords) (v0 : BitVec 32) (k0_hw257 : k0_chk257 i v0), ∀ (k0_h4 : k0_cond4 i v0 = 1#1), ∀ a, (k0_off468 i v0) a + S1.size a ≤ S86016.size a := fun i v0 k0_hw257 k0_h4 => k0_hw257.2.2.2.1.2.2.2.2.2.2.2.2.1 k0_h4
theorem k0_off470_inb : ∀ (i : grid0.Coords) (v0 : BitVec 32) (k0_hw257 : k0_chk257 i v0), ∀ (k0_h4 : k0_cond4 i v0 = 1#1), ∀ a, (k0_off470 i v0) a + S1.size a ≤ S86016.size a := fun i v0 k0_hw257 k0_h4 => k0_hw257.2.2.2.1.2.2.2.2.2.2.2.2.2.1 k0_h4
theorem k0_off472_inb : ∀ (i : grid0.Coords) (v0 : BitVec 32) (k0_hw257 : k0_chk257 i v0), ∀ (k0_h4 : k0_cond4 i v0 = 1#1), ∀ a, (k0_off472 i v0) a + S1.size a ≤ S86016.size a := fun i v0 k0_hw257 k0_h4 => k0_hw257.2.2.2.1.2.2.2.2.2.2.2.2.2.2.1 k0_h4
theorem k0_off474_inb : ∀ (i : grid0.Coords) (v0 : BitVec 32) (k0_hw257 : k0_chk257 i v0), ∀ (k0_h4 : k0_cond4 i v0 = 1#1), ∀ a, (k0_off474 i v0) a + S1.size a ≤ S86016.size a := fun i v0 k0_hw257 k0_h4 => k0_hw257.2.2.2.1.2.2.2.2.2.2.2.2.2.2.2.1 k0_h4
theorem k0_off476_inb : ∀ (i : grid0.Coords) (v0 : BitVec 32) (k0_hw257 : k0_chk257 i v0), ∀ (k0_h4 : k0_cond4 i v0 = 1#1), ∀ a, (k0_off476 i v0) a + S1.size a ≤ S86016.size a := fun i v0 k0_hw257 k0_h4 => k0_hw257.2.2.2.1.2.2.2.2.2.2.2.2.2.2.2.2.1 k0_h4
theorem k0_off478_inb : ∀ (i : grid0.Coords) (v0 : BitVec 32) (k0_hw257 : k0_chk257 i v0), ∀ (k0_h4 : k0_cond4 i v0 = 1#1), ∀ a, (k0_off478 i v0) a + S1.size a ≤ S86016.size a := fun i v0 k0_hw257 k0_h4 => k0_hw257.2.2.2.1.2.2.2.2.2.2.2.2.2.2.2.2.2.1 k0_h4
theorem k0_off480_inb : ∀ (i : grid0.Coords) (v0 : BitVec 32) (k0_hw257 : k0_chk257 i v0), ∀ (k0_h4 : k0_cond4 i v0 = 1#1), ∀ a, (k0_off480 i v0) a + S1.size a ≤ S86016.size a := fun i v0 k0_hw257 k0_h4 => k0_hw257.2.2.2.1.2.2.2.2.2.2.2.2.2.2.2.2.2.2.1 k0_h4
theorem k0_off482_inb : ∀ (i : grid0.Coords) (v0 : BitVec 32) (k0_hw257 : k0_chk257 i v0), ∀ (k0_h4 : k0_cond4 i v0 = 1#1), ∀ a, (k0_off482 i v0) a + S1.size a ≤ S86016.size a := fun i v0 k0_hw257 k0_h4 => k0_hw257.2.2.2.1.2.2.2.2.2.2.2.2.2.2.2.2.2.2.2.1 k0_h4
theorem k0_off484_inb : ∀ (i : grid0.Coords) (v0 : BitVec 32) (k0_hw257 : k0_chk257 i v0), ∀ (k0_h4 : k0_cond4 i v0 = 1#1), ∀ a, (k0_off484 i v0) a + S1.size a ≤ S86016.size a := fun i v0 k0_hw257 k0_h4 => k0_hw257.2.2.2.1.2.2.2.2.2.2.2.2.2.2.2.2.2.2.2.2.1 k0_h4
theorem k0_off486_inb : ∀ (i : grid0.Coords) (v0 : BitVec 32) (k0_hw257 : k0_chk257 i v0), ∀ (k0_h4 : k0_cond4 i v0 = 1#1), ∀ a, (k0_off486 i v0) a + S1.size a ≤ S86016.size a := fun i v0 k0_hw257 k0_h4 => k0_hw257.2.2.2.1.2.2.2.2.2.2.2.2.2.2.2.2.2.2.2.2.2.1 k0_h4
theorem k0_off488_inb : ∀ (i : grid0.Coords) (v0 : BitVec 32) (k0_hw257 : k0_chk257 i v0), ∀ (k0_h4 : k0_cond4 i v0 = 1#1), ∀ a, (k0_off488 i v0) a + S1.size a ≤ S86016.size a := fun i v0 k0_hw257 k0_h4 => k0_hw257.2.2.2.1.2.2.2.2.2.2.2.2.2.2.2.2.2.2.2.2.2.2.1 k0_h4
theorem k0_off490_inb : ∀ (i : grid0.Coords) (v0 : BitVec 32) (k0_hw257 : k0_chk257 i v0), ∀ (k0_h4 : k0_cond4 i v0 = 1#1), ∀ a, (k0_off490 i v0) a + S1.size a ≤ S86016.size a := fun i v0 k0_hw257 k0_h4 => k0_hw257.2.2.2.1.2.2.2.2.2.2.2.2.2.2.2.2.2.2.2.2.2.2.2.1 k0_h4
theorem k0_off492_inb : ∀ (i : grid0.Coords) (v0 : BitVec 32) (k0_hw257 : k0_chk257 i v0), ∀ (k0_h4 : k0_cond4 i v0 = 1#1), ∀ a, (k0_off492 i v0) a + S1.size a ≤ S86016.size a := fun i v0 k0_hw257 k0_h4 => k0_hw257.2.2.2.1.2.2.2.2.2.2.2.2.2.2.2.2.2.2.2.2.2.2.2.2.1 k0_h4
theorem k0_off494_inb : ∀ (i : grid0.Coords) (v0 : BitVec 32) (k0_hw257 : k0_chk257 i v0), ∀ (k0_h4 : k0_cond4 i v0 = 1#1), ∀ a, (k0_off494 i v0) a + S1.size a ≤ S86016.size a := fun i v0 k0_hw257 k0_h4 => k0_hw257.2.2.2.1.2.2.2.2.2.2.2.2.2.2.2.2.2.2.2.2.2.2.2.2.2.1 k0_h4
theorem k0_off496_inb : ∀ (i : grid0.Coords) (v0 : BitVec 32) (k0_hw257 : k0_chk257 i v0), ∀ (k0_h4 : k0_cond4 i v0 = 1#1), ∀ a, (k0_off496 i v0) a + S1.size a ≤ S86016.size a := fun i v0 k0_hw257 k0_h4 => k0_hw257.2.2.2.1.2.2.2.2.2.2.2.2.2.2.2.2.2.2.2.2.2.2.2.2.2.2.1 k0_h4
theorem k0_off498_inb : ∀ (i : grid0.Coords) (v0 : BitVec 32) (k0_hw257 : k0_chk257 i v0), ∀ (k0_h4 : k0_cond4 i v0 = 1#1), ∀ a, (k0_off498 i v0) a + S1.size a ≤ S86016.size a := fun i v0 k0_hw257 k0_h4 => k0_hw257.2.2.2.1.2.2.2.2.2.2.2.2.2.2.2.2.2.2.2.2.2.2.2.2.2.2.2.1 k0_h4
theorem k0_off500_inb : ∀ (i : grid0.Coords) (v0 : BitVec 32) (k0_hw257 : k0_chk257 i v0), ∀ (k0_h4 : k0_cond4 i v0 = 1#1), ∀ a, (k0_off500 i v0) a + S1.size a ≤ S86016.size a := fun i v0 k0_hw257 k0_h4 => k0_hw257.2.2.2.1.2.2.2.2.2.2.2.2.2.2.2.2.2.2.2.2.2.2.2.2.2.2.2.2.1 k0_h4
theorem k0_off502_inb : ∀ (i : grid0.Coords) (v0 : BitVec 32) (k0_hw257 : k0_chk257 i v0), ∀ (k0_h4 : k0_cond4 i v0 = 1#1), ∀ a, (k0_off502 i v0) a + S1.size a ≤ S86016.size a := fun i v0 k0_hw257 k0_h4 => k0_hw257.2.2.2.1.2.2.2.2.2.2.2.2.2.2.2.2.2.2.2.2.2.2.2.2.2.2.2.2.2.1 k0_h4
theorem k0_off504_inb : ∀ (i : grid0.Coords) (v0 : BitVec 32) (k0_hw257 : k0_chk257 i v0), ∀ (k0_h4 : k0_cond4 i v0 = 1#1), ∀ a, (k0_off504 i v0) a + S1.size a ≤ S86016.size a := fun i v0 k0_hw257 k0_h4 => k0_hw257.2.2.2.1.2.2.2.2.2.2.2.2.2.2.2.2.2.2.2.2.2.2.2.2.2.2.2.2.2.2.1 k0_h4
theorem k0_off506_inb : ∀ (i : grid0.Coords) (v0 : BitVec 32) (k0_hw257 : k0_chk257 i v0), ∀ (k0_h4 : k0_cond4 i v0 = 1#1), ∀ a, (k0_off506 i v0) a + S1.size a ≤ S86016.size a := fun i v0 k0_hw257 k0_h4 => k0_hw257.2.2.2.1.2.2.2.2.2.2.2.2.2.2.2.2.2.2.2.2.2.2.2.2.2.2.2.2.2.2.2.1 k0_h4
theorem k0_off508_inb : ∀ (i : grid0.Coords) (v0 : BitVec 32) (k0_hw257 : k0_chk257 i v0), ∀ (k0_h4 : k0_cond4 i v0 = 1#1), ∀ a, (k0_off508 i v0) a + S1.size a ≤ S86016.size a := fun i v0 k0_hw257 k0_h4 => k0_hw257.2.2.2.1.2.2.2.2.2.2.2.2.2.2.2.2.2.2.2.2.2.2.2.2.2.2.2.2.2.2.2.2.1 k0_h4
theorem k0_off510_inb : ∀ (i : grid0.Coords) (v0 : BitVec 32) (k0_hw257 : k0_chk257 i v0), ∀ (k0_h4 : k0_cond4 i v0 = 1#1), ∀ a, (k0_off510 i v0) a + S1.size a ≤ S86016.size a := fun i v0 k0_hw257 k0_h4 => k0_hw257.2.2.2.1.2.2.2.2.2.2.2.2.2.2.2.2.2.2.2.2.2.2.2.2.2.2.2.2.2.2.2.2.2.1 k0_h4
theorem k0_off512_inb : ∀ (i : grid0.Coords) (v0 : BitVec 32) (k0_hw257 : k0_chk257 i v0), ∀ (k0_h4 : k0_cond4 i v0 = 1#1), ∀ a, (k0_off512 i v0) a + S1.size a ≤ S86016.size a := fun i v0 k0_hw257 k0_h4 => k0_hw257.2.2.2.1.2.2.2.2.2.2.2.2.2.2.2.2.2.2.2.2.2.2.2.2.2.2.2.2.2.2.2.2.2.2.1 k0_h4
theorem k0_off514_inb : ∀ (i : grid0.Coords) (v0 : BitVec 32) (k0_hw257 : k0_chk257 i v0), ∀ (k0_h4 : k0_cond4 i v0 = 1#1), ∀ a, (k0_off514 i v0) a + S1.size a ≤ S86016.size a := fun i v0 k0_hw257 k0_h4 => k0_hw257.2.2.2.1.2.2.2.2.2.2.2.2.2.2.2.2.2.2.2.2.2.2.2.2.2.2.2.2.2.2.2.2.2.2.2 k0_h4
theorem k0_off516_inb : ∀ (i : grid0.Coords) (v0 : BitVec 32) (k0_hw257 : k0_chk257 i v0), ∀ (k0_h4 : k0_cond4 i v0 = 1#1), ∀ a, (k0_off516 i v0) a + S1.size a ≤ S86016.size a := fun i v0 k0_hw257 k0_h4 => k0_hw257.2.2.2.2.1.1 k0_h4
theorem k0_off518_inb : ∀ (i : grid0.Coords) (v0 : BitVec 32) (k0_hw257 : k0_chk257 i v0), ∀ (k0_h4 : k0_cond4 i v0 = 1#1), ∀ a, (k0_off518 i v0) a + S1.size a ≤ S86016.size a := fun i v0 k0_hw257 k0_h4 => k0_hw257.2.2.2.2.1.2.1 k0_h4
theorem k0_off520_inb : ∀ (i : grid0.Coords) (v0 : BitVec 32) (k0_hw257 : k0_chk257 i v0), ∀ (k0_h4 : k0_cond4 i v0 = 1#1), ∀ a, (k0_off520 i v0) a + S1.size a ≤ S86016.size a := fun i v0 k0_hw257 k0_h4 => k0_hw257.2.2.2.2.1.2.2.1 k0_h4
theorem k0_off522_inb : ∀ (i : grid0.Coords) (v0 : BitVec 32) (k0_hw257 : k0_chk257 i v0), ∀ (k0_h4 : k0_cond4 i v0 = 1#1), ∀ a, (k0_off522 i v0) a + S1.size a ≤ S86016.size a := fun i v0 k0_hw257 k0_h4 => k0_hw257.2.2.2.2.1.2.2.2.1 k0_h4
theorem k0_off524_inb : ∀ (i : grid0.Coords) (v0 : BitVec 32) (k0_hw257 : k0_chk257 i v0), ∀ (k0_h4 : k0_cond4 i v0 = 1#1), ∀ a, (k0_off524 i v0) a + S1.size a ≤ S86016.size a := fun i v0 k0_hw257 k0_h4 => k0_hw257.2.2.2.2.1.2.2.2.2.1 k0_h4
theorem k0_off526_inb : ∀ (i : grid0.Coords) (v0 : BitVec 32) (k0_hw257 : k0_chk257 i v0), ∀ (k0_h4 : k0_cond4 i v0 = 1#1), ∀ a, (k0_off526 i v0) a + S1.size a ≤ S86016.size a := fun i v0 k0_hw257 k0_h4 => k0_hw257.2.2.2.2.1.2.2.2.2.2.1 k0_h4
theorem k0_off528_inb : ∀ (i : grid0.Coords) (v0 : BitVec 32) (k0_hw257 : k0_chk257 i v0), ∀ (k0_h4 : k0_cond4 i v0 = 1#1), ∀ a, (k0_off528 i v0) a + S1.size a ≤ S86016.size a := fun i v0 k0_hw257 k0_h4 => k0_hw257.2.2.2.2.1.2.2.2.2.2.2.1 k0_h4
theorem k0_off530_inb : ∀ (i : grid0.Coords) (v0 : BitVec 32) (k0_hw257 : k0_chk257 i v0), ∀ (k0_h4 : k0_cond4 i v0 = 1#1), ∀ a, (k0_off530 i v0) a + S1.size a ≤ S86016.size a := fun i v0 k0_hw257 k0_h4 => k0_hw257.2.2.2.2.1.2.2.2.2.2.2.2.1 k0_h4
theorem k0_off532_inb : ∀ (i : grid0.Coords) (v0 : BitVec 32) (k0_hw257 : k0_chk257 i v0), ∀ (k0_h4 : k0_cond4 i v0 = 1#1), ∀ a, (k0_off532 i v0) a + S1.size a ≤ S86016.size a := fun i v0 k0_hw257 k0_h4 => k0_hw257.2.2.2.2.1.2.2.2.2.2.2.2.2.1 k0_h4
theorem k0_off534_inb : ∀ (i : grid0.Coords) (v0 : BitVec 32) (k0_hw257 : k0_chk257 i v0), ∀ (k0_h4 : k0_cond4 i v0 = 1#1), ∀ a, (k0_off534 i v0) a + S1.size a ≤ S86016.size a := fun i v0 k0_hw257 k0_h4 => k0_hw257.2.2.2.2.1.2.2.2.2.2.2.2.2.2.1 k0_h4
theorem k0_off536_inb : ∀ (i : grid0.Coords) (v0 : BitVec 32) (k0_hw257 : k0_chk257 i v0), ∀ (k0_h4 : k0_cond4 i v0 = 1#1), ∀ a, (k0_off536 i v0) a + S1.size a ≤ S86016.size a := fun i v0 k0_hw257 k0_h4 => k0_hw257.2.2.2.2.1.2.2.2.2.2.2.2.2.2.2.1 k0_h4
theorem k0_off538_inb : ∀ (i : grid0.Coords) (v0 : BitVec 32) (k0_hw257 : k0_chk257 i v0), ∀ (k0_h4 : k0_cond4 i v0 = 1#1), ∀ a, (k0_off538 i v0) a + S1.size a ≤ S86016.size a := fun i v0 k0_hw257 k0_h4 => k0_hw257.2.2.2.2.1.2.2.2.2.2.2.2.2.2.2.2.1 k0_h4
theorem k0_off540_inb : ∀ (i : grid0.Coords) (v0 : BitVec 32) (k0_hw257 : k0_chk257 i v0), ∀ (k0_h4 : k0_cond4 i v0 = 1#1), ∀ a, (k0_off540 i v0) a + S1.size a ≤ S86016.size a := fun i v0 k0_hw257 k0_h4 => k0_hw257.2.2.2.2.1.2.2.2.2.2.2.2.2.2.2.2.2.1 k0_h4
theorem k0_off542_inb : ∀ (i : grid0.Coords) (v0 : BitVec 32) (k0_hw257 : k0_chk257 i v0), ∀ (k0_h4 : k0_cond4 i v0 = 1#1), ∀ a, (k0_off542 i v0) a + S1.size a ≤ S86016.size a := fun i v0 k0_hw257 k0_h4 => k0_hw257.2.2.2.2.1.2.2.2.2.2.2.2.2.2.2.2.2.2.1 k0_h4
theorem k0_off544_inb : ∀ (i : grid0.Coords) (v0 : BitVec 32) (k0_hw257 : k0_chk257 i v0), ∀ (k0_h4 : k0_cond4 i v0 = 1#1), ∀ a, (k0_off544 i v0) a + S1.size a ≤ S86016.size a := fun i v0 k0_hw257 k0_h4 => k0_hw257.2.2.2.2.1.2.2.2.2.2.2.2.2.2.2.2.2.2.2.1 k0_h4
theorem k0_off546_inb : ∀ (i : grid0.Coords) (v0 : BitVec 32) (k0_hw257 : k0_chk257 i v0), ∀ (k0_h4 : k0_cond4 i v0 = 1#1), ∀ a, (k0_off546 i v0) a + S1.size a ≤ S86016.size a := fun i v0 k0_hw257 k0_h4 => k0_hw257.2.2.2.2.1.2.2.2.2.2.2.2.2.2.2.2.2.2.2.2.1 k0_h4
theorem k0_off548_inb : ∀ (i : grid0.Coords) (v0 : BitVec 32) (k0_hw257 : k0_chk257 i v0), ∀ (k0_h4 : k0_cond4 i v0 = 1#1), ∀ a, (k0_off548 i v0) a + S1.size a ≤ S86016.size a := fun i v0 k0_hw257 k0_h4 => k0_hw257.2.2.2.2.1.2.2.2.2.2.2.2.2.2.2.2.2.2.2.2.2.1 k0_h4
theorem k0_off550_inb : ∀ (i : grid0.Coords) (v0 : BitVec 32) (k0_hw257 : k0_chk257 i v0), ∀ (k0_h4 : k0_cond4 i v0 = 1#1), ∀ a, (k0_off550 i v0) a + S1.size a ≤ S86016.size a := fun i v0 k0_hw257 k0_h4 => k0_hw257.2.2.2.2.1.2.2.2.2.2.2.2.2.2.2.2.2.2.2.2.2.2.1 k0_h4
theorem k0_off552_inb : ∀ (i : grid0.Coords) (v0 : BitVec 32) (k0_hw257 : k0_chk257 i v0), ∀ (k0_h4 : k0_cond4 i v0 = 1#1), ∀ a, (k0_off552 i v0) a + S1.size a ≤ S86016.size a := fun i v0 k0_hw257 k0_h4 => k0_hw257.2.2.2.2.1.2.2.2.2.2.2.2.2.2.2.2.2.2.2.2.2.2.2.1 k0_h4
theorem k0_off554_inb : ∀ (i : grid0.Coords) (v0 : BitVec 32) (k0_hw257 : k0_chk257 i v0), ∀ (k0_h4 : k0_cond4 i v0 = 1#1), ∀ a, (k0_off554 i v0) a + S1.size a ≤ S86016.size a := fun i v0 k0_hw257 k0_h4 => k0_hw257.2.2.2.2.1.2.2.2.2.2.2.2.2.2.2.2.2.2.2.2.2.2.2.2.1 k0_h4
theorem k0_off556_inb : ∀ (i : grid0.Coords) (v0 : BitVec 32) (k0_hw257 : k0_chk257 i v0), ∀ (k0_h4 : k0_cond4 i v0 = 1#1), ∀ a, (k0_off556 i v0) a + S1.size a ≤ S86016.size a := fun i v0 k0_hw257 k0_h4 => k0_hw257.2.2.2.2.1.2.2.2.2.2.2.2.2.2.2.2.2.2.2.2.2.2.2.2.2.1 k0_h4
theorem k0_off558_inb : ∀ (i : grid0.Coords) (v0 : BitVec 32) (k0_hw257 : k0_chk257 i v0), ∀ (k0_h4 : k0_cond4 i v0 = 1#1), ∀ a, (k0_off558 i v0) a + S1.size a ≤ S86016.size a := fun i v0 k0_hw257 k0_h4 => k0_hw257.2.2.2.2.1.2.2.2.2.2.2.2.2.2.2.2.2.2.2.2.2.2.2.2.2.2.1 k0_h4
theorem k0_off560_inb : ∀ (i : grid0.Coords) (v0 : BitVec 32) (k0_hw257 : k0_chk257 i v0), ∀ (k0_h4 : k0_cond4 i v0 = 1#1), ∀ a, (k0_off560 i v0) a + S1.size a ≤ S86016.size a := fun i v0 k0_hw257 k0_h4 => k0_hw257.2.2.2.2.1.2.2.2.2.2.2.2.2.2.2.2.2.2.2.2.2.2.2.2.2.2.2.1 k0_h4
theorem k0_off562_inb : ∀ (i : grid0.Coords) (v0 : BitVec 32) (k0_hw257 : k0_chk257 i v0), ∀ (k0_h4 : k0_cond4 i v0 = 1#1), ∀ a, (k0_off562 i v0) a + S1.size a ≤ S86016.size a := fun i v0 k0_hw257 k0_h4 => k0_hw257.2.2.2.2.1.2.2.2.2.2.2.2.2.2.2.2.2.2.2.2.2.2.2.2.2.2.2.2.1 k0_h4
theorem k0_off564_inb : ∀ (i : grid0.Coords) (v0 : BitVec 32) (k0_hw257 : k0_chk257 i v0), ∀ (k0_h4 : k0_cond4 i v0 = 1#1), ∀ a, (k0_off564 i v0) a + S1.size a ≤ S86016.size a := fun i v0 k0_hw257 k0_h4 => k0_hw257.2.2.2.2.1.2.2.2.2.2.2.2.2.2.2.2.2.2.2.2.2.2.2.2.2.2.2.2.2.1 k0_h4
theorem k0_off566_inb : ∀ (i : grid0.Coords) (v0 : BitVec 32) (k0_hw257 : k0_chk257 i v0), ∀ (k0_h4 : k0_cond4 i v0 = 1#1), ∀ a, (k0_off566 i v0) a + S1.size a ≤ S86016.size a := fun i v0 k0_hw257 k0_h4 => k0_hw257.2.2.2.2.1.2.2.2.2.2.2.2.2.2.2.2.2.2.2.2.2.2.2.2.2.2.2.2.2.2.1 k0_h4
theorem k0_off568_inb : ∀ (i : grid0.Coords) (v0 : BitVec 32) (k0_hw257 : k0_chk257 i v0), ∀ (k0_h4 : k0_cond4 i v0 = 1#1), ∀ a, (k0_off568 i v0) a + S1.size a ≤ S86016.size a := fun i v0 k0_hw257 k0_h4 => k0_hw257.2.2.2.2.1.2.2.2.2.2.2.2.2.2.2.2.2.2.2.2.2.2.2.2.2.2.2.2.2.2.2.1 k0_h4
theorem k0_off570_inb : ∀ (i : grid0.Coords) (v0 : BitVec 32) (k0_hw257 : k0_chk257 i v0), ∀ (k0_h4 : k0_cond4 i v0 = 1#1), ∀ a, (k0_off570 i v0) a + S1.size a ≤ S86016.size a := fun i v0 k0_hw257 k0_h4 => k0_hw257.2.2.2.2.1.2.2.2.2.2.2.2.2.2.2.2.2.2.2.2.2.2.2.2.2.2.2.2.2.2.2.2.1 k0_h4
theorem k0_off572_inb : ∀ (i : grid0.Coords) (v0 : BitVec 32) (k0_hw257 : k0_chk257 i v0), ∀ (k0_h4 : k0_cond4 i v0 = 1#1), ∀ a, (k0_off572 i v0) a + S1.size a ≤ S86016.size a := fun i v0 k0_hw257 k0_h4 => k0_hw257.2.2.2.2.1.2.2.2.2.2.2.2.2.2.2.2.2.2.2.2.2.2.2.2.2.2.2.2.2.2.2.2.2.1 k0_h4
theorem k0_off574_inb : ∀ (i : grid0.Coords) (v0 : BitVec 32) (k0_hw257 : k0_chk257 i v0), ∀ (k0_h4 : k0_cond4 i v0 = 1#1), ∀ a, (k0_off574 i v0) a + S1.size a ≤ S86016.size a := fun i v0 k0_hw257 k0_h4 => k0_hw257.2.2.2.2.1.2.2.2.2.2.2.2.2.2.2.2.2.2.2.2.2.2.2.2.2.2.2.2.2.2.2.2.2.2.1 k0_h4
theorem k0_off576_inb : ∀ (i : grid0.Coords) (v0 : BitVec 32) (k0_hw257 : k0_chk257 i v0), ∀ (k0_h4 : k0_cond4 i v0 = 1#1), ∀ a, (k0_off576 i v0) a + S1.size a ≤ S86016.size a := fun i v0 k0_hw257 k0_h4 => k0_hw257.2.2.2.2.1.2.2.2.2.2.2.2.2.2.2.2.2.2.2.2.2.2.2.2.2.2.2.2.2.2.2.2.2.2.2.1 k0_h4
theorem k0_off578_inb : ∀ (i : grid0.Coords) (v0 : BitVec 32) (k0_hw257 : k0_chk257 i v0), ∀ (k0_h4 : k0_cond4 i v0 = 1#1), ∀ a, (k0_off578 i v0) a + S1.size a ≤ S86016.size a := fun i v0 k0_hw257 k0_h4 => k0_hw257.2.2.2.2.1.2.2.2.2.2.2.2.2.2.2.2.2.2.2.2.2.2.2.2.2.2.2.2.2.2.2.2.2.2.2.2 k0_h4
theorem k0_off580_inb : ∀ (i : grid0.Coords) (v0 : BitVec 32) (k0_hw257 : k0_chk257 i v0), ∀ (k0_h4 : k0_cond4 i v0 = 1#1), ∀ a, (k0_off580 i v0) a + S1.size a ≤ S86016.size a := fun i v0 k0_hw257 k0_h4 => k0_hw257.2.2.2.2.2.1.1 k0_h4
theorem k0_off582_inb : ∀ (i : grid0.Coords) (v0 : BitVec 32) (k0_hw257 : k0_chk257 i v0), ∀ (k0_h4 : k0_cond4 i v0 = 1#1), ∀ a, (k0_off582 i v0) a + S1.size a ≤ S86016.size a := fun i v0 k0_hw257 k0_h4 => k0_hw257.2.2.2.2.2.1.2.1 k0_h4
theorem k0_off584_inb : ∀ (i : grid0.Coords) (v0 : BitVec 32) (k0_hw257 : k0_chk257 i v0), ∀ (k0_h4 : k0_cond4 i v0 = 1#1), ∀ a, (k0_off584 i v0) a + S1.size a ≤ S86016.size a := fun i v0 k0_hw257 k0_h4 => k0_hw257.2.2.2.2.2.1.2.2.1 k0_h4
theorem k0_off586_inb : ∀ (i : grid0.Coords) (v0 : BitVec 32) (k0_hw257 : k0_chk257 i v0), ∀ (k0_h4 : k0_cond4 i v0 = 1#1), ∀ a, (k0_off586 i v0) a + S1.size a ≤ S86016.size a := fun i v0 k0_hw257 k0_h4 => k0_hw257.2.2.2.2.2.1.2.2.2.1 k0_h4
theorem k0_off588_inb : ∀ (i : grid0.Coords) (v0 : BitVec 32) (k0_hw257 : k0_chk257 i v0), ∀ (k0_h4 : k0_cond4 i v0 = 1#1), ∀ a, (k0_off588 i v0) a + S1.size a ≤ S86016.size a := fun i v0 k0_hw257 k0_h4 => k0_hw257.2.2.2.2.2.1.2.2.2.2.1 k0_h4
theorem k0_off590_inb : ∀ (i : grid0.Coords) (v0 : BitVec 32) (k0_hw257 : k0_chk257 i v0), ∀ (k0_h4 : k0_cond4 i v0 = 1#1), ∀ a, (k0_off590 i v0) a + S1.size a ≤ S86016.size a := fun i v0 k0_hw257 k0_h4 => k0_hw257.2.2.2.2.2.1.2.2.2.2.2.1 k0_h4
theorem k0_off592_inb : ∀ (i : grid0.Coords) (v0 : BitVec 32) (k0_hw257 : k0_chk257 i v0), ∀ (k0_h4 : k0_cond4 i v0 = 1#1), ∀ a, (k0_off592 i v0) a + S1.size a ≤ S86016.size a := fun i v0 k0_hw257 k0_h4 => k0_hw257.2.2.2.2.2.1.2.2.2.2.2.2.1 k0_h4
theorem k0_off594_inb : ∀ (i : grid0.Coords) (v0 : BitVec 32) (k0_hw257 : k0_chk257 i v0), ∀ (k0_h4 : k0_cond4 i v0 = 1#1), ∀ a, (k0_off594 i v0) a + S1.size a ≤ S86016.size a := fun i v0 k0_hw257 k0_h4 => k0_hw257.2.2.2.2.2.1.2.2.2.2.2.2.2.1 k0_h4
theorem k0_off596_inb : ∀ (i : grid0.Coords) (v0 : BitVec 32) (k0_hw257 : k0_chk257 i v0), ∀ (k0_h4 : k0_cond4 i v0 = 1#1), ∀ a, (k0_off596 i v0) a + S1.size a ≤ S86016.size a := fun i v0 k0_hw257 k0_h4 => k0_hw257.2.2.2.2.2.1.2.2.2.2.2.2.2.2.1 k0_h4
theorem k0_off598_inb : ∀ (i : grid0.Coords) (v0 : BitVec 32) (k0_hw257 : k0_chk257 i v0), ∀ (k0_h4 : k0_cond4 i v0 = 1#1), ∀ a, (k0_off598 i v0) a + S1.size a ≤ S86016.size a := fun i v0 k0_hw257 k0_h4 => k0_hw257.2.2.2.2.2.1.2.2.2.2.2.2.2.2.2.1 k0_h4
theorem k0_off600_inb : ∀ (i : grid0.Coords) (v0 : BitVec 32) (k0_hw257 : k0_chk257 i v0), ∀ (k0_h4 : k0_cond4 i v0 = 1#1), ∀ a, (k0_off600 i v0) a + S1.size a ≤ S86016.size a := fun i v0 k0_hw257 k0_h4 => k0_hw257.2.2.2.2.2.1.2.2.2.2.2.2.2.2.2.2.1 k0_h4
theorem k0_off602_inb : ∀ (i : grid0.Coords) (v0 : BitVec 32) (k0_hw257 : k0_chk257 i v0), ∀ (k0_h4 : k0_cond4 i v0 = 1#1), ∀ a, (k0_off602 i v0) a + S1.size a ≤ S86016.size a := fun i v0 k0_hw257 k0_h4 => k0_hw257.2.2.2.2.2.1.2.2.2.2.2.2.2.2.2.2.2.1 k0_h4
theorem k0_off604_inb : ∀ (i : grid0.Coords) (v0 : BitVec 32) (k0_hw257 : k0_chk257 i v0), ∀ (k0_h4 : k0_cond4 i v0 = 1#1), ∀ a, (k0_off604 i v0) a + S1.size a ≤ S86016.size a := fun i v0 k0_hw257 k0_h4 => k0_hw257.2.2.2.2.2.1.2.2.2.2.2.2.2.2.2.2.2.2.1 k0_h4
theorem k0_off606_inb : ∀ (i : grid0.Coords) (v0 : BitVec 32) (k0_hw257 : k0_chk257 i v0), ∀ (k0_h4 : k0_cond4 i v0 = 1#1), ∀ a, (k0_off606 i v0) a + S1.size a ≤ S86016.size a := fun i v0 k0_hw257 k0_h4 => k0_hw257.2.2.2.2.2.1.2.2.2.2.2.2.2.2.2.2.2.2.2.1 k0_h4
theorem k0_off608_inb : ∀ (i : grid0.Coords) (v0 : BitVec 32) (k0_hw257 : k0_chk257 i v0), ∀ (k0_h4 : k0_cond4 i v0 = 1#1), ∀ a, (k0_off608 i v0) a + S1.size a ≤ S86016.size a := fun i v0 k0_hw257 k0_h4 => k0_hw257.2.2.2.2.2.1.2.2.2.2.2.2.2.2.2.2.2.2.2.2.1 k0_h4
theorem k0_off610_inb : ∀ (i : grid0.Coords) (v0 : BitVec 32) (k0_hw257 : k0_chk257 i v0), ∀ (k0_h4 : k0_cond4 i v0 = 1#1), ∀ a, (k0_off610 i v0) a + S1.size a ≤ S86016.size a := fun i v0 k0_hw257 k0_h4 => k0_hw257.2.2.2.2.2.1.2.2.2.2.2.2.2.2.2.2.2.2.2.2.2.1 k0_h4
theorem k0_off612_inb : ∀ (i : grid0.Coords) (v0 : BitVec 32) (k0_hw257 : k0_chk257 i v0), ∀ (k0_h4 : k0_cond4 i v0 = 1#1), ∀ a, (k0_off612 i v0) a + S1.size a ≤ S86016.size a := fun i v0 k0_hw257 k0_h4 => k0_hw257.2.2.2.2.2.1.2.2.2.2.2.2.2.2.2.2.2.2.2.2.2.2.1 k0_h4
theorem k0_off614_inb : ∀ (i : grid0.Coords) (v0 : BitVec 32) (k0_hw257 : k0_chk257 i v0), ∀ (k0_h4 : k0_cond4 i v0 = 1#1), ∀ a, (k0_off614 i v0) a + S1.size a ≤ S86016.size a := fun i v0 k0_hw257 k0_h4 => k0_hw257.2.2.2.2.2.1.2.2.2.2.2.2.2.2.2.2.2.2.2.2.2.2.2.1 k0_h4
theorem k0_off616_inb : ∀ (i : grid0.Coords) (v0 : BitVec 32) (k0_hw257 : k0_chk257 i v0), ∀ (k0_h4 : k0_cond4 i v0 = 1#1), ∀ a, (k0_off616 i v0) a + S1.size a ≤ S86016.size a := fun i v0 k0_hw257 k0_h4 => k0_hw257.2.2.2.2.2.1.2.2.2.2.2.2.2.2.2.2.2.2.2.2.2.2.2.2.1 k0_h4
theorem k0_off618_inb : ∀ (i : grid0.Coords) (v0 : BitVec 32) (k0_hw257 : k0_chk257 i v0), ∀ (k0_h4 : k0_cond4 i v0 = 1#1), ∀ a, (k0_off618 i v0) a + S1.size a ≤ S86016.size a := fun i v0 k0_hw257 k0_h4 => k0_hw257.2.2.2.2.2.1.2.2.2.2.2.2.2.2.2.2.2.2.2.2.2.2.2.2.2.1 k0_h4
theorem k0_off620_inb : ∀ (i : grid0.Coords) (v0 : BitVec 32) (k0_hw257 : k0_chk257 i v0), ∀ (k0_h4 : k0_cond4 i v0 = 1#1), ∀ a, (k0_off620 i v0) a + S1.size a ≤ S86016.size a := fun i v0 k0_hw257 k0_h4 => k0_hw257.2.2.2.2.2.1.2.2.2.2.2.2.2.2.2.2.2.2.2.2.2.2.2.2.2.2.1 k0_h4
theorem k0_off622_inb : ∀ (i : grid0.Coords) (v0 : BitVec 32) (k0_hw257 : k0_chk257 i v0), ∀ (k0_h4 : k0_cond4 i v0 = 1#1), ∀ a, (k0_off622 i v0) a + S1.size a ≤ S86016.size a := fun i v0 k0_hw257 k0_h4 => k0_hw257.2.2.2.2.2.1.2.2.2.2.2.2.2.2.2.2.2.2.2.2.2.2.2.2.2.2.2.1 k0_h4
theorem k0_off624_inb : ∀ (i : grid0.Coords) (v0 : BitVec 32) (k0_hw257 : k0_chk257 i v0), ∀ (k0_h4 : k0_cond4 i v0 = 1#1), ∀ a, (k0_off624 i v0) a + S1.size a ≤ S86016.size a := fun i v0 k0_hw257 k0_h4 => k0_hw257.2.2.2.2.2.1.2.2.2.2.2.2.2.2.2.2.2.2.2.2.2.2.2.2.2.2.2.2.1 k0_h4
theorem k0_off626_inb : ∀ (i : grid0.Coords) (v0 : BitVec 32) (k0_hw257 : k0_chk257 i v0), ∀ (k0_h4 : k0_cond4 i v0 = 1#1), ∀ a, (k0_off626 i v0) a + S1.size a ≤ S86016.size a := fun i v0 k0_hw257 k0_h4 => k0_hw257.2.2.2.2.2.1.2.2.2.2.2.2.2.2.2.2.2.2.2.2.2.2.2.2.2.2.2.2.2.1 k0_h4
theorem k0_off628_inb : ∀ (i : grid0.Coords) (v0 : BitVec 32) (k0_hw257 : k0_chk257 i v0), ∀ (k0_h4 : k0_cond4 i v0 = 1#1), ∀ a, (k0_off628 i v0) a + S1.size a ≤ S86016.size a := fun i v0 k0_hw257 k0_h4 => k0_hw257.2.2.2.2.2.1.2.2.2.2.2.2.2.2.2.2.2.2.2.2.2.2.2.2.2.2.2.2.2.2.1 k0_h4
theorem k0_off630_inb : ∀ (i : grid0.Coords) (v0 : BitVec 32) (k0_hw257 : k0_chk257 i v0), ∀ (k0_h4 : k0_cond4 i v0 = 1#1), ∀ a, (k0_off630 i v0) a + S1.size a ≤ S86016.size a := fun i v0 k0_hw257 k0_h4 => k0_hw257.2.2.2.2.2.1.2.2.2.2.2.2.2.2.2.2.2.2.2.2.2.2.2.2.2.2.2.2.2.2.2.1 k0_h4
theorem k0_off632_inb : ∀ (i : grid0.Coords) (v0 : BitVec 32) (k0_hw257 : k0_chk257 i v0), ∀ (k0_h4 : k0_cond4 i v0 = 1#1), ∀ a, (k0_off632 i v0) a + S1.size a ≤ S86016.size a := fun i v0 k0_hw257 k0_h4 => k0_hw257.2.2.2.2.2.1.2.2.2.2.2.2.2.2.2.2.2.2.2.2.2.2.2.2.2.2.2.2.2.2.2.2.1 k0_h4
theorem k0_off634_inb : ∀ (i : grid0.Coords) (v0 : BitVec 32) (k0_hw257 : k0_chk257 i v0), ∀ (k0_h4 : k0_cond4 i v0 = 1#1), ∀ a, (k0_off634 i v0) a + S1.size a ≤ S86016.size a := fun i v0 k0_hw257 k0_h4 => k0_hw257.2.2.2.2.2.1.2.2.2.2.2.2.2.2.2.2.2.2.2.2.2.2.2.2.2.2.2.2.2.2.2.2.2.1 k0_h4
theorem k0_off636_inb : ∀ (i : grid0.Coords) (v0 : BitVec 32) (k0_hw257 : k0_chk257 i v0), ∀ (k0_h4 : k0_cond4 i v0 = 1#1), ∀ a, (k0_off636 i v0) a + S1.size a ≤ S86016.size a := fun i v0 k0_hw257 k0_h4 => k0_hw257.2.2.2.2.2.1.2.2.2.2.2.2.2.2.2.2.2.2.2.2.2.2.2.2.2.2.2.2.2.2.2.2.2.2.1 k0_h4
theorem k0_off638_inb : ∀ (i : grid0.Coords) (v0 : BitVec 32) (k0_hw257 : k0_chk257 i v0), ∀ (k0_h4 : k0_cond4 i v0 = 1#1), ∀ a, (k0_off638 i v0) a + S1.size a ≤ S86016.size a := fun i v0 k0_hw257 k0_h4 => k0_hw257.2.2.2.2.2.1.2.2.2.2.2.2.2.2.2.2.2.2.2.2.2.2.2.2.2.2.2.2.2.2.2.2.2.2.2.1 k0_h4
theorem k0_off640_inb : ∀ (i : grid0.Coords) (v0 : BitVec 32) (k0_hw257 : k0_chk257 i v0), ∀ (k0_h4 : k0_cond4 i v0 = 1#1), ∀ a, (k0_off640 i v0) a + S1.size a ≤ S86016.size a := fun i v0 k0_hw257 k0_h4 => k0_hw257.2.2.2.2.2.1.2.2.2.2.2.2.2.2.2.2.2.2.2.2.2.2.2.2.2.2.2.2.2.2.2.2.2.2.2.2.1 k0_h4
theorem k0_off642_inb : ∀ (i : grid0.Coords) (v0 : BitVec 32) (k0_hw257 : k0_chk257 i v0), ∀ (k0_h4 : k0_cond4 i v0 = 1#1), ∀ a, (k0_off642 i v0) a + S1.size a ≤ S86016.size a := fun i v0 k0_hw257 k0_h4 => k0_hw257.2.2.2.2.2.1.2.2.2.2.2.2.2.2.2.2.2.2.2.2.2.2.2.2.2.2.2.2.2.2.2.2.2.2.2.2.2 k0_h4
theorem k0_off644_inb : ∀ (i : grid0.Coords) (v0 : BitVec 32) (k0_hw257 : k0_chk257 i v0), ∀ (k0_h4 : k0_cond4 i v0 = 1#1), ∀ a, (k0_off644 i v0) a + S1.size a ≤ S86016.size a := fun i v0 k0_hw257 k0_h4 => k0_hw257.2.2.2.2.2.2.1.1 k0_h4
theorem k0_off646_inb : ∀ (i : grid0.Coords) (v0 : BitVec 32) (k0_hw257 : k0_chk257 i v0), ∀ (k0_h4 : k0_cond4 i v0 = 1#1), ∀ a, (k0_off646 i v0) a + S1.size a ≤ S86016.size a := fun i v0 k0_hw257 k0_h4 => k0_hw257.2.2.2.2.2.2.1.2.1 k0_h4
theorem k0_off648_inb : ∀ (i : grid0.Coords) (v0 : BitVec 32) (k0_hw257 : k0_chk257 i v0), ∀ (k0_h4 : k0_cond4 i v0 = 1#1), ∀ a, (k0_off648 i v0) a + S1.size a ≤ S86016.size a := fun i v0 k0_hw257 k0_h4 => k0_hw257.2.2.2.2.2.2.1.2.2.1 k0_h4
theorem k0_off650_inb : ∀ (i : grid0.Coords) (v0 : BitVec 32) (k0_hw257 : k0_chk257 i v0), ∀ (k0_h4 : k0_cond4 i v0 = 1#1), ∀ a, (k0_off650 i v0) a + S1.size a ≤ S86016.size a := fun i v0 k0_hw257 k0_h4 => k0_hw257.2.2.2.2.2.2.1.2.2.2.1 k0_h4
theorem k0_off652_inb : ∀ (i : grid0.Coords) (v0 : BitVec 32) (k0_hw257 : k0_chk257 i v0), ∀ (k0_h4 : k0_cond4 i v0 = 1#1), ∀ a, (k0_off652 i v0) a + S1.size a ≤ S86016.size a := fun i v0 k0_hw257 k0_h4 => k0_hw257.2.2.2.2.2.2.1.2.2.2.2.1 k0_h4
theorem k0_off654_inb : ∀ (i : grid0.Coords) (v0 : BitVec 32) (k0_hw257 : k0_chk257 i v0), ∀ (k0_h4 : k0_cond4 i v0 = 1#1), ∀ a, (k0_off654 i v0) a + S1.size a ≤ S86016.size a := fun i v0 k0_hw257 k0_h4 => k0_hw257.2.2.2.2.2.2.1.2.2.2.2.2.1 k0_h4
theorem k0_off656_inb : ∀ (i : grid0.Coords) (v0 : BitVec 32) (k0_hw257 : k0_chk257 i v0), ∀ (k0_h4 : k0_cond4 i v0 = 1#1), ∀ a, (k0_off656 i v0) a + S1.size a ≤ S86016.size a := fun i v0 k0_hw257 k0_h4 => k0_hw257.2.2.2.2.2.2.1.2.2.2.2.2.2.1 k0_h4
theorem k0_off658_inb : ∀ (i : grid0.Coords) (v0 : BitVec 32) (k0_hw257 : k0_chk257 i v0), ∀ (k0_h4 : k0_cond4 i v0 = 1#1), ∀ a, (k0_off658 i v0) a + S1.size a ≤ S86016.size a := fun i v0 k0_hw257 k0_h4 => k0_hw257.2.2.2.2.2.2.1.2.2.2.2.2.2.2.1 k0_h4
theorem k0_off660_inb : ∀ (i : grid0.Coords) (v0 : BitVec 32) (k0_hw257 : k0_chk257 i v0), ∀ (k0_h4 : k0_cond4 i v0 = 1#1), ∀ a, (k0_off660 i v0) a + S1.size a ≤ S86016.size a := fun i v0 k0_hw257 k0_h4 => k0_hw257.2.2.2.2.2.2.1.2.2.2.2.2.2.2.2.1 k0_h4
theorem k0_off662_inb : ∀ (i : grid0.Coords) (v0 : BitVec 32) (k0_hw257 : k0_chk257 i v0), ∀ (k0_h4 : k0_cond4 i v0 = 1#1), ∀ a, (k0_off662 i v0) a + S1.size a ≤ S86016.size a := fun i v0 k0_hw257 k0_h4 => k0_hw257.2.2.2.2.2.2.1.2.2.2.2.2.2.2.2.2.1 k0_h4
theorem k0_off664_inb : ∀ (i : grid0.Coords) (v0 : BitVec 32) (k0_hw257 : k0_chk257 i v0), ∀ (k0_h4 : k0_cond4 i v0 = 1#1), ∀ a, (k0_off664 i v0) a + S1.size a ≤ S86016.size a := fun i v0 k0_hw257 k0_h4 => k0_hw257.2.2.2.2.2.2.1.2.2.2.2.2.2.2.2.2.2.1 k0_h4
theorem k0_off666_inb : ∀ (i : grid0.Coords) (v0 : BitVec 32) (k0_hw257 : k0_chk257 i v0), ∀ (k0_h4 : k0_cond4 i v0 = 1#1), ∀ a, (k0_off666 i v0) a + S1.size a ≤ S86016.size a := fun i v0 k0_hw257 k0_h4 => k0_hw257.2.2.2.2.2.2.1.2.2.2.2.2.2.2.2.2.2.2.1 k0_h4
theorem k0_off668_inb : ∀ (i : grid0.Coords) (v0 : BitVec 32) (k0_hw257 : k0_chk257 i v0), ∀ (k0_h4 : k0_cond4 i v0 = 1#1), ∀ a, (k0_off668 i v0) a + S1.size a ≤ S86016.size a := fun i v0 k0_hw257 k0_h4 => k0_hw257.2.2.2.2.2.2.1.2.2.2.2.2.2.2.2.2.2.2.2.1 k0_h4
theorem k0_off670_inb : ∀ (i : grid0.Coords) (v0 : BitVec 32) (k0_hw257 : k0_chk257 i v0), ∀ (k0_h4 : k0_cond4 i v0 = 1#1), ∀ a, (k0_off670 i v0) a + S1.size a ≤ S86016.size a := fun i v0 k0_hw257 k0_h4 => k0_hw257.2.2.2.2.2.2.1.2.2.2.2.2.2.2.2.2.2.2.2.2.1 k0_h4
theorem k0_off672_inb : ∀ (i : grid0.Coords) (v0 : BitVec 32) (k0_hw257 : k0_chk257 i v0), ∀ (k0_h4 : k0_cond4 i v0 = 1#1), ∀ a, (k0_off672 i v0) a + S1.size a ≤ S86016.size a := fun i v0 k0_hw257 k0_h4 => k0_hw257.2.2.2.2.2.2.1.2.2.2.2.2.2.2.2.2.2.2.2.2.2.1 k0_h4
theorem k0_off674_inb : ∀ (i : grid0.Coords) (v0 : BitVec 32) (k0_hw257 : k0_chk257 i v0), ∀ (k0_h4 : k0_cond4 i v0 = 1#1), ∀ a, (k0_off674 i v0) a + S1.size a ≤ S86016.size a := fun i v0 k0_hw257 k0_h4 => k0_hw257.2.2.2.2.2.2.1.2.2.2.2.2.2.2.2.2.2.2.2.2.2.2.1 k0_h4
theorem k0_off676_inb : ∀ (i : grid0.Coords) (v0 : BitVec 32) (k0_hw257 : k0_chk257 i v0), ∀ (k0_h4 : k0_cond4 i v0 = 1#1), ∀ a, (k0_off676 i v0) a + S1.size a ≤ S86016.size a := fun i v0 k0_hw257 k0_h4 => k0_hw257.2.2.2.2.2.2.1.2.2.2.2.2.2.2.2.2.2.2.2.2.2.2.2.1 k0_h4
theorem k0_off678_inb : ∀ (i : grid0.Coords) (v0 : BitVec 32) (k0_hw257 : k0_chk257 i v0), ∀ (k0_h4 : k0_cond4 i v0 = 1#1), ∀ a, (k0_off678 i v0) a + S1.size a ≤ S86016.size a := fun i v0 k0_hw257 k0_h4 => k0_hw257.2.2.2.2.2.2.1.2.2.2.2.2.2.2.2.2.2.2.2.2.2.2.2.2.1 k0_h4
theorem k0_off680_inb : ∀ (i : grid0.Coords) (v0 : BitVec 32) (k0_hw257 : k0_chk257 i v0), ∀ (k0_h4 : k0_cond4 i v0 = 1#1), ∀ a, (k0_off680 i v0) a + S1.size a ≤ S86016.size a := fun i v0 k0_hw257 k0_h4 => k0_hw257.2.2.2.2.2.2.1.2.2.2.2.2.2.2.2.2.2.2.2.2.2.2.2.2.2.1 k0_h4
theorem k0_off682_inb : ∀ (i : grid0.Coords) (v0 : BitVec 32) (k0_hw257 : k0_chk257 i v0), ∀ (k0_h4 : k0_cond4 i v0 = 1#1), ∀ a, (k0_off682 i v0) a + S1.size a ≤ S86016.size a := fun i v0 k0_hw257 k0_h4 => k0_hw257.2.2.2.2.2.2.1.2.2.2.2.2.2.2.2.2.2.2.2.2.2.2.2.2.2.2.1 k0_h4
theorem k0_off684_inb : ∀ (i : grid0.Coords) (v0 : BitVec 32) (k0_hw257 : k0_chk257 i v0), ∀ (k0_h4 : k0_cond4 i v0 = 1#1), ∀ a, (k0_off684 i v0) a + S1.size a ≤ S86016.size a := fun i v0 k0_hw257 k0_h4 => k0_hw257.2.2.2.2.2.2.1.2.2.2.2.2.2.2.2.2.2.2.2.2.2.2.2.2.2.2.2.1 k0_h4
theorem k0_off686_inb : ∀ (i : grid0.Coords) (v0 : BitVec 32) (k0_hw257 : k0_chk257 i v0), ∀ (k0_h4 : k0_cond4 i v0 = 1#1), ∀ a, (k0_off686 i v0) a + S1.size a ≤ S86016.size a := fun i v0 k0_hw257 k0_h4 => k0_hw257.2.2.2.2.2.2.1.2.2.2.2.2.2.2.2.2.2.2.2.2.2.2.2.2.2.2.2.2.1 k0_h4
theorem k0_off688_inb : ∀ (i : grid0.Coords) (v0 : BitVec 32) (k0_hw257 : k0_chk257 i v0), ∀ (k0_h4 : k0_cond4 i v0 = 1#1), ∀ a, (k0_off688 i v0) a + S1.size a ≤ S86016.size a := fun i v0 k0_hw257 k0_h4 => k0_hw257.2.2.2.2.2.2.1.2.2.2.2.2.2.2.2.2.2.2.2.2.2.2.2.2.2.2.2.2.2.1 k0_h4
theorem k0_off690_inb : ∀ (i : grid0.Coords) (v0 : BitVec 32) (k0_hw257 : k0_chk257 i v0), ∀ (k0_h4 : k0_cond4 i v0 = 1#1), ∀ a, (k0_off690 i v0) a + S1.size a ≤ S86016.size a := fun i v0 k0_hw257 k0_h4 => k0_hw257.2.2.2.2.2.2.1.2.2.2.2.2.2.2.2.2.2.2.2.2.2.2.2.2.2.2.2.2.2.2.1 k0_h4
theorem k0_off692_inb : ∀ (i : grid0.Coords) (v0 : BitVec 32) (k0_hw257 : k0_chk257 i v0), ∀ (k0_h4 : k0_cond4 i v0 = 1#1), ∀ a, (k0_off692 i v0) a + S1.size a ≤ S86016.size a := fun i v0 k0_hw257 k0_h4 => k0_hw257.2.2.2.2.2.2.1.2.2.2.2.2.2.2.2.2.2.2.2.2.2.2.2.2.2.2.2.2.2.2.2.1 k0_h4
theorem k0_off694_inb : ∀ (i : grid0.Coords) (v0 : BitVec 32) (k0_hw257 : k0_chk257 i v0), ∀ (k0_h4 : k0_cond4 i v0 = 1#1), ∀ a, (k0_off694 i v0) a + S1.size a ≤ S86016.size a := fun i v0 k0_hw257 k0_h4 => k0_hw257.2.2.2.2.2.2.1.2.2.2.2.2.2.2.2.2.2.2.2.2.2.2.2.2.2.2.2.2.2.2.2.2.1 k0_h4
theorem k0_off696_inb : ∀ (i : grid0.Coords) (v0 : BitVec 32) (k0_hw257 : k0_chk257 i v0), ∀ (k0_h4 : k0_cond4 i v0 = 1#1), ∀ a, (k0_off696 i v0) a + S1.size a ≤ S86016.size a := fun i v0 k0_hw257 k0_h4 => k0_hw257.2.2.2.2.2.2.1.2.2.2.2.2.2.2.2.2.2.2.2.2.2.2.2.2.2.2.2.2.2.2.2.2.2.1 k0_h4
theorem k0_off698_inb : ∀ (i : grid0.Coords) (v0 : BitVec 32) (k0_hw257 : k0_chk257 i v0), ∀ (k0_h4 : k0_cond4 i v0 = 1#1), ∀ a, (k0_off698 i v0) a + S1.size a ≤ S86016.size a := fun i v0 k0_hw257 k0_h4 => k0_hw257.2.2.2.2.2.2.1.2.2.2.2.2.2.2.2.2.2.2.2.2.2.2.2.2.2.2.2.2.2.2.2.2.2.2.1 k0_h4
theorem k0_off700_inb : ∀ (i : grid0.Coords) (v0 : BitVec 32) (k0_hw257 : k0_chk257 i v0), ∀ (k0_h4 : k0_cond4 i v0 = 1#1), ∀ a, (k0_off700 i v0) a + S1.size a ≤ S86016.size a := fun i v0 k0_hw257 k0_h4 => k0_hw257.2.2.2.2.2.2.1.2.2.2.2.2.2.2.2.2.2.2.2.2.2.2.2.2.2.2.2.2.2.2.2.2.2.2.2.1 k0_h4
theorem k0_off702_inb : ∀ (i : grid0.Coords) (v0 : BitVec 32) (k0_hw257 : k0_chk257 i v0), ∀ (k0_h4 : k0_cond4 i v0 = 1#1), ∀ a, (k0_off702 i v0) a + S1.size a ≤ S86016.size a := fun i v0 k0_hw257 k0_h4 => k0_hw257.2.2.2.2.2.2.1.2.2.2.2.2.2.2.2.2.2.2.2.2.2.2.2.2.2.2.2.2.2.2.2.2.2.2.2.2.1 k0_h4
theorem k0_off704_inb : ∀ (i : grid0.Coords) (v0 : BitVec 32) (k0_hw257 : k0_chk257 i v0), ∀ (k0_h4 : k0_cond4 i v0 = 1#1), ∀ a, (k0_off704 i v0) a + S1.size a ≤ S86016.size a := fun i v0 k0_hw257 k0_h4 => k0_hw257.2.2.2.2.2.2.1.2.2.2.2.2.2.2.2.2.2.2.2.2.2.2.2.2.2.2.2.2.2.2.2.2.2.2.2.2.2.1 k0_h4
theorem k0_off706_inb : ∀ (i : grid0.Coords) (v0 : BitVec 32) (k0_hw257 : k0_chk257 i v0), ∀ (k0_h4 : k0_cond4 i v0 = 1#1), ∀ a, (k0_off706 i v0) a + S1.size a ≤ S86016.size a := fun i v0 k0_hw257 k0_h4 => k0_hw257.2.2.2.2.2.2.1.2.2.2.2.2.2.2.2.2.2.2.2.2.2.2.2.2.2.2.2.2.2.2.2.2.2.2.2.2.2.2 k0_h4
theorem k0_off708_inb : ∀ (i : grid0.Coords) (v0 : BitVec 32) (k0_hw257 : k0_chk257 i v0), ∀ (k0_h4 : k0_cond4 i v0 = 1#1), ∀ a, (k0_off708 i v0) a + S1.size a ≤ S86016.size a := fun i v0 k0_hw257 k0_h4 => k0_hw257.2.2.2.2.2.2.2.1.1 k0_h4
theorem k0_off710_inb : ∀ (i : grid0.Coords) (v0 : BitVec 32) (k0_hw257 : k0_chk257 i v0), ∀ (k0_h4 : k0_cond4 i v0 = 1#1), ∀ a, (k0_off710 i v0) a + S1.size a ≤ S86016.size a := fun i v0 k0_hw257 k0_h4 => k0_hw257.2.2.2.2.2.2.2.1.2.1 k0_h4
theorem k0_off712_inb : ∀ (i : grid0.Coords) (v0 : BitVec 32) (k0_hw257 : k0_chk257 i v0), ∀ (k0_h4 : k0_cond4 i v0 = 1#1), ∀ a, (k0_off712 i v0) a + S1.size a ≤ S86016.size a := fun i v0 k0_hw257 k0_h4 => k0_hw257.2.2.2.2.2.2.2.1.2.2.1 k0_h4
theorem k0_off714_inb : ∀ (i : grid0.Coords) (v0 : BitVec 32) (k0_hw257 : k0_chk257 i v0), ∀ (k0_h4 : k0_cond4 i v0 = 1#1), ∀ a, (k0_off714 i v0) a + S1.size a ≤ S86016.size a := fun i v0 k0_hw257 k0_h4 => k0_hw257.2.2.2.2.2.2.2.1.2.2.2.1 k0_h4
theorem k0_off716_inb : ∀ (i : grid0.Coords) (v0 : BitVec 32) (k0_hw257 : k0_chk257 i v0), ∀ (k0_h4 : k0_cond4 i v0 = 1#1), ∀ a, (k0_off716 i v0) a + S1.size a ≤ S86016.size a := fun i v0 k0_hw257 k0_h4 => k0_hw257.2.2.2.2.2.2.2.1.2.2.2.2.1 k0_h4
theorem k0_off718_inb : ∀ (i : grid0.Coords) (v0 : BitVec 32) (k0_hw257 : k0_chk257 i v0), ∀ (k0_h4 : k0_cond4 i v0 = 1#1), ∀ a, (k0_off718 i v0) a + S1.size a ≤ S86016.size a := fun i v0 k0_hw257 k0_h4 => k0_hw257.2.2.2.2.2.2.2.1.2.2.2.2.2.1 k0_h4
theorem k0_off720_inb : ∀ (i : grid0.Coords) (v0 : BitVec 32) (k0_hw257 : k0_chk257 i v0), ∀ (k0_h4 : k0_cond4 i v0 = 1#1), ∀ a, (k0_off720 i v0) a + S1.size a ≤ S86016.size a := fun i v0 k0_hw257 k0_h4 => k0_hw257.2.2.2.2.2.2.2.1.2.2.2.2.2.2.1 k0_h4
theorem k0_off722_inb : ∀ (i : grid0.Coords) (v0 : BitVec 32) (k0_hw257 : k0_chk257 i v0), ∀ (k0_h4 : k0_cond4 i v0 = 1#1), ∀ a, (k0_off722 i v0) a + S1.size a ≤ S86016.size a := fun i v0 k0_hw257 k0_h4 => k0_hw257.2.2.2.2.2.2.2.1.2.2.2.2.2.2.2.1 k0_h4
theorem k0_off724_inb : ∀ (i : grid0.Coords) (v0 : BitVec 32) (k0_hw257 : k0_chk257 i v0), ∀ (k0_h4 : k0_cond4 i v0 = 1#1), ∀ a, (k0_off724 i v0) a + S1.size a ≤ S86016.size a := fun i v0 k0_hw257 k0_h4 => k0_hw257.2.2.2.2.2.2.2.1.2.2.2.2.2.2.2.2.1 k0_h4
theorem k0_off726_inb : ∀ (i : grid0.Coords) (v0 : BitVec 32) (k0_hw257 : k0_chk257 i v0), ∀ (k0_h4 : k0_cond4 i v0 = 1#1), ∀ a, (k0_off726 i v0) a + S1.size a ≤ S86016.size a := fun i v0 k0_hw257 k0_h4 => k0_hw257.2.2.2.2.2.2.2.1.2.2.2.2.2.2.2.2.2.1 k0_h4
theorem k0_off728_inb : ∀ (i : grid0.Coords) (v0 : BitVec 32) (k0_hw257 : k0_chk257 i v0), ∀ (k0_h4 : k0_cond4 i v0 = 1#1), ∀ a, (k0_off728 i v0) a + S1.size a ≤ S86016.size a := fun i v0 k0_hw257 k0_h4 => k0_hw257.2.2.2.2.2.2.2.1.2.2.2.2.2.2.2.2.2.2.1 k0_h4
theorem k0_off730_inb : ∀ (i : grid0.Coords) (v0 : BitVec 32) (k0_hw257 : k0_chk257 i v0), ∀ (k0_h4 : k0_cond4 i v0 = 1#1), ∀ a, (k0_off730 i v0) a + S1.size a ≤ S86016.size a := fun i v0 k0_hw257 k0_h4 => k0_hw257.2.2.2.2.2.2.2.1.2.2.2.2.2.2.2.2.2.2.2.1 k0_h4
theorem k0_off732_inb : ∀ (i : grid0.Coords) (v0 : BitVec 32) (k0_hw257 : k0_chk257 i v0), ∀ (k0_h4 : k0_cond4 i v0 = 1#1), ∀ a, (k0_off732 i v0) a + S1.size a ≤ S86016.size a := fun i v0 k0_hw257 k0_h4 => k0_hw257.2.2.2.2.2.2.2.1.2.2.2.2.2.2.2.2.2.2.2.2.1 k0_h4
theorem k0_off734_inb : ∀ (i : grid0.Coords) (v0 : BitVec 32) (k0_hw257 : k0_chk257 i v0), ∀ (k0_h4 : k0_cond4 i v0 = 1#1), ∀ a, (k0_off734 i v0) a + S1.size a ≤ S86016.size a := fun i v0 k0_hw257 k0_h4 => k0_hw257.2.2.2.2.2.2.2.1.2.2.2.2.2.2.2.2.2.2.2.2.2.1 k0_h4
theorem k0_off736_inb : ∀ (i : grid0.Coords) (v0 : BitVec 32) (k0_hw257 : k0_chk257 i v0), ∀ (k0_h4 : k0_cond4 i v0 = 1#1), ∀ a, (k0_off736 i v0) a + S1.size a ≤ S86016.size a := fun i v0 k0_hw257 k0_h4 => k0_hw257.2.2.2.2.2.2.2.1.2.2.2.2.2.2.2.2.2.2.2.2.2.2.1 k0_h4
theorem k0_off738_inb : ∀ (i : grid0.Coords) (v0 : BitVec 32) (k0_hw257 : k0_chk257 i v0), ∀ (k0_h4 : k0_cond4 i v0 = 1#1), ∀ a, (k0_off738 i v0) a + S1.size a ≤ S86016.size a := fun i v0 k0_hw257 k0_h4 => k0_hw257.2.2.2.2.2.2.2.1.2.2.2.2.2.2.2.2.2.2.2.2.2.2.2.1 k0_h4
theorem k0_off740_inb : ∀ (i : grid0.Coords) (v0 : BitVec 32) (k0_hw257 : k0_chk257 i v0), ∀ (k0_h4 : k0_cond4 i v0 = 1#1), ∀ a, (k0_off740 i v0) a + S1.size a ≤ S86016.size a := fun i v0 k0_hw257 k0_h4 => k0_hw257.2.2.2.2.2.2.2.1.2.2.2.2.2.2.2.2.2.2.2.2.2.2.2.2.1 k0_h4
theorem k0_off742_inb : ∀ (i : grid0.Coords) (v0 : BitVec 32) (k0_hw257 : k0_chk257 i v0), ∀ (k0_h4 : k0_cond4 i v0 = 1#1), ∀ a, (k0_off742 i v0) a + S1.size a ≤ S86016.size a := fun i v0 k0_hw257 k0_h4 => k0_hw257.2.2.2.2.2.2.2.1.2.2.2.2.2.2.2.2.2.2.2.2.2.2.2.2.2.1 k0_h4
theorem k0_off744_inb : ∀ (i : grid0.Coords) (v0 : BitVec 32) (k0_hw257 : k0_chk257 i v0), ∀ (k0_h4 : k0_cond4 i v0 = 1#1), ∀ a, (k0_off744 i v0) a + S1.size a ≤ S86016.size a := fun i v0 k0_hw257 k0_h4 => k0_hw257.2.2.2.2.2.2.2.1.2.2.2.2.2.2.2.2.2.2.2.2.2.2.2.2.2.2.1 k0_h4
theorem k0_off746_inb : ∀ (i : grid0.Coords) (v0 : BitVec 32) (k0_hw257 : k0_chk257 i v0), ∀ (k0_h4 : k0_cond4 i v0 = 1#1), ∀ a, (k0_off746 i v0) a + S1.size a ≤ S86016.size a := fun i v0 k0_hw257 k0_h4 => k0_hw257.2.2.2.2.2.2.2.1.2.2.2.2.2.2.2.2.2.2.2.2.2.2.2.2.2.2.2.1 k0_h4
theorem k0_off748_inb : ∀ (i : grid0.Coords) (v0 : BitVec 32) (k0_hw257 : k0_chk257 i v0), ∀ (k0_h4 : k0_cond4 i v0 = 1#1), ∀ a, (k0_off748 i v0) a + S1.size a ≤ S86016.size a := fun i v0 k0_hw257 k0_h4 => k0_hw257.2.2.2.2.2.2.2.1.2.2.2.2.2.2.2.2.2.2.2.2.2.2.2.2.2.2.2.2.1 k0_h4
theorem k0_off750_inb : ∀ (i : grid0.Coords) (v0 : BitVec 32) (k0_hw257 : k0_chk257 i v0), ∀ (k0_h4 : k0_cond4 i v0 = 1#1), ∀ a, (k0_off750 i v0) a + S1.size a ≤ S86016.size a := fun i v0 k0_hw257 k0_h4 => k0_hw257.2.2.2.2.2.2.2.1.2.2.2.2.2.2.2.2.2.2.2.2.2.2.2.2.2.2.2.2.2.1 k0_h4
theorem k0_off752_inb : ∀ (i : grid0.Coords) (v0 : BitVec 32) (k0_hw257 : k0_chk257 i v0), ∀ (k0_h4 : k0_cond4 i v0 = 1#1), ∀ a, (k0_off752 i v0) a + S1.size a ≤ S86016.size a := fun i v0 k0_hw257 k0_h4 => k0_hw257.2.2.2.2.2.2.2.1.2.2.2.2.2.2.2.2.2.2.2.2.2.2.2.2.2.2.2.2.2.2.1 k0_h4
theorem k0_off754_inb : ∀ (i : grid0.Coords) (v0 : BitVec 32) (k0_hw257 : k0_chk257 i v0), ∀ (k0_h4 : k0_cond4 i v0 = 1#1), ∀ a, (k0_off754 i v0) a + S1.size a ≤ S86016.size a := fun i v0 k0_hw257 k0_h4 => k0_hw257.2.2.2.2.2.2.2.1.2.2.2.2.2.2.2.2.2.2.2.2.2.2.2.2.2.2.2.2.2.2.2.1 k0_h4
theorem k0_off756_inb : ∀ (i : grid0.Coords) (v0 : BitVec 32) (k0_hw257 : k0_chk257 i v0), ∀ (k0_h4 : k0_cond4 i v0 = 1#1), ∀ a, (k0_off756 i v0) a + S1.size a ≤ S86016.size a := fun i v0 k0_hw257 k0_h4 => k0_hw257.2.2.2.2.2.2.2.1.2.2.2.2.2.2.2.2.2.2.2.2.2.2.2.2.2.2.2.2.2.2.2.2.1 k0_h4
theorem k0_off758_inb : ∀ (i : grid0.Coords) (v0 : BitVec 32) (k0_hw257 : k0_chk257 i v0), ∀ (k0_h4 : k0_cond4 i v0 = 1#1), ∀ a, (k0_off758 i v0) a + S1.size a ≤ S86016.size a := fun i v0 k0_hw257 k0_h4 => k0_hw257.2.2.2.2.2.2.2.1.2.2.2.2.2.2.2.2.2.2.2.2.2.2.2.2.2.2.2.2.2.2.2.2.2.1 k0_h4
theorem k0_off760_inb : ∀ (i : grid0.Coords) (v0 : BitVec 32) (k0_hw257 : k0_chk257 i v0), ∀ (k0_h4 : k0_cond4 i v0 = 1#1), ∀ a, (k0_off760 i v0) a + S1.size a ≤ S86016.size a := fun i v0 k0_hw257 k0_h4 => k0_hw257.2.2.2.2.2.2.2.1.2.2.2.2.2.2.2.2.2.2.2.2.2.2.2.2.2.2.2.2.2.2.2.2.2.2.1 k0_h4
theorem k0_off762_inb : ∀ (i : grid0.Coords) (v0 : BitVec 32) (k0_hw257 : k0_chk257 i v0), ∀ (k0_h4 : k0_cond4 i v0 = 1#1), ∀ a, (k0_off762 i v0) a + S1.size a ≤ S86016.size a := fun i v0 k0_hw257 k0_h4 => k0_hw257.2.2.2.2.2.2.2.1.2.2.2.2.2.2.2.2.2.2.2.2.2.2.2.2.2.2.2.2.2.2.2.2.2.2.2.1 k0_h4
theorem k0_off764_inb : ∀ (i : grid0.Coords) (v0 : BitVec 32) (k0_hw257 : k0_chk257 i v0), ∀ (k0_h4 : k0_cond4 i v0 = 1#1), ∀ a, (k0_off764 i v0) a + S1.size a ≤ S86016.size a := fun i v0 k0_hw257 k0_h4 => k0_hw257.2.2.2.2.2.2.2.1.2.2.2.2.2.2.2.2.2.2.2.2.2.2.2.2.2.2.2.2.2.2.2.2.2.2.2.2.1 k0_h4
theorem k0_off766_inb : ∀ (i : grid0.Coords) (v0 : BitVec 32) (k0_hw257 : k0_chk257 i v0), ∀ (k0_h4 : k0_cond4 i v0 = 1#1), ∀ a, (k0_off766 i v0) a + S1.size a ≤ S86016.size a := fun i v0 k0_hw257 k0_h4 => k0_hw257.2.2.2.2.2.2.2.1.2.2.2.2.2.2.2.2.2.2.2.2.2.2.2.2.2.2.2.2.2.2.2.2.2.2.2.2.2.1 k0_h4
theorem k0_off768_inb : ∀ (i : grid0.Coords) (v0 : BitVec 32) (k0_hw257 : k0_chk257 i v0), ∀ (k0_h4 : k0_cond4 i v0 = 1#1), ∀ a, (k0_off768 i v0) a + S1.size a ≤ S86016.size a := fun i v0 k0_hw257 k0_h4 => k0_hw257.2.2.2.2.2.2.2.1.2.2.2.2.2.2.2.2.2.2.2.2.2.2.2.2.2.2.2.2.2.2.2.2.2.2.2.2.2.2.1 k0_h4
theorem k0_off770_inb : ∀ (i : grid0.Coords) (v0 : BitVec 32) (k0_hw257 : k0_chk257 i v0), ∀ (k0_h4 : k0_cond4 i v0 = 1#1), ∀ a, (k0_off770 i v0) a + S1.size a ≤ S86016.size a := fun i v0 k0_hw257 k0_h4 => k0_hw257.2.2.2.2.2.2.2.1.2.2.2.2.2.2.2.2.2.2.2.2.2.2.2.2.2.2.2.2.2.2.2.2.2.2.2.2.2.2.2 k0_h4
theorem k0_off772_inb : ∀ (i : grid0.Coords) (v0 : BitVec 32) (k0_hw257 : k0_chk257 i v0), ∀ (k0_h6 : k0_cond6 i v0 = 1#1), ∀ a, (k0_off772 i v0) a + S1.size a ≤ S86016.size a := fun i v0 k0_hw257 k0_h6 => k0_hw257.2.2.2.2.2.2.2.2.1.1 k0_h6
theorem k0_off774_inb : ∀ (i : grid0.Coords) (v0 : BitVec 32) (k0_hw257 : k0_chk257 i v0), ∀ (k0_h6 : k0_cond6 i v0 = 1#1), ∀ a, (k0_off774 i v0) a + S1.size a ≤ S86016.size a := fun i v0 k0_hw257 k0_h6 => k0_hw257.2.2.2.2.2.2.2.2.1.2.1 k0_h6
theorem k0_off776_inb : ∀ (i : grid0.Coords) (v0 : BitVec 32) (k0_hw257 : k0_chk257 i v0), ∀ (k0_h6 : k0_cond6 i v0 = 1#1), ∀ a, (k0_off776 i v0) a + S1.size a ≤ S86016.size a := fun i v0 k0_hw257 k0_h6 => k0_hw257.2.2.2.2.2.2.2.2.1.2.2.1 k0_h6
theorem k0_off778_inb : ∀ (i : grid0.Coords) (v0 : BitVec 32) (k0_hw257 : k0_chk257 i v0), ∀ (k0_h6 : k0_cond6 i v0 = 1#1), ∀ a, (k0_off778 i v0) a + S1.size a ≤ S86016.size a := fun i v0 k0_hw257 k0_h6 => k0_hw257.2.2.2.2.2.2.2.2.1.2.2.2.1 k0_h6
theorem k0_off780_inb : ∀ (i : grid0.Coords) (v0 : BitVec 32) (k0_hw257 : k0_chk257 i v0), ∀ (k0_h6 : k0_cond6 i v0 = 1#1), ∀ a, (k0_off780 i v0) a + S1.size a ≤ S86016.size a := fun i v0 k0_hw257 k0_h6 => k0_hw257.2.2.2.2.2.2.2.2.1.2.2.2.2.1 k0_h6
theorem k0_off782_inb : ∀ (i : grid0.Coords) (v0 : BitVec 32) (k0_hw257 : k0_chk257 i v0), ∀ (k0_h6 : k0_cond6 i v0 = 1#1), ∀ a, (k0_off782 i v0) a + S1.size a ≤ S86016.size a := fun i v0 k0_hw257 k0_h6 => k0_hw257.2.2.2.2.2.2.2.2.1.2.2.2.2.2.1 k0_h6
theorem k0_off784_inb : ∀ (i : grid0.Coords) (v0 : BitVec 32) (k0_hw257 : k0_chk257 i v0), ∀ (k0_h6 : k0_cond6 i v0 = 1#1), ∀ a, (k0_off784 i v0) a + S1.size a ≤ S86016.size a := fun i v0 k0_hw257 k0_h6 => k0_hw257.2.2.2.2.2.2.2.2.1.2.2.2.2.2.2.1 k0_h6
theorem k0_off786_inb : ∀ (i : grid0.Coords) (v0 : BitVec 32) (k0_hw257 : k0_chk257 i v0), ∀ (k0_h6 : k0_cond6 i v0 = 1#1), ∀ a, (k0_off786 i v0) a + S1.size a ≤ S86016.size a := fun i v0 k0_hw257 k0_h6 => k0_hw257.2.2.2.2.2.2.2.2.1.2.2.2.2.2.2.2.1 k0_h6
theorem k0_off788_inb : ∀ (i : grid0.Coords) (v0 : BitVec 32) (k0_hw257 : k0_chk257 i v0), ∀ (k0_h6 : k0_cond6 i v0 = 1#1), ∀ a, (k0_off788 i v0) a + S1.size a ≤ S86016.size a := fun i v0 k0_hw257 k0_h6 => k0_hw257.2.2.2.2.2.2.2.2.1.2.2.2.2.2.2.2.2.1 k0_h6
theorem k0_off790_inb : ∀ (i : grid0.Coords) (v0 : BitVec 32) (k0_hw257 : k0_chk257 i v0), ∀ (k0_h6 : k0_cond6 i v0 = 1#1), ∀ a, (k0_off790 i v0) a + S1.size a ≤ S86016.size a := fun i v0 k0_hw257 k0_h6 => k0_hw257.2.2.2.2.2.2.2.2.1.2.2.2.2.2.2.2.2.2.1 k0_h6
theorem k0_off792_inb : ∀ (i : grid0.Coords) (v0 : BitVec 32) (k0_hw257 : k0_chk257 i v0), ∀ (k0_h6 : k0_cond6 i v0 = 1#1), ∀ a, (k0_off792 i v0) a + S1.size a ≤ S86016.size a := fun i v0 k0_hw257 k0_h6 => k0_hw257.2.2.2.2.2.2.2.2.1.2.2.2.2.2.2.2.2.2.2.1 k0_h6
theorem k0_off794_inb : ∀ (i : grid0.Coords) (v0 : BitVec 32) (k0_hw257 : k0_chk257 i v0), ∀ (k0_h6 : k0_cond6 i v0 = 1#1), ∀ a, (k0_off794 i v0) a + S1.size a ≤ S86016.size a := fun i v0 k0_hw257 k0_h6 => k0_hw257.2.2.2.2.2.2.2.2.1.2.2.2.2.2.2.2.2.2.2.2.1 k0_h6
theorem k0_off796_inb : ∀ (i : grid0.Coords) (v0 : BitVec 32) (k0_hw257 : k0_chk257 i v0), ∀ (k0_h6 : k0_cond6 i v0 = 1#1), ∀ a, (k0_off796 i v0) a + S1.size a ≤ S86016.size a := fun i v0 k0_hw257 k0_h6 => k0_hw257.2.2.2.2.2.2.2.2.1.2.2.2.2.2.2.2.2.2.2.2.2.1 k0_h6
theorem k0_off798_inb : ∀ (i : grid0.Coords) (v0 : BitVec 32) (k0_hw257 : k0_chk257 i v0), ∀ (k0_h6 : k0_cond6 i v0 = 1#1), ∀ a, (k0_off798 i v0) a + S1.size a ≤ S86016.size a := fun i v0 k0_hw257 k0_h6 => k0_hw257.2.2.2.2.2.2.2.2.1.2.2.2.2.2.2.2.2.2.2.2.2.2.1 k0_h6
theorem k0_off800_inb : ∀ (i : grid0.Coords) (v0 : BitVec 32) (k0_hw257 : k0_chk257 i v0), ∀ (k0_h6 : k0_cond6 i v0 = 1#1), ∀ a, (k0_off800 i v0) a + S1.size a ≤ S86016.size a := fun i v0 k0_hw257 k0_h6 => k0_hw257.2.2.2.2.2.2.2.2.1.2.2.2.2.2.2.2.2.2.2.2.2.2.2.1 k0_h6
theorem k0_off802_inb : ∀ (i : grid0.Coords) (v0 : BitVec 32) (k0_hw257 : k0_chk257 i v0), ∀ (k0_h6 : k0_cond6 i v0 = 1#1), ∀ a, (k0_off802 i v0) a + S1.size a ≤ S86016.size a := fun i v0 k0_hw257 k0_h6 => k0_hw257.2.2.2.2.2.2.2.2.1.2.2.2.2.2.2.2.2.2.2.2.2.2.2.2.1 k0_h6
theorem k0_off804_inb : ∀ (i : grid0.Coords) (v0 : BitVec 32) (k0_hw257 : k0_chk257 i v0), ∀ (k0_h6 : k0_cond6 i v0 = 1#1), ∀ a, (k0_off804 i v0) a + S1.size a ≤ S86016.size a := fun i v0 k0_hw257 k0_h6 => k0_hw257.2.2.2.2.2.2.2.2.1.2.2.2.2.2.2.2.2.2.2.2.2.2.2.2.2.1 k0_h6
theorem k0_off806_inb : ∀ (i : grid0.Coords) (v0 : BitVec 32) (k0_hw257 : k0_chk257 i v0), ∀ (k0_h6 : k0_cond6 i v0 = 1#1), ∀ a, (k0_off806 i v0) a + S1.size a ≤ S86016.size a := fun i v0 k0_hw257 k0_h6 => k0_hw257.2.2.2.2.2.2.2.2.1.2.2.2.2.2.2.2.2.2.2.2.2.2.2.2.2.2.1 k0_h6
theorem k0_off808_inb : ∀ (i : grid0.Coords) (v0 : BitVec 32) (k0_hw257 : k0_chk257 i v0), ∀ (k0_h6 : k0_cond6 i v0 = 1#1), ∀ a, (k0_off808 i v0) a + S1.size a ≤ S86016.size a := fun i v0 k0_hw257 k0_h6 => k0_hw257.2.2.2.2.2.2.2.2.1.2.2.2.2.2.2.2.2.2.2.2.2.2.2.2.2.2.2.1 k0_h6
theorem k0_off810_inb : ∀ (i : grid0.Coords) (v0 : BitVec 32) (k0_hw257 : k0_chk257 i v0), ∀ (k0_h6 : k0_cond6 i v0 = 1#1), ∀ a, (k0_off810 i v0) a + S1.size a ≤ S86016.size a := fun i v0 k0_hw257 k0_h6 => k0_hw257.2.2.2.2.2.2.2.2.1.2.2.2.2.2.2.2.2.2.2.2.2.2.2.2.2.2.2.2.1 k0_h6
theorem k0_off812_inb : ∀ (i : grid0.Coords) (v0 : BitVec 32) (k0_hw257 : k0_chk257 i v0), ∀ (k0_h6 : k0_cond6 i v0 = 1#1), ∀ a, (k0_off812 i v0) a + S1.size a ≤ S86016.size a := fun i v0 k0_hw257 k0_h6 => k0_hw257.2.2.2.2.2.2.2.2.1.2.2.2.2.2.2.2.2.2.2.2.2.2.2.2.2.2.2.2.2.1 k0_h6
theorem k0_off814_inb : ∀ (i : grid0.Coords) (v0 : BitVec 32) (k0_hw257 : k0_chk257 i v0), ∀ (k0_h6 : k0_cond6 i v0 = 1#1), ∀ a, (k0_off814 i v0) a + S1.size a ≤ S86016.size a := fun i v0 k0_hw257 k0_h6 => k0_hw257.2.2.2.2.2.2.2.2.1.2.2.2.2.2.2.2.2.2.2.2.2.2.2.2.2.2.2.2.2.2.1 k0_h6
theorem k0_off816_inb : ∀ (i : grid0.Coords) (v0 : BitVec 32) (k0_hw257 : k0_chk257 i v0), ∀ (k0_h6 : k0_cond6 i v0 = 1#1), ∀ a, (k0_off816 i v0) a + S1.size a ≤ S86016.size a := fun i v0 k0_hw257 k0_h6 => k0_hw257.2.2.2.2.2.2.2.2.1.2.2.2.2.2.2.2.2.2.2.2.2.2.2.2.2.2.2.2.2.2.2.1 k0_h6
theorem k0_off818_inb : ∀ (i : grid0.Coords) (v0 : BitVec 32) (k0_hw257 : k0_chk257 i v0), ∀ (k0_h6 : k0_cond6 i v0 = 1#1), ∀ a, (k0_off818 i v0) a + S1.size a ≤ S86016.size a := fun i v0 k0_hw257 k0_h6 => k0_hw257.2.2.2.2.2.2.2.2.1.2.2.2.2.2.2.2.2.2.2.2.2.2.2.2.2.2.2.2.2.2.2.2.1 k0_h6
theorem k0_off820_inb : ∀ (i : grid0.Coords) (v0 : BitVec 32) (k0_hw257 : k0_chk257 i v0), ∀ (k0_h6 : k0_cond6 i v0 = 1#1), ∀ a, (k0_off820 i v0) a + S1.size a ≤ S86016.size a := fun i v0 k0_hw257 k0_h6 => k0_hw257.2.2.2.2.2.2.2.2.1.2.2.2.2.2.2.2.2.2.2.2.2.2.2.2.2.2.2.2.2.2.2.2.2.1 k0_h6
theorem k0_off822_inb : ∀ (i : grid0.Coords) (v0 : BitVec 32) (k0_hw257 : k0_chk257 i v0), ∀ (k0_h6 : k0_cond6 i v0 = 1#1), ∀ a, (k0_off822 i v0) a + S1.size a ≤ S86016.size a := fun i v0 k0_hw257 k0_h6 => k0_hw257.2.2.2.2.2.2.2.2.1.2.2.2.2.2.2.2.2.2.2.2.2.2.2.2.2.2.2.2.2.2.2.2.2.2.1 k0_h6
theorem k0_off824_inb : ∀ (i : grid0.Coords) (v0 : BitVec 32) (k0_hw257 : k0_chk257 i v0), ∀ (k0_h6 : k0_cond6 i v0 = 1#1), ∀ a, (k0_off824 i v0) a + S1.size a ≤ S86016.size a := fun i v0 k0_hw257 k0_h6 => k0_hw257.2.2.2.2.2.2.2.2.1.2.2.2.2.2.2.2.2.2.2.2.2.2.2.2.2.2.2.2.2.2.2.2.2.2.2.1 k0_h6
theorem k0_off826_inb : ∀ (i : grid0.Coords) (v0 : BitVec 32) (k0_hw257 : k0_chk257 i v0), ∀ (k0_h6 : k0_cond6 i v0 = 1#1), ∀ a, (k0_off826 i v0) a + S1.size a ≤ S86016.size a := fun i v0 k0_hw257 k0_h6 => k0_hw257.2.2.2.2.2.2.2.2.1.2.2.2.2.2.2.2.2.2.2.2.2.2.2.2.2.2.2.2.2.2.2.2.2.2.2.2.1 k0_h6
theorem k0_off828_inb : ∀ (i : grid0.Coords) (v0 : BitVec 32) (k0_hw257 : k0_chk257 i v0), ∀ (k0_h6 : k0_cond6 i v0 = 1#1), ∀ a, (k0_off828 i v0) a + S1.size a ≤ S86016.size a := fun i v0 k0_hw257 k0_h6 => k0_hw257.2.2.2.2.2.2.2.2.1.2.2.2.2.2.2.2.2.2.2.2.2.2.2.2.2.2.2.2.2.2.2.2.2.2.2.2.2.1 k0_h6
theorem k0_off830_inb : ∀ (i : grid0.Coords) (v0 : BitVec 32) (k0_hw257 : k0_chk257 i v0), ∀ (k0_h6 : k0_cond6 i v0 = 1#1), ∀ a, (k0_off830 i v0) a + S1.size a ≤ S86016.size a := fun i v0 k0_hw257 k0_h6 => k0_hw257.2.2.2.2.2.2.2.2.1.2.2.2.2.2.2.2.2.2.2.2.2.2.2.2.2.2.2.2.2.2.2.2.2.2.2.2.2.2.1 k0_h6
theorem k0_off832_inb : ∀ (i : grid0.Coords) (v0 : BitVec 32) (k0_hw257 : k0_chk257 i v0), ∀ (k0_h6 : k0_cond6 i v0 = 1#1), ∀ a, (k0_off832 i v0) a + S1.size a ≤ S86016.size a := fun i v0 k0_hw257 k0_h6 => k0_hw257.2.2.2.2.2.2.2.2.1.2.2.2.2.2.2.2.2.2.2.2.2.2.2.2.2.2.2.2.2.2.2.2.2.2.2.2.2.2.2.1 k0_h6
theorem k0_off834_inb : ∀ (i : grid0.Coords) (v0 : BitVec 32) (k0_hw257 : k0_chk257 i v0), ∀ (k0_h6 : k0_cond6 i v0 = 1#1), ∀ a, (k0_off834 i v0) a + S1.size a ≤ S86016.size a := fun i v0 k0_hw257 k0_h6 => k0_hw257.2.2.2.2.2.2.2.2.1.2.2.2.2.2.2.2.2.2.2.2.2.2.2.2.2.2.2.2.2.2.2.2.2.2.2.2.2.2.2.2 k0_h6
theorem k0_off836_inb : ∀ (i : grid0.Coords) (v0 : BitVec 32) (k0_hw257 : k0_chk257 i v0), ∀ (k0_h6 : k0_cond6 i v0 = 1#1), ∀ a, (k0_off836 i v0) a + S1.size a ≤ S86016.size a := fun i v0 k0_hw257 k0_h6 => k0_hw257.2.2.2.2.2.2.2.2.2.1.1 k0_h6
theorem k0_off838_inb : ∀ (i : grid0.Coords) (v0 : BitVec 32) (k0_hw257 : k0_chk257 i v0), ∀ (k0_h6 : k0_cond6 i v0 = 1#1), ∀ a, (k0_off838 i v0) a + S1.size a ≤ S86016.size a := fun i v0 k0_hw257 k0_h6 => k0_hw257.2.2.2.2.2.2.2.2.2.1.2.1 k0_h6
theorem k0_off840_inb : ∀ (i : grid0.Coords) (v0 : BitVec 32) (k0_hw257 : k0_chk257 i v0), ∀ (k0_h6 : k0_cond6 i v0 = 1#1), ∀ a, (k0_off840 i v0) a + S1.size a ≤ S86016.size a := fun i v0 k0_hw257 k0_h6 => k0_hw257.2.2.2.2.2.2.2.2.2.1.2.2.1 k0_h6
theorem k0_off842_inb : ∀ (i : grid0.Coords) (v0 : BitVec 32) (k0_hw257 : k0_chk257 i v0), ∀ (k0_h6 : k0_cond6 i v0 = 1#1), ∀ a, (k0_off842 i v0) a + S1.size a ≤ S86016.size a := fun i v0 k0_hw257 k0_h6 => k0_hw257.2.2.2.2.2.2.2.2.2.1.2.2.2.1 k0_h6
theorem k0_off844_inb : ∀ (i : grid0.Coords) (v0 : BitVec 32) (k0_hw257 : k0_chk257 i v0), ∀ (k0_h6 : k0_cond6 i v0 = 1#1), ∀ a, (k0_off844 i v0) a + S1.size a ≤ S86016.size a := fun i v0 k0_hw257 k0_h6 => k0_hw257.2.2.2.2.2.2.2.2.2.1.2.2.2.2.1 k0_h6
theorem k0_off846_inb : ∀ (i : grid0.Coords) (v0 : BitVec 32) (k0_hw257 : k0_chk257 i v0), ∀ (k0_h6 : k0_cond6 i v0 = 1#1), ∀ a, (k0_off846 i v0) a + S1.size a ≤ S86016.size a := fun i v0 k0_hw257 k0_h6 => k0_hw257.2.2.2.2.2.2.2.2.2.1.2.2.2.2.2.1 k0_h6
theorem k0_off848_inb : ∀ (i : grid0.Coords) (v0 : BitVec 32) (k0_hw257 : k0_chk257 i v0), ∀ (k0_h6 : k0_cond6 i v0 = 1#1), ∀ a, (k0_off848 i v0) a + S1.size a ≤ S86016.size a := fun i v0 k0_hw257 k0_h6 => k0_hw257.2.2.2.2.2.2.2.2.2.1.2.2.2.2.2.2.1 k0_h6
theorem k0_off850_inb : ∀ (i : grid0.Coords) (v0 : BitVec 32) (k0_hw257 : k0_chk257 i v0), ∀ (k0_h6 : k0_cond6 i v0 = 1#1), ∀ a, (k0_off850 i v0) a + S1.size a ≤ S86016.size a := fun i v0 k0_hw257 k0_h6 => k0_hw257.2.2.2.2.2.2.2.2.2.1.2.2.2.2.2.2.2.1 k0_h6
theorem k0_off852_inb : ∀ (i : grid0.Coords) (v0 : BitVec 32) (k0_hw257 : k0_chk257 i v0), ∀ (k0_h6 : k0_cond6 i v0 = 1#1), ∀ a, (k0_off852 i v0) a + S1.size a ≤ S86016.size a := fun i v0 k0_hw257 k0_h6 => k0_hw257.2.2.2.2.2.2.2.2.2.1.2.2.2.2.2.2.2.2.1 k0_h6
theorem k0_off854_inb : ∀ (i : grid0.Coords) (v0 : BitVec 32) (k0_hw257 : k0_chk257 i v0), ∀ (k0_h6 : k0_cond6 i v0 = 1#1), ∀ a, (k0_off854 i v0) a + S1.size a ≤ S86016.size a := fun i v0 k0_hw257 k0_h6 => k0_hw257.2.2.2.2.2.2.2.2.2.1.2.2.2.2.2.2.2.2.2.1 k0_h6
theorem k0_off856_inb : ∀ (i : grid0.Coords) (v0 : BitVec 32) (k0_hw257 : k0_chk257 i v0), ∀ (k0_h6 : k0_cond6 i v0 = 1#1), ∀ a, (k0_off856 i v0) a + S1.size a ≤ S86016.size a := fun i v0 k0_hw257 k0_h6 => k0_hw257.2.2.2.2.2.2.2.2.2.1.2.2.2.2.2.2.2.2.2.2.1 k0_h6
theorem k0_off858_inb : ∀ (i : grid0.Coords) (v0 : BitVec 32) (k0_hw257 : k0_chk257 i v0), ∀ (k0_h6 : k0_cond6 i v0 = 1#1), ∀ a, (k0_off858 i v0) a + S1.size a ≤ S86016.size a := fun i v0 k0_hw257 k0_h6 => k0_hw257.2.2.2.2.2.2.2.2.2.1.2.2.2.2.2.2.2.2.2.2.2.1 k0_h6
theorem k0_off860_inb : ∀ (i : grid0.Coords) (v0 : BitVec 32) (k0_hw257 : k0_chk257 i v0), ∀ (k0_h6 : k0_cond6 i v0 = 1#1), ∀ a, (k0_off860 i v0) a + S1.size a ≤ S86016.size a := fun i v0 k0_hw257 k0_h6 => k0_hw257.2.2.2.2.2.2.2.2.2.1.2.2.2.2.2.2.2.2.2.2.2.2.1 k0_h6
theorem k0_off862_inb : ∀ (i : grid0.Coords) (v0 : BitVec 32) (k0_hw257 : k0_chk257 i v0), ∀ (k0_h6 : k0_cond6 i v0 = 1#1), ∀ a, (k0_off862 i v0) a + S1.size a ≤ S86016.size a := fun i v0 k0_hw257 k0_h6 => k0_hw257.2.2.2.2.2.2.2.2.2.1.2.2.2.2.2.2.2.2.2.2.2.2.2.1 k0_h6
theorem k0_off864_inb : ∀ (i : grid0.Coords) (v0 : BitVec 32) (k0_hw257 : k0_chk257 i v0), ∀ (k0_h6 : k0_cond6 i v0 = 1#1), ∀ a, (k0_off864 i v0) a + S1.size a ≤ S86016.size a := fun i v0 k0_hw257 k0_h6 => k0_hw257.2.2.2.2.2.2.2.2.2.1.2.2.2.2.2.2.2.2.2.2.2.2.2.2.1 k0_h6
theorem k0_off866_inb : ∀ (i : grid0.Coords) (v0 : BitVec 32) (k0_hw257 : k0_chk257 i v0), ∀ (k0_h6 : k0_cond6 i v0 = 1#1), ∀ a, (k0_off866 i v0) a + S1.size a ≤ S86016.size a := fun i v0 k0_hw257 k0_h6 => k0_hw257.2.2.2.2.2.2.2.2.2.1.2.2.2.2.2.2.2.2.2.2.2.2.2.2.2.1 k0_h6
theorem k0_off868_inb : ∀ (i : grid0.Coords) (v0 : BitVec 32) (k0_hw257 : k0_chk257 i v0), ∀ (k0_h6 : k0_cond6 i v0 = 1#1), ∀ a, (k0_off868 i v0) a + S1.size a ≤ S86016.size a := fun i v0 k0_hw257 k0_h6 => k0_hw257.2.2.2.2.2.2.2.2.2.1.2.2.2.2.2.2.2.2.2.2.2.2.2.2.2.2.1 k0_h6
theorem k0_off870_inb : ∀ (i : grid0.Coords) (v0 : BitVec 32) (k0_hw257 : k0_chk257 i v0), ∀ (k0_h6 : k0_cond6 i v0 = 1#1), ∀ a, (k0_off870 i v0) a + S1.size a ≤ S86016.size a := fun i v0 k0_hw257 k0_h6 => k0_hw257.2.2.2.2.2.2.2.2.2.1.2.2.2.2.2.2.2.2.2.2.2.2.2.2.2.2.2.1 k0_h6
theorem k0_off872_inb : ∀ (i : grid0.Coords) (v0 : BitVec 32) (k0_hw257 : k0_chk257 i v0), ∀ (k0_h6 : k0_cond6 i v0 = 1#1), ∀ a, (k0_off872 i v0) a + S1.size a ≤ S86016.size a := fun i v0 k0_hw257 k0_h6 => k0_hw257.2.2.2.2.2.2.2.2.2.1.2.2.2.2.2.2.2.2.2.2.2.2.2.2.2.2.2.2.1 k0_h6
theorem k0_off874_inb : ∀ (i : grid0.Coords) (v0 : BitVec 32) (k0_hw257 : k0_chk257 i v0), ∀ (k0_h6 : k0_cond6 i v0 = 1#1), ∀ a, (k0_off874 i v0) a + S1.size a ≤ S86016.size a := fun i v0 k0_hw257 k0_h6 => k0_hw257.2.2.2.2.2.2.2.2.2.1.2.2.2.2.2.2.2.2.2.2.2.2.2.2.2.2.2.2.2.1 k0_h6
theorem k0_off876_inb : ∀ (i : grid0.Coords) (v0 : BitVec 32) (k0_hw257 : k0_chk257 i v0), ∀ (k0_h6 : k0_cond6 i v0 = 1#1), ∀ a, (k0_off876 i v0) a + S1.size a ≤ S86016.size a := fun i v0 k0_hw257 k0_h6 => k0_hw257.2.2.2.2.2.2.2.2.2.1.2.2.2.2.2.2.2.2.2.2.2.2.2.2.2.2.2.2.2.2.1 k0_h6
theorem k0_off878_inb : ∀ (i : grid0.Coords) (v0 : BitVec 32) (k0_hw257 : k0_chk257 i v0), ∀ (k0_h6 : k0_cond6 i v0 = 1#1), ∀ a, (k0_off878 i v0) a + S1.size a ≤ S86016.size a := fun i v0 k0_hw257 k0_h6 => k0_hw257.2.2.2.2.2.2.2.2.2.1.2.2.2.2.2.2.2.2.2.2.2.2.2.2.2.2.2.2.2.2.2.1 k0_h6
theorem k0_off880_inb : ∀ (i : grid0.Coords) (v0 : BitVec 32) (k0_hw257 : k0_chk257 i v0), ∀ (k0_h6 : k0_cond6 i v0 = 1#1), ∀ a, (k0_off880 i v0) a + S1.size a ≤ S86016.size a := fun i v0 k0_hw257 k0_h6 => k0_hw257.2.2.2.2.2.2.2.2.2.1.2.2.2.2.2.2.2.2.2.2.2.2.2.2.2.2.2.2.2.2.2.2.1 k0_h6
theorem k0_off882_inb : ∀ (i : grid0.Coords) (v0 : BitVec 32) (k0_hw257 : k0_chk257 i v0), ∀ (k0_h6 : k0_cond6 i v0 = 1#1), ∀ a, (k0_off882 i v0) a + S1.size a ≤ S86016.size a := fun i v0 k0_hw257 k0_h6 => k0_hw257.2.2.2.2.2.2.2.2.2.1.2.2.2.2.2.2.2.2.2.2.2.2.2.2.2.2.2.2.2.2.2.2.2.1 k0_h6
theorem k0_off884_inb : ∀ (i : grid0.Coords) (v0 : BitVec 32) (k0_hw257 : k0_chk257 i v0), ∀ (k0_h6 : k0_cond6 i v0 = 1#1), ∀ a, (k0_off884 i v0) a + S1.size a ≤ S86016.size a := fun i v0 k0_hw257 k0_h6 => k0_hw257.2.2.2.2.2.2.2.2.2.1.2.2.2.2.2.2.2.2.2.2.2.2.2.2.2.2.2.2.2.2.2.2.2.2.1 k0_h6
theorem k0_off886_inb : ∀ (i : grid0.Coords) (v0 : BitVec 32) (k0_hw257 : k0_chk257 i v0), ∀ (k0_h6 : k0_cond6 i v0 = 1#1), ∀ a, (k0_off886 i v0) a + S1.size a ≤ S86016.size a := fun i v0 k0_hw257 k0_h6 => k0_hw257.2.2.2.2.2.2.2.2.2.1.2.2.2.2.2.2.2.2.2.2.2.2.2.2.2.2.2.2.2.2.2.2.2.2.2.1 k0_h6
theorem k0_off888_inb : ∀ (i : grid0.Coords) (v0 : BitVec 32) (k0_hw257 : k0_chk257 i v0), ∀ (k0_h6 : k0_cond6 i v0 = 1#1), ∀ a, (k0_off888 i v0) a + S1.size a ≤ S86016.size a := fun i v0 k0_hw257 k0_h6 => k0_hw257.2.2.2.2.2.2.2.2.2.1.2.2.2.2.2.2.2.2.2.2.2.2.2.2.2.2.2.2.2.2.2.2.2.2.2.2.1 k0_h6
theorem k0_off890_inb : ∀ (i : grid0.Coords) (v0 : BitVec 32) (k0_hw257 : k0_chk257 i v0), ∀ (k0_h6 : k0_cond6 i v0 = 1#1), ∀ a, (k0_off890 i v0) a + S1.size a ≤ S86016.size a := fun i v0 k0_hw257 k0_h6 => k0_hw257.2.2.2.2.2.2.2.2.2.1.2.2.2.2.2.2.2.2.2.2.2.2.2.2.2.2.2.2.2.2.2.2.2.2.2.2.2.1 k0_h6
theorem k0_off892_inb : ∀ (i : grid0.Coords) (v0 : BitVec 32) (k0_hw257 : k0_chk257 i v0), ∀ (k0_h6 : k0_cond6 i v0 = 1#1), ∀ a, (k0_off892 i v0) a + S1.size a ≤ S86016.size a := fun i v0 k0_hw257 k0_h6 => k0_hw257.2.2.2.2.2.2.2.2.2.1.2.2.2.2.2.2.2.2.2.2.2.2.2.2.2.2.2.2.2.2.2.2.2.2.2.2.2.2.1 k0_h6
theorem k0_off894_inb : ∀ (i : grid0.Coords) (v0 : BitVec 32) (k0_hw257 : k0_chk257 i v0), ∀ (k0_h6 : k0_cond6 i v0 = 1#1), ∀ a, (k0_off894 i v0) a + S1.size a ≤ S86016.size a := fun i v0 k0_hw257 k0_h6 => k0_hw257.2.2.2.2.2.2.2.2.2.1.2.2.2.2.2.2.2.2.2.2.2.2.2.2.2.2.2.2.2.2.2.2.2.2.2.2.2.2.2.1 k0_h6
theorem k0_off896_inb : ∀ (i : grid0.Coords) (v0 : BitVec 32) (k0_hw257 : k0_chk257 i v0), ∀ (k0_h6 : k0_cond6 i v0 = 1#1), ∀ a, (k0_off896 i v0) a + S1.size a ≤ S86016.size a := fun i v0 k0_hw257 k0_h6 => k0_hw257.2.2.2.2.2.2.2.2.2.1.2.2.2.2.2.2.2.2.2.2.2.2.2.2.2.2.2.2.2.2.2.2.2.2.2.2.2.2.2.2.1 k0_h6
theorem k0_off898_inb : ∀ (i : grid0.Coords) (v0 : BitVec 32) (k0_hw257 : k0_chk257 i v0), ∀ (k0_h6 : k0_cond6 i v0 = 1#1), ∀ a, (k0_off898 i v0) a + S1.size a ≤ S86016.size a := fun i v0 k0_hw257 k0_h6 => k0_hw257.2.2.2.2.2.2.2.2.2.1.2.2.2.2.2.2.2.2.2.2.2.2.2.2.2.2.2.2.2.2.2.2.2.2.2.2.2.2.2.2.2 k0_h6
theorem k0_off900_inb : ∀ (i : grid0.Coords) (v0 : BitVec 32) (k0_hw257 : k0_chk257 i v0), ∀ (k0_h6 : k0_cond6 i v0 = 1#1), ∀ a, (k0_off900 i v0) a + S1.size a ≤ S86016.size a := fun i v0 k0_hw257 k0_h6 => k0_hw257.2.2.2.2.2.2.2.2.2.2.1.1 k0_h6
theorem k0_off902_inb : ∀ (i : grid0.Coords) (v0 : BitVec 32) (k0_hw257 : k0_chk257 i v0), ∀ (k0_h6 : k0_cond6 i v0 = 1#1), ∀ a, (k0_off902 i v0) a + S1.size a ≤ S86016.size a := fun i v0 k0_hw257 k0_h6 => k0_hw257.2.2.2.2.2.2.2.2.2.2.1.2.1 k0_h6
theorem k0_off904_inb : ∀ (i : grid0.Coords) (v0 : BitVec 32) (k0_hw257 : k0_chk257 i v0), ∀ (k0_h6 : k0_cond6 i v0 = 1#1), ∀ a, (k0_off904 i v0) a + S1.size a ≤ S86016.size a := fun i v0 k0_hw257 k0_h6 => k0_hw257.2.2.2.2.2.2.2.2.2.2.1.2.2.1 k0_h6
theorem k0_off906_inb : ∀ (i : grid0.Coords) (v0 : BitVec 32) (k0_hw257 : k0_chk257 i v0), ∀ (k0_h6 : k0_cond6 i v0 = 1#1), ∀ a, (k0_off906 i v0) a + S1.size a ≤ S86016.size a := fun i v0 k0_hw257 k0_h6 => k0_hw257.2.2.2.2.2.2.2.2.2.2.1.2.2.2.1 k0_h6
theorem k0_off908_inb : ∀ (i : grid0.Coords) (v0 : BitVec 32) (k0_hw257 : k0_chk257 i v0), ∀ (k0_h6 : k0_cond6 i v0 = 1#1), ∀ a, (k0_off908 i v0) a + S1.size a ≤ S86016.size a := fun i v0 k0_hw257 k0_h6 => k0_hw257.2.2.2.2.2.2.2.2.2.2.1.2.2.2.2.1 k0_h6
theorem k0_off910_inb : ∀ (i : grid0.Coords) (v0 : BitVec 32) (k0_hw257 : k0_chk257 i v0), ∀ (k0_h6 : k0_cond6 i v0 = 1#1), ∀ a, (k0_off910 i v0) a + S1.size a ≤ S86016.size a := fun i v0 k0_hw257 k0_h6 => k0_hw257.2.2.2.2.2.2.2.2.2.2.1.2.2.2.2.2.1 k0_h6
theorem k0_off912_inb : ∀ (i : grid0.Coords) (v0 : BitVec 32) (k0_hw257 : k0_chk257 i v0), ∀ (k0_h6 : k0_cond6 i v0 = 1#1), ∀ a, (k0_off912 i v0) a + S1.size a ≤ S86016.size a := fun i v0 k0_hw257 k0_h6 => k0_hw257.2.2.2.2.2.2.2.2.2.2.1.2.2.2.2.2.2.1 k0_h6
theorem k0_off914_inb : ∀ (i : grid0.Coords) (v0 : BitVec 32) (k0_hw257 : k0_chk257 i v0), ∀ (k0_h6 : k0_cond6 i v0 = 1#1), ∀ a, (k0_off914 i v0) a + S1.size a ≤ S86016.size a := fun i v0 k0_hw257 k0_h6 => k0_hw257.2.2.2.2.2.2.2.2.2.2.1.2.2.2.2.2.2.2.1 k0_h6
theorem k0_off916_inb : ∀ (i : grid0.Coords) (v0 : BitVec 32) (k0_hw257 : k0_chk257 i v0), ∀ (k0_h6 : k0_cond6 i v0 = 1#1), ∀ a, (k0_off916 i v0) a + S1.size a ≤ S86016.size a := fun i v0 k0_hw257 k0_h6 => k0_hw257.2.2.2.2.2.2.2.2.2.2.1.2.2.2.2.2.2.2.2.1 k0_h6
theorem k0_off918_inb : ∀ (i : grid0.Coords) (v0 : BitVec 32) (k0_hw257 : k0_chk257 i v0), ∀ (k0_h6 : k0_cond6 i v0 = 1#1), ∀ a, (k0_off918 i v0) a + S1.size a ≤ S86016.size a := fun i v0 k0_hw257 k0_h6 => k0_hw257.2.2.2.2.2.2.2.2.2.2.1.2.2.2.2.2.2.2.2.2.1 k0_h6
theorem k0_off920_inb : ∀ (i : grid0.Coords) (v0 : BitVec 32) (k0_hw257 : k0_chk257 i v0), ∀ (k0_h6 : k0_cond6 i v0 = 1#1), ∀ a, (k0_off920 i v0) a + S1.size a ≤ S86016.size a := fun i v0 k0_hw257 k0_h6 => k0_hw257.2.2.2.2.2.2.2.2.2.2.1.2.2.2.2.2.2.2.2.2.2.1 k0_h6
theorem k0_off922_inb : ∀ (i : grid0.Coords) (v0 : BitVec 32) (k0_hw257 : k0_chk257 i v0), ∀ (k0_h6 : k0_cond6 i v0 = 1#1), ∀ a, (k0_off922 i v0) a + S1.size a ≤ S86016.size a := fun i v0 k0_hw257 k0_h6 => k0_hw257.2.2.2.2.2.2.2.2.2.2.1.2.2.2.2.2.2.2.2.2.2.2.1 k0_h6
theorem k0_off924_inb : ∀ (i : grid0.Coords) (v0 : BitVec 32) (k0_hw257 : k0_chk257 i v0), ∀ (k0_h6 : k0_cond6 i v0 = 1#1), ∀ a, (k0_off924 i v0) a + S1.size a ≤ S86016.size a := fun i v0 k0_hw257 k0_h6 => k0_hw257.2.2.2.2.2.2.2.2.2.2.1.2.2.2.2.2.2.2.2.2.2.2.2.1 k0_h6
theorem k0_off926_inb : ∀ (i : grid0.Coords) (v0 : BitVec 32) (k0_hw257 : k0_chk257 i v0), ∀ (k0_h6 : k0_cond6 i v0 = 1#1), ∀ a, (k0_off926 i v0) a + S1.size a ≤ S86016.size a := fun i v0 k0_hw257 k0_h6 => k0_hw257.2.2.2.2.2.2.2.2.2.2.1.2.2.2.2.2.2.2.2.2.2.2.2.2.1 k0_h6
theorem k0_off928_inb : ∀ (i : grid0.Coords) (v0 : BitVec 32) (k0_hw257 : k0_chk257 i v0), ∀ (k0_h6 : k0_cond6 i v0 = 1#1), ∀ a, (k0_off928 i v0) a + S1.size a ≤ S86016.size a := fun i v0 k0_hw257 k0_h6 => k0_hw257.2.2.2.2.2.2.2.2.2.2.1.2.2.2.2.2.2.2.2.2.2.2.2.2.2.1 k0_h6
theorem k0_off930_inb : ∀ (i : grid0.Coords) (v0 : BitVec 32) (k0_hw257 : k0_chk257 i v0), ∀ (k0_h6 : k0_cond6 i v0 = 1#1), ∀ a, (k0_off930 i v0) a + S1.size a ≤ S86016.size a := fun i v0 k0_hw257 k0_h6 => k0_hw257.2.2.2.2.2.2.2.2.2.2.1.2.2.2.2.2.2.2.2.2.2.2.2.2.2.2.1 k0_h6
theorem k0_off932_inb : ∀ (i : grid0.Coords) (v0 : BitVec 32) (k0_hw257 : k0_chk257 i v0), ∀ (k0_h6 : k0_cond6 i v0 = 1#1), ∀ a, (k0_off932 i v0) a + S1.size a ≤ S86016.size a := fun i v0 k0_hw257 k0_h6 => k0_hw257.2.2.2.2.2.2.2.2.2.2.1.2.2.2.2.2.2.2.2.2.2.2.2.2.2.2.2.1 k0_h6
theorem k0_off934_inb : ∀ (i : grid0.Coords) (v0 : BitVec 32) (k0_hw257 : k0_chk257 i v0), ∀ (k0_h6 : k0_cond6 i v0 = 1#1), ∀ a, (k0_off934 i v0) a + S1.size a ≤ S86016.size a := fun i v0 k0_hw257 k0_h6 => k0_hw257.2.2.2.2.2.2.2.2.2.2.1.2.2.2.2.2.2.2.2.2.2.2.2.2.2.2.2.2.1 k0_h6
theorem k0_off936_inb : ∀ (i : grid0.Coords) (v0 : BitVec 32) (k0_hw257 : k0_chk257 i v0), ∀ (k0_h6 : k0_cond6 i v0 = 1#1), ∀ a, (k0_off936 i v0) a + S1.size a ≤ S86016.size a := fun i v0 k0_hw257 k0_h6 => k0_hw257.2.2.2.2.2.2.2.2.2.2.1.2.2.2.2.2.2.2.2.2.2.2.2.2.2.2.2.2.2.1 k0_h6
theorem k0_off938_inb : ∀ (i : grid0.Coords) (v0 : BitVec 32) (k0_hw257 : k0_chk257 i v0), ∀ (k0_h6 : k0_cond6 i v0 = 1#1), ∀ a, (k0_off938 i v0) a + S1.size a ≤ S86016.size a := fun i v0 k0_hw257 k0_h6 => k0_hw257.2.2.2.2.2.2.2.2.2.2.1.2.2.2.2.2.2.2.2.2.2.2.2.2.2.2.2.2.2.2.1 k0_h6
theorem k0_off940_inb : ∀ (i : grid0.Coords) (v0 : BitVec 32) (k0_hw257 : k0_chk257 i v0), ∀ (k0_h6 : k0_cond6 i v0 = 1#1), ∀ a, (k0_off940 i v0) a + S1.size a ≤ S86016.size a := fun i v0 k0_hw257 k0_h6 => k0_hw257.2.2.2.2.2.2.2.2.2.2.1.2.2.2.2.2.2.2.2.2.2.2.2.2.2.2.2.2.2.2.2.1 k0_h6
theorem k0_off942_inb : ∀ (i : grid0.Coords) (v0 : BitVec 32) (k0_hw257 : k0_chk257 i v0), ∀ (k0_h6 : k0_cond6 i v0 = 1#1), ∀ a, (k0_off942 i v0) a + S1.size a ≤ S86016.size a := fun i v0 k0_hw257 k0_h6 => k0_hw257.2.2.2.2.2.2.2.2.2.2.1.2.2.2.2.2.2.2.2.2.2.2.2.2.2.2.2.2.2.2.2.2.1 k0_h6
theorem k0_off944_inb : ∀ (i : grid0.Coords) (v0 : BitVec 32) (k0_hw257 : k0_chk257 i v0), ∀ (k0_h6 : k0_cond6 i v0 = 1#1), ∀ a, (k0_off944 i v0) a + S1.size a ≤ S86016.size a := fun i v0 k0_hw257 k0_h6 => k0_hw257.2.2.2.2.2.2.2.2.2.2.1.2.2.2.2.2.2.2.2.2.2.2.2.2.2.2.2.2.2.2.2.2.2.1 k0_h6
theorem k0_off946_inb : ∀ (i : grid0.Coords) (v0 : BitVec 32) (k0_hw257 : k0_chk257 i v0), ∀ (k0_h6 : k0_cond6 i v0 = 1#1), ∀ a, (k0_off946 i v0) a + S1.size a ≤ S86016.size a := fun i v0 k0_hw257 k0_h6 => k0_hw257.2.2.2.2.2.2.2.2.2.2.1.2.2.2.2.2.2.2.2.2.2.2.2.2.2.2.2.2.2.2.2.2.2.2.1 k0_h6
theorem k0_off948_inb : ∀ (i : grid0.Coords) (v0 : BitVec 32) (k0_hw257 : k0_chk257 i v0), ∀ (k0_h6 : k0_cond6 i v0 = 1#1), ∀ a, (k0_off948 i v0) a + S1.size a ≤ S86016.size a := fun i v0 k0_hw257 k0_h6 => k0_hw257.2.2.2.2.2.2.2.2.2.2.1.2.2.2.2.2.2.2.2.2.2.2.2.2.2.2.2.2.2.2.2.2.2.2.2.1 k0_h6
theorem k0_off950_inb : ∀ (i : grid0.Coords) (v0 : BitVec 32) (k0_hw257 : k0_chk257 i v0), ∀ (k0_h6 : k0_cond6 i v0 = 1#1), ∀ a, (k0_off950 i v0) a + S1.size a ≤ S86016.size a := fun i v0 k0_hw257 k0_h6 => k0_hw257.2.2.2.2.2.2.2.2.2.2.1.2.2.2.2.2.2.2.2.2.2.2.2.2.2.2.2.2.2.2.2.2.2.2.2.2.1 k0_h6
theorem k0_off952_inb : ∀ (i : grid0.Coords) (v0 : BitVec 32) (k0_hw257 : k0_chk257 i v0), ∀ (k0_h6 : k0_cond6 i v0 = 1#1), ∀ a, (k0_off952 i v0) a + S1.size a ≤ S86016.size a := fun i v0 k0_hw257 k0_h6 => k0_hw257.2.2.2.2.2.2.2.2.2.2.1.2.2.2.2.2.2.2.2.2.2.2.2.2.2.2.2.2.2.2.2.2.2.2.2.2.2.1 k0_h6
theorem k0_off954_inb : ∀ (i : grid0.Coords) (v0 : BitVec 32) (k0_hw257 : k0_chk257 i v0), ∀ (k0_h6 : k0_cond6 i v0 = 1#1), ∀ a, (k0_off954 i v0) a + S1.size a ≤ S86016.size a := fun i v0 k0_hw257 k0_h6 => k0_hw257.2.2.2.2.2.2.2.2.2.2.1.2.2.2.2.2.2.2.2.2.2.2.2.2.2.2.2.2.2.2.2.2.2.2.2.2.2.2.1 k0_h6
theorem k0_off956_inb : ∀ (i : grid0.Coords) (v0 : BitVec 32) (k0_hw257 : k0_chk257 i v0), ∀ (k0_h6 : k0_cond6 i v0 = 1#1), ∀ a, (k0_off956 i v0) a + S1.size a ≤ S86016.size a := fun i v0 k0_hw257 k0_h6 => k0_hw257.2.2.2.2.2.2.2.2.2.2.1.2.2.2.2.2.2.2.2.2.2.2.2.2.2.2.2.2.2.2.2.2.2.2.2.2.2.2.2.1 k0_h6
theorem k0_off958_inb : ∀ (i : grid0.Coords) (v0 : BitVec 32) (k0_hw257 : k0_chk257 i v0), ∀ (k0_h6 : k0_cond6 i v0 = 1#1), ∀ a, (k0_off958 i v0) a + S1.size a ≤ S86016.size a := fun i v0 k0_hw257 k0_h6 => k0_hw257.2.2.2.2.2.2.2.2.2.2.1.2.2.2.2.2.2.2.2.2.2.2.2.2.2.2.2.2.2.2.2.2.2.2.2.2.2.2.2.2.1 k0_h6
theorem k0_off960_inb : ∀ (i : grid0.Coords) (v0 : BitVec 32) (k0_hw257 : k0_chk257 i v0), ∀ (k0_h6 : k0_cond6 i v0 = 1#1), ∀ a, (k0_off960 i v0) a + S1.size a ≤ S86016.size a := fun i v0 k0_hw257 k0_h6 => k0_hw257.2.2.2.2.2.2.2.2.2.2.1.2.2.2.2.2.2.2.2.2.2.2.2.2.2.2.2.2.2.2.2.2.2.2.2.2.2.2.2.2.2.1 k0_h6
theorem k0_off962_inb : ∀ (i : grid0.Coords) (v0 : BitVec 32) (k0_hw257 : k0_chk257 i v0), ∀ (k0_h6 : k0_cond6 i v0 = 1#1), ∀ a, (k0_off962 i v0) a + S1.size a ≤ S86016.size a := fun i v0 k0_hw257 k0_h6 => k0_hw257.2.2.2.2.2.2.2.2.2.2.1.2.2.2.2.2.2.2.2.2.2.2.2.2.2.2.2.2.2.2.2.2.2.2.2.2.2.2.2.2.2.2 k0_h6
theorem k0_off964_inb : ∀ (i : grid0.Coords) (v0 : BitVec 32) (k0_hw257 : k0_chk257 i v0), ∀ (k0_h6 : k0_cond6 i v0 = 1#1), ∀ a, (k0_off964 i v0) a + S1.size a ≤ S86016.size a := fun i v0 k0_hw257 k0_h6 => k0_hw257.2.2.2.2.2.2.2.2.2.2.2.1.1 k0_h6
theorem k0_off966_inb : ∀ (i : grid0.Coords) (v0 : BitVec 32) (k0_hw257 : k0_chk257 i v0), ∀ (k0_h6 : k0_cond6 i v0 = 1#1), ∀ a, (k0_off966 i v0) a + S1.size a ≤ S86016.size a := fun i v0 k0_hw257 k0_h6 => k0_hw257.2.2.2.2.2.2.2.2.2.2.2.1.2.1 k0_h6
theorem k0_off968_inb : ∀ (i : grid0.Coords) (v0 : BitVec 32) (k0_hw257 : k0_chk257 i v0), ∀ (k0_h6 : k0_cond6 i v0 = 1#1), ∀ a, (k0_off968 i v0) a + S1.size a ≤ S86016.size a := fun i v0 k0_hw257 k0_h6 => k0_hw257.2.2.2.2.2.2.2.2.2.2.2.1.2.2.1 k0_h6
theorem k0_off970_inb : ∀ (i : grid0.Coords) (v0 : BitVec 32) (k0_hw257 : k0_chk257 i v0), ∀ (k0_h6 : k0_cond6 i v0 = 1#1), ∀ a, (k0_off970 i v0) a + S1.size a ≤ S86016.size a := fun i v0 k0_hw257 k0_h6 => k0_hw257.2.2.2.2.2.2.2.2.2.2.2.1.2.2.2.1 k0_h6
theorem k0_off972_inb : ∀ (i : grid0.Coords) (v0 : BitVec 32) (k0_hw257 : k0_chk257 i v0), ∀ (k0_h6 : k0_cond6 i v0 = 1#1), ∀ a, (k0_off972 i v0) a + S1.size a ≤ S86016.size a := fun i v0 k0_hw257 k0_h6 => k0_hw257.2.2.2.2.2.2.2.2.2.2.2.1.2.2.2.2.1 k0_h6
theorem k0_off974_inb : ∀ (i : grid0.Coords) (v0 : BitVec 32) (k0_hw257 : k0_chk257 i v0), ∀ (k0_h6 : k0_cond6 i v0 = 1#1), ∀ a, (k0_off974 i v0) a + S1.size a ≤ S86016.size a := fun i v0 k0_hw257 k0_h6 => k0_hw257.2.2.2.2.2.2.2.2.2.2.2.1.2.2.2.2.2.1 k0_h6
theorem k0_off976_inb : ∀ (i : grid0.Coords) (v0 : BitVec 32) (k0_hw257 : k0_chk257 i v0), ∀ (k0_h6 : k0_cond6 i v0 = 1#1), ∀ a, (k0_off976 i v0) a + S1.size a ≤ S86016.size a := fun i v0 k0_hw257 k0_h6 => k0_hw257.2.2.2.2.2.2.2.2.2.2.2.1.2.2.2.2.2.2.1 k0_h6
theorem k0_off978_inb : ∀ (i : grid0.Coords) (v0 : BitVec 32) (k0_hw257 : k0_chk257 i v0), ∀ (k0_h6 : k0_cond6 i v0 = 1#1), ∀ a, (k0_off978 i v0) a + S1.size a ≤ S86016.size a := fun i v0 k0_hw257 k0_h6 => k0_hw257.2.2.2.2.2.2.2.2.2.2.2.1.2.2.2.2.2.2.2.1 k0_h6
theorem k0_off980_inb : ∀ (i : grid0.Coords) (v0 : BitVec 32) (k0_hw257 : k0_chk257 i v0), ∀ (k0_h6 : k0_cond6 i v0 = 1#1), ∀ a, (k0_off980 i v0) a + S1.size a ≤ S86016.size a := fun i v0 k0_hw257 k0_h6 => k0_hw257.2.2.2.2.2.2.2.2.2.2.2.1.2.2.2.2.2.2.2.2.1 k0_h6
theorem k0_off982_inb : ∀ (i : grid0.Coords) (v0 : BitVec 32) (k0_hw257 : k0_chk257 i v0), ∀ (k0_h6 : k0_cond6 i v0 = 1#1), ∀ a, (k0_off982 i v0) a + S1.size a ≤ S86016.size a := fun i v0 k0_hw257 k0_h6 => k0_hw257.2.2.2.2.2.2.2.2.2.2.2.1.2.2.2.2.2.2.2.2.2.1 k0_h6
theorem k0_off984_inb : ∀ (i : grid0.Coords) (v0 : BitVec 32) (k0_hw257 : k0_chk257 i v0), ∀ (k0_h6 : k0_cond6 i v0 = 1#1), ∀ a, (k0_off984 i v0) a + S1.size a ≤ S86016.size a := fun i v0 k0_hw257 k0_h6 => k0_hw257.2.2.2.2.2.2.2.2.2.2.2.1.2.2.2.2.2.2.2.2.2.2.1 k0_h6
theorem k0_off986_inb : ∀ (i : grid0.Coords) (v0 : BitVec 32) (k0_hw257 : k0_chk257 i v0), ∀ (k0_h6 : k0_cond6 i v0 = 1#1), ∀ a, (k0_off986 i v0) a + S1.size a ≤ S86016.size a := fun i v0 k0_hw257 k0_h6 => k0_hw257.2.2.2.2.2.2.2.2.2.2.2.1.2.2.2.2.2.2.2.2.2.2.2.1 k0_h6
theorem k0_off988_inb : ∀ (i : grid0.Coords) (v0 : BitVec 32) (k0_hw257 : k0_chk257 i v0), ∀ (k0_h6 : k0_cond6 i v0 = 1#1), ∀ a, (k0_off988 i v0) a + S1.size a ≤ S86016.size a := fun i v0 k0_hw257 k0_h6 => k0_hw257.2.2.2.2.2.2.2.2.2.2.2.1.2.2.2.2.2.2.2.2.2.2.2.2.1 k0_h6
theorem k0_off990_inb : ∀ (i : grid0.Coords) (v0 : BitVec 32) (k0_hw257 : k0_chk257 i v0), ∀ (k0_h6 : k0_cond6 i v0 = 1#1), ∀ a, (k0_off990 i v0) a + S1.size a ≤ S86016.size a := fun i v0 k0_hw257 k0_h6 => k0_hw257.2.2.2.2.2.2.2.2.2.2.2.1.2.2.2.2.2.2.2.2.2.2.2.2.2.1 k0_h6
theorem k0_off992_inb : ∀ (i : grid0.Coords) (v0 : BitVec 32) (k0_hw257 : k0_chk257 i v0), ∀ (k0_h6 : k0_cond6 i v0 = 1#1), ∀ a, (k0_off992 i v0) a + S1.size a ≤ S86016.size a := fun i v0 k0_hw257 k0_h6 => k0_hw257.2.2.2.2.2.2.2.2.2.2.2.1.2.2.2.2.2.2.2.2.2.2.2.2.2.2.1 k0_h6
theorem k0_off994_inb : ∀ (i : grid0.Coords) (v0 : BitVec 32) (k0_hw257 : k0_chk257 i v0), ∀ (k0_h6 : k0_cond6 i v0 = 1#1), ∀ a, (k0_off994 i v0) a + S1.size a ≤ S86016.size a := fun i v0 k0_hw257 k0_h6 => k0_hw257.2.2.2.2.2.2.2.2.2.2.2.1.2.2.2.2.2.2.2.2.2.2.2.2.2.2.2.1 k0_h6
theorem k0_off996_inb : ∀ (i : grid0.Coords) (v0 : BitVec 32) (k0_hw257 : k0_chk257 i v0), ∀ (k0_h6 : k0_cond6 i v0 = 1#1), ∀ a, (k0_off996 i v0) a + S1.size a ≤ S86016.size a := fun i v0 k0_hw257 k0_h6 => k0_hw257.2.2.2.2.2.2.2.2.2.2.2.1.2.2.2.2.2.2.2.2.2.2.2.2.2.2.2.2.1 k0_h6
theorem k0_off998_inb : ∀ (i : grid0.Coords) (v0 : BitVec 32) (k0_hw257 : k0_chk257 i v0), ∀ (k0_h6 : k0_cond6 i v0 = 1#1), ∀ a, (k0_off998 i v0) a + S1.size a ≤ S86016.size a := fun i v0 k0_hw257 k0_h6 => k0_hw257.2.2.2.2.2.2.2.2.2.2.2.1.2.2.2.2.2.2.2.2.2.2.2.2.2.2.2.2.2.1 k0_h6
theorem k0_off1000_inb : ∀ (i : grid0.Coords) (v0 : BitVec 32) (k0_hw257 : k0_chk257 i v0), ∀ (k0_h6 : k0_cond6 i v0 = 1#1), ∀ a, (k0_off1000 i v0) a + S1.size a ≤ S86016.size a := fun i v0 k0_hw257 k0_h6 => k0_hw257.2.2.2.2.2.2.2.2.2.2.2.1.2.2.2.2.2.2.2.2.2.2.2.2.2.2.2.2.2.2.1 k0_h6
theorem k0_off1002_inb : ∀ (i : grid0.Coords) (v0 : BitVec 32) (k0_hw257 : k0_chk257 i v0), ∀ (k0_h6 : k0_cond6 i v0 = 1#1), ∀ a, (k0_off1002 i v0) a + S1.size a ≤ S86016.size a := fun i v0 k0_hw257 k0_h6 => k0_hw257.2.2.2.2.2.2.2.2.2.2.2.1.2.2.2.2.2.2.2.2.2.2.2.2.2.2.2.2.2.2.2.1 k0_h6
theorem k0_off1004_inb : ∀ (i : grid0.Coords) (v0 : BitVec 32) (k0_hw257 : k0_chk257 i v0), ∀ (k0_h6 : k0_cond6 i v0 = 1#1), ∀ a, (k0_off1004 i v0) a + S1.size a ≤ S86016.size a := fun i v0 k0_hw257 k0_h6 => k0_hw257.2.2.2.2.2.2.2.2.2.2.2.1.2.2.2.2.2.2.2.2.2.2.2.2.2.2.2.2.2.2.2.2.1 k0_h6
theorem k0_off1006_inb : ∀ (i : grid0.Coords) (v0 : BitVec 32) (k0_hw257 : k0_chk257 i v0), ∀ (k0_h6 : k0_cond6 i v0 = 1#1), ∀ a, (k0_off1006 i v0) a + S1.size a ≤ S86016.size a := fun i v0 k0_hw257 k0_h6 => k0_hw257.2.2.2.2.2.2.2.2.2.2.2.1.2.2.2.2.2.2.2.2.2.2.2.2.2.2.2.2.2.2.2.2.2.1 k0_h6
theorem k0_off1008_inb : ∀ (i : grid0.Coords) (v0 : BitVec 32) (k0_hw257 : k0_chk257 i v0), ∀ (k0_h6 : k0_cond6 i v0 = 1#1), ∀ a, (k0_off1008 i v0) a + S1.size a ≤ S86016.size a := fun i v0 k0_hw257 k0_h6 => k0_hw257.2.2.2.2.2.2.2.2.2.2.2.1.2.2.2.2.2.2.2.2.2.2.2.2.2.2.2.2.2.2.2.2.2.2.1 k0_h6
theorem k0_off1010_inb : ∀ (i : grid0.Coords) (v0 : BitVec 32) (k0_hw257 : k0_chk257 i v0), ∀ (k0_h6 : k0_cond6 i v0 = 1#1), ∀ a, (k0_off1010 i v0) a + S1.size a ≤ S86016.size a := fun i v0 k0_hw257 k0_h6 => k0_hw257.2.2.2.2.2.2.2.2.2.2.2.1.2.2.2.2.2.2.2.2.2.2.2.2.2.2.2.2.2.2.2.2.2.2.2.1 k0_h6
theorem k0_off1012_inb : ∀ (i : grid0.Coords) (v0 : BitVec 32) (k0_hw257 : k0_chk257 i v0), ∀ (k0_h6 : k0_cond6 i v0 = 1#1), ∀ a, (k0_off1012 i v0) a + S1.size a ≤ S86016.size a := fun i v0 k0_hw257 k0_h6 => k0_hw257.2.2.2.2.2.2.2.2.2.2.2.1.2.2.2.2.2.2.2.2.2.2.2.2.2.2.2.2.2.2.2.2.2.2.2.2.1 k0_h6
theorem k0_off1014_inb : ∀ (i : grid0.Coords) (v0 : BitVec 32) (k0_hw257 : k0_chk257 i v0), ∀ (k0_h6 : k0_cond6 i v0 = 1#1), ∀ a, (k0_off1014 i v0) a + S1.size a ≤ S86016.size a := fun i v0 k0_hw257 k0_h6 => k0_hw257.2.2.2.2.2.2.2.2.2.2.2.1.2.2.2.2.2.2.2.2.2.2.2.2.2.2.2.2.2.2.2.2.2.2.2.2.2.1 k0_h6
theorem k0_off1016_inb : ∀ (i : grid0.Coords) (v0 : BitVec 32) (k0_hw257 : k0_chk257 i v0), ∀ (k0_h6 : k0_cond6 i v0 = 1#1), ∀ a, (k0_off1016 i v0) a + S1.size a ≤ S86016.size a := fun i v0 k0_hw257 k0_h6 => k0_hw257.2.2.2.2.2.2.2.2.2.2.2.1.2.2.2.2.2.2.2.2.2.2.2.2.2.2.2.2.2.2.2.2.2.2.2.2.2.2.1 k0_h6
theorem k0_off1018_inb : ∀ (i : grid0.Coords) (v0 : BitVec 32) (k0_hw257 : k0_chk257 i v0), ∀ (k0_h6 : k0_cond6 i v0 = 1#1), ∀ a, (k0_off1018 i v0) a + S1.size a ≤ S86016.size a := fun i v0 k0_hw257 k0_h6 => k0_hw257.2.2.2.2.2.2.2.2.2.2.2.1.2.2.2.2.2.2.2.2.2.2.2.2.2.2.2.2.2.2.2.2.2.2.2.2.2.2.2.1 k0_h6
theorem k0_off1020_inb : ∀ (i : grid0.Coords) (v0 : BitVec 32) (k0_hw257 : k0_chk257 i v0), ∀ (k0_h6 : k0_cond6 i v0 = 1#1), ∀ a, (k0_off1020 i v0) a + S1.size a ≤ S86016.size a := fun i v0 k0_hw257 k0_h6 => k0_hw257.2.2.2.2.2.2.2.2.2.2.2.1.2.2.2.2.2.2.2.2.2.2.2.2.2.2.2.2.2.2.2.2.2.2.2.2.2.2.2.2.1 k0_h6
theorem k0_off1022_inb : ∀ (i : grid0.Coords) (v0 : BitVec 32) (k0_hw257 : k0_chk257 i v0), ∀ (k0_h6 : k0_cond6 i v0 = 1#1), ∀ a, (k0_off1022 i v0) a + S1.size a ≤ S86016.size a := fun i v0 k0_hw257 k0_h6 => k0_hw257.2.2.2.2.2.2.2.2.2.2.2.1.2.2.2.2.2.2.2.2.2.2.2.2.2.2.2.2.2.2.2.2.2.2.2.2.2.2.2.2.2.1 k0_h6
theorem k0_off1024_inb : ∀ (i : grid0.Coords) (v0 : BitVec 32) (k0_hw257 : k0_chk257 i v0), ∀ (k0_h6 : k0_cond6 i v0 = 1#1), ∀ a, (k0_off1024 i v0) a + S1.size a ≤ S86016.size a := fun i v0 k0_hw257 k0_h6 => k0_hw257.2.2.2.2.2.2.2.2.2.2.2.1.2.2.2.2.2.2.2.2.2.2.2.2.2.2.2.2.2.2.2.2.2.2.2.2.2.2.2.2.2.2.1 k0_h6
theorem k0_off1026_inb : ∀ (i : grid0.Coords) (v0 : BitVec 32) (k0_hw257 : k0_chk257 i v0), ∀ (k0_h6 : k0_cond6 i v0 = 1#1), ∀ a, (k0_off1026 i v0) a + S1.size a ≤ S86016.size a := fun i v0 k0_hw257 k0_h6 => k0_hw257.2.2.2.2.2.2.2.2.2.2.2.1.2.2.2.2.2.2.2.2.2.2.2.2.2.2.2.2.2.2.2.2.2.2.2.2.2.2.2.2.2.2.2 k0_h6
theorem k0_off1028_inb : ∀ (i : grid0.Coords) (v0 : BitVec 32) (k0_hw257 : k0_chk257 i v0), ∀ (k0_h6 : k0_cond6 i v0 = 1#1), ∀ a, (k0_off1028 i v0) a + S1.size a ≤ S86016.size a := fun i v0 k0_hw257 k0_h6 => k0_hw257.2.2.2.2.2.2.2.2.2.2.2.2.1.1 k0_h6
theorem k0_off1030_inb : ∀ (i : grid0.Coords) (v0 : BitVec 32) (k0_hw257 : k0_chk257 i v0), ∀ (k0_h6 : k0_cond6 i v0 = 1#1), ∀ a, (k0_off1030 i v0) a + S1.size a ≤ S86016.size a := fun i v0 k0_hw257 k0_h6 => k0_hw257.2.2.2.2.2.2.2.2.2.2.2.2.1.2.1 k0_h6
theorem k0_off1032_inb : ∀ (i : grid0.Coords) (v0 : BitVec 32) (k0_hw257 : k0_chk257 i v0), ∀ (k0_h6 : k0_cond6 i v0 = 1#1), ∀ a, (k0_off1032 i v0) a + S1.size a ≤ S86016.size a := fun i v0 k0_hw257 k0_h6 => k0_hw257.2.2.2.2.2.2.2.2.2.2.2.2.1.2.2.1 k0_h6
theorem k0_off1034_inb : ∀ (i : grid0.Coords) (v0 : BitVec 32) (k0_hw257 : k0_chk257 i v0), ∀ (k0_h6 : k0_cond6 i v0 = 1#1), ∀ a, (k0_off1034 i v0) a + S1.size a ≤ S86016.size a := fun i v0 k0_hw257 k0_h6 => k0_hw257.2.2.2.2.2.2.2.2.2.2.2.2.1.2.2.2.1 k0_h6
theorem k0_off1036_inb : ∀ (i : grid0.Coords) (v0 : BitVec 32) (k0_hw257 : k0_chk257 i v0), ∀ (k0_h6 : k0_cond6 i v0 = 1#1), ∀ a, (k0_off1036 i v0) a + S1.size a ≤ S86016.size a := fun i v0 k0_hw257 k0_h6 => k0_hw257.2.2.2.2.2.2.2.2.2.2.2.2.1.2.2.2.2.1 k0_h6
theorem k0_off1038_inb : ∀ (i : grid0.Coords) (v0 : BitVec 32) (k0_hw257 : k0_chk257 i v0), ∀ (k0_h6 : k0_cond6 i v0 = 1#1), ∀ a, (k0_off1038 i v0) a + S1.size a ≤ S86016.size a := fun i v0 k0_hw257 k0_h6 => k0_hw257.2.2.2.2.2.2.2.2.2.2.2.2.1.2.2.2.2.2.1 k0_h6
theorem k0_off1040_inb : ∀ (i : grid0.Coords) (v0 : BitVec 32) (k0_hw257 : k0_chk257 i v0), ∀ (k0_h6 : k0_cond6 i v0 = 1#1), ∀ a, (k0_off1040 i v0) a + S1.size a ≤ S86016.size a := fun i v0 k0_hw257 k0_h6 => k0_hw257.2.2.2.2.2.2.2.2.2.2.2.2.1.2.2.2.2.2.2.1 k0_h6
theorem k0_off1042_inb : ∀ (i : grid0.Coords) (v0 : BitVec 32) (k0_hw257 : k0_chk257 i v0), ∀ (k0_h6 : k0_cond6 i v0 = 1#1), ∀ a, (k0_off1042 i v0) a + S1.size a ≤ S86016.size a := fun i v0 k0_hw257 k0_h6 => k0_hw257.2.2.2.2.2.2.2.2.2.2.2.2.1.2.2.2.2.2.2.2.1 k0_h6
theorem k0_off1044_inb : ∀ (i : grid0.Coords) (v0 : BitVec 32) (k0_hw257 : k0_chk257 i v0), ∀ (k0_h6 : k0_cond6 i v0 = 1#1), ∀ a, (k0_off1044 i v0) a + S1.size a ≤ S86016.size a := fun i v0 k0_hw257 k0_h6 => k0_hw257.2.2.2.2.2.2.2.2.2.2.2.2.1.2.2.2.2.2.2.2.2.1 k0_h6
theorem k0_off1046_inb : ∀ (i : grid0.Coords) (v0 : BitVec 32) (k0_hw257 : k0_chk257 i v0), ∀ (k0_h6 : k0_cond6 i v0 = 1#1), ∀ a, (k0_off1046 i v0) a + S1.size a ≤ S86016.size a := fun i v0 k0_hw257 k0_h6 => k0_hw257.2.2.2.2.2.2.2.2.2.2.2.2.1.2.2.2.2.2.2.2.2.2.1 k0_h6
theorem k0_off1048_inb : ∀ (i : grid0.Coords) (v0 : BitVec 32) (k0_hw257 : k0_chk257 i v0), ∀ (k0_h6 : k0_cond6 i v0 = 1#1), ∀ a, (k0_off1048 i v0) a + S1.size a ≤ S86016.size a := fun i v0 k0_hw257 k0_h6 => k0_hw257.2.2.2.2.2.2.2.2.2.2.2.2.1.2.2.2.2.2.2.2.2.2.2.1 k0_h6
theorem k0_off1050_inb : ∀ (i : grid0.Coords) (v0 : BitVec 32) (k0_hw257 : k0_chk257 i v0), ∀ (k0_h6 : k0_cond6 i v0 = 1#1), ∀ a, (k0_off1050 i v0) a + S1.size a ≤ S86016.size a := fun i v0 k0_hw257 k0_h6 => k0_hw257.2.2.2.2.2.2.2.2.2.2.2.2.1.2.2.2.2.2.2.2.2.2.2.2.1 k0_h6
theorem k0_off1052_inb : ∀ (i : grid0.Coords) (v0 : BitVec 32) (k0_hw257 : k0_chk257 i v0), ∀ (k0_h6 : k0_cond6 i v0 = 1#1), ∀ a, (k0_off1052 i v0) a + S1.size a ≤ S86016.size a := fun i v0 k0_hw257 k0_h6 => k0_hw257.2.2.2.2.2.2.2.2.2.2.2.2.1.2.2.2.2.2.2.2.2.2.2.2.2.1 k0_h6
theorem k0_off1054_inb : ∀ (i : grid0.Coords) (v0 : BitVec 32) (k0_hw257 : k0_chk257 i v0), ∀ (k0_h6 : k0_cond6 i v0 = 1#1), ∀ a, (k0_off1054 i v0) a + S1.size a ≤ S86016.size a := fun i v0 k0_hw257 k0_h6 => k0_hw257.2.2.2.2.2.2.2.2.2.2.2.2.1.2.2.2.2.2.2.2.2.2.2.2.2.2.1 k0_h6
theorem k0_off1056_inb : ∀ (i : grid0.Coords) (v0 : BitVec 32) (k0_hw257 : k0_chk257 i v0), ∀ (k0_h6 : k0_cond6 i v0 = 1#1), ∀ a, (k0_off1056 i v0) a + S1.size a ≤ S86016.size a := fun i v0 k0_hw257 k0_h6 => k0_hw257.2.2.2.2.2.2.2.2.2.2.2.2.1.2.2.2.2.2.2.2.2.2.2.2.2.2.2.1 k0_h6
theorem k0_off1058_inb : ∀ (i : grid0.Coords) (v0 : BitVec 32) (k0_hw257 : k0_chk257 i v0), ∀ (k0_h6 : k0_cond6 i v0 = 1#1), ∀ a, (k0_off1058 i v0) a + S1.size a ≤ S86016.size a := fun i v0 k0_hw257 k0_h6 => k0_hw257.2.2.2.2.2.2.2.2.2.2.2.2.1.2.2.2.2.2.2.2.2.2.2.2.2.2.2.2.1 k0_h6
theorem k0_off1060_inb : ∀ (i : grid0.Coords) (v0 : BitVec 32) (k0_hw257 : k0_chk257 i v0), ∀ (k0_h6 : k0_cond6 i v0 = 1#1), ∀ a, (k0_off1060 i v0) a + S1.size a ≤ S86016.size a := fun i v0 k0_hw257 k0_h6 => k0_hw257.2.2.2.2.2.2.2.2.2.2.2.2.1.2.2.2.2.2.2.2.2.2.2.2.2.2.2.2.2.1 k0_h6
theorem k0_off1062_inb : ∀ (i : grid0.Coords) (v0 : BitVec 32) (k0_hw257 : k0_chk257 i v0), ∀ (k0_h6 : k0_cond6 i v0 = 1#1), ∀ a, (k0_off1062 i v0) a + S1.size a ≤ S86016.size a := fun i v0 k0_hw257 k0_h6 => k0_hw257.2.2.2.2.2.2.2.2.2.2.2.2.1.2.2.2.2.2.2.2.2.2.2.2.2.2.2.2.2.2.1 k0_h6
theorem k0_off1064_inb : ∀ (i : grid0.Coords) (v0 : BitVec 32) (k0_hw257 : k0_chk257 i v0), ∀ (k0_h6 : k0_cond6 i v0 = 1#1), ∀ a, (k0_off1064 i v0) a + S1.size a ≤ S86016.size a := fun i v0 k0_hw257 k0_h6 => k0_hw257.2.2.2.2.2.2.2.2.2.2.2.2.1.2.2.2.2.2.2.2.2.2.2.2.2.2.2.2.2.2.2.1 k0_h6
theorem k0_off1066_inb : ∀ (i : grid0.Coords) (v0 : BitVec 32) (k0_hw257 : k0_chk257 i v0), ∀ (k0_h6 : k0_cond6 i v0 = 1#1), ∀ a, (k0_off1066 i v0) a + S1.size a ≤ S86016.size a := fun i v0 k0_hw257 k0_h6 => k0_hw257.2.2.2.2.2.2.2.2.2.2.2.2.1.2.2.2.2.2.2.2.2.2.2.2.2.2.2.2.2.2.2.2.1 k0_h6
theorem k0_off1068_inb : ∀ (i : grid0.Coords) (v0 : BitVec 32) (k0_hw257 : k0_chk257 i v0), ∀ (k0_h6 : k0_cond6 i v0 = 1#1), ∀ a, (k0_off1068 i v0) a + S1.size a ≤ S86016.size a := fun i v0 k0_hw257 k0_h6 => k0_hw257.2.2.2.2.2.2.2.2.2.2.2.2.1.2.2.2.2.2.2.2.2.2.2.2.2.2.2.2.2.2.2.2.2.1 k0_h6
theorem k0_off1070_inb : ∀ (i : grid0.Coords) (v0 : BitVec 32) (k0_hw257 : k0_chk257 i v0), ∀ (k0_h6 : k0_cond6 i v0 = 1#1), ∀ a, (k0_off1070 i v0) a + S1.size a ≤ S86016.size a := fun i v0 k0_hw257 k0_h6 => k0_hw257.2.2.2.2.2.2.2.2.2.2.2.2.1.2.2.2.2.2.2.2.2.2.2.2.2.2.2.2.2.2.2.2.2.2.1 k0_h6
theorem k0_off1072_inb : ∀ (i : grid0.Coords) (v0 : BitVec 32) (k0_hw257 : k0_chk257 i v0), ∀ (k0_h6 : k0_cond6 i v0 = 1#1), ∀ a, (k0_off1072 i v0) a + S1.size a ≤ S86016.size a := fun i v0 k0_hw257 k0_h6 => k0_hw257.2.2.2.2.2.2.2.2.2.2.2.2.1.2.2.2.2.2.2.2.2.2.2.2.2.2.2.2.2.2.2.2.2.2.2.1 k0_h6
theorem k0_off1074_inb : ∀ (i : grid0.Coords) (v0 : BitVec 32) (k0_hw257 : k0_chk257 i v0), ∀ (k0_h6 : k0_cond6 i v0 = 1#1), ∀ a, (k0_off1074 i v0) a + S1.size a ≤ S86016.size a := fun i v0 k0_hw257 k0_h6 => k0_hw257.2.2.2.2.2.2.2.2.2.2.2.2.1.2.2.2.2.2.2.2.2.2.2.2.2.2.2.2.2.2.2.2.2.2.2.2.1 k0_h6
theorem k0_off1076_inb : ∀ (i : grid0.Coords) (v0 : BitVec 32) (k0_hw257 : k0_chk257 i v0), ∀ (k0_h6 : k0_cond6 i v0 = 1#1), ∀ a, (k0_off1076 i v0) a + S1.size a ≤ S86016.size a := fun i v0 k0_hw257 k0_h6 => k0_hw257.2.2.2.2.2.2.2.2.2.2.2.2.1.2.2.2.2.2.2.2.2.2.2.2.2.2.2.2.2.2.2.2.2.2.2.2.2.1 k0_h6
theorem k0_off1078_inb : ∀ (i : grid0.Coords) (v0 : BitVec 32) (k0_hw257 : k0_chk257 i v0), ∀ (k0_h6 : k0_cond6 i v0 = 1#1), ∀ a, (k0_off1078 i v0) a + S1.size a ≤ S86016.size a := fun i v0 k0_hw257 k0_h6 => k0_hw257.2.2.2.2.2.2.2.2.2.2.2.2.1.2.2.2.2.2.2.2.2.2.2.2.2.2.2.2.2.2.2.2.2.2.2.2.2.2.1 k0_h6
theorem k0_off1080_inb : ∀ (i : grid0.Coords) (v0 : BitVec 32) (k0_hw257 : k0_chk257 i v0), ∀ (k0_h6 : k0_cond6 i v0 = 1#1), ∀ a, (k0_off1080 i v0) a + S1.size a ≤ S86016.size a := fun i v0 k0_hw257 k0_h6 => k0_hw257.2.2.2.2.2.2.2.2.2.2.2.2.1.2.2.2.2.2.2.2.2.2.2.2.2.2.2.2.2.2.2.2.2.2.2.2.2.2.2.1 k0_h6
theorem k0_off1082_inb : ∀ (i : grid0.Coords) (v0 : BitVec 32) (k0_hw257 : k0_chk257 i v0), ∀ (k0_h6 : k0_cond6 i v0 = 1#1), ∀ a, (k0_off1082 i v0) a + S1.size a ≤ S86016.size a := fun i v0 k0_hw257 k0_h6 => k0_hw257.2.2.2.2.2.2.2.2.2.2.2.2.1.2.2.2.2.2.2.2.2.2.2.2.2.2.2.2.2.2.2.2.2.2.2.2.2.2.2.2.1 k0_h6
theorem k0_off1084_inb : ∀ (i : grid0.Coords) (v0 : BitVec 32) (k0_hw257 : k0_chk257 i v0), ∀ (k0_h6 : k0_cond6 i v0 = 1#1), ∀ a, (k0_off1084 i v0) a + S1.size a ≤ S86016.size a := fun i v0 k0_hw257 k0_h6 => k0_hw257.2.2.2.2.2.2.2.2.2.2.2.2.1.2.2.2.2.2.2.2.2.2.2.2.2.2.2.2.2.2.2.2.2.2.2.2.2.2.2.2.2.1 k0_h6
theorem k0_off1086_inb : ∀ (i : grid0.Coords) (v0 : BitVec 32) (k0_hw257 : k0_chk257 i v0), ∀ (k0_h6 : k0_cond6 i v0 = 1#1), ∀ a, (k0_off1086 i v0) a + S1.size a ≤ S86016.size a := fun i v0 k0_hw257 k0_h6 => k0_hw257.2.2.2.2.2.2.2.2.2.2.2.2.1.2.2.2.2.2.2.2.2.2.2.2.2.2.2.2.2.2.2.2.2.2.2.2.2.2.2.2.2.2.1 k0_h6
theorem k0_off1088_inb : ∀ (i : grid0.Coords) (v0 : BitVec 32) (k0_hw257 : k0_chk257 i v0), ∀ (k0_h6 : k0_cond6 i v0 = 1#1), ∀ a, (k0_off1088 i v0) a + S1.size a ≤ S86016.size a := fun i v0 k0_hw257 k0_h6 => k0_hw257.2.2.2.2.2.2.2.2.2.2.2.2.1.2.2.2.2.2.2.2.2.2.2.2.2.2.2.2.2.2.2.2.2.2.2.2.2.2.2.2.2.2.2.1 k0_h6
theorem k0_off1090_inb : ∀ (i : grid0.Coords) (v0 : BitVec 32) (k0_hw257 : k0_chk257 i v0), ∀ (k0_h6 : k0_cond6 i v0 = 1#1), ∀ a, (k0_off1090 i v0) a + S1.size a ≤ S86016.size a := fun i v0 k0_hw257 k0_h6 => k0_hw257.2.2.2.2.2.2.2.2.2.2.2.2.1.2.2.2.2.2.2.2.2.2.2.2.2.2.2.2.2.2.2.2.2.2.2.2.2.2.2.2.2.2.2.2 k0_h6
theorem k0_off1092_inb : ∀ (i : grid0.Coords) (v0 : BitVec 32) (k0_hw257 : k0_chk257 i v0), ∀ (k0_h6 : k0_cond6 i v0 = 1#1), ∀ a, (k0_off1092 i v0) a + S1.size a ≤ S86016.size a := fun i v0 k0_hw257 k0_h6 => k0_hw257.2.2.2.2.2.2.2.2.2.2.2.2.2.1.1 k0_h6
theorem k0_off1094_inb : ∀ (i : grid0.Coords) (v0 : BitVec 32) (k0_hw257 : k0_chk257 i v0), ∀ (k0_h6 : k0_cond6 i v0 = 1#1), ∀ a, (k0_off1094 i v0) a + S1.size a ≤ S86016.size a := fun i v0 k0_hw257 k0_h6 => k0_hw257.2.2.2.2.2.2.2.2.2.2.2.2.2.1.2.1 k0_h6
theorem k0_off1096_inb : ∀ (i : grid0.Coords) (v0 : BitVec 32) (k0_hw257 : k0_chk257 i v0), ∀ (k0_h6 : k0_cond6 i v0 = 1#1), ∀ a, (k0_off1096 i v0) a + S1.size a ≤ S86016.size a := fun i v0 k0_hw257 k0_h6 => k0_hw257.2.2.2.2.2.2.2.2.2.2.2.2.2.1.2.2.1 k0_h6
theorem k0_off1098_inb : ∀ (i : grid0.Coords) (v0 : BitVec 32) (k0_hw257 : k0_chk257 i v0), ∀ (k0_h6 : k0_cond6 i v0 = 1#1), ∀ a, (k0_off1098 i v0) a + S1.size a ≤ S86016.size a := fun i v0 k0_hw257 k0_h6 => k0_hw257.2.2.2.2.2.2.2.2.2.2.2.2.2.1.2.2.2.1 k0_h6
theorem k0_off1100_inb : ∀ (i : grid0.Coords) (v0 : BitVec 32) (k0_hw257 : k0_chk257 i v0), ∀ (k0_h6 : k0_cond6 i v0 = 1#1), ∀ a, (k0_off1100 i v0) a + S1.size a ≤ S86016.size a := fun i v0 k0_hw257 k0_h6 => k0_hw257.2.2.2.2.2.2.2.2.2.2.2.2.2.1.2.2.2.2.1 k0_h6
theorem k0_off1102_inb : ∀ (i : grid0.Coords) (v0 : BitVec 32) (k0_hw257 : k0_chk257 i v0), ∀ (k0_h6 : k0_cond6 i v0 = 1#1), ∀ a, (k0_off1102 i v0) a + S1.size a ≤ S86016.size a := fun i v0 k0_hw257 k0_h6 => k0_hw257.2.2.2.2.2.2.2.2.2.2.2.2.2.1.2.2.2.2.2.1 k0_h6
theorem k0_off1104_inb : ∀ (i : grid0.Coords) (v0 : BitVec 32) (k0_hw257 : k0_chk257 i v0), ∀ (k0_h6 : k0_cond6 i v0 = 1#1), ∀ a, (k0_off1104 i v0) a + S1.size a ≤ S86016.size a := fun i v0 k0_hw257 k0_h6 => k0_hw257.2.2.2.2.2.2.2.2.2.2.2.2.2.1.2.2.2.2.2.2.1 k0_h6
theorem k0_off1106_inb : ∀ (i : grid0.Coords) (v0 : BitVec 32) (k0_hw257 : k0_chk257 i v0), ∀ (k0_h6 : k0_cond6 i v0 = 1#1), ∀ a, (k0_off1106 i v0) a + S1.size a ≤ S86016.size a := fun i v0 k0_hw257 k0_h6 => k0_hw257.2.2.2.2.2.2.2.2.2.2.2.2.2.1.2.2.2.2.2.2.2.1 k0_h6
theorem k0_off1108_inb : ∀ (i : grid0.Coords) (v0 : BitVec 32) (k0_hw257 : k0_chk257 i v0), ∀ (k0_h6 : k0_cond6 i v0 = 1#1), ∀ a, (k0_off1108 i v0) a + S1.size a ≤ S86016.size a := fun i v0 k0_hw257 k0_h6 => k0_hw257.2.2.2.2.2.2.2.2.2.2.2.2.2.1.2.2.2.2.2.2.2.2.1 k0_h6
theorem k0_off1110_inb : ∀ (i : grid0.Coords) (v0 : BitVec 32) (k0_hw257 : k0_chk257 i v0), ∀ (k0_h6 : k0_cond6 i v0 = 1#1), ∀ a, (k0_off1110 i v0) a + S1.size a ≤ S86016.size a := fun i v0 k0_hw257 k0_h6 => k0_hw257.2.2.2.2.2.2.2.2.2.2.2.2.2.1.2.2.2.2.2.2.2.2.2.1 k0_h6
theorem k0_off1112_inb : ∀ (i : grid0.Coords) (v0 : BitVec 32) (k0_hw257 : k0_chk257 i v0), ∀ (k0_h6 : k0_cond6 i v0 = 1#1), ∀ a, (k0_off1112 i v0) a + S1.size a ≤ S86016.size a := fun i v0 k0_hw257 k0_h6 => k0_hw257.2.2.2.2.2.2.2.2.2.2.2.2.2.1.2.2.2.2.2.2.2.2.2.2.1 k0_h6
theorem k0_off1114_inb : ∀ (i : grid0.Coords) (v0 : BitVec 32) (k0_hw257 : k0_chk257 i v0), ∀ (k0_h6 : k0_cond6 i v0 = 1#1), ∀ a, (k0_off1114 i v0) a + S1.size a ≤ S86016.size a := fun i v0 k0_hw257 k0_h6 => k0_hw257.2.2.2.2.2.2.2.2.2.2.2.2.2.1.2.2.2.2.2.2.2.2.2.2.2.1 k0_h6
theorem k0_off1116_inb : ∀ (i : grid0.Coords) (v0 : BitVec 32) (k0_hw257 : k0_chk257 i v0), ∀ (k0_h6 : k0_cond6 i v0 = 1#1), ∀ a, (k0_off1116 i v0) a + S1.size a ≤ S86016.size a := fun i v0 k0_hw257 k0_h6 => k0_hw257.2.2.2.2.2.2.2.2.2.2.2.2.2.1.2.2.2.2.2.2.2.2.2.2.2.2.1 k0_h6
theorem k0_off1118_inb : ∀ (i : grid0.Coords) (v0 : BitVec 32) (k0_hw257 : k0_chk257 i v0), ∀ (k0_h6 : k0_cond6 i v0 = 1#1), ∀ a, (k0_off1118 i v0) a + S1.size a ≤ S86016.size a := fun i v0 k0_hw257 k0_h6 => k0_hw257.2.2.2.2.2.2.2.2.2.2.2.2.2.1.2.2.2.2.2.2.2.2.2.2.2.2.2.1 k0_h6
theorem k0_off1120_inb : ∀ (i : grid0.Coords) (v0 : BitVec 32) (k0_hw257 : k0_chk257 i v0), ∀ (k0_h6 : k0_cond6 i v0 = 1#1), ∀ a, (k0_off1120 i v0) a + S1.size a ≤ S86016.size a := fun i v0 k0_hw257 k0_h6 => k0_hw257.2.2.2.2.2.2.2.2.2.2.2.2.2.1.2.2.2.2.2.2.2.2.2.2.2.2.2.2.1 k0_h6
theorem k0_off1122_inb : ∀ (i : grid0.Coords) (v0 : BitVec 32) (k0_hw257 : k0_chk257 i v0), ∀ (k0_h6 : k0_cond6 i v0 = 1#1), ∀ a, (k0_off1122 i v0) a + S1.size a ≤ S86016.size a := fun i v0 k0_hw257 k0_h6 => k0_hw257.2.2.2.2.2.2.2.2.2.2.2.2.2.1.2.2.2.2.2.2.2.2.2.2.2.2.2.2.2.1 k0_h6
theorem k0_off1124_inb : ∀ (i : grid0.Coords) (v0 : BitVec 32) (k0_hw257 : k0_chk257 i v0), ∀ (k0_h6 : k0_cond6 i v0 = 1#1), ∀ a, (k0_off1124 i v0) a + S1.size a ≤ S86016.size a := fun i v0 k0_hw257 k0_h6 => k0_hw257.2.2.2.2.2.2.2.2.2.2.2.2.2.1.2.2.2.2.2.2.2.2.2.2.2.2.2.2.2.2.1 k0_h6
theorem k0_off1126_inb : ∀ (i : grid0.Coords) (v0 : BitVec 32) (k0_hw257 : k0_chk257 i v0), ∀ (k0_h6 : k0_cond6 i v0 = 1#1), ∀ a, (k0_off1126 i v0) a + S1.size a ≤ S86016.size a := fun i v0 k0_hw257 k0_h6 => k0_hw257.2.2.2.2.2.2.2.2.2.2.2.2.2.1.2.2.2.2.2.2.2.2.2.2.2.2.2.2.2.2.2.1 k0_h6
theorem k0_off1128_inb : ∀ (i : grid0.Coords) (v0 : BitVec 32) (k0_hw257 : k0_chk257 i v0), ∀ (k0_h6 : k0_cond6 i v0 = 1#1), ∀ a, (k0_off1128 i v0) a + S1.size a ≤ S86016.size a := fun i v0 k0_hw257 k0_h6 => k0_hw257.2.2.2.2.2.2.2.2.2.2.2.2.2.1.2.2.2.2.2.2.2.2.2.2.2.2.2.2.2.2.2.2.1 k0_h6
theorem k0_off1130_inb : ∀ (i : grid0.Coords) (v0 : BitVec 32) (k0_hw257 : k0_chk257 i v0), ∀ (k0_h6 : k0_cond6 i v0 = 1#1), ∀ a, (k0_off1130 i v0) a + S1.size a ≤ S86016.size a := fun i v0 k0_hw257 k0_h6 => k0_hw257.2.2.2.2.2.2.2.2.2.2.2.2.2.1.2.2.2.2.2.2.2.2.2.2.2.2.2.2.2.2.2.2.2.1 k0_h6
theorem k0_off1132_inb : ∀ (i : grid0.Coords) (v0 : BitVec 32) (k0_hw257 : k0_chk257 i v0), ∀ (k0_h6 : k0_cond6 i v0 = 1#1), ∀ a, (k0_off1132 i v0) a + S1.size a ≤ S86016.size a := fun i v0 k0_hw257 k0_h6 => k0_hw257.2.2.2.2.2.2.2.2.2.2.2.2.2.1.2.2.2.2.2.2.2.2.2.2.2.2.2.2.2.2.2.2.2.2.1 k0_h6
theorem k0_off1134_inb : ∀ (i : grid0.Coords) (v0 : BitVec 32) (k0_hw257 : k0_chk257 i v0), ∀ (k0_h6 : k0_cond6 i v0 = 1#1), ∀ a, (k0_off1134 i v0) a + S1.size a ≤ S86016.size a := fun i v0 k0_hw257 k0_h6 => k0_hw257.2.2.2.2.2.2.2.2.2.2.2.2.2.1.2.2.2.2.2.2.2.2.2.2.2.2.2.2.2.2.2.2.2.2.2.1 k0_h6
theorem k0_off1136_inb : ∀ (i : grid0.Coords) (v0 : BitVec 32) (k0_hw257 : k0_chk257 i v0), ∀ (k0_h6 : k0_cond6 i v0 = 1#1), ∀ a, (k0_off1136 i v0) a + S1.size a ≤ S86016.size a := fun i v0 k0_hw257 k0_h6 => k0_hw257.2.2.2.2.2.2.2.2.2.2.2.2.2.1.2.2.2.2.2.2.2.2.2.2.2.2.2.2.2.2.2.2.2.2.2.2.1 k0_h6
theorem k0_off1138_inb : ∀ (i : grid0.Coords) (v0 : BitVec 32) (k0_hw257 : k0_chk257 i v0), ∀ (k0_h6 : k0_cond6 i v0 = 1#1), ∀ a, (k0_off1138 i v0) a + S1.size a ≤ S86016.size a := fun i v0 k0_hw257 k0_h6 => k0_hw257.2.2.2.2.2.2.2.2.2.2.2.2.2.1.2.2.2.2.2.2.2.2.2.2.2.2.2.2.2.2.2.2.2.2.2.2.2.1 k0_h6
theorem k0_off1140_inb : ∀ (i : grid0.Coords) (v0 : BitVec 32) (k0_hw257 : k0_chk257 i v0), ∀ (k0_h6 : k0_cond6 i v0 = 1#1), ∀ a, (k0_off1140 i v0) a + S1.size a ≤ S86016.size a := fun i v0 k0_hw257 k0_h6 => k0_hw257.2.2.2.2.2.2.2.2.2.2.2.2.2.1.2.2.2.2.2.2.2.2.2.2.2.2.2.2.2.2.2.2.2.2.2.2.2.2.1 k0_h6
theorem k0_off1142_inb : ∀ (i : grid0.Coords) (v0 : BitVec 32) (k0_hw257 : k0_chk257 i v0), ∀ (k0_h6 : k0_cond6 i v0 = 1#1), ∀ a, (k0_off1142 i v0) a + S1.size a ≤ S86016.size a := fun i v0 k0_hw257 k0_h6 => k0_hw257.2.2.2.2.2.2.2.2.2.2.2.2.2.1.2.2.2.2.2.2.2.2.2.2.2.2.2.2.2.2.2.2.2.2.2.2.2.2.2.1 k0_h6
theorem k0_off1144_inb : ∀ (i : grid0.Coords) (v0 : BitVec 32) (k0_hw257 : k0_chk257 i v0), ∀ (k0_h6 : k0_cond6 i v0 = 1#1), ∀ a, (k0_off1144 i v0) a + S1.size a ≤ S86016.size a := fun i v0 k0_hw257 k0_h6 => k0_hw257.2.2.2.2.2.2.2.2.2.2.2.2.2.1.2.2.2.2.2.2.2.2.2.2.2.2.2.2.2.2.2.2.2.2.2.2.2.2.2.2.1 k0_h6
theorem k0_off1146_inb : ∀ (i : grid0.Coords) (v0 : BitVec 32) (k0_hw257 : k0_chk257 i v0), ∀ (k0_h6 : k0_cond6 i v0 = 1#1), ∀ a, (k0_off1146 i v0) a + S1.size a ≤ S86016.size a := fun i v0 k0_hw257 k0_h6 => k0_hw257.2.2.2.2.2.2.2.2.2.2.2.2.2.1.2.2.2.2.2.2.2.2.2.2.2.2.2.2.2.2.2.2.2.2.2.2.2.2.2.2.2.1 k0_h6
theorem k0_off1148_inb : ∀ (i : grid0.Coords) (v0 : BitVec 32) (k0_hw257 : k0_chk257 i v0), ∀ (k0_h6 : k0_cond6 i v0 = 1#1), ∀ a, (k0_off1148 i v0) a + S1.size a ≤ S86016.size a := fun i v0 k0_hw257 k0_h6 => k0_hw257.2.2.2.2.2.2.2.2.2.2.2.2.2.1.2.2.2.2.2.2.2.2.2.2.2.2.2.2.2.2.2.2.2.2.2.2.2.2.2.2.2.2.1 k0_h6
theorem k0_off1150_inb : ∀ (i : grid0.Coords) (v0 : BitVec 32) (k0_hw257 : k0_chk257 i v0), ∀ (k0_h6 : k0_cond6 i v0 = 1#1), ∀ a, (k0_off1150 i v0) a + S1.size a ≤ S86016.size a := fun i v0 k0_hw257 k0_h6 => k0_hw257.2.2.2.2.2.2.2.2.2.2.2.2.2.1.2.2.2.2.2.2.2.2.2.2.2.2.2.2.2.2.2.2.2.2.2.2.2.2.2.2.2.2.2.1 k0_h6
theorem k0_off1152_inb : ∀ (i : grid0.Coords) (v0 : BitVec 32) (k0_hw257 : k0_chk257 i v0), ∀ (k0_h6 : k0_cond6 i v0 = 1#1), ∀ a, (k0_off1152 i v0) a + S1.size a ≤ S86016.size a := fun i v0 k0_hw257 k0_h6 => k0_hw257.2.2.2.2.2.2.2.2.2.2.2.2.2.1.2.2.2.2.2.2.2.2.2.2.2.2.2.2.2.2.2.2.2.2.2.2.2.2.2.2.2.2.2.2.1 k0_h6
theorem k0_off1154_inb : ∀ (i : grid0.Coords) (v0 : BitVec 32) (k0_hw257 : k0_chk257 i v0), ∀ (k0_h6 : k0_cond6 i v0 = 1#1), ∀ a, (k0_off1154 i v0) a + S1.size a ≤ S86016.size a := fun i v0 k0_hw257 k0_h6 => k0_hw257.2.2.2.2.2.2.2.2.2.2.2.2.2.1.2.2.2.2.2.2.2.2.2.2.2.2.2.2.2.2.2.2.2.2.2.2.2.2.2.2.2.2.2.2.2 k0_h6
theorem k0_off1156_inb : ∀ (i : grid0.Coords) (v0 : BitVec 32) (k0_hw257 : k0_chk257 i v0), ∀ (k0_h6 : k0_cond6 i v0 = 1#1), ∀ a, (k0_off1156 i v0) a + S1.size a ≤ S86016.size a := fun i v0 k0_hw257 k0_h6 => k0_hw257.2.2.2.2.2.2.2.2.2.2.2.2.2.2.1.1 k0_h6
theorem k0_off1158_inb : ∀ (i : grid0.Coords) (v0 : BitVec 32) (k0_hw257 : k0_chk257 i v0), ∀ (k0_h6 : k0_cond6 i v0 = 1#1), ∀ a, (k0_off1158 i v0) a + S1.size a ≤ S86016.size a := fun i v0 k0_hw257 k0_h6 => k0_hw257.2.2.2.2.2.2.2.2.2.2.2.2.2.2.1.2.1 k0_h6
theorem k0_off1160_inb : ∀ (i : grid0.Coords) (v0 : BitVec 32) (k0_hw257 : k0_chk257 i v0), ∀ (k0_h6 : k0_cond6 i v0 = 1#1), ∀ a, (k0_off1160 i v0) a + S1.size a ≤ S86016.size a := fun i v0 k0_hw257 k0_h6 => k0_hw257.2.2.2.2.2.2.2.2.2.2.2.2.2.2.1.2.2.1 k0_h6
theorem k0_off1162_inb : ∀ (i : grid0.Coords) (v0 : BitVec 32) (k0_hw257 : k0_chk257 i v0), ∀ (k0_h6 : k0_cond6 i v0 = 1#1), ∀ a, (k0_off1162 i v0) a + S1.size a ≤ S86016.size a := fun i v0 k0_hw257 k0_h6 => k0_hw257.2.2.2.2.2.2.2.2.2.2.2.2.2.2.1.2.2.2.1 k0_h6
theorem k0_off1164_inb : ∀ (i : grid0.Coords) (v0 : BitVec 32) (k0_hw257 : k0_chk257 i v0), ∀ (k0_h6 : k0_cond6 i v0 = 1#1), ∀ a, (k0_off1164 i v0) a + S1.size a ≤ S86016.size a := fun i v0 k0_hw257 k0_h6 => k0_hw257.2.2.2.2.2.2.2.2.2.2.2.2.2.2.1.2.2.2.2.1 k0_h6
theorem k0_off1166_inb : ∀ (i : grid0.Coords) (v0 : BitVec 32) (k0_hw257 : k0_chk257 i v0), ∀ (k0_h6 : k0_cond6 i v0 = 1#1), ∀ a, (k0_off1166 i v0) a + S1.size a ≤ S86016.size a := fun i v0 k0_hw257 k0_h6 => k0_hw257.2.2.2.2.2.2.2.2.2.2.2.2.2.2.1.2.2.2.2.2.1 k0_h6
theorem k0_off1168_inb : ∀ (i : grid0.Coords) (v0 : BitVec 32) (k0_hw257 : k0_chk257 i v0), ∀ (k0_h6 : k0_cond6 i v0 = 1#1), ∀ a, (k0_off1168 i v0) a + S1.size a ≤ S86016.size a := fun i v0 k0_hw257 k0_h6 => k0_hw257.2.2.2.2.2.2.2.2.2.2.2.2.2.2.1.2.2.2.2.2.2.1 k0_h6
theorem k0_off1170_inb : ∀ (i : grid0.Coords) (v0 : BitVec 32) (k0_hw257 : k0_chk257 i v0), ∀ (k0_h6 : k0_cond6 i v0 = 1#1), ∀ a, (k0_off1170 i v0) a + S1.size a ≤ S86016.size a := fun i v0 k0_hw257 k0_h6 => k0_hw257.2.2.2.2.2.2.2.2.2.2.2.2.2.2.1.2.2.2.2.2.2.2.1 k0_h6
theorem k0_off1172_inb : ∀ (i : grid0.Coords) (v0 : BitVec 32) (k0_hw257 : k0_chk257 i v0), ∀ (k0_h6 : k0_cond6 i v0 = 1#1), ∀ a, (k0_off1172 i v0) a + S1.size a ≤ S86016.size a := fun i v0 k0_hw257 k0_h6 => k0_hw257.2.2.2.2.2.2.2.2.2.2.2.2.2.2.1.2.2.2.2.2.2.2.2.1 k0_h6
theorem k0_off1174_inb : ∀ (i : grid0.Coords) (v0 : BitVec 32) (k0_hw257 : k0_chk257 i v0), ∀ (k0_h6 : k0_cond6 i v0 = 1#1), ∀ a, (k0_off1174 i v0) a + S1.size a ≤ S86016.size a := fun i v0 k0_hw257 k0_h6 => k0_hw257.2.2.2.2.2.2.2.2.2.2.2.2.2.2.1.2.2.2.2.2.2.2.2.2.1 k0_h6
theorem k0_off1176_inb : ∀ (i : grid0.Coords) (v0 : BitVec 32) (k0_hw257 : k0_chk257 i v0), ∀ (k0_h6 : k0_cond6 i v0 = 1#1), ∀ a, (k0_off1176 i v0) a + S1.size a ≤ S86016.size a := fun i v0 k0_hw257 k0_h6 => k0_hw257.2.2.2.2.2.2.2.2.2.2.2.2.2.2.1.2.2.2.2.2.2.2.2.2.2.1 k0_h6
theorem k0_off1178_inb : ∀ (i : grid0.Coords) (v0 : BitVec 32) (k0_hw257 : k0_chk257 i v0), ∀ (k0_h6 : k0_cond6 i v0 = 1#1), ∀ a, (k0_off1178 i v0) a + S1.size a ≤ S86016.size a := fun i v0 k0_hw257 k0_h6 => k0_hw257.2.2.2.2.2.2.2.2.2.2.2.2.2.2.1.2.2.2.2.2.2.2.2.2.2.2.1 k0_h6
theorem k0_off1180_inb : ∀ (i : grid0.Coords) (v0 : BitVec 32) (k0_hw257 : k0_chk257 i v0), ∀ (k0_h6 : k0_cond6 i v0 = 1#1), ∀ a, (k0_off1180 i v0) a + S1.size a ≤ S86016.size a := fun i v0 k0_hw257 k0_h6 => k0_hw257.2.2.2.2.2.2.2.2.2.2.2.2.2.2.1.2.2.2.2.2.2.2.2.2.2.2.2.1 k0_h6
theorem k0_off1182_inb : ∀ (i : grid0.Coords) (v0 : BitVec 32) (k0_hw257 : k0_chk257 i v0), ∀ (k0_h6 : k0_cond6 i v0 = 1#1), ∀ a, (k0_off1182 i v0) a + S1.size a ≤ S86016.size a := fun i v0 k0_hw257 k0_h6 => k0_hw257.2.2.2.2.2.2.2.2.2.2.2.2.2.2.1.2.2.2.2.2.2.2.2.2.2.2.2.2.1 k0_h6
theorem k0_off1184_inb : ∀ (i : grid0.Coords) (v0 : BitVec 32) (k0_hw257 : k0_chk257 i v0), ∀ (k0_h6 : k0_cond6 i v0 = 1#1), ∀ a, (k0_off1184 i v0) a + S1.size a ≤ S86016.size a := fun i v0 k0_hw257 k0_h6 => k0_hw257.2.2.2.2.2.2.2.2.2.2.2.2.2.2.1.2.2.2.2.2.2.2.2.2.2.2.2.2.2.1 k0_h6
theorem k0_off1186_inb : ∀ (i : grid0.Coords) (v0 : BitVec 32) (k0_hw257 : k0_chk257 i v0), ∀ (k0_h6 : k0_cond6 i v0 = 1#1), ∀ a, (k0_off1186 i v0) a + S1.size a ≤ S86016.size a := fun i v0 k0_hw257 k0_h6 => k0_hw257.2.2.2.2.2.2.2.2.2.2.2.2.2.2.1.2.2.2.2.2.2.2.2.2.2.2.2.2.2.2.1 k0_h6
theorem k0_off1188_inb : ∀ (i : grid0.Coords) (v0 : BitVec 32) (k0_hw257 : k0_chk257 i v0), ∀ (k0_h6 : k0_cond6 i v0 = 1#1), ∀ a, (k0_off1188 i v0) a + S1.size a ≤ S86016.size a := fun i v0 k0_hw257 k0_h6 => k0_hw257.2.2.2.2.2.2.2.2.2.2.2.2.2.2.1.2.2.2.2.2.2.2.2.2.2.2.2.2.2.2.2.1 k0_h6
theorem k0_off1190_inb : ∀ (i : grid0.Coords) (v0 : BitVec 32) (k0_hw257 : k0_chk257 i v0), ∀ (k0_h6 : k0_cond6 i v0 = 1#1), ∀ a, (k0_off1190 i v0) a + S1.size a ≤ S86016.size a := fun i v0 k0_hw257 k0_h6 => k0_hw257.2.2.2.2.2.2.2.2.2.2.2.2.2.2.1.2.2.2.2.2.2.2.2.2.2.2.2.2.2.2.2.2.1 k0_h6
theorem k0_off1192_inb : ∀ (i : grid0.Coords) (v0 : BitVec 32) (k0_hw257 : k0_chk257 i v0), ∀ (k0_h6 : k0_cond6 i v0 = 1#1), ∀ a, (k0_off1192 i v0) a + S1.size a ≤ S86016.size a := fun i v0 k0_hw257 k0_h6 => k0_hw257.2.2.2.2.2.2.2.2.2.2.2.2.2.2.1.2.2.2.2.2.2.2.2.2.2.2.2.2.2.2.2.2.2.1 k0_h6
theorem k0_off1194_inb : ∀ (i : grid0.Coords) (v0 : BitVec 32) (k0_hw257 : k0_chk257 i v0), ∀ (k0_h6 : k0_cond6 i v0 = 1#1), ∀ a, (k0_off1194 i v0) a + S1.size a ≤ S86016.size a := fun i v0 k0_hw257 k0_h6 => k0_hw257.2.2.2.2.2.2.2.2.2.2.2.2.2.2.1.2.2.2.2.2.2.2.2.2.2.2.2.2.2.2.2.2.2.2.1 k0_h6
theorem k0_off1196_inb : ∀ (i : grid0.Coords) (v0 : BitVec 32) (k0_hw257 : k0_chk257 i v0), ∀ (k0_h6 : k0_cond6 i v0 = 1#1), ∀ a, (k0_off1196 i v0) a + S1.size a ≤ S86016.size a := fun i v0 k0_hw257 k0_h6 => k0_hw257.2.2.2.2.2.2.2.2.2.2.2.2.2.2.1.2.2.2.2.2.2.2.2.2.2.2.2.2.2.2.2.2.2.2.2.1 k0_h6
theorem k0_off1198_inb : ∀ (i : grid0.Coords) (v0 : BitVec 32) (k0_hw257 : k0_chk257 i v0), ∀ (k0_h6 : k0_cond6 i v0 = 1#1), ∀ a, (k0_off1198 i v0) a + S1.size a ≤ S86016.size a := fun i v0 k0_hw257 k0_h6 => k0_hw257.2.2.2.2.2.2.2.2.2.2.2.2.2.2.1.2.2.2.2.2.2.2.2.2.2.2.2.2.2.2.2.2.2.2.2.2.1 k0_h6
theorem k0_off1200_inb : ∀ (i : grid0.Coords) (v0 : BitVec 32) (k0_hw257 : k0_chk257 i v0), ∀ (k0_h6 : k0_cond6 i v0 = 1#1), ∀ a, (k0_off1200 i v0) a + S1.size a ≤ S86016.size a := fun i v0 k0_hw257 k0_h6 => k0_hw257.2.2.2.2.2.2.2.2.2.2.2.2.2.2.1.2.2.2.2.2.2.2.2.2.2.2.2.2.2.2.2.2.2.2.2.2.2.1 k0_h6
theorem k0_off1202_inb : ∀ (i : grid0.Coords) (v0 : BitVec 32) (k0_hw257 : k0_chk257 i v0), ∀ (k0_h6 : k0_cond6 i v0 = 1#1), ∀ a, (k0_off1202 i v0) a + S1.size a ≤ S86016.size a := fun i v0 k0_hw257 k0_h6 => k0_hw257.2.2.2.2.2.2.2.2.2.2.2.2.2.2.1.2.2.2.2.2.2.2.2.2.2.2.2.2.2.2.2.2.2.2.2.2.2.2.1 k0_h6
theorem k0_off1204_inb : ∀ (i : grid0.Coords) (v0 : BitVec 32) (k0_hw257 : k0_chk257 i v0), ∀ (k0_h6 : k0_cond6 i v0 = 1#1), ∀ a, (k0_off1204 i v0) a + S1.size a ≤ S86016.size a := fun i v0 k0_hw257 k0_h6 => k0_hw257.2.2.2.2.2.2.2.2.2.2.2.2.2.2.1.2.2.2.2.2.2.2.2.2.2.2.2.2.2.2.2.2.2.2.2.2.2.2.2.1 k0_h6
theorem k0_off1206_inb : ∀ (i : grid0.Coords) (v0 : BitVec 32) (k0_hw257 : k0_chk257 i v0), ∀ (k0_h6 : k0_cond6 i v0 = 1#1), ∀ a, (k0_off1206 i v0) a + S1.size a ≤ S86016.size a := fun i v0 k0_hw257 k0_h6 => k0_hw257.2.2.2.2.2.2.2.2.2.2.2.2.2.2.1.2.2.2.2.2.2.2.2.2.2.2.2.2.2.2.2.2.2.2.2.2.2.2.2.2.1 k0_h6
theorem k0_off1208_inb : ∀ (i : grid0.Coords) (v0 : BitVec 32) (k0_hw257 : k0_chk257 i v0), ∀ (k0_h6 : k0_cond6 i v0 = 1#1), ∀ a, (k0_off1208 i v0) a + S1.size a ≤ S86016.size a := fun i v0 k0_hw257 k0_h6 => k0_hw257.2.2.2.2.2.2.2.2.2.2.2.2.2.2.1.2.2.2.2.2.2.2.2.2.2.2.2.2.2.2.2.2.2.2.2.2.2.2.2.2.2.1 k0_h6
theorem k0_off1210_inb : ∀ (i : grid0.Coords) (v0 : BitVec 32) (k0_hw257 : k0_chk257 i v0), ∀ (k0_h6 : k0_cond6 i v0 = 1#1), ∀ a, (k0_off1210 i v0) a + S1.size a ≤ S86016.size a := fun i v0 k0_hw257 k0_h6 => k0_hw257.2.2.2.2.2.2.2.2.2.2.2.2.2.2.1.2.2.2.2.2.2.2.2.2.2.2.2.2.2.2.2.2.2.2.2.2.2.2.2.2.2.2.1 k0_h6
theorem k0_off1212_inb : ∀ (i : grid0.Coords) (v0 : BitVec 32) (k0_hw257 : k0_chk257 i v0), ∀ (k0_h6 : k0_cond6 i v0 = 1#1), ∀ a, (k0_off1212 i v0) a + S1.size a ≤ S86016.size a := fun i v0 k0_hw257 k0_h6 => k0_hw257.2.2.2.2.2.2.2.2.2.2.2.2.2.2.1.2.2.2.2.2.2.2.2.2.2.2.2.2.2.2.2.2.2.2.2.2.2.2.2.2.2.2.2.1 k0_h6
theorem k0_off1214_inb : ∀ (i : grid0.Coords) (v0 : BitVec 32) (k0_hw257 : k0_chk257 i v0), ∀ (k0_h6 : k0_cond6 i v0 = 1#1), ∀ a, (k0_off1214 i v0) a + S1.size a ≤ S86016.size a := fun i v0 k0_hw257 k0_h6 => k0_hw257.2.2.2.2.2.2.2.2.2.2.2.2.2.2.1.2.2.2.2.2.2.2.2.2.2.2.2.2.2.2.2.2.2.2.2.2.2.2.2.2.2.2.2.2.1 k0_h6
theorem k0_off1216_inb : ∀ (i : grid0.Coords) (v0 : BitVec 32) (k0_hw257 : k0_chk257 i v0), ∀ (k0_h6 : k0_cond6 i v0 = 1#1), ∀ a, (k0_off1216 i v0) a + S1.size a ≤ S86016.size a := fun i v0 k0_hw257 k0_h6 => k0_hw257.2.2.2.2.2.2.2.2.2.2.2.2.2.2.1.2.2.2.2.2.2.2.2.2.2.2.2.2.2.2.2.2.2.2.2.2.2.2.2.2.2.2.2.2.2.1 k0_h6
theorem k0_off1218_inb : ∀ (i : grid0.Coords) (v0 : BitVec 32) (k0_hw257 : k0_chk257 i v0), ∀ (k0_h6 : k0_cond6 i v0 = 1#1), ∀ a, (k0_off1218 i v0) a + S1.size a ≤ S86016.size a := fun i v0 k0_hw257 k0_h6 => k0_hw257.2.2.2.2.2.2.2.2.2.2.2.2.2.2.1.2.2.2.2.2.2.2.2.2.2.2.2.2.2.2.2.2.2.2.2.2.2.2.2.2.2.2.2.2.2.2 k0_h6
theorem k0_off1220_inb : ∀ (i : grid0.Coords) (v0 : BitVec 32) (k0_hw257 : k0_chk257 i v0), ∀ (k0_h6 : k0_cond6 i v0 = 1#1), ∀ a, (k0_off1220 i v0) a + S1.size a ≤ S86016.size a := fun i v0 k0_hw257 k0_h6 => k0_hw257.2.2.2.2.2.2.2.2.2.2.2.2.2.2.2.1 k0_h6
theorem k0_off1222_inb : ∀ (i : grid0.Coords) (v0 : BitVec 32) (k0_hw257 : k0_chk257 i v0), ∀ (k0_h6 : k0_cond6 i v0 = 1#1), ∀ a, (k0_off1222 i v0) a + S1.size a ≤ S86016.size a := fun i v0 k0_hw257 k0_h6 => k0_hw257.2.2.2.2.2.2.2.2.2.2.2.2.2.2.2.2.1 k0_h6
theorem k0_off1224_inb : ∀ (i : grid0.Coords) (v0 : BitVec 32) (k0_hw257 : k0_chk257 i v0), ∀ (k0_h6 : k0_cond6 i v0 = 1#1), ∀ a, (k0_off1224 i v0) a + S1.size a ≤ S86016.size a := fun i v0 k0_hw257 k0_h6 => k0_hw257.2.2.2.2.2.2.2.2.2.2.2.2.2.2.2.2.2.1 k0_h6
theorem k0_off1226_inb : ∀ (i : grid0.Coords) (v0 : BitVec 32) (k0_hw257 : k0_chk257 i v0), ∀ (k0_h6 : k0_cond6 i v0 = 1#1), ∀ a, (k0_off1226 i v0) a + S1.size a ≤ S86016.size a := fun i v0 k0_hw257 k0_h6 => k0_hw257.2.2.2.2.2.2.2.2.2.2.2.2.2.2.2.2.2.2.1 k0_h6
theorem k0_off1228_inb : ∀ (i : grid0.Coords) (v0 : BitVec 32) (k0_hw257 : k0_chk257 i v0), ∀ (k0_h6 : k0_cond6 i v0 = 1#1), ∀ a, (k0_off1228 i v0) a + S1.size a ≤ S86016.size a := fun i v0 k0_hw257 k0_h6 => k0_hw257.2.2.2.2.2.2.2.2.2.2.2.2.2.2.2.2.2.2.2.1 k0_h6
theorem k0_off1230_inb : ∀ (i : grid0.Coords) (v0 : BitVec 32) (k0_hw257 : k0_chk257 i v0), ∀ (k0_h6 : k0_cond6 i v0 = 1#1), ∀ a, (k0_off1230 i v0) a + S1.size a ≤ S86016.size a := fun i v0 k0_hw257 k0_h6 => k0_hw257.2.2.2.2.2.2.2.2.2.2.2.2.2.2.2.2.2.2.2.2.1 k0_h6
theorem k0_off1232_inb : ∀ (i : grid0.Coords) (v0 : BitVec 32) (k0_hw257 : k0_chk257 i v0), ∀ (k0_h6 : k0_cond6 i v0 = 1#1), ∀ a, (k0_off1232 i v0) a + S1.size a ≤ S86016.size a := fun i v0 k0_hw257 k0_h6 => k0_hw257.2.2.2.2.2.2.2.2.2.2.2.2.2.2.2.2.2.2.2.2.2.1 k0_h6
theorem k0_off1234_inb : ∀ (i : grid0.Coords) (v0 : BitVec 32) (k0_hw257 : k0_chk257 i v0), ∀ (k0_h6 : k0_cond6 i v0 = 1#1), ∀ a, (k0_off1234 i v0) a + S1.size a ≤ S86016.size a := fun i v0 k0_hw257 k0_h6 => k0_hw257.2.2.2.2.2.2.2.2.2.2.2.2.2.2.2.2.2.2.2.2.2.2.1 k0_h6
theorem k0_off1236_inb : ∀ (i : grid0.Coords) (v0 : BitVec 32) (k0_hw257 : k0_chk257 i v0), ∀ (k0_h6 : k0_cond6 i v0 = 1#1), ∀ a, (k0_off1236 i v0) a + S1.size a ≤ S86016.size a := fun i v0 k0_hw257 k0_h6 => k0_hw257.2.2.2.2.2.2.2.2.2.2.2.2.2.2.2.2.2.2.2.2.2.2.2.1 k0_h6
theorem k0_off1238_inb : ∀ (i : grid0.Coords) (v0 : BitVec 32) (k0_hw257 : k0_chk257 i v0), ∀ (k0_h6 : k0_cond6 i v0 = 1#1), ∀ a, (k0_off1238 i v0) a + S1.size a ≤ S86016.size a := fun i v0 k0_hw257 k0_h6 => k0_hw257.2.2.2.2.2.2.2.2.2.2.2.2.2.2.2.2.2.2.2.2.2.2.2.2.1 k0_h6
theorem k0_off1240_inb : ∀ (i : grid0.Coords) (v0 : BitVec 32) (k0_hw257 : k0_chk257 i v0), ∀ (k0_h6 : k0_cond6 i v0 = 1#1), ∀ a, (k0_off1240 i v0) a + S1.size a ≤ S86016.size a := fun i v0 k0_hw257 k0_h6 => k0_hw257.2.2.2.2.2.2.2.2.2.2.2.2.2.2.2.2.2.2.2.2.2.2.2.2.2.1 k0_h6
theorem k0_off1242_inb : ∀ (i : grid0.Coords) (v0 : BitVec 32) (k0_hw257 : k0_chk257 i v0), ∀ (k0_h6 : k0_cond6 i v0 = 1#1), ∀ a, (k0_off1242 i v0) a + S1.size a ≤ S86016.size a := fun i v0 k0_hw257 k0_h6 => k0_hw257.2.2.2.2.2.2.2.2.2.2.2.2.2.2.2.2.2.2.2.2.2.2.2.2.2.2.1 k0_h6
theorem k0_off1244_inb : ∀ (i : grid0.Coords) (v0 : BitVec 32) (k0_hw257 : k0_chk257 i v0), ∀ (k0_h6 : k0_cond6 i v0 = 1#1), ∀ a, (k0_off1244 i v0) a + S1.size a ≤ S86016.size a := fun i v0 k0_hw257 k0_h6 => k0_hw257.2.2.2.2.2.2.2.2.2.2.2.2.2.2.2.2.2.2.2.2.2.2.2.2.2.2.2.1 k0_h6
theorem k0_off1246_inb : ∀ (i : grid0.Coords) (v0 : BitVec 32) (k0_hw257 : k0_chk257 i v0), ∀ (k0_h6 : k0_cond6 i v0 = 1#1), ∀ a, (k0_off1246 i v0) a + S1.size a ≤ S86016.size a := fun i v0 k0_hw257 k0_h6 => k0_hw257.2.2.2.2.2.2.2.2.2.2.2.2.2.2.2.2.2.2.2.2.2.2.2.2.2.2.2.2.1 k0_h6
theorem k0_off1248_inb : ∀ (i : grid0.Coords) (v0 : BitVec 32) (k0_hw257 : k0_chk257 i v0), ∀ (k0_h6 : k0_cond6 i v0 = 1#1), ∀ a, (k0_off1248 i v0) a + S1.size a ≤ S86016.size a := fun i v0 k0_hw257 k0_h6 => k0_hw257.2.2.2.2.2.2.2.2.2.2.2.2.2.2.2.2.2.2.2.2.2.2.2.2.2.2.2.2.2.1 k0_h6
theorem k0_off1250_inb : ∀ (i : grid0.Coords) (v0 : BitVec 32) (k0_hw257 : k0_chk257 i v0), ∀ (k0_h6 : k0_cond6 i v0 = 1#1), ∀ a, (k0_off1250 i v0) a + S1.size a ≤ S86016.size a := fun i v0 k0_hw257 k0_h6 => k0_hw257.2.2.2.2.2.2.2.2.2.2.2.2.2.2.2.2.2.2.2.2.2.2.2.2.2.2.2.2.2.2.1 k0_h6
theorem k0_off1252_inb : ∀ (i : grid0.Coords) (v0 : BitVec 32) (k0_hw257 : k0_chk257 i v0), ∀ (k0_h6 : k0_cond6 i v0 = 1#1), ∀ a, (k0_off1252 i v0) a + S1.size a ≤ S86016.size a := fun i v0 k0_hw257 k0_h6 => k0_hw257.2.2.2.2.2.2.2.2.2.2.2.2.2.2.2.2.2.2.2.2.2.2.2.2.2.2.2.2.2.2.2.1 k0_h6
theorem k0_off1254_inb : ∀ (i : grid0.Coords) (v0 : BitVec 32) (k0_hw257 : k0_chk257 i v0), ∀ (k0_h6 : k0_cond6 i v0 = 1#1), ∀ a, (k0_off1254 i v0) a + S1.size a ≤ S86016.size a := fun i v0 k0_hw257 k0_h6 => k0_hw257.2.2.2.2.2.2.2.2.2.2.2.2.2.2.2.2.2.2.2.2.2.2.2.2.2.2.2.2.2.2.2.2.1 k0_h6
theorem k0_off1256_inb : ∀ (i : grid0.Coords) (v0 : BitVec 32) (k0_hw257 : k0_chk257 i v0), ∀ (k0_h6 : k0_cond6 i v0 = 1#1), ∀ a, (k0_off1256 i v0) a + S1.size a ≤ S86016.size a := fun i v0 k0_hw257 k0_h6 => k0_hw257.2.2.2.2.2.2.2.2.2.2.2.2.2.2.2.2.2.2.2.2.2.2.2.2.2.2.2.2.2.2.2.2.2.1 k0_h6
theorem k0_off1258_inb : ∀ (i : grid0.Coords) (v0 : BitVec 32) (k0_hw257 : k0_chk257 i v0), ∀ (k0_h6 : k0_cond6 i v0 = 1#1), ∀ a, (k0_off1258 i v0) a + S1.size a ≤ S86016.size a := fun i v0 k0_hw257 k0_h6 => k0_hw257.2.2.2.2.2.2.2.2.2.2.2.2.2.2.2.2.2.2.2.2.2.2.2.2.2.2.2.2.2.2.2.2.2.2.1 k0_h6
theorem k0_off1260_inb : ∀ (i : grid0.Coords) (v0 : BitVec 32) (k0_hw257 : k0_chk257 i v0), ∀ (k0_h6 : k0_cond6 i v0 = 1#1), ∀ a, (k0_off1260 i v0) a + S1.size a ≤ S86016.size a := fun i v0 k0_hw257 k0_h6 => k0_hw257.2.2.2.2.2.2.2.2.2.2.2.2.2.2.2.2.2.2.2.2.2.2.2.2.2.2.2.2.2.2.2.2.2.2.2.1 k0_h6
theorem k0_off1262_inb : ∀ (i : grid0.Coords) (v0 : BitVec 32) (k0_hw257 : k0_chk257 i v0), ∀ (k0_h6 : k0_cond6 i v0 = 1#1), ∀ a, (k0_off1262 i v0) a + S1.size a ≤ S86016.size a := fun i v0 k0_hw257 k0_h6 => k0_hw257.2.2.2.2.2.2.2.2.2.2.2.2.2.2.2.2.2.2.2.2.2.2.2.2.2.2.2.2.2.2.2.2.2.2.2.2.1 k0_h6
theorem k0_off1264_inb : ∀ (i : grid0.Coords) (v0 : BitVec 32) (k0_hw257 : k0_chk257 i v0), ∀ (k0_h6 : k0_cond6 i v0 = 1#1), ∀ a, (k0_off1264 i v0) a + S1.size a ≤ S86016.size a := fun i v0 k0_hw257 k0_h6 => k0_hw257.2.2.2.2.2.2.2.2.2.2.2.2.2.2.2.2.2.2.2.2.2.2.2.2.2.2.2.2.2.2.2.2.2.2.2.2.2.1 k0_h6
theorem k0_off1266_inb : ∀ (i : grid0.Coords) (v0 : BitVec 32) (k0_hw257 : k0_chk257 i v0), ∀ (k0_h6 : k0_cond6 i v0 = 1#1), ∀ a, (k0_off1266 i v0) a + S1.size a ≤ S86016.size a := fun i v0 k0_hw257 k0_h6 => k0_hw257.2.2.2.2.2.2.2.2.2.2.2.2.2.2.2.2.2.2.2.2.2.2.2.2.2.2.2.2.2.2.2.2.2.2.2.2.2.2.1 k0_h6
theorem k0_off1268_inb : ∀ (i : grid0.Coords) (v0 : BitVec 32) (k0_hw257 : k0_chk257 i v0), ∀ (k0_h6 : k0_cond6 i v0 = 1#1), ∀ a, (k0_off1268 i v0) a + S1.size a ≤ S86016.size a := fun i v0 k0_hw257 k0_h6 => k0_hw257.2.2.2.2.2.2.2.2.2.2.2.2.2.2.2.2.2.2.2.2.2.2.2.2.2.2.2.2.2.2.2.2.2.2.2.2.2.2.2.1 k0_h6
theorem k0_off1270_inb : ∀ (i : grid0.Coords) (v0 : BitVec 32) (k0_hw257 : k0_chk257 i v0), ∀ (k0_h6 : k0_cond6 i v0 = 1#1), ∀ a, (k0_off1270 i v0) a + S1.size a ≤ S86016.size a := fun i v0 k0_hw257 k0_h6 => k0_hw257.2.2.2.2.2.2.2.2.2.2.2.2.2.2.2.2.2.2.2.2.2.2.2.2.2.2.2.2.2.2.2.2.2.2.2.2.2.2.2.2.1 k0_h6
theorem k0_off1272_inb : ∀ (i : grid0.Coords) (v0 : BitVec 32) (k0_hw257 : k0_chk257 i v0), ∀ (k0_h6 : k0_cond6 i v0 = 1#1), ∀ a, (k0_off1272 i v0) a + S1.size a ≤ S86016.size a := fun i v0 k0_hw257 k0_h6 => k0_hw257.2.2.2.2.2.2.2.2.2.2.2.2.2.2.2.2.2.2.2.2.2.2.2.2.2.2.2.2.2.2.2.2.2.2.2.2.2.2.2.2.2.1 k0_h6
theorem k0_off1274_inb : ∀ (i : grid0.Coords) (v0 : BitVec 32) (k0_hw257 : k0_chk257 i v0), ∀ (k0_h6 : k0_cond6 i v0 = 1#1), ∀ a, (k0_off1274 i v0) a + S1.size a ≤ S86016.size a := fun i v0 k0_hw257 k0_h6 => k0_hw257.2.2.2.2.2.2.2.2.2.2.2.2.2.2.2.2.2.2.2.2.2.2.2.2.2.2.2.2.2.2.2.2.2.2.2.2.2.2.2.2.2.2.1 k0_h6
theorem k0_off1276_inb : ∀ (i : grid0.Coords) (v0 : BitVec 32) (k0_hw257 : k0_chk257 i v0), ∀ (k0_h6 : k0_cond6 i v0 = 1#1), ∀ a, (k0_off1276 i v0) a + S1.size a ≤ S86016.size a := fun i v0 k0_hw257 k0_h6 => k0_hw257.2.2.2.2.2.2.2.2.2.2.2.2.2.2.2.2.2.2.2.2.2.2.2.2.2.2.2.2.2.2.2.2.2.2.2.2.2.2.2.2.2.2.2.1 k0_h6
theorem k0_off1278_inb : ∀ (i : grid0.Coords) (v0 : BitVec 32) (k0_hw257 : k0_chk257 i v0), ∀ (k0_h6 : k0_cond6 i v0 = 1#1), ∀ a, (k0_off1278 i v0) a + S1.size a ≤ S86016.size a := fun i v0 k0_hw257 k0_h6 => k0_hw257.2.2.2.2.2.2.2.2.2.2.2.2.2.2.2.2.2.2.2.2.2.2.2.2.2.2.2.2.2.2.2.2.2.2.2.2.2.2.2.2.2.2.2.2.1 k0_h6
theorem k0_off1280_inb : ∀ (i : grid0.Coords) (v0 : BitVec 32) (k0_hw257 : k0_chk257 i v0), ∀ (k0_h6 : k0_cond6 i v0 = 1#1), ∀ a, (k0_off1280 i v0) a + S1.size a ≤ S86016.size a := fun i v0 k0_hw257 k0_h6 => k0_hw257.2.2.2.2.2.2.2.2.2.2.2.2.2.2.2.2.2.2.2.2.2.2.2.2.2.2.2.2.2.2.2.2.2.2.2.2.2.2.2.2.2.2.2.2.2.1 k0_h6
theorem k0_off1282_inb : ∀ (i : grid0.Coords) (v0 : BitVec 32) (k0_hw257 : k0_chk257 i v0), ∀ (k0_h6 : k0_cond6 i v0 = 1#1), ∀ a, (k0_off1282 i v0) a + S1.size a ≤ S86016.size a := fun i v0 k0_hw257 k0_h6 => k0_hw257.2.2.2.2.2.2.2.2.2.2.2.2.2.2.2.2.2.2.2.2.2.2.2.2.2.2.2.2.2.2.2.2.2.2.2.2.2.2.2.2.2.2.2.2.2.2 k0_h6

def k0_off1283 (v1833 : BitVec 32) : Fin 2 → Nat :=
  let c0_i32_1049 : BitVec 32 := 0#32
  ![v1833.toNat, 0]

def k0_chk769 (i : grid0.Coords) (v0 : BitVec 32) (v1833 : BitVec 32) : Prop :=
  (∀ (k0_h6 : k0_cond6 i v0 = 1#1), ∀ a, (k0_off1283 v1833) a + S1x2048.size a ≤ S8704x2048.size a)
theorem k0_off1283_inb : ∀ (i : grid0.Coords) (v0 : BitVec 32) (v1833 : BitVec 32) (k0_hw769 : k0_chk769 i v0 v1833), ∀ (k0_h6 : k0_cond6 i v0 = 1#1), ∀ a, (k0_off1283 v1833) a + S1x2048.size a ≤ S8704x2048.size a := fun i v0 v1833 k0_hw769 k0_h6 => k0_hw769 k0_h6

def k0_cond8 (i : grid0.Coords) (v35 : BitVec 32) : BitVec 1 :=
  let arg0 : BitVec 32 := BitVec.ofNat 32 (i 0).val
  let v36 : BitVec 1 := Scalar.cmpi .sge arg0 v35
  let v37 : BitVec 32 := Scalar.extui v36
  let c0_i32_17 : BitVec 32 := 0#32
  let v38 : BitVec 1 := Scalar.cmpi .ne v37 c0_i32_17
  v38

def cc0_transform_1 (k0_off1_inb : ∀ i : grid0.Coords, ∀ a, (k0_off1 i) a + S1.size a ≤ S336.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S336) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S336.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S336) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S336.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S336) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8704x2048 : Shape := ⟨2, ![8704, 2048]⟩
abbrev S336 : Shape := ⟨1, ![336]⟩
abbrev S1 : Shape := ⟨1, ![1]⟩
abbrev S86016 : Shape := ⟨1, ![86016]⟩
abbrev S128x2048x512 : Shape := ⟨3, ![128, 2048, 512]⟩
abbrev S128x512x2048 : Shape := ⟨3, ![128, 512, 2048]⟩
abbrev S_ : Shape := ⟨0, ![]⟩
abbrev S86016x1 : Shape := ⟨2, ![86016, 1]⟩
abbrev S86016x2048 : Shape := ⟨2, ![86016, 2048]⟩
abbrev S336x256x2048 : Shape := ⟨3, ![336, 256, 2048]⟩
abbrev S336x1 : Shape := ⟨2, ![336, 1]⟩
abbrev S336x2048x512 : Shape := ⟨3, ![336, 2048, 512]⟩
abbrev S336x256x512 : Shape := ⟨3, ![336, 256, 512]⟩
abbrev S336x512x2048 : Shape := ⟨3, ![336, 512, 2048]⟩
abbrev S336x1x1 : Shape := ⟨3, ![336, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S336, .i32⟩
  | .hbm, ⟨2, _⟩ => ⟨S1, .i32⟩
  | .hbm, ⟨3, _⟩ => ⟨S86016, .i32⟩
  | .hbm, ⟨4, _⟩ => ⟨S128x2048x512, .f32⟩
  | .hbm, ⟨5, _⟩ => ⟨S128x2048x512, .f32⟩
  | .hbm, ⟨6, _⟩ => ⟨S128x512x2048, .f32⟩
  | .hbm, ⟨7, _⟩ => ⟨S_, .i32⟩
  | .hbm, ⟨8, _⟩ => ⟨S86016, .i32⟩
  | .hbm, ⟨9, _⟩ => ⟨S86016, .i1⟩
  | .hbm, ⟨10, _⟩ => ⟨S_, .i32⟩
  | .hbm, ⟨11, _⟩ => ⟨S86016, .i32⟩
  | .hbm, ⟨12, _⟩ => ⟨S86016, .i32⟩
  | .hbm, ⟨13, _⟩ => ⟨S86016, .i32⟩
  | .hbm, ⟨14, _⟩ => ⟨S86016x1, .i32⟩
  | .hbm, ⟨15, _⟩ => ⟨S86016x2048, .f32⟩
  | .hbm, ⟨16, _⟩ => ⟨S336x256x2048, .f32⟩
  | .hbm, ⟨17, _⟩ => ⟨S_, .i32⟩
  | .hbm, ⟨18, _⟩ => ⟨S336, .i32⟩
  | .hbm, ⟨19, _⟩ => ⟨S336, .i1⟩
  | .hbm, ⟨20, _⟩ => ⟨S_, .i32⟩
  | .hbm, ⟨21, _⟩ => ⟨S336, .i32⟩
  | .hbm, ⟨22, _⟩ => ⟨S336, .i32⟩
  | .hbm, ⟨23, _⟩ => ⟨S336, .i32⟩
  | .hbm, ⟨24, _⟩ => ⟨S336x1, .i32⟩
  | .hbm, ⟨25, _⟩ => ⟨S336x2048x512, .f32⟩
  | .hbm, ⟨26, _⟩ => ⟨S336x256x512, .f32⟩
  | .hbm, ⟨27, _⟩ => ⟨S336x256x512, .f32⟩
  | .hbm, ⟨28, _⟩ => ⟨S336x256x512, .f32⟩
  | .hbm, ⟨29, _⟩ => ⟨S_, .f32⟩
  | .hbm, ⟨30, _⟩ => ⟨S336x256x512, .f32⟩
  | .hbm, ⟨31, _⟩ => ⟨S336x256x512, .f32⟩
  | .hbm, ⟨32, _⟩ => ⟨S_, .f32⟩
  | .hbm, ⟨33, _⟩ => ⟨S336x256x512, .f32⟩
  | .hbm, ⟨34, _⟩ => ⟨S336x256x512, .f32⟩
  | .hbm, ⟨35, _⟩ => ⟨S336x256x512, .f32⟩
  | .hbm, ⟨36, _⟩ => ⟨S_, .i32⟩
  | .hbm, ⟨37, _⟩ => ⟨S336, .i32⟩
  | .hbm, ⟨38, _⟩ => ⟨S336, .i1⟩
  | .hbm, ⟨39, _⟩ => ⟨S_, .i32⟩
  | .hbm, ⟨40, _⟩ => ⟨S336, .i32⟩
  | .hbm, ⟨41, _⟩ => ⟨S336, .i32⟩
  | .hbm, ⟨42, _⟩ => ⟨S336, .i32⟩
  | .hbm, ⟨43, _⟩ => ⟨S336x1, .i32⟩
  | .hbm, ⟨44, _⟩ => ⟨S336x2048x512, .f32⟩
  | .hbm, ⟨45, _⟩ => ⟨S336x256x512, .f32⟩
  | .hbm, ⟨46, _⟩ => ⟨S336x256x512, .f32⟩
  | .hbm, ⟨47, _⟩ => ⟨S_, .i32⟩
  | .hbm, ⟨48, _⟩ => ⟨S336, .i32⟩
  | .hbm, ⟨49, _⟩ => ⟨S336, .i1⟩
  | .hbm, ⟨50, _⟩ => ⟨S_, .i32⟩
  | .hbm, ⟨51, _⟩ => ⟨S336, .i32⟩
  | .hbm, ⟨52, _⟩ => ⟨S336, .i32⟩
  | .hbm, ⟨53, _⟩ => ⟨S336, .i32⟩
  | .hbm, ⟨54, _⟩ => ⟨S336x1, .i32⟩
  | .hbm, ⟨55, _⟩ => ⟨S336x512x2048, .f32⟩
  | .hbm, ⟨56, _⟩ => ⟨S336x256x2048, .f32⟩
  | .hbm, ⟨57, _⟩ => ⟨S336, .i32⟩
  | .hbm, ⟨58, _⟩ => ⟨S_, .i32⟩
  | .hbm, ⟨59, _⟩ => ⟨S336, .i32⟩
  | .hbm, ⟨60, _⟩ => ⟨S336, .i1⟩
  | .hbm, ⟨61, _⟩ => ⟨S336x1x1, .i1⟩
  | .hbm, ⟨62, _⟩ => ⟨S_, .f32⟩
  | .hbm, ⟨63, _⟩ => ⟨S_, .f32⟩
  | .hbm, ⟨64, _⟩ => ⟨S336x256x2048, .i1⟩
  | .hbm, ⟨65, _⟩ => ⟨S336x256x2048, .f32⟩
  | .hbm, ⟨66, _⟩ => ⟨S336x256x2048, .f32⟩
  | .hbm, ⟨67, _⟩ => ⟨S86016x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== Ffn.lean ====
abbrev S8704x2048 : Shape := ⟨2, ![8704, 2048]⟩
abbrev S2048x512 : Shape := ⟨2, ![2048, 512]⟩
abbrev S512x2048 : Shape := ⟨2, ![512, 2048]⟩
abbrev S256x2048 : Shape := ⟨2, ![256, 2048]⟩
abbrev S256x512 : Shape := ⟨2, ![256, 512]⟩

abbrev nBuf : Space → Nat
  | .hbm => 8
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2048x512, .f32⟩
  | .hbm, ⟨2, _⟩ => ⟨S2048x512, .f32⟩
  | .hbm, ⟨3, _⟩ => ⟨S512x2048, .f32⟩
  | .hbm, ⟨4, _⟩ => ⟨S2048x512, .bf16⟩
  | .hbm, ⟨5, _⟩ => ⟨S2048x512, .bf16⟩
  | .hbm, ⟨6, _⟩ => ⟨S512x2048, .bf16⟩
  | .hbm, ⟨7, _⟩ => ⟨S8704x2048, .f32⟩
  | .local _ .vmem, ⟨0, _⟩ => ⟨S256x2048, .bf16⟩
  | .local _ .vmem, ⟨1, _⟩ => ⟨S256x2048, .bf16⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S256x2048, .f32⟩
  | .local _ .vmem, ⟨6, _⟩ => ⟨S256x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnReferenceIdeal.lean ====
abbrev S8704x2048 : Shape := ⟨2, ![8704, 2048]⟩
abbrev S2048x512 : Shape := ⟨2, ![2048, 512]⟩
abbrev S512x2048 : Shape := ⟨2, ![512, 2048]⟩
abbrev S8704x512 : Shape := ⟨2, ![8704, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x512, .f32⟩
  | .hbm, ⟨2, _⟩ => ⟨S2048x512, .f32⟩
  | .hbm, ⟨3, _⟩ => ⟨S512x2048, .f32⟩
  | .hbm, ⟨4, _⟩ => ⟨S8704x2048, .f32⟩
  | .hbm, ⟨5, _⟩ => ⟨S8704x512, .f32⟩
  | .hbm, ⟨6, _⟩ => ⟨S8704x512, .f32⟩
  | .hbm, ⟨7, _⟩ => ⟨S8704x512, .f32⟩
  | .hbm, ⟨8, _⟩ => ⟨S_, .f32⟩
  | .hbm, ⟨9, _⟩ => ⟨S8704x512, .f32⟩
  | .hbm, ⟨10, _⟩ => ⟨S8704x512, .f32⟩
  | .hbm, ⟨11, _⟩ => ⟨S_, .f32⟩
  | .hbm, ⟨12, _⟩ => ⟨S8704x512, .f32⟩
  | .hbm, ⟨13, _⟩ => ⟨S8704x512, .f32⟩
  | .hbm, ⟨14, _⟩ => ⟨S8704x512, .f32⟩
  | .hbm, ⟨15, _⟩ => ⟨S8704x512, .f32⟩
  | .hbm, ⟨16, _⟩ => ⟨S8704x512, .f32⟩
  | .hbm, ⟨17, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== ProjThree.lean ====
abbrev S8704x2048 : Shape := ⟨2, ![8704, 2048]⟩
abbrev S2048x3072 : Shape := ⟨2, ![2048, 3072]⟩
abbrev S8704x3072 : Shape := ⟨2, ![8704, 3072]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2048x3072, .f32⟩
  | .hbm, ⟨2, _⟩ => ⟨S2048x3072, .bf16⟩
  | .hbm, ⟨3, _⟩ => ⟨S8704x3072, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjThreeReferenceIdeal.lean ====
abbrev S8704x2048 : Shape := ⟨2, ![8704, 2048]⟩
abbrev S2048x3072 : Shape := ⟨2, ![2048, 3072]⟩
abbrev S8704x3072 : Shape := ⟨2, ![8704, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x3072, .f32⟩
  | .hbm, ⟨2, _⟩ => ⟨S8704x2048, .f32⟩
  | .hbm, ⟨3, _⟩ => ⟨S8704x3072, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjTwo.lean ====
abbrev S8704x2048 : Shape := ⟨2, ![8704, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S2048x2048, .bf16⟩
  | .hbm, ⟨3, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjTwoReferenceIdeal.lean ====
abbrev S8704x2048 : Shape := ⟨2, ![8704, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjOne.lean ====
abbrev S8704x2048 : Shape := ⟨2, ![8704, 2048]⟩
abbrev S2048x1024 : Shape := ⟨2, ![2048, 1024]⟩
abbrev S8704x1024 : Shape := ⟨2, ![8704, 1024]⟩
abbrev S512x2048 : Shape := ⟨2, ![512, 2048]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8704x2048, .bf16⟩
  | .hbm, ⟨1, _⟩ => ⟨S2048x1024, .f32⟩
  | .hbm, ⟨2, _⟩ => ⟨S2048x1024, .bf16⟩
  | .hbm, ⟨3, _⟩ => ⟨S8704x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjOneReferenceIdeal.lean ====
abbrev S8704x2048 : Shape := ⟨2, ![8704, 2048]⟩
abbrev S2048x1024 : Shape := ⟨2, ![2048, 1024]⟩
abbrev S8704x1024 : Shape := ⟨2, ![8704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x1024, .f32⟩
  | .hbm, ⟨2, _⟩ => ⟨S8704x2048, .f32⟩
  | .hbm, ⟨3, _⟩ => ⟨S8704x1024, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjPair.lean ====
abbrev S8704x1024 : Shape := ⟨2, ![8704, 1024]⟩
abbrev S2048x2048 : Shape := ⟨2, ![2048, 2048]⟩
abbrev S1024x2048 : Shape := ⟨2, ![1024, 2048]⟩
abbrev S8704x2048 : Shape := ⟨2, ![8704, 2048]⟩
abbrev S512x1024 : Shape := ⟨2, ![512, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S2048x2048, .f32⟩
  | .hbm, ⟨3, _⟩ => ⟨S1024x2048, .f32⟩
  | .hbm, ⟨4, _⟩ => ⟨S1024x2048, .bf16⟩
  | .hbm, ⟨5, _⟩ => ⟨S1024x2048, .f32⟩
  | .hbm, ⟨6, _⟩ => ⟨S1024x2048, .bf16⟩
  | .hbm, ⟨7, _⟩ => ⟨S8704x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjPairReferenceIdeal.lean ====
abbrev S8704x1024 : Shape := ⟨2, ![8704, 1024]⟩
abbrev S2048x2048 : Shape := ⟨2, ![2048, 2048]⟩
abbrev S8704x2048 : Shape := ⟨2, ![8704, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S2048x2048, .f32⟩
  | .hbm, ⟨3, _⟩ => ⟨S8704x1024, .f32⟩
  | .hbm, ⟨4, _⟩ => ⟨S8704x1024, .f32⟩
  | .hbm, ⟨5, _⟩ => ⟨S8704x2048, .f32⟩
  | .hbm, ⟨6, _⟩ => ⟨S8704x2048, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.RowCopies.lean ====
/-
  A run of 256 row copies, one after the other. The kernel fills a 256-row buffer by a straight line of copies: it
  reads a row number from the token table, checks that the row exists, and starts a copy of that row of the activations
  into row `j` of the buffer, for `j = 0 … 255`, all on one semaphore. `RowCopies` says of a program that it is such a
  line from copy `j` on; the gathers printed for the kernel are instances (`Gathers`), and the run of any instance is
  `Proof.GatherRun`'s one theorem.
-/
module

public import Idealize.ShloMosaic.Lib.Batch
public import Idealize.ShloMosaic.Lib.Pipeline
public import Idealize.ShloMosaic.PureOps

@[expose] public section

noncomputable section

namespace Cert.Moe

open Idealize.ShloMosaic Idealize.SL.Sem

/-- The token table. -/
abbrev SToks : Shape := ⟨1, ![86016]⟩
/-- The activations: a row for each token. -/
abbrev SActs : Shape := ⟨2, ![8704, 2048]⟩
/-- A buffer of gathered rows. -/
abbrev SRows : Shape := ⟨2, ![256, 2048]⟩
/-- One row. -/
abbrev SRow : Shape := ⟨2, ![1, 2048]⟩
/-- One word. -/
abbrev SWord : Shape := ⟨1, ![1]⟩

/-- The one index of a word. -/
abbrev oneWord : SWord.Idx := Shape.Idx.first (s := SWord) (by decide)

/-- The row a word names lies in the activations. -/
theorem row_inb (w : ℕ) (hw : w < 8704) : ∀ a : Fin 2, (![w, 0] : Fin 2 → ℕ) a + SRow.size a ≤ SActs.size a := by
  intro a
  match a with
  | ⟨0, _⟩ => show w + 1 ≤ 8704; omega
  | ⟨1, _⟩ => show 0 + 2048 ≤ 2048; omega

/-- Row `j` lies in the buffer. -/
theorem buf_inb (j : ℕ) (hj : j < 256) : ∀ a : Fin 2, (![j, 0] : Fin 2 → ℕ) a + SRow.size a ≤ SRows.size a := by
  intro a
  match a with
  | ⟨0, _⟩ => show j + 1 ≤ 256; omega
  | ⟨1, _⟩ => show 0 + 2048 ≤ 2048; omega

section Copies

variable {nD : ℕ} {τ : Topo} {sig : RefSig} {F : FTy → Type} [FloatOps F] {Λ : Labels}

/-- The word of the table a one-word rectangle names is read, tested, and its row copied: `RowCopies … j p` says `p` is
    the copies `j … 255`, copy `j` reading the table at `row0 + j`, and then a return. -/
inductive RowCopies (tok : Memref sig .tc .smem SToks .i32) (src : Memref sig .tc .hbm SActs .f32)
    (dst : Memref sig .tc .vmem SRows .f32) (sem : DmaSem sig) (row0 : BitVec 32) :
    ℕ → Prog (TpuEff nD τ sig (Elt F) Λ .tc) PUnit → Prop
  | done (u : PUnit) : RowCopies tok src dst sem row0 256 (.ret u)
  | step (j : ℕ) (hj : j < 256) (off : Fin 1 → ℕ) (hoff : off = ![(row0 + BitVec.ofNat 32 j).toNat])
      (hin : ∀ a, off a + SWord.size a ≤ SToks.size a)
      (hl : tok.view.LoadsAt (Rect.unit (s := SToks) off SWord.size hin))
      (P : (SWord.Idx → BitVec 32) → Prop) (dec : ∀ f, Decidable (P f))
      (hP : ∀ f, (f oneWord).toNat < 8704 → P f)
      (off2 : (SWord.Idx → BitVec 32) → Fin 2 → ℕ) (hoff2 : ∀ f, off2 f = ![(f oneWord).toNat, 0])
      (hin2 : ∀ f, P f → ∀ a, off2 f a + SRow.size a ≤ SActs.size a)
      (hdin : ∀ a, (![j, 0] : Fin 2 → ℕ) a + SRow.size a ≤ SRows.size a)
      (h1 : ∀ f (h : P f), (src.slice (Rect.unit (s := SActs) (off2 f) SRow.size (hin2 f h)) (fun _ => rfl)).view.WordExact)
      (h2 : (dst.slice (Rect.unit (s := SRows) ![j, 0] SRow.size hdin) (fun _ => rfl)).view.WordExact)
      (h3 : DmaTarget.Typed (nD := nD) (τ := τ) (p := .tc) .hbm (.dma sem)
        (.here (dst.slice (Rect.unit (s := SRows) ![j, 0] SRow.size hdin) (fun _ => rfl))))
      (k : (f : SWord.Idx → BitVec 32) → PLift (P f) → PUnit → Prog (TpuEff nD τ sig (Elt F) Λ .tc) PUnit)
      (hk : ∀ f h u, RowCopies tok src dst sem row0 (j + 1) (k f h u)) :
      RowCopies tok src dst sem row0 j
        (.op (.load tok (Rect.unit (s := SToks) off SWord.size hin) hl) fun f : SWord.Idx → BitVec 32 =>
          .op (.assume (P f) (dec f)) fun h =>
            .op (.enqueueDmaAs (src.slice (Rect.unit (s := SActs) (off2 f) SRow.size (hin2 f h.down)) (fun _ => rfl))
              (.here (dst.slice (Rect.unit (s := SRows) ![j, 0] SRow.size hdin) (fun _ => rfl))) .same (.dma sem)
              (h1 f h.down) h2 h3) (k f h))

end Copies

end Cert.Moe

end
-- ==== Proof.GatherRun.lean ====
/-
  What a run of row copies does. Before copy `j` the core holds the table, and for each copy still to start its row of
  the buffer and a share of the row of the activations it reads; each start hands the two to the copy. After the last
  start every copy is in flight, and together they owe the buffer, row by row, at the rows they read, and every share
  back.
-/
module

public import proofs.«01_k».proof.Proof.RowCopies

@[expose] public section

noncomputable section

namespace Cert.Moe

open Idealize.ShloMosaic Idealize.ShloMosaic.Transfers
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {nD : ℕ} {τ : Topo} {sig : RefSig} {Ix : Type} [DecidableEq Ix] {F : FTy → Type} [FloatOps F]
variable {Name : Type} [DecidableEq Name] {U : Type} [URA U] {Lvl : Type}

local notation "𝕄" => MT nD τ sig Ix (Elt F) Name U Lvl

/-- Row `w` of the activations, a memref. -/
abbrev actRow (src : Memref sig .tc .hbm SActs .f32) (w : ℕ) (hw : w < 8704) : Memref sig .tc .hbm SRow .f32 :=
  src.slice (Rect.unit (s := SActs) ![w, 0] SRow.size (row_inb w hw)) (fun _ => rfl)

/-- Row `j` of a buffer. -/
abbrev bufRow (dst : Memref sig .tc .vmem SRows .f32) (j : Fin 256) : Memref sig .tc .vmem SRow .f32 :=
  dst.slice (Rect.unit (s := SRows) ![j.val, 0] SRow.size (buf_inb j.val j.isLt)) (fun _ => rfl)

/-- A share of row `w` of the activations; -/
def rowHeld (c : Dev nD) (src : Memref sig .tc .hbm SActs .f32) (fs : Buf (Elt F) (src.view.loc (c.tc : Thread nD τ)))
    (w : ℕ) (hw : w < 8704) (q : PosShare TreeShare) : sProp 𝕄 :=
  (actRow src w hw).view.loc (c.tc : Thread nD τ) ↦[(actRow src w hw).view.set]{q} fs

/-- row `j` of the buffer, whole. -/
def bufHeld (c : Dev nD) (dst : Memref sig .tc .vmem SRows .f32) (fd : Buf (Elt F) (dst.view.loc (c.tc : Thread nD τ)))
    (j : Fin 256) : sProp 𝕄 :=
  (bufRow dst j).view.loc (c.tc : Thread nD τ) ↦[(bufRow dst j).view.set]{fullShare} fd

theorem rowHeld_of_off (c : Dev nD) (src : Memref sig .tc .hbm SActs .f32) (fs : Buf (Elt F) (src.view.loc (c.tc : Thread nD τ)))
    {w : ℕ} (hw : w < 8704) (q : PosShare TreeShare) {o : Fin 2 → ℕ} (ho : o = ![w, 0])
    (hin : ∀ a, o a + SRow.size a ≤ SActs.size a) :
    (rowHeld c src fs w hw q : sProp 𝕄)
      = ((src.slice (Rect.unit (s := SActs) o SRow.size hin) (fun _ => rfl)).view.loc (c.tc : Thread nD τ)
          ↦[(src.slice (Rect.unit (s := SActs) o SRow.size hin) (fun _ => rfl)).view.set]{q} fs) := by
  subst ho; rfl

theorem read_of_off (src : Memref sig .tc .hbm SActs .f32) (fs : src.view.ty.Contents (Elt F))
    {w : ℕ} (hw : w < 8704) {o : Fin 2 → ℕ} (ho : o = ![w, 0]) (hin : ∀ a, o a + SRow.size a ≤ SActs.size a) :
    (src.slice (Rect.unit (s := SActs) o SRow.size hin) (fun _ => rfl)).view.read (Elt F) fs
      = (actRow src w hw).view.read (Elt F) fs := by
  subst ho; rfl

/-- Contents that read the same through a view agree on its elements. -/
theorem agree_of_read {κ : Kind} {sp : Space} {s : Shape} {e : EltTy} {Val : EltTy → Type} (v : View sig κ sp s e)
    {f g : v.ty.Contents Val} (h : v.read Val f = v.read Val g) : ∀ i ∈ v.set, f i = g i := by
  intro i hi
  obtain ⟨x, -, rfl⟩ := Finset.mem_map.mp hi
  have hx := congrFun h x
  simp only [View.read_apply] at hx
  exact (cast_bijective _).injective hx

section Run

variable [Infinite Name] [Preorder Lvl] {Λ : Labels} {defs : Defs nD τ sig (Elt F) Λ} (𝒱 : Variants) (bd : Option 𝒱.V)
variable (EC : UEmb Counters (MT nD τ sig Ix (Elt F) Name U Lvl))

/-- What copy `j` owes when it lands: its row of the buffer at contents `G`, and its share of the row it read. -/
def delivery (c : Dev nD) (src : Memref sig .tc .hbm SActs .f32) (dst : Memref sig .tc .vmem SRows .f32)
    (fs : Buf (Elt F) (src.view.loc (c.tc : Thread nD τ))) (G : Buf (Elt F) (dst.view.loc (c.tc : Thread nD τ)))
    (rows : Fin 256 → ℕ) (hrows : ∀ j, rows j < 8704) (sh : Fin 256 → PosShare TreeShare) (j : Fin 256) : sProp 𝕄 :=
  iprop(bufHeld c dst G j ∗ rowHeld c src fs (rows j) (hrows j) (sh j))

instance (c : Dev nD) (src : Memref sig .tc .hbm SActs .f32) (dst : Memref sig .tc .vmem SRows .f32)
    (fs : Buf (Elt F) (src.view.loc (c.tc : Thread nD τ))) (G : Buf (Elt F) (dst.view.loc (c.tc : Thread nD τ)))
    (rows : Fin 256 → ℕ) (hrows : ∀ j, rows j < 8704) (sh : Fin 256 → PosShare TreeShare) (j : Fin 256) :
    Storable (upEmb : UEmb _ 𝕄) (delivery c src dst fs G rows hrows sh j) := by
  unfold delivery bufHeld rowHeld; infer_instance

/-- A run of row copies from copy `j` on. -/
theorem RowCopies.run [EC.LandsIn (upEmb : UEmb _ 𝕄)] (c : Dev nD) {tok : Memref sig .tc .smem SToks .i32} {src : Memref sig .tc .hbm SActs .f32}
    {dst : Memref sig .tc .vmem SRows .f32} {sem : DmaSem sig} {row0 : BitVec 32} {j : ℕ}
    {p : Prog (TpuEff nD τ sig (Elt F) Λ .tc) PUnit} (hp : RowCopies tok src dst sem row0 j p)
    {fs : Buf (Elt F) (src.view.loc (c.tc : Thread nD τ))} {fd G : Buf (Elt F) (dst.view.loc (c.tc : Thread nD τ))}
    {q : PosShare TreeShare} {fT : Buf (Elt F) (tok.view.loc (c.tc : Thread nD τ))}
    (rows : Fin 256 → ℕ) (hrows : ∀ j, rows j < 8704) (sh : Fin 256 → PosShare TreeShare)
    (hread : ∀ (j : Fin 256) hin, BitVec.toNat ((tok.access (Rect.unit (s := SToks) ![(row0 + BitVec.ofNat 32 j.val).toNat]
      SWord.size hin)).read (Elt F) fT oneWord) = rows j)
    (ι : Ix) (N : ℕ) (hN : ∀ j, (bufRow dst j).view.amount (.dma sem) = N)
    (hG : ∀ j, (bufRow dst j).view.read (Elt F) G = (actRow src (rows j) (hrows j)).view.read (Elt F) fs)
    {Q : PUnit → sProp 𝕄} :
    iprop((tok.view.loc (c.tc : Thread nD τ) ↦{q} fT)
        ∗ bigSep (pending j) (fun j => iprop(bufHeld c dst fd j ∗ rowHeld c src fs (rows j) (hrows j) (sh j)))
        ∗ Batch EC (c.tc : Thread nD τ) (.dma sem) ι N (delivery c src dst fs G rows hrows sh) j 0)
      ⊢ iprop(((tok.view.loc (c.tc : Thread nD τ) ↦{q} fT)
            -∗ Batch EC (c.tc : Thread nD τ) (.dma sem) ι N (delivery c src dst fs G rows hrows sh) 256 0 -∗ Q ⟨⟩)
          -∗ wp frame (wpE defs 𝒱 (c.tc : Thread nD τ) bd) Set.univ p Q) := by
  induction hp with
  | done u =>
    rw [wp_ret]
    iintro ⟨Ht, -, HB⟩ Hk
    imodintro
    iapply Hk $$ Ht HB
  | step j hj off hoff hin hl P dec hP off2 hoff2 hin2 hdin h1 h2 h3 k hk ih =>
    subst hoff
    have hr := hread ⟨j, hj⟩ hin
    rw [bigSep_pending_step _ j hj]
    iintro ⟨Ht, ⟨⟨Hd, Hs⟩, Hrows⟩, HB⟩ Hk
    iapply (wp_load_rect 𝒱 (c.tc : Thread nD τ) bd Set.univ (m := tok)
      (r := Rect.unit (s := SToks) ![(row0 + BitVec.ofNat 32 j).toNat] SWord.size hin) (hl := hl)
      (S := Finset.univ) (q := q) (f := fT) (Finset.subset_univ _)) $$ Ht
    iintro Ht
    set f : SWord.Idx → BitVec 32 := (tok.access (Rect.unit (s := SToks) ![(row0 + BitVec.ofNat 32 j).toNat]
      SWord.size hin)).read (Elt F) fT with hf
    have hrow : (f oneWord).toNat = rows ⟨j, hj⟩ := hr
    have hPf : P f := hP f (by rw [hrow]; exact hrows _)
    have ho : off2 f = ![rows ⟨j, hj⟩, 0] := by rw [hoff2, hrow]
    iapply (wp_assume 𝒱 (c.tc : Thread nD τ) bd Set.univ hPf)
    iapply (wp_dmaBatch (Ix := Ix) (Name := Name) (U := U) (Lvl := Lvl) EC 𝒱 (c.tc : Thread nD τ) bd
      (src := src.slice (Rect.unit (s := SActs) (off2 f) SRow.size (hin2 f hPf)) (fun _ => rfl))
      (dst := bufRow dst ⟨j, hj⟩) (sm := .dma sem) (hdst := h2) (hsem := h3) (q := sh ⟨j, hj⟩) (fs := fs) (fd := fd) (u := 0) (j := j) (n := 256)
      (D := delivery c src dst fs G rows hrows sh) ι N (hN ⟨j, hj⟩) (Finset.Subset.refl _) hj (Nat.zero_le _) ?_) $$ [Hd Hs HB]
    · unfold delivery
      rw [rowHeld_of_off c src fs (hrows ⟨j, hj⟩) (sh ⟨j, hj⟩) ho (hin2 f hPf)]
      refine sep_mono_left (Entails.of_eq ?_)
      unfold bufHeld
      refine pointsTo_congr (agree_of_read (bufRow dst ⟨j, hj⟩).view ?_)
      rw [hG, ← read_of_off src fs (hrows ⟨j, hj⟩) ho (hin2 f hPf)]
      exact View.read_write_univ _ _
    · isplitl [Hs]
      · iapply (Entails.of_eq (rowHeld_of_off c src fs (hrows ⟨j, hj⟩) (sh ⟨j, hj⟩) ho (hin2 f hPf))) $$ Hs
      isplitl [Hd]
      · unfold bufHeld; iexact Hd
      iexact HB
    iintro HB
    iapply (ih f ⟨hPf⟩ ⟨⟩) $$ [Ht Hrows HB] Hk
    isplitl [Ht]; · iexact Ht
    isplitl [Hrows]; · iexact Hrows
    iexact HB

end Run

end Cert.Moe

end
-- ==== Proof.Flight.lean ====
/-
  A whole gather, from the core's side. Before it the core owns a buffer at anything, the semaphore at zero and a share
  of the activations; after the last start it owns the gather in flight (`Flight`): the 256 copies still to land, and
  what the copies did not take of its share. A wait for the whole buffer gives back the buffer at the gathered rows, the
  share and the semaphore.
-/
module

public import proofs.«01_k».proof.Proof.GatherRun
public import Idealize.ShloMosaic.Lib.Ring

@[expose] public section

set_option maxRecDepth 16384

noncomputable section

namespace Cert.Moe

open Idealize.ShloMosaic Idealize.ShloMosaic.Transfers
open Idealize.SL
open Idealize.SL.BI (sProp Storable bigSep bigSep_sep' bigSep_insert bigSep_empty bigSep_singleton)
open scoped Idealize.SL.BI
open Idealize.SL.BI.BIBase Idealize.SL.BI.Laws Idealize.SL.Sem Idealize.SL.ProofMode
open Idealize.SL.RA

variable {nD : ℕ} {τ : Topo} {sig : RefSig} {Ix : Type} [DecidableEq Ix] {F : FTy → Type} [FloatOps F]
variable {Name : Type} [DecidableEq Name] {U : Type} [URA U] {Lvl : Type}

local notation "𝕄" => MT nD τ sig Ix (Elt F) Name U Lvl

/-- The elements of row `j` of a buffer, among the buffer's; -/
def bufIdx (dst : Memref sig .tc .vmem SRows .f32) (j : Fin 256) : Finset dst.view.ty.Idx := (bufRow dst j).view.set

/-- of row `w` of the activations. -/
def actIdx (src : Memref sig .tc .hbm SActs .f32) (w : ℕ) (hw : w < 8704) : Finset src.view.ty.Idx := (actRow src w hw).view.set

theorem bufIdx_eq (dst : Memref sig .tc .vmem SRows .f32) (j : Fin 256) :
    bufIdx dst j = (Rect.unit (s := SRows) ![j.val, 0] SRow.size (buf_inb j.val j.isLt)).set.map dst.view.emb := View.set_slice _ _

/-- The rows of a whole buffer are disjoint -/
theorem bufIdx_disjoint (dst : Memref sig .tc .vmem SRows .f32) (j j' : Fin 256) (h : j ≠ j') :
    Disjoint (bufIdx dst j) (bufIdx dst j') := by
  rw [bufIdx_eq, bufIdx_eq, Finset.disjoint_map, Finset.disjoint_left]
  intro x hx hx'
  rw [Rect.mem_set_unit] at hx hx'
  have h1 : j.val ≤ (x 0).val ∧ (x 0).val < j.val + 1 := hx 0
  have h2 : j'.val ≤ (x 0).val ∧ (x 0).val < j'.val + 1 := hx' 0
  exact h (Fin.ext (by omega))

/-- and cover it. -/
theorem bufIdx_cover (dst : Memref sig .tc .vmem SRows .f32) (hd : dst.view.set = Finset.univ) :
    (Finset.univ.biUnion fun j => bufIdx dst j) = Finset.univ := by
  refine Finset.eq_univ_iff_forall.mpr fun i => ?_
  have hi : i ∈ dst.view.set := by rw [hd]; exact Finset.mem_univ _
  obtain ⟨x, -, rfl⟩ := Finset.mem_map.mp hi
  refine Finset.mem_biUnion.mpr ⟨x 0, Finset.mem_univ _, ?_⟩
  refine (bufIdx_eq dst (x 0)).symm ▸ ?_
  refine Finset.mem_map_of_mem _ (Rect.mem_set_unit.mpr ?_)
  intro a
  match a with
  | ⟨0, _⟩ => exact ⟨le_rfl, Nat.lt_succ_self _⟩
  | ⟨1, _⟩ => exact ⟨Nat.zero_le _, by show (x 1).val < 0 + 2048; have : (x 1).val < 2048 := (x 1).isLt; omega⟩

theorem sep_swap_entails (A B C : sProp 𝕄) : iprop(A ∗ B ∗ C) ⊢ iprop(B ∗ A ∗ C) := by
  iintro ⟨HA, HB, HC⟩
  isplitl [HB]; · iexact HB
  isplitl [HA]; · iexact HA
  iexact HC

theorem sep_swap (A B C : sProp 𝕄) : iprop(A ∗ B ∗ C) = iprop(B ∗ A ∗ C) :=
  BI.equiv_iff.mp ⟨sep_swap_entails A B C, sep_swap_entails B A C⟩

section Flight

variable [Infinite Name] [Preorder Lvl] {Λ : Labels} {defs : Defs nD τ sig (Elt F) Λ} (𝒱 : Variants) (bd : Option 𝒱.V)
variable (EC : UEmb Counters (MT nD τ sig Ix (Elt F) Name U Lvl))
variable (c : Dev nD) (src : Memref sig .tc .hbm SActs .f32) (dst : Memref sig .tc .vmem SRows .f32) (sem : DmaSem sig)
variable (fs : Buf (Elt F) (src.view.loc (c.tc : Thread nD τ))) (G : Buf (Elt F) (dst.view.loc (c.tc : Thread nD τ)))
variable (rows : Fin 256 → ℕ) (hrows : ∀ j, rows j < 8704) (q : PosShare TreeShare)

/-- What the copies leave of a share `q` of the activations. -/
def leftOver : sProp 𝕄 :=
  iprop((src.view.loc (c.tc : Thread nD τ) ↦{shareDrop q 256} fs)
    ∗ bigSep Finset.univ fun j : Fin 256 =>
        src.view.loc (c.tc : Thread nD τ) ↦[Finset.univ \ actIdx src (rows j) (hrows j)]{shareTok q 256 j} fs)

/-- A share of the activations is a row of it and the rest. -/
theorem row_split (w : ℕ) (hw : w < 8704) : (src.view.loc (c.tc : Thread nD τ) ↦{q} fs : sProp 𝕄)
    = iprop(rowHeld c src fs w hw q ∗ src.view.loc (c.tc : Thread nD τ) ↦[Finset.univ \ actIdx src w hw]{q} fs) :=
  have h := pointsTo_split_subset (Ix := Ix) (Name := Name) (U := U) (Lvl := Lvl) (ℓ := src.view.loc (c.tc : Thread nD τ)) (q := q) (f := fs)
    (Finset.subset_univ (actIdx src w hw))
  BI.equiv_iff.mp ⟨h.1, h.2⟩

/-- A share of the activations is the rows to lend and what is left over. -/
theorem lend : (src.view.loc (c.tc : Thread nD τ) ↦{q} fs : sProp 𝕄)
    = iprop(bigSep Finset.univ (fun j => rowHeld c src fs (rows j) (hrows j) (shareTok q 256 j)) ∗ leftOver c src fs rows hrows q) := by
  have h := pointsTo_toks (Ix := Ix) (Name := Name) (U := U) (Lvl := Lvl) (ℓ := src.view.loc (c.tc : Thread nD τ)) (S := Finset.univ) (f := fs) q 256
  rw [BI.equiv_iff.mp ⟨h.1, h.2⟩,
    BI.bigSep_congr (fun j _ => row_split c src fs (shareTok q 256 j) (rows j) (hrows j)), bigSep_sep']
  exact sep_swap _ _ _

/-- A buffer is its rows. -/
theorem buf_rows (hd : dst.view.set = Finset.univ) (f : Buf (Elt F) (dst.view.loc (c.tc : Thread nD τ))) :
    (dst.view.loc (c.tc : Thread nD τ) ↦{fullShare} f : sProp 𝕄) = bigSep Finset.univ fun j => bufHeld c dst f j :=
  Ring.pointsTo_blocks (ℓ := dst.view.loc (c.tc : Thread nD τ)) (bufIdx dst) (bufIdx_disjoint dst) (bufIdx_cover dst hd) f

/-- A gather in flight. -/
def Flight (ι : Ix) (N : ℕ) : sProp 𝕄 :=
  iprop(Batch EC (c.tc : Thread nD τ) (.dma sem) ι N (delivery c src dst fs G rows hrows (shareTok q 256)) 256 0
    ∗ leftOver c src fs rows hrows q)

variable {src dst sem fs G rows q}

/-- Starting a gather. -/
theorem start [EC.LandsIn (upEmb : UEmb _ 𝕄)] {tok : Memref sig .tc .smem SToks .i32} {row0 : BitVec 32}
    {p : Prog (TpuEff nD τ sig (Elt F) Λ .tc) PUnit} (hp : RowCopies tok src dst sem row0 0 p)
    (hd : dst.view.set = Finset.univ)
    {fd : Buf (Elt F) (dst.view.loc (c.tc : Thread nD τ))}
    {qT : PosShare TreeShare} {fT : Buf (Elt F) (tok.view.loc (c.tc : Thread nD τ))}
    (hread : ∀ (j : Fin 256) hin, BitVec.toNat ((tok.access (Rect.unit (s := SToks) ![(row0 + BitVec.ofNat 32 j.val).toNat]
      SWord.size hin)).read (Elt F) fT oneWord) = rows j)
    (ι : Ix) (N : ℕ) (hN : ∀ j, (bufRow dst j).view.amount (.dma sem) = N)
    (hG : ∀ j, (bufRow dst j).view.read (Elt F) G = (actRow src (rows j) (hrows j)).view.read (Elt F) fs)
    {Q : PUnit → sProp 𝕄} :
    iprop((tok.view.loc (c.tc : Thread nD τ) ↦{qT} fT) ∗ (dst.view.loc (c.tc : Thread nD τ) ↦{fullShare} fd)
        ∗ (src.view.loc (c.tc : Thread nD τ) ↦{q} fs) ∗ semVal ((c.tc : Thread nD τ), .dma sem) 0)
      ⊢ iprop(((tok.view.loc (c.tc : Thread nD τ) ↦{qT} fT) -∗ Flight EC c src dst sem fs G rows hrows q ι N -∗ Q ⟨⟩)
          -∗ wp frame (wpE defs 𝒱 (c.tc : Thread nD τ) bd) Set.univ p Q) := by
  rw [lend c src fs rows hrows q, buf_rows c dst hd fd]
  iintro ⟨Ht, Hb, ⟨Hr, Hl⟩, Hs⟩ Hk
  iapply (fupd_wp _ _ _ p Q)
  imod (batch_alloc' EC (c.tc : Thread nD τ) ι N (delivery c src dst fs G rows hrows (shareTok q 256)) (sm := .dma sem) (E := Set.univ)) $$ Hs with HB
  imodintro
  iapply (RowCopies.run 𝒱 bd EC c hp (fd := fd) rows hrows (shareTok q 256) hread ι N hN hG) $$ [Ht Hb Hr HB] [Hl Hk]
  · isplitl [Ht]; · iexact Ht
    isplitl [Hb Hr]
    · rw [← bigSep_pending_zero, bigSep_sep']
      isplitl [Hb]; · iexact Hb
      iexact Hr
    iexact HB
  iintro Ht HB
  iapply Hk $$ Ht
  unfold Flight
  isplitl [HB]; · iexact HB
  iexact Hl

/-- Waiting for one. -/
theorem finish [EC.LandsIn (upEmb : UEmb _ 𝕄)] {sp' : Space} {s' : Shape} {e' : EltTy}
    {srcw : Memref sig .tc sp' s' e'} {hsrc : srcw.view.WordExact} {hdst : dst.view.WordExact}
    (hd : dst.view.set = Finset.univ) (ι : Ix) {N : ℕ} (hJ : dst.view.dmaCredit = N * 256) (hN0 : 0 < N)
    {k : PUnit → Prog (TpuEff nD τ sig (Elt F) Λ .tc) PUnit} {W : Waits sig Ix} {Q : PUnit → sProp 𝕄} :
    iprop(Flight EC c src dst sem fs G rows hrows q ι N ∗ owes (c.tc : Thread nD τ) 0 W)
      ⊢ iprop((iprop((dst.view.loc (c.tc : Thread nD τ) ↦{fullShare} G) ∗ (src.view.loc (c.tc : Thread nD τ) ↦{q} fs)
            ∗ semVal ((c.tc : Thread nD τ), .dma sem) 0 ∗ owes (c.tc : Thread nD τ) 0 (insert (SemLoc.dma sem, ι) W))
          -∗ wp frame (wpE defs 𝒱 (c.tc : Thread nD τ) bd) Set.univ (k ⟨⟩) Q)
        -∗ wp frame (wpE defs 𝒱 (c.tc : Thread nD τ) bd) Set.univ (.op (.waitDma2 sem srcw dst hsrc hdst) k) Q) := by
  rw [lend c src fs rows hrows q, buf_rows c dst hd G]
  unfold Flight
  iintro ⟨⟨HB, Hl⟩, HW⟩ Hk
  iapply (wp_waitBatchAll EC 𝒱 (c.tc : Thread nD τ) bd ι hJ hN0 (Nat.zero_add _)) $$ [HB HW] [Hl Hk]
  · isplitl [HB]; · iexact HB
    iexact HW
  unfold delivery
  rw [bigSep_sep']
  iintro ⟨⟨Hb, Hr⟩, Hs, HW⟩
  iapply Hk
  isplitl [Hb]; · iexact Hb
  isplitl [Hr Hl]
  · isplitl [Hr]; · iexact Hr
    iexact Hl
  isplitl [Hs]; · iexact Hs
  iexact HW

end Flight

end Cert.Moe

end
-- ==== Proof.Whole.lean ====
/-
  Loads and stores of a whole block, on what a memref reads; and the load of one word of a table.
-/
module

public import proofs.«01_k».proof.Proof.Flight
public import Idealize.ShloMosaic.Lib.Memref
public import Idealize.ShloMosaic.Lib.Pipeline.Value
public import Idealize.ShloMosaic.Lib.ValueIdx

@[expose] public section

noncomputable section

namespace Cert.Moe

open Idealize.ShloMosaic Idealize.ShloMosaic.ValueIdx
open Idealize.SL
open Idealize.SL.BI (sProp)
open scoped Idealize.SL.BI
open Idealize.SL.BI.BIBase Idealize.SL.BI.Laws Idealize.SL.Sem Idealize.SL.ProofMode
open Idealize.SL.RA

variable {nD : ℕ} {τ : Topo} {sig : RefSig} {Ix : Type} [DecidableEq Ix] {F : FTy → Type} [FloatOps F]
variable {Name : Type} [DecidableEq Name] {U : Type} [URA U] {Lvl : Type}

local notation "𝕄" => MT nD τ sig Ix (Elt F) Name U Lvl

/-- Word `w` of a table. -/
def wordAt {n : ℕ} (f : (⟨1, ![n]⟩ : Shape).Idx → BitVec 32) (w : ℕ) : BitVec 32 :=
  if h : w < n then f (ix1 ⟨w, h⟩) else 0#32

theorem read_word {n : ℕ} (M : Memref sig .tc .smem ⟨1, ![n]⟩ .i32) (f : M.view.ty.Contents (Elt F)) {o : Fin 1 → ℕ} {w : ℕ}
    (ho : o = ![w]) (hin : ∀ a, o a + SWord.size a ≤ (⟨1, ![n]⟩ : Shape).size a) (x : SWord.Idx) :
    (M.access (Rect.unit (s := ⟨1, ![n]⟩) o SWord.size hin)).read (Elt F) f x = wordAt (M.view.read (Elt F) f) w := by
  subst ho
  have hw : w < n := by
    have h : w + 1 ≤ n := hin 0
    omega
  show M.view.read (Elt F) f ((Rect.unit (s := ⟨1, ![n]⟩) ![w] SWord.size hin).emb x) = _
  unfold wordAt
  rw [dif_pos hw]
  congr 1
  funext a
  match a with
  | ⟨0, _⟩ =>
    apply Fin.ext
    have hx : (x 0).val = 0 := by have : (x 0).val < 1 := (x 0).isLt; omega
    show w + 1 * (x 0).val = w
    omega

variable [Infinite Name] [Preorder Lvl] {Λ : Labels} {defs : Defs nD τ sig (Elt F) Λ} (𝒱 : Variants) (bd : Option 𝒱.V)
variable (c : Dev nD) {α : Type}

theorem load_word {n : ℕ} {M : Memref sig .tc .smem ⟨1, ![n]⟩ .i32} {f : Buf (Elt F) (M.view.loc (c.tc : Thread nD τ))} {q : PosShare TreeShare}
    {o : Fin 1 → ℕ} (w : ℕ) (ho : o = ![w]) {hin : ∀ a, o a + SWord.size a ≤ (⟨1, ![n]⟩ : Shape).size a}
    {h1 : (Rect.unit (s := ⟨1, ![n]⟩) o SWord.size hin).shape.numel = 1} {hp : EltTy.packing .i32 = 1}
    {Q : BitVec 32 → sProp 𝕄} :
    (M.view.loc (c.tc : Thread nD τ) ↦{q} f)
      ⊢ iprop(((M.view.loc (c.tc : Thread nD τ) ↦{q} f) -∗ Q (wordAt (M.view.read (Elt F) f) w))
        -∗ wp frame (wpE defs 𝒱 (c.tc : Thread nD τ) bd) Set.univ
          (smemLoad (nD := nD) (τ := τ) (Λ := Λ) (p := .tc) M (Rect.unit (s := ⟨1, ![n]⟩) o SWord.size hin) h1 hp) Q) := by
  iintro H Hk
  unfold smemLoad
  iapply (wp_smemLoadElt 𝒱 (c.tc : Thread nD τ) bd Set.univ (m := M) (r := Rect.unit (s := ⟨1, ![n]⟩) o SWord.size hin)
    (S := Finset.univ) (q := q) (f := f) (Finset.subset_univ _)) $$ H
  iintro H
  rw [wp_ret, read_word M f ho hin]
  imodintro
  iapply Hk $$ H

/-- A load of a whole block. -/
theorem load_owns {cs : CoreSpace} {s : Shape} {e : EltTy} {M : Memref sig .tc cs s e} {X : s.Idx → Elt F e} {q : PosShare TreeShare}
    {o : Fin s.rank → ℕ} (ho : o = fun _ => 0) {hin : ∀ a, o a + s.size a ≤ s.size a}
    {hl : M.view.LoadsAt (Rect.unit o s.size hin).toLoadRect}
    {k : (s.Idx → Elt F e) → Prog (TpuEff nD τ sig (Elt F) Λ .tc) α} {Q : α → sProp 𝕄} :
    (owns (c.tc : Thread nD τ) M q X)
      ⊢ iprop((owns (c.tc : Thread nD τ) M q X -∗ wp frame (wpE defs 𝒱 (c.tc : Thread nD τ) bd) Set.univ (k X) Q)
        -∗ wp frame (wpE defs 𝒱 (c.tc : Thread nD τ) bd) Set.univ (.op (.load M (Rect.unit o s.size hin).toLoadRect hl) k) Q) := by
  unfold owns
  iintro ⟨%f, %hf, H⟩ Hk
  iapply (wp_load_rect 𝒱 (c.tc : Thread nD τ) bd Set.univ (m := M) (r := Rect.unit o s.size hin) (hl := hl)
    (S := M.view.set) (q := q) (f := f) (View.set_slice_subset _ _)) $$ H
  iintro H
  rw [show (M.access (Rect.unit o s.size hin)).read (Elt F) f = X from
    (show _ = View.ld (M.view.read (Elt F) f) (Rect.unit o s.size hin) from rfl).trans ((View.ld_unit_zero ho hin _).trans hf)]
  iapply Hk
  iexists f
  isplitr; · ipureintro; exact hf
  iexact H

/-- A store of a whole block. -/
theorem store_owns {cs : CoreSpace} {s : Shape} {e : EltTy} {M : Memref sig .tc cs s e} {X w : s.Idx → Elt F e}
    {o : Fin s.rank → ℕ} (ho : o = fun _ => 0) {hin : ∀ a, o a + s.size a ≤ s.size a}
    {hx : (M.access (Rect.unit o s.size hin)).Stores Finset.univ} {hm : (Finset.univ : Finset (Rect.unit o s.size hin).shape.Idx) = Finset.univ ∨ ∀ a, (Rect.unit o s.size hin).stride a = 1}
    {k : PUnit → Prog (TpuEff nD τ sig (Elt F) Λ .tc) α} {Q : α → sProp 𝕄} :
    (owns (c.tc : Thread nD τ) M fullShare X)
      ⊢ iprop((owns (c.tc : Thread nD τ) M fullShare w -∗ wp frame (wpE defs 𝒱 (c.tc : Thread nD τ) bd) Set.univ (k ⟨⟩) Q)
        -∗ wp frame (wpE defs 𝒱 (c.tc : Thread nD τ) bd) Set.univ (.op (.store M (Rect.unit o s.size hin) w Finset.univ hx hm) k) Q) := by
  unfold owns
  iintro ⟨%f, %hf, H⟩ Hk
  iapply (wp_store 𝒱 (c.tc : Thread nD τ) bd Set.univ (m := M) (r := Rect.unit o s.size hin) (w := w) (Mk := Finset.univ) (hx := hx) (hm := hm)
    (S := M.view.set) (f := f) (View.set_slice_subset _ _)) $$ H
  iintro H
  iapply Hk
  iexists ((M.access (Rect.unit o s.size hin)).write (Elt F) f w Finset.univ)
  isplitr
  · ipureintro
    refine (View.ld_unit_zero ho hin _).symm.trans ?_
    exact View.read_write_univ (v := M.access (Rect.unit o s.size hin)) f w
  iexact H

end Cert.Moe

end
-- ==== Proof.PreRead.lean ====
/-
  The precondition read back as bounds on the words of the three tables.
-/
module

public import proofs.«01_k».proof.Pre_tables_in_range
public import proofs.«01_k».proof.Proof.Whole
public import Idealize.ShloMosaic.Lib.StableHlo.Predicate
public import Idealize.ShloMosaic.Lib.ValueIdx

@[expose] public section

set_option maxRecDepth 16384

noncomputable section

namespace Cert.Moe

open Idealize.ShloMosaic Idealize.ShloMosaic.ValueIdx Idealize.ShloMosaic.StableHlo.Predicate
open Cert.Pre_tables_in_range

/-- The words of the block table name experts, some block is used and no more than there are, and the words of the token
table name rows of the activations. -/
structure Words (be : IVec S336 32) (nu : IVec S1 32) (tk : IVec S86016 32) : Prop where
  blk : ∀ b : Fin 336, (be (ix1 b)).toNat < 128
  pos : 1 ≤ (nu (ix1 0)).toNat
  le : (nu (ix1 0)).toNat ≤ 336
  tok : ∀ r : Fin 86016, (tk (ix1 r)).toNat < 8704

theorem ofFin_eq {n : ℕ} (p : Fin n) : (Shape.Idx.ofFin p : (⟨1, ![n]⟩ : Shape).Idx) = ix1 p := by
  funext a
  obtain rfl : a = 0 := Subsingleton.elim _ _
  rfl

theorem wordAt_of_lt {n : ℕ} (f : (⟨1, ![n]⟩ : Shape).Idx → BitVec 32) {w : ℕ} (h : w < n) : wordAt f w = f (ix1 ⟨w, h⟩) := dif_pos h
theorem wordAt_past {n : ℕ} (f : (⟨1, ![n]⟩ : Shape).Idx → BitVec 32) {w : ℕ} (h : ¬ w < n) : wordAt f w = 0#32 := dif_neg h

theorem both (a b : BitVec 1) : IntOp.andi a b = 1#1 ↔ a = 1#1 ∧ b = 1#1 := by revert a b; decide
theorem bit (b : Bool) : BitVec.ofBool b = 1#1 ↔ b = true := by revert b; decide

/-- A word at least `0` and less than `k`, as signed words. -/
theorem word_lt {w : BitVec 32} {k : ℕ} (hk : k < 2 ^ 31) (h : IntOp.andi (IntOp.cmpi .sge w 0#32) (IntOp.cmpi .slt w (BitVec.ofNat 32 k)) = 1#1) :
    w.toNat < k := by
  have h := (both _ _).mp h
  have hw := w.isLt
  simp only [IntOp.cmpi, bit, BitVec.sle_eq_decide, BitVec.slt_eq_decide, decide_eq_true_eq, BitVec.toInt_eq_toNat_cond,
    BitVec.toNat_ofNat, Nat.reducePow, Nat.reduceMod] at h
  omega

/-- A word between `1` and `336`, as signed words. -/
theorem word_used {w : BitVec 32} (h : IntOp.andi (IntOp.cmpi .sge w 1#32) (IntOp.cmpi .sle w 336#32) = 1#1) :
    1 ≤ w.toNat ∧ w.toNat ≤ 336 := by
  have h := (both _ _).mp h
  have hw := w.isLt
  simp only [IntOp.cmpi, bit, BitVec.sle_eq_decide, BitVec.slt_eq_decide, decide_eq_true_eq, BitVec.toInt_eq_toNat_cond,
    BitVec.toNat_ofNat, Nat.reducePow, Nat.reduceMod] at h
  omega

variable {F : FTy → Type} [FloatOps F] [Facts]

open Facts in
theorem words (a0 : FVec F S8704x2048 .f32) (a1 : IVec S336 32) (a2 : IVec S1 32) (a3 : IVec S86016 32) (a4 a5 : FVec F S128x2048x512 .f32)
    (a6 : FVec F S128x512x2048 .f32) (h : fn (F := F) a0 a1 a2 a3 a4 a5 a6 = fun _ => 1#1) : Words a1 a2 a3 := by
  have key : ∀ (b : Fin 336) (q : Fin 256),
      (IntOp.andi (IntOp.cmpi .sge (a3 (Shape.reshapeEquiv shapeCasts_S86016_S336x256 (ij b q))) 0#32)
        (IntOp.cmpi .slt (a3 (Shape.reshapeEquiv shapeCasts_S86016_S336x256 (ij b q))) 8704#32) = 1#1)
      ∧ (IntOp.andi (IntOp.cmpi .sge (a1 (ix1 b)) 0#32) (IntOp.cmpi .slt (a1 (ix1 b)) 128#32) = 1#1)
      ∧ (IntOp.andi (IntOp.cmpi .sge (a2 (ix1 0)) 1#32) (IntOp.cmpi .sle (a2 (ix1 0)) 336#32) = 1#1) := by
    intro b q
    have e := congrFun h (ij b q)
    have e1 := (both _ _).mp e
    have e2 := (both _ _).mp e1.1
    refine ⟨e2.1, ?_, ?_⟩
    · have e3 := e2.2
      rw [bcast_rows, ofFin_eq] at e3
      exact e3
    · have e3 := e1.2
      obtain ⟨k, hk⟩ : ∃ k : S1.Idx, broadcastInDim S336x256 ![0, 1] bcast_S1x1_S336x256_0_1 (broadcastInDim S1x1 ![1] bcast_S1_S1x1_1
          (andi (cmpi .sge a2 (broadcastInDim S1 ![] bcast_S_S1 (constantI S_ 32 1#32)))
            (cmpi .sle a2 (broadcastInDim S1 ![] bcast_S_S1 (constantI S_ 32 336#32))))) (ij b q)
          = (andi (cmpi .sge a2 (broadcastInDim S1 ![] bcast_S_S1 (constantI S_ 32 1#32)))
            (cmpi .sle a2 (broadcastInDim S1 ![] bcast_S_S1 (constantI S_ 32 336#32)))) k := ⟨_, rfl⟩
      have hk0 : k = ix1 0 := by
        funext a
        obtain rfl : a = 0 := Subsingleton.elim _ _
        exact Subsingleton.elim (α := Fin 1) _ _
      rw [hk0] at hk
      exact hk.symm.trans e3
  refine ⟨fun b => word_lt (by decide) (key b 0).2.1, (word_used (key 0 0).2.2).1, (word_used (key 0 0).2.2).2, fun r => ?_⟩
  obtain ⟨x, hx⟩ := (Shape.reshapeEquiv shapeCasts_S86016_S336x256).surjective (ix1 r)
  have hx' : x = ij (x 0) (x 1) := by
    funext a
    match a with
    | ⟨0, _⟩ => rfl
    | ⟨1, _⟩ => rfl
  rw [← hx, hx']
  exact word_lt (by decide) (key (x 0) (x 1)).1

end Cert.Moe

end
-- ==== Proof.FfnRow.lean ====
/-
  One row of a SwiGLU feed-forward network, as a function of the row and of the three weight matrices, and the two
  ways the programs compute it read at an index: a kernel's three `tpu.matmul` products onto zero accumulators with
  `tpu.logistic` between them, and the host's three `dot_general` products with the logistic function spelt out as
  `1 / (1 + exp (-h))`. The extents are variables, so that every kernel built on this network can cite the lemmas.
-/
module

public import Idealize.ShloMosaic.Lib.MatmulPlain
public import Idealize.ShloMosaic.Lib.StackMember
public import Idealize.ShloMosaic.Lib.IdealHost
public import Idealize.ShloMosaic.Lib.ValueIdx

@[expose] public section

noncomputable section

namespace Cert.FfnRow

open Idealize.ShloMosaic Idealize.ShloMosaic.ValueIdx
open scoped BigOperators

/-- Row `x` times column `j` of the matrix `w`. -/
def rowDot {K J : ℕ} (x : Fin K → EReal) (w : FVec Ideal ⟨2, ![K, J]⟩ .f32) (j : Fin J) : EReal :=
  ∑ k : Fin K, x k * w (ix2 k j)

/-- Entry `c` of the network's output for the input row `x`: `Σ_j silu(x·wg_j) · (x·wu_j) · wd_{j,c}`. -/
def ffnRow {K J N : ℕ} (x : Fin K → EReal) (wg wu : FVec Ideal ⟨2, ![K, J]⟩ .f32) (wd : FVec Ideal ⟨2, ![J, N]⟩ .f32)
    (c : Fin N) : EReal :=
  ∑ j : Fin J, (rowDot x wg j * Ideal.logistic (rowDot x wg j) * rowDot x wu j) * wd (ix2 j c)

/-- A kernel's product onto a zero accumulator at (r, c) is row `r` against column `c`. -/
theorem matmul_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = rowDot (fun k => lhs (ix2 r k)) rhs c := by
  refine (Ideal.matmul_plain_apply prec lhs rhs _ r c).trans ?_
  rw [constant_apply, Ideal.ofBits_zero_f32, zero_add]
  rfl

/-- The kernel's block of the network at (r, c) is row `r` of the input block through the network. -/
theorem kernel_apply {M K J N : ℕ} (x : FVec Ideal ⟨2, ![M, K]⟩ .bf16) (wg wu : FVec Ideal ⟨2, ![K, J]⟩ .bf16)
    (wd : FVec Ideal ⟨2, ![J, N]⟩ .bf16) (hg hu : FVec Ideal ⟨2, ![M, J]⟩ .f32)
    (eg : hg = matmul (DotDims.plain M K J) none x wg (constant ⟨2, ![M, J]⟩ .f32 0x00000000#32))
    (eu : hu = matmul (DotDims.plain M K J) none x wu (constant ⟨2, ![M, J]⟩ .f32 0x00000000#32))
    (hb : FTy.bits .bf16 < FTy.bits .f32) (r : Fin M) (c : Fin N) :
    matmul (DotDims.plain M J N) none (truncf .bf16 (mulf (mulf hg (logistic hg)) hu) hb) wd
        (constant ⟨2, ![M, N]⟩ .f32 0x00000000#32) (ix2 r c)
      = ffnRow (fun k => x (ix2 r k)) wg wu wd c := by
  rw [matmul_zero_apply]
  refine Finset.sum_congr rfl fun j _ => ?_
  have h1 : hg (ix2 r j) = rowDot (fun k => x (ix2 r k)) wg j := by rw [eg, matmul_zero_apply]
  have h2 : hu (ix2 r j) = rowDot (fun k => x (ix2 r k)) wu j := by rw [eu, matmul_zero_apply]
  show (hg (ix2 r j) * Ideal.logistic (hg (ix2 r j)) * hu (ix2 r j)) * wd (ix2 j c) = _
  rw [h1, h2]

/-- The host's product at (r, c) is row `r` against column `c`. -/
theorem host_dot_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = rowDot (fun k => lhs (ix2 r k)) rhs c :=
  StackMember.dotGeneral_plain_apply prec lhs rhs r c

/-- The host's logistic function, spelt out, at an index. -/
theorem host_logistic_apply {s : Shape} (h one one' : FVec Ideal s .f32) (i : s.Idx) (h1 : one i = 1) (h1' : one' i = 1) :
    Host.divf one (addf one' (Host.exp (Host.negf h))) i = Ideal.logistic (h i) := by
  show Ideal.div (one i) (one' i + Ideal.exp (- h i)) = _
  rw [h1, h1']
  rfl

/-- The host's network at (r, c) is row `r` of the input through the network. -/
theorem host_apply {M K J N : ℕ} (x : FVec Ideal ⟨2, ![M, K]⟩ .f32) (wg wu : FVec Ideal ⟨2, ![K, J]⟩ .f32)
    (wd : FVec Ideal ⟨2, ![J, N]⟩ .f32) (hg hu one one' : FVec Ideal ⟨2, ![M, J]⟩ .f32)
    (eg : hg = Host.dotGeneral (DotDims.plain M K J) none x wg) (eu : hu = Host.dotGeneral (DotDims.plain M K J) none x wu)
    (h1 : ∀ i, one i = 1) (h1' : ∀ i, one' i = 1) (r : Fin M) (c : Fin N) :
    Host.dotGeneral (DotDims.plain M J N) none
        (mulf (mulf hg (Host.divf one (addf one' (Host.exp (Host.negf hg))))) hu) wd (ix2 r c)
      = ffnRow (fun k => x (ix2 r k)) wg wu wd c := by
  rw [host_dot_apply]
  refine Finset.sum_congr rfl fun j _ => ?_
  have e1 : hg (ix2 r j) = rowDot (fun k => x (ix2 r k)) wg j := by rw [eg, host_dot_apply]
  have e2 : hu (ix2 r j) = rowDot (fun k => x (ix2 r k)) wu j := by rw [eu, host_dot_apply]
  have e3 := host_logistic_apply hg one one' (ix2 r j) (h1 _) (h1' _)
  show (hg (ix2 r j) * Host.divf one (addf one' (Host.exp (Host.negf hg))) (ix2 r j) * hu (ix2 r j)) * wd (ix2 j c) = _
  rw [e3, e1, e2]

end Cert.FfnRow

end
-- ==== Proof.MoeRow.lean ====
/-
  The value both programs compute, row by row: the row of the activations its token names through the feed-forward
  network of its block's expert, or zero past the used blocks. And the host's stacked products read at an index.
-/
module

public import proofs.«01_k».proof.Proof.FfnRow

@[expose] public section

noncomputable section

namespace Cert.Moe

open Idealize.ShloMosaic Idealize.ShloMosaic.ValueIdx
open Cert.FfnRow
open scoped BigOperators

/-- Member `g` of a stack of matrices. -/
def member {G A B : ℕ} (w : FVec Ideal ⟨3, ![G, A, B]⟩ .f32) (g : Fin G) : FVec Ideal ⟨2, ![A, B]⟩ .f32 :=
  fun i => w (ix3 g (i 0) (i 1))

/-- The expert named by a word. -/
def expert {A B : ℕ} (w : FVec Ideal ⟨3, ![128, A, B]⟩ .f32) (e : BitVec 32) : FVec Ideal ⟨2, ![A, B]⟩ .f32 :=
  member w ⟨e.toNat % 128, Nat.mod_lt _ (by decide)⟩

/-- The routed network at row `r`, column `k`. -/
def moeAt (x : FVec Ideal ⟨2, ![8704, 2048]⟩ .f32) (be : IVec ⟨1, ![336]⟩ 32) (nu : IVec ⟨1, ![1]⟩ 32) (tk : IVec ⟨1, ![86016]⟩ 32)
    (wg wu : FVec Ideal ⟨3, ![128, 2048, 512]⟩ .f32) (wd : FVec Ideal ⟨3, ![128, 512, 2048]⟩ .f32)
    (b : Fin 336) (r : Fin 86016) (k : Fin 2048) : EReal :=
  if b.val < (nu (ix1 0)).toNat then
    ffnRow (fun q => x (ix2 ⟨(tk (ix1 r)).toNat % 8704, Nat.mod_lt _ (by decide)⟩ q))
      (expert wg (be (ix1 b))) (expert wu (be (ix1 b))) (expert wd (be (ix1 b))) k
  else 0

/-- The block of a row. -/
def blockOf (r : Fin 86016) : Fin 336 := ⟨r.val / 256, by have := r.isLt; omega⟩

/-- The routed network. -/
def moe (x : FVec Ideal ⟨2, ![8704, 2048]⟩ .f32) (be : IVec ⟨1, ![336]⟩ 32) (nu : IVec ⟨1, ![1]⟩ 32) (tk : IVec ⟨1, ![86016]⟩ 32)
    (wg wu : FVec Ideal ⟨3, ![128, 2048, 512]⟩ .f32) (wd : FVec Ideal ⟨3, ![128, 512, 2048]⟩ .f32) : FVec Ideal ⟨2, ![86016, 2048]⟩ .f32 :=
  fun i => moeAt x be nu tk wg wu wd (blockOf (i 0)) (i 0) (i 1)

variable {G M K J N : ℕ}

/-- The host's stacked product at (g, r, c) is row `r` of member `g` against column `c` of the other's. -/
theorem stack_dot_apply (wf : DotDims.WF ⟨3, ![G, M, K]⟩ ⟨3, ![G, K, N]⟩ ⟨3, ![G, M, N]⟩ [2] [1] [1] [2] [0] [0])
    (x : FVec Ideal ⟨3, ![G, M, K]⟩ .f32) (w : FVec Ideal ⟨3, ![G, K, N]⟩ .f32) (g : Fin G) (r : Fin M) (c : Fin N) :
    Host.dotGeneral (⟨[2], [1], [1], [2], [0], [0], wf⟩ : DotDims _ _ _) none x w (ix3 g r c)
      = rowDot (fun k => x (ix3 g r k)) (member w g) c :=
  StackMember.dotGeneral_stack_apply wf none x w g r c

/-- The host's stacked network at (g, r, c) is row `r` of member `g` through the network of member `g`. -/
theorem stack_apply (wf : DotDims.WF ⟨3, ![G, M, K]⟩ ⟨3, ![G, K, J]⟩ ⟨3, ![G, M, J]⟩ [2] [1] [1] [2] [0] [0])
    (wf' : DotDims.WF ⟨3, ![G, M, J]⟩ ⟨3, ![G, J, N]⟩ ⟨3, ![G, M, N]⟩ [2] [1] [1] [2] [0] [0])
    (x : FVec Ideal ⟨3, ![G, M, K]⟩ .f32) (wg wu : FVec Ideal ⟨3, ![G, K, J]⟩ .f32)
    (wd : FVec Ideal ⟨3, ![G, J, N]⟩ .f32) (hg hu one one' : FVec Ideal ⟨3, ![G, M, J]⟩ .f32)
    (eg : hg = Host.dotGeneral (⟨[2], [1], [1], [2], [0], [0], wf⟩ : DotDims _ _ _) none x wg)
    (eu : hu = Host.dotGeneral (⟨[2], [1], [1], [2], [0], [0], wf⟩ : DotDims _ _ _) none x wu)
    (h1 : ∀ i, one i = 1) (h1' : ∀ i, one' i = 1) (g : Fin G) (r : Fin M) (c : Fin N) :
    Host.dotGeneral (⟨[2], [1], [1], [2], [0], [0], wf'⟩ : DotDims _ _ _) none
        (mulf (mulf hg (Host.divf one (addf one' (Host.exp (Host.negf hg))))) hu) wd (ix3 g r c)
      = ffnRow (fun k => x (ix3 g r k)) (member wg g) (member wu g) (member wd g) c := by
  rw [stack_dot_apply]
  refine Finset.sum_congr rfl fun j _ => ?_
  have e1 : hg (ix3 g r j) = rowDot (fun k => x (ix3 g r k)) (member wg g) j := by rw [eg, stack_dot_apply]
  have e2 : hu (ix3 g r j) = rowDot (fun k => x (ix3 g r k)) (member wu g) j := by rw [eu, stack_dot_apply]
  have e3 := host_logistic_apply hg one one' (ix3 g r j) (h1 _) (h1' _)
  show (hg (ix3 g r j) * Host.divf one (addf one' (Host.exp (Host.negf hg))) (ix3 g r j) * hu (ix3 g r j)) * member wd g (ix2 j c) = _
  rw [e3, e1, e2]

end Cert.Moe

end
-- ==== Proof.Ideal.Gathers.lean ====
/-
  The kernel's three gathers are runs of 256 row copies (`RowCopies`): the one before the first block, which fills the
  first buffer from the table's first 256 words; and the two that follow a wait, one into the second buffer at an even
  block and one into the first at an odd block, each from the words of the next block (of the last block again, at the
  last).
  Said here of the kernel read at the ideal values; `Proof.Gathers` says it of the kernel itself.
-/
module

public import proofs.«01_k».proof.Proof.RowCopies
public import proofs.«01_k».proof.Proof.Gen.KernelIdeal

@[expose] public section

set_option maxRecDepth 16384

noncomputable section

namespace Cert.KernelIdeal.MoeRun

open Idealize.ShloMosaic Idealize.SL.Sem Cert.KernelIdeal.Gen Cert.Moe

variable {F : FTy → Type} [FloatOps F]

/-- The semaphore of the first buffer; -/
abbrev semA (arg11 : DmaSems sig S2) : DmaSem sig :=
  ((arg11.slice (Rect.unit (s := S2) ![0] S1.size inb_S2_S1_0)).squeeze S_ squeezes_S1_S_).sem
/-- of the second. -/
abbrev semB (arg11 : DmaSems sig S2) : DmaSem sig :=
  ((arg11.slice (Rect.unit (s := S2) ![1] S1.size inb_S2_S1_1)).squeeze S_ squeezes_S1_S_).sem

/-- The first word of the next block's part of the table, at block `i` of `v0`. -/
abbrev nextRow (i : grid0.Coords) (v0 : BitVec 32) : BitVec 32 :=
  Scalar.muli (Scalar.minsi (Scalar.addi (BitVec.ofNat 32 (i 0).val) 1#32) (Scalar.subi v0 1#32)) 256#32

section

variable (i : grid0.Coords) (arg1 : Memref sig .tc .smem S336 .i32) (harg1 : arg1.IsWhole)
  (arg2 : Memref sig .tc .smem S1 .i32) (harg2 : arg2.IsWhole)
  (arg3 : Memref sig .tc .smem S86016 .i32) (harg3 : arg3.IsWhole)
  (arg4 : Memref sig .tc .hbm S8704x2048 .f32) (harg4 : arg4.IsWhole)
  (arg5 : Memref sig .tc .vmem S1x2048x512 .f32) (harg5 : arg5.IsWhole)
  (arg6 : Memref sig .tc .vmem S1x2048x512 .f32) (harg6 : arg6.IsWhole)
  (arg7 : Memref sig .tc .vmem S1x512x2048 .f32) (harg7 : arg7.IsWhole)
  (arg8 : Memref sig .tc .vmem S256x2048 .f32) (harg8 : arg8.IsWhole)
  (arg9 : Memref sig .tc .vmem S256x2048 .f32) (harg9 : arg9.IsWhole)
  (arg10 : Memref sig .tc .vmem S256x2048 .f32) (harg10 : arg10.IsWhole)
  (arg11 : DmaSems sig S2)
  (arg12 : Memref sig .tc .vmem S2048x512 .bf16) (harg12 : arg12.IsWhole)
  (arg13 : Memref sig .tc .vmem S2048x512 .bf16) (harg13 : arg13.IsWhole)
  (arg14 : Memref sig .tc .vmem S512x2048 .bf16) (harg14 : arg14.IsWhole)

/-- The copies before the first block. -/
def firstGather (k0_h1 : k0_cond1 i = 1#1) : Prog (TpuEff nD τ sig (Elt F) Λ₀ .tc) PUnit := do
  let ⟨v1314, k0_hw256⟩ : Σ' (v1314 : Elt F .i32), k0_chk256 i v1314 ← k0_part52 i arg1 harg1 arg2 harg2 arg3 harg3 arg4 harg4 arg5 harg5 arg6 harg6 arg7 harg7 arg8 harg8 arg9 harg9 arg10 harg10 arg11 arg12 harg12 arg13 harg13 arg14 harg14 k0_h1
  let v1318 : Memref sig .tc .hbm S1x2048 .f32 := arg4.slice (Rect.unit (s := S8704x2048) (k0_off257 v1314) S1x2048.size (k0_off257_inb i v1314 k0_hw256 k0_h1)) (fun _ => rfl)
  let v1315 : DmaSems sig S1 := arg11.slice (Rect.unit (s := S2) ![0] S1.size inb_S2_S1_0)
  let v1316 : DmaSems sig S_ := v1315.squeeze S_ squeezes_S1_S_
  let v1317 : Memref sig .tc .vmem S1x2048 .f32 := arg9.slice (Rect.unit (s := S256x2048) ![255, 0] S1x2048.size inb_S256x2048_S1x2048_255_0) (fun _ => rfl)
  Prog.lift (.enqueueDma v1318 (.here v1317) (.dma v1316.sem) (View.wordExact_bits rfl) (View.wordExact_bits rfl) ⟨Or.inl rfl, trivial⟩)
  pure ⟨⟩

theorem firstGather_copies (h1 : k0_cond1 i = 1#1) :
    RowCopies arg3 arg4 arg9 (semA arg11) 0#32 0 (firstGather (F := F) i arg1 harg1 arg2 harg2 arg3 harg3 arg4 harg4 arg5 harg5 arg6 harg6 arg7 harg7 arg8 harg8 arg9 harg9 arg10 harg10 arg11 arg12 harg12 arg13 harg13 arg14 harg14 h1) := by
  unfold firstGather
  iterate 256
    refine RowCopies.step _ ?_ _ ?_ _ _ _ _ ?_ _ ?_ _ _ _ _ _ _ fun f h u => ?_
    · decide
    · rfl
    · exact fun f hf _ => row_inb _ hf
    · exact fun f => rfl
  exact RowCopies.done _

/-- At an even block: the wait for the first buffer, then the copies into the second. -/
theorem evenGather_copies (arg0 : BitVec 32) (v0 : Elt F .i32) (hw : k0_chk257 i v0) (h4 : k0_cond4 i v0 = 1#1) :
    ∃ k, k0_part113 (F := F) i arg1 harg1 arg2 harg2 arg3 harg3 arg4 harg4 arg5 harg5 arg6 harg6 arg7 harg7 arg8 harg8 arg9 harg9 arg10 harg10 arg11 arg12 harg12 arg13 harg13 arg14 harg14 arg0 v0 hw h4
        = .op (.waitDma2 (semA arg11) (arg4.slice (Rect.unit (s := S8704x2048) ![0, 0] S256x2048.size inb_S8704x2048_S256x2048_0_0) (fun _ => rfl))
            arg9 (View.wordExact_bits rfl) harg9.wordExact) k
      ∧ ∀ u, RowCopies arg3 arg4 arg10 (semB arg11) (nextRow i v0) 0 (k u) := by
  refine ⟨_, rfl, fun u => ?_⟩
  iterate 256
    refine RowCopies.step _ ?_ _ ?_ _ _ _ _ ?_ _ ?_ _ _ _ _ _ _ fun f h u => ?_
    · decide
    · rfl
    · exact fun f hf _ => row_inb _ hf
    · exact fun f => rfl
  exact RowCopies.done _

/-- At an odd block: the wait for the second buffer, then the copies into the first. -/
theorem oddGather_copies (arg0 : BitVec 32) (v0 : Elt F .i32) (hw : k0_chk257 i v0) (h6 : k0_cond6 i v0 = 1#1) :
    ∃ k, k0_part174 (F := F) i arg1 harg1 arg2 harg2 arg3 harg3 arg4 harg4 arg5 harg5 arg6 harg6 arg7 harg7 arg8 harg8 arg9 harg9 arg10 harg10 arg11 arg12 harg12 arg13 harg13 arg14 harg14 arg0 v0 hw h6
        = .op (.waitDma2 (semB arg11) (arg4.slice (Rect.unit (s := S8704x2048) ![0, 0] S256x2048.size inb_S8704x2048_S256x2048_0_0) (fun _ => rfl))
            arg10 (View.wordExact_bits rfl) harg10.wordExact) k
      ∧ ∀ u, RowCopies arg3 arg4 arg9 (semA arg11) (nextRow i v0) 0 (k u) := by
  refine ⟨_, rfl, fun u => ?_⟩
  iterate 256
    refine RowCopies.step _ ?_ _ ?_ _ _ _ _ ?_ _ ?_ _ _ _ _ _ _ fun f h u => ?_
    · decide
    · rfl
    · exact fun f hf _ => row_inb _ hf
    · exact fun f => rfl
  exact RowCopies.done _

end

end Cert.KernelIdeal.MoeRun

end
-- ==== Proof.Ideal.Setup.lean ====
/-
  The pallas_call of the routed experts as the pipeline library runs it: the memory when it is entered (the host
  operations before it compute the block table), its three prefetched tables, the blocks of its windows, the two
  semaphores of its own copies, and the conjuncts of the library's invariant.
  Said here of the kernel read at the ideal values; `Proof.Setup` says it of the kernel itself.
-/
module

public import proofs.«01_k».proof.Proof.Ideal.Gathers
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.KernelIdeal.MoeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.Moe

variable {F : FTy → Type} [FloatOps F]

local notation "𝕄" => MT nD τ sig Unit (Elt F) ℕ (Pipeline.UD sig nD τ) ℕ

variable (m : (ℓ : Loc nD τ sig) → Buf (Elt F) ℓ)

/-! ## The memory when the pallas_call is entered -/

/-- The buffers of core `c` after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no host operation writes is as launched. -/
theorem V_kept (c : Dev nD) (b : Ref sig .tc)
    (h : b ∉ [main_v0, main_v1, main_c, main_v2, main_v3, main_v4, main_c_0, main_v5, main_v6, main_c_1, main_v7, main_v8,
      main_v9, main_v10, main_v11]) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, StableHlo.binaryIndexed_writes, Finset.mem_singleton]
    simp only [List.mem_cons, List.not_mem_nil, or_false, not_or] at h
    obtain ⟨h0, h1, h2, h3, h4, h5, h6, h7, h8, h9, h10, h11, h12, h13, h14⟩ := h
    refine ⟨?_, ?_, ?_, ?_, ?_, ?_, ?_, ?_, ?_, ?_, ?_, ?_, ?_, ?_, ?_⟩ <;>
      exact StableHlo.devRef_ne_of_ne (by assumption)))

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)

/-! ## The prefetched tables -/

/-- The tables' contents when the pallas_call is entered. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Each block table word names a weight block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The block table, the number of used blocks and the token table, as the body is handed them. -/
abbrev beM : Memref sig .tc .smem S336 .i32 := Memref.whole main_v11
abbrev nuM : Memref sig .tc .smem S1 .i32 := Memref.whole main_arg2
abbrev tkM : Memref sig .tc .smem S86016 .i32 := Memref.whole main_arg3

/-- A table held as the body holds it, at half the full share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT0_eq (c : Dev nD) : (Pipeline.ΦT pre0 (tbl m) c : sProp 𝕄)
    = iprop(tbPt c beM (tbl m 0) ∗ tbPt c nuM (tbl m 1) ∗ tbPt c tkM (tbl m 2)) := by
  unfold Pipeline.ΦT Pipeline.prefHeld
  rw [BI.bigSep_eq_bigSepL_of_eq [(0 : Fin 3), 1, 2] (by decide) (by decide)]
  rfl

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The staging buffers at point `t`. -/
abbrev ms0 (hO : Ok m) (t : Fin (cfgM m hO).N) : Memref sig .tc .vmem S1x2048x512 .f32 := spec0_0.stage ((cfgM m hO).slots t 0)
abbrev ms1 (hO : Ok m) (t : Fin (cfgM m hO).N) : Memref sig .tc .vmem S1x2048x512 .f32 := spec0_1.stage ((cfgM m hO).slots t 1)
abbrev ms2 (hO : Ok m) (t : Fin (cfgM m hO).N) : Memref sig .tc .vmem S1x512x2048 .f32 := spec0_2.stage ((cfgM m hO).slots t 2)
abbrev ms3 (hO : Ok m) (t : Fin (cfgM m hO).N) : Memref sig .tc .vmem S256x2048 .f32 := spec0_3.stage ((cfgM m hO).slots t 3)

/-! ## The kernel's own copies -/

/-- The semaphores of the two buffers. -/
abbrev osem0 : Fin 2 → SemLoc sig := ![.dma (semA cc0_scratch2), .dma (semB cc0_scratch2)]
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (semA cc0_scratch2)) 0 ∗ semVal ((c : Thread nD τ), .dma (semB cc0_scratch2)) 0) := by
  rw [Pipeline.ownSems0_eq_of_list c osem0 [0, 1] (by decide) (by decide)]; rfl

/-- The activations stay in main memory; the kernel copies rows of them. -/
abbrev xM : Memref sig .tc .hbm S8704x2048 .f32 := Memref.whole main_arg0
def H0 : Finset (Ref sig .tc) := {main_arg0}
theorem H0_sub : H0 ⊆ Pipeline.restRefsP sig pre0 spec0 := by decide

theorem hbmPts0_eq (c : Dev nD) :
    (bigSep H0 (fun b => ((c : Thread nD τ).loc b) ↦{fullShare} V m c b) : sProp 𝕄)
      = iprop(((c : Thread nD τ).loc main_arg0) ↦{fullShare} V m c main_arg0) := by
  rw [BI.bigSep_eq_bigSepL_of_eq [main_arg0] (by decide) (by decide)]; rfl

/-- The library's invariant, conjunct by conjunct. -/
theorem PhiD0_eq (c : Dev nD) :
    (Pipeline.ΦD osem0 spec0 H0 (V m) c : sProp 𝕄)
      = iprop(((∃ f, ((c : Thread nD τ).loc cc0_scratch0) ↦{fullShare} f) ∗ (∃ f, ((c : Thread nD τ).loc cc0_scratch1) ↦{fullShare} f)
          ∗ (∃ f, ((c : Thread nD τ).loc cc0_scratch3) ↦{fullShare} f) ∗ (∃ f, ((c : Thread nD τ).loc cc0_scratch4) ↦{fullShare} f)
          ∗ (∃ f, ((c : Thread nD τ).loc cc0_scratch5) ↦{fullShare} f))
        ∗ (∃ r, prngReg c r)
        ∗ (semVal ((c : Thread nD τ), .dma (semA cc0_scratch2)) 0 ∗ semVal ((c : Thread nD τ), .dma (semB cc0_scratch2)) 0)
        ∗ (((c : Thread nD τ).loc main_arg0) ↦{fullShare} V m c main_arg0)) := by
  rw [Pipeline.ΦD_eq, scopedRest0_eq, ownSems00_eq, hbmPts0_eq]

/-- The body at point `t`, as the pipeline calls it. -/
def bodyAt (hO : Ok m) (t : Fin (cfgM m hO).N) : Prog (TpuEff nD τ sig (Elt F) Λ₀ .tc) PUnit :=
  cc0_moe_experts (grid0.coords t) beM (Memref.isWhole_whole _) nuM (Memref.isWhole_whole _) tkM (Memref.isWhole_whole _)
    xM (Memref.isWhole_whole _) (ms0 m hO t) (hstage0_0 (((cfgM m hO).slots t 0).cast nbuf0_0))
    (ms1 m hO t) (hstage0_1 (((cfgM m hO).slots t 1).cast nbuf0_1)) (ms2 m hO t) (hstage0_2 (((cfgM m hO).slots t 2).cast nbuf0_2))
    (ms3 m hO t) (hstage0_3 (((cfgM m hO).slots t 3).cast nbuf0_3))
    (Memref.whole cc0_scratch0) (Memref.isWhole_whole _) (Memref.whole cc0_scratch1) (Memref.isWhole_whole _) cc0_scratch2
    (Memref.whole cc0_scratch3) (Memref.isWhole_whole _) (Memref.whole cc0_scratch4) (Memref.isWhole_whole _)
    (Memref.whole cc0_scratch5) (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; rfl

end Cert.KernelIdeal.MoeRun

end
-- ==== Proof.Ideal.Checks.lean ====
/-
  What the kernel computes of its grid point and the number of used blocks, in natural numbers: which of its cases a
  point takes, which words of the token table the next block's gather reads, and that all of them are in the table.
  Said here of the kernel read at the ideal values; `Proof.Checks` says it of the kernel itself.
-/
module

public import proofs.«01_k».proof.Proof.Ideal.Gathers

@[expose] public section

set_option maxRecDepth 16384

noncomputable section

namespace Cert.KernelIdeal.MoeRun

open Idealize.ShloMosaic Cert.KernelIdeal.Gen Cert.Moe

theorem point_lt (i : grid0.Coords) : (i 0).val < 336 := (i 0).isLt

/-- A bit as the kernel tests it. -/
abbrev flag (b : BitVec 1) : BitVec 1 := Scalar.cmpi .ne (Scalar.extui b : BitVec 32) 0#32

theorem flag_iff (b : BitVec 1) : flag b = 1#1 ↔ b = 1#1 := by revert b; decide
theorem andi_iff (a b : BitVec 1) : Scalar.andi a b = 1#1 ↔ a = 1#1 ∧ b = 1#1 := by revert a b; decide
theorem ori_iff (a b : BitVec 1) : Scalar.ori a b = 1#1 ↔ a = 1#1 ∨ b = 1#1 := by revert a b; decide
theorem ofBool_iff (b : Bool) : BitVec.ofBool b = 1#1 ↔ b = true := by revert b; decide

theorem slt_iff {x : ℕ} (hx : x < 336) {v : BitVec 32} (hv : v.toNat ≤ 336) :
    Scalar.cmpi .slt (BitVec.ofNat 32 x) v = 1#1 ↔ x < v.toNat := by
  simp only [Scalar.cmpi, IntOp.cmpi, ofBool_iff, BitVec.slt_eq_decide, decide_eq_true_eq, BitVec.toInt_eq_toNat_cond,
    BitVec.toNat_ofNat, Nat.reducePow, Nat.reduceMod]
  omega

theorem sge_iff {x : ℕ} (hx : x < 336) {v : BitVec 32} (hv : v.toNat ≤ 336) :
    Scalar.cmpi .sge (BitVec.ofNat 32 x) v = 1#1 ↔ v.toNat ≤ x := by
  simp only [Scalar.cmpi, IntOp.cmpi, ofBool_iff, BitVec.sle_eq_decide, decide_eq_true_eq, BitVec.toInt_eq_toNat_cond,
    BitVec.toNat_ofNat, Nat.reducePow, Nat.reduceMod]
  omega

theorem eq_zero_iff {x : ℕ} (hx : x < 336) : Scalar.cmpi .eq (BitVec.ofNat 32 x) 0#32 = 1#1 ↔ x = 0 := by
  have h : ∀ y : Fin 336, Scalar.cmpi .eq (BitVec.ofNat 32 y.val) 0#32 = 1#1 ↔ y.val = 0 := by decide +kernel
  exact h ⟨x, hx⟩

theorem ne_iff (a b : BitVec 32) : Scalar.cmpi .ne a b = 1#1 ↔ a ≠ b := by
  simp only [Scalar.cmpi, IntOp.cmpi, ofBool_iff, bne_iff_ne]

theorem eq_last_iff {x : ℕ} (hx : x < 336) {v : BitVec 32} (h1 : 1 ≤ v.toNat) (hv : v.toNat ≤ 336) :
    Scalar.cmpi .eq (BitVec.ofNat 32 x) (Scalar.subi v 1#32) = 1#1 ↔ x + 1 = v.toNat := by
  have hs : (Scalar.subi v 1#32).toNat = v.toNat - 1 := by
    simp only [Scalar.subi, IntOp.subi, BitVec.toNat_sub, BitVec.toNat_ofNat, Nat.reducePow]; omega
  unfold Scalar.cmpi IntOp.cmpi
  rw [ofBool_iff, beq_iff_eq, ← BitVec.toNat_inj, hs, BitVec.toNat_ofNat]
  omega

/-- The point's parity bit against `b`, as the kernel computes it. -/
def parityBit (x : ℕ) (b : BitVec 32) : BitVec 1 :=
  let v8 : BitVec 32 := Scalar.select (Scalar.cmpi .eq 2#32 0#32) 1#32 2#32
  let v9 : BitVec 32 := Scalar.remsi (BitVec.ofNat 32 x) v8
  Scalar.cmpi .eq (Scalar.select
    (Scalar.andi (Scalar.xori (Scalar.cmpi .slt v9 0#32) (Scalar.cmpi .slt v8 0#32)) (Scalar.cmpi .ne v9 0#32))
    (Scalar.addi v9 v8) v9) b

theorem even_iff : ∀ x : Fin 336, parityBit x.val 0#32 = 1#1 ↔ x.val % 2 = 0 := by decide +kernel
theorem odd_iff : ∀ x : Fin 336, parityBit x.val 1#32 = 1#1 ↔ x.val % 2 = 1 := by decide +kernel

theorem cond1_iff (i : grid0.Coords) : k0_cond1 i = 1#1 ↔ (i 0).val = 0 :=
  (flag_iff _).trans (eq_zero_iff (point_lt i))

theorem active_iff (i : grid0.Coords) {v0 : BitVec 32} (hv : v0.toNat ≤ 336) :
    flag (Scalar.cmpi .slt (BitVec.ofNat 32 (i 0).val) v0) = 1#1 ↔ (i 0).val < v0.toNat :=
  (flag_iff _).trans (slt_iff (point_lt i) hv)

theorem cond4_iff (i : grid0.Coords) {v0 : BitVec 32} (hv : v0.toNat ≤ 336) :
    k0_cond4 i v0 = 1#1 ↔ (i 0).val < v0.toNat ∧ (i 0).val % 2 = 0 :=
  (flag_iff (Scalar.andi (Scalar.cmpi .slt (BitVec.ofNat 32 (i 0).val) v0) (parityBit (i 0).val 0#32))).trans
    ((andi_iff _ _).trans (and_congr (slt_iff (point_lt i) hv) (even_iff ⟨(i 0).val, point_lt i⟩)))

theorem cond6_iff (i : grid0.Coords) {v0 : BitVec 32} (hv : v0.toNat ≤ 336) :
    k0_cond6 i v0 = 1#1 ↔ (i 0).val < v0.toNat ∧ (i 0).val % 2 = 1 :=
  (flag_iff (Scalar.andi (Scalar.cmpi .slt (BitVec.ofNat 32 (i 0).val) v0) (parityBit (i 0).val 1#32))).trans
    ((andi_iff _ _).trans (and_congr (slt_iff (point_lt i) hv) (odd_iff ⟨(i 0).val, point_lt i⟩)))

theorem cond8_iff (i : grid0.Coords) {v0 : BitVec 32} (hv : v0.toNat ≤ 336) :
    k0_cond8 i v0 = 1#1 ↔ v0.toNat ≤ (i 0).val :=
  (flag_iff _).trans (sge_iff (point_lt i) hv)

/-- The last point's test. -/
theorem last_iff (i : grid0.Coords) {v0 : BitVec 32} (h1 : 1 ≤ v0.toNat) (hv : v0.toNat ≤ 336) :
    flag (Scalar.cmpi .eq (BitVec.ofNat 32 (i 0).val) (Scalar.subi v0 1#32)) = 1#1 ↔ (i 0).val + 1 = v0.toNat :=
  (flag_iff _).trans (eq_last_iff (point_lt i) h1 hv)

/-- The test for loading the weights. -/
theorem fresh_iff (i : grid0.Coords) (a b : BitVec 32) :
    flag (Scalar.ori (Scalar.cmpi .eq (BitVec.ofNat 32 (i 0).val) 0#32) (Scalar.cmpi .ne a b)) = 1#1 ↔ (i 0).val = 0 ∨ a ≠ b :=
  (flag_iff _).trans ((ori_iff _ _).trans (or_congr (eq_zero_iff (point_lt i)) (ne_iff a b)))

/-- The word of the token table copy `j` of the next block's gather reads. -/
theorem nextRow_toNat (i : grid0.Coords) {v0 : BitVec 32} (h1 : 1 ≤ v0.toNat) (hv : v0.toNat ≤ 336) {j : ℕ} (hj : j < 256) :
    (nextRow i v0 + BitVec.ofNat 32 j).toNat = min ((i 0).val + 1) (v0.toNat - 1) * 256 + j := by
  have hi := point_lt i
  have hs : (Scalar.subi v0 1#32).toNat = v0.toNat - 1 := by
    simp only [Scalar.subi, IntOp.subi, BitVec.toNat_sub, BitVec.toNat_ofNat, Nat.reducePow]; omega
  have ha : (Scalar.addi (BitVec.ofNat 32 (i 0).val) 1#32).toNat = (i 0).val + 1 := by
    simp only [Scalar.addi, IntOp.addi, BitVec.toNat_add, BitVec.toNat_ofNat, Nat.reducePow]; omega
  have hm : (Scalar.minsi (Scalar.addi (BitVec.ofNat 32 (i 0).val) 1#32) (Scalar.subi v0 1#32)).toNat
      = min ((i 0).val + 1) (v0.toNat - 1) := by
    simp only [Scalar.minsi, IntOp.minsi]
    split <;> rename_i h <;>
      simp only [BitVec.slt_eq_decide, BitVec.sle_eq_decide, decide_eq_true_eq, BitVec.toInt_eq_toNat_cond, hs, ha, Nat.reducePow] at h ⊢ <;>
      omega
  simp only [nextRow, Scalar.muli, IntOp.muli, BitVec.toNat_add, BitVec.toNat_mul, hm, BitVec.toNat_ofNat, Nat.reducePow]
  omega

theorem next_inb (i : grid0.Coords) {v0 : BitVec 32} (h1 : 1 ≤ v0.toNat) (hv : v0.toNat ≤ 336) (j : ℕ) (hj : j < 256) :
    ∀ a : Fin 1, (![(nextRow i v0 + BitVec.ofNat 32 j).toNat] : Fin 1 → ℕ) a + S1.size a ≤ S86016.size a := by
  intro a
  obtain rfl : a = 0 := Subsingleton.elim _ _
  show (nextRow i v0 + BitVec.ofNat 32 j).toNat + 1 ≤ 86016
  rw [nextRow_toNat i h1 hv hj]; omega

/-- The kernel's check of every table word it reads for the next block. -/
theorem chk257 (i : grid0.Coords) {v0 : BitVec 32} (h1 : 1 ≤ v0.toNat) (hv : v0.toNat ≤ 336) : k0_chk257 i v0 := by
  have key := next_inb i h1 hv
  refine ⟨?_, ?_, ?_, ?_, ?_, ?_, ?_, ?_, ?_, ?_, ?_, ?_, ?_, ?_, ?_, ?_⟩ <;>
    (repeat' apply And.intro) <;> exact fun _ => key _ (by decide)

end Cert.KernelIdeal.MoeRun

end
-- ==== Proof.Ideal.Blocks.lean ====
/-
  What the kernel works on: the words of the three tables, the rows a block gathers, the weights of an expert, and the
  block of the result, as functions of the memory the pallas_call finds.
  Said here of the kernel read at the ideal values; `Proof.Blocks` says it of the kernel itself.
-/
module

public import proofs.«01_k».proof.Proof.Ideal.Setup
public import proofs.«01_k».proof.Proof.Whole
public import proofs.«01_k».proof.Proof.Ideal.Checks

@[expose] public section

set_option maxRecDepth 16384

noncomputable section

namespace Cert.KernelIdeal.MoeRun

open Idealize.ShloMosaic Idealize.ShloMosaic.TcCoe Idealize.ShloMosaic.ValueIdx
open Idealize.SL Idealize.SL.RA
open Cert.KernelIdeal.Gen Cert.Moe

variable {F : FTy → Type} [FloatOps F]
variable (m : (ℓ : Loc nD τ sig) → Buf (Elt F) ℓ)

/-- Block `b`'s expert; the number of used blocks; the token of row `r`. -/
def beW (b : ℕ) : BitVec 32 := wordAt (n := 336) (tbl m 0) b
def nuW : BitVec 32 := wordAt (n := 1) (tbl m 1) 0
def tokN (r : ℕ) : ℕ := (wordAt (n := 86016) (tbl m 2) r).toNat

/-- The tables' words are in range: some block is used and no more than there are, and every token is a row. -/
structure InRange : Prop where
  pos : 1 ≤ (nuW m).toNat
  le : (nuW m).toNat ≤ 336
  tok : ∀ r, tokN m r < 8704

/-- The rows block `b` gathers. -/
def rowsOf (b : ℕ) (j : Fin 256) : ℕ := tokN m (b * 256 + j.val)

/-- Block `b`'s rows of the activations. -/
def gathered (c : Dev nD) (b : ℕ) : S256x2048.Idx → Elt F .f32 := fun i =>
  (V m c main_arg0 : S8704x2048.Idx → Elt F .f32) (ix2 ⟨rowsOf m b (i 0) % 8704, Nat.mod_lt _ (by decide)⟩ (i 1))

/-- An expert's weights, as the kernel keeps them. -/
def wgOf (c : Dev nD) (e : BitVec 32) : FVec F S2048x512 .bf16 :=
  truncf .bf16 (fun i : S2048x512.Idx => (V m c main_arg4 : S128x2048x512.Idx → Elt F .f32) (ix3 ⟨e.toNat % 128, Nat.mod_lt _ (by decide)⟩ (i 0) (i 1))) bitsLt_bf16_f32
def wuOf (c : Dev nD) (e : BitVec 32) : FVec F S2048x512 .bf16 :=
  truncf .bf16 (fun i : S2048x512.Idx => (V m c main_arg5 : S128x2048x512.Idx → Elt F .f32) (ix3 ⟨e.toNat % 128, Nat.mod_lt _ (by decide)⟩ (i 0) (i 1))) bitsLt_bf16_f32
def wdOf (c : Dev nD) (e : BitVec 32) : FVec F S512x2048 .bf16 :=
  truncf .bf16 (fun i : S512x2048.Idx => (V m c main_arg6 : S128x512x2048.Idx → Elt F .f32) (ix3 ⟨e.toNat % 128, Nat.mod_lt _ (by decide)⟩ (i 0) (i 1))) bitsLt_bf16_f32

/-- The network on a block. -/
def ffnBlock (x : FVec F S256x2048 .f32) (wg wu : FVec F S2048x512 .bf16) (wd : FVec F S512x2048 .bf16) : FVec F S256x2048 .f32 :=
  let xb : FVec F S256x2048 .bf16 := truncf .bf16 x bitsLt_bf16_f32
  let hg : FVec F S256x512 .f32 := matmul dot_S256x2048_S2048x512_S256x512_1_0_0_1_n_n none xb wg (constant S256x512 .f32 0x00000000#32)
  let hu : FVec F S256x512 .f32 := matmul dot_S256x2048_S2048x512_S256x512_1_0_0_1_n_n none xb wu (constant S256x512 .f32 0x00000000#32)
  let h : FVec F S256x512 .bf16 := truncf .bf16 (mulf (mulf hg (logistic hg)) hu) bitsLt_bf16_f32
  matmul dot_S256x512_S512x2048_S256x2048_1_0_0_1_n_n none h wd (constant S256x2048 .f32 0x00000000#32)

/-- Block `b` of the result: the network of its expert on its rows, or zeros past the used blocks. -/
def outBlk (c : Dev nD) (b : ℕ) : FVec F S256x2048 .f32 :=
  if b < (nuW m).toNat then ffnBlock (gathered m c b) (wgOf m c (beW m b)) (wuOf m c (beW m b)) (wdOf m c (beW m b))
  else broadcast S256x2048 (Scalar.ofBits .f32 0x00000000#32)

/-! ## The buffers' rows -/

abbrev bufA : Memref sig .tc .vmem S256x2048 .f32 := Memref.whole cc0_scratch0
abbrev bufB : Memref sig .tc .vmem S256x2048 .f32 := Memref.whole cc0_scratch1

theorem amountA (j : Fin 256) : (bufRow bufA j).view.amount (.dma (semA cc0_scratch2)) = 256 := rfl
theorem amountB (j : Fin 256) : (bufRow bufB j).view.amount (.dma (semB cc0_scratch2)) = 256 := rfl
theorem creditA : bufA.view.dmaCredit = 256 * 256 := by decide
theorem creditB : bufB.view.dmaCredit = 256 * 256 := by decide

/-- Row `j` of block `b`'s rows is the row of the activations it gathers. -/
theorem gathered_row (hR : InRange m) (c : Dev nD) (b : ℕ) (j : Fin 256) (x : SRow.Idx) :
    gathered m c b ((Rect.unit (s := SRows) ![j.val, 0] SRow.size (buf_inb j.val j.isLt)).emb x)
      = (V m c main_arg0 : S8704x2048.Idx → Elt F .f32)
          ((Rect.unit (s := SActs) ![rowsOf m b j, 0] SRow.size (row_inb _ (hR.tok _))).emb x) := by
  have hx : (x 0).val = 0 := by have : (x 0).val < 1 := (x 0).isLt; omega
  have e0 : (Rect.unit (s := SRows) ![j.val, 0] SRow.size (buf_inb j.val j.isLt)).emb x 0 = j :=
    Fin.ext (by show j.val + 1 * (x 0).val = j.val; omega)
  unfold gathered
  congr 1
  funext a
  match a with
  | ⟨0, _⟩ =>
    apply Fin.ext
    show rowsOf m b ((Rect.unit (s := SRows) ![j.val, 0] SRow.size (buf_inb j.val j.isLt)).emb x 0) % 8704 = rowsOf m b j + 1 * (x 0).val
    rw [e0, hx, Nat.mod_eq_of_lt (show rowsOf m b j < 8704 from hR.tok _)]
    rfl
  | ⟨1, _⟩ => rfl

theorem readA (hR : InRange m) (c : Dev nD) (b : ℕ) (j : Fin 256) :
    (bufRow bufA j).view.read (Elt F) (gathered m c b) = (actRow xM (rowsOf m b j) (hR.tok _)).view.read (Elt F) (V m c main_arg0) :=
  funext fun x => gathered_row m hR c b j x

theorem readB (hR : InRange m) (c : Dev nD) (b : ℕ) (j : Fin 256) :
    (bufRow bufB j).view.read (Elt F) (gathered m c b) = (actRow xM (rowsOf m b j) (hR.tok _)).view.read (Elt F) (V m c main_arg0) :=
  funext fun x => gathered_row m hR c b j x

/-- The words the first gather reads -/
theorem read_first (c : Dev nD) (j : Fin 256) (hin : ∀ a, (![(0#32 + BitVec.ofNat 32 j.val).toNat] : Fin 1 → ℕ) a + SWord.size a ≤ SToks.size a) :
    BitVec.toNat ((tkM.access (Rect.unit (s := SToks) ![(0#32 + BitVec.ofNat 32 j.val).toNat] SWord.size hin)).read (Elt F) (tbl m 2) oneWord)
      = rowsOf m 0 j := by
  rw [read_word tkM (tbl m 2) (w := 0 * 256 + j.val) (by
    congr 1; simp only [BitVec.zero_add, BitVec.toNat_ofNat, Nat.reducePow]; omega) hin]
  rfl

/-- and those a later one reads, at point `i`. -/
theorem read_next (hR : InRange m) (i : grid0.Coords) (j : Fin 256)
    (hin : ∀ a, (![(nextRow i (nuW m) + BitVec.ofNat 32 j.val).toNat] : Fin 1 → ℕ) a + SWord.size a ≤ SToks.size a) :
    BitVec.toNat ((tkM.access (Rect.unit (s := SToks) ![(nextRow i (nuW m) + BitVec.ofNat 32 j.val).toNat] SWord.size hin)).read (Elt F) (tbl m 2) oneWord)
      = rowsOf m (min ((i 0).val + 1) ((nuW m).toNat - 1)) j := by
  rw [read_word tkM (tbl m 2) (w := min ((i 0).val + 1) ((nuW m).toNat - 1) * 256 + j.val)
    (by rw [nextRow_toNat i hR.pos hR.le j.isLt]) hin]
  rfl

end Cert.KernelIdeal.MoeRun

end
-- ==== Proof.Ideal.Steps.lean ====
/-
  The kernel's body as its steps, one after another: the gather before the first block, the weights of a new expert, a
  block at an even point, a block at an odd one, and the zeros past the used blocks.
  Said here of the kernel read at the ideal values; `Proof.Steps` says it of the kernel itself.
-/
module

public import proofs.«01_k».proof.Proof.Ideal.Blocks

@[expose] public section

set_option maxRecDepth 16384

noncomputable section

namespace Cert.KernelIdeal.MoeRun

open Idealize.ShloMosaic Idealize.ShloMosaic.TcCoe
open Idealize.SL Idealize.SL.Sem
open Cert.KernelIdeal.Gen Cert.Moe

universe v

variable {F : FTy → Type} [FloatOps F]

theorem ite_bind {E : Type → Type v} {α β : Type} {c : Prop} [Decidable c] (a b : Prog E α) (f : α → Prog E β) :
    (if c then a else b) >>= f = if c then a >>= f else b >>= f := by split <;> rfl

theorem dite_bind {E : Type → Type v} {α β : Type} {c : Prop} [Decidable c] (a : c → Prog E α) (b : ¬ c → Prog E α) (f : α → Prog E β) :
    (if h : c then a h else b h) >>= f = if h : c then a h >>= f else b h >>= f := by split <;> rfl

/-- The scratch copies of an expert's weights. -/
abbrev wgM : Memref sig .tc .vmem S2048x512 .bf16 := Memref.whole cc0_scratch3
abbrev wuM : Memref sig .tc .vmem S2048x512 .bf16 := Memref.whole cc0_scratch4
abbrev wdM : Memref sig .tc .vmem S512x2048 .bf16 := Memref.whole cc0_scratch5

section

variable (i : grid0.Coords)
  (arg5 : Memref sig .tc .vmem S1x2048x512 .f32) (harg5 : arg5.IsWhole)
  (arg6 : Memref sig .tc .vmem S1x2048x512 .f32) (harg6 : arg6.IsWhole)
  (arg7 : Memref sig .tc .vmem S1x512x2048 .f32) (harg7 : arg7.IsWhole)
  (arg8 : Memref sig .tc .vmem S256x2048 .f32) (harg8 : arg8.IsWhole)

/-- The gather before the first block. -/
def firstStep : Prog (TpuEff nD τ sig (Elt F) Λ₀ .tc) PUnit :=
  if h1 : k0_cond1 i = 1#1 then
    firstGather i beM (Memref.isWhole_whole _) nuM (Memref.isWhole_whole _) tkM (Memref.isWhole_whole _) xM (Memref.isWhole_whole _)
      arg5 harg5 arg6 harg6 arg7 harg7 arg8 harg8 bufA (Memref.isWhole_whole _) bufB (Memref.isWhole_whole _) cc0_scratch2
      wgM (Memref.isWhole_whole _) wuM (Memref.isWhole_whole _) wdM (Memref.isWhole_whole _) h1
  else pure ⟨⟩

/-- An expert's weights, narrowed and kept. -/
def keepWeights : Prog (TpuEff nD τ sig (Elt F) Λ₀ .tc) PUnit := do
  let v50 : Vec F S1x2048x512 .f32 ← Prog.lift (.load arg5 (Rect.unit (s := S1x2048x512) ![0, 0, 0] S1x2048x512.size inb_S1x2048x512_S1x2048x512_0_0_0).toLoadRect (View.loadsAt_vmem h_S1x2048x512))
  let _ : Vec F S2048x512 .bf16 ← Prog.lift (.load wgM (Rect.unit (s := S2048x512) ![0, 0] S2048x512.size inb_S2048x512_S2048x512_0_0).toLoadRect (View.loadsAt_vmem h_S2048x512))
  Prog.lift (.store wgM (Rect.unit (s := S2048x512) ![0, 0] S2048x512.size inb_S2048x512_S2048x512_0_0)
    (shapeCast S2048x512 (truncf .bf16 (shapeCast S2048x512 v50 shapeCasts_S1x2048x512_S2048x512 : FVec F S2048x512 .f32) bitsLt_bf16_f32 : FVec F S2048x512 .bf16) shapeCasts_S2048x512_S2048x512)
    Finset.univ (View.stores_vmem h_S2048x512 ((Memref.isWhole_whole cc0_scratch3).storeExact_slice rfl _ packedbf16_S2048x512_S2048x512_0_0) (fun _ => rfl)) (.inl rfl))
  let v56 : Vec F S1x2048x512 .f32 ← Prog.lift (.load arg6 (Rect.unit (s := S1x2048x512) ![0, 0, 0] S1x2048x512.size inb_S1x2048x512_S1x2048x512_0_0_0).toLoadRect (View.loadsAt_vmem h_S1x2048x512))
  let _ : Vec F S2048x512 .bf16 ← Prog.lift (.load wuM (Rect.unit (s := S2048x512) ![0, 0] S2048x512.size inb_S2048x512_S2048x512_0_0).toLoadRect (View.loadsAt_vmem h_S2048x512))
  Prog.lift (.store wuM (Rect.unit (s := S2048x512) ![0, 0] S2048x512.size inb_S2048x512_S2048x512_0_0)
    (shapeCast S2048x512 (truncf .bf16 (shapeCast S2048x512 v56 shapeCasts_S1x2048x512_S2048x512 : FVec F S2048x512 .f32) bitsLt_bf16_f32 : FVec F S2048x512 .bf16) shapeCasts_S2048x512_S2048x512)
    Finset.univ (View.stores_vmem h_S2048x512 ((Memref.isWhole_whole cc0_scratch4).storeExact_slice rfl _ packedbf16_S2048x512_S2048x512_0_0) (fun _ => rfl)) (.inl rfl))
  let v62 : Vec F S1x512x2048 .f32 ← Prog.lift (.load arg7 (Rect.unit (s := S1x512x2048) ![0, 0, 0] S1x512x2048.size inb_S1x512x2048_S1x512x2048_0_0_0).toLoadRect (View.loadsAt_vmem h_S1x512x2048))
  let _ : Vec F S512x2048 .bf16 ← Prog.lift (.load wdM (Rect.unit (s := S512x2048) ![0, 0] S512x2048.size inb_S512x2048_S512x2048_0_0).toLoadRect (View.loadsAt_vmem h_S512x2048))
  Prog.lift (.store wdM (Rect.unit (s := S512x2048) ![0, 0] S512x2048.size inb_S512x2048_S512x2048_0_0)
    (shapeCast S512x2048 (truncf .bf16 (shapeCast S512x2048 v62 shapeCasts_S1x512x2048_S512x2048 : FVec F S512x2048 .f32) bitsLt_bf16_f32 : FVec F S512x2048 .bf16) shapeCasts_S512x2048_S512x2048)
    Finset.univ (View.stores_vmem h_S512x2048 ((Memref.isWhole_whole cc0_scratch5).storeExact_slice rfl _ packedbf16_S512x2048_S512x2048_0_0) (fun _ => rfl)) (.inl rfl))

/-- The weights, when the block's expert is another than the block's before. -/
def weightStep (v0 : BitVec 32) : Prog (TpuEff nD τ sig (Elt F) Λ₀ .tc) PUnit :=
  if flag (Scalar.cmpi .slt (BitVec.ofNat 32 (i 0).val) v0) = 1#1 then do
    let v40 : Elt F .i32 ← smemLoad beM (Rect.unit (s := S336) (k0_off258 i) S1.size (k0_off258_inb i)) numel1_S1 rfl
    let v44 : Elt F .i32 ← smemLoad beM (Rect.unit (s := S336) (k0_off259 i) S1.size (k0_off259_inb i)) numel1_S1 rfl
    if flag (Scalar.ori (Scalar.cmpi .eq (BitVec.ofNat 32 (i 0).val) 0#32) (Scalar.cmpi .ne v40 v44)) = 1#1 then
      keepWeights arg5 arg6 arg7
    else pure ⟨⟩
  else pure ⟨⟩

/-- The network on the rows of a buffer, with the kept weights. -/
def blockStep (buf : Memref sig .tc .vmem S256x2048 .f32) : Prog (TpuEff nD τ sig (Elt F) Λ₀ .tc) PUnit := do
  let x : Vec F S256x2048 .f32 ← Prog.lift (.load buf (Rect.unit (s := S256x2048) ![0, 0] S256x2048.size inb_S256x2048_S256x2048_0_0).toLoadRect (View.loadsAt_vmem h_S256x2048))
  let g : Vec F S2048x512 .bf16 ← Prog.lift (.load wgM (Rect.unit (s := S2048x512) ![0, 0] S2048x512.size inb_S2048x512_S2048x512_0_0).toLoadRect (View.loadsAt_vmem h_S2048x512))
  let u : Vec F S2048x512 .bf16 ← Prog.lift (.load wuM (Rect.unit (s := S2048x512) ![0, 0] S2048x512.size inb_S2048x512_S2048x512_0_0).toLoadRect (View.loadsAt_vmem h_S2048x512))
  let d : Vec F S512x2048 .bf16 ← Prog.lift (.load wdM (Rect.unit (s := S512x2048) ![0, 0] S512x2048.size inb_S512x2048_S512x2048_0_0).toLoadRect (View.loadsAt_vmem h_S512x2048))
  let _ : Vec F S256x2048 .f32 ← Prog.lift (.load arg8 (Rect.unit (s := S256x2048) ![0, 0] S256x2048.size inb_S256x2048_S256x2048_0_0).toLoadRect (View.loadsAt_vmem h_S256x2048))
  Prog.lift (.store arg8 (Rect.unit (s := S256x2048) ![0, 0] S256x2048.size inb_S256x2048_S256x2048_0_0) (ffnBlock x g u d) Finset.univ (View.stores_vmem_bits_univ h_S256x2048 rfl) (.inl rfl))

/-- The wait at the last block, for the gather started there, into `buf`. -/
def lastStep (buf : Memref sig .tc .vmem S256x2048 .f32) (hbuf : buf.IsWhole) (sem : DmaSem sig) (v0 : BitVec 32) : Prog (TpuEff nD τ sig (Elt F) Λ₀ .tc) PUnit :=
  if flag (Scalar.cmpi .eq (BitVec.ofNat 32 (i 0).val) (Scalar.subi v0 1#32)) = 1#1 then
    Prog.lift (.waitDma2 sem (xM.slice (Rect.unit (s := S8704x2048) ![0, 0] S256x2048.size inb_S8704x2048_S256x2048_0_0) (fun _ => rfl)) buf (View.wordExact_bits rfl) hbuf.wordExact)
  else pure ⟨⟩

/-- A block at an even point -/
def evenStep (v0 : Elt F .i32) (hw : k0_chk257 i v0) : Prog (TpuEff nD τ sig (Elt F) Λ₀ .tc) PUnit :=
  if h4 : k0_cond4 i v0 = 1#1 then do
    k0_part113 i beM (Memref.isWhole_whole _) nuM (Memref.isWhole_whole _) tkM (Memref.isWhole_whole _) xM (Memref.isWhole_whole _)
      arg5 harg5 arg6 harg6 arg7 harg7 arg8 harg8 bufA (Memref.isWhole_whole _) bufB (Memref.isWhole_whole _) cc0_scratch2
      wgM (Memref.isWhole_whole _) wuM (Memref.isWhole_whole _) wdM (Memref.isWhole_whole _) (BitVec.ofNat 32 (i 0).val) v0 hw h4
    blockStep arg8 bufA
    lastStep i bufB (Memref.isWhole_whole _) (semB cc0_scratch2) v0
  else pure ⟨⟩

/-- and at an odd one. -/
def oddStep (v0 : Elt F .i32) (hw : k0_chk257 i v0) : Prog (TpuEff nD τ sig (Elt F) Λ₀ .tc) PUnit :=
  if h6 : k0_cond6 i v0 = 1#1 then do
    k0_part174 i beM (Memref.isWhole_whole _) nuM (Memref.isWhole_whole _) tkM (Memref.isWhole_whole _) xM (Memref.isWhole_whole _)
      arg5 harg5 arg6 harg6 arg7 harg7 arg8 harg8 bufA (Memref.isWhole_whole _) bufB (Memref.isWhole_whole _) cc0_scratch2
      wgM (Memref.isWhole_whole _) wuM (Memref.isWhole_whole _) wdM (Memref.isWhole_whole _) (BitVec.ofNat 32 (i 0).val) v0 hw h6
    blockStep arg8 bufB
    lastStep i bufA (Memref.isWhole_whole _) (semA cc0_scratch2) v0
  else pure ⟨⟩

/-- Zeros past the used blocks. -/
def zeroStep (v35 : Elt F .i32) : Prog (TpuEff nD τ sig (Elt F) Λ₀ .tc) PUnit :=
  if _h : k0_cond8 i v35 = 1#1 then do
    let _ : Vec F S256x2048 .f32 ← Prog.lift (.load arg8 (Rect.unit (s := S256x2048) ![0, 0] S256x2048.size inb_S256x2048_S256x2048_0_0).toLoadRect (View.loadsAt_vmem h_S256x2048))
    Prog.lift (.store arg8 (Rect.unit (s := S256x2048) ![0, 0] S256x2048.size inb_S256x2048_S256x2048_0_0) (broadcast S256x2048 (Scalar.ofBits .f32 0x00000000#32 : F .f32)) Finset.univ (View.stores_vmem_bits_univ h_S256x2048 rfl) (.inl rfl))
  else pure ⟨⟩

/-- The body as printed. -/
abbrev body : Prog (TpuEff nD τ sig (Elt F) Λ₀ .tc) PUnit :=
  cc0_moe_experts i beM (Memref.isWhole_whole _) nuM (Memref.isWhole_whole _) tkM (Memref.isWhole_whole _)
    xM (Memref.isWhole_whole _) arg5 harg5 arg6 harg6 arg7 harg7 arg8 harg8
    (Memref.whole cc0_scratch0) (Memref.isWhole_whole _) (Memref.whole cc0_scratch1) (Memref.isWhole_whole _) cc0_scratch2
    (Memref.whole cc0_scratch3) (Memref.isWhole_whole _) (Memref.whole cc0_scratch4) (Memref.isWhole_whole _)
    (Memref.whole cc0_scratch5) (Memref.isWhole_whole _)

/-- The part of the body up to the even block, -/
theorem part_eq :
    k0_part175 (F := F) i beM (Memref.isWhole_whole _) nuM (Memref.isWhole_whole _) tkM (Memref.isWhole_whole _)
      xM (Memref.isWhole_whole _) arg5 harg5 arg6 harg6 arg7 harg7 arg8 harg8
      (Memref.whole cc0_scratch0) (Memref.isWhole_whole _) (Memref.whole cc0_scratch1) (Memref.isWhole_whole _) cc0_scratch2
      (Memref.whole cc0_scratch3) (Memref.isWhole_whole _) (Memref.whole cc0_scratch4) (Memref.isWhole_whole _)
      (Memref.whole cc0_scratch5) (Memref.isWhole_whole _)
    = (do
      let v0 : Elt F .i32 ← smemLoad nuM (Rect.unit (s := S1) ![0] S1.size inb_S1_S1_0) numel1_S1 rfl
      let hw ← Prog.lift (TpuEff.assume (k0_chk257 i v0) (k0_chk257.dec i v0))
      firstStep i arg5 harg5 arg6 harg6 arg7 harg7 arg8 harg8
      weightStep i arg5 arg6 arg7 v0
      evenStep i arg5 harg5 arg6 harg6 arg7 harg7 arg8 harg8 v0 hw.down
      pure ⟨BitVec.ofNat 32 (i 0).val, v0, hw.down⟩) := by
  unfold k0_part175
  refine congrArg (_ >>= ·) (funext fun v0 => congrArg (_ >>= ·) (funext fun hw => ?_))
  dsimp only
  unfold firstStep weightStep evenStep firstGather blockStep ffnBlock lastStep keepWeights flag
  split
  · simp only [bind_assoc, pure_bind, ite_bind, dite_bind]
  · simp only [bind_assoc, pure_bind, ite_bind, dite_bind]

/-- and the whole of it. -/
theorem body_eq :
    body (F := F) i arg5 harg5 arg6 harg6 arg7 harg7 arg8 harg8
    = (do
      let v0 : Elt F .i32 ← smemLoad nuM (Rect.unit (s := S1) ![0] S1.size inb_S1_S1_0) numel1_S1 rfl
      let hw ← Prog.lift (TpuEff.assume (k0_chk257 i v0) (k0_chk257.dec i v0))
      firstStep i arg5 harg5 arg6 harg6 arg7 harg7 arg8 harg8
      weightStep i arg5 arg6 arg7 v0
      evenStep i arg5 harg5 arg6 harg6 arg7 harg7 arg8 harg8 v0 hw.down
      oddStep i arg5 harg5 arg6 harg6 arg7 harg7 arg8 harg8 v0 hw.down
      let v35 : Elt F .i32 ← smemLoad nuM (Rect.unit (s := S1) ![0] S1.size inb_S1_S1_0) numel1_S1 rfl
      zeroStep i arg8 v35) := by
  unfold body cc0_moe_experts
  rw [part_eq]
  simp only [bind_assoc, pure_bind]
  refine congrArg (_ >>= ·) (funext fun v0 => congrArg (_ >>= ·) (funext fun hw => congrArg (_ >>= ·) (funext fun _ => congrArg (_ >>= ·) (funext fun _ => congrArg (_ >>= ·) (funext fun _ => ?_)))))
  unfold oddStep zeroStep blockStep ffnBlock lastStep flag
  simp only [bind_assoc, pure_bind, ite_bind, dite_bind]
  rfl

end

end Cert.KernelIdeal.MoeRun

end
-- ==== Proof.Ideal.Inv.lean ====
/-
  What holds between the points of the grid: a gather for the next block is in flight into one of the two buffers while
  the other is idle (both are idle before the first point and past the used blocks), and the kept weights are those of
  the block before. Then what the steps of the body do to it.
  Said here of the kernel read at the ideal values; `Proof.Inv` says it of the kernel itself.
-/
module

public import proofs.«01_k».proof.Proof.Ideal.Steps
public import proofs.«01_k».proof.Proof.Flight

@[expose] public section

set_option maxRecDepth 16384

noncomputable section

namespace Cert.KernelIdeal.MoeRun

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal.Gen Cert.Moe

variable {F : FTy → Type} [FloatOps F]

local notation "𝕄" => MT nD τ sig Unit (Elt F) ℕ (Pipeline.UD sig nD τ) ℕ

/-- The counters of the kernel's own copies. -/
abbrev EC : UEmb Counters 𝕄 := countersEmb

variable (m : (ℓ : Loc nD τ sig) → Buf (Elt F) ℓ)

/-! ## The buffers -/

/-- A buffer with nothing under way: its memory, its semaphore, and its half of the activations. -/
def idleA (c : Dev nD) : sProp 𝕄 :=
  iprop((∃ f, bufA.view.loc (c : Thread nD τ) ↦{fullShare} f) ∗ (xM.view.loc (c : Thread nD τ) ↦{fullShare.left} V m c main_arg0)
    ∗ semVal ((c : Thread nD τ), .dma (semA cc0_scratch2)) 0)
def idleB (c : Dev nD) : sProp 𝕄 :=
  iprop((∃ f, bufB.view.loc (c : Thread nD τ) ↦{fullShare} f) ∗ (xM.view.loc (c : Thread nD τ) ↦{fullShare.right} V m c main_arg0)
    ∗ semVal ((c : Thread nD τ), .dma (semB cc0_scratch2)) 0)

/-- The gather of block `b` under way into a buffer. -/
def flyA (hR : InRange m) (c : Dev nD) (b : ℕ) : sProp 𝕄 :=
  Cert.Moe.Flight (EC (F := F)) c xM bufA (semA cc0_scratch2) (V m c main_arg0) (gathered m c b) (rowsOf m b) (fun _ => hR.tok _) fullShare.left () 256
def flyB (hR : InRange m) (c : Dev nD) (b : ℕ) : sProp 𝕄 :=
  Cert.Moe.Flight (EC (F := F)) c xM bufB (semB cc0_scratch2) (V m c main_arg0) (gathered m c b) (rowsOf m b) (fun _ => hR.tok _) fullShare.right () 256

/-- The buffers at point `k`, once the first gather has started; -/
def bufsMid (hR : InRange m) (c : Dev nD) (k : ℕ) : sProp 𝕄 :=
  if k < (nuW m).toNat then (if k % 2 = 0 then iprop(flyA m hR c k ∗ idleB m c) else iprop(idleA m c ∗ flyB m hR c k))
  else iprop(idleA m c ∗ idleB m c)

/-- before point `k`. -/
def bufs (hR : InRange m) (c : Dev nD) (k : ℕ) : sProp 𝕄 :=
  if k = 0 then iprop(idleA m c ∗ idleB m c) else bufsMid m hR c k

/-- The kept weights are `e`'s. -/
def kept (c : Dev nD) (e : BitVec 32) : sProp 𝕄 :=
  iprop(owns (c : Thread nD τ) wgM fullShare (wgOf m c e) ∗ owns (c : Thread nD τ) wuM fullShare (wuOf m c e)
    ∗ owns (c : Thread nD τ) wdM fullShare (wdOf m c e))

/-- The kept weights before point `k`: those of the block before, while there is one; anything at the first. -/
def keptAt (c : Dev nD) (k : ℕ) : sProp 𝕄 :=
  if 0 < k ∧ k < (nuW m).toNat then kept m c (beW m (k - 1))
  else iprop((∃ f, owns (c : Thread nD τ) wgM fullShare f) ∗ (∃ f, owns (c : Thread nD τ) wuM fullShare f) ∗ (∃ f, owns (c : Thread nD τ) wdM fullShare f))

theorem kept_forget (c : Dev nD) (e : BitVec 32) : (kept m c e : sProp 𝕄)
    ⊢ iprop((∃ f, owns (c : Thread nD τ) wgM fullShare f) ∗ (∃ f, owns (c : Thread nD τ) wuM fullShare f) ∗ (∃ f, owns (c : Thread nD τ) wdM fullShare f)) := by
  unfold kept
  iintro ⟨Hg, Hu, Hd⟩
  isplitl [Hg]; · iexists _; iexact Hg
  isplitl [Hu]; · iexists _; iexact Hu
  iexists _; iexact Hd

theorem keptAt_forget (c : Dev nD) (k : ℕ) : (keptAt m c k : sProp 𝕄)
    ⊢ iprop((∃ f, owns (c : Thread nD τ) wgM fullShare f) ∗ (∃ f, owns (c : Thread nD τ) wuM fullShare f) ∗ (∃ f, owns (c : Thread nD τ) wdM fullShare f)) := by
  unfold keptAt
  split
  · exact kept_forget m c _
  · exact .rfl

theorem kept_next (c : Dev nD) (k : ℕ) : (kept m c (beW m k) : sProp 𝕄) ⊢ keptAt m c (k + 1) := by
  unfold keptAt
  split
  · exact .rfl
  · exact kept_forget m c _

/-- Past the used blocks nothing is kept. -/
theorem keptAt_past (c : Dev nD) {k : ℕ} (h : ¬ k < (nuW m).toNat) : (keptAt m c k : sProp 𝕄) ⊢ keptAt m c (k + 1) := by
  unfold keptAt
  rw [if_neg (by omega), if_neg (by omega)]

/-! ## Single operations -/

section

variable (𝒱 : Variants) (bd : Option 𝒱.V) (c : Dev nD) {Λ : Labels} {defs : Defs nD τ sig (Elt F) Λ}

theorem lift_load {cs : CoreSpace} {s : Shape} {e : EltTy} {M : Memref sig .tc cs s e} {X : s.Idx → Elt F e} {q : PosShare TreeShare}
    {o : Fin s.rank → ℕ} (ho : o = fun _ => 0) {hin : ∀ a, o a + s.size a ≤ s.size a}
    {hl : M.view.LoadsAt (Rect.unit o s.size hin).toLoadRect} {Q : (s.Idx → Elt F e) → sProp 𝕄} :
    (owns (c : Thread nD τ) M q X)
      ⊢ iprop((owns (c : Thread nD τ) M q X -∗ Q X)
        -∗ wp frame (wpE defs 𝒱 (c : Thread nD τ) bd) Set.univ (Prog.lift (.load M (Rect.unit o s.size hin).toLoadRect hl)) Q) := by
  iintro H Hk
  unfold Prog.lift
  iapply (load_owns 𝒱 bd c ho (hl := hl)) $$ H
  iintro H
  rw [wp_ret]
  imodintro
  iapply Hk $$ H

theorem lift_store {cs : CoreSpace} {s : Shape} {e : EltTy} {M : Memref sig .tc cs s e} {X w : s.Idx → Elt F e}
    {o : Fin s.rank → ℕ} (ho : o = fun _ => 0) {hin : ∀ a, o a + s.size a ≤ s.size a}
    {hx : (M.access (Rect.unit o s.size hin)).Stores Finset.univ} {hm : (Finset.univ : Finset (Rect.unit o s.size hin).shape.Idx) = Finset.univ ∨ ∀ a, (Rect.unit o s.size hin).stride a = 1}
    {Q : PUnit → sProp 𝕄} :
    (owns (c : Thread nD τ) M fullShare X)
      ⊢ iprop((owns (c : Thread nD τ) M fullShare w -∗ Q ⟨⟩)
        -∗ wp frame (wpE defs 𝒱 (c : Thread nD τ) bd) Set.univ (Prog.lift (.store M (Rect.unit o s.size hin) w Finset.univ hx hm)) Q) := by
  iintro H Hk
  unfold Prog.lift
  iapply (store_owns 𝒱 bd c ho (hx := hx) (hm := hm)) $$ H
  iintro H
  rw [wp_ret]
  imodintro
  iapply Hk $$ H

theorem wp_pure_unit {Q : PUnit → sProp 𝕄} :
    (Q ⟨⟩ : sProp 𝕄) ⊢ wp frame (wpE defs 𝒱 (c : Thread nD τ) bd) Set.univ (pure ⟨⟩ : Prog (TpuEff nD τ sig (Elt F) Λ .tc) PUnit) Q := by
  show _ ⊢ wp frame (wpE defs 𝒱 (c : Thread nD τ) bd) Set.univ (.ret ⟨⟩) Q
  rw [wp_ret]
  iintro H
  imodintro
  iexact H

end

/-! ## The steps -/

section

variable (c : Dev nD) (i : grid0.Coords)
  (arg5 : Memref sig .tc .vmem S1x2048x512 .f32) (harg5 : arg5.IsWhole)
  (arg6 : Memref sig .tc .vmem S1x2048x512 .f32) (harg6 : arg6.IsWhole)
  (arg7 : Memref sig .tc .vmem S1x512x2048 .f32) (harg7 : arg7.IsWhole)
  (arg8 : Memref sig .tc .vmem S256x2048 .f32) (harg8 : arg8.IsWhole)

local notation "WP" => wp frame (wpE (defs₀ (F := F)) Variants.none (c : Thread nD τ) none) Set.univ

theorem zero2 : (![0, 0] : Fin 2 → ℕ) = fun _ => 0 := by decide
theorem zero3 : (![0, 0, 0] : Fin 3 → ℕ) = fun _ => 0 := by decide

/-- The network on the rows of a buffer. -/
theorem blockStep_run {buf : Memref sig .tc .vmem S256x2048 .f32} {x : S256x2048.Idx → Elt F .f32} {e : BitVec 32} {d : S256x2048.Idx → Elt F .f32}
    {Q : PUnit → sProp 𝕄} :
    iprop(owns (c : Thread nD τ) buf fullShare x ∗ kept m c e ∗ owns (c : Thread nD τ) arg8 fullShare d)
      ⊢ iprop((iprop(owns (c : Thread nD τ) buf fullShare x ∗ kept m c e
            ∗ owns (c : Thread nD τ) arg8 fullShare (ffnBlock x (wgOf m c e) (wuOf m c e) (wdOf m c e))) -∗ Q ⟨⟩)
          -∗ WP (blockStep arg8 buf) Q) := by
  unfold blockStep kept
  simp only [wp_bind]
  iintro ⟨Hx, ⟨Hg, Hu, Hd⟩, Ho⟩ Hk
  iapply (lift_load Variants.none none c zero2) $$ Hx
  iintro Hx
  iapply (lift_load Variants.none none c zero2) $$ Hg
  iintro Hg
  iapply (lift_load Variants.none none c zero2) $$ Hu
  iintro Hu
  iapply (lift_load Variants.none none c zero2) $$ Hd
  iintro Hd
  iapply (lift_load Variants.none none c zero2) $$ Ho
  iintro Ho
  iapply (lift_store Variants.none none c zero2) $$ Ho
  iintro Ho
  iapply Hk
  isplitl [Hx]; · iexact Hx
  isplitl [Hg Hu Hd]
  · isplitl [Hg]; · iexact Hg
    isplitl [Hu]; · iexact Hu
    iexact Hd
  iexact Ho

/-- Zeros past the used blocks, -/
theorem zeroStep_run (hi : (nuW m).toNat ≤ (i 0).val) (hle : (nuW m).toNat ≤ 336) {d : S256x2048.Idx → Elt F .f32} {Q : PUnit → sProp 𝕄} :
    (owns (c : Thread nD τ) arg8 fullShare d)
      ⊢ iprop((owns (c : Thread nD τ) arg8 fullShare (outBlk m c (i 0).val) -∗ Q ⟨⟩) -∗ WP (zeroStep i arg8 (nuW m)) Q) := by
  unfold zeroStep
  rw [dif_pos ((cond8_iff i hle).mpr hi), show outBlk m c (i 0).val = _ from if_neg (Nat.not_lt.mpr hi)]
  simp only [wp_bind]
  iintro Ho Hk
  iapply (lift_load Variants.none none c zero2) $$ Ho
  iintro Ho
  iapply (lift_store Variants.none none c zero2) $$ Ho
  iintro Ho
  iapply Hk $$ Ho

/-- none at a used block. -/
theorem zeroStep_skip (hi : (i 0).val < (nuW m).toNat) (hle : (nuW m).toNat ≤ 336) {Q : PUnit → sProp 𝕄} :
    (Q ⟨⟩ : sProp 𝕄) ⊢ WP (zeroStep i arg8 (nuW m)) Q := by
  unfold zeroStep
  rw [dif_neg (fun h => absurd ((cond8_iff i hle).mp h) (Nat.not_le.mpr hi))]
  exact wp_pure_unit _ _ c

/-- The gather before the first block. -/
theorem firstStep_run (hR : InRange m) {Q : PUnit → sProp 𝕄} :
    iprop(tbPt c tkM (tbl m 2) ∗ bufs m hR c (i 0).val)
      ⊢ iprop((iprop(tbPt c tkM (tbl m 2) ∗ bufsMid m hR c (i 0).val) -∗ Q ⟨⟩)
          -∗ WP (firstStep i arg5 harg5 arg6 harg6 arg7 harg7 arg8 harg8) Q) := by
  unfold firstStep bufs
  by_cases h0 : (i 0).val = 0
  · rw [dif_pos ((cond1_iff i).mpr h0), if_pos h0]
    unfold bufsMid
    rw [if_pos (show (i 0).val < (nuW m).toNat by have := hR.pos; omega), if_pos (by omega), show flyA m hR c (i 0).val = flyA m hR c 0 by rw [h0]]
    unfold idleA flyA
    iintro ⟨Ht, ⟨⟨%f, Hb⟩, Hx, Hs⟩, HB⟩ Hk
    iapply (start Variants.none none EC c (fun _ => hR.tok _)
      (firstGather_copies i beM (Memref.isWhole_whole _) nuM (Memref.isWhole_whole _) tkM (Memref.isWhole_whole _) xM (Memref.isWhole_whole _)
        arg5 harg5 arg6 harg6 arg7 harg7 arg8 harg8 bufA (Memref.isWhole_whole _) bufB (Memref.isWhole_whole _) cc0_scratch2
        wgM (Memref.isWhole_whole _) wuM (Memref.isWhole_whole _) wdM (Memref.isWhole_whole _) ((cond1_iff i).mpr h0))
      (View.set_whole _) (fun j hin => read_first m c j hin) () 256 amountA (readA m hR c 0)) $$ [Ht Hb Hx Hs] [Hk HB]
    · isplitl [Ht]; · iexact Ht
      isplitl [Hb]; · iexact Hb
      isplitl [Hx]; · iexact Hx
      iexact Hs
    iintro Ht HF
    iapply Hk
    isplitl [Ht]; · iexact Ht
    isplitl [HF]; · iexact HF
    iexact HB
  · rw [dif_neg (fun h => h0 ((cond1_iff i).mp h)), if_neg h0]
    iintro H Hk
    iapply (wp_pure_unit _ _ c)
    iapply Hk $$ H

/-- The previous block's word of the block table. -/
theorem prevOff_eq : k0_off259 i = ![(i 0).val - 1] := by
  have h : ∀ x : Fin 336, (Scalar.indexCast (Scalar.maxsi (Scalar.subi (BitVec.ofNat 32 x.val) 1#32) 0#32)).toNat = x.val - 1 := by decide +kernel
  exact congrArg (fun n => (![n] : Fin 1 → ℕ)) (h (i 0))

/-- Keeping an expert's weights. -/
theorem keepWeights_run {e : BitVec 32} {X5 X6 : S1x2048x512.Idx → Elt F .f32} {X7 : S1x512x2048.Idx → Elt F .f32}
    (h5 : truncf .bf16 (shapeCast S2048x512 X5 shapeCasts_S1x2048x512_S2048x512 : FVec F S2048x512 .f32) bitsLt_bf16_f32 = wgOf m c e)
    (h6 : truncf .bf16 (shapeCast S2048x512 X6 shapeCasts_S1x2048x512_S2048x512 : FVec F S2048x512 .f32) bitsLt_bf16_f32 = wuOf m c e)
    (h7 : truncf .bf16 (shapeCast S512x2048 X7 shapeCasts_S1x512x2048_S512x2048 : FVec F S512x2048 .f32) bitsLt_bf16_f32 = wdOf m c e)
    {q5 q6 q7 : PosShare TreeShare} {fg fu : S2048x512.Idx → Elt F .bf16} {fd : S512x2048.Idx → Elt F .bf16} {Q : PUnit → sProp 𝕄} :
    iprop((owns (c : Thread nD τ) wgM fullShare fg ∗ owns (c : Thread nD τ) wuM fullShare fu ∗ owns (c : Thread nD τ) wdM fullShare fd)
        ∗ owns (c : Thread nD τ) arg5 q5 X5 ∗ owns (c : Thread nD τ) arg6 q6 X6 ∗ owns (c : Thread nD τ) arg7 q7 X7)
      ⊢ iprop((iprop(kept m c e ∗ owns (c : Thread nD τ) arg5 q5 X5 ∗ owns (c : Thread nD τ) arg6 q6 X6
            ∗ owns (c : Thread nD τ) arg7 q7 X7) -∗ Q ⟨⟩)
          -∗ WP (keepWeights arg5 arg6 arg7) Q) := by
  unfold keepWeights
  simp only [wp_bind, shapeCast_self]
  iintro ⟨⟨Hg, Hu, Hd⟩, H5, H6, H7⟩ Hk
  iapply (lift_load Variants.none none c zero3) $$ H5
  iintro H5
  iapply (lift_load Variants.none none c zero2) $$ Hg
  iintro Hg
  iapply (lift_store Variants.none none c zero2) $$ Hg
  iintro Hg
  iapply (lift_load Variants.none none c zero3) $$ H6
  iintro H6
  iapply (lift_load Variants.none none c zero2) $$ Hu
  iintro Hu
  iapply (lift_store Variants.none none c zero2) $$ Hu
  iintro Hu
  iapply (lift_load Variants.none none c zero3) $$ H7
  iintro H7
  iapply (lift_load Variants.none none c zero2) $$ Hd
  iintro Hd
  iapply (lift_store Variants.none none c zero2) $$ Hd
  iintro Hd
  iapply Hk
  unfold kept
  rw [h5, h6, h7]
  isplitl [Hg Hu Hd]
  · isplitl [Hg]; · iexact Hg
    isplitl [Hu]; · iexact Hu
    iexact Hd
  isplitl [H5]; · iexact H5
  isplitl [H6]; · iexact H6
  iexact H7

/-- The weights of a used block: those kept already, or those of the block's windows; -/
theorem weightStep_run (hR : InRange m) (hi : (i 0).val < (nuW m).toNat) {X5 X6 : S1x2048x512.Idx → Elt F .f32} {X7 : S1x512x2048.Idx → Elt F .f32}
    (h5 : truncf .bf16 (shapeCast S2048x512 X5 shapeCasts_S1x2048x512_S2048x512 : FVec F S2048x512 .f32) bitsLt_bf16_f32 = wgOf m c (beW m (i 0).val))
    (h6 : truncf .bf16 (shapeCast S2048x512 X6 shapeCasts_S1x2048x512_S2048x512 : FVec F S2048x512 .f32) bitsLt_bf16_f32 = wuOf m c (beW m (i 0).val))
    (h7 : truncf .bf16 (shapeCast S512x2048 X7 shapeCasts_S1x512x2048_S512x2048 : FVec F S512x2048 .f32) bitsLt_bf16_f32 = wdOf m c (beW m (i 0).val))
    {q5 q6 q7 : PosShare TreeShare} {Q : PUnit → sProp 𝕄} :
    iprop(tbPt c beM (tbl m 0) ∗ keptAt m c (i 0).val ∗ owns (c : Thread nD τ) arg5 q5 X5 ∗ owns (c : Thread nD τ) arg6 q6 X6 ∗ owns (c : Thread nD τ) arg7 q7 X7)
      ⊢ iprop((iprop(tbPt c beM (tbl m 0) ∗ kept m c (beW m (i 0).val) ∗ owns (c : Thread nD τ) arg5 q5 X5 ∗ owns (c : Thread nD τ) arg6 q6 X6
            ∗ owns (c : Thread nD τ) arg7 q7 X7) -∗ Q ⟨⟩)
          -∗ WP (weightStep i arg5 arg6 arg7 (nuW m)) Q) := by
  unfold weightStep
  rw [if_pos ((active_iff i hR.le).mpr hi)]
  simp only [wp_bind]
  iintro ⟨Ht, Hw, H5, H6, H7⟩ Hk
  iapply (load_word Variants.none none c (M := beM) (f := tbl m 0) (q := fullShare.right) (i 0).val (k0_off258_eq i)) $$ Ht
  iintro Ht
  iapply (load_word Variants.none none c (M := beM) (f := tbl m 0) (q := fullShare.right) ((i 0).val - 1) (prevOff_eq i)) $$ Ht
  iintro Ht
  by_cases hf : (i 0).val = 0 ∨ beW m (i 0).val ≠ beW m ((i 0).val - 1)
  · iapply (Entails.of_eq (congrArg (fun p => WP p Q) (if_pos ((fresh_iff i (beW m (i 0).val) (beW m ((i 0).val - 1))).mpr hf)).symm))
    ihave Hw := (keptAt_forget m c _) $$ Hw
    icases Hw with ⟨⟨%fg, Hg⟩, ⟨%fu, Hu⟩, ⟨%fd, Hd⟩⟩
    iapply (keepWeights_run m c arg5 arg6 arg7 h5 h6 h7) $$ [Hg Hu Hd H5 H6 H7] [Ht Hk]
    · isplitl [Hg Hu Hd]
      · isplitl [Hg]; · iexact Hg
        isplitl [Hu]; · iexact Hu
        iexact Hd
      isplitl [H5]; · iexact H5
      isplitl [H6]; · iexact H6
      iexact H7
    iintro H
    iapply Hk
    isplitl [Ht]; · iexact Ht
    iexact H
  · iapply (Entails.of_eq (congrArg (fun p => WP p Q) (if_neg (fun h => hf ((fresh_iff i (beW m (i 0).val) (beW m ((i 0).val - 1))).mp h))).symm))
    have h0 : 0 < (i 0).val := Nat.pos_of_ne_zero fun h => hf (Or.inl h)
    have he : beW m ((i 0).val - 1) = beW m (i 0).val := (Classical.byContradiction fun h => hf (Or.inr fun e => h e.symm))
    iapply (wp_pure_unit _ _ c)
    iapply Hk
    isplitl [Ht]; · iexact Ht
    isplitl [Hw]
    · iapply (Entails.of_eq (show (keptAt m c (i 0).val : sProp 𝕄) = kept m c (beW m (i 0).val) by
        unfold keptAt; rw [if_pos ⟨h0, hi⟩, he])) $$ Hw
    isplitl [H5]; · iexact H5
    isplitl [H6]; · iexact H6
    iexact H7

/-- none past the used blocks. -/
theorem weightStep_skip (hR : InRange m) (hi : ¬ (i 0).val < (nuW m).toNat) {Q : PUnit → sProp 𝕄} :
    (Q ⟨⟩ : sProp 𝕄) ⊢ WP (weightStep i arg5 arg6 arg7 (nuW m)) Q := by
  unfold weightStep
  rw [if_neg (fun h => hi ((active_iff i hR.le).mp h))]
  exact wp_pure_unit _ _ c

/-- The gather started at the last block is waited for there: both buffers are idle. -/
theorem lastStepB_run (hR : InRange m) (hi : (i 0).val + 1 = (nuW m).toNat) {b : ℕ} {W : Waits sig Unit} {Q : PUnit → sProp 𝕄} :
    iprop(flyB m hR c b ∗ owes (c : Thread nD τ) 0 W)
      ⊢ iprop((iprop(idleB m c ∗ owes (c : Thread nD τ) 0 (insert (SemLoc.dma (semB cc0_scratch2), ()) W)) -∗ Q ⟨⟩)
          -∗ WP (lastStep i bufB (Memref.isWhole_whole _) (semB cc0_scratch2) (nuW m)) Q) := by
  unfold lastStep flyB idleB
  rw [if_pos ((last_iff i hR.pos hR.le).mpr hi)]
  unfold Prog.lift
  iintro H Hk
  iapply (finish Variants.none none EC c (src := xM) (dst := bufB) (sem := semB cc0_scratch2) (fs := V m c main_arg0) (G := gathered m c b) (rows := rowsOf m b) (q := fullShare.right) (fun _ => hR.tok _) (View.set_whole _) () creditB (by decide)) $$ H
  iintro ⟨Hb, Hx, Hs, HW⟩
  rw [wp_ret]
  imodintro
  iapply Hk
  isplitl [Hb Hx Hs]
  · isplitl [Hb]; · iexists _; iexact Hb
    isplitl [Hx]; · iexact Hx
    iexact Hs
  iexact HW

theorem lastStepA_run (hR : InRange m) (hi : (i 0).val + 1 = (nuW m).toNat) {b : ℕ} {W : Waits sig Unit} {Q : PUnit → sProp 𝕄} :
    iprop(flyA m hR c b ∗ owes (c : Thread nD τ) 0 W)
      ⊢ iprop((iprop(idleA m c ∗ owes (c : Thread nD τ) 0 (insert (SemLoc.dma (semA cc0_scratch2), ()) W)) -∗ Q ⟨⟩)
          -∗ WP (lastStep i bufA (Memref.isWhole_whole _) (semA cc0_scratch2) (nuW m)) Q) := by
  unfold lastStep flyA idleA
  rw [if_pos ((last_iff i hR.pos hR.le).mpr hi)]
  unfold Prog.lift
  iintro H Hk
  iapply (finish Variants.none none EC c (src := xM) (dst := bufA) (sem := semA cc0_scratch2) (fs := V m c main_arg0) (G := gathered m c b) (rows := rowsOf m b) (q := fullShare.left) (fun _ => hR.tok _) (View.set_whole _) () creditA (by decide)) $$ H
  iintro ⟨Hb, Hx, Hs, HW⟩
  rw [wp_ret]
  imodintro
  iapply Hk
  isplitl [Hb Hx Hs]
  · isplitl [Hb]; · iexists _; iexact Hb
    isplitl [Hx]; · iexact Hx
    iexact Hs
  iexact HW

/-- Before the last block there is no such wait. -/
theorem lastStep_skip (hR : InRange m) (hi : (i 0).val + 1 ≠ (nuW m).toNat) {buf : Memref sig .tc .vmem S256x2048 .f32} {hbuf : buf.IsWhole}
    {sem : DmaSem sig} {Q : PUnit → sProp 𝕄} : (Q ⟨⟩ : sProp 𝕄) ⊢ WP (lastStep i buf hbuf sem (nuW m)) Q := by
  unfold lastStep
  rw [if_neg (fun h => hi ((last_iff i hR.pos hR.le).mp h))]
  exact wp_pure_unit _ _ c

/-- A used block at an even point. -/
theorem evenStep_run (hR : InRange m) (hi : (i 0).val < (nuW m).toNat) (he : (i 0).val % 2 = 0) {hw : k0_chk257 i (nuW m)} {d : S256x2048.Idx → Elt F .f32}
    {W : Waits sig Unit} {Q : PUnit → sProp 𝕄} :
    iprop(tbPt c tkM (tbl m 2) ∗ bufsMid m hR c (i 0).val ∗ kept m c (beW m (i 0).val) ∗ owns (c : Thread nD τ) arg8 fullShare d ∗ owes (c : Thread nD τ) 0 W)
      ⊢ iprop((iprop(tbPt c tkM (tbl m 2) ∗ bufsMid m hR c ((i 0).val + 1) ∗ kept m c (beW m (i 0).val)
            ∗ owns (c : Thread nD τ) arg8 fullShare (outBlk m c (i 0).val) ∗ (∃ W', owes (c : Thread nD τ) 0 W')) -∗ Q ⟨⟩)
          -∗ WP (evenStep i arg5 harg5 arg6 harg6 arg7 harg7 arg8 harg8 (nuW m) hw) Q) := by
  have h4 : k0_cond4 i (nuW m) = 1#1 := (cond4_iff i hR.le).mpr ⟨hi, he⟩
  obtain ⟨k, hk, hcop⟩ := evenGather_copies (F := F) i beM (Memref.isWhole_whole _) nuM (Memref.isWhole_whole _) tkM (Memref.isWhole_whole _) xM (Memref.isWhole_whole _)
      arg5 harg5 arg6 harg6 arg7 harg7 arg8 harg8 bufA (Memref.isWhole_whole _) bufB (Memref.isWhole_whole _) cc0_scratch2
      wgM (Memref.isWhole_whole _) wuM (Memref.isWhole_whole _) wdM (Memref.isWhole_whole _) (BitVec.ofNat 32 (i 0).val) (nuW m) hw h4
  unfold evenStep
  rw [dif_pos h4, hk, show outBlk m c (i 0).val = _ from if_pos hi]
  simp only [wp_bind]
  rw [show bufsMid m hR c (i 0).val = iprop(flyA m hR c (i 0).val ∗ idleB m c) from (if_pos hi).trans (if_pos he)]
  iintro ⟨Ht, ⟨HA, HB⟩, Hw, Ho, HW⟩ Hk
  unfold flyA
  iapply (finish Variants.none none EC c (src := xM) (dst := bufA) (sem := semA cc0_scratch2) (fs := V m c main_arg0) (G := gathered m c (i 0).val) (rows := rowsOf m (i 0).val) (q := fullShare.left) (fun _ => hR.tok _) (View.set_whole _) () creditA (by decide)) $$ [HA HW]
  · isplitl [HA]; · iexact HA
    iexact HW
  iintro ⟨Hb, Hx, Hs, HW⟩
  unfold idleB
  icases HB with ⟨⟨%f, HbB⟩, HxB, HsB⟩
  iapply (start Variants.none none EC c (rows := rowsOf m (min ((i 0).val + 1) ((nuW m).toNat - 1))) (G := gathered m c (min ((i 0).val + 1) ((nuW m).toNat - 1))) (fun _ => hR.tok _) (hcop ⟨⟩) (View.set_whole _) (fun j hin => read_next m hR i j hin) () 256 amountB
    (readB m hR c (min ((i 0).val + 1) ((nuW m).toNat - 1)))) $$ [Ht HbB HxB HsB]
  · isplitl [Ht]; · iexact Ht
    isplitl [HbB]; · iexact HbB
    isplitl [HxB]; · iexact HxB
    iexact HsB
  iintro Ht HF
  iapply (blockStep_run m c arg8 (e := beW m (i 0).val)) $$ [Hb Hw Ho]
  · isplitl [Hb]; · iapply (Entails.of_eq (owns_whole _ _ _ _).symm) $$ Hb
    isplitl [Hw]; · iexact Hw
    iexact Ho
  iintro ⟨Hb, Hw, Ho⟩
  ihave Hb := (Entails.of_eq (owns_whole _ _ _ _)) $$ Hb
  by_cases hl : (i 0).val + 1 = (nuW m).toNat
  · iapply (lastStepB_run m c i hR hl (b := min ((i 0).val + 1) ((nuW m).toNat - 1))) $$ [HF HW]
    · unfold flyB
      isplitl [HF]; · iexact HF
      iexact HW
    iintro ⟨HB, HW⟩
    iapply Hk
    isplitl [Ht]; · iexact Ht
    isplitl [Hb Hx Hs HB]
    · iapply (Entails.of_eq (show iprop(idleA m c ∗ idleB m c) = bufsMid m hR c ((i 0).val + 1) from (if_neg (by omega)).symm))
      isplitl [Hb Hx Hs]
      · unfold idleA
        isplitl [Hb]; · iexists _; iexact Hb
        isplitl [Hx]; · iexact Hx
        iexact Hs
      iexact HB
    isplitl [Hw]; · iexact Hw
    isplitl [Ho]; · iexact Ho
    iexists _; iexact HW
  · iapply (lastStep_skip m c i hR hl)
    iapply Hk
    isplitl [Ht]; · iexact Ht
    isplitl [Hb Hx Hs HF]
    · iapply (Entails.of_eq (show iprop(idleA m c ∗ flyB m hR c (min ((i 0).val + 1) ((nuW m).toNat - 1))) = bufsMid m hR c ((i 0).val + 1) from by
        unfold bufsMid; rw [if_pos (by omega), if_neg (by omega), Nat.min_eq_left (by omega)]))
      isplitl [Hb Hx Hs]
      · unfold idleA
        isplitl [Hb]; · iexists _; iexact Hb
        isplitl [Hx]; · iexact Hx
        iexact Hs
      unfold flyB
      iexact HF
    isplitl [Hw]; · iexact Hw
    isplitl [Ho]; · iexact Ho
    iexists _; iexact HW

/-- At other points nothing happens. -/
theorem evenStep_skip (hR : InRange m) (hi : ¬ ((i 0).val < (nuW m).toNat ∧ (i 0).val % 2 = 0)) {hw : k0_chk257 i (nuW m)} {Q : PUnit → sProp 𝕄} :
    (Q ⟨⟩ : sProp 𝕄) ⊢ WP (evenStep i arg5 harg5 arg6 harg6 arg7 harg7 arg8 harg8 (nuW m) hw) Q := by
  unfold evenStep
  rw [dif_neg (fun h => hi ((cond4_iff i hR.le).mp h))]
  exact wp_pure_unit _ _ c

/-- A used block at an odd point. -/
theorem oddStep_run (hR : InRange m) (hi : (i 0).val < (nuW m).toNat) (he : (i 0).val % 2 = 1) {hw : k0_chk257 i (nuW m)} {d : S256x2048.Idx → Elt F .f32}
    {W : Waits sig Unit} {Q : PUnit → sProp 𝕄} :
    iprop(tbPt c tkM (tbl m 2) ∗ bufsMid m hR c (i 0).val ∗ kept m c (beW m (i 0).val) ∗ owns (c : Thread nD τ) arg8 fullShare d ∗ owes (c : Thread nD τ) 0 W)
      ⊢ iprop((iprop(tbPt c tkM (tbl m 2) ∗ bufsMid m hR c ((i 0).val + 1) ∗ kept m c (beW m (i 0).val)
            ∗ owns (c : Thread nD τ) arg8 fullShare (outBlk m c (i 0).val) ∗ (∃ W', owes (c : Thread nD τ) 0 W')) -∗ Q ⟨⟩)
          -∗ WP (oddStep i arg5 harg5 arg6 harg6 arg7 harg7 arg8 harg8 (nuW m) hw) Q) := by
  have h6 : k0_cond6 i (nuW m) = 1#1 := (cond6_iff i hR.le).mpr ⟨hi, he⟩
  obtain ⟨k, hk, hcop⟩ := oddGather_copies (F := F) i beM (Memref.isWhole_whole _) nuM (Memref.isWhole_whole _) tkM (Memref.isWhole_whole _) xM (Memref.isWhole_whole _)
      arg5 harg5 arg6 harg6 arg7 harg7 arg8 harg8 bufA (Memref.isWhole_whole _) bufB (Memref.isWhole_whole _) cc0_scratch2
      wgM (Memref.isWhole_whole _) wuM (Memref.isWhole_whole _) wdM (Memref.isWhole_whole _) (BitVec.ofNat 32 (i 0).val) (nuW m) hw h6
  unfold oddStep
  rw [dif_pos h6, hk, show outBlk m c (i 0).val = _ from if_pos hi]
  simp only [wp_bind]
  rw [show bufsMid m hR c (i 0).val = iprop(idleA m c ∗ flyB m hR c (i 0).val) from (if_pos hi).trans (if_neg (by omega))]
  iintro ⟨Ht, ⟨HA, HB⟩, Hw, Ho, HW⟩ Hk
  unfold flyB
  iapply (finish Variants.none none EC c (src := xM) (dst := bufB) (sem := semB cc0_scratch2) (fs := V m c main_arg0) (G := gathered m c (i 0).val) (rows := rowsOf m (i 0).val) (q := fullShare.right) (fun _ => hR.tok _) (View.set_whole _) () creditB (by decide)) $$ [HB HW]
  · isplitl [HB]; · iexact HB
    iexact HW
  iintro ⟨Hb, Hx, Hs, HW⟩
  unfold idleA
  icases HA with ⟨⟨%f, HbA⟩, HxA, HsA⟩
  iapply (start Variants.none none EC c (rows := rowsOf m (min ((i 0).val + 1) ((nuW m).toNat - 1))) (G := gathered m c (min ((i 0).val + 1) ((nuW m).toNat - 1))) (fun _ => hR.tok _) (hcop ⟨⟩) (View.set_whole _) (fun j hin => read_next m hR i j hin) () 256 amountA
    (readA m hR c (min ((i 0).val + 1) ((nuW m).toNat - 1)))) $$ [Ht HbA HxA HsA]
  · isplitl [Ht]; · iexact Ht
    isplitl [HbA]; · iexact HbA
    isplitl [HxA]; · iexact HxA
    iexact HsA
  iintro Ht HF
  iapply (blockStep_run m c arg8 (e := beW m (i 0).val)) $$ [Hb Hw Ho]
  · isplitl [Hb]; · iapply (Entails.of_eq (owns_whole _ _ _ _).symm) $$ Hb
    isplitl [Hw]; · iexact Hw
    iexact Ho
  iintro ⟨Hb, Hw, Ho⟩
  ihave Hb := (Entails.of_eq (owns_whole _ _ _ _)) $$ Hb
  by_cases hl : (i 0).val + 1 = (nuW m).toNat
  · iapply (lastStepA_run m c i hR hl (b := min ((i 0).val + 1) ((nuW m).toNat - 1))) $$ [HF HW]
    · unfold flyA
      isplitl [HF]; · iexact HF
      iexact HW
    iintro ⟨HA, HW⟩
    iapply Hk
    isplitl [Ht]; · iexact Ht
    isplitl [HA Hb Hx Hs]
    · iapply (Entails.of_eq (show iprop(idleA m c ∗ idleB m c) = bufsMid m hR c ((i 0).val + 1) from (if_neg (by omega)).symm))
      isplitl [HA]; · iexact HA
      unfold idleB
      isplitl [Hb]; · iexists _; iexact Hb
      isplitl [Hx]; · iexact Hx
      iexact Hs
    isplitl [Hw]; · iexact Hw
    isplitl [Ho]; · iexact Ho
    iexists _; iexact HW
  · iapply (lastStep_skip m c i hR hl)
    iapply Hk
    isplitl [Ht]; · iexact Ht
    isplitl [Hb Hx Hs HF]
    · iapply (Entails.of_eq (show iprop(flyA m hR c (min ((i 0).val + 1) ((nuW m).toNat - 1)) ∗ idleB m c) = bufsMid m hR c ((i 0).val + 1) from by
        unfold bufsMid; rw [if_pos (by omega), if_pos (by omega), Nat.min_eq_left (by omega)]))
      isplitl [HF]
      · unfold flyA
        iexact HF
      unfold idleB
      isplitl [Hb]; · iexists _; iexact Hb
      isplitl [Hx]; · iexact Hx
      iexact Hs
    isplitl [Hw]; · iexact Hw
    isplitl [Ho]; · iexact Ho
    iexists _; iexact HW

/-- At other points nothing happens. -/
theorem oddStep_skip (hR : InRange m) (hi : ¬ ((i 0).val < (nuW m).toNat ∧ (i 0).val % 2 = 1)) {hw : k0_chk257 i (nuW m)} {Q : PUnit → sProp 𝕄} :
    (Q ⟨⟩ : sProp 𝕄) ⊢ WP (oddStep i arg5 harg5 arg6 harg6 arg7 harg7 arg8 harg8 (nuW m) hw) Q := by
  unfold oddStep
  rw [dif_neg (fun h => hi ((cond6_iff i hR.le).mp h))]
  exact wp_pure_unit _ _ c

end

end Cert.KernelIdeal.MoeRun

end
-- ==== Proof.Ideal.Run.lean ====
/-
  The run of the program: what each point of the grid does, the pipeline's proof data, and, from the library's launch
  theorem, that the program terminates with its arguments unchanged, every semaphore at zero, and the result array at
  the blocks `outBlk`.
  Said here of the kernel read at the ideal values; `Proof.Run` says it of the kernel itself.
-/
module

public import proofs.«01_k».proof.Proof.Ideal.Inv

@[expose] public section

set_option maxRecDepth 16384

noncomputable section

namespace Cert.KernelIdeal.MoeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.Moe

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One point of the grid -/

section

variable (c : Dev nD) (i : grid0.Coords)
  (arg5 : Memref sig .tc .vmem S1x2048x512 .f32) (harg5 : arg5.IsWhole)
  (arg6 : Memref sig .tc .vmem S1x2048x512 .f32) (harg6 : arg6.IsWhole)
  (arg7 : Memref sig .tc .vmem S1x512x2048 .f32) (harg7 : arg7.IsWhole)
  (arg8 : Memref sig .tc .vmem S256x2048 .f32) (harg8 : arg8.IsWhole)

local notation "WP" => wp frame (wpE (defs₀ (F := F)) Variants.none (c : Thread nD τ) none) Set.univ

theorem load_used {q : PosShare TreeShare} {Q : BitVec 32 → sProp 𝕄} :
    (nuM.view.loc (c : Thread nD τ) ↦{q} (tbl m 1) : sProp 𝕄)
      ⊢ iprop(((nuM.view.loc (c : Thread nD τ) ↦{q} (tbl m 1)) -∗ Q (nuW m))
        -∗ WP (smemLoad (nD := nD) (τ := τ) (Λ := Λ₀) (p := .tc) nuM (Rect.unit (s := S1) ![0] S1.size inb_S1_S1_0) numel1_S1 rfl) Q) :=
  load_word Variants.none none c (M := nuM) (f := tbl m 1) (q := q) 0 rfl

theorem lift_assume {P : Prop} {d : Decidable P} (h : P) {Q : PLift P → sProp 𝕄} :
    (Q ⟨h⟩ : sProp 𝕄) ⊢ WP (Prog.lift (TpuEff.assume P d)) Q := by
  unfold Prog.lift
  refine .trans ?_ (wp_assume Variants.none (c : Thread nD τ) none Set.univ h)
  rw [wp_ret]
  iintro H
  imodintro
  iexact H

/-- What a point works on. -/
def held (hR : InRange m) (k : ℕ) : sProp 𝕄 :=
  iprop(tbPt c beM (tbl m 0) ∗ tbPt c nuM (tbl m 1) ∗ tbPt c tkM (tbl m 2) ∗ bufs m hR c k ∗ keptAt m c k)

/-- Before any point but the first, the first gather has started. -/
theorem bufs_next (hR : InRange m) (k : ℕ) : (bufsMid m hR c (k + 1) : sProp 𝕄) ⊢ bufs m hR c (k + 1) :=
  Entails.of_eq (if_neg (Nat.succ_ne_zero k)).symm

theorem bufs_past (hR : InRange m) {k : ℕ} (h : ¬ k < (nuW m).toNat) : (bufsMid m hR c k : sProp 𝕄) ⊢ bufs m hR c (k + 1) :=
  Entails.of_eq (by unfold bufs bufsMid; rw [if_neg h, if_neg (Nat.succ_ne_zero k), if_neg (by omega)])

section

attribute [local irreducible] firstStep weightStep evenStep oddStep zeroStep nuW beW tbl bufs bufsMid kept keptAt outBlk

/-- One point: the block of the result is stored. -/
theorem body_run (hR : InRange m) {X5 X6 : S1x2048x512.Idx → Elt F .f32} {X7 : S1x512x2048.Idx → Elt F .f32}
    (h5 : truncf .bf16 (shapeCast S2048x512 X5 shapeCasts_S1x2048x512_S2048x512 : FVec F S2048x512 .f32) bitsLt_bf16_f32 = wgOf m c (beW m (i 0).val))
    (h6 : truncf .bf16 (shapeCast S2048x512 X6 shapeCasts_S1x2048x512_S2048x512 : FVec F S2048x512 .f32) bitsLt_bf16_f32 = wuOf m c (beW m (i 0).val))
    (h7 : truncf .bf16 (shapeCast S512x2048 X7 shapeCasts_S1x512x2048_S512x2048 : FVec F S512x2048 .f32) bitsLt_bf16_f32 = wdOf m c (beW m (i 0).val))
    {d : S256x2048.Idx → Elt F .f32} {W : Waits sig Unit} {Q : PUnit → sProp 𝕄} :
    iprop(held m c hR (i 0).val ∗ owns (c : Thread nD τ) arg5 fullShare X5 ∗ owns (c : Thread nD τ) arg6 fullShare X6
        ∗ owns (c : Thread nD τ) arg7 fullShare X7 ∗ owns (c : Thread nD τ) arg8 fullShare d ∗ owes (c : Thread nD τ) 0 W)
      ⊢ iprop((iprop(held m c hR ((i 0).val + 1) ∗ owns (c : Thread nD τ) arg5 fullShare X5 ∗ owns (c : Thread nD τ) arg6 fullShare X6
            ∗ owns (c : Thread nD τ) arg7 fullShare X7 ∗ owns (c : Thread nD τ) arg8 fullShare (outBlk m c (i 0).val)
            ∗ (∃ W', owes (c : Thread nD τ) 0 W')) -∗ Q ⟨⟩)
          -∗ WP (body i arg5 harg5 arg6 harg6 arg7 harg7 arg8 harg8) Q) := by
  have hcase : ((i 0).val < (nuW m).toNat ∧ (i 0).val % 2 = 0) ∨ ((i 0).val < (nuW m).toNat ∧ (i 0).val % 2 = 1) ∨ ¬ (i 0).val < (nuW m).toNat := by omega
  rw [body_eq]
  simp only [wp_bind]
  unfold held
  rcases hcase with ⟨hi, he⟩ | ⟨hi, he⟩ | hi
  all_goals
    iintro ⟨⟨Hbe, Hnu, Htk, Hbufs, Hkept⟩, H5, H6, H7, Ho, HW⟩ Hk
    iapply (load_used m c) $$ Hnu
    iintro Hnu
    iapply (lift_assume c (chk257 i hR.pos hR.le))
    iapply (firstStep_run m c i arg5 harg5 arg6 harg6 arg7 harg7 arg8 harg8 hR) $$ [Htk Hbufs]
    · isplitl [Htk]; · iexact Htk
      iexact Hbufs
    iintro ⟨Htk, Hbufs⟩
  · iapply (weightStep_run m c i arg5 arg6 arg7 hR hi h5 h6 h7) $$ [Hbe Hkept H5 H6 H7]
    · isplitl [Hbe]; · iexact Hbe
      isplitl [Hkept]; · iexact Hkept
      isplitl [H5]; · iexact H5
      isplitl [H6]; · iexact H6
      iexact H7
    iintro ⟨Hbe, Hkept, H5, H6, H7⟩
    iapply (evenStep_run m c i arg5 harg5 arg6 harg6 arg7 harg7 arg8 harg8 hR hi he) $$ [Htk Hbufs Hkept Ho HW]
    · isplitl [Htk]; · iexact Htk
      isplitl [Hbufs]; · iexact Hbufs
      isplitl [Hkept]; · iexact Hkept
      isplitl [Ho]; · iexact Ho
      iexact HW
    iintro ⟨Htk, Hbufs, Hkept, Ho, HW⟩
    iapply (oddStep_skip m c i arg5 harg5 arg6 harg6 arg7 harg7 arg8 harg8 hR (fun h => by omega))
    iapply (load_used m c) $$ Hnu
    iintro Hnu
    iapply (zeroStep_skip m c i arg8 hi hR.le)
    iapply Hk
    isplitl [Hbe Hnu Htk Hbufs Hkept]
    · isplitl [Hbe]; · iexact Hbe
      isplitl [Hnu]; · iexact Hnu
      isplitl [Htk]; · iexact Htk
      isplitl [Hbufs]; · iapply (bufs_next m c hR _) $$ Hbufs
      iapply (kept_next m c _) $$ Hkept
    isplitl [H5]; · iexact H5
    isplitl [H6]; · iexact H6
    isplitl [H7]; · iexact H7
    isplitl [Ho]; · iexact Ho
    iexact HW
  · iapply (weightStep_run m c i arg5 arg6 arg7 hR hi h5 h6 h7) $$ [Hbe Hkept H5 H6 H7]
    · isplitl [Hbe]; · iexact Hbe
      isplitl [Hkept]; · iexact Hkept
      isplitl [H5]; · iexact H5
      isplitl [H6]; · iexact H6
      iexact H7
    iintro ⟨Hbe, Hkept, H5, H6, H7⟩
    iapply (evenStep_skip m c i arg5 harg5 arg6 harg6 arg7 harg7 arg8 harg8 hR (fun h => by omega))
    iapply (oddStep_run m c i arg5 harg5 arg6 harg6 arg7 harg7 arg8 harg8 hR hi he) $$ [Htk Hbufs Hkept Ho HW]
    · isplitl [Htk]; · iexact Htk
      isplitl [Hbufs]; · iexact Hbufs
      isplitl [Hkept]; · iexact Hkept
      isplitl [Ho]; · iexact Ho
      iexact HW
    iintro ⟨Htk, Hbufs, Hkept, Ho, HW⟩
    iapply (load_used m c) $$ Hnu
    iintro Hnu
    iapply (zeroStep_skip m c i arg8 hi hR.le)
    iapply Hk
    isplitl [Hbe Hnu Htk Hbufs Hkept]
    · isplitl [Hbe]; · iexact Hbe
      isplitl [Hnu]; · iexact Hnu
      isplitl [Htk]; · iexact Htk
      isplitl [Hbufs]; · iapply (bufs_next m c hR _) $$ Hbufs
      iapply (kept_next m c _) $$ Hkept
    isplitl [H5]; · iexact H5
    isplitl [H6]; · iexact H6
    isplitl [H7]; · iexact H7
    isplitl [Ho]; · iexact Ho
    iexact HW
  · iapply (weightStep_skip m c i arg5 arg6 arg7 hR hi)
    iapply (evenStep_skip m c i arg5 harg5 arg6 harg6 arg7 harg7 arg8 harg8 hR (fun h => by omega))
    iapply (oddStep_skip m c i arg5 harg5 arg6 harg6 arg7 harg7 arg8 harg8 hR (fun h => by omega))
    iapply (load_used m c) $$ Hnu
    iintro Hnu
    iapply (zeroStep_run m c i arg8 (Nat.not_lt.mp hi) hR.le) $$ Ho
    iintro Ho
    iapply Hk
    isplitl [Hbe Hnu Htk Hbufs Hkept]
    · isplitl [Hbe]; · iexact Hbe
      isplitl [Hnu]; · iexact Hnu
      isplitl [Htk]; · iexact Htk
      isplitl [Hbufs]
      · iapply (bufs_past m c hR hi) $$ Hbufs
      iapply (keptAt_past m c hi) $$ Hkept
    isplitl [H5]; · iexact H5
    isplitl [H6]; · iexact H6
    isplitl [H7]; · iexact H7
    isplitl [Ho]; · iexact Ho
    iexists _; iexact HW

end

end

/-! ## The pipeline's proof data -/

variable (hO : Ok m) (hR : InRange m)

/-- What holds between the points, with the generator's register. -/
def inv (c : Dev nD) (k : ℕ) : sProp 𝕄 := iprop((∃ r, prngReg c r) ∗ held m c hR k)

/-- The proof data: the arrays as the pallas_call finds them, the inputs' blocks, and the blocks of the result. -/
def dats (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outBlk m c t.val
  Φ t := inv m hR c t.val
  q _ := fullShare
  owed _ := 0

theorem A_eq (c : Dev nD) (w : Fin (cfgM m hO).W) : (dats m hO hR 0 c).A w = V m c (Pipeline.arrRef spec0 w) := by
  dsimp only [dats]

theorem after0_0 (c : Dev nD) (t : Fin (cfgM m hO).N) : (dats m hO hR 0 c).after 0 t = iblk m hO c 0 t := by dsimp only [dats]; try rfl
theorem after0_1 (c : Dev nD) (t : Fin (cfgM m hO).N) : (dats m hO hR 0 c).after 1 t = iblk m hO c 1 t := by dsimp only [dats]; try rfl
theorem after0_2 (c : Dev nD) (t : Fin (cfgM m hO).N) : (dats m hO hR 0 c).after 2 t = iblk m hO c 2 t := by dsimp only [dats]; try rfl
theorem after0_3 (c : Dev nD) (t : Fin (cfgM m hO).N) : (dats m hO hR 0 c).after 3 t = outBlk m c t.val := by dsimp only [dats]; try rfl

theorem before0_0 (c : Dev nD) (t : Fin (cfgM m hO).N) (d) : (dats m hO hR 0 c).before 0 t d = iblk m hO c 0 t :=
  before0_0_of m hO (dats m hO hR 0 c) (A_eq m hO hR c 0) (after0_0 m hO hR c) t d
theorem before0_1 (c : Dev nD) (t : Fin (cfgM m hO).N) (d) : (dats m hO hR 0 c).before 1 t d = iblk m hO c 1 t :=
  before0_1_of m hO (dats m hO hR 0 c) (A_eq m hO hR c 1) (after0_1 m hO hR c) t d
theorem before0_2 (c : Dev nD) (t : Fin (cfgM m hO).N) (d) : (dats m hO hR 0 c).before 2 t d = iblk m hO c 2 t :=
  before0_2_of m hO (dats m hO hR 0 c) (A_eq m hO hR c 2) (after0_2 m hO hR c) t d

/-! ## The body obligation -/

/-- The coordinate of point `t`. -/
theorem coords_val (t : Fin (cfgM m hO).N) : (grid0.coords t 0).val = t.val :=
  (Pipeline.Grid.coords_val (G := grid0) t 0 (S := 1) (B := 336) (by decide) rfl).trans
    (by have h : t.val < 336 := t.isLt; omega)

/-! ## The blocks the weight windows name -/

theorem loaded_word (T : pre0.Contents (Elt F)) (i : grid0.Coords) :
    (T.at 0 (Rect.unit (s := S336) ![(Scalar.indexCast (BitVec.ofNat 32 (i 0).val)).toNat] S1.size (k0_off1_inb i)) numel1_S1 : BitVec 32)
      = wordAt (n := 336) (T 0) (i 0).val := by
  have hi := point_lt i
  unfold wordAt
  refine Eq.trans ?_ (dif_pos hi).symm
  show T 0 _ = T 0 _
  congr 1
  funext a
  apply Fin.ext
  refine (Rect.emb_apply _ _ _).trans ?_
  match a with
  | ⟨0, _⟩ =>
    show (Scalar.indexCast (BitVec.ofNat 32 (i 0).val)).toNat + 1 * 0 = (i 0).val
    simp only [Scalar.indexCast, BitVec.toNat_ofNat]; omega

theorem transform_1 (T : pre0.Contents (Elt F)) (i : grid0.Coords) :
    cc0_transform_1 k0_off1_inb numel1_S1 T i = ![(wordAt (n := 336) (T 0) (i 0).val).toNat, 0, 0] := by
  exact congrArg (fun w : BitVec 32 => (![w.toNat, 0, 0] : Fin 3 → ℕ)) (loaded_word T i)
theorem transform_2 (T : pre0.Contents (Elt F)) (i : grid0.Coords) :
    cc0_transform_2 k0_off1_inb numel1_S1 T i = ![(wordAt (n := 336) (T 0) (i 0).val).toNat, 0, 0] := by
  exact congrArg (fun w : BitVec 32 => (![w.toNat, 0, 0] : Fin 3 → ℕ)) (loaded_word T i)
theorem transform_3 (T : pre0.Contents (Elt F)) (i : grid0.Coords) :
    cc0_transform_3 k0_off1_inb numel1_S1 T i = ![(wordAt (n := 336) (T 0) (i 0).val).toNat, 0, 0] := by
  exact congrArg (fun w : BitVec 32 => (![w.toNat, 0, 0] : Fin 3 → ℕ)) (loaded_word T i)

theorem entry_lt (t : Fin (cfgM m hO).N) : (beW m (grid0.coords t 0).val).toNat < 128 := by
  have hO' : ok0 (tbl m) := hO
  unfold ok0 at hO'
  obtain ⟨h, -⟩ := hO'.1 (grid0.coords t)
  have h0 := h 0
  rw [transform_1] at h0
  have h1 : ((beW m (grid0.coords t 0).val).toNat + 1) * 1 ≤ 128 := h0
  omega

theorem place_entry {e A B : ℕ} (he : e < 128) {f : Fin 3 → ℕ} (hf : f = ![e, 0, 0]) (i : (⟨2, ![A, B]⟩ : Shape).Idx) (a : Fin 3) :
    f a * (⟨3, ![1, A, B]⟩ : Shape).size a + ((Fin.cons (⟨0, Nat.one_pos⟩ : Fin 1) i : (⟨3, ![1, A, B]⟩ : Shape).Idx) a).val
      = ((ValueIdx.ix3 (⟨e % 128, Nat.mod_lt _ (by decide)⟩ : Fin 128) (i 0) (i 1) : (⟨3, ![128, A, B]⟩ : Shape).Idx) a).val := by
  subst hf
  match a with
  | ⟨0, _⟩ => show e * 1 + 0 = e % 128; omega
  | ⟨1, _⟩ => show 0 * A + (i 0).val = (i 0).val; omega
  | ⟨2, _⟩ => show 0 * B + (i 1).val = (i 1).val; omega

/-- The blocks of the weights at a point are those of the point's expert. -/
theorem block0 (c : Dev nD) (t : Fin (cfgM m hO).N) :
    truncf .bf16 (shapeCast S2048x512 (iblk m hO c 0 t : S1x2048x512.Idx → Elt F .f32) shapeCasts_S1x2048x512_S2048x512 : FVec F S2048x512 .f32) bitsLt_bf16_f32
      = wgOf m c (beW m (grid0.coords t 0).val) := by
  unfold wgOf
  congr 1
  funext i
  refine (shapeCast_dropUnit_apply ![2048, 512] (iblk m hO c 0 t : S1x2048x512.Idx → Elt F .f32) shapeCasts_S1x2048x512_S2048x512 i).trans ?_
  show V m c main_arg4 ((((cfgM m hO).win 0).rect t).emb _) = _
  congr 1
  funext a
  apply Fin.ext
  exact (Pipeline.Window.rect_emb_val ((cfgM m hO).win 0) t _ a).trans (place_entry (entry_lt m hO t) (transform_1 (tbl m) (grid0.coords t)) i a)
theorem block1 (c : Dev nD) (t : Fin (cfgM m hO).N) :
    truncf .bf16 (shapeCast S2048x512 (iblk m hO c 1 t : S1x2048x512.Idx → Elt F .f32) shapeCasts_S1x2048x512_S2048x512 : FVec F S2048x512 .f32) bitsLt_bf16_f32
      = wuOf m c (beW m (grid0.coords t 0).val) := by
  unfold wuOf
  congr 1
  funext i
  refine (shapeCast_dropUnit_apply ![2048, 512] (iblk m hO c 1 t : S1x2048x512.Idx → Elt F .f32) shapeCasts_S1x2048x512_S2048x512 i).trans ?_
  show V m c main_arg5 ((((cfgM m hO).win 1).rect t).emb _) = _
  congr 1
  funext a
  apply Fin.ext
  exact (Pipeline.Window.rect_emb_val ((cfgM m hO).win 1) t _ a).trans (place_entry (entry_lt m hO t) (transform_2 (tbl m) (grid0.coords t)) i a)
theorem block2 (c : Dev nD) (t : Fin (cfgM m hO).N) :
    truncf .bf16 (shapeCast S512x2048 (iblk m hO c 2 t : S1x512x2048.Idx → Elt F .f32) shapeCasts_S1x512x2048_S512x2048 : FVec F S512x2048 .f32) bitsLt_bf16_f32
      = wdOf m c (beW m (grid0.coords t 0).val) := by
  unfold wdOf
  congr 1
  funext i
  refine (shapeCast_dropUnit_apply ![512, 2048] (iblk m hO c 2 t : S1x512x2048.Idx → Elt F .f32) shapeCasts_S1x512x2048_S512x2048 i).trans ?_
  show V m c main_arg6 ((((cfgM m hO).win 2).rect t).emb _) = _
  congr 1
  funext a
  apply Fin.ext
  exact (Pipeline.Window.rect_emb_val ((cfgM m hO).win 2) t _ a).trans (place_entry (entry_lt m hO t) (transform_3 (tbl m) (grid0.coords t)) i a)

def bodyPre (c : Dev nD) (t : Fin (cfgM m hO).N) : sProp 𝕄 :=
  iprop((dats m hO hR 0 c).Φ t.castSucc ∗ (dats m hO hR 0 c).owesAt () t.castSucc
    ∗ (∃ d, owns (c : Thread nD τ) (ms0 m hO t) fullShare ((dats m hO hR 0 c).before 0 t d))
    ∗ (∃ d, owns (c : Thread nD τ) (ms1 m hO t) fullShare ((dats m hO hR 0 c).before 1 t d))
    ∗ (∃ d, owns (c : Thread nD τ) (ms2 m hO t) fullShare ((dats m hO hR 0 c).before 2 t d))
    ∗ (∃ d, owns (c : Thread nD τ) (ms3 m hO t) fullShare ((dats m hO hR 0 c).before 3 t d)))

def bodyPost (c : Dev nD) (t : Fin (cfgM m hO).N) : sProp 𝕄 :=
  iprop((dats m hO hR 0 c).Φ t.succ ∗ (dats m hO hR 0 c).owesAt () t.succ
    ∗ owns (c : Thread nD τ) (ms0 m hO t) fullShare ((dats m hO hR 0 c).after 0 t)
    ∗ owns (c : Thread nD τ) (ms1 m hO t) fullShare ((dats m hO hR 0 c).after 1 t)
    ∗ owns (c : Thread nD τ) (ms2 m hO t) fullShare ((dats m hO hR 0 c).after 2 t)
    ∗ owns (c : Thread nD τ) (ms3 m hO t) fullShare ((dats m hO hR 0 c).after 3 t))

theorem sound_body (c : Dev nD) (t : Fin (cfgM m hO).N) :
    bodyPre m hO hR c t ⊢ wp frame (wpE (defs₀ (F := F)) Variants.none c none) Set.univ (bodyAt m hO t) (fun _ => bodyPost m hO hR c t) := by
  unfold bodyPre bodyPost
  simp only [before0_0, before0_1, before0_2]
  rw [after0_0, after0_1, after0_2, after0_3,
    show (dats m hO hR 0 c).Φ t.castSucc = inv m hR c t.val from rfl, show (dats m hO hR 0 c).Φ t.succ = inv m hR c (t.val + 1) from rfl]
  unfold Dat.owesAt Pipeline.owesWithin inv
  rw [show (dats m hO hR 0 c).owed t.castSucc = 0 from rfl, show (dats m hO hR 0 c).owed t.succ = 0 from rfl, ← coords_val m hO t]
  iintro ⟨⟨Hg, Hh⟩, ⟨%W, -, HW⟩, ⟨%d0, H0⟩, ⟨%d1, H1⟩, ⟨%d2, H2⟩, ⟨%d3, H3⟩⟩
  iapply (body_run m c (grid0.coords t) (ms0 m hO t) _ (ms1 m hO t) _ (ms2 m hO t) _ (ms3 m hO t) _ hR
    (block0 m hO c t) (block1 m hO c t) (block2 m hO c t)) $$ [Hh H0 H1 H2 H3 HW]
  · isplitl [Hh]; · iexact Hh
    isplitl [H0]; · iexact H0
    isplitl [H1]; · iexact H1
    isplitl [H2]; · iexact H2
    isplitl [H3]; · iexact H3
    iexact HW
  iintro ⟨Hh, H0, H1, H2, H3, ⟨%W', HW'⟩⟩
  isplitl [Hg Hh]
  · isplitl [Hg]; · iexact Hg
    iexact Hh
  isplitl [HW']
  · iexists W'; isplitr; · ipureintro; exact fun _ _ => Or.inl trivial
    iexact HW'
  isplitl [H0]; · iexact H0
  isplitl [H1]; · iexact H1
  isplitl [H2]; · iexact H2
  iexact H3

/-- Every point stores the result's block. -/
theorem idle_point (i : grid0.Coords) {v : BitVec 32} (hv : v.toNat ≤ 336) :
    (!(k0_cond4 i v == 1#1) && !(k0_cond6 i v == 1#1) && !(k0_cond8 i v == 1#1)) = false := by
  rcases Nat.lt_or_ge (i 0).val v.toNat with h | h
  · rcases Nat.mod_two_eq_zero_or_one (i 0).val with h2 | h2
    · rw [(cond4_iff i hv).mpr ⟨h, h2⟩]; rfl
    · rw [(cond6_iff i hv).mpr ⟨h, h2⟩]; simp
  · rw [(cond8_iff i hv).mpr h]; simp

theorem used_word : (tbl m).atD 1 ![0] = nuW m := by
  unfold nuW wordAt
  refine (dif_pos (by decide)).trans (Eq.trans ?_ (dif_pos Nat.one_pos).symm)
  show tbl m 1 _ = tbl m 1 _
  congr 1
  funext a
  match a with
  | ⟨0, _⟩ => rfl

include hR in
theorem idle_result (t : Fin (cfgM m hO).N) : (cfgM m hO).idle 3 ((cfgM m hO).grid.coords t) = false := by
  show (!(k0_cond4 (grid0.coords t) ((tbl m).atD 1 ![0]) == 1#1) && !(k0_cond6 (grid0.coords t) ((tbl m).atD 1 ![0]) == 1#1)
    && !(k0_cond8 (grid0.coords t) ((tbl m).atD 1 ![0]) == 1#1)) = false
  rw [used_word m]
  exact idle_point _ hR.le

theorem body_obligation (c : Dev nD) : BodyObligation (dats (F := F) m hO hR 0 c) (defs₀ (F := F)) Variants.none () Set.univ := fun t => by
  rw [bigSep_W0, bigSep_W0, defs₀_row m hO]
  refine triple_restated (sound_body m hO hR c t) rfl .rfl fun _ => ?_
  have h : idle0 (tbl m) 3 (grid0.coords t) = false := idle_result m hO hR t
  simp only [h]
  exact .rfl

/-! ## The launch -/

/-- The activations, shared between the two buffers' gathers. -/
theorem split_x (c : Dev nD) : (((c : Thread nD τ).loc main_arg0) ↦{fullShare} V m c main_arg0 : sProp 𝕄)
    ⊣⊢ iprop((((c : Thread nD τ).loc main_arg0) ↦{fullShare.left} V m c main_arg0)
      ∗ (((c : Thread nD τ).loc main_arg0) ↦{fullShare.right} V m c main_arg0)) :=
  pointsTo_share (PosShare.mem_left_op_right fullShare)

/-- Before the first point both buffers are idle. -/
theorem inv_in (c : Dev nD) : iprop(Pipeline.ΦD osem0 spec0 H0 (V m) c ∗ Pipeline.ΦT pre0 (tbl m) c) ⊢ inv m hR c 0 := by
  rw [PhiD0_eq, PhiT0_eq]
  unfold inv held bufs keptAt idleA idleB
  rw [if_pos rfl, if_neg (by omega)]
  iintro ⟨⟨⟨⟨%fa, Ha⟩, ⟨%fb, Hb⟩, ⟨%f3, H3⟩, ⟨%f4, H4⟩, ⟨%f5, H5⟩⟩, Hg, ⟨Hsa, Hsb⟩, Hx⟩, Hbe, Hnu, Htk⟩
  ihave Hx := (split_x m c).mp $$ Hx
  icases Hx with ⟨Hl, Hr⟩
  isplitl [Hg]; · iexact Hg
  isplitl [Hbe]; · iexact Hbe
  isplitl [Hnu]; · iexact Hnu
  isplitl [Htk]; · iexact Htk
  isplitl [Ha Hb Hsa Hsb Hl Hr]
  · isplitl [Ha Hsa Hl]
    · isplitl [Ha]; · iexists fa; iexact Ha
      isplitl [Hl]; · iexact Hl
      iexact Hsa
    · isplitl [Hb]; · iexists fb; iexact Hb
      isplitl [Hr]; · iexact Hr
      iexact Hsb
  isplitl [H3]; · iexists f3; iapply (Entails.of_eq (owns_whole (c : Thread nD τ) cc0_scratch3 fullShare f3).symm) $$ H3
  isplitl [H4]; · iexists f4; iapply (Entails.of_eq (owns_whole (c : Thread nD τ) cc0_scratch4 fullShare f4).symm) $$ H4
  iexists f5; iapply (Entails.of_eq (owns_whole (c : Thread nD τ) cc0_scratch5 fullShare f5).symm) $$ H5

/-- After the last too. -/
theorem inv_out (c : Dev nD) : inv m hR c 336 ⊢ Pipeline.ΦD osem0 spec0 H0 (V m) c := by
  rw [PhiD0_eq]
  unfold inv held bufs bufsMid keptAt idleA idleB
  have h := hR.le
  rw [if_neg (by omega), if_neg (by omega), if_neg (by omega)]
  iintro ⟨Hg, -, -, -, ⟨⟨⟨%fa, Ha⟩, Hl, Hsa⟩, ⟨⟨%fb, Hb⟩, Hr, Hsb⟩⟩, ⟨%f3, H3⟩, ⟨%f4, H4⟩, ⟨%f5, H5⟩⟩
  isplitl [Ha Hb H3 H4 H5]
  · isplitl [Ha]; · iexists fa; iexact Ha
    isplitl [Hb]; · iexists fb; iexact Hb
    isplitl [H3]; · iexists f3; iapply (Entails.of_eq (owns_whole (c : Thread nD τ) cc0_scratch3 fullShare f3)) $$ H3
    isplitl [H4]; · iexists f4; iapply (Entails.of_eq (owns_whole (c : Thread nD τ) cc0_scratch4 fullShare f4)) $$ H4
    iexists f5; iapply (Entails.of_eq (owns_whole (c : Thread nD τ) cc0_scratch5 fullShare f5)) $$ H5
  isplitl [Hg]; · iexact Hg
  isplitl [Hsa Hsb]
  · isplitl [Hsa]; · iexact Hsa
    iexact Hsb
  iapply (split_x m c).mpr
  isplitl [Hl]; · iexact Hl
  iexact Hr

set_option backward.isDefEq.respectTransparency.types false in
theorem run_main_quiescent : θ_run defs (onTc (τ := τ) (main (F := F))) (s₀ m ρ)
    (fun r => Pipeline.FramePost (Pipeline.pin pcfgs fun _ => adm m hO) (dats m hO hR) 0 (V m) r ∧ r.2.sem = fun _ => 0) :=
  Pipeline.θ_run_frameP_dma (Q' := _) pcfgs (fun _ => adm m hO) (dats m hO hR) (0 : Fin 1) launch0 osem0 defs₀ Variants.none ownSemFacts0 H0 H0_sub m ρ main
    (hbody := fun c => (body_obligation m hO hR c).loose) (hshare := fun c => (dats m hO hR 0 c).share_full fun _ => rfl)
    (howed := fun _ _ => rfl) (V := V m) (hmain := hmain m Variants.none) (hA := A_eq m hO hR) (hpf := V_pre m)
    (hin := fun c => inv_in m hR c) (hout := fun c => inv_out m hR c)

/-- The arguments end unchanged. -/
theorem unchanged (r : PUnit × MemSt nD τ sig (Elt F))
    (h : Pipeline.FramePost (Pipeline.pin pcfgs fun _ => adm m hO) (dats m hO hR) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have hc := h c
  ⟨(hc.2 main_arg0 (by decide : main_arg0 ∈ Pipeline.restRefs sig spec0)).trans (V_main_arg0 m c),
    (hc.2 main_arg1 (by decide : main_arg1 ∈ Pipeline.restRefs sig spec0)).trans (V_main_arg1 m c),
    (hc.2 main_arg2 (by decide : main_arg2 ∈ Pipeline.restRefs sig spec0)).trans (V_main_arg2 m c),
    (hc.2 main_arg3 (by decide : main_arg3 ∈ Pipeline.restRefs sig spec0)).trans (V_main_arg3 m c),
    (hc.1 0).trans (((dats m hO hR 0 c).arrAt_in 0 rfl _).trans ((A_eq m hO hR c 0).trans (V_main_arg4 m c))),
    (hc.1 1).trans (((dats m hO hR 0 c).arrAt_in 1 rfl _).trans ((A_eq m hO hR c 1).trans (V_main_arg5 m c))),
    (hc.1 2).trans (((dats m hO hR 0 c).arrAt_in 2 rfl _).trans ((A_eq m hO hR c 2).trans (V_main_arg6 m c)))⟩

/-- From tables in range, the kernel ends with its arguments unchanged and every counter at zero. -/
theorem frame (hO : Ok m) (hR : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => unchanged m hO hR r h.1 c, h.2⟩) (run_main_quiescent m ρ hO hR)

end Cert.KernelIdeal.MoeRun

end
-- ==== Proof.Ideal.Tables.lean ====
/-
  The kernel's block table: at each block, the expert the program's block table names, the blocks past the used ones
  repeating the last used. With the precondition, every word of the tables is in range.
  Said here of the kernel read at the ideal values; `Proof.Tables` says it of the kernel itself.
-/
module

public import proofs.«01_k».proof.Proof.Ideal.Run
public import proofs.«01_k».proof.Proof.PreRead

@[expose] public section

set_option maxRecDepth 16384

noncomputable section

namespace Cert.KernelIdeal.MoeRun

open Idealize.ShloMosaic Idealize.ShloMosaic.TcCoe Idealize.ShloMosaic.Tactic
open Idealize.ShloMosaic.ValueIdx Idealize.ShloMosaic.StableHlo.Predicate
open Idealize.SL Idealize.SL.Sem
open Cert.KernelIdeal.Gen Cert.Moe

variable {F : FTy → Type} [FloatOps F]

/-- The position the table is read at: the block, or the last used one. -/
def place (nu : IVec S1 32) : IVec S336 32 :=
  minsi (iotaInDim S336 32 0)
    (broadcastInDim S336 ![] bcast_S_S336 (subi (shapeCast S_ nu shapeCasts_S1_S_) (constantI S_ 32 1#32)))

def wrapped (p : IVec S336 32) : IVec S336 32 :=
  select (cmpi .slt p (broadcastInDim S336 ![] bcast_S_S336 (constantI S_ 32 0#32)))
    (addi p (broadcastInDim S336 ![] bcast_S_S336 (constantI S_ 32 336#32))) p

variable (m : (ℓ : Loc nD τ sig) → Buf (Elt F) ℓ)

theorem V_main_v11 (c : Dev nD) : (V m c main_v11 : IVec S336 32)
    = Host.gather gather_S336_S336x1_S336_n_0_n_n_0_1_1 (m ((c : Thread nD τ).loc main_arg1) : IVec S336 32)
        (broadcastInDim S336x1 ![0] bcast_S336_S336x1_0 (wrapped (place (m ((c : Thread nD τ).loc main_arg2) : IVec S1 32)))) := by
  show StableHlo.after hostOps0 (fun b => m (c, b)) (Proc.devRef .tc main_v11) = _
  unfold hostOps0
  after_results
  rfl

theorem one_index (k : S1.Idx) : k = ix1 0 := by
  funext a
  obtain rfl : a = 0 := Subsingleton.elim _ _
  exact Subsingleton.elim (α := Fin 1) _ _

theorem place_apply {nu : IVec S1 32} (h1 : 1 ≤ (nu (ix1 0)).toNat) (h2 : (nu (ix1 0)).toNat ≤ 336) (b : Fin 336) :
    place nu (ix1 b) = BitVec.ofNat 32 (min b.val ((nu (ix1 0)).toNat - 1)) := by
  obtain ⟨k, hk⟩ : ∃ k : S1.Idx, place nu (ix1 b) = IntOp.minsi (BitVec.ofNat 32 b.val) (IntOp.subi (nu k) 1#32) := ⟨_, rfl⟩
  rw [hk, one_index k]
  have hb := b.isLt
  have hs : (IntOp.subi (nu (ix1 0)) 1#32).toNat = (nu (ix1 0)).toNat - 1 := by
    simp only [IntOp.subi, BitVec.toNat_sub, BitVec.toNat_ofNat, Nat.reducePow]; omega
  apply BitVec.eq_of_toNat_eq
  unfold IntOp.minsi
  split
  · next h =>
    simp only [BitVec.slt_eq_decide, BitVec.toInt_eq_toNat_cond, hs, BitVec.toNat_ofNat, Nat.reducePow, decide_eq_true_eq] at h
    rw [BitVec.toNat_ofNat, BitVec.toNat_ofNat]; omega
  · next h =>
    simp only [BitVec.slt_eq_decide, BitVec.toInt_eq_toNat_cond, hs, BitVec.toNat_ofNat, Nat.reducePow, decide_eq_true_eq] at h
    rw [hs, BitVec.toNat_ofNat]; omega

theorem wrapped_apply {nu : IVec S1 32} (h1 : 1 ≤ (nu (ix1 0)).toNat) (h2 : (nu (ix1 0)).toNat ≤ 336) (b : Fin 336) :
    (wrapped (place nu) (ix1 b)).toInt.toNat = min b.val ((nu (ix1 0)).toNat - 1) := by
  have hp := place_apply h1 h2 b
  have key : ∀ k : Fin 336, (if IntOp.cmpi .slt (BitVec.ofNat 32 k.val) 0#32 = 1#1 then IntOp.addi (BitVec.ofNat 32 k.val) 336#32
      else BitVec.ofNat 32 k.val).toInt.toNat = k.val := by decide +kernel
  have hb := b.isLt
  have e : wrapped (place nu) (ix1 b) = if IntOp.cmpi .slt (place nu (ix1 b)) 0#32 = 1#1 then IntOp.addi (place nu (ix1 b)) 336#32
      else place nu (ix1 b) := rfl
  rw [e, hp]
  exact key ⟨min b.val ((nu (ix1 0)).toNat - 1), by omega⟩

/-- The words of the program's own tables. -/
abbrev beArg : IVec S336 32 := m (((0 : Dev nD) : Thread nD τ).loc main_arg1)
abbrev nuArg : IVec S1 32 := m (((0 : Dev nD) : Thread nD τ).loc main_arg2)
abbrev tkArg : IVec S86016 32 := m (((0 : Dev nD) : Thread nD τ).loc main_arg3)

theorem nuW_eq : nuW m = nuArg m (ix1 0) := by
  exact (wordAt_of_lt (n := 1) _ Nat.one_pos).trans (congrFun (V_main_arg2 m 0) (ix1 0))

theorem tokN_eq (r : Fin 86016) : tokN m r.val = (tkArg m (ix1 r)).toNat := by
  exact congrArg BitVec.toNat ((wordAt_of_lt (n := 86016) _ r.isLt).trans (congrFun (V_main_arg3 m 0) (ix1 r)))

variable (hW : Words (beArg m) (nuArg m) (tkArg m))

include hW in
theorem beW_eq (b : Fin 336) : beW m b.val
    = beArg m (ix1 ⟨min b.val ((nuArg m (ix1 0)).toNat - 1), by have := b.isLt; omega⟩) := by
  refine ((wordAt_of_lt (n := 336) _ b.isLt).trans (congrFun (V_main_v11 m 0) (ix1 b))).trans ?_
  have g := gather_take gather_S336_S336x1_S336_n_0_n_n_0_1_1 rfl rfl rfl rfl (beArg m)
    (broadcastInDim S336x1 ![0] bcast_S336_S336x1_0 (wrapped (place (nuArg m)))) b (by decide)
  refine (congrArg _ (ofFin_eq b).symm).trans (g.trans ?_)
  rw [ofFin_eq]
  refine congrArg (fun k => beArg m (ix1 k)) (Fin.ext ?_)
  show min (broadcastInDim S336x1 ![0] bcast_S336_S336x1_0 (wrapped (place (nuArg m))) (ixP b)).toInt.toNat (336 - 1) = _
  rw [bcast_col1, ofFin_eq, wrapped_apply hW.pos hW.le]
  have := b.isLt
  show min (min b.val ((nuArg m (ix1 0)).toNat - 1)) 335 = min b.val ((nuArg m (ix1 0)).toNat - 1)
  omega

include hW in
theorem inRange : InRange m where
  pos := by rw [nuW_eq]; exact hW.pos
  le := by rw [nuW_eq]; exact hW.le
  tok r := by
    by_cases hr : r < 86016
    · exact (tokN_eq m ⟨r, hr⟩).trans_lt (hW.tok _)
    · exact (congrArg BitVec.toNat (wordAt_past (n := 86016) _ hr)).trans_lt (by decide)

include hW in
theorem beW_lt (i : grid0.Coords) : (beW m (i 0).val).toNat < 128 := by
  rw [beW_eq m hW ⟨(i 0).val, (i 0).isLt⟩]; exact hW.blk _

include hW in
/-- Every block the index maps name is inside its array. -/
theorem ok : Ok m := by
  have inside : ∀ (i : grid0.Coords) {f : Fin 3 → ℕ} (A B : ℕ), f = ![(beW m (i 0).val).toNat, 0, 0] →
      ∀ a, (f a + 1) * (⟨3, ![1, A, B]⟩ : Shape).size a ≤ (⟨3, ![128, A, B]⟩ : Shape).size a := by
    intro i f A B hf a
    subst hf
    have h := beW_lt m hW i
    match a with
    | ⟨0, _⟩ => show ((beW m (i 0).val).toNat + 1) * 1 ≤ 128; omega
    | ⟨1, _⟩ => show (0 + 1) * A ≤ A; omega
    | ⟨2, _⟩ => show (0 + 1) * B ≤ B; omega
  show ok0 (tbl m)
  unfold ok0
  exact ⟨fun i => ⟨inside i 2048 512 (transform_1 (tbl m) i), Or.inl rfl⟩, fun i => ⟨inside i 2048 512 (transform_2 (tbl m) i), Or.inl rfl⟩,
    fun i => ⟨inside i 512 2048 (transform_3 (tbl m) i), Or.inl rfl⟩⟩

end Cert.KernelIdeal.MoeRun

end
-- ==== Proof.Ideal.Result.lean ====
/-
  The result array after the run: every row is the row of its block.
-/
module

public import proofs.«01_k».proof.Proof.Ideal.Tables

@[expose] public section

set_option maxRecDepth 16384

noncomputable section

namespace Cert.KernelIdeal.MoeRun

open Idealize.ShloMosaic Idealize.ShloMosaic.TcCoe Idealize.ShloMosaic.Tactic
open Idealize.ShloMosaic.ValueIdx
open Idealize.SL Idealize.SL.Sem
open Idealize.ShloMosaic.Pipeline
open Cert.KernelIdeal.Gen Cert.Moe

variable {F : FTy → Type} [FloatOps F]
variable (m : (ℓ : Loc nD τ sig) → Buf (Elt F) ℓ) (ρ : Dev nD → PrngReg)

/-- The result: row `i` is row `i % 256` of block `i / 256`. -/
def result (c : Dev nD) : S86016x2048.Idx → F .f32 := fun i =>
  outBlk m c ((i 0).val / 256) (ix2 ⟨(i 0).val % 256, Nat.mod_lt _ (by decide)⟩ (i 1))

variable (hO : Ok m) (hR : InRange m)

/-- The block of the result at a point is the point's own. -/
theorem index3 (t : Fin (cfgM m hO).N) : ((cfgM m hO).win 3).index t = ![t.val, 0] := by
  have h : (grid0.coords t 0).val = t.val := coords_val m hO t
  have ht : t.val < 336 := t.isLt
  show ![(BitVec.ofNat 32 (grid0.coords t 0).val).toNat, (0#32 : BitVec 32).toNat] = _
  rw [h, BitVec.toNat_ofNat, Nat.mod_eq_of_lt (by omega)]
  rfl

/-- Every point writes its block back. -/
theorem flush3 (t : Fin (cfgM m hO).N) : ((cfgM m hO).win 3).flush t = true := by
  have hN : (cfgM m hO).grid.N = 336 := N_0
  have ht : t.val < 336 := t.isLt
  show (true && (decide (t.val + 1 = grid0.N) || decide (∃ h : t.val + 1 < grid0.N,
    ((cfgM m hO).win 3).index ⟨t.val + 1, h⟩ ≠ ((cfgM m hO).win 3).index t))) = true
  simp only [Bool.true_and, Bool.or_eq_true, decide_eq_true_eq]
  rcases Nat.lt_or_ge (t.val + 1) 336 with h | h
  · refine Or.inr ⟨h, fun e => ?_⟩
    rw [index3, index3] at e
    have e0 : t.val + 1 = t.val := congrFun e 0
    omega
  · exact Or.inl (by show t.val + 1 = 336; omega)

theorem flushed3 (c : Dev nD) (t : Fin (cfgM m hO).N) :
    (dats m hO hR 0 c).flushed 3 t = (((cfgM m hO).win 3).blk t).view.read (Elt F) (result m c) := by
  show ((cfgM m hO).win 3).cut (grid0.coords t) ((dats m hO hR 0 c).after 3 t) = _
  rw [after0_3]
  funext j
  have h0 : ((((cfgM m hO).win 3).rect t).emb j (0 : Fin 2)).val = t.val * 256 + (j (0 : Fin 2)).val := by
    refine (Pipeline.Window.rect_emb_val ((cfgM m hO).win 3) t j (0 : Fin 2)).trans ?_
    rw [index3]; rfl
  have h1 : ((((cfgM m hO).win 3).rect t).emb j (1 : Fin 2)).val = (j (1 : Fin 2)).val := by
    refine (Pipeline.Window.rect_emb_val ((cfgM m hO).win 3) t j (1 : Fin 2)).trans ?_
    rw [index3]
    show 0 * 2048 + _ = _
    omega
  have hj : (j (0 : Fin 2)).val < 256 := (j (0 : Fin 2)).isLt
  show outBlk m c t.val j = result m c ((((cfgM m hO).win 3).rect t).emb j)
  unfold result
  refine congr (congrArg (outBlk m c) (by omega)) (funext fun a => Fin.ext ?_)
  match a with
  | ⟨0, _⟩ => show (j (0 : Fin 2)).val = ((((cfgM m hO).win 3).rect t).emb j (0 : Fin 2)).val % 256; omega
  | ⟨1, _⟩ => exact h1.symm

/-- Every entry of the result is in the block of its row's point. -/
theorem cover3 (i : S86016x2048.Idx) :
    ∃ t : Fin (cfgM m hO).N, ((cfgM m hO).win 3).flush t = true ∧ i ∈ (((cfgM m hO).win 3).blk t).view.set := by
  have h0 : (i 0 : Nat) < 86016 := (i 0).isLt
  have h1 : (i 1 : Nat) < 2048 := (i 1).isLt
  have hN : (cfgM m hO).N = 336 := N_0
  refine ⟨⟨(i 0 : Nat) / 256, by omega⟩, flush3 m hO _, ?_⟩
  set t : Fin (cfgM m hO).N := ⟨(i 0 : Nat) / 256, _⟩ with ht
  refine (iff_of_eq (congrArg (fun s => i ∈ s) (View.set_slice_whole main_v12 (((cfgM m hO).win 3).rect t)))).mpr ?_
  refine Rect.mem_set_unit.mpr fun a => ?_
  have e := index3 m hO t
  match a with
  | ⟨0, _⟩ =>
    show ((cfgM m hO).win 3).index t (0 : Fin 2) * 256 ≤ (i 0 : Nat) ∧ (i 0 : Nat) < ((cfgM m hO).win 3).index t (0 : Fin 2) * 256 + 256
    rw [e]; show (i 0 : Nat) / 256 * 256 ≤ _ ∧ _ < (i 0 : Nat) / 256 * 256 + 256; omega
  | ⟨1, _⟩ =>
    show ((cfgM m hO).win 3).index t (1 : Fin 2) * 2048 ≤ (i 1 : Nat) ∧ (i 1 : Nat) < ((cfgM m hO).win 3).index t (1 : Fin 2) * 2048 + 2048
    rw [e]; show 0 * 2048 ≤ _ ∧ _ < 0 * 2048 + 2048; omega

/-- The kernel's run: the result, and the arguments unchanged. -/
theorem run (hO : Ok m) (hR : InRange m) : θ_run defs (onTc (τ := τ) (main (F := F))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 3).trans
      ((dats m hO hR 0 c).arrAt_eq_of_cover 3 (result m c) (fun t _ => flushed3 m hO hR c t) (cover3 m hO)), unchanged m hO hR r h.1 c⟩)
    (run_main_quiescent m ρ hO hR)

end Cert.KernelIdeal.MoeRun

end
-- ==== Proof.Ideal.Value.lean ====
/-
  The kernel's result at the ideal values: the routed network of `MoeRow`, of the arguments.
-/
module

public import proofs.«01_k».proof.Proof.MoeRow
public import proofs.«01_k».proof.Proof.Ideal.Result

@[expose] public section

set_option maxRecDepth 16384

noncomputable section

open Idealize.ShloMosaic Idealize.ShloMosaic.TcCoe Idealize.ShloMosaic.ValueIdx Idealize.SL.Sem

namespace Cert.KernelIdeal.MoeRun

open Cert.KernelIdeal Cert.KernelIdeal.Gen Cert.FfnRow Cert.Moe

variable (m : (ℓ : Loc nD τ sig) → Buf (Elt Ideal) ℓ) (c : Dev nD)

/-- The network on a block, at (a, k). -/
theorem ffnBlock_apply (x : FVec Ideal S256x2048 .f32) (wg wu : FVec Ideal S2048x512 .bf16) (wd : FVec Ideal S512x2048 .bf16)
    (a : Fin 256) (k : Fin 2048) :
    ffnBlock x wg wu wd (ix2 a k) = ffnRow (K := 2048) (J := 512) (N := 2048) (fun q => x (ix2 a q)) wg wu wd k :=
  kernel_apply (M := 256) (K := 2048) (J := 512) (N := 2048) (truncf .bf16 x bitsLt_bf16_f32) wg wu wd _ _ rfl rfl bitsLt_bf16_f32 a k

theorem wgOf_eq (e : BitVec 32) : (wgOf m c e : S2048x512.Idx → EReal) = expert (m ((c : Thread nD τ).loc main_arg4)) e := by
  unfold wgOf; rw [V_main_arg4]; rfl
theorem wuOf_eq (e : BitVec 32) : (wuOf m c e : S2048x512.Idx → EReal) = expert (m ((c : Thread nD τ).loc main_arg5)) e := by
  unfold wuOf; rw [V_main_arg5]; rfl
theorem wdOf_eq (e : BitVec 32) : (wdOf m c e : S512x2048.Idx → EReal) = expert (m ((c : Thread nD τ).loc main_arg6)) e := by
  unfold wdOf; rw [V_main_arg6]; rfl

theorem gathered_apply (b : Fin 336) (a : Fin 256) (r : Fin 86016) (hr : r.val = b.val * 256 + a.val) (q : Fin 2048) :
    gathered m c b.val (ix2 a q) = (m ((c : Thread nD τ).loc main_arg0) : S8704x2048.Idx → EReal)
      (ix2 ⟨(tkArg m (ix1 r)).toNat % 8704, Nat.mod_lt _ (by decide)⟩ q) := by
  unfold gathered
  rw [V_main_arg0]
  have e : rowsOf m b.val a = (tkArg m (ix1 r)).toNat := by
    refine Eq.trans ?_ (tokN_eq m r)
    show tokN m (b.val * 256 + a.val) = tokN m r.val
    rw [hr]
  refine congrArg (m ((c : Thread nD τ).loc main_arg0) : S8704x2048.Idx → EReal) (funext fun k => Fin.ext ?_)
  match k with
  | ⟨0, _⟩ => exact congrArg (· % 8704) e
  | ⟨1, _⟩ => rfl

variable (hW : Words (beArg m) (nuArg m) (tkArg m))
include hW

/-- The kernel's result is the routed network of its arguments. -/
theorem value : (result m c : FVec Ideal ⟨2, ![86016, 2048]⟩ .f32)
    = moe (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  obtain rfl : c = 0 := Subsingleton.elim (α := Fin 1) c 0
  funext i
  obtain ⟨r, k, rfl⟩ : ∃ (r : Fin 86016) (k : Fin 2048), i = ix2 r k := ⟨i 0, i 1, eq_ix2 i⟩
  have hR := r.isLt
  show outBlk m 0 (blockOf r).val (ix2 (⟨r.val % 256, Nat.mod_lt _ (by decide)⟩ : Fin 256) k) = moeAt _ _ _ _ _ _ _ (blockOf r) r k
  have hra : r.val = (blockOf r).val * 256 + r.val % 256 := by show r.val = r.val / 256 * 256 + _; omega
  generalize blockOf r = b at hra ⊢
  unfold outBlk moeAt
  have hn := nuW_eq m
  by_cases h : b.val < (nuArg m (ix1 0)).toNat
  · refine Eq.trans ?_ (if_pos h).symm
    rw [if_pos (by rw [hn]; exact h), ffnBlock_apply]
    have hb : beW m b.val = beArg m (ix1 b) := by
      rw [beW_eq m hW b]
      refine congrArg (fun k => beArg m (ix1 k)) (Fin.ext ?_)
      show min b.val _ = b.val
      omega
    rw [hb, wgOf_eq, wuOf_eq, wdOf_eq]
    exact congrArg (fun x => ffnRow x _ _ _ k) (funext fun q => gathered_apply m 0 b ⟨r.val % 256, Nat.mod_lt _ (by decide)⟩ r hra q)
  · refine Eq.trans ?_ (if_neg h).symm
    rw [if_neg (by rw [hn]; exact h)]
    exact Ideal.ofBits_zero_f32

end Cert.KernelIdeal.MoeRun

end
-- ==== Proof.Takes.lean ====
/-
  Two takes along the first axis, read at an index: of a matrix's rows, and of a stack's members. An index is read as a
  signed word and clamped into the axis.
-/
module

public import Idealize.ShloMosaic.Lib.ValueIdx

@[expose] public section

noncomputable section

namespace Cert.Moe

open Idealize.ShloMosaic Idealize.ShloMosaic.ValueIdx

variable {α : Type} {N A B n w : ℕ}

/-- Rows of a matrix. -/
abbrev rowTake (N A n : ℕ) (wf : GatherDims.WF ⟨2, ![N, A]⟩ ⟨2, ![n, 1]⟩ ⟨2, ![n, A]⟩ [1] [0] [] [0] [] 1 ![1, A]) :
    GatherDims ⟨2, ![N, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

theorem rowTake_apply (hN : 0 < N) (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ w) (p : Fin n) (a : Fin A) :
    Host.gather (rowTake N A n wf) x idx (ix2 p a) = x (ix2 ⟨min (idx (ix2 p 0)).toInt.toNat (N - 1), by omega⟩ a) := by
  unfold Host.gather
  congr 1
  funext ax
  refine Fin.ext ?_
  show (rowTake N A n wf).start (ix2 p a) idx ax + (rowTake N A n wf).batchCoord (ix2 p a) ax + (rowTake N A n wf).offCoord (ix2 p a) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : (rowTake N A n wf).siIdx (ix2 p a) ⟨List.idxOf (0 : Fin 2) (rowTake N A n wf).startIndexMap,
        List.idxOf_lt_length_iff.2 (List.mem_singleton.mpr rfl)⟩ = ix2 p 0 := by
      funext b; refine Fin.ext ?_
      match b with
      | ⟨0, _⟩ => rfl
      | ⟨1, _⟩ => rfl
    exact congrArg (fun k => min (idx k).toInt.toNat (N - 1)) hsi
  | ⟨1, _⟩ =>
    have ne : (1 : Fin 2) ≠ 0 := by decide
    have hs : (rowTake N A n wf).start (ix2 p a) idx (1 : Fin 2) = 0 := by
      unfold GatherDims.start
      exact dif_neg (fun h => ne (List.mem_singleton.mp h))
    have ho : (rowTake N A n wf).offCoord (ix2 p a) (1 : Fin 2) = a.val := by
      unfold GatherDims.offCoord
      rw [dif_pos ((GatherDims.mem_sKept _ _).mpr ⟨fun h => ne (List.mem_singleton.mp h), List.not_mem_nil⟩)]
      rfl
    show (rowTake N A n wf).start (ix2 p a) idx (1 : Fin 2) + 0 + (rowTake N A n wf).offCoord (ix2 p a) (1 : Fin 2) = a.val
    rw [hs, ho, Nat.zero_add]

/-- Members of a stack of matrices. -/
abbrev memberTake (N A B n : ℕ)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem memberTake_apply (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (p : Fin n) (a : Fin A) (b : Fin B) :
    Host.gather (memberTake N A B n wf) x idx (ix3 p a b)
      = x (ix3 ⟨min (idx (ix2 p 0)).toInt.toNat (N - 1), by omega⟩ a b) := by
  unfold Host.gather
  congr 1
  funext ax
  refine Fin.ext ?_
  show (memberTake N A B n wf).start (ix3 p a b) idx ax + (memberTake N A B n wf).batchCoord (ix3 p a b) ax
    + (memberTake N A B n wf).offCoord (ix3 p a b) ax = _
  rw [GatherDims.batchCoord_eq_zero _ _ _ List.not_mem_nil]
  have kept : ∀ k : Fin 3, k ≠ 0 → (memberTake N A B n wf).start (ix3 p a b) idx k = 0 ∧ k ∈ (memberTake N A B n wf).sKept := by
    intro k hk
    refine ⟨?_, (GatherDims.mem_sKept _ _).mpr ⟨fun h => hk (List.mem_singleton.mp h), List.not_mem_nil⟩⟩
    unfold GatherDims.start
    exact dif_neg (fun h => hk (List.mem_singleton.mp h))
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : (memberTake N A B n wf).siIdx (ix3 p a b) ⟨List.idxOf (0 : Fin 3) (memberTake N A B n wf).startIndexMap,
        List.idxOf_lt_length_iff.2 (List.mem_singleton.mpr rfl)⟩ = ix2 p 0 := by
      funext c; refine Fin.ext ?_
      match c with
      | ⟨0, _⟩ => rfl
      | ⟨1, _⟩ => rfl
    exact congrArg (fun k => min (idx k).toInt.toNat (N - 1)) hsi
  | ⟨1, _⟩ =>
    have h := kept (1 : Fin 3) (by decide)
    have ho : (memberTake N A B n wf).offCoord (ix3 p a b) (1 : Fin 3) = a.val := by
      unfold GatherDims.offCoord
      rw [dif_pos h.2]
      rfl
    show (memberTake N A B n wf).start (ix3 p a b) idx (1 : Fin 3) + 0 + (memberTake N A B n wf).offCoord (ix3 p a b) (1 : Fin 3) = a.val
    rw [h.1, ho, Nat.zero_add]
  | ⟨2, _⟩ =>
    have h := kept (2 : Fin 3) (by decide)
    have ho : (memberTake N A B n wf).offCoord (ix3 p a b) (2 : Fin 3) = b.val := by
      unfold GatherDims.offCoord
      rw [dif_pos h.2]
      rfl
    show (memberTake N A B n wf).start (ix3 p a b) idx (2 : Fin 3) + 0 + (memberTake N A B n wf).offCoord (ix3 p a b) (2 : Fin 3) = b.val
    rw [h.1, ho, Nat.zero_add]

end Cert.Moe

end
-- ==== Proof.RefValue.lean ====
/-
  The reference's result at an index: the routed network of `MoeRow`. The reference takes each row's activations and each
  block's weight matrices, multiplies block by block, and puts zero where the block is past the used ones.
-/
module

public import proofs.«01_k».proof.Proof.MoeRow
public import proofs.«01_k».proof.Proof.Takes
public import proofs.«01_k».proof.Proof.PreRead
public import proofs.«01_k».proof.Proof.Gen.ReferenceIdeal.Run

@[expose] public section

set_option maxRecDepth 16384

noncomputable section

open Idealize.ShloMosaic Idealize.ShloMosaic.TcCoe Idealize.ShloMosaic.ValueIdx Idealize.SL.Sem

namespace Cert.ReferenceIdeal.MoeValue

open Cert.ReferenceIdeal Cert.ReferenceIdeal.Gen Cert.FfnRow Cert.Moe

/-- A word that is not negative is not wrapped round. -/
theorem wrap_word {w : BitVec 32} (k : BitVec 32) (h : w.toNat < 2 ^ 31) :
    Scalar.select (IntOp.cmpi .slt w 0#32) (IntOp.addi w k) w = w := by
  have hs : IntOp.cmpi .slt w 0#32 = 0#1 := by
    have : w.slt 0#32 = false := by
      simp only [BitVec.slt_eq_decide, decide_eq_false_iff_not, BitVec.toInt_eq_toNat_cond, BitVec.toNat_ofNat, Nat.reducePow, Nat.reduceMod]
      omega
    show BitVec.ofBool (w.slt 0#32) = 0#1
    rw [this]; rfl
  rw [hs]; rfl

/-- A word below `k`, read as a signed word and clamped below `k`, is itself. -/
theorem clamp_word {w : BitVec 32} {k : ℕ} (hk : k ≤ 2 ^ 31) (h : w.toNat < k) : min w.toInt.toNat (k - 1) = w.toNat % k := by
  rw [Nat.mod_eq_of_lt h, BitVec.toInt_eq_toNat_cond]
  split <;> omega

/-- A column of words, read at a row. -/
theorem column_apply {n : ℕ} (hn : n ≠ 1) (h : (⟨1, ![n]⟩ : Shape).BroadcastsInDim ⟨2, ![n, 1]⟩ ![0])
    (v : IVec ⟨1, ![n]⟩ 32) (p : Fin n) : broadcastInDim ⟨2, ![n, 1]⟩ ![0] h v (ix2 p 0) = v (ix1 p) := by
  refine broadcastInDim_apply _ h v _ _ fun a => ?_
  obtain rfl : a = 0 := Subsingleton.elim _ _
  exact (if_neg hn).symm

/-- The column of wrapped words of a table, read at a row. -/
theorem wrapped_apply {n : ℕ} (hn : n ≠ 1) (h : (⟨1, ![n]⟩ : Shape).BroadcastsInDim ⟨2, ![n, 1]⟩ ![0])
    (v z k : IVec ⟨1, ![n]⟩ 32) (K : BitVec 32) (hz : ∀ i, z i = 0#32) (hk : ∀ i, k i = K) (p : Fin n) (hv : (v (ix1 p)).toNat < 2 ^ 31) :
    broadcastInDim ⟨2, ![n, 1]⟩ ![0] h (select (cmpi .slt v z) (addi v k) v) (ix2 p 0) = v (ix1 p) := by
  rw [column_apply hn]
  show Scalar.select (IntOp.cmpi .slt (v (ix1 p)) (z (ix1 p))) (IntOp.addi (v (ix1 p)) (k (ix1 p))) (v (ix1 p)) = _
  rw [hz, hk]
  exact wrap_word K hv

/-- A stack of members taken by the block table: member `b` is the expert its word names. -/
theorem taken_member {A B : ℕ}
    (wf : GatherDims.WF ⟨3, ![128, A, B]⟩ ⟨2, ![336, 1]⟩ ⟨3, ![336, A, B]⟩ [1, 2] [0] [] [0] [] 1 ![1, A, B])
    (x : FVec Ideal ⟨3, ![128, A, B]⟩ .f32) (idx : IVec ⟨2, ![336, 1]⟩ 32) (e : BitVec 32) (b : Fin 336)
    (hi : idx (ix2 b 0) = e) (he : e.toNat < 128) :
    member (Host.gather (memberTake 128 A B 336 wf) x idx) b = expert x e := by
  funext i
  show Host.gather (memberTake 128 A B 336 wf) x idx (ix3 b (i 0) (i 1)) = x (ix3 ⟨e.toNat % 128, _⟩ (i 0) (i 1))
  refine (memberTake_apply (by decide) wf x idx b (i 0) (i 1)).trans ?_
  congr 2
  apply Fin.ext
  show min (idx (ix2 b 0)).toInt.toNat (128 - 1) = e.toNat % 128
  rw [hi]
  exact clamp_word (by decide) he

/-- Rows taken by the token table, as a stack of blocks: row `a` of block `b`. -/
theorem taken_row (wf : GatherDims.WF ⟨2, ![8704, 2048]⟩ ⟨2, ![86016, 1]⟩ ⟨2, ![86016, 2048]⟩ [1] [0] [] [0] [] 1 ![1, 2048])
    (hc : (⟨2, ![86016, 2048]⟩ : Shape).ShapeCasts ⟨3, ![336, 256, 2048]⟩)
    (x : FVec Ideal ⟨2, ![8704, 2048]⟩ .f32) (idx : IVec ⟨2, ![86016, 1]⟩ 32) (e : BitVec 32) (b : Fin 336) (a : Fin 256) (r : Fin 86016)
    (hr : r.val = b.val * 256 + a.val) (hi : idx (ix2 r 0) = e) (he : e.toNat < 8704) (q : Fin 2048) :
    shapeCast ⟨3, ![336, 256, 2048]⟩ (Host.gather (rowTake 8704 2048 86016 wf) x idx) hc (ix3 b a q)
      = x (ix2 ⟨e.toNat % 8704, Nat.mod_lt _ (by decide)⟩ q) := by
  rw [shapeCast_apply _ hc (ix3 b a q) (ix2 r q) (by
    rw [Shape.rowMajor_val_two, Shape.rowMajor_val_three]
    show r.val * 2048 + q.val = (b.val * 256 + a.val) * 2048 + q.val
    rw [hr])]
  rw [rowTake_apply (by decide)]
  congr 2
  apply Fin.ext
  show min (idx (ix2 r 0)).toInt.toNat (8704 - 1) = e.toNat % 8704
  rw [hi]
  exact clamp_word (by decide) he

/-- The comparison of a block's number with the used blocks, spread over the block. -/
theorem used_apply (h3 : (⟨3, ![336, 1, 1]⟩ : Shape).BroadcastsInDim ⟨3, ![336, 256, 2048]⟩ ![0, 1, 2])
    (h1 : (⟨1, ![336]⟩ : Shape).BroadcastsInDim ⟨3, ![336, 1, 1]⟩ ![0]) (u : IVec ⟨1, ![336]⟩ 1) (b : Fin 336) (a : Fin 256) (q : Fin 2048) :
    broadcastInDim ⟨3, ![336, 256, 2048]⟩ ![0, 1, 2] h3 (broadcastInDim ⟨3, ![336, 1, 1]⟩ ![0] h1 u) (ix3 b a q) = u (ix1 b) := by
  rw [broadcastInDim_apply _ h3 _ _ (ix3 b 0 0) (fun k => by
    match k with
    | ⟨0, _⟩ => rfl
    | ⟨1, _⟩ => rfl
    | ⟨2, _⟩ => rfl)]
  refine broadcastInDim_apply _ h1 u _ _ fun k => ?_
  obtain rfl : k = 0 := Subsingleton.elim _ _
  rfl

/-- A block's number is below the used blocks, as signed words and as numbers. -/
theorem below_word {b : ℕ} (hb : b < 336) {n : BitVec 32} (hn : n.toNat ≤ 336) :
    IntOp.cmpi .slt (BitVec.ofNat 32 b) n = BitVec.ofBool (decide (b < n.toNat)) := by
  show BitVec.ofBool ((BitVec.ofNat 32 b).slt n) = _
  congr 1
  rw [BitVec.slt_eq_decide]
  refine decide_eq_decide.mpr ?_
  simp only [BitVec.toInt_eq_toNat_cond, BitVec.toNat_ofNat, Nat.reducePow]
  omega

variable (m : (ℓ : Loc nD τ sig) → Buf (Elt Ideal) ℓ) (c : Dev nD)

/-- The reference's result is the routed network of its arguments. -/
theorem value (hW : Words (m ((c.tc : Thread nD τ).loc main_arg1)) (m ((c.tc : Thread nD τ).loc main_arg2)) (m ((c.tc : Thread nD τ).loc main_arg3))) :
    (Value.res_main_v40 m c : FVec Ideal ⟨2, ![86016, 2048]⟩ .f32)
      = moe (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  funext i
  obtain ⟨r, k, rfl⟩ : ∃ (r : Fin 86016) (k : Fin 2048), i = ix2 r k := ⟨i 0, i 1, eq_ix2 i⟩
  show _ = moeAt _ _ _ _ _ _ _ (blockOf r) r k
  have hR := r.isLt
  have hra : r.val = (blockOf r).val * 256 + r.val % 256 := by show r.val = r.val / 256 * 256 + _; omega
  generalize blockOf r = b at hra ⊢
  obtain ⟨a, ha⟩ : ∃ a : Fin 256, r.val = b.val * 256 + a.val := ⟨⟨r.val % 256, Nat.mod_lt _ (by decide)⟩, hra⟩
  unfold Value.res_main_v40
  refine (shapeCast_apply _ _ (ix2 r k) (ix3 b a k) (by
    rw [Shape.rowMajor_val_two, Shape.rowMajor_val_three]
    show (b.val * 256 + a.val) * 2048 + k.val = r.val * 2048 + k.val
    rw [ha])).trans ?_
  refine (congrArg₂ (fun u v => Scalar.select u v _) (used_apply _ _ _ b a k)
    (stack_apply _ _ _ _ _ _ _ _ _ _ rfl rfl (fun _ => Ideal.ofBits_one_f32) (fun _ => Ideal.ofBits_one_f32) b a k)).trans ?_
  have hu : (cmpi .slt (iotaInDim S336 32 0) (broadcastInDim S336 ![] bcast_S_S336 (shapeCast S_ (m ((c.tc : Thread nD τ).loc main_arg2)) shapeCasts_S1_S_))
      : IVec S336 1) (ix1 b) = BitVec.ofBool (decide (b.val < (((m ((c.tc : Thread nD τ).loc main_arg2)) : IVec S1 32) (ix1 0)).toNat)) := by
    refine Eq.trans ?_ (below_word b.isLt hW.le)
    show IntOp.cmpi .slt (BitVec.ofNat 32 b.val) _ = _
    refine congrArg (IntOp.cmpi .slt (BitVec.ofNat 32 b.val)) ?_
    refine (broadcastInDim_apply _ bcast_S_S336 _ (ix1 b) (fun a => a.elim0) (fun a => a.elim0)).trans ?_
    exact shapeCast_apply _ shapeCasts_S1_S_ (fun a => a.elim0) (ix1 0) rfl
  refine (congrArg (fun u => Scalar.select u _ _) hu).trans ?_
  unfold moeAt
  have hT := hW.tok r
  have hB := hW.blk b
  have hT31 := hT.trans (by decide : 8704 < 2 ^ 31)
  have hB31 := hB.trans (by decide : 128 < 2 ^ 31)
  by_cases h : b.val < (((m ((c.tc : Thread nD τ).loc main_arg2)) : IVec S1 32) (ix1 0)).toNat
  · refine Eq.trans ?_ (if_pos h).symm
    rw [decide_eq_true h]
    refine (if_pos rfl).trans ?_
    have e0 := fun q => taken_row gather_S8704x2048_S86016x1_S86016x2048_1_0_n_n_0_1_12048_wf shapeCasts_S86016x2048_S336x256x2048
      (m ((c.tc : Thread nD τ).loc main_arg0)) _ _ b a r ha
      (wrapped_apply (by decide) bcast_S86016_S86016x1_0 (m ((c.tc : Thread nD τ).loc main_arg3)) (broadcastInDim S86016 ![] bcast_S_S86016 (constantI S_ 32 0#32))
        (broadcastInDim S86016 ![] bcast_S_S86016 (constantI S_ 32 8704#32)) 8704#32 (fun _ => rfl) (fun _ => rfl) r hT31) hT q
    have eb := wrapped_apply (by decide) bcast_S336_S336x1_0 (m ((c.tc : Thread nD τ).loc main_arg1)) (broadcastInDim S336 ![] bcast_S_S336 (constantI S_ 32 0#32))
        (broadcastInDim S336 ![] bcast_S_S336 (constantI S_ 32 128#32)) 128#32 (fun _ => rfl) (fun _ => rfl) b hB31
    have e4 := taken_member gather_S128x2048x512_S336x1_S336x2048x512_12_0_n_n_0_1_12048512_wf (m ((c.tc : Thread nD τ).loc main_arg4)) _ _ b eb hB
    have e5 := taken_member gather_S128x2048x512_S336x1_S336x2048x512_12_0_n_n_0_1_12048512_wf (m ((c.tc : Thread nD τ).loc main_arg5)) _ _ b eb hB
    have e6 := taken_member gather_S128x512x2048_S336x1_S336x512x2048_12_0_n_n_0_1_15122048_wf (m ((c.tc : Thread nD τ).loc main_arg6)) _ _ b eb hB
    exact congr (congr (congr (congr (congrArg ffnRow (funext e0)) e4) e5) e6) rfl
  · refine Eq.trans ?_ (if_neg h).symm
    rw [decide_eq_false h]
    refine (if_neg (by decide)).trans ?_
    exact Ideal.ofBits_zero_f32

end Cert.ReferenceIdeal.MoeValue

end
-- ==== Proof.MoeClaims.lean ====
/-
  The claims of the routed experts, from the two programs' runs: the tables in range give the frames, and at the ideal
  values kernel and reference both end with the routed network of `MoeRow`.
-/
module

public import proofs.«01_k».proof.Defs
public import proofs.«01_k».proof.Proof.Tables
public import proofs.«01_k».proof.Proof.Ideal.Value
public import proofs.«01_k».proof.Proof.RefValue
public import proofs.«01_k».proof.Proof.Gen.Pre_tables_in_range

@[expose] public section

set_option maxRecDepth 16384

noncomputable section

open Idealize.ShloMosaic Idealize.ShloMosaic.TcCoe Idealize.ShloMosaic.ValueIdx Idealize.SL.Sem

namespace Cert.Proof.MoeClaims

open Cert.Moe

theorem frame_kernel : Cert.quiescent_Kernel := fun m ρ h =>
  have hW := words _ _ _ _ _ _ _ (h 0)
  Cert.Kernel.MoeRun.frame m ρ (Cert.Kernel.MoeRun.ok m hW) (Cert.Kernel.MoeRun.inRange m hW)

theorem frame_ideal : Cert.quiescent_KernelIdeal := fun m ρ h =>
  have hW := words _ _ _ _ _ _ _ (h 0)
  Cert.KernelIdeal.MoeRun.frame m ρ (Cert.KernelIdeal.MoeRun.ok m hW) (Cert.KernelIdeal.MoeRun.inRange m hW)

/-- The reference terminates with its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_tables_in_range := fun m ρ _ => frame_reference m ρ trivial

/-- Kernel and reference end with the same array at the ideal values: the routed network of the arguments. -/
theorem algebraic : Cert.algebraic_KernelIdeal_ReferenceIdeal := by
  intro m ρ m' ρ' h hagree
  have hW := words _ _ _ _ _ _ _ (h 0)
  refine ⟨fun c => Cert.KernelIdeal.MoeRun.result m c,
    Cert.KernelIdeal.MoeRun.run m ρ (Cert.KernelIdeal.MoeRun.ok m hW) (Cert.KernelIdeal.MoeRun.inRange m hW), ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim (α := Fin 1) c 0
  obtain ⟨a0, a1, a2, a3, a4, a5, a6⟩ := hagree 0
  refine (Cert.ReferenceIdeal.MoeValue.value m' 0 ?_).trans (Eq.trans ?_ (Cert.KernelIdeal.MoeRun.value m 0 hW).symm)
  · rw [a1, a2, a3]; exact hW
  · rw [a0, a1, a2, a3, a4, a5, a6]

end Cert.Proof.MoeClaims

end
-- ==== Proof.FfnValue.lean ====
/-
  The shared expert's kernel against its reference: the result array's entry (r, c) is row `r` of the input through the
  network of `FfnRow`, on both sides. Grid point `t` computes rows `256 t … 256 t + 255` from the same rows of the input
  and the whole weight matrices; the 34 blocks tile the result.
-/
module

public import proofs.«01_k».proof.Defs
public import proofs.«01_k».proof.Proof.FfnRow
public import proofs.«01_k».proof.Proof.Gen.FfnIdeal.Value
public import proofs.«01_k».proof.Proof.Gen.FfnReferenceIdeal.Run

@[expose] public section

noncomputable section

open Idealize.ShloMosaic Idealize.ShloMosaic.TcCoe Idealize.ShloMosaic.ValueIdx Idealize.SL.Sem
open Idealize.ShloMosaic.Pipeline (Dat)

namespace Cert.FfnIdeal.RowValue

open Cert.FfnIdeal Cert.FfnIdeal.Gen Cert.FfnRow

variable (m : (ℓ : Loc nD τ sig) → Buf (Elt Ideal) ℓ) (ρ : Dev nD → PrngReg)

/-- The network applied to every row of device `c`'s input. -/
def G (c : Dev nD) : Buf (Elt Ideal) ((c : Thread nD τ).loc main_v3) := fun i : S8704x2048.Idx =>
  ffnRow (K := 2048) (J := 512) (N := 2048) (fun k => m ((c : Thread nD τ).loc main_arg0) (ix2 (i 0) k))
    (m ((c : Thread nD τ).loc main_arg1)) (m ((c : Thread nD τ).loc main_arg2)) (m ((c : Thread nD τ).loc main_arg3)) (i 1)

/-- The stored block at (r, c): row `r` of the input block through the network. -/
theorem pay_apply (x : Vec Ideal S256x2048 .bf16) (wg wu : Vec Ideal S2048x512 .bf16) (wd : Vec Ideal S512x2048 .bf16)
    (r : Fin 256) (c : Fin 2048) :
    k0_pay1 x wg wu wd (ix2 r c) = ffnRow (K := 2048) (J := 512) (N := 2048) (fun k => x (ix2 r k)) wg wu wd c := by
  unfold k0_pay1
  rw [shapeCast_self, shapeCast_self, shapeCast_self]
  exact kernel_apply (M := 256) (K := 2048) (J := 512) (N := 2048) x wg wu wd _ _ rfl rfl bitsLt_bf16_f32 r c

theorem hz : (![0, 0] : Fin 2 → Nat) = fun _ => 0 := funext fun a => by fin_cases a <;> rfl

/-- The weights the region finds are the arguments, rounded: at the ideal values, the arguments. -/
theorem V_v0 (c : Dev nD) : (V m c main_v0 : S2048x512.Idx → EReal) = m ((c : Thread nD τ).loc main_arg1) := by
  show StableHlo.after hostOps0 (fun b => m (c, b)) (Proc.devRef .tc main_v0) = _
  unfold hostOps0; after_results; rfl
theorem V_v1 (c : Dev nD) : (V m c main_v1 : S2048x512.Idx → EReal) = m ((c : Thread nD τ).loc main_arg2) := by
  show StableHlo.after hostOps0 (fun b => m (c, b)) (Proc.devRef .tc main_v1) = _
  unfold hostOps0; after_results; rfl
theorem V_v2 (c : Dev nD) : (V m c main_v2 : S512x2048.Idx → EReal) = m ((c : Thread nD τ).loc main_arg3) := by
  show StableHlo.after hostOps0 (fun b => m (c, b)) (Proc.devRef .tc main_v2) = _
  unfold hostOps0; after_results; rfl

/-- A weight window's block is the whole matrix, at every point. -/
theorem iblk1 (c : Dev nD) (t : Fin cfg0.N) : (iblk m c 1 t : S2048x512.Idx → EReal) = m ((c : Thread nD τ).loc main_arg1) := by
  rw [← V_v0 m c]; funext j
  show V m c main_v0 ((win0_1.rect t).emb j) = _
  congr 1; funext a; apply Fin.ext
  rw [Pipeline.Window.rect_emb_val win0_1 t]
  match a with
  | ⟨0, _⟩ => show 0 * 2048 + _ = _; omega
  | ⟨1, _⟩ => show 0 * 512 + _ = _; omega
theorem iblk2 (c : Dev nD) (t : Fin cfg0.N) : (iblk m c 2 t : S2048x512.Idx → EReal) = m ((c : Thread nD τ).loc main_arg2) := by
  rw [← V_v1 m c]; funext j
  show V m c main_v1 ((win0_2.rect t).emb j) = _
  congr 1; funext a; apply Fin.ext
  rw [Pipeline.Window.rect_emb_val win0_2 t]
  match a with
  | ⟨0, _⟩ => show 0 * 2048 + _ = _; omega
  | ⟨1, _⟩ => show 0 * 512 + _ = _; omega
theorem iblk3 (c : Dev nD) (t : Fin cfg0.N) : (iblk m c 3 t : S512x2048.Idx → EReal) = m ((c : Thread nD τ).loc main_arg3) := by
  rw [← V_v2 m c]; funext j
  show V m c main_v2 ((win0_3.rect t).emb j) = _
  congr 1; funext a; apply Fin.ext
  rw [Pipeline.Window.rect_emb_val win0_3 t]
  match a with
  | ⟨0, _⟩ => show 0 * 512 + _ = _; omega
  | ⟨1, _⟩ => show 0 * 2048 + _ = _; omega

/-- Point `t`'s input and output blocks both start at row `256 t`, column 0. -/
theorem idx0 : ∀ t : Fin grid0.N, win0_0.index t 0 = t.val ∧ win0_0.index t 1 = 0 ∧ win0_4.index t 0 = t.val ∧ win0_4.index t 1 = 0 := by
  decide +kernel

/-- Row `r` of point `t`'s input block is row `256 t + r` of the input. -/
theorem iblk0 (c : Dev nD) (t : Fin cfg0.N) (r : Fin 256) (k : Fin 2048) (R : Fin 8704) (hR : (R : Nat) = t.val * 256 + r) :
    (iblk m c 0 t : S256x2048.Idx → EReal) (ix2 r k) = m ((c : Thread nD τ).loc main_arg0) (ix2 R k) := by
  rw [← V_main_arg0 m c]
  show V m c main_arg0 ((win0_0.rect t).emb (ix2 r k)) = _
  congr 1; funext a; apply Fin.ext
  rw [Pipeline.Window.rect_emb_val win0_0 t]
  match a with
  | ⟨0, _⟩ => show win0_0.index t 0 * 256 + (r : Nat) = R; rw [(idx0 t).1, hR]
  | ⟨1, _⟩ => show win0_0.index t 1 * 2048 + (k : Nat) = k; rw [(idx0 t).2.1]; omega

/-- What point `t` writes back is block `t` of `G`. -/
theorem flushed_eq (c : Dev nD) (t : Fin cfg0.N) :
    (dats m 0 c).flushed 4 t = ((cfg0.win 4).blk t).view.read (Elt Ideal) (G m c) := by
  rw [Value.flushed4]
  unfold out0_4
  rw [View.canon_unit_zero hz, View.ld_unit_zero hz, View.ld_unit_zero hz, View.ld_unit_zero hz, View.ld_unit_zero hz]
  funext j
  obtain ⟨r, k, rfl⟩ : ∃ (r : Fin 256) (k : Fin 2048), j = ix2 r k := ⟨j 0, j 1, eq_ix2 j⟩
  have e0 : (((win0_4.rect t).emb (ix2 r k)) 0 : Nat) = t.val * 256 + r := by
    rw [Pipeline.Window.rect_emb_val win0_4 t]
    show win0_4.index t 0 * 256 + (r : Nat) = _; rw [(idx0 t).2.2.1]
  have e1 : ((win0_4.rect t).emb (ix2 r k)) 1 = k := by
    apply Fin.ext; rw [Pipeline.Window.rect_emb_val win0_4 t]
    show win0_4.index t 1 * 2048 + (k : Nat) = k; rw [(idx0 t).2.2.2]; omega
  show k0_pay1 (iblk m c 0 t) (iblk m c 1 t) (iblk m c 2 t) (iblk m c 3 t) (ix2 r k) = G m c ((win0_4.rect t).emb (ix2 r k))
  rw [pay_apply]
  unfold G
  rw [e1, iblk1, iblk2, iblk3]
  congr 1
  funext q
  exact iblk0 m c t r q _ e0

/-- Every entry of the result is in the block of its row's point. -/
theorem cover (i : S8704x2048.Idx) :
    ∃ t : Fin cfg0.N, (cfg0.win 4).flush t = true ∧ i ∈ ((cfg0.win 4).blk t).view.set := by
  have h0 : (i 0 : Nat) < 8704 := (i 0).isLt
  have h1 : (i 1 : Nat) < 2048 := (i 1).isLt
  have hN : cfg0.N = 34 := N_0
  refine ⟨⟨(i 0 : Nat) / 256, by omega⟩, flush0_4 _, ?_⟩
  set t : Fin grid0.N := ⟨(i 0 : Nat) / 256, _⟩
  show i ∈ ((View.whole main_v3).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256
              rw [(idx0 t).2.2.1]; show (i 0 : Nat) / 256 * 256 ≤ _ ∧ _ < (i 0 : Nat) / 256 * 256 + 256; omega
  | ⟨1, _⟩ => show win0_4.index t 1 * 2048 ≤ (i 1 : Nat) ∧ (i 1 : Nat) < win0_4.index t 1 * 2048 + 2048
              rw [(idx0 t).2.2.2]; omega

/-- The kernel's run: the result array is the network applied to every row of the input. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨(h c).1.trans ((dats m 0 c).arrAt_eq_of_cover 4 (G m c) (fun t _ => flushed_eq m c t) cover), (h c).2⟩)
    (Value.run_blocks m ρ)

end Cert.FfnIdeal.RowValue

namespace Cert.Proof.FfnClaims

open Cert.FfnRow

/-- The reference terminates with its arguments unchanged; it declares no semaphore. -/
theorem frame_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- Kernel and reference end with the same array at the ideal values: every row of the input through the network. -/
theorem algebraic : Cert.algebraic_FfnIdeal_FfnReferenceIdeal := by
  intro m ρ m' ρ' _ hagree
  refine ⟨fun c => Cert.FfnIdeal.RowValue.G m c, Cert.FfnIdeal.RowValue.run m ρ, ?_⟩
  refine (θ_run Cert.FfnReferenceIdeal.defs _ _).mono (fun _ h c => ⟨(h c).1.trans ?_, (h c).2⟩)
    (Cert.FfnReferenceIdeal.Value.run (F := Ideal) m' ρ')
  obtain ⟨a0, a1, a2, a3⟩ := hagree c
  rw [a0, a1, a2, a3]
  funext i
  obtain ⟨r, k, rfl⟩ : ∃ (r : Fin 8704) (k : Fin 2048), i = ix2 r k := ⟨i 0, i 1, eq_ix2 i⟩
  exact host_apply (M := 8704) (K := 2048) (J := 512) (N := 2048) _ _ _ _ _ _ _ _ rfl rfl
    (fun _ => Ideal.ofBits_one_f32) (fun _ => Ideal.ofBits_one_f32) r k

end Cert.Proof.FfnClaims

end
-- ==== Proof.Proj.lean ====
/-
  A projection of every row: what a block of a tiled product is of the whole product, and the product of two joined
  halves. The four projection kernels differ in their widths only; what is said here is said for all of them.
-/
module

public import proofs.«01_k».proof.Proof.FfnRow

@[expose] public section

noncomputable section

namespace Cert.Proj

open Idealize.ShloMosaic Idealize.ShloMosaic.ValueIdx Cert.FfnRow
open scoped BigOperators

variable {M K N m n : ℕ}

/-- Every row of `x` times `w`. -/
def proj (x : FVec Ideal ⟨2, ![M, K]⟩ .f32) (w : FVec Ideal ⟨2, ![K, N]⟩ .f32) : FVec Ideal ⟨2, ![M, N]⟩ .f32 :=
  fun i => rowDot (fun k => x (ix2 (i 0) k)) w (i 1)

theorem host_proj (prec : Option ContractPrecision) (x : FVec Ideal ⟨2, ![M, K]⟩ .f32) (w : FVec Ideal ⟨2, ![K, N]⟩ .f32) :
    Host.dotGeneral (DotDims.plain M K N) prec x w = proj x w := by
  funext i
  obtain ⟨r, c, rfl⟩ : ∃ (r : Fin M) (c : Fin N), i = ix2 r c := ⟨i 0, i 1, eq_ix2 i⟩
  exact host_dot_apply prec x w r c

/-- The zero offsets of a whole block. -/
theorem zero_offsets : (![0, 0] : Fin 2 → Nat) = fun _ => 0 := funext fun a => by fin_cases a <;> rfl

/-- A kernel's product of two blocks onto zero, at (r, c). -/
theorem block_apply (x : FVec Ideal ⟨2, ![m, K]⟩ .bf16) (w : FVec Ideal ⟨2, ![K, n]⟩ .bf16)
    (h : (⟨2, ![K, n]⟩ : Shape).ShapeCasts ⟨2, ![K, n]⟩) (r : Fin m) (c : Fin n) :
    matmul (DotDims.plain m K n) none x (shapeCast ⟨2, ![K, n]⟩ w h) (constant ⟨2, ![m, n]⟩ .f32 0x00000000#32) (ix2 r c)
      = rowDot (fun k => x (ix2 r k)) w c := by
  rw [shapeCast_self]
  exact matmul_zero_apply none x w r c

/-- Where the first operand's columns are those of `a` and then those of `b`, and the second's rows those of `wa` and then
those of `wb`, the product is the sum of the two products. -/
theorem proj_join {K' : ℕ} (x : FVec Ideal ⟨2, ![M, K + K']⟩ .f32) (w : FVec Ideal ⟨2, ![K + K', N]⟩ .f32)
    (a : FVec Ideal ⟨2, ![M, K]⟩ .f32) (b : FVec Ideal ⟨2, ![M, K']⟩ .f32)
    (wa : FVec Ideal ⟨2, ![K, N]⟩ .f32) (wb : FVec Ideal ⟨2, ![K', N]⟩ .f32)
    (ha : ∀ r k, x (ix2 r (Fin.castAdd K' k)) = a (ix2 r k)) (hb : ∀ r k, x (ix2 r (Fin.natAdd K k)) = b (ix2 r k))
    (hwa : ∀ k c, w (ix2 (Fin.castAdd K' k) c) = wa (ix2 k c)) (hwb : ∀ k c, w (ix2 (Fin.natAdd K k) c) = wb (ix2 k c)) :
    proj x w = fun i => proj a wa i + proj b wb i := by
  funext i
  refine (Fin.sum_univ_add fun k : Fin (K + K') => x (ix2 (i 0) k) * w (ix2 k (i 1))).trans ?_
  refine congrArg₂ (fun p q : EReal => p + q) (Finset.sum_congr rfl fun k _ => ?_) (Finset.sum_congr rfl fun k _ => ?_)
  · exact congrArg₂ (fun p q : EReal => p * q) (ha _ _) (hwa _ _)
  · exact congrArg₂ (fun p q : EReal => p * q) (hb _ _) (hwb _ _)

/-- The numbers of the blocks a point reads and writes. -/
structure Tile (x0 x1 w0 w1 o0 o1 : ℕ) : Prop where
  row : x0 = o0
  left : x1 = 0
  top : w0 = 0
  col : w1 = o1

/-- Entry (r, c) of the product of a point's blocks, of rows and of columns, is the entry of the whole product that the
output block has there. -/
theorem tile_apply {x0 x1 w0 w1 o0 o1 : ℕ} (h : Tile x0 x1 w0 w1 o0 o1)
    (x : FVec Ideal ⟨2, ![M, K]⟩ .f32) (w : FVec Ideal ⟨2, ![K, N]⟩ .f32)
    (ex : (⟨2, ![m, K]⟩ : Shape).Idx → (⟨2, ![M, K]⟩ : Shape).Idx) (ew : (⟨2, ![K, n]⟩ : Shape).Idx → (⟨2, ![K, N]⟩ : Shape).Idx)
    (eo : (⟨2, ![m, n]⟩ : Shape).Idx → (⟨2, ![M, N]⟩ : Shape).Idx)
    (hx0 : ∀ j, (ex j 0).val = x0 * m + (j 0).val) (hx1 : ∀ j, (ex j 1).val = x1 * K + (j 1).val)
    (hw0 : ∀ j, (ew j 0).val = w0 * K + (j 0).val) (hw1 : ∀ j, (ew j 1).val = w1 * n + (j 1).val)
    (ho0 : ∀ j, (eo j 0).val = o0 * m + (j 0).val) (ho1 : ∀ j, (eo j 1).val = o1 * n + (j 1).val) (r : Fin m) (c : Fin n) :
    rowDot (fun k => x (ex (ix2 r k))) (fun j => w (ew j)) c = proj x w (eo (ix2 r c)) := by
  obtain ⟨rfl, rfl, rfl, rfl⟩ := h
  refine Finset.sum_congr rfl fun k _ => ?_
  have e1 : ex (ix2 r k) = ix2 (eo (ix2 r c) 0) k := by
    funext a
    match a with
    | ⟨0, _⟩ => exact Fin.ext ((hx0 _).trans (ho0 (ix2 r c)).symm)
    | ⟨1, _⟩ => exact Fin.ext ((hx1 _).trans (by show 0 * K + k.val = k.val; omega))
  have e2 : ew (ix2 k c) = ix2 k (eo (ix2 r c) 1) := by
    funext a
    match a with
    | ⟨0, _⟩ => exact Fin.ext ((hw0 _).trans (by show 0 * K + k.val = k.val; omega))
    | ⟨1, _⟩ => exact Fin.ext ((hw1 _).trans (ho1 (ix2 r c)).symm)
  exact congrArg₂ (fun a b : EReal => a * b) (congrArg x e1) (congrArg w e2)

/-- A kernel's product of a point's blocks is the block of the whole product that the output has there. -/
theorem flushed_tile {x0 x1 w0 w1 o0 o1 : ℕ} (h : Tile x0 x1 w0 w1 o0 o1)
    (x : FVec Ideal ⟨2, ![M, K]⟩ .bf16) (w : FVec Ideal ⟨2, ![K, N]⟩ .bf16)
    (ex : (⟨2, ![m, K]⟩ : Shape).Idx → (⟨2, ![M, K]⟩ : Shape).Idx) (ew : (⟨2, ![K, n]⟩ : Shape).Idx → (⟨2, ![K, N]⟩ : Shape).Idx)
    (eo : (⟨2, ![m, n]⟩ : Shape).Idx → (⟨2, ![M, N]⟩ : Shape).Idx)
    (hx : ∀ j, (ex j 0).val = x0 * m + (j 0).val ∧ (ex j 1).val = x1 * K + (j 1).val)
    (hw : ∀ j, (ew j 0).val = w0 * K + (j 0).val ∧ (ew j 1).val = w1 * n + (j 1).val)
    (ho : ∀ j, (eo j 0).val = o0 * m + (j 0).val ∧ (eo j 1).val = o1 * n + (j 1).val)
    (hs : (⟨2, ![K, n]⟩ : Shape).ShapeCasts ⟨2, ![K, n]⟩) :
    matmul (DotDims.plain m K n) none (fun j => x (ex j) : FVec Ideal ⟨2, ![m, K]⟩ .bf16)
        (shapeCast ⟨2, ![K, n]⟩ (fun j => w (ew j)) hs) (constant ⟨2, ![m, n]⟩ .f32 0x00000000#32)
      = fun j => proj x w (eo j) := by
  funext j
  obtain ⟨r, c, rfl⟩ : ∃ (r : Fin m) (c : Fin n), j = ix2 r c := ⟨j 0, j 1, eq_ix2 j⟩
  exact (block_apply _ _ _ r c).trans (tile_apply h x w ex ew eo (fun j => (hx j).1) (fun j => (hx j).2) (fun j => (hw j).1)
    (fun j => (hw j).2) (fun j => (ho j).1) (fun j => (ho j).2) r c)

/-- An entry is in the block that its coordinates divide to. -/
theorem mem_tile (i : (⟨2, ![M, N]⟩ : Shape).Idx) {o0 o1 : ℕ} (hm : 0 < m) (hn : 0 < n) (h0 : o0 = (i 0).val / m)
    (h1 : o1 = (i 1).val / n) (off size : Fin 2 → ℕ) (inb : ∀ a, off a + size a ≤ (![M, N] : Fin 2 → ℕ) a)
    (ho : off 0 = o0 * m ∧ off 1 = o1 * n) (hs : size 0 = m ∧ size 1 = n) :
    i ∈ (Rect.unit (s := ⟨2, ![M, N]⟩) off size inb).set := by
  rw [Rect.mem_set_unit]
  intro a
  match a with
  | ⟨0, _⟩ =>
    show off 0 ≤ (i 0).val ∧ (i 0).val < off 0 + size 0
    rw [ho.1, hs.1, h0]
    exact ⟨Nat.div_mul_le_self _ _, Nat.lt_div_mul_add hm⟩
  | ⟨1, _⟩ =>
    show off 1 ≤ (i 1).val ∧ (i 1).val < off 1 + size 1
    rw [ho.2, hs.2, h1]
    exact ⟨Nat.div_mul_le_self _ _, Nat.lt_div_mul_add hn⟩

end Cert.Proj

end
-- ==== Proof.ProjThreeValue.lean ====
/-
  The projection to 3072 columns: its 51 blocks are those of the whole product.
-/
module

public import proofs.«01_k».proof.Defs
public import proofs.«01_k».proof.Proof.Proj
public import proofs.«01_k».proof.Proof.Gen.ProjThreeIdeal.Value
public import proofs.«01_k».proof.Proof.Gen.ProjThreeReferenceIdeal.Run

@[expose] public section

noncomputable section

open Idealize.ShloMosaic Idealize.ShloMosaic.TcCoe Idealize.ShloMosaic.ValueIdx Idealize.SL.Sem
open Idealize.ShloMosaic.Pipeline (Dat)

namespace Cert.ProjThreeIdeal.RowValue

open Cert.ProjThreeIdeal Cert.ProjThreeIdeal.Gen Cert.FfnRow Cert.Proj

variable (m : (ℓ : Loc nD τ sig) → Buf (Elt Ideal) ℓ) (ρ : Dev nD → PrngReg)

/-- Device `c`'s product. -/
def G (c : Dev nD) : Buf (Elt Ideal) ((c : Thread nD τ).loc main_v1) :=
  proj (M := 8704) (K := 2048) (N := 3072) (m ((c : Thread nD τ).loc main_arg0)) (m ((c : Thread nD τ).loc main_arg1))

/-- The matrix the kernel is given: the argument, a cast to 16 bits being no change of the values. -/
theorem V_v0 (c : Dev nD) : (V m c main_v0 : S2048x3072.Idx → EReal) = m ((c : Thread nD τ).loc main_arg1) := by
  show StableHlo.after hostOps0 (fun b => m (c, b)) (Proc.devRef .tc main_v0) = _
  unfold hostOps0; after_results; rfl

/-- A point reads the rows and the columns that its output block has. -/
theorem tile : ∀ t : Fin grid0.N, Tile (win0_0.index t 0) (win0_0.index t 1) (win0_1.index t 0) (win0_1.index t 1) (win0_2.index t 0) (win0_2.index t 1) :=
  fun t => (by decide +kernel : ∀ t : Fin grid0.N, win0_0.index t 0 = win0_2.index t 0 ∧ win0_0.index t 1 = 0 ∧ win0_1.index t 0 = 0
    ∧ win0_1.index t 1 = win0_2.index t 1) t |>.elim fun a b => ⟨a, b.1, b.2.1, b.2.2⟩

/-- Every block of the output is some point's. -/
theorem reach : ∀ (p : Fin 17) (q : Fin 3), ∃ t : Fin grid0.N, win0_2.index t 0 = p.val ∧ win0_2.index t 1 = q.val := by
  decide +kernel

/-- What a point writes back is its block of the product. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero zero_offsets, View.ld_unit_zero zero_offsets, View.ld_unit_zero zero_offsets]
  unfold G
  rw [← V_v0 m c, ← V_main_arg0 m c]
  exact flushed_tile (M := 8704) (K := 2048) (N := 3072) (m := 512) (n := 1024) (tile t) (V m c main_arg0) (V m c main_v0) _ _ _
    (fun j => ⟨win0_0.rect_emb_val t j 0, win0_0.rect_emb_val t j 1⟩) (fun j => ⟨win0_1.rect_emb_val t j 0, win0_1.rect_emb_val t j 1⟩)
    (fun j => ⟨win0_2.rect_emb_val t j 0, win0_2.rect_emb_val t j 1⟩) _

/-- Every entry is in the block of some point. -/
theorem cover (i : S8704x3072.Idx) :
    ∃ t : Fin cfg0.N, (cfg0.win 2).flush t = true ∧ i ∈ ((cfg0.win 2).blk t).view.set := by
  have h0 : (i 0 : Nat) < 8704 := (i 0).isLt
  have h1 : (i 1 : Nat) < 3072 := (i 1).isLt
  obtain ⟨t, e0, e1⟩ := reach ⟨(i 0 : Nat) / 512, by omega⟩ ⟨(i 1 : Nat) / 1024, by omega⟩
  refine ⟨t, flush0_2 _, ?_⟩
  show i ∈ ((View.whole main_v1).slice (win0_2.rect t)).set
  rw [View.set_slice_whole]
  exact mem_tile (m := 512) (n := 1024) i (by decide) (by decide) e0 e1 _ _ _ ⟨rfl, rfl⟩ ⟨rfl, rfl⟩

/-- The kernel ends with the product in its output array and its arguments as they were. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(h c).1.trans ((dats m 0 c).arrAt_eq_of_cover 2 (G m c) (fun t _ => flushed_eq m c t) cover), (h c).2⟩)
    (Value.run_blocks m ρ)

end Cert.ProjThreeIdeal.RowValue

namespace Cert.Proof.ProjThreeClaims

open Cert.Proj

/-- The reference terminates with its arguments unchanged; it declares no semaphore. -/
theorem frame_reference : Cert.quiescent_ProjThreeReferenceIdeal := fun m ρ _ =>
  (θ_run Cert.ProjThreeReferenceIdeal.defs _ _).mono (fun r h => ⟨fun c => (h c).2, sem_eq_zero_of_no_sems (by decide) r.2⟩)
    (Cert.ProjThreeReferenceIdeal.Value.run (F := Ideal) m ρ)

/-- Kernel and reference end with the same array at the ideal values: every row of the input times the matrix. -/
theorem algebraic : Cert.algebraic_ProjThreeIdeal_ProjThreeReferenceIdeal := by
  intro m ρ m' ρ' _ hagree
  refine ⟨fun c => Cert.ProjThreeIdeal.RowValue.G m c, Cert.ProjThreeIdeal.RowValue.run m ρ, ?_⟩
  refine (θ_run Cert.ProjThreeReferenceIdeal.defs _ _).mono (fun _ h c => ⟨(h c).1.trans ?_, (h c).2⟩)
    (Cert.ProjThreeReferenceIdeal.Value.run (F := Ideal) m' ρ')
  obtain ⟨a0, a1⟩ := hagree c
  rw [a0, a1]
  exact host_proj (M := 8704) (K := 2048) (N := 3072) none _ _

end Cert.Proof.ProjThreeClaims

end
-- ==== Proof.ProjTwoValue.lean ====
/-
  The projection to 2048 columns: its 34 blocks are those of the whole product.
-/
module

public import proofs.«01_k».proof.Defs
public import proofs.«01_k».proof.Proof.Proj
public import proofs.«01_k».proof.Proof.Gen.ProjTwoIdeal.Value
public import proofs.«01_k».proof.Proof.Gen.ProjTwoReferenceIdeal.Run

@[expose] public section

noncomputable section

open Idealize.ShloMosaic Idealize.ShloMosaic.TcCoe Idealize.ShloMosaic.ValueIdx Idealize.SL.Sem
open Idealize.ShloMosaic.Pipeline (Dat)

namespace Cert.ProjTwoIdeal.RowValue

open Cert.ProjTwoIdeal Cert.ProjTwoIdeal.Gen Cert.FfnRow Cert.Proj

variable (m : (ℓ : Loc nD τ sig) → Buf (Elt Ideal) ℓ) (ρ : Dev nD → PrngReg)

/-- Device `c`'s product. -/
def G (c : Dev nD) : Buf (Elt Ideal) ((c : Thread nD τ).loc main_v1) :=
  proj (M := 8704) (K := 2048) (N := 2048) (m ((c : Thread nD τ).loc main_arg0)) (m ((c : Thread nD τ).loc main_arg1))

/-- The matrix the kernel is given: the argument, a cast to 16 bits being no change of the values. -/
theorem V_v0 (c : Dev nD) : (V m c main_v0 : S2048x2048.Idx → EReal) = m ((c : Thread nD τ).loc main_arg1) := by
  show StableHlo.after hostOps0 (fun b => m (c, b)) (Proc.devRef .tc main_v0) = _
  unfold hostOps0; after_results; rfl

/-- A point reads the rows and the columns that its output block has. -/
theorem tile : ∀ t : Fin grid0.N, Tile (win0_0.index t 0) (win0_0.index t 1) (win0_1.index t 0) (win0_1.index t 1) (win0_2.index t 0) (win0_2.index t 1) :=
  fun t => (by decide +kernel : ∀ t : Fin grid0.N, win0_0.index t 0 = win0_2.index t 0 ∧ win0_0.index t 1 = 0 ∧ win0_1.index t 0 = 0
    ∧ win0_1.index t 1 = win0_2.index t 1) t |>.elim fun a b => ⟨a, b.1, b.2.1, b.2.2⟩

/-- Every block of the output is some point's. -/
theorem reach : ∀ (p : Fin 17) (q : Fin 2), ∃ t : Fin grid0.N, win0_2.index t 0 = p.val ∧ win0_2.index t 1 = q.val := by
  decide +kernel

/-- What a point writes back is its block of the product. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero zero_offsets, View.ld_unit_zero zero_offsets, View.ld_unit_zero zero_offsets]
  unfold G
  rw [← V_v0 m c, ← V_main_arg0 m c]
  exact flushed_tile (M := 8704) (K := 2048) (N := 2048) (m := 512) (n := 1024) (tile t) (V m c main_arg0) (V m c main_v0) _ _ _
    (fun j => ⟨win0_0.rect_emb_val t j 0, win0_0.rect_emb_val t j 1⟩) (fun j => ⟨win0_1.rect_emb_val t j 0, win0_1.rect_emb_val t j 1⟩)
    (fun j => ⟨win0_2.rect_emb_val t j 0, win0_2.rect_emb_val t j 1⟩) _

/-- Every entry is in the block of some point. -/
theorem cover (i : S8704x2048.Idx) :
    ∃ t : Fin cfg0.N, (cfg0.win 2).flush t = true ∧ i ∈ ((cfg0.win 2).blk t).view.set := by
  have h0 : (i 0 : Nat) < 8704 := (i 0).isLt
  have h1 : (i 1 : Nat) < 2048 := (i 1).isLt
  obtain ⟨t, e0, e1⟩ := reach ⟨(i 0 : Nat) / 512, by omega⟩ ⟨(i 1 : Nat) / 1024, by omega⟩
  refine ⟨t, flush0_2 _, ?_⟩
  show i ∈ ((View.whole main_v1).slice (win0_2.rect t)).set
  rw [View.set_slice_whole]
  exact mem_tile (m := 512) (n := 1024) i (by decide) (by decide) e0 e1 _ _ _ ⟨rfl, rfl⟩ ⟨rfl, rfl⟩

/-- The kernel ends with the product in its output array and its arguments as they were. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(h c).1.trans ((dats m 0 c).arrAt_eq_of_cover 2 (G m c) (fun t _ => flushed_eq m c t) cover), (h c).2⟩)
    (Value.run_blocks m ρ)

end Cert.ProjTwoIdeal.RowValue

namespace Cert.Proof.ProjTwoClaims

open Cert.Proj

/-- The reference terminates with its arguments unchanged; it declares no semaphore. -/
theorem frame_reference : Cert.quiescent_ProjTwoReferenceIdeal := fun m ρ _ =>
  (θ_run Cert.ProjTwoReferenceIdeal.defs _ _).mono (fun r h => ⟨fun c => (h c).2, sem_eq_zero_of_no_sems (by decide) r.2⟩)
    (Cert.ProjTwoReferenceIdeal.Value.run (F := Ideal) m ρ)

/-- Kernel and reference end with the same array at the ideal values: every row of the input times the matrix. -/
theorem algebraic : Cert.algebraic_ProjTwoIdeal_ProjTwoReferenceIdeal := by
  intro m ρ m' ρ' _ hagree
  refine ⟨fun c => Cert.ProjTwoIdeal.RowValue.G m c, Cert.ProjTwoIdeal.RowValue.run m ρ, ?_⟩
  refine (θ_run Cert.ProjTwoReferenceIdeal.defs _ _).mono (fun _ h c => ⟨(h c).1.trans ?_, (h c).2⟩)
    (Cert.ProjTwoReferenceIdeal.Value.run (F := Ideal) m' ρ')
  obtain ⟨a0, a1⟩ := hagree c
  rw [a0, a1]
  exact host_proj (M := 8704) (K := 2048) (N := 2048) none _ _

end Cert.Proof.ProjTwoClaims

end
-- ==== Proof.ProjOneValue.lean ====
/-
  The projection to 1024 columns: its 17 blocks are those of the whole product.
-/
module

public import proofs.«01_k».proof.Defs
public import proofs.«01_k».proof.Proof.Proj
public import proofs.«01_k».proof.Proof.Gen.ProjOneIdeal.Value
public import proofs.«01_k».proof.Proof.Gen.ProjOneReferenceIdeal.Run

@[expose] public section

noncomputable section

open Idealize.ShloMosaic Idealize.ShloMosaic.TcCoe Idealize.ShloMosaic.ValueIdx Idealize.SL.Sem
open Idealize.ShloMosaic.Pipeline (Dat)

namespace Cert.ProjOneIdeal.RowValue

open Cert.ProjOneIdeal Cert.ProjOneIdeal.Gen Cert.FfnRow Cert.Proj

variable (m : (ℓ : Loc nD τ sig) → Buf (Elt Ideal) ℓ) (ρ : Dev nD → PrngReg)

/-- Device `c`'s product. -/
def G (c : Dev nD) : Buf (Elt Ideal) ((c : Thread nD τ).loc main_v1) :=
  proj (M := 8704) (K := 2048) (N := 1024) (m ((c : Thread nD τ).loc main_arg0)) (m ((c : Thread nD τ).loc main_arg1))

/-- The matrix the kernel is given: the argument, a cast to 16 bits being no change of the values. -/
theorem V_v0 (c : Dev nD) : (V m c main_v0 : S2048x1024.Idx → EReal) = m ((c : Thread nD τ).loc main_arg1) := by
  show StableHlo.after hostOps0 (fun b => m (c, b)) (Proc.devRef .tc main_v0) = _
  unfold hostOps0; after_results; rfl

/-- A point reads the rows and the columns that its output block has. -/
theorem tile : ∀ t : Fin grid0.N, Tile (win0_0.index t 0) (win0_0.index t 1) (win0_1.index t 0) (win0_1.index t 1) (win0_2.index t 0) (win0_2.index t 1) :=
  fun t => (by decide +kernel : ∀ t : Fin grid0.N, win0_0.index t 0 = win0_2.index t 0 ∧ win0_0.index t 1 = 0 ∧ win0_1.index t 0 = 0
    ∧ win0_1.index t 1 = win0_2.index t 1) t |>.elim fun a b => ⟨a, b.1, b.2.1, b.2.2⟩

/-- Every block of the output is some point's. -/
theorem reach : ∀ (p : Fin 17) (q : Fin 1), ∃ t : Fin grid0.N, win0_2.index t 0 = p.val ∧ win0_2.index t 1 = q.val := by
  decide +kernel

/-- What a point writes back is its block of the product. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero zero_offsets, View.ld_unit_zero zero_offsets, View.ld_unit_zero zero_offsets]
  unfold G
  rw [← V_v0 m c, ← V_main_arg0 m c]
  exact flushed_tile (M := 8704) (K := 2048) (N := 1024) (m := 512) (n := 1024) (tile t) (V m c main_arg0) (V m c main_v0) _ _ _
    (fun j => ⟨win0_0.rect_emb_val t j 0, win0_0.rect_emb_val t j 1⟩) (fun j => ⟨win0_1.rect_emb_val t j 0, win0_1.rect_emb_val t j 1⟩)
    (fun j => ⟨win0_2.rect_emb_val t j 0, win0_2.rect_emb_val t j 1⟩) _

/-- Every entry is in the block of some point. -/
theorem cover (i : S8704x1024.Idx) :
    ∃ t : Fin cfg0.N, (cfg0.win 2).flush t = true ∧ i ∈ ((cfg0.win 2).blk t).view.set := by
  have h0 : (i 0 : Nat) < 8704 := (i 0).isLt
  have h1 : (i 1 : Nat) < 1024 := (i 1).isLt
  obtain ⟨t, e0, e1⟩ := reach ⟨(i 0 : Nat) / 512, by omega⟩ ⟨(i 1 : Nat) / 1024, by omega⟩
  refine ⟨t, flush0_2 _, ?_⟩
  show i ∈ ((View.whole main_v1).slice (win0_2.rect t)).set
  rw [View.set_slice_whole]
  exact mem_tile (m := 512) (n := 1024) i (by decide) (by decide) e0 e1 _ _ _ ⟨rfl, rfl⟩ ⟨rfl, rfl⟩

/-- The kernel ends with the product in its output array and its arguments as they were. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(h c).1.trans ((dats m 0 c).arrAt_eq_of_cover 2 (G m c) (fun t _ => flushed_eq m c t) cover), (h c).2⟩)
    (Value.run_blocks m ρ)

end Cert.ProjOneIdeal.RowValue

namespace Cert.Proof.ProjOneClaims

open Cert.Proj

/-- The reference terminates with its arguments unchanged; it declares no semaphore. -/
theorem frame_reference : Cert.quiescent_ProjOneReferenceIdeal := fun m ρ _ =>
  (θ_run Cert.ProjOneReferenceIdeal.defs _ _).mono (fun r h => ⟨fun c => (h c).2, sem_eq_zero_of_no_sems (by decide) r.2⟩)
    (Cert.ProjOneReferenceIdeal.Value.run (F := Ideal) m ρ)

/-- Kernel and reference end with the same array at the ideal values: every row of the input times the matrix. -/
theorem algebraic : Cert.algebraic_ProjOneIdeal_ProjOneReferenceIdeal := by
  intro m ρ m' ρ' _ hagree
  refine ⟨fun c => Cert.ProjOneIdeal.RowValue.G m c, Cert.ProjOneIdeal.RowValue.run m ρ, ?_⟩
  refine (θ_run Cert.ProjOneReferenceIdeal.defs _ _).mono (fun _ h c => ⟨(h c).1.trans ?_, (h c).2⟩)
    (Cert.ProjOneReferenceIdeal.Value.run (F := Ideal) m' ρ')
  obtain ⟨a0, a1⟩ := hagree c
  rw [a0, a1]
  exact host_proj (M := 8704) (K := 2048) (N := 1024) none _ _

end Cert.Proof.ProjOneClaims

end
-- ==== Proof.ProjPairValue.lean ====
/-
  The projection of two inputs side by side: each of its 34 blocks is the sum of two products' blocks, and the sum is the
  product of the joined inputs.
-/
module

public import proofs.«01_k».proof.Defs
public import proofs.«01_k».proof.Proof.Proj
public import proofs.«01_k».proof.Proof.Gen.ProjPairIdeal.Value
public import proofs.«01_k».proof.Proof.Gen.ProjPairReferenceIdeal.Run

@[expose] public section

noncomputable section

open Idealize.ShloMosaic Idealize.ShloMosaic.TcCoe Idealize.ShloMosaic.ValueIdx Idealize.SL.Sem
open Idealize.ShloMosaic.Pipeline (Dat)

namespace Cert.ProjPairIdeal.RowValue

open Cert.ProjPairIdeal Cert.ProjPairIdeal.Gen Cert.FfnRow Cert.Proj

variable (m : (ℓ : Loc nD τ sig) → Buf (Elt Ideal) ℓ) (ρ : Dev nD → PrngReg)

/-- The upper and the lower half of the matrix. -/
def wa (w : S2048x2048.Idx → EReal) : FVec Ideal S1024x2048 .f32 := extractStridedSlice S1024x2048 ![0, 0] w slices_S2048x2048_S1024x2048_0_0
def wb (w : S2048x2048.Idx → EReal) : FVec Ideal S1024x2048 .f32 := extractStridedSlice S1024x2048 ![1024, 0] w slices_S2048x2048_S1024x2048_1024_0

/-- The two inputs' products with the two halves of the matrix, added. -/
def sum2 (a b : S8704x1024.Idx → EReal) (w : S2048x2048.Idx → EReal) : S8704x2048.Idx → EReal := fun i =>
  proj (M := 8704) (K := 1024) (N := 2048) a (wa w) i + proj (M := 8704) (K := 1024) (N := 2048) b (wb w) i

/-- Device `c`'s output. -/
def G (c : Dev nD) : Buf (Elt Ideal) ((c : Thread nD τ).loc main_v4) :=
  sum2 (m ((c : Thread nD τ).loc main_arg0)) (m ((c : Thread nD τ).loc main_arg1)) (m ((c : Thread nD τ).loc main_arg2))

/-- The matrices the kernel is given: the halves, a cast to 16 bits being no change of the values. -/
theorem V_v1 (c : Dev nD) : (V m c main_v1 : S1024x2048.Idx → EReal) = wa (m ((c : Thread nD τ).loc main_arg2)) := by
  show StableHlo.after hostOps0 (fun b => m (c, b)) (Proc.devRef .tc main_v1) = _
  unfold hostOps0; after_results; rfl

theorem V_v3 (c : Dev nD) : (V m c main_v3 : S1024x2048.Idx → EReal) = wb (m ((c : Thread nD τ).loc main_arg2)) := by
  show StableHlo.after hostOps0 (fun b => m (c, b)) (Proc.devRef .tc main_v3) = _
  unfold hostOps0; after_results; rfl

/-- A point reads of both inputs the rows and of both halves the columns that its output block has. -/
theorem tile_a : ∀ t : Fin grid0.N, Tile (win0_0.index t 0) (win0_0.index t 1) (win0_2.index t 0) (win0_2.index t 1) (win0_4.index t 0) (win0_4.index t 1) :=
  fun t => (by decide +kernel : ∀ t : Fin grid0.N, win0_0.index t 0 = win0_4.index t 0 ∧ win0_0.index t 1 = 0 ∧ win0_2.index t 0 = 0
    ∧ win0_2.index t 1 = win0_4.index t 1) t |>.elim fun a b => ⟨a, b.1, b.2.1, b.2.2⟩

theorem tile_b : ∀ t : Fin grid0.N, Tile (win0_1.index t 0) (win0_1.index t 1) (win0_3.index t 0) (win0_3.index t 1) (win0_4.index t 0) (win0_4.index t 1) :=
  fun t => (by decide +kernel : ∀ t : Fin grid0.N, win0_1.index t 0 = win0_4.index t 0 ∧ win0_1.index t 1 = 0 ∧ win0_3.index t 0 = 0
    ∧ win0_3.index t 1 = win0_4.index t 1) t |>.elim fun a b => ⟨a, b.1, b.2.1, b.2.2⟩

/-- Every block of the output is some point's. -/
theorem reach : ∀ (p : Fin 17) (q : Fin 2), ∃ t : Fin grid0.N, win0_4.index t 0 = p.val ∧ win0_4.index t 1 = q.val := by
  decide +kernel

/-- What a point writes back is its block of the sum. -/
theorem flushed_eq (c : Dev nD) (t : Fin cfg0.N) :
    (dats m 0 c).flushed 4 t = ((cfg0.win 4).blk t).view.read (Elt Ideal) (G m c) := by
  rw [Value.flushed4]
  unfold out0_4
  rw [View.canon_unit_zero zero_offsets, View.ld_unit_zero zero_offsets, View.ld_unit_zero zero_offsets,
    View.ld_unit_zero zero_offsets, View.ld_unit_zero zero_offsets]
  unfold G sum2
  rw [← V_v1 m c, ← V_v3 m c, ← V_main_arg0 m c, ← V_main_arg1 m c]
  have ha := flushed_tile (M := 8704) (K := 1024) (N := 2048) (m := 512) (n := 1024) (tile_a t) (V m c main_arg0) (V m c main_v1)
    (win0_0.rect t).emb (win0_2.rect t).emb (win0_4.rect t).emb
    (fun j => ⟨win0_0.rect_emb_val t j 0, win0_0.rect_emb_val t j 1⟩) (fun j => ⟨win0_2.rect_emb_val t j 0, win0_2.rect_emb_val t j 1⟩)
    (fun j => ⟨win0_4.rect_emb_val t j 0, win0_4.rect_emb_val t j 1⟩) shapeCasts_S1024x1024_S1024x1024
  have hb := flushed_tile (M := 8704) (K := 1024) (N := 2048) (m := 512) (n := 1024) (tile_b t) (V m c main_arg1) (V m c main_v3)
    (win0_1.rect t).emb (win0_3.rect t).emb (win0_4.rect t).emb
    (fun j => ⟨win0_1.rect_emb_val t j 0, win0_1.rect_emb_val t j 1⟩) (fun j => ⟨win0_3.rect_emb_val t j 0, win0_3.rect_emb_val t j 1⟩)
    (fun j => ⟨win0_4.rect_emb_val t j 0, win0_4.rect_emb_val t j 1⟩) shapeCasts_S1024x1024_S1024x1024
  exact funext fun j => congrArg₂ (fun p q : EReal => p + q) (congrFun ha j) (congrFun hb j)

/-- Every entry is in the block of some point. -/
theorem cover (i : S8704x2048.Idx) :
    ∃ t : Fin cfg0.N, (cfg0.win 4).flush t = true ∧ i ∈ ((cfg0.win 4).blk t).view.set := by
  have h0 : (i 0 : Nat) < 8704 := (i 0).isLt
  have h1 : (i 1 : Nat) < 2048 := (i 1).isLt
  obtain ⟨t, e0, e1⟩ := reach ⟨(i 0 : Nat) / 512, by omega⟩ ⟨(i 1 : Nat) / 1024, by omega⟩
  refine ⟨t, flush0_4 _, ?_⟩
  show i ∈ ((View.whole main_v4).slice (win0_4.rect t)).set
  rw [View.set_slice_whole]
  exact mem_tile (m := 512) (n := 1024) i (by decide) (by decide) e0 e1 _ _ _ ⟨rfl, rfl⟩ ⟨rfl, rfl⟩

/-- The kernel ends with the product in its output array and its arguments as they were. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨(h c).1.trans ((dats m 0 c).arrAt_eq_of_cover 4 (G m c) (fun t _ => flushed_eq m c t) cover), (h c).2⟩)
    (Value.run_blocks m ρ)

end Cert.ProjPairIdeal.RowValue

namespace Cert.Proof.ProjPairClaims

open Cert.Proj Cert.ProjPairReferenceIdeal Cert.ProjPairReferenceIdeal.Gen

/-- The reference terminates with its arguments unchanged; it declares no semaphore. -/
theorem frame_reference : Cert.quiescent_ProjPairReferenceIdeal := fun m ρ _ =>
  (θ_run Cert.ProjPairReferenceIdeal.defs _ _).mono (fun r h => ⟨fun c => (h c).2, sem_eq_zero_of_no_sems (by decide) r.2⟩)
    (Cert.ProjPairReferenceIdeal.Value.run (F := Ideal) m ρ)

/-- The two inputs side by side times the matrix are the sum of their products with its halves. -/
theorem join_apply (a b : S8704x1024.Idx → EReal) (w : S2048x2048.Idx → EReal) :
    proj (M := 8704) (K := 2048) (N := 2048)
      (concatenate S8704x2048 1 [⟨S8704x1024, a⟩, ⟨S8704x1024, b⟩] concatenates_S8704x1024_S8704x1024_S8704x2048_d1) w
      = Cert.ProjPairIdeal.RowValue.sum2 a b w := by
  refine proj_join (M := 8704) (K := 1024) (K' := 1024) (N := 2048) _ w a b (Cert.ProjPairIdeal.RowValue.wa w)
    (Cert.ProjPairIdeal.RowValue.wb w) (fun r k => ?_) (fun r k => ?_) (fun k c => ?_) (fun k c => ?_)
  · exact concatenate_pair_apply_left (t := S8704x2048) (s₁ := S8704x1024) (s₂ := S8704x1024) 1 a b
      concatenates_S8704x1024_S8704x1024_S8704x2048_d1 (ix2 r (Fin.castAdd 1024 k)) rfl (ix2 r k)
      fun d => match d with | ⟨0, _⟩ => rfl | ⟨1, _⟩ => rfl
  · exact concatenate_pair_apply_right (t := S8704x2048) (s₁ := S8704x1024) (s₂ := S8704x1024) 1 a b
      concatenates_S8704x1024_S8704x1024_S8704x2048_d1 (ix2 r (Fin.natAdd 1024 k)) rfl rfl (ix2 r k)
      (fun d hd => match d, hd with | ⟨0, _⟩, _ => rfl | ⟨1, _⟩, hd => absurd rfl hd) (Nat.add_comm _ _)
  · exact (extractStridedSlice_apply (s := S2048x2048) (t := Cert.ProjPairIdeal.S1024x2048) ![0, 0] w _ (ix2 k c) (ix2 (Fin.castAdd 1024 k) c)
      fun d => match d with | ⟨0, _⟩ => (Nat.zero_add _).symm | ⟨1, _⟩ => (Nat.zero_add _).symm).symm
  · exact (extractStridedSlice_apply (s := S2048x2048) (t := Cert.ProjPairIdeal.S1024x2048) ![1024, 0] w _ (ix2 k c) (ix2 (Fin.natAdd 1024 k) c)
      fun d => match d with | ⟨0, _⟩ => rfl | ⟨1, _⟩ => (Nat.zero_add _).symm).symm

/-- Kernel and reference end with the same array at the ideal values: every row of the two inputs side by side times the matrix. -/
theorem algebraic : Cert.algebraic_ProjPairIdeal_ProjPairReferenceIdeal := by
  intro m ρ m' ρ' _ hagree
  refine ⟨fun c => Cert.ProjPairIdeal.RowValue.G m c, Cert.ProjPairIdeal.RowValue.run m ρ, ?_⟩
  refine (θ_run Cert.ProjPairReferenceIdeal.defs _ _).mono (fun _ h c => ⟨(h c).1.trans ?_, (h c).2⟩)
    (Cert.ProjPairReferenceIdeal.Value.run (F := Ideal) m' ρ')
  obtain ⟨a0, a1, a2⟩ := hagree c
  rw [a0, a1, a2]
  exact (host_proj (M := 8704) (K := 2048) (N := 2048) none _ _).trans (join_apply _ _ _)

end Cert.Proof.ProjPairClaims

end
-- ==== Proof.lean ====
/-
  The proof of `Cert.Claim`: of the routed experts (`Kernel`), the shared expert (`Ffn`) and the projections (`ProjThree`,
  `ProjTwo`, `ProjOne`, `ProjPair`), the frames, that the ideal program is the program, and the equality with the reference
  at the ideal values. `MoeClaims`, `FfnClaims` and the projections' claims say how each follows. Every frame also says that
  the semaphore counters end at zero.
-/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_tables_in_range
public import proofs.«01_k».proof.Proof.MoeClaims
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.FfnValue
public import proofs.«01_k».proof.Proof.Gen.ProjThree
public import proofs.«01_k».proof.Proof.Gen.ProjThree.Frame
public import proofs.«01_k».proof.Proof.Gen.ProjThreeIdeal
public import proofs.«01_k».proof.Proof.Gen.ProjThreeIdeal.Frame
public import proofs.«01_k».proof.Proof.Gen.ProjThreeReferenceIdeal
public import proofs.«01_k».proof.Proof.ProjThreeValue
public import proofs.«01_k».proof.Proof.Gen.ProjTwo
public import proofs.«01_k».proof.Proof.Gen.ProjTwo.Frame
public import proofs.«01_k».proof.Proof.Gen.ProjTwoIdeal
public import proofs.«01_k».proof.Proof.Gen.ProjTwoIdeal.Frame
public import proofs.«01_k».proof.Proof.Gen.ProjTwoReferenceIdeal
public import proofs.«01_k».proof.Proof.ProjTwoValue
public import proofs.«01_k».proof.Proof.Gen.ProjOne
public import proofs.«01_k».proof.Proof.Gen.ProjOne.Frame
public import proofs.«01_k».proof.Proof.Gen.ProjOneIdeal
public import proofs.«01_k».proof.Proof.Gen.ProjOneIdeal.Frame
public import proofs.«01_k».proof.Proof.Gen.ProjOneReferenceIdeal
public import proofs.«01_k».proof.Proof.ProjOneValue
public import proofs.«01_k».proof.Proof.Gen.ProjPair
public import proofs.«01_k».proof.Proof.Gen.ProjPair.Frame
public import proofs.«01_k».proof.Proof.Gen.ProjPairIdeal
public import proofs.«01_k».proof.Proof.Gen.ProjPairIdeal.Frame
public import proofs.«01_k».proof.Proof.Gen.ProjPairReferenceIdeal
public import proofs.«01_k».proof.Proof.ProjPairValue
public import Idealize.ShloMosaic.Adequacy
public import Idealize.ShloMosaic.Init

@[expose] public section

noncomputable section

namespace Cert.Proof

open Idealize.ShloMosaic Idealize.SL.Sem Cert.Ffn

theorem claim : Cert.Claim := ⟨Cert.Kernel.Gen.facts, Cert.KernelIdeal.Gen.facts, Cert.ReferenceIdeal.Gen.facts, Cert.Ffn.Gen.facts,
  Cert.FfnIdeal.Gen.facts, Cert.FfnReferenceIdeal.Gen.facts,
  Cert.ProjThree.Gen.facts, Cert.ProjThreeIdeal.Gen.facts, Cert.ProjThreeReferenceIdeal.Gen.facts,
  Cert.ProjTwo.Gen.facts, Cert.ProjTwoIdeal.Gen.facts, Cert.ProjTwoReferenceIdeal.Gen.facts,
  Cert.ProjOne.Gen.facts, Cert.ProjOneIdeal.Gen.facts, Cert.ProjOneReferenceIdeal.Gen.facts,
  Cert.ProjPair.Gen.facts, Cert.ProjPairIdeal.Gen.facts, Cert.ProjPairReferenceIdeal.Gen.facts,
  Cert.Pre_tables_in_range.Gen.facts,
  MoeClaims.frame_kernel, MoeClaims.frame_ideal, MoeClaims.frame_reference, MoeClaims.frame_reference_pre,
  fun m ρ _ => Cert.Ffn.Gen.frame m ρ, fun m ρ _ => Cert.FfnIdeal.Gen.frame m ρ, FfnClaims.frame_reference,
  fun m ρ _ => Cert.ProjThree.Gen.frame m ρ, fun m ρ _ => Cert.ProjThreeIdeal.Gen.frame m ρ, ProjThreeClaims.frame_reference,
  fun m ρ _ => Cert.ProjTwo.Gen.frame m ρ, fun m ρ _ => Cert.ProjTwoIdeal.Gen.frame m ρ, ProjTwoClaims.frame_reference,
  fun m ρ _ => Cert.ProjOne.Gen.frame m ρ, fun m ρ _ => Cert.ProjOneIdeal.Gen.frame m ρ, ProjOneClaims.frame_reference,
  fun m ρ _ => Cert.ProjPair.Gen.frame m ρ, fun m ρ _ => Cert.ProjPairIdeal.Gen.frame m ρ, ProjPairClaims.frame_reference,
  trivial, MoeClaims.algebraic, trivial, FfnClaims.algebraic,
  trivial, ProjThreeClaims.algebraic, trivial, ProjTwoClaims.algebraic, trivial, ProjOneClaims.algebraic, trivial, ProjPairClaims.algebraic⟩

end Cert.Proof

end
